-- ==== Defs.lean ====
def Pre_ConvKernel (m : (ℓ : Loc Cert.ConvKernel.nD Cert.ConvKernel.τ Cert.ConvKernel.sig) → Buf (Elt Bits) ℓ) : Prop :=
  True

def Pre_ConvKernelIdeal (m : (ℓ : Loc Cert.ConvKernelIdeal.nD Cert.ConvKernelIdeal.τ Cert.ConvKernelIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def Pre_NormOneKernel (m : (ℓ : Loc Cert.NormOneKernel.nD Cert.NormOneKernel.τ Cert.NormOneKernel.sig) → Buf (Elt Bits) ℓ) : Prop :=
  True

def Pre_NormOneKernelIdeal (m : (ℓ : Loc Cert.NormOneKernelIdeal.nD Cert.NormOneKernelIdeal.τ Cert.NormOneKernelIdeal.sig) → Buf (Elt Ideal) ℓ) : Prop :=
  True

def Pre_NormOneReferenceIdeal (m : (ℓ : Loc Cert.NormOneReferenceIdeal.nD Cert.NormOneReferenceIdeal.τ Cert.NormOneReferenceIdeal.sig) → Buf (Elt Ideal) ℓ) : Prop :=
  True

def Pre_NormTwoKernel (m : (ℓ : Loc Cert.NormTwoKernel.nD Cert.NormTwoKernel.τ Cert.NormTwoKernel.sig) → Buf (Elt Bits) ℓ) : Prop :=
  True

def Pre_NormTwoKernelIdeal (m : (ℓ : Loc Cert.NormTwoKernelIdeal.nD Cert.NormTwoKernelIdeal.τ Cert.NormTwoKernelIdeal.sig) → Buf (Elt Ideal) ℓ) : Prop :=
  True

def Pre_NormTwoReferenceIdeal (m : (ℓ : Loc Cert.NormTwoReferenceIdeal.nD Cert.NormTwoReferenceIdeal.τ Cert.NormTwoReferenceIdeal.sig) → Buf (Elt Ideal) ℓ) : Prop :=
  True

def Pre_ActKernel (m : (ℓ : Loc Cert.ActKernel.nD Cert.ActKernel.τ Cert.ActKernel.sig) → Buf (Elt Bits) ℓ) : Prop :=
  True

def Pre_ActKernelIdeal (m : (ℓ : Loc Cert.ActKernelIdeal.nD Cert.ActKernelIdeal.τ Cert.ActKernelIdeal.sig) → Buf (Elt Ideal) ℓ) : Prop :=
  True

def Pre_ActReferenceIdeal (m : (ℓ : Loc Cert.ActReferenceIdeal.nD Cert.ActReferenceIdeal.τ Cert.ActReferenceIdeal.sig) → Buf (Elt Ideal) ℓ) : Prop :=
  True

def Pre_WInKernel (m : (ℓ : Loc Cert.WInKernel.nD Cert.WInKernel.τ Cert.WInKernel.sig) → Buf (Elt Bits) ℓ) : Prop :=
  True

def Pre_WInKernelIdeal (m : (ℓ : Loc Cert.WInKernelIdeal.nD Cert.WInKernelIdeal.τ Cert.WInKernelIdeal.sig) → Buf (Elt Ideal) ℓ) : Prop :=
  True

def Pre_WInReferenceIdeal (m : (ℓ : Loc Cert.WInReferenceIdeal.nD Cert.WInReferenceIdeal.τ Cert.WInReferenceIdeal.sig) → Buf (Elt Ideal) ℓ) : Prop :=
  True

def Pre_WUpKernel (m : (ℓ : Loc Cert.WUpKernel.nD Cert.WUpKernel.τ Cert.WUpKernel.sig) → Buf (Elt Bits) ℓ) : Prop :=
  True

def Pre_WUpKernelIdeal (m : (ℓ : Loc Cert.WUpKernelIdeal.nD Cert.WUpKernelIdeal.τ Cert.WUpKernelIdeal.sig) → Buf (Elt Ideal) ℓ) : Prop :=
  True

def Pre_WUpReferenceIdeal (m : (ℓ : Loc Cert.WUpReferenceIdeal.nD Cert.WUpReferenceIdeal.τ Cert.WUpReferenceIdeal.sig) → Buf (Elt Ideal) ℓ) : Prop :=
  True

def Pre_WDownKernel (m : (ℓ : Loc Cert.WDownKernel.nD Cert.WDownKernel.τ Cert.WDownKernel.sig) → Buf (Elt Bits) ℓ) : Prop :=
  True

def Pre_WDownKernelIdeal (m : (ℓ : Loc Cert.WDownKernelIdeal.nD Cert.WDownKernelIdeal.τ Cert.WDownKernelIdeal.sig) → Buf (Elt Ideal) ℓ) : Prop :=
  True

def Pre_WDownReferenceIdeal (m : (ℓ : Loc Cert.WDownReferenceIdeal.nD Cert.WDownReferenceIdeal.τ Cert.WDownReferenceIdeal.sig) → Buf (Elt Ideal) ℓ) : Prop :=
  True

def Pre_WGateKernel (m : (ℓ : Loc Cert.WGateKernel.nD Cert.WGateKernel.τ Cert.WGateKernel.sig) → Buf (Elt Bits) ℓ) : Prop :=
  True

def Pre_WGateKernelIdeal (m : (ℓ : Loc Cert.WGateKernelIdeal.nD Cert.WGateKernelIdeal.τ Cert.WGateKernelIdeal.sig) → Buf (Elt Ideal) ℓ) : Prop :=
  True

def Pre_WGateReferenceIdeal (m : (ℓ : Loc Cert.WGateReferenceIdeal.nD Cert.WGateReferenceIdeal.τ Cert.WGateReferenceIdeal.sig) → Buf (Elt Ideal) ℓ) : Prop :=
  True

def Pre_WOutKernel (m : (ℓ : Loc Cert.WOutKernel.nD Cert.WOutKernel.τ Cert.WOutKernel.sig) → Buf (Elt Bits) ℓ) : Prop :=
  True

def Pre_WOutKernelIdeal (m : (ℓ : Loc Cert.WOutKernelIdeal.nD Cert.WOutKernelIdeal.τ Cert.WOutKernelIdeal.sig) → Buf (Elt Ideal) ℓ) : Prop :=
  True

def Pre_WOutReferenceIdeal (m : (ℓ : Loc Cert.WOutReferenceIdeal.nD Cert.WOutReferenceIdeal.τ Cert.WOutReferenceIdeal.sig) → Buf (Elt Ideal) ℓ) : Prop :=
  True

def Pre_BranchKernel (m : (ℓ : Loc Cert.BranchKernel.nD Cert.BranchKernel.τ Cert.BranchKernel.sig) → Buf (Elt Bits) ℓ) : Prop :=
  True

def Pre_BranchKernelIdeal (m : (ℓ : Loc Cert.BranchKernelIdeal.nD Cert.BranchKernelIdeal.τ Cert.BranchKernelIdeal.sig) → Buf (Elt Ideal) ℓ) : Prop :=
  True

def Pre_BranchReferenceIdeal (m : (ℓ : Loc Cert.BranchReferenceIdeal.nD Cert.BranchReferenceIdeal.τ Cert.BranchReferenceIdeal.sig) → Buf (Elt Ideal) ℓ) : Prop :=
  True

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_UpKernel (m : (ℓ : Loc Cert.UpKernel.nD Cert.UpKernel.τ Cert.UpKernel.sig) → Buf (Elt Bits) ℓ) : Prop :=
  True

def Pre_UpKernelIdeal (m : (ℓ : Loc Cert.UpKernelIdeal.nD Cert.UpKernelIdeal.τ Cert.UpKernelIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_DownKernel (m : (ℓ : Loc Cert.DownKernel.nD Cert.DownKernel.τ Cert.DownKernel.sig) → Buf (Elt Bits) ℓ) : Prop :=
  True

def Pre_DownKernelIdeal (m : (ℓ : Loc Cert.DownKernelIdeal.nD Cert.DownKernelIdeal.τ Cert.DownKernelIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_ConvInKernel (m : (ℓ : Loc Cert.ConvInKernel.nD Cert.ConvInKernel.τ Cert.ConvInKernel.sig) → Buf (Elt Bits) ℓ) : Prop :=
  True

def Pre_ConvInKernelIdeal (m : (ℓ : Loc Cert.ConvInKernelIdeal.nD Cert.ConvInKernelIdeal.τ Cert.ConvInKernelIdeal.sig) → Buf (Elt Ideal) ℓ) : Prop :=
  True

def Pre_ConvInReferenceIdeal (m : (ℓ : Loc Cert.ConvInReferenceIdeal.nD Cert.ConvInReferenceIdeal.τ Cert.ConvInReferenceIdeal.sig) → Buf (Elt Ideal) ℓ) : Prop :=
  True

def Pre_VProjKernel (m : (ℓ : Loc Cert.VProjKernel.nD Cert.VProjKernel.τ Cert.VProjKernel.sig) → Buf (Elt Bits) ℓ) : Prop :=
  True

def Pre_VProjKernelIdeal (m : (ℓ : Loc Cert.VProjKernelIdeal.nD Cert.VProjKernelIdeal.τ Cert.VProjKernelIdeal.sig) → Buf (Elt Ideal) ℓ) : Prop :=
  True

def Pre_VProjReferenceIdeal (m : (ℓ : Loc Cert.VProjReferenceIdeal.nD Cert.VProjReferenceIdeal.τ Cert.VProjReferenceIdeal.sig) → Buf (Elt Ideal) ℓ) : Prop :=
  True

def Pre_GatesKernel (m : (ℓ : Loc Cert.GatesKernel.nD Cert.GatesKernel.τ Cert.GatesKernel.sig) → Buf (Elt Bits) ℓ) : Prop :=
  True

def Pre_GatesKernelIdeal (m : (ℓ : Loc Cert.GatesKernelIdeal.nD Cert.GatesKernelIdeal.τ Cert.GatesKernelIdeal.sig) → Buf (Elt Ideal) ℓ) : Prop :=
  True

def Pre_GatesReferenceIdeal (m : (ℓ : Loc Cert.GatesReferenceIdeal.nD Cert.GatesReferenceIdeal.τ Cert.GatesReferenceIdeal.sig) → Buf (Elt Ideal) ℓ) : Prop :=
  True

def Pre_MixedKernel (m : (ℓ : Loc Cert.MixedKernel.nD Cert.MixedKernel.τ Cert.MixedKernel.sig) → Buf (Elt Bits) ℓ) : Prop :=
  True

def Pre_MixedKernelIdeal (m : (ℓ : Loc Cert.MixedKernelIdeal.nD Cert.MixedKernelIdeal.τ Cert.MixedKernelIdeal.sig) → Buf (Elt Ideal) ℓ) : Prop :=
  True

def Pre_MixedReferenceIdeal (m : (ℓ : Loc Cert.MixedReferenceIdeal.nD Cert.MixedReferenceIdeal.τ Cert.MixedReferenceIdeal.sig) → Buf (Elt Ideal) ℓ) : Prop :=
  True

def Pre_MergedKernel (m : (ℓ : Loc Cert.MergedKernel.nD Cert.MergedKernel.τ Cert.MergedKernel.sig) → Buf (Elt Bits) ℓ) : Prop :=
  True

def Pre_MergedKernelIdeal (m : (ℓ : Loc Cert.MergedKernelIdeal.nD Cert.MergedKernelIdeal.τ Cert.MergedKernelIdeal.sig) → Buf (Elt Ideal) ℓ) : Prop :=
  True

def Pre_MergedReferenceIdeal (m : (ℓ : Loc Cert.MergedReferenceIdeal.nD Cert.MergedReferenceIdeal.τ Cert.MergedReferenceIdeal.sig) → Buf (Elt Ideal) ℓ) : Prop :=
  True

def Pre_ResidualKernel (m : (ℓ : Loc Cert.ResidualKernel.nD Cert.ResidualKernel.τ Cert.ResidualKernel.sig) → Buf (Elt Bits) ℓ) : Prop :=
  True

def Pre_ResidualKernelIdeal (m : (ℓ : Loc Cert.ResidualKernelIdeal.nD Cert.ResidualKernelIdeal.τ Cert.ResidualKernelIdeal.sig) → Buf (Elt Ideal) ℓ) : Prop :=
  True

def Pre_ResidualReferenceIdeal (m : (ℓ : Loc Cert.ResidualReferenceIdeal.nD Cert.ResidualReferenceIdeal.τ Cert.ResidualReferenceIdeal.sig) → Buf (Elt Ideal) ℓ) : Prop :=
  True

def Pre_AdamInKernel (m : (ℓ : Loc Cert.AdamInKernel.nD Cert.AdamInKernel.τ Cert.AdamInKernel.sig) → Buf (Elt Bits) ℓ) : Prop :=
  True

def Pre_AdamInKernelIdeal (m : (ℓ : Loc Cert.AdamInKernelIdeal.nD Cert.AdamInKernelIdeal.τ Cert.AdamInKernelIdeal.sig) → Buf (Elt Ideal) ℓ) : Prop :=
  True

def Pre_AdamInReferenceIdeal (m : (ℓ : Loc Cert.AdamInReferenceIdeal.nD Cert.AdamInReferenceIdeal.τ Cert.AdamInReferenceIdeal.sig) → Buf (Elt Ideal) ℓ) : Prop :=
  True

def Pre_AdamGateKernel (m : (ℓ : Loc Cert.AdamGateKernel.nD Cert.AdamGateKernel.τ Cert.AdamGateKernel.sig) → Buf (Elt Bits) ℓ) : Prop :=
  True

def Pre_AdamGateKernelIdeal (m : (ℓ : Loc Cert.AdamGateKernelIdeal.nD Cert.AdamGateKernelIdeal.τ Cert.AdamGateKernelIdeal.sig) → Buf (Elt Ideal) ℓ) : Prop :=
  True

def Pre_AdamGateReferenceIdeal (m : (ℓ : Loc Cert.AdamGateReferenceIdeal.nD Cert.AdamGateReferenceIdeal.τ Cert.AdamGateReferenceIdeal.sig) → Buf (Elt Ideal) ℓ) : Prop :=
  True

def Pre_AdamMlpKernel (m : (ℓ : Loc Cert.AdamMlpKernel.nD Cert.AdamMlpKernel.τ Cert.AdamMlpKernel.sig) → Buf (Elt Bits) ℓ) : Prop :=
  True

def Pre_AdamMlpKernelIdeal (m : (ℓ : Loc Cert.AdamMlpKernelIdeal.nD Cert.AdamMlpKernelIdeal.τ Cert.AdamMlpKernelIdeal.sig) → Buf (Elt Ideal) ℓ) : Prop :=
  True

def Pre_AdamMlpReferenceIdeal (m : (ℓ : Loc Cert.AdamMlpReferenceIdeal.nD Cert.AdamMlpReferenceIdeal.τ Cert.AdamMlpReferenceIdeal.sig) → Buf (Elt Ideal) ℓ) : Prop :=
  True

def Pre_AdamSquareKernel (m : (ℓ : Loc Cert.AdamSquareKernel.nD Cert.AdamSquareKernel.τ Cert.AdamSquareKernel.sig) → Buf (Elt Bits) ℓ) : Prop :=
  True

def Pre_AdamSquareKernelIdeal (m : (ℓ : Loc Cert.AdamSquareKernelIdeal.nD Cert.AdamSquareKernelIdeal.τ Cert.AdamSquareKernelIdeal.sig) → Buf (Elt Ideal) ℓ) : Prop :=
  True

def Pre_AdamSquareReferenceIdeal (m : (ℓ : Loc Cert.AdamSquareReferenceIdeal.nD Cert.AdamSquareReferenceIdeal.τ Cert.AdamSquareReferenceIdeal.sig) → Buf (Elt Ideal) ℓ) : Prop :=
  True

def Pre_AdamSmallKernel (m : (ℓ : Loc Cert.AdamSmallKernel.nD Cert.AdamSmallKernel.τ Cert.AdamSmallKernel.sig) → Buf (Elt Bits) ℓ) : Prop :=
  True

def Pre_AdamSmallKernelIdeal (m : (ℓ : Loc Cert.AdamSmallKernelIdeal.nD Cert.AdamSmallKernelIdeal.τ Cert.AdamSmallKernelIdeal.sig) → Buf (Elt Ideal) ℓ) : Prop :=
  True

def Pre_AdamSmallReferenceIdeal (m : (ℓ : Loc Cert.AdamSmallReferenceIdeal.nD Cert.AdamSmallReferenceIdeal.τ Cert.AdamSmallReferenceIdeal.sig) → Buf (Elt Ideal) ℓ) : Prop :=
  True

def Pre_FirstNormKernel (m : (ℓ : Loc Cert.FirstNormKernel.nD Cert.FirstNormKernel.τ Cert.FirstNormKernel.sig) → Buf (Elt Bits) ℓ) : Prop :=
  True

def Pre_FirstNormKernelIdeal (m : (ℓ : Loc Cert.FirstNormKernelIdeal.nD Cert.FirstNormKernelIdeal.τ Cert.FirstNormKernelIdeal.sig) → Buf (Elt Ideal) ℓ) : Prop :=
  True

def Pre_FirstNormReferenceIdeal (m : (ℓ : Loc Cert.FirstNormReferenceIdeal.nD Cert.FirstNormReferenceIdeal.τ Cert.FirstNormReferenceIdeal.sig) → Buf (Elt Ideal) ℓ) : Prop :=
  True

def Pre_ShortConvKernel (m : (ℓ : Loc Cert.ShortConvKernel.nD Cert.ShortConvKernel.τ Cert.ShortConvKernel.sig) → Buf (Elt Bits) ℓ) : Prop :=
  True

def Pre_ShortConvKernelIdeal (m : (ℓ : Loc Cert.ShortConvKernelIdeal.nD Cert.ShortConvKernelIdeal.τ Cert.ShortConvKernelIdeal.sig) → Buf (Elt Ideal) ℓ) : Prop :=
  True

def Pre_ShortConvReferenceIdeal (m : (ℓ : Loc Cert.ShortConvReferenceIdeal.nD Cert.ShortConvReferenceIdeal.τ Cert.ShortConvReferenceIdeal.sig) → Buf (Elt Ideal) ℓ) : Prop :=
  True

def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def quiescent_ConvKernel [hConvKernel : Cert.ConvKernel.Facts] : Prop :=
  ∀ (m : (ℓ : Loc Cert.ConvKernel.nD Cert.ConvKernel.τ Cert.ConvKernel.sig) → Buf (Elt Bits) ℓ) (g : Dev Cert.ConvKernel.nD → PrngReg), Pre_ConvKernel m →
    θ_run (Cert.ConvKernel.defs (F := Bits)) (onTc (τ := Cert.ConvKernel.τ) (Cert.ConvKernel.main (F := Bits))) ⟨m, fun _ => 0, g⟩ (fun r => (∀ c : Dev Cert.ConvKernel.nD,
      r.2.mem ((c.tc : Thread Cert.ConvKernel.nD Cert.ConvKernel.τ).loc Cert.ConvKernel.main_arg0) = m ((c.tc : Thread Cert.ConvKernel.nD Cert.ConvKernel.τ).loc Cert.ConvKernel.main_arg0)
      ∧ r.2.mem ((c.tc : Thread Cert.ConvKernel.nD Cert.ConvKernel.τ).loc Cert.ConvKernel.main_arg1) = m ((c.tc : Thread Cert.ConvKernel.nD Cert.ConvKernel.τ).loc Cert.ConvKernel.main_arg1)
      ∧ r.2.mem ((c.tc : Thread Cert.ConvKernel.nD Cert.ConvKernel.τ).loc Cert.ConvKernel.main_arg2) = m ((c.tc : Thread Cert.ConvKernel.nD Cert.ConvKernel.τ).loc Cert.ConvKernel.main_arg2)
      ∧ r.2.mem ((c.tc : Thread Cert.ConvKernel.nD Cert.ConvKernel.τ).loc Cert.ConvKernel.main_arg3) = m ((c.tc : Thread Cert.ConvKernel.nD Cert.ConvKernel.τ).loc Cert.ConvKernel.main_arg3)
      ∧ r.2.mem ((c.tc : Thread Cert.ConvKernel.nD Cert.ConvKernel.τ).loc Cert.ConvKernel.main_arg4) = m ((c.tc : Thread Cert.ConvKernel.nD Cert.ConvKernel.τ).loc Cert.ConvKernel.main_arg4))
      ∧ r.2.sem = fun _ => 0)

def quiescent_ConvKernelIdeal [hConvKernelIdeal : Cert.ConvKernelIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg), Pre_ConvKernelIdeal m →
    θ_run (Cert.ConvKernelIdeal.defs (F := Ideal)) (onTc (τ := Cert.ConvKernelIdeal.τ) (Cert.ConvKernelIdeal.main (F := Ideal))) ⟨m, fun _ => 0, g⟩ (fun r => (∀ c : Dev Cert.ConvKernelIdeal.nD,
      r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
      ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
      ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2)
      ∧ r.2.mem ((c.tc : Thread Cert.ConvKernelIdeal.nD Cert.ConvKernelIdeal.τ).loc Cert.ConvKernelIdeal.main_arg3) = m ((c.tc : Thread Cert.ConvKernelIdeal.nD Cert.ConvKernelIdeal.τ).loc Cert.ConvKernelIdeal.main_arg3)
      ∧ r.2.mem ((c.tc : Thread Cert.ConvKernelIdeal.nD Cert.ConvKernelIdeal.τ).loc Cert.ConvKernelIdeal.main_arg4) = m ((c.tc : Thread Cert.ConvKernelIdeal.nD Cert.ConvKernelIdeal.τ).loc Cert.ConvKernelIdeal.main_arg4))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2)
      ∧ r.2.mem ((c.tc : Thread Cert.ConvReferenceIdeal.nD Cert.ConvReferenceIdeal.τ).loc Cert.ConvReferenceIdeal.main_arg3) = m ((c.tc : Thread Cert.ConvReferenceIdeal.nD Cert.ConvReferenceIdeal.τ).loc Cert.ConvReferenceIdeal.main_arg3)
      ∧ r.2.mem ((c.tc : Thread Cert.ConvReferenceIdeal.nD Cert.ConvReferenceIdeal.τ).loc Cert.ConvReferenceIdeal.main_arg4) = m ((c.tc : Thread Cert.ConvReferenceIdeal.nD Cert.ConvReferenceIdeal.τ).loc Cert.ConvReferenceIdeal.main_arg4))
      ∧ r.2.sem = fun _ => 0)

def quiescent_NormOneKernel [hNormOneKernel : Cert.NormOneKernel.Facts] : Prop :=
  ∀ (m : (ℓ : Loc Cert.NormOneKernel.nD Cert.NormOneKernel.τ Cert.NormOneKernel.sig) → Buf (Elt Bits) ℓ) (g : Dev Cert.NormOneKernel.nD → PrngReg), Pre_NormOneKernel m →
    θ_run (Cert.NormOneKernel.defs (F := Bits)) (onTc (τ := Cert.NormOneKernel.τ) (Cert.NormOneKernel.main (F := Bits))) ⟨m, fun _ => 0, g⟩ (fun r => (∀ c : Dev Cert.NormOneKernel.nD,
      r.2.mem ((c.tc : Thread Cert.NormOneKernel.nD Cert.NormOneKernel.τ).loc Cert.NormOneKernel.main_arg0) = m ((c.tc : Thread Cert.NormOneKernel.nD Cert.NormOneKernel.τ).loc Cert.NormOneKernel.main_arg0)
      ∧ r.2.mem ((c.tc : Thread Cert.NormOneKernel.nD Cert.NormOneKernel.τ).loc Cert.NormOneKernel.main_arg1) = m ((c.tc : Thread Cert.NormOneKernel.nD Cert.NormOneKernel.τ).loc Cert.NormOneKernel.main_arg1)
      ∧ r.2.mem ((c.tc : Thread Cert.NormOneKernel.nD Cert.NormOneKernel.τ).loc Cert.NormOneKernel.main_arg2) = m ((c.tc : Thread Cert.NormOneKernel.nD Cert.NormOneKernel.τ).loc Cert.NormOneKernel.main_arg2)
      ∧ r.2.mem ((c.tc : Thread Cert.NormOneKernel.nD Cert.NormOneKernel.τ).loc Cert.NormOneKernel.main_arg3) = m ((c.tc : Thread Cert.NormOneKernel.nD Cert.NormOneKernel.τ).loc Cert.NormOneKernel.main_arg3)
      ∧ r.2.mem ((c.tc : Thread Cert.NormOneKernel.nD Cert.NormOneKernel.τ).loc Cert.NormOneKernel.main_arg4) = m ((c.tc : Thread Cert.NormOneKernel.nD Cert.NormOneKernel.τ).loc Cert.NormOneKernel.main_arg4)
      ∧ r.2.mem ((c.tc : Thread Cert.NormOneKernel.nD Cert.NormOneKernel.τ).loc Cert.NormOneKernel.main_arg5) = m ((c.tc : Thread Cert.NormOneKernel.nD Cert.NormOneKernel.τ).loc Cert.NormOneKernel.main_arg5)
      ∧ r.2.mem ((c.tc : Thread Cert.NormOneKernel.nD Cert.NormOneKernel.τ).loc Cert.NormOneKernel.main_arg6) = m ((c.tc : Thread Cert.NormOneKernel.nD Cert.NormOneKernel.τ).loc Cert.NormOneKernel.main_arg6))
      ∧ r.2.sem = fun _ => 0)

def quiescent_NormOneKernelIdeal [hNormOneKernelIdeal : Cert.NormOneKernelIdeal.Facts] : Prop :=
  ∀ (m : (ℓ : Loc Cert.NormOneKernelIdeal.nD Cert.NormOneKernelIdeal.τ Cert.NormOneKernelIdeal.sig) → Buf (Elt Ideal) ℓ) (g : Dev Cert.NormOneKernelIdeal.nD → PrngReg), Pre_NormOneKernelIdeal m →
    θ_run (Cert.NormOneKernelIdeal.defs (F := Ideal)) (onTc (τ := Cert.NormOneKernelIdeal.τ) (Cert.NormOneKernelIdeal.main (F := Ideal))) ⟨m, fun _ => 0, g⟩ (fun r => (∀ c : Dev Cert.NormOneKernelIdeal.nD,
      r.2.mem ((c.tc : Thread Cert.NormOneKernelIdeal.nD Cert.NormOneKernelIdeal.τ).loc Cert.NormOneKernelIdeal.main_arg0) = m ((c.tc : Thread Cert.NormOneKernelIdeal.nD Cert.NormOneKernelIdeal.τ).loc Cert.NormOneKernelIdeal.main_arg0)
      ∧ r.2.mem ((c.tc : Thread Cert.NormOneKernelIdeal.nD Cert.NormOneKernelIdeal.τ).loc Cert.NormOneKernelIdeal.main_arg1) = m ((c.tc : Thread Cert.NormOneKernelIdeal.nD Cert.NormOneKernelIdeal.τ).loc Cert.NormOneKernelIdeal.main_arg1)
      ∧ r.2.mem ((c.tc : Thread Cert.NormOneKernelIdeal.nD Cert.NormOneKernelIdeal.τ).loc Cert.NormOneKernelIdeal.main_arg2) = m ((c.tc : Thread Cert.NormOneKernelIdeal.nD Cert.NormOneKernelIdeal.τ).loc Cert.NormOneKernelIdeal.main_arg2)
      ∧ r.2.mem ((c.tc : Thread Cert.NormOneKernelIdeal.nD Cert.NormOneKernelIdeal.τ).loc Cert.NormOneKernelIdeal.main_arg3) = m ((c.tc : Thread Cert.NormOneKernelIdeal.nD Cert.NormOneKernelIdeal.τ).loc Cert.NormOneKernelIdeal.main_arg3)
      ∧ r.2.mem ((c.tc : Thread Cert.NormOneKernelIdeal.nD Cert.NormOneKernelIdeal.τ).loc Cert.NormOneKernelIdeal.main_arg4) = m ((c.tc : Thread Cert.NormOneKernelIdeal.nD Cert.NormOneKernelIdeal.τ).loc Cert.NormOneKernelIdeal.main_arg4)
      ∧ r.2.mem ((c.tc : Thread Cert.NormOneKernelIdeal.nD Cert.NormOneKernelIdeal.τ).loc Cert.NormOneKernelIdeal.main_arg5) = m ((c.tc : Thread Cert.NormOneKernelIdeal.nD Cert.NormOneKernelIdeal.τ).loc Cert.NormOneKernelIdeal.main_arg5)
      ∧ r.2.mem ((c.tc : Thread Cert.NormOneKernelIdeal.nD Cert.NormOneKernelIdeal.τ).loc Cert.NormOneKernelIdeal.main_arg6) = m ((c.tc : Thread Cert.NormOneKernelIdeal.nD Cert.NormOneKernelIdeal.τ).loc Cert.NormOneKernelIdeal.main_arg6))
      ∧ r.2.sem = fun _ => 0)

def quiescent_NormOneReferenceIdeal [hNormOneReferenceIdeal : Cert.NormOneReferenceIdeal.Facts] : Prop :=
  ∀ (m : (ℓ : Loc Cert.NormOneReferenceIdeal.nD Cert.NormOneReferenceIdeal.τ Cert.NormOneReferenceIdeal.sig) → Buf (Elt Ideal) ℓ) (g : Dev Cert.NormOneReferenceIdeal.nD → PrngReg), Pre_NormOneReferenceIdeal m →
    θ_run (Cert.NormOneReferenceIdeal.defs (F := Ideal)) (onTc (τ := Cert.NormOneReferenceIdeal.τ) (Cert.NormOneReferenceIdeal.main (F := Ideal))) ⟨m, fun _ => 0, g⟩ (fun r => (∀ c : Dev Cert.NormOneReferenceIdeal.nD,
      r.2.mem ((c.tc : Thread Cert.NormOneReferenceIdeal.nD Cert.NormOneReferenceIdeal.τ).loc Cert.NormOneReferenceIdeal.main_arg0) = m ((c.tc : Thread Cert.NormOneReferenceIdeal.nD Cert.NormOneReferenceIdeal.τ).loc Cert.NormOneReferenceIdeal.main_arg0)
      ∧ r.2.mem ((c.tc : Thread Cert.NormOneReferenceIdeal.nD Cert.NormOneReferenceIdeal.τ).loc Cert.NormOneReferenceIdeal.main_arg1) = m ((c.tc : Thread Cert.NormOneReferenceIdeal.nD Cert.NormOneReferenceIdeal.τ).loc Cert.NormOneReferenceIdeal.main_arg1)
      ∧ r.2.mem ((c.tc : Thread Cert.NormOneReferenceIdeal.nD Cert.NormOneReferenceIdeal.τ).loc Cert.NormOneReferenceIdeal.main_arg2) = m ((c.tc : Thread Cert.NormOneReferenceIdeal.nD Cert.NormOneReferenceIdeal.τ).loc Cert.NormOneReferenceIdeal.main_arg2)
      ∧ r.2.mem ((c.tc : Thread Cert.NormOneReferenceIdeal.nD Cert.NormOneReferenceIdeal.τ).loc Cert.NormOneReferenceIdeal.main_arg3) = m ((c.tc : Thread Cert.NormOneReferenceIdeal.nD Cert.NormOneReferenceIdeal.τ).loc Cert.NormOneReferenceIdeal.main_arg3)
      ∧ r.2.mem ((c.tc : Thread Cert.NormOneReferenceIdeal.nD Cert.NormOneReferenceIdeal.τ).loc Cert.NormOneReferenceIdeal.main_arg4) = m ((c.tc : Thread Cert.NormOneReferenceIdeal.nD Cert.NormOneReferenceIdeal.τ).loc Cert.NormOneReferenceIdeal.main_arg4)
      ∧ r.2.mem ((c.tc : Thread Cert.NormOneReferenceIdeal.nD Cert.NormOneReferenceIdeal.τ).loc Cert.NormOneReferenceIdeal.main_arg5) = m ((c.tc : Thread Cert.NormOneReferenceIdeal.nD Cert.NormOneReferenceIdeal.τ).loc Cert.NormOneReferenceIdeal.main_arg5)
      ∧ r.2.mem ((c.tc : Thread Cert.NormOneReferenceIdeal.nD Cert.NormOneReferenceIdeal.τ).loc Cert.NormOneReferenceIdeal.main_arg6) = m ((c.tc : Thread Cert.NormOneReferenceIdeal.nD Cert.NormOneReferenceIdeal.τ).loc Cert.NormOneReferenceIdeal.main_arg6))
      ∧ r.2.sem = fun _ => 0)

def quiescent_NormTwoKernel [hNormTwoKernel : Cert.NormTwoKernel.Facts] : Prop :=
  ∀ (m : (ℓ : Loc Cert.NormTwoKernel.nD Cert.NormTwoKernel.τ Cert.NormTwoKernel.sig) → Buf (Elt Bits) ℓ) (g : Dev Cert.NormTwoKernel.nD → PrngReg), Pre_NormTwoKernel m →
    θ_run (Cert.NormTwoKernel.defs (F := Bits)) (onTc (τ := Cert.NormTwoKernel.τ) (Cert.NormTwoKernel.main (F := Bits))) ⟨m, fun _ => 0, g⟩ (fun r => (∀ c : Dev Cert.NormTwoKernel.nD,
      r.2.mem ((c.tc : Thread Cert.NormTwoKernel.nD Cert.NormTwoKernel.τ).loc Cert.NormTwoKernel.main_arg0) = m ((c.tc : Thread Cert.NormTwoKernel.nD Cert.NormTwoKernel.τ).loc Cert.NormTwoKernel.main_arg0)
      ∧ r.2.mem ((c.tc : Thread Cert.NormTwoKernel.nD Cert.NormTwoKernel.τ).loc Cert.NormTwoKernel.main_arg1) = m ((c.tc : Thread Cert.NormTwoKernel.nD Cert.NormTwoKernel.τ).loc Cert.NormTwoKernel.main_arg1)
      ∧ r.2.mem ((c.tc : Thread Cert.NormTwoKernel.nD Cert.NormTwoKernel.τ).loc Cert.NormTwoKernel.main_arg2) = m ((c.tc : Thread Cert.NormTwoKernel.nD Cert.NormTwoKernel.τ).loc Cert.NormTwoKernel.main_arg2)
      ∧ r.2.mem ((c.tc : Thread Cert.NormTwoKernel.nD Cert.NormTwoKernel.τ).loc Cert.NormTwoKernel.main_arg3) = m ((c.tc : Thread Cert.NormTwoKernel.nD Cert.NormTwoKernel.τ).loc Cert.NormTwoKernel.main_arg3)
      ∧ r.2.mem ((c.tc : Thread Cert.NormTwoKernel.nD Cert.NormTwoKernel.τ).loc Cert.NormTwoKernel.main_arg4) = m ((c.tc : Thread Cert.NormTwoKernel.nD Cert.NormTwoKernel.τ).loc Cert.NormTwoKernel.main_arg4))
      ∧ r.2.sem = fun _ => 0)

def quiescent_NormTwoKernelIdeal [hNormTwoKernelIdeal : Cert.NormTwoKernelIdeal.Facts] : Prop :=
  ∀ (m : (ℓ : Loc Cert.NormTwoKernelIdeal.nD Cert.NormTwoKernelIdeal.τ Cert.NormTwoKernelIdeal.sig) → Buf (Elt Ideal) ℓ) (g : Dev Cert.NormTwoKernelIdeal.nD → PrngReg), Pre_NormTwoKernelIdeal m →
    θ_run (Cert.NormTwoKernelIdeal.defs (F := Ideal)) (onTc (τ := Cert.NormTwoKernelIdeal.τ) (Cert.NormTwoKernelIdeal.main (F := Ideal))) ⟨m, fun _ => 0, g⟩ (fun r => (∀ c : Dev Cert.NormTwoKernelIdeal.nD,
      r.2.mem ((c.tc : Thread Cert.NormTwoKernelIdeal.nD Cert.NormTwoKernelIdeal.τ).loc Cert.NormTwoKernelIdeal.main_arg0) = m ((c.tc : Thread Cert.NormTwoKernelIdeal.nD Cert.NormTwoKernelIdeal.τ).loc Cert.NormTwoKernelIdeal.main_arg0)
      ∧ r.2.mem ((c.tc : Thread Cert.NormTwoKernelIdeal.nD Cert.NormTwoKernelIdeal.τ).loc Cert.NormTwoKernelIdeal.main_arg1) = m ((c.tc : Thread Cert.NormTwoKernelIdeal.nD Cert.NormTwoKernelIdeal.τ).loc Cert.NormTwoKernelIdeal.main_arg1)
      ∧ r.2.mem ((c.tc : Thread Cert.NormTwoKernelIdeal.nD Cert.NormTwoKernelIdeal.τ).loc Cert.NormTwoKernelIdeal.main_arg2) = m ((c.tc : Thread Cert.NormTwoKernelIdeal.nD Cert.NormTwoKernelIdeal.τ).loc Cert.NormTwoKernelIdeal.main_arg2)
      ∧ r.2.mem ((c.tc : Thread Cert.NormTwoKernelIdeal.nD Cert.NormTwoKernelIdeal.τ).loc Cert.NormTwoKernelIdeal.main_arg3) = m ((c.tc : Thread Cert.NormTwoKernelIdeal.nD Cert.NormTwoKernelIdeal.τ).loc Cert.NormTwoKernelIdeal.main_arg3)
      ∧ r.2.mem ((c.tc : Thread Cert.NormTwoKernelIdeal.nD Cert.NormTwoKernelIdeal.τ).loc Cert.NormTwoKernelIdeal.main_arg4) = m ((c.tc : Thread Cert.NormTwoKernelIdeal.nD Cert.NormTwoKernelIdeal.τ).loc Cert.NormTwoKernelIdeal.main_arg4))
      ∧ r.2.sem = fun _ => 0)

def quiescent_NormTwoReferenceIdeal [hNormTwoReferenceIdeal : Cert.NormTwoReferenceIdeal.Facts] : Prop :=
  ∀ (m : (ℓ : Loc Cert.NormTwoReferenceIdeal.nD Cert.NormTwoReferenceIdeal.τ Cert.NormTwoReferenceIdeal.sig) → Buf (Elt Ideal) ℓ) (g : Dev Cert.NormTwoReferenceIdeal.nD → PrngReg), Pre_NormTwoReferenceIdeal m →
    θ_run (Cert.NormTwoReferenceIdeal.defs (F := Ideal)) (onTc (τ := Cert.NormTwoReferenceIdeal.τ) (Cert.NormTwoReferenceIdeal.main (F := Ideal))) ⟨m, fun _ => 0, g⟩ (fun r => (∀ c : Dev Cert.NormTwoReferenceIdeal.nD,
      r.2.mem ((c.tc : Thread Cert.NormTwoReferenceIdeal.nD Cert.NormTwoReferenceIdeal.τ).loc Cert.NormTwoReferenceIdeal.main_arg0) = m ((c.tc : Thread Cert.NormTwoReferenceIdeal.nD Cert.NormTwoReferenceIdeal.τ).loc Cert.NormTwoReferenceIdeal.main_arg0)
      ∧ r.2.mem ((c.tc : Thread Cert.NormTwoReferenceIdeal.nD Cert.NormTwoReferenceIdeal.τ).loc Cert.NormTwoReferenceIdeal.main_arg1) = m ((c.tc : Thread Cert.NormTwoReferenceIdeal.nD Cert.NormTwoReferenceIdeal.τ).loc Cert.NormTwoReferenceIdeal.main_arg1)
      ∧ r.2.mem ((c.tc : Thread Cert.NormTwoReferenceIdeal.nD Cert.NormTwoReferenceIdeal.τ).loc Cert.NormTwoReferenceIdeal.main_arg2) = m ((c.tc : Thread Cert.NormTwoReferenceIdeal.nD Cert.NormTwoReferenceIdeal.τ).loc Cert.NormTwoReferenceIdeal.main_arg2)
      ∧ r.2.mem ((c.tc : Thread Cert.NormTwoReferenceIdeal.nD Cert.NormTwoReferenceIdeal.τ).loc Cert.NormTwoReferenceIdeal.main_arg3) = m ((c.tc : Thread Cert.NormTwoReferenceIdeal.nD Cert.NormTwoReferenceIdeal.τ).loc Cert.NormTwoReferenceIdeal.main_arg3)
      ∧ r.2.mem ((c.tc : Thread Cert.NormTwoReferenceIdeal.nD Cert.NormTwoReferenceIdeal.τ).loc Cert.NormTwoReferenceIdeal.main_arg4) = m ((c.tc : Thread Cert.NormTwoReferenceIdeal.nD Cert.NormTwoReferenceIdeal.τ).loc Cert.NormTwoReferenceIdeal.main_arg4))
      ∧ r.2.sem = fun _ => 0)

def quiescent_ActKernel [hActKernel : Cert.ActKernel.Facts] : Prop :=
  ∀ (m : (ℓ : Loc Cert.ActKernel.nD Cert.ActKernel.τ Cert.ActKernel.sig) → Buf (Elt Bits) ℓ) (g : Dev Cert.ActKernel.nD → PrngReg), Pre_ActKernel m →
    θ_run (Cert.ActKernel.defs (F := Bits)) (onTc (τ := Cert.ActKernel.τ) (Cert.ActKernel.main (F := Bits))) ⟨m, fun _ => 0, g⟩ (fun r => (∀ c : Dev Cert.ActKernel.nD,
      r.2.mem ((c.tc : Thread Cert.ActKernel.nD Cert.ActKernel.τ).loc Cert.ActKernel.main_arg0) = m ((c.tc : Thread Cert.ActKernel.nD Cert.ActKernel.τ).loc Cert.ActKernel.main_arg0)
      ∧ r.2.mem ((c.tc : Thread Cert.ActKernel.nD Cert.ActKernel.τ).loc Cert.ActKernel.main_arg1) = m ((c.tc : Thread Cert.ActKernel.nD Cert.ActKernel.τ).loc Cert.ActKernel.main_arg1)
      ∧ r.2.mem ((c.tc : Thread Cert.ActKernel.nD Cert.ActKernel.τ).loc Cert.ActKernel.main_arg2) = m ((c.tc : Thread Cert.ActKernel.nD Cert.ActKernel.τ).loc Cert.ActKernel.main_arg2)
      ∧ r.2.mem ((c.tc : Thread Cert.ActKernel.nD Cert.ActKernel.τ).loc Cert.ActKernel.main_arg3) = m ((c.tc : Thread Cert.ActKernel.nD Cert.ActKernel.τ).loc Cert.ActKernel.main_arg3))
      ∧ r.2.sem = fun _ => 0)

def quiescent_ActKernelIdeal [hActKernelIdeal : Cert.ActKernelIdeal.Facts] : Prop :=
  ∀ (m : (ℓ : Loc Cert.ActKernelIdeal.nD Cert.ActKernelIdeal.τ Cert.ActKernelIdeal.sig) → Buf (Elt Ideal) ℓ) (g : Dev Cert.ActKernelIdeal.nD → PrngReg), Pre_ActKernelIdeal m →
    θ_run (Cert.ActKernelIdeal.defs (F := Ideal)) (onTc (τ := Cert.ActKernelIdeal.τ) (Cert.ActKernelIdeal.main (F := Ideal))) ⟨m, fun _ => 0, g⟩ (fun r => (∀ c : Dev Cert.ActKernelIdeal.nD,
      r.2.mem ((c.tc : Thread Cert.ActKernelIdeal.nD Cert.ActKernelIdeal.τ).loc Cert.ActKernelIdeal.main_arg0) = m ((c.tc : Thread Cert.ActKernelIdeal.nD Cert.ActKernelIdeal.τ).loc Cert.ActKernelIdeal.main_arg0)
      ∧ r.2.mem ((c.tc : Thread Cert.ActKernelIdeal.nD Cert.ActKernelIdeal.τ).loc Cert.ActKernelIdeal.main_arg1) = m ((c.tc : Thread Cert.ActKernelIdeal.nD Cert.ActKernelIdeal.τ).loc Cert.ActKernelIdeal.main_arg1)
      ∧ r.2.mem ((c.tc : Thread Cert.ActKernelIdeal.nD Cert.ActKernelIdeal.τ).loc Cert.ActKernelIdeal.main_arg2) = m ((c.tc : Thread Cert.ActKernelIdeal.nD Cert.ActKernelIdeal.τ).loc Cert.ActKernelIdeal.main_arg2)
      ∧ r.2.mem ((c.tc : Thread Cert.ActKernelIdeal.nD Cert.ActKernelIdeal.τ).loc Cert.ActKernelIdeal.main_arg3) = m ((c.tc : Thread Cert.ActKernelIdeal.nD Cert.ActKernelIdeal.τ).loc Cert.ActKernelIdeal.main_arg3))
      ∧ r.2.sem = fun _ => 0)

def quiescent_ActReferenceIdeal [hActReferenceIdeal : Cert.ActReferenceIdeal.Facts] : Prop :=
  ∀ (m : (ℓ : Loc Cert.ActReferenceIdeal.nD Cert.ActReferenceIdeal.τ Cert.ActReferenceIdeal.sig) → Buf (Elt Ideal) ℓ) (g : Dev Cert.ActReferenceIdeal.nD → PrngReg), Pre_ActReferenceIdeal m →
    θ_run (Cert.ActReferenceIdeal.defs (F := Ideal)) (onTc (τ := Cert.ActReferenceIdeal.τ) (Cert.ActReferenceIdeal.main (F := Ideal))) ⟨m, fun _ => 0, g⟩ (fun r => (∀ c : Dev Cert.ActReferenceIdeal.nD,
      r.2.mem ((c.tc : Thread Cert.ActReferenceIdeal.nD Cert.ActReferenceIdeal.τ).loc Cert.ActReferenceIdeal.main_arg0) = m ((c.tc : Thread Cert.ActReferenceIdeal.nD Cert.ActReferenceIdeal.τ).loc Cert.ActReferenceIdeal.main_arg0)
      ∧ r.2.mem ((c.tc : Thread Cert.ActReferenceIdeal.nD Cert.ActReferenceIdeal.τ).loc Cert.ActReferenceIdeal.main_arg1) = m ((c.tc : Thread Cert.ActReferenceIdeal.nD Cert.ActReferenceIdeal.τ).loc Cert.ActReferenceIdeal.main_arg1)
      ∧ r.2.mem ((c.tc : Thread Cert.ActReferenceIdeal.nD Cert.ActReferenceIdeal.τ).loc Cert.ActReferenceIdeal.main_arg2) = m ((c.tc : Thread Cert.ActReferenceIdeal.nD Cert.ActReferenceIdeal.τ).loc Cert.ActReferenceIdeal.main_arg2)
      ∧ r.2.mem ((c.tc : Thread Cert.ActReferenceIdeal.nD Cert.ActReferenceIdeal.τ).loc Cert.ActReferenceIdeal.main_arg3) = m ((c.tc : Thread Cert.ActReferenceIdeal.nD Cert.ActReferenceIdeal.τ).loc Cert.ActReferenceIdeal.main_arg3))
      ∧ r.2.sem = fun _ => 0)

def quiescent_WInKernel [hWInKernel : Cert.WInKernel.Facts] : Prop :=
  ∀ (m : (ℓ : Loc Cert.WInKernel.nD Cert.WInKernel.τ Cert.WInKernel.sig) → Buf (Elt Bits) ℓ) (g : Dev Cert.WInKernel.nD → PrngReg), Pre_WInKernel m →
    θ_run (Cert.WInKernel.defs (F := Bits)) (onTc (τ := Cert.WInKernel.τ) (Cert.WInKernel.main (F := Bits))) ⟨m, fun _ => 0, g⟩ (fun r => (∀ c : Dev Cert.WInKernel.nD,
      r.2.mem ((c.tc : Thread Cert.WInKernel.nD Cert.WInKernel.τ).loc Cert.WInKernel.main_arg0) = m ((c.tc : Thread Cert.WInKernel.nD Cert.WInKernel.τ).loc Cert.WInKernel.main_arg0)
      ∧ r.2.mem ((c.tc : Thread Cert.WInKernel.nD Cert.WInKernel.τ).loc Cert.WInKernel.main_arg1) = m ((c.tc : Thread Cert.WInKernel.nD Cert.WInKernel.τ).loc Cert.WInKernel.main_arg1))
      ∧ r.2.sem = fun _ => 0)

def quiescent_WInKernelIdeal [hWInKernelIdeal : Cert.WInKernelIdeal.Facts] : Prop :=
  ∀ (m : (ℓ : Loc Cert.WInKernelIdeal.nD Cert.WInKernelIdeal.τ Cert.WInKernelIdeal.sig) → Buf (Elt Ideal) ℓ) (g : Dev Cert.WInKernelIdeal.nD → PrngReg), Pre_WInKernelIdeal m →
    θ_run (Cert.WInKernelIdeal.defs (F := Ideal)) (onTc (τ := Cert.WInKernelIdeal.τ) (Cert.WInKernelIdeal.main (F := Ideal))) ⟨m, fun _ => 0, g⟩ (fun r => (∀ c : Dev Cert.WInKernelIdeal.nD,
      r.2.mem ((c.tc : Thread Cert.WInKernelIdeal.nD Cert.WInKernelIdeal.τ).loc Cert.WInKernelIdeal.main_arg0) = m ((c.tc : Thread Cert.WInKernelIdeal.nD Cert.WInKernelIdeal.τ).loc Cert.WInKernelIdeal.main_arg0)
      ∧ r.2.mem ((c.tc : Thread Cert.WInKernelIdeal.nD Cert.WInKernelIdeal.τ).loc Cert.WInKernelIdeal.main_arg1) = m ((c.tc : Thread Cert.WInKernelIdeal.nD Cert.WInKernelIdeal.τ).loc Cert.WInKernelIdeal.main_arg1))
      ∧ r.2.sem = fun _ => 0)

def quiescent_WInReferenceIdeal [hWInReferenceIdeal : Cert.WInReferenceIdeal.Facts] : Prop :=
  ∀ (m : (ℓ : Loc Cert.WInReferenceIdeal.nD Cert.WInReferenceIdeal.τ Cert.WInReferenceIdeal.sig) → Buf (Elt Ideal) ℓ) (g : Dev Cert.WInReferenceIdeal.nD → PrngReg), Pre_WInReferenceIdeal m →
    θ_run (Cert.WInReferenceIdeal.defs (F := Ideal)) (onTc (τ := Cert.WInReferenceIdeal.τ) (Cert.WInReferenceIdeal.main (F := Ideal))) ⟨m, fun _ => 0, g⟩ (fun r => (∀ c : Dev Cert.WInReferenceIdeal.nD,
      r.2.mem ((c.tc : Thread Cert.WInReferenceIdeal.nD Cert.WInReferenceIdeal.τ).loc Cert.WInReferenceIdeal.main_arg0) = m ((c.tc : Thread Cert.WInReferenceIdeal.nD Cert.WInReferenceIdeal.τ).loc Cert.WInReferenceIdeal.main_arg0)
      ∧ r.2.mem ((c.tc : Thread Cert.WInReferenceIdeal.nD Cert.WInReferenceIdeal.τ).loc Cert.WInReferenceIdeal.main_arg1) = m ((c.tc : Thread Cert.WInReferenceIdeal.nD Cert.WInReferenceIdeal.τ).loc Cert.WInReferenceIdeal.main_arg1))
      ∧ r.2.sem = fun _ => 0)

def quiescent_WUpKernel [hWUpKernel : Cert.WUpKernel.Facts] : Prop :=
  ∀ (m : (ℓ : Loc Cert.WUpKernel.nD Cert.WUpKernel.τ Cert.WUpKernel.sig) → Buf (Elt Bits) ℓ) (g : Dev Cert.WUpKernel.nD → PrngReg), Pre_WUpKernel m →
    θ_run (Cert.WUpKernel.defs (F := Bits)) (onTc (τ := Cert.WUpKernel.τ) (Cert.WUpKernel.main (F := Bits))) ⟨m, fun _ => 0, g⟩ (fun r => (∀ c : Dev Cert.WUpKernel.nD,
      r.2.mem ((c.tc : Thread Cert.WUpKernel.nD Cert.WUpKernel.τ).loc Cert.WUpKernel.main_arg0) = m ((c.tc : Thread Cert.WUpKernel.nD Cert.WUpKernel.τ).loc Cert.WUpKernel.main_arg0)
      ∧ r.2.mem ((c.tc : Thread Cert.WUpKernel.nD Cert.WUpKernel.τ).loc Cert.WUpKernel.main_arg1) = m ((c.tc : Thread Cert.WUpKernel.nD Cert.WUpKernel.τ).loc Cert.WUpKernel.main_arg1))
      ∧ r.2.sem = fun _ => 0)

def quiescent_WUpKernelIdeal [hWUpKernelIdeal : Cert.WUpKernelIdeal.Facts] : Prop :=
  ∀ (m : (ℓ : Loc Cert.WUpKernelIdeal.nD Cert.WUpKernelIdeal.τ Cert.WUpKernelIdeal.sig) → Buf (Elt Ideal) ℓ) (g : Dev Cert.WUpKernelIdeal.nD → PrngReg), Pre_WUpKernelIdeal m →
    θ_run (Cert.WUpKernelIdeal.defs (F := Ideal)) (onTc (τ := Cert.WUpKernelIdeal.τ) (Cert.WUpKernelIdeal.main (F := Ideal))) ⟨m, fun _ => 0, g⟩ (fun r => (∀ c : Dev Cert.WUpKernelIdeal.nD,
      r.2.mem ((c.tc : Thread Cert.WUpKernelIdeal.nD Cert.WUpKernelIdeal.τ).loc Cert.WUpKernelIdeal.main_arg0) = m ((c.tc : Thread Cert.WUpKernelIdeal.nD Cert.WUpKernelIdeal.τ).loc Cert.WUpKernelIdeal.main_arg0)
      ∧ r.2.mem ((c.tc : Thread Cert.WUpKernelIdeal.nD Cert.WUpKernelIdeal.τ).loc Cert.WUpKernelIdeal.main_arg1) = m ((c.tc : Thread Cert.WUpKernelIdeal.nD Cert.WUpKernelIdeal.τ).loc Cert.WUpKernelIdeal.main_arg1))
      ∧ r.2.sem = fun _ => 0)

def quiescent_WUpReferenceIdeal [hWUpReferenceIdeal : Cert.WUpReferenceIdeal.Facts] : Prop :=
  ∀ (m : (ℓ : Loc Cert.WUpReferenceIdeal.nD Cert.WUpReferenceIdeal.τ Cert.WUpReferenceIdeal.sig) → Buf (Elt Ideal) ℓ) (g : Dev Cert.WUpReferenceIdeal.nD → PrngReg), Pre_WUpReferenceIdeal m →
    θ_run (Cert.WUpReferenceIdeal.defs (F := Ideal)) (onTc (τ := Cert.WUpReferenceIdeal.τ) (Cert.WUpReferenceIdeal.main (F := Ideal))) ⟨m, fun _ => 0, g⟩ (fun r => (∀ c : Dev Cert.WUpReferenceIdeal.nD,
      r.2.mem ((c.tc : Thread Cert.WUpReferenceIdeal.nD Cert.WUpReferenceIdeal.τ).loc Cert.WUpReferenceIdeal.main_arg0) = m ((c.tc : Thread Cert.WUpReferenceIdeal.nD Cert.WUpReferenceIdeal.τ).loc Cert.WUpReferenceIdeal.main_arg0)
      ∧ r.2.mem ((c.tc : Thread Cert.WUpReferenceIdeal.nD Cert.WUpReferenceIdeal.τ).loc Cert.WUpReferenceIdeal.main_arg1) = m ((c.tc : Thread Cert.WUpReferenceIdeal.nD Cert.WUpReferenceIdeal.τ).loc Cert.WUpReferenceIdeal.main_arg1))
      ∧ r.2.sem = fun _ => 0)

def quiescent_WDownKernel [hWDownKernel : Cert.WDownKernel.Facts] : Prop :=
  ∀ (m : (ℓ : Loc Cert.WDownKernel.nD Cert.WDownKernel.τ Cert.WDownKernel.sig) → Buf (Elt Bits) ℓ) (g : Dev Cert.WDownKernel.nD → PrngReg), Pre_WDownKernel m →
    θ_run (Cert.WDownKernel.defs (F := Bits)) (onTc (τ := Cert.WDownKernel.τ) (Cert.WDownKernel.main (F := Bits))) ⟨m, fun _ => 0, g⟩ (fun r => (∀ c : Dev Cert.WDownKernel.nD,
      r.2.mem ((c.tc : Thread Cert.WDownKernel.nD Cert.WDownKernel.τ).loc Cert.WDownKernel.main_arg0) = m ((c.tc : Thread Cert.WDownKernel.nD Cert.WDownKernel.τ).loc Cert.WDownKernel.main_arg0)
      ∧ r.2.mem ((c.tc : Thread Cert.WDownKernel.nD Cert.WDownKernel.τ).loc Cert.WDownKernel.main_arg1) = m ((c.tc : Thread Cert.WDownKernel.nD Cert.WDownKernel.τ).loc Cert.WDownKernel.main_arg1))
      ∧ r.2.sem = fun _ => 0)

def quiescent_WDownKernelIdeal [hWDownKernelIdeal : Cert.WDownKernelIdeal.Facts] : Prop :=
  ∀ (m : (ℓ : Loc Cert.WDownKernelIdeal.nD Cert.WDownKernelIdeal.τ Cert.WDownKernelIdeal.sig) → Buf (Elt Ideal) ℓ) (g : Dev Cert.WDownKernelIdeal.nD → PrngReg), Pre_WDownKernelIdeal m →
    θ_run (Cert.WDownKernelIdeal.defs (F := Ideal)) (onTc (τ := Cert.WDownKernelIdeal.τ) (Cert.WDownKernelIdeal.main (F := Ideal))) ⟨m, fun _ => 0, g⟩ (fun r => (∀ c : Dev Cert.WDownKernelIdeal.nD,
      r.2.mem ((c.tc : Thread Cert.WDownKernelIdeal.nD Cert.WDownKernelIdeal.τ).loc Cert.WDownKernelIdeal.main_arg0) = m ((c.tc : Thread Cert.WDownKernelIdeal.nD Cert.WDownKernelIdeal.τ).loc Cert.WDownKernelIdeal.main_arg0)
      ∧ r.2.mem ((c.tc : Thread Cert.WDownKernelIdeal.nD Cert.WDownKernelIdeal.τ).loc Cert.WDownKernelIdeal.main_arg1) = m ((c.tc : Thread Cert.WDownKernelIdeal.nD Cert.WDownKernelIdeal.τ).loc Cert.WDownKernelIdeal.main_arg1))
      ∧ r.2.sem = fun _ => 0)

def quiescent_WDownReferenceIdeal [hWDownReferenceIdeal : Cert.WDownReferenceIdeal.Facts] : Prop :=
  ∀ (m : (ℓ : Loc Cert.WDownReferenceIdeal.nD Cert.WDownReferenceIdeal.τ Cert.WDownReferenceIdeal.sig) → Buf (Elt Ideal) ℓ) (g : Dev Cert.WDownReferenceIdeal.nD → PrngReg), Pre_WDownReferenceIdeal m →
    θ_run (Cert.WDownReferenceIdeal.defs (F := Ideal)) (onTc (τ := Cert.WDownReferenceIdeal.τ) (Cert.WDownReferenceIdeal.main (F := Ideal))) ⟨m, fun _ => 0, g⟩ (fun r => (∀ c : Dev Cert.WDownReferenceIdeal.nD,
      r.2.mem ((c.tc : Thread Cert.WDownReferenceIdeal.nD Cert.WDownReferenceIdeal.τ).loc Cert.WDownReferenceIdeal.main_arg0) = m ((c.tc : Thread Cert.WDownReferenceIdeal.nD Cert.WDownReferenceIdeal.τ).loc Cert.WDownReferenceIdeal.main_arg0)
      ∧ r.2.mem ((c.tc : Thread Cert.WDownReferenceIdeal.nD Cert.WDownReferenceIdeal.τ).loc Cert.WDownReferenceIdeal.main_arg1) = m ((c.tc : Thread Cert.WDownReferenceIdeal.nD Cert.WDownReferenceIdeal.τ).loc Cert.WDownReferenceIdeal.main_arg1))
      ∧ r.2.sem = fun _ => 0)

def quiescent_WGateKernel [hWGateKernel : Cert.WGateKernel.Facts] : Prop :=
  ∀ (m : (ℓ : Loc Cert.WGateKernel.nD Cert.WGateKernel.τ Cert.WGateKernel.sig) → Buf (Elt Bits) ℓ) (g : Dev Cert.WGateKernel.nD → PrngReg), Pre_WGateKernel m →
    θ_run (Cert.WGateKernel.defs (F := Bits)) (onTc (τ := Cert.WGateKernel.τ) (Cert.WGateKernel.main (F := Bits))) ⟨m, fun _ => 0, g⟩ (fun r => (∀ c : Dev Cert.WGateKernel.nD,
      r.2.mem ((c.tc : Thread Cert.WGateKernel.nD Cert.WGateKernel.τ).loc Cert.WGateKernel.main_arg0) = m ((c.tc : Thread Cert.WGateKernel.nD Cert.WGateKernel.τ).loc Cert.WGateKernel.main_arg0)
      ∧ r.2.mem ((c.tc : Thread Cert.WGateKernel.nD Cert.WGateKernel.τ).loc Cert.WGateKernel.main_arg1) = m ((c.tc : Thread Cert.WGateKernel.nD Cert.WGateKernel.τ).loc Cert.WGateKernel.main_arg1))
      ∧ r.2.sem = fun _ => 0)

def quiescent_WGateKernelIdeal [hWGateKernelIdeal : Cert.WGateKernelIdeal.Facts] : Prop :=
  ∀ (m : (ℓ : Loc Cert.WGateKernelIdeal.nD Cert.WGateKernelIdeal.τ Cert.WGateKernelIdeal.sig) → Buf (Elt Ideal) ℓ) (g : Dev Cert.WGateKernelIdeal.nD → PrngReg), Pre_WGateKernelIdeal m →
    θ_run (Cert.WGateKernelIdeal.defs (F := Ideal)) (onTc (τ := Cert.WGateKernelIdeal.τ) (Cert.WGateKernelIdeal.main (F := Ideal))) ⟨m, fun _ => 0, g⟩ (fun r => (∀ c : Dev Cert.WGateKernelIdeal.nD,
      r.2.mem ((c.tc : Thread Cert.WGateKernelIdeal.nD Cert.WGateKernelIdeal.τ).loc Cert.WGateKernelIdeal.main_arg0) = m ((c.tc : Thread Cert.WGateKernelIdeal.nD Cert.WGateKernelIdeal.τ).loc Cert.WGateKernelIdeal.main_arg0)
      ∧ r.2.mem ((c.tc : Thread Cert.WGateKernelIdeal.nD Cert.WGateKernelIdeal.τ).loc Cert.WGateKernelIdeal.main_arg1) = m ((c.tc : Thread Cert.WGateKernelIdeal.nD Cert.WGateKernelIdeal.τ).loc Cert.WGateKernelIdeal.main_arg1))
      ∧ r.2.sem = fun _ => 0)

def quiescent_WGateReferenceIdeal [hWGateReferenceIdeal : Cert.WGateReferenceIdeal.Facts] : Prop :=
  ∀ (m : (ℓ : Loc Cert.WGateReferenceIdeal.nD Cert.WGateReferenceIdeal.τ Cert.WGateReferenceIdeal.sig) → Buf (Elt Ideal) ℓ) (g : Dev Cert.WGateReferenceIdeal.nD → PrngReg), Pre_WGateReferenceIdeal m →
    θ_run (Cert.WGateReferenceIdeal.defs (F := Ideal)) (onTc (τ := Cert.WGateReferenceIdeal.τ) (Cert.WGateReferenceIdeal.main (F := Ideal))) ⟨m, fun _ => 0, g⟩ (fun r => (∀ c : Dev Cert.WGateReferenceIdeal.nD,
      r.2.mem ((c.tc : Thread Cert.WGateReferenceIdeal.nD Cert.WGateReferenceIdeal.τ).loc Cert.WGateReferenceIdeal.main_arg0) = m ((c.tc : Thread Cert.WGateReferenceIdeal.nD Cert.WGateReferenceIdeal.τ).loc Cert.WGateReferenceIdeal.main_arg0)
      ∧ r.2.mem ((c.tc : Thread Cert.WGateReferenceIdeal.nD Cert.WGateReferenceIdeal.τ).loc Cert.WGateReferenceIdeal.main_arg1) = m ((c.tc : Thread Cert.WGateReferenceIdeal.nD Cert.WGateReferenceIdeal.τ).loc Cert.WGateReferenceIdeal.main_arg1))
      ∧ r.2.sem = fun _ => 0)

def quiescent_WOutKernel [hWOutKernel : Cert.WOutKernel.Facts] : Prop :=
  ∀ (m : (ℓ : Loc Cert.WOutKernel.nD Cert.WOutKernel.τ Cert.WOutKernel.sig) → Buf (Elt Bits) ℓ) (g : Dev Cert.WOutKernel.nD → PrngReg), Pre_WOutKernel m →
    θ_run (Cert.WOutKernel.defs (F := Bits)) (onTc (τ := Cert.WOutKernel.τ) (Cert.WOutKernel.main (F := Bits))) ⟨m, fun _ => 0, g⟩ (fun r => (∀ c : Dev Cert.WOutKernel.nD,
      r.2.mem ((c.tc : Thread Cert.WOutKernel.nD Cert.WOutKernel.τ).loc Cert.WOutKernel.main_arg0) = m ((c.tc : Thread Cert.WOutKernel.nD Cert.WOutKernel.τ).loc Cert.WOutKernel.main_arg0)
      ∧ r.2.mem ((c.tc : Thread Cert.WOutKernel.nD Cert.WOutKernel.τ).loc Cert.WOutKernel.main_arg1) = m ((c.tc : Thread Cert.WOutKernel.nD Cert.WOutKernel.τ).loc Cert.WOutKernel.main_arg1))
      ∧ r.2.sem = fun _ => 0)

def quiescent_WOutKernelIdeal [hWOutKernelIdeal : Cert.WOutKernelIdeal.Facts] : Prop :=
  ∀ (m : (ℓ : Loc Cert.WOutKernelIdeal.nD Cert.WOutKernelIdeal.τ Cert.WOutKernelIdeal.sig) → Buf (Elt Ideal) ℓ) (g : Dev Cert.WOutKernelIdeal.nD → PrngReg), Pre_WOutKernelIdeal m →
    θ_run (Cert.WOutKernelIdeal.defs (F := Ideal)) (onTc (τ := Cert.WOutKernelIdeal.τ) (Cert.WOutKernelIdeal.main (F := Ideal))) ⟨m, fun _ => 0, g⟩ (fun r => (∀ c : Dev Cert.WOutKernelIdeal.nD,
      r.2.mem ((c.tc : Thread Cert.WOutKernelIdeal.nD Cert.WOutKernelIdeal.τ).loc Cert.WOutKernelIdeal.main_arg0) = m ((c.tc : Thread Cert.WOutKernelIdeal.nD Cert.WOutKernelIdeal.τ).loc Cert.WOutKernelIdeal.main_arg0)
      ∧ r.2.mem ((c.tc : Thread Cert.WOutKernelIdeal.nD Cert.WOutKernelIdeal.τ).loc Cert.WOutKernelIdeal.main_arg1) = m ((c.tc : Thread Cert.WOutKernelIdeal.nD Cert.WOutKernelIdeal.τ).loc Cert.WOutKernelIdeal.main_arg1))
      ∧ r.2.sem = fun _ => 0)

def quiescent_WOutReferenceIdeal [hWOutReferenceIdeal : Cert.WOutReferenceIdeal.Facts] : Prop :=
  ∀ (m : (ℓ : Loc Cert.WOutReferenceIdeal.nD Cert.WOutReferenceIdeal.τ Cert.WOutReferenceIdeal.sig) → Buf (Elt Ideal) ℓ) (g : Dev Cert.WOutReferenceIdeal.nD → PrngReg), Pre_WOutReferenceIdeal m →
    θ_run (Cert.WOutReferenceIdeal.defs (F := Ideal)) (onTc (τ := Cert.WOutReferenceIdeal.τ) (Cert.WOutReferenceIdeal.main (F := Ideal))) ⟨m, fun _ => 0, g⟩ (fun r => (∀ c : Dev Cert.WOutReferenceIdeal.nD,
      r.2.mem ((c.tc : Thread Cert.WOutReferenceIdeal.nD Cert.WOutReferenceIdeal.τ).loc Cert.WOutReferenceIdeal.main_arg0) = m ((c.tc : Thread Cert.WOutReferenceIdeal.nD Cert.WOutReferenceIdeal.τ).loc Cert.WOutReferenceIdeal.main_arg0)
      ∧ r.2.mem ((c.tc : Thread Cert.WOutReferenceIdeal.nD Cert.WOutReferenceIdeal.τ).loc Cert.WOutReferenceIdeal.main_arg1) = m ((c.tc : Thread Cert.WOutReferenceIdeal.nD Cert.WOutReferenceIdeal.τ).loc Cert.WOutReferenceIdeal.main_arg1))
      ∧ r.2.sem = fun _ => 0)

def quiescent_BranchKernel [hBranchKernel : Cert.BranchKernel.Facts] : Prop :=
  ∀ (m : (ℓ : Loc Cert.BranchKernel.nD Cert.BranchKernel.τ Cert.BranchKernel.sig) → Buf (Elt Bits) ℓ) (g : Dev Cert.BranchKernel.nD → PrngReg), Pre_BranchKernel m →
    θ_run (Cert.BranchKernel.defs (F := Bits)) (onTc (τ := Cert.BranchKernel.τ) (Cert.BranchKernel.main (F := Bits))) ⟨m, fun _ => 0, g⟩ (fun r => (∀ c : Dev Cert.BranchKernel.nD,
      r.2.mem ((c.tc : Thread Cert.BranchKernel.nD Cert.BranchKernel.τ).loc Cert.BranchKernel.main_arg0) = m ((c.tc : Thread Cert.BranchKernel.nD Cert.BranchKernel.τ).loc Cert.BranchKernel.main_arg0)
      ∧ r.2.mem ((c.tc : Thread Cert.BranchKernel.nD Cert.BranchKernel.τ).loc Cert.BranchKernel.main_arg1) = m ((c.tc : Thread Cert.BranchKernel.nD Cert.BranchKernel.τ).loc Cert.BranchKernel.main_arg1))
      ∧ r.2.sem = fun _ => 0)

def quiescent_BranchKernelIdeal [hBranchKernelIdeal : Cert.BranchKernelIdeal.Facts] : Prop :=
  ∀ (m : (ℓ : Loc Cert.BranchKernelIdeal.nD Cert.BranchKernelIdeal.τ Cert.BranchKernelIdeal.sig) → Buf (Elt Ideal) ℓ) (g : Dev Cert.BranchKernelIdeal.nD → PrngReg), Pre_BranchKernelIdeal m →
    θ_run (Cert.BranchKernelIdeal.defs (F := Ideal)) (onTc (τ := Cert.BranchKernelIdeal.τ) (Cert.BranchKernelIdeal.main (F := Ideal))) ⟨m, fun _ => 0, g⟩ (fun r => (∀ c : Dev Cert.BranchKernelIdeal.nD,
      r.2.mem ((c.tc : Thread Cert.BranchKernelIdeal.nD Cert.BranchKernelIdeal.τ).loc Cert.BranchKernelIdeal.main_arg0) = m ((c.tc : Thread Cert.BranchKernelIdeal.nD Cert.BranchKernelIdeal.τ).loc Cert.BranchKernelIdeal.main_arg0)
      ∧ r.2.mem ((c.tc : Thread Cert.BranchKernelIdeal.nD Cert.BranchKernelIdeal.τ).loc Cert.BranchKernelIdeal.main_arg1) = m ((c.tc : Thread Cert.BranchKernelIdeal.nD Cert.BranchKernelIdeal.τ).loc Cert.BranchKernelIdeal.main_arg1))
      ∧ r.2.sem = fun _ => 0)

def quiescent_BranchReferenceIdeal [hBranchReferenceIdeal : Cert.BranchReferenceIdeal.Facts] : Prop :=
  ∀ (m : (ℓ : Loc Cert.BranchReferenceIdeal.nD Cert.BranchReferenceIdeal.τ Cert.BranchReferenceIdeal.sig) → Buf (Elt Ideal) ℓ) (g : Dev Cert.BranchReferenceIdeal.nD → PrngReg), Pre_BranchReferenceIdeal m →
    θ_run (Cert.BranchReferenceIdeal.defs (F := Ideal)) (onTc (τ := Cert.BranchReferenceIdeal.τ) (Cert.BranchReferenceIdeal.main (F := Ideal))) ⟨m, fun _ => 0, g⟩ (fun r => (∀ c : Dev Cert.BranchReferenceIdeal.nD,
      r.2.mem ((c.tc : Thread Cert.BranchReferenceIdeal.nD Cert.BranchReferenceIdeal.τ).loc Cert.BranchReferenceIdeal.main_arg0) = m ((c.tc : Thread Cert.BranchReferenceIdeal.nD Cert.BranchReferenceIdeal.τ).loc Cert.BranchReferenceIdeal.main_arg0)
      ∧ r.2.mem ((c.tc : Thread Cert.BranchReferenceIdeal.nD Cert.BranchReferenceIdeal.τ).loc Cert.BranchReferenceIdeal.main_arg1) = m ((c.tc : Thread Cert.BranchReferenceIdeal.nD Cert.BranchReferenceIdeal.τ).loc Cert.BranchReferenceIdeal.main_arg1))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4))
      ∧ r.2.sem = fun _ => 0)

def quiescent_UpKernel [hUpKernel : Cert.UpKernel.Facts] : Prop :=
  ∀ (m : (ℓ : Loc Cert.UpKernel.nD Cert.UpKernel.τ Cert.UpKernel.sig) → Buf (Elt Bits) ℓ) (g : Dev Cert.UpKernel.nD → PrngReg), Pre_UpKernel m →
    θ_run (Cert.UpKernel.defs (F := Bits)) (onTc (τ := Cert.UpKernel.τ) (Cert.UpKernel.main (F := Bits))) ⟨m, fun _ => 0, g⟩ (fun r => (∀ c : Dev Cert.UpKernel.nD,
      r.2.mem ((c.tc : Thread Cert.UpKernel.nD Cert.UpKernel.τ).loc Cert.UpKernel.main_arg0) = m ((c.tc : Thread Cert.UpKernel.nD Cert.UpKernel.τ).loc Cert.UpKernel.main_arg0)
      ∧ r.2.mem ((c.tc : Thread Cert.UpKernel.nD Cert.UpKernel.τ).loc Cert.UpKernel.main_arg1) = m ((c.tc : Thread Cert.UpKernel.nD Cert.UpKernel.τ).loc Cert.UpKernel.main_arg1))
      ∧ r.2.sem = fun _ => 0)

def quiescent_UpKernelIdeal [hUpKernelIdeal : Cert.UpKernelIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg), Pre_UpKernelIdeal m →
    θ_run (Cert.UpKernelIdeal.defs (F := Ideal)) (onTc (τ := Cert.UpKernelIdeal.τ) (Cert.UpKernelIdeal.main (F := Ideal))) ⟨m, fun _ => 0, g⟩ (fun r => (∀ c : Dev Cert.UpKernelIdeal.nD,
      r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
      ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_DownKernel [hDownKernel : Cert.DownKernel.Facts] : Prop :=
  ∀ (m : (ℓ : Loc Cert.DownKernel.nD Cert.DownKernel.τ Cert.DownKernel.sig) → Buf (Elt Bits) ℓ) (g : Dev Cert.DownKernel.nD → PrngReg), Pre_DownKernel m →
    θ_run (Cert.DownKernel.defs (F := Bits)) (onTc (τ := Cert.DownKernel.τ) (Cert.DownKernel.main (F := Bits))) ⟨m, fun _ => 0, g⟩ (fun r => (∀ c : Dev Cert.DownKernel.nD,
      r.2.mem ((c.tc : Thread Cert.DownKernel.nD Cert.DownKernel.τ).loc Cert.DownKernel.main_arg0) = m ((c.tc : Thread Cert.DownKernel.nD Cert.DownKernel.τ).loc Cert.DownKernel.main_arg0)
      ∧ r.2.mem ((c.tc : Thread Cert.DownKernel.nD Cert.DownKernel.τ).loc Cert.DownKernel.main_arg1) = m ((c.tc : Thread Cert.DownKernel.nD Cert.DownKernel.τ).loc Cert.DownKernel.main_arg1)
      ∧ r.2.mem ((c.tc : Thread Cert.DownKernel.nD Cert.DownKernel.τ).loc Cert.DownKernel.main_arg2) = m ((c.tc : Thread Cert.DownKernel.nD Cert.DownKernel.τ).loc Cert.DownKernel.main_arg2)
      ∧ r.2.mem ((c.tc : Thread Cert.DownKernel.nD Cert.DownKernel.τ).loc Cert.DownKernel.main_arg3) = m ((c.tc : Thread Cert.DownKernel.nD Cert.DownKernel.τ).loc Cert.DownKernel.main_arg3))
      ∧ r.2.sem = fun _ => 0)

def quiescent_DownKernelIdeal [hDownKernelIdeal : Cert.DownKernelIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg), Pre_DownKernelIdeal m →
    θ_run (Cert.DownKernelIdeal.defs (F := Ideal)) (onTc (τ := Cert.DownKernelIdeal.τ) (Cert.DownKernelIdeal.main (F := Ideal))) ⟨m, fun _ => 0, g⟩ (fun r => (∀ c : Dev Cert.DownKernelIdeal.nD,
      r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
      ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
      ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2)
      ∧ r.2.mem ((c.tc : Thread Cert.DownKernelIdeal.nD Cert.DownKernelIdeal.τ).loc Cert.DownKernelIdeal.main_arg3) = m ((c.tc : Thread Cert.DownKernelIdeal.nD Cert.DownKernelIdeal.τ).loc Cert.DownKernelIdeal.main_arg3))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3))
      ∧ r.2.sem = fun _ => 0)

def quiescent_ConvInKernel [hConvInKernel : Cert.ConvInKernel.Facts] : Prop :=
  ∀ (m : (ℓ : Loc Cert.ConvInKernel.nD Cert.ConvInKernel.τ Cert.ConvInKernel.sig) → Buf (Elt Bits) ℓ) (g : Dev Cert.ConvInKernel.nD → PrngReg), Pre_ConvInKernel m →
    θ_run (Cert.ConvInKernel.defs (F := Bits)) (onTc (τ := Cert.ConvInKernel.τ) (Cert.ConvInKernel.main (F := Bits))) ⟨m, fun _ => 0, g⟩ (fun r => (∀ c : Dev Cert.ConvInKernel.nD,
      r.2.mem ((c.tc : Thread Cert.ConvInKernel.nD Cert.ConvInKernel.τ).loc Cert.ConvInKernel.main_arg0) = m ((c.tc : Thread Cert.ConvInKernel.nD Cert.ConvInKernel.τ).loc Cert.ConvInKernel.main_arg0)
      ∧ r.2.mem ((c.tc : Thread Cert.ConvInKernel.nD Cert.ConvInKernel.τ).loc Cert.ConvInKernel.main_arg1) = m ((c.tc : Thread Cert.ConvInKernel.nD Cert.ConvInKernel.τ).loc Cert.ConvInKernel.main_arg1))
      ∧ r.2.sem = fun _ => 0)

def quiescent_ConvInKernelIdeal [hConvInKernelIdeal : Cert.ConvInKernelIdeal.Facts] : Prop :=
  ∀ (m : (ℓ : Loc Cert.ConvInKernelIdeal.nD Cert.ConvInKernelIdeal.τ Cert.ConvInKernelIdeal.sig) → Buf (Elt Ideal) ℓ) (g : Dev Cert.ConvInKernelIdeal.nD → PrngReg), Pre_ConvInKernelIdeal m →
    θ_run (Cert.ConvInKernelIdeal.defs (F := Ideal)) (onTc (τ := Cert.ConvInKernelIdeal.τ) (Cert.ConvInKernelIdeal.main (F := Ideal))) ⟨m, fun _ => 0, g⟩ (fun r => (∀ c : Dev Cert.ConvInKernelIdeal.nD,
      r.2.mem ((c.tc : Thread Cert.ConvInKernelIdeal.nD Cert.ConvInKernelIdeal.τ).loc Cert.ConvInKernelIdeal.main_arg0) = m ((c.tc : Thread Cert.ConvInKernelIdeal.nD Cert.ConvInKernelIdeal.τ).loc Cert.ConvInKernelIdeal.main_arg0)
      ∧ r.2.mem ((c.tc : Thread Cert.ConvInKernelIdeal.nD Cert.ConvInKernelIdeal.τ).loc Cert.ConvInKernelIdeal.main_arg1) = m ((c.tc : Thread Cert.ConvInKernelIdeal.nD Cert.ConvInKernelIdeal.τ).loc Cert.ConvInKernelIdeal.main_arg1))
      ∧ r.2.sem = fun _ => 0)

def quiescent_ConvInReferenceIdeal [hConvInReferenceIdeal : Cert.ConvInReferenceIdeal.Facts] : Prop :=
  ∀ (m : (ℓ : Loc Cert.ConvInReferenceIdeal.nD Cert.ConvInReferenceIdeal.τ Cert.ConvInReferenceIdeal.sig) → Buf (Elt Ideal) ℓ) (g : Dev Cert.ConvInReferenceIdeal.nD → PrngReg), Pre_ConvInReferenceIdeal m →
    θ_run (Cert.ConvInReferenceIdeal.defs (F := Ideal)) (onTc (τ := Cert.ConvInReferenceIdeal.τ) (Cert.ConvInReferenceIdeal.main (F := Ideal))) ⟨m, fun _ => 0, g⟩ (fun r => (∀ c : Dev Cert.ConvInReferenceIdeal.nD,
      r.2.mem ((c.tc : Thread Cert.ConvInReferenceIdeal.nD Cert.ConvInReferenceIdeal.τ).loc Cert.ConvInReferenceIdeal.main_arg0) = m ((c.tc : Thread Cert.ConvInReferenceIdeal.nD Cert.ConvInReferenceIdeal.τ).loc Cert.ConvInReferenceIdeal.main_arg0)
      ∧ r.2.mem ((c.tc : Thread Cert.ConvInReferenceIdeal.nD Cert.ConvInReferenceIdeal.τ).loc Cert.ConvInReferenceIdeal.main_arg1) = m ((c.tc : Thread Cert.ConvInReferenceIdeal.nD Cert.ConvInReferenceIdeal.τ).loc Cert.ConvInReferenceIdeal.main_arg1))
      ∧ r.2.sem = fun _ => 0)

def quiescent_VProjKernel [hVProjKernel : Cert.VProjKernel.Facts] : Prop :=
  ∀ (m : (ℓ : Loc Cert.VProjKernel.nD Cert.VProjKernel.τ Cert.VProjKernel.sig) → Buf (Elt Bits) ℓ) (g : Dev Cert.VProjKernel.nD → PrngReg), Pre_VProjKernel m →
    θ_run (Cert.VProjKernel.defs (F := Bits)) (onTc (τ := Cert.VProjKernel.τ) (Cert.VProjKernel.main (F := Bits))) ⟨m, fun _ => 0, g⟩ (fun r => (∀ c : Dev Cert.VProjKernel.nD,
      r.2.mem ((c.tc : Thread Cert.VProjKernel.nD Cert.VProjKernel.τ).loc Cert.VProjKernel.main_arg0) = m ((c.tc : Thread Cert.VProjKernel.nD Cert.VProjKernel.τ).loc Cert.VProjKernel.main_arg0)
      ∧ r.2.mem ((c.tc : Thread Cert.VProjKernel.nD Cert.VProjKernel.τ).loc Cert.VProjKernel.main_arg1) = m ((c.tc : Thread Cert.VProjKernel.nD Cert.VProjKernel.τ).loc Cert.VProjKernel.main_arg1))
      ∧ r.2.sem = fun _ => 0)

def quiescent_VProjKernelIdeal [hVProjKernelIdeal : Cert.VProjKernelIdeal.Facts] : Prop :=
  ∀ (m : (ℓ : Loc Cert.VProjKernelIdeal.nD Cert.VProjKernelIdeal.τ Cert.VProjKernelIdeal.sig) → Buf (Elt Ideal) ℓ) (g : Dev Cert.VProjKernelIdeal.nD → PrngReg), Pre_VProjKernelIdeal m →
    θ_run (Cert.VProjKernelIdeal.defs (F := Ideal)) (onTc (τ := Cert.VProjKernelIdeal.τ) (Cert.VProjKernelIdeal.main (F := Ideal))) ⟨m, fun _ => 0, g⟩ (fun r => (∀ c : Dev Cert.VProjKernelIdeal.nD,
      r.2.mem ((c.tc : Thread Cert.VProjKernelIdeal.nD Cert.VProjKernelIdeal.τ).loc Cert.VProjKernelIdeal.main_arg0) = m ((c.tc : Thread Cert.VProjKernelIdeal.nD Cert.VProjKernelIdeal.τ).loc Cert.VProjKernelIdeal.main_arg0)
      ∧ r.2.mem ((c.tc : Thread Cert.VProjKernelIdeal.nD Cert.VProjKernelIdeal.τ).loc Cert.VProjKernelIdeal.main_arg1) = m ((c.tc : Thread Cert.VProjKernelIdeal.nD Cert.VProjKernelIdeal.τ).loc Cert.VProjKernelIdeal.main_arg1))
      ∧ r.2.sem = fun _ => 0)

def quiescent_VProjReferenceIdeal [hVProjReferenceIdeal : Cert.VProjReferenceIdeal.Facts] : Prop :=
  ∀ (m : (ℓ : Loc Cert.VProjReferenceIdeal.nD Cert.VProjReferenceIdeal.τ Cert.VProjReferenceIdeal.sig) → Buf (Elt Ideal) ℓ) (g : Dev Cert.VProjReferenceIdeal.nD → PrngReg), Pre_VProjReferenceIdeal m →
    θ_run (Cert.VProjReferenceIdeal.defs (F := Ideal)) (onTc (τ := Cert.VProjReferenceIdeal.τ) (Cert.VProjReferenceIdeal.main (F := Ideal))) ⟨m, fun _ => 0, g⟩ (fun r => (∀ c : Dev Cert.VProjReferenceIdeal.nD,
      r.2.mem ((c.tc : Thread Cert.VProjReferenceIdeal.nD Cert.VProjReferenceIdeal.τ).loc Cert.VProjReferenceIdeal.main_arg0) = m ((c.tc : Thread Cert.VProjReferenceIdeal.nD Cert.VProjReferenceIdeal.τ).loc Cert.VProjReferenceIdeal.main_arg0)
      ∧ r.2.mem ((c.tc : Thread Cert.VProjReferenceIdeal.nD Cert.VProjReferenceIdeal.τ).loc Cert.VProjReferenceIdeal.main_arg1) = m ((c.tc : Thread Cert.VProjReferenceIdeal.nD Cert.VProjReferenceIdeal.τ).loc Cert.VProjReferenceIdeal.main_arg1))
      ∧ r.2.sem = fun _ => 0)

def quiescent_GatesKernel [hGatesKernel : Cert.GatesKernel.Facts] : Prop :=
  ∀ (m : (ℓ : Loc Cert.GatesKernel.nD Cert.GatesKernel.τ Cert.GatesKernel.sig) → Buf (Elt Bits) ℓ) (g : Dev Cert.GatesKernel.nD → PrngReg), Pre_GatesKernel m →
    θ_run (Cert.GatesKernel.defs (F := Bits)) (onTc (τ := Cert.GatesKernel.τ) (Cert.GatesKernel.main (F := Bits))) ⟨m, fun _ => 0, g⟩ (fun r => (∀ c : Dev Cert.GatesKernel.nD,
      r.2.mem ((c.tc : Thread Cert.GatesKernel.nD Cert.GatesKernel.τ).loc Cert.GatesKernel.main_arg0) = m ((c.tc : Thread Cert.GatesKernel.nD Cert.GatesKernel.τ).loc Cert.GatesKernel.main_arg0)
      ∧ r.2.mem ((c.tc : Thread Cert.GatesKernel.nD Cert.GatesKernel.τ).loc Cert.GatesKernel.main_arg1) = m ((c.tc : Thread Cert.GatesKernel.nD Cert.GatesKernel.τ).loc Cert.GatesKernel.main_arg1)
      ∧ r.2.mem ((c.tc : Thread Cert.GatesKernel.nD Cert.GatesKernel.τ).loc Cert.GatesKernel.main_arg2) = m ((c.tc : Thread Cert.GatesKernel.nD Cert.GatesKernel.τ).loc Cert.GatesKernel.main_arg2))
      ∧ r.2.sem = fun _ => 0)

def quiescent_GatesKernelIdeal [hGatesKernelIdeal : Cert.GatesKernelIdeal.Facts] : Prop :=
  ∀ (m : (ℓ : Loc Cert.GatesKernelIdeal.nD Cert.GatesKernelIdeal.τ Cert.GatesKernelIdeal.sig) → Buf (Elt Ideal) ℓ) (g : Dev Cert.GatesKernelIdeal.nD → PrngReg), Pre_GatesKernelIdeal m →
    θ_run (Cert.GatesKernelIdeal.defs (F := Ideal)) (onTc (τ := Cert.GatesKernelIdeal.τ) (Cert.GatesKernelIdeal.main (F := Ideal))) ⟨m, fun _ => 0, g⟩ (fun r => (∀ c : Dev Cert.GatesKernelIdeal.nD,
      r.2.mem ((c.tc : Thread Cert.GatesKernelIdeal.nD Cert.GatesKernelIdeal.τ).loc Cert.GatesKernelIdeal.main_arg0) = m ((c.tc : Thread Cert.GatesKernelIdeal.nD Cert.GatesKernelIdeal.τ).loc Cert.GatesKernelIdeal.main_arg0)
      ∧ r.2.mem ((c.tc : Thread Cert.GatesKernelIdeal.nD Cert.GatesKernelIdeal.τ).loc Cert.GatesKernelIdeal.main_arg1) = m ((c.tc : Thread Cert.GatesKernelIdeal.nD Cert.GatesKernelIdeal.τ).loc Cert.GatesKernelIdeal.main_arg1)
      ∧ r.2.mem ((c.tc : Thread Cert.GatesKernelIdeal.nD Cert.GatesKernelIdeal.τ).loc Cert.GatesKernelIdeal.main_arg2) = m ((c.tc : Thread Cert.GatesKernelIdeal.nD Cert.GatesKernelIdeal.τ).loc Cert.GatesKernelIdeal.main_arg2))
      ∧ r.2.sem = fun _ => 0)

def quiescent_GatesReferenceIdeal [hGatesReferenceIdeal : Cert.GatesReferenceIdeal.Facts] : Prop :=
  ∀ (m : (ℓ : Loc Cert.GatesReferenceIdeal.nD Cert.GatesReferenceIdeal.τ Cert.GatesReferenceIdeal.sig) → Buf (Elt Ideal) ℓ) (g : Dev Cert.GatesReferenceIdeal.nD → PrngReg), Pre_GatesReferenceIdeal m →
    θ_run (Cert.GatesReferenceIdeal.defs (F := Ideal)) (onTc (τ := Cert.GatesReferenceIdeal.τ) (Cert.GatesReferenceIdeal.main (F := Ideal))) ⟨m, fun _ => 0, g⟩ (fun r => (∀ c : Dev Cert.GatesReferenceIdeal.nD,
      r.2.mem ((c.tc : Thread Cert.GatesReferenceIdeal.nD Cert.GatesReferenceIdeal.τ).loc Cert.GatesReferenceIdeal.main_arg0) = m ((c.tc : Thread Cert.GatesReferenceIdeal.nD Cert.GatesReferenceIdeal.τ).loc Cert.GatesReferenceIdeal.main_arg0)
      ∧ r.2.mem ((c.tc : Thread Cert.GatesReferenceIdeal.nD Cert.GatesReferenceIdeal.τ).loc Cert.GatesReferenceIdeal.main_arg1) = m ((c.tc : Thread Cert.GatesReferenceIdeal.nD Cert.GatesReferenceIdeal.τ).loc Cert.GatesReferenceIdeal.main_arg1)
      ∧ r.2.mem ((c.tc : Thread Cert.GatesReferenceIdeal.nD Cert.GatesReferenceIdeal.τ).loc Cert.GatesReferenceIdeal.main_arg2) = m ((c.tc : Thread Cert.GatesReferenceIdeal.nD Cert.GatesReferenceIdeal.τ).loc Cert.GatesReferenceIdeal.main_arg2))
      ∧ r.2.sem = fun _ => 0)

def quiescent_MixedKernel [hMixedKernel : Cert.MixedKernel.Facts] : Prop :=
  ∀ (m : (ℓ : Loc Cert.MixedKernel.nD Cert.MixedKernel.τ Cert.MixedKernel.sig) → Buf (Elt Bits) ℓ) (g : Dev Cert.MixedKernel.nD → PrngReg), Pre_MixedKernel m →
    θ_run (Cert.MixedKernel.defs (F := Bits)) (onTc (τ := Cert.MixedKernel.τ) (Cert.MixedKernel.main (F := Bits))) ⟨m, fun _ => 0, g⟩ (fun r => (∀ c : Dev Cert.MixedKernel.nD,
      r.2.mem ((c.tc : Thread Cert.MixedKernel.nD Cert.MixedKernel.τ).loc Cert.MixedKernel.main_arg0) = m ((c.tc : Thread Cert.MixedKernel.nD Cert.MixedKernel.τ).loc Cert.MixedKernel.main_arg0)
      ∧ r.2.mem ((c.tc : Thread Cert.MixedKernel.nD Cert.MixedKernel.τ).loc Cert.MixedKernel.main_arg1) = m ((c.tc : Thread Cert.MixedKernel.nD Cert.MixedKernel.τ).loc Cert.MixedKernel.main_arg1))
      ∧ r.2.sem = fun _ => 0)

def quiescent_MixedKernelIdeal [hMixedKernelIdeal : Cert.MixedKernelIdeal.Facts] : Prop :=
  ∀ (m : (ℓ : Loc Cert.MixedKernelIdeal.nD Cert.MixedKernelIdeal.τ Cert.MixedKernelIdeal.sig) → Buf (Elt Ideal) ℓ) (g : Dev Cert.MixedKernelIdeal.nD → PrngReg), Pre_MixedKernelIdeal m →
    θ_run (Cert.MixedKernelIdeal.defs (F := Ideal)) (onTc (τ := Cert.MixedKernelIdeal.τ) (Cert.MixedKernelIdeal.main (F := Ideal))) ⟨m, fun _ => 0, g⟩ (fun r => (∀ c : Dev Cert.MixedKernelIdeal.nD,
      r.2.mem ((c.tc : Thread Cert.MixedKernelIdeal.nD Cert.MixedKernelIdeal.τ).loc Cert.MixedKernelIdeal.main_arg0) = m ((c.tc : Thread Cert.MixedKernelIdeal.nD Cert.MixedKernelIdeal.τ).loc Cert.MixedKernelIdeal.main_arg0)
      ∧ r.2.mem ((c.tc : Thread Cert.MixedKernelIdeal.nD Cert.MixedKernelIdeal.τ).loc Cert.MixedKernelIdeal.main_arg1) = m ((c.tc : Thread Cert.MixedKernelIdeal.nD Cert.MixedKernelIdeal.τ).loc Cert.MixedKernelIdeal.main_arg1))
      ∧ r.2.sem = fun _ => 0)

def quiescent_MixedReferenceIdeal [hMixedReferenceIdeal : Cert.MixedReferenceIdeal.Facts] : Prop :=
  ∀ (m : (ℓ : Loc Cert.MixedReferenceIdeal.nD Cert.MixedReferenceIdeal.τ Cert.MixedReferenceIdeal.sig) → Buf (Elt Ideal) ℓ) (g : Dev Cert.MixedReferenceIdeal.nD → PrngReg), Pre_MixedReferenceIdeal m →
    θ_run (Cert.MixedReferenceIdeal.defs (F := Ideal)) (onTc (τ := Cert.MixedReferenceIdeal.τ) (Cert.MixedReferenceIdeal.main (F := Ideal))) ⟨m, fun _ => 0, g⟩ (fun r => (∀ c : Dev Cert.MixedReferenceIdeal.nD,
      r.2.mem ((c.tc : Thread Cert.MixedReferenceIdeal.nD Cert.MixedReferenceIdeal.τ).loc Cert.MixedReferenceIdeal.main_arg0) = m ((c.tc : Thread Cert.MixedReferenceIdeal.nD Cert.MixedReferenceIdeal.τ).loc Cert.MixedReferenceIdeal.main_arg0)
      ∧ r.2.mem ((c.tc : Thread Cert.MixedReferenceIdeal.nD Cert.MixedReferenceIdeal.τ).loc Cert.MixedReferenceIdeal.main_arg1) = m ((c.tc : Thread Cert.MixedReferenceIdeal.nD Cert.MixedReferenceIdeal.τ).loc Cert.MixedReferenceIdeal.main_arg1))
      ∧ r.2.sem = fun _ => 0)

def quiescent_MergedKernel [hMergedKernel : Cert.MergedKernel.Facts] : Prop :=
  ∀ (m : (ℓ : Loc Cert.MergedKernel.nD Cert.MergedKernel.τ Cert.MergedKernel.sig) → Buf (Elt Bits) ℓ) (g : Dev Cert.MergedKernel.nD → PrngReg), Pre_MergedKernel m →
    θ_run (Cert.MergedKernel.defs (F := Bits)) (onTc (τ := Cert.MergedKernel.τ) (Cert.MergedKernel.main (F := Bits))) ⟨m, fun _ => 0, g⟩ (fun r => (∀ c : Dev Cert.MergedKernel.nD,
      r.2.mem ((c.tc : Thread Cert.MergedKernel.nD Cert.MergedKernel.τ).loc Cert.MergedKernel.main_arg0) = m ((c.tc : Thread Cert.MergedKernel.nD Cert.MergedKernel.τ).loc Cert.MergedKernel.main_arg0)
      ∧ r.2.mem ((c.tc : Thread Cert.MergedKernel.nD Cert.MergedKernel.τ).loc Cert.MergedKernel.main_arg1) = m ((c.tc : Thread Cert.MergedKernel.nD Cert.MergedKernel.τ).loc Cert.MergedKernel.main_arg1)
      ∧ r.2.mem ((c.tc : Thread Cert.MergedKernel.nD Cert.MergedKernel.τ).loc Cert.MergedKernel.main_arg2) = m ((c.tc : Thread Cert.MergedKernel.nD Cert.MergedKernel.τ).loc Cert.MergedKernel.main_arg2)
      ∧ r.2.mem ((c.tc : Thread Cert.MergedKernel.nD Cert.MergedKernel.τ).loc Cert.MergedKernel.main_arg3) = m ((c.tc : Thread Cert.MergedKernel.nD Cert.MergedKernel.τ).loc Cert.MergedKernel.main_arg3))
      ∧ r.2.sem = fun _ => 0)

def quiescent_MergedKernelIdeal [hMergedKernelIdeal : Cert.MergedKernelIdeal.Facts] : Prop :=
  ∀ (m : (ℓ : Loc Cert.MergedKernelIdeal.nD Cert.MergedKernelIdeal.τ Cert.MergedKernelIdeal.sig) → Buf (Elt Ideal) ℓ) (g : Dev Cert.MergedKernelIdeal.nD → PrngReg), Pre_MergedKernelIdeal m →
    θ_run (Cert.MergedKernelIdeal.defs (F := Ideal)) (onTc (τ := Cert.MergedKernelIdeal.τ) (Cert.MergedKernelIdeal.main (F := Ideal))) ⟨m, fun _ => 0, g⟩ (fun r => (∀ c : Dev Cert.MergedKernelIdeal.nD,
      r.2.mem ((c.tc : Thread Cert.MergedKernelIdeal.nD Cert.MergedKernelIdeal.τ).loc Cert.MergedKernelIdeal.main_arg0) = m ((c.tc : Thread Cert.MergedKernelIdeal.nD Cert.MergedKernelIdeal.τ).loc Cert.MergedKernelIdeal.main_arg0)
      ∧ r.2.mem ((c.tc : Thread Cert.MergedKernelIdeal.nD Cert.MergedKernelIdeal.τ).loc Cert.MergedKernelIdeal.main_arg1) = m ((c.tc : Thread Cert.MergedKernelIdeal.nD Cert.MergedKernelIdeal.τ).loc Cert.MergedKernelIdeal.main_arg1)
      ∧ r.2.mem ((c.tc : Thread Cert.MergedKernelIdeal.nD Cert.MergedKernelIdeal.τ).loc Cert.MergedKernelIdeal.main_arg2) = m ((c.tc : Thread Cert.MergedKernelIdeal.nD Cert.MergedKernelIdeal.τ).loc Cert.MergedKernelIdeal.main_arg2)
      ∧ r.2.mem ((c.tc : Thread Cert.MergedKernelIdeal.nD Cert.MergedKernelIdeal.τ).loc Cert.MergedKernelIdeal.main_arg3) = m ((c.tc : Thread Cert.MergedKernelIdeal.nD Cert.MergedKernelIdeal.τ).loc Cert.MergedKernelIdeal.main_arg3))
      ∧ r.2.sem = fun _ => 0)

def quiescent_MergedReferenceIdeal [hMergedReferenceIdeal : Cert.MergedReferenceIdeal.Facts] : Prop :=
  ∀ (m : (ℓ : Loc Cert.MergedReferenceIdeal.nD Cert.MergedReferenceIdeal.τ Cert.MergedReferenceIdeal.sig) → Buf (Elt Ideal) ℓ) (g : Dev Cert.MergedReferenceIdeal.nD → PrngReg), Pre_MergedReferenceIdeal m →
    θ_run (Cert.MergedReferenceIdeal.defs (F := Ideal)) (onTc (τ := Cert.MergedReferenceIdeal.τ) (Cert.MergedReferenceIdeal.main (F := Ideal))) ⟨m, fun _ => 0, g⟩ (fun r => (∀ c : Dev Cert.MergedReferenceIdeal.nD,
      r.2.mem ((c.tc : Thread Cert.MergedReferenceIdeal.nD Cert.MergedReferenceIdeal.τ).loc Cert.MergedReferenceIdeal.main_arg0) = m ((c.tc : Thread Cert.MergedReferenceIdeal.nD Cert.MergedReferenceIdeal.τ).loc Cert.MergedReferenceIdeal.main_arg0)
      ∧ r.2.mem ((c.tc : Thread Cert.MergedReferenceIdeal.nD Cert.MergedReferenceIdeal.τ).loc Cert.MergedReferenceIdeal.main_arg1) = m ((c.tc : Thread Cert.MergedReferenceIdeal.nD Cert.MergedReferenceIdeal.τ).loc Cert.MergedReferenceIdeal.main_arg1)
      ∧ r.2.mem ((c.tc : Thread Cert.MergedReferenceIdeal.nD Cert.MergedReferenceIdeal.τ).loc Cert.MergedReferenceIdeal.main_arg2) = m ((c.tc : Thread Cert.MergedReferenceIdeal.nD Cert.MergedReferenceIdeal.τ).loc Cert.MergedReferenceIdeal.main_arg2)
      ∧ r.2.mem ((c.tc : Thread Cert.MergedReferenceIdeal.nD Cert.MergedReferenceIdeal.τ).loc Cert.MergedReferenceIdeal.main_arg3) = m ((c.tc : Thread Cert.MergedReferenceIdeal.nD Cert.MergedReferenceIdeal.τ).loc Cert.MergedReferenceIdeal.main_arg3))
      ∧ r.2.sem = fun _ => 0)

def quiescent_ResidualKernel [hResidualKernel : Cert.ResidualKernel.Facts] : Prop :=
  ∀ (m : (ℓ : Loc Cert.ResidualKernel.nD Cert.ResidualKernel.τ Cert.ResidualKernel.sig) → Buf (Elt Bits) ℓ) (g : Dev Cert.ResidualKernel.nD → PrngReg), Pre_ResidualKernel m →
    θ_run (Cert.ResidualKernel.defs (F := Bits)) (onTc (τ := Cert.ResidualKernel.τ) (Cert.ResidualKernel.main (F := Bits))) ⟨m, fun _ => 0, g⟩ (fun r => (∀ c : Dev Cert.ResidualKernel.nD,
      r.2.mem ((c.tc : Thread Cert.ResidualKernel.nD Cert.ResidualKernel.τ).loc Cert.ResidualKernel.main_arg0) = m ((c.tc : Thread Cert.ResidualKernel.nD Cert.ResidualKernel.τ).loc Cert.ResidualKernel.main_arg0)
      ∧ r.2.mem ((c.tc : Thread Cert.ResidualKernel.nD Cert.ResidualKernel.τ).loc Cert.ResidualKernel.main_arg1) = m ((c.tc : Thread Cert.ResidualKernel.nD Cert.ResidualKernel.τ).loc Cert.ResidualKernel.main_arg1)
      ∧ r.2.mem ((c.tc : Thread Cert.ResidualKernel.nD Cert.ResidualKernel.τ).loc Cert.ResidualKernel.main_arg2) = m ((c.tc : Thread Cert.ResidualKernel.nD Cert.ResidualKernel.τ).loc Cert.ResidualKernel.main_arg2)
      ∧ r.2.mem ((c.tc : Thread Cert.ResidualKernel.nD Cert.ResidualKernel.τ).loc Cert.ResidualKernel.main_arg3) = m ((c.tc : Thread Cert.ResidualKernel.nD Cert.ResidualKernel.τ).loc Cert.ResidualKernel.main_arg3))
      ∧ r.2.sem = fun _ => 0)

def quiescent_ResidualKernelIdeal [hResidualKernelIdeal : Cert.ResidualKernelIdeal.Facts] : Prop :=
  ∀ (m : (ℓ : Loc Cert.ResidualKernelIdeal.nD Cert.ResidualKernelIdeal.τ Cert.ResidualKernelIdeal.sig) → Buf (Elt Ideal) ℓ) (g : Dev Cert.ResidualKernelIdeal.nD → PrngReg), Pre_ResidualKernelIdeal m →
    θ_run (Cert.ResidualKernelIdeal.defs (F := Ideal)) (onTc (τ := Cert.ResidualKernelIdeal.τ) (Cert.ResidualKernelIdeal.main (F := Ideal))) ⟨m, fun _ => 0, g⟩ (fun r => (∀ c : Dev Cert.ResidualKernelIdeal.nD,
      r.2.mem ((c.tc : Thread Cert.ResidualKernelIdeal.nD Cert.ResidualKernelIdeal.τ).loc Cert.ResidualKernelIdeal.main_arg0) = m ((c.tc : Thread Cert.ResidualKernelIdeal.nD Cert.ResidualKernelIdeal.τ).loc Cert.ResidualKernelIdeal.main_arg0)
      ∧ r.2.mem ((c.tc : Thread Cert.ResidualKernelIdeal.nD Cert.ResidualKernelIdeal.τ).loc Cert.ResidualKernelIdeal.main_arg1) = m ((c.tc : Thread Cert.ResidualKernelIdeal.nD Cert.ResidualKernelIdeal.τ).loc Cert.ResidualKernelIdeal.main_arg1)
      ∧ r.2.mem ((c.tc : Thread Cert.ResidualKernelIdeal.nD Cert.ResidualKernelIdeal.τ).loc Cert.ResidualKernelIdeal.main_arg2) = m ((c.tc : Thread Cert.ResidualKernelIdeal.nD Cert.ResidualKernelIdeal.τ).loc Cert.ResidualKernelIdeal.main_arg2)
      ∧ r.2.mem ((c.tc : Thread Cert.ResidualKernelIdeal.nD Cert.ResidualKernelIdeal.τ).loc Cert.ResidualKernelIdeal.main_arg3) = m ((c.tc : Thread Cert.ResidualKernelIdeal.nD Cert.ResidualKernelIdeal.τ).loc Cert.ResidualKernelIdeal.main_arg3))
      ∧ r.2.sem = fun _ => 0)

def quiescent_ResidualReferenceIdeal [hResidualReferenceIdeal : Cert.ResidualReferenceIdeal.Facts] : Prop :=
  ∀ (m : (ℓ : Loc Cert.ResidualReferenceIdeal.nD Cert.ResidualReferenceIdeal.τ Cert.ResidualReferenceIdeal.sig) → Buf (Elt Ideal) ℓ) (g : Dev Cert.ResidualReferenceIdeal.nD → PrngReg), Pre_ResidualReferenceIdeal m →
    θ_run (Cert.ResidualReferenceIdeal.defs (F := Ideal)) (onTc (τ := Cert.ResidualReferenceIdeal.τ) (Cert.ResidualReferenceIdeal.main (F := Ideal))) ⟨m, fun _ => 0, g⟩ (fun r => (∀ c : Dev Cert.ResidualReferenceIdeal.nD,
      r.2.mem ((c.tc : Thread Cert.ResidualReferenceIdeal.nD Cert.ResidualReferenceIdeal.τ).loc Cert.ResidualReferenceIdeal.main_arg0) = m ((c.tc : Thread Cert.ResidualReferenceIdeal.nD Cert.ResidualReferenceIdeal.τ).loc Cert.ResidualReferenceIdeal.main_arg0)
      ∧ r.2.mem ((c.tc : Thread Cert.ResidualReferenceIdeal.nD Cert.ResidualReferenceIdeal.τ).loc Cert.ResidualReferenceIdeal.main_arg1) = m ((c.tc : Thread Cert.ResidualReferenceIdeal.nD Cert.ResidualReferenceIdeal.τ).loc Cert.ResidualReferenceIdeal.main_arg1)
      ∧ r.2.mem ((c.tc : Thread Cert.ResidualReferenceIdeal.nD Cert.ResidualReferenceIdeal.τ).loc Cert.ResidualReferenceIdeal.main_arg2) = m ((c.tc : Thread Cert.ResidualReferenceIdeal.nD Cert.ResidualReferenceIdeal.τ).loc Cert.ResidualReferenceIdeal.main_arg2)
      ∧ r.2.mem ((c.tc : Thread Cert.ResidualReferenceIdeal.nD Cert.ResidualReferenceIdeal.τ).loc Cert.ResidualReferenceIdeal.main_arg3) = m ((c.tc : Thread Cert.ResidualReferenceIdeal.nD Cert.ResidualReferenceIdeal.τ).loc Cert.ResidualReferenceIdeal.main_arg3))
      ∧ r.2.sem = fun _ => 0)

def quiescent_AdamInKernel [hAdamInKernel : Cert.AdamInKernel.Facts] : Prop :=
  ∀ (m : (ℓ : Loc Cert.AdamInKernel.nD Cert.AdamInKernel.τ Cert.AdamInKernel.sig) → Buf (Elt Bits) ℓ) (g : Dev Cert.AdamInKernel.nD → PrngReg), Pre_AdamInKernel m →
    θ_run (Cert.AdamInKernel.defs (F := Bits)) (onTc (τ := Cert.AdamInKernel.τ) (Cert.AdamInKernel.main (F := Bits))) ⟨m, fun _ => 0, g⟩ (fun r => (∀ c : Dev Cert.AdamInKernel.nD,
      r.2.mem ((c.tc : Thread Cert.AdamInKernel.nD Cert.AdamInKernel.τ).loc Cert.AdamInKernel.main_arg0) = m ((c.tc : Thread Cert.AdamInKernel.nD Cert.AdamInKernel.τ).loc Cert.AdamInKernel.main_arg0)
      ∧ r.2.mem ((c.tc : Thread Cert.AdamInKernel.nD Cert.AdamInKernel.τ).loc Cert.AdamInKernel.main_arg1) = m ((c.tc : Thread Cert.AdamInKernel.nD Cert.AdamInKernel.τ).loc Cert.AdamInKernel.main_arg1)
      ∧ r.2.mem ((c.tc : Thread Cert.AdamInKernel.nD Cert.AdamInKernel.τ).loc Cert.AdamInKernel.main_arg2) = m ((c.tc : Thread Cert.AdamInKernel.nD Cert.AdamInKernel.τ).loc Cert.AdamInKernel.main_arg2)
      ∧ r.2.mem ((c.tc : Thread Cert.AdamInKernel.nD Cert.AdamInKernel.τ).loc Cert.AdamInKernel.main_arg3) = m ((c.tc : Thread Cert.AdamInKernel.nD Cert.AdamInKernel.τ).loc Cert.AdamInKernel.main_arg3))
      ∧ r.2.sem = fun _ => 0)

def quiescent_AdamInKernelIdeal [hAdamInKernelIdeal : Cert.AdamInKernelIdeal.Facts] : Prop :=
  ∀ (m : (ℓ : Loc Cert.AdamInKernelIdeal.nD Cert.AdamInKernelIdeal.τ Cert.AdamInKernelIdeal.sig) → Buf (Elt Ideal) ℓ) (g : Dev Cert.AdamInKernelIdeal.nD → PrngReg), Pre_AdamInKernelIdeal m →
    θ_run (Cert.AdamInKernelIdeal.defs (F := Ideal)) (onTc (τ := Cert.AdamInKernelIdeal.τ) (Cert.AdamInKernelIdeal.main (F := Ideal))) ⟨m, fun _ => 0, g⟩ (fun r => (∀ c : Dev Cert.AdamInKernelIdeal.nD,
      r.2.mem ((c.tc : Thread Cert.AdamInKernelIdeal.nD Cert.AdamInKernelIdeal.τ).loc Cert.AdamInKernelIdeal.main_arg0) = m ((c.tc : Thread Cert.AdamInKernelIdeal.nD Cert.AdamInKernelIdeal.τ).loc Cert.AdamInKernelIdeal.main_arg0)
      ∧ r.2.mem ((c.tc : Thread Cert.AdamInKernelIdeal.nD Cert.AdamInKernelIdeal.τ).loc Cert.AdamInKernelIdeal.main_arg1) = m ((c.tc : Thread Cert.AdamInKernelIdeal.nD Cert.AdamInKernelIdeal.τ).loc Cert.AdamInKernelIdeal.main_arg1)
      ∧ r.2.mem ((c.tc : Thread Cert.AdamInKernelIdeal.nD Cert.AdamInKernelIdeal.τ).loc Cert.AdamInKernelIdeal.main_arg2) = m ((c.tc : Thread Cert.AdamInKernelIdeal.nD Cert.AdamInKernelIdeal.τ).loc Cert.AdamInKernelIdeal.main_arg2)
      ∧ r.2.mem ((c.tc : Thread Cert.AdamInKernelIdeal.nD Cert.AdamInKernelIdeal.τ).loc Cert.AdamInKernelIdeal.main_arg3) = m ((c.tc : Thread Cert.AdamInKernelIdeal.nD Cert.AdamInKernelIdeal.τ).loc Cert.AdamInKernelIdeal.main_arg3))
      ∧ r.2.sem = fun _ => 0)

def quiescent_AdamInReferenceIdeal [hAdamInReferenceIdeal : Cert.AdamInReferenceIdeal.Facts] : Prop :=
  ∀ (m : (ℓ : Loc Cert.AdamInReferenceIdeal.nD Cert.AdamInReferenceIdeal.τ Cert.AdamInReferenceIdeal.sig) → Buf (Elt Ideal) ℓ) (g : Dev Cert.AdamInReferenceIdeal.nD → PrngReg), Pre_AdamInReferenceIdeal m →
    θ_run (Cert.AdamInReferenceIdeal.defs (F := Ideal)) (onTc (τ := Cert.AdamInReferenceIdeal.τ) (Cert.AdamInReferenceIdeal.main (F := Ideal))) ⟨m, fun _ => 0, g⟩ (fun r => (∀ c : Dev Cert.AdamInReferenceIdeal.nD,
      r.2.mem ((c.tc : Thread Cert.AdamInReferenceIdeal.nD Cert.AdamInReferenceIdeal.τ).loc Cert.AdamInReferenceIdeal.main_arg0) = m ((c.tc : Thread Cert.AdamInReferenceIdeal.nD Cert.AdamInReferenceIdeal.τ).loc Cert.AdamInReferenceIdeal.main_arg0)
      ∧ r.2.mem ((c.tc : Thread Cert.AdamInReferenceIdeal.nD Cert.AdamInReferenceIdeal.τ).loc Cert.AdamInReferenceIdeal.main_arg1) = m ((c.tc : Thread Cert.AdamInReferenceIdeal.nD Cert.AdamInReferenceIdeal.τ).loc Cert.AdamInReferenceIdeal.main_arg1)
      ∧ r.2.mem ((c.tc : Thread Cert.AdamInReferenceIdeal.nD Cert.AdamInReferenceIdeal.τ).loc Cert.AdamInReferenceIdeal.main_arg2) = m ((c.tc : Thread Cert.AdamInReferenceIdeal.nD Cert.AdamInReferenceIdeal.τ).loc Cert.AdamInReferenceIdeal.main_arg2)
      ∧ r.2.mem ((c.tc : Thread Cert.AdamInReferenceIdeal.nD Cert.AdamInReferenceIdeal.τ).loc Cert.AdamInReferenceIdeal.main_arg3) = m ((c.tc : Thread Cert.AdamInReferenceIdeal.nD Cert.AdamInReferenceIdeal.τ).loc Cert.AdamInReferenceIdeal.main_arg3))
      ∧ r.2.sem = fun _ => 0)

def quiescent_AdamGateKernel [hAdamGateKernel : Cert.AdamGateKernel.Facts] : Prop :=
  ∀ (m : (ℓ : Loc Cert.AdamGateKernel.nD Cert.AdamGateKernel.τ Cert.AdamGateKernel.sig) → Buf (Elt Bits) ℓ) (g : Dev Cert.AdamGateKernel.nD → PrngReg), Pre_AdamGateKernel m →
    θ_run (Cert.AdamGateKernel.defs (F := Bits)) (onTc (τ := Cert.AdamGateKernel.τ) (Cert.AdamGateKernel.main (F := Bits))) ⟨m, fun _ => 0, g⟩ (fun r => (∀ c : Dev Cert.AdamGateKernel.nD,
      r.2.mem ((c.tc : Thread Cert.AdamGateKernel.nD Cert.AdamGateKernel.τ).loc Cert.AdamGateKernel.main_arg0) = m ((c.tc : Thread Cert.AdamGateKernel.nD Cert.AdamGateKernel.τ).loc Cert.AdamGateKernel.main_arg0)
      ∧ r.2.mem ((c.tc : Thread Cert.AdamGateKernel.nD Cert.AdamGateKernel.τ).loc Cert.AdamGateKernel.main_arg1) = m ((c.tc : Thread Cert.AdamGateKernel.nD Cert.AdamGateKernel.τ).loc Cert.AdamGateKernel.main_arg1)
      ∧ r.2.mem ((c.tc : Thread Cert.AdamGateKernel.nD Cert.AdamGateKernel.τ).loc Cert.AdamGateKernel.main_arg2) = m ((c.tc : Thread Cert.AdamGateKernel.nD Cert.AdamGateKernel.τ).loc Cert.AdamGateKernel.main_arg2)
      ∧ r.2.mem ((c.tc : Thread Cert.AdamGateKernel.nD Cert.AdamGateKernel.τ).loc Cert.AdamGateKernel.main_arg3) = m ((c.tc : Thread Cert.AdamGateKernel.nD Cert.AdamGateKernel.τ).loc Cert.AdamGateKernel.main_arg3))
      ∧ r.2.sem = fun _ => 0)

def quiescent_AdamGateKernelIdeal [hAdamGateKernelIdeal : Cert.AdamGateKernelIdeal.Facts] : Prop :=
  ∀ (m : (ℓ : Loc Cert.AdamGateKernelIdeal.nD Cert.AdamGateKernelIdeal.τ Cert.AdamGateKernelIdeal.sig) → Buf (Elt Ideal) ℓ) (g : Dev Cert.AdamGateKernelIdeal.nD → PrngReg), Pre_AdamGateKernelIdeal m →
    θ_run (Cert.AdamGateKernelIdeal.defs (F := Ideal)) (onTc (τ := Cert.AdamGateKernelIdeal.τ) (Cert.AdamGateKernelIdeal.main (F := Ideal))) ⟨m, fun _ => 0, g⟩ (fun r => (∀ c : Dev Cert.AdamGateKernelIdeal.nD,
      r.2.mem ((c.tc : Thread Cert.AdamGateKernelIdeal.nD Cert.AdamGateKernelIdeal.τ).loc Cert.AdamGateKernelIdeal.main_arg0) = m ((c.tc : Thread Cert.AdamGateKernelIdeal.nD Cert.AdamGateKernelIdeal.τ).loc Cert.AdamGateKernelIdeal.main_arg0)
      ∧ r.2.mem ((c.tc : Thread Cert.AdamGateKernelIdeal.nD Cert.AdamGateKernelIdeal.τ).loc Cert.AdamGateKernelIdeal.main_arg1) = m ((c.tc : Thread Cert.AdamGateKernelIdeal.nD Cert.AdamGateKernelIdeal.τ).loc Cert.AdamGateKernelIdeal.main_arg1)
      ∧ r.2.mem ((c.tc : Thread Cert.AdamGateKernelIdeal.nD Cert.AdamGateKernelIdeal.τ).loc Cert.AdamGateKernelIdeal.main_arg2) = m ((c.tc : Thread Cert.AdamGateKernelIdeal.nD Cert.AdamGateKernelIdeal.τ).loc Cert.AdamGateKernelIdeal.main_arg2)
      ∧ r.2.mem ((c.tc : Thread Cert.AdamGateKernelIdeal.nD Cert.AdamGateKernelIdeal.τ).loc Cert.AdamGateKernelIdeal.main_arg3) = m ((c.tc : Thread Cert.AdamGateKernelIdeal.nD Cert.AdamGateKernelIdeal.τ).loc Cert.AdamGateKernelIdeal.main_arg3))
      ∧ r.2.sem = fun _ => 0)

def quiescent_AdamGateReferenceIdeal [hAdamGateReferenceIdeal : Cert.AdamGateReferenceIdeal.Facts] : Prop :=
  ∀ (m : (ℓ : Loc Cert.AdamGateReferenceIdeal.nD Cert.AdamGateReferenceIdeal.τ Cert.AdamGateReferenceIdeal.sig) → Buf (Elt Ideal) ℓ) (g : Dev Cert.AdamGateReferenceIdeal.nD → PrngReg), Pre_AdamGateReferenceIdeal m →
    θ_run (Cert.AdamGateReferenceIdeal.defs (F := Ideal)) (onTc (τ := Cert.AdamGateReferenceIdeal.τ) (Cert.AdamGateReferenceIdeal.main (F := Ideal))) ⟨m, fun _ => 0, g⟩ (fun r => (∀ c : Dev Cert.AdamGateReferenceIdeal.nD,
      r.2.mem ((c.tc : Thread Cert.AdamGateReferenceIdeal.nD Cert.AdamGateReferenceIdeal.τ).loc Cert.AdamGateReferenceIdeal.main_arg0) = m ((c.tc : Thread Cert.AdamGateReferenceIdeal.nD Cert.AdamGateReferenceIdeal.τ).loc Cert.AdamGateReferenceIdeal.main_arg0)
      ∧ r.2.mem ((c.tc : Thread Cert.AdamGateReferenceIdeal.nD Cert.AdamGateReferenceIdeal.τ).loc Cert.AdamGateReferenceIdeal.main_arg1) = m ((c.tc : Thread Cert.AdamGateReferenceIdeal.nD Cert.AdamGateReferenceIdeal.τ).loc Cert.AdamGateReferenceIdeal.main_arg1)
      ∧ r.2.mem ((c.tc : Thread Cert.AdamGateReferenceIdeal.nD Cert.AdamGateReferenceIdeal.τ).loc Cert.AdamGateReferenceIdeal.main_arg2) = m ((c.tc : Thread Cert.AdamGateReferenceIdeal.nD Cert.AdamGateReferenceIdeal.τ).loc Cert.AdamGateReferenceIdeal.main_arg2)
      ∧ r.2.mem ((c.tc : Thread Cert.AdamGateReferenceIdeal.nD Cert.AdamGateReferenceIdeal.τ).loc Cert.AdamGateReferenceIdeal.main_arg3) = m ((c.tc : Thread Cert.AdamGateReferenceIdeal.nD Cert.AdamGateReferenceIdeal.τ).loc Cert.AdamGateReferenceIdeal.main_arg3))
      ∧ r.2.sem = fun _ => 0)

def quiescent_AdamMlpKernel [hAdamMlpKernel : Cert.AdamMlpKernel.Facts] : Prop :=
  ∀ (m : (ℓ : Loc Cert.AdamMlpKernel.nD Cert.AdamMlpKernel.τ Cert.AdamMlpKernel.sig) → Buf (Elt Bits) ℓ) (g : Dev Cert.AdamMlpKernel.nD → PrngReg), Pre_AdamMlpKernel m →
    θ_run (Cert.AdamMlpKernel.defs (F := Bits)) (onTc (τ := Cert.AdamMlpKernel.τ) (Cert.AdamMlpKernel.main (F := Bits))) ⟨m, fun _ => 0, g⟩ (fun r => (∀ c : Dev Cert.AdamMlpKernel.nD,
      r.2.mem ((c.tc : Thread Cert.AdamMlpKernel.nD Cert.AdamMlpKernel.τ).loc Cert.AdamMlpKernel.main_arg0) = m ((c.tc : Thread Cert.AdamMlpKernel.nD Cert.AdamMlpKernel.τ).loc Cert.AdamMlpKernel.main_arg0)
      ∧ r.2.mem ((c.tc : Thread Cert.AdamMlpKernel.nD Cert.AdamMlpKernel.τ).loc Cert.AdamMlpKernel.main_arg1) = m ((c.tc : Thread Cert.AdamMlpKernel.nD Cert.AdamMlpKernel.τ).loc Cert.AdamMlpKernel.main_arg1)
      ∧ r.2.mem ((c.tc : Thread Cert.AdamMlpKernel.nD Cert.AdamMlpKernel.τ).loc Cert.AdamMlpKernel.main_arg2) = m ((c.tc : Thread Cert.AdamMlpKernel.nD Cert.AdamMlpKernel.τ).loc Cert.AdamMlpKernel.main_arg2)
      ∧ r.2.mem ((c.tc : Thread Cert.AdamMlpKernel.nD Cert.AdamMlpKernel.τ).loc Cert.AdamMlpKernel.main_arg3) = m ((c.tc : Thread Cert.AdamMlpKernel.nD Cert.AdamMlpKernel.τ).loc Cert.AdamMlpKernel.main_arg3))
      ∧ r.2.sem = fun _ => 0)

def quiescent_AdamMlpKernelIdeal [hAdamMlpKernelIdeal : Cert.AdamMlpKernelIdeal.Facts] : Prop :=
  ∀ (m : (ℓ : Loc Cert.AdamMlpKernelIdeal.nD Cert.AdamMlpKernelIdeal.τ Cert.AdamMlpKernelIdeal.sig) → Buf (Elt Ideal) ℓ) (g : Dev Cert.AdamMlpKernelIdeal.nD → PrngReg), Pre_AdamMlpKernelIdeal m →
    θ_run (Cert.AdamMlpKernelIdeal.defs (F := Ideal)) (onTc (τ := Cert.AdamMlpKernelIdeal.τ) (Cert.AdamMlpKernelIdeal.main (F := Ideal))) ⟨m, fun _ => 0, g⟩ (fun r => (∀ c : Dev Cert.AdamMlpKernelIdeal.nD,
      r.2.mem ((c.tc : Thread Cert.AdamMlpKernelIdeal.nD Cert.AdamMlpKernelIdeal.τ).loc Cert.AdamMlpKernelIdeal.main_arg0) = m ((c.tc : Thread Cert.AdamMlpKernelIdeal.nD Cert.AdamMlpKernelIdeal.τ).loc Cert.AdamMlpKernelIdeal.main_arg0)
      ∧ r.2.mem ((c.tc : Thread Cert.AdamMlpKernelIdeal.nD Cert.AdamMlpKernelIdeal.τ).loc Cert.AdamMlpKernelIdeal.main_arg1) = m ((c.tc : Thread Cert.AdamMlpKernelIdeal.nD Cert.AdamMlpKernelIdeal.τ).loc Cert.AdamMlpKernelIdeal.main_arg1)
      ∧ r.2.mem ((c.tc : Thread Cert.AdamMlpKernelIdeal.nD Cert.AdamMlpKernelIdeal.τ).loc Cert.AdamMlpKernelIdeal.main_arg2) = m ((c.tc : Thread Cert.AdamMlpKernelIdeal.nD Cert.AdamMlpKernelIdeal.τ).loc Cert.AdamMlpKernelIdeal.main_arg2)
      ∧ r.2.mem ((c.tc : Thread Cert.AdamMlpKernelIdeal.nD Cert.AdamMlpKernelIdeal.τ).loc Cert.AdamMlpKernelIdeal.main_arg3) = m ((c.tc : Thread Cert.AdamMlpKernelIdeal.nD Cert.AdamMlpKernelIdeal.τ).loc Cert.AdamMlpKernelIdeal.main_arg3))
      ∧ r.2.sem = fun _ => 0)

def quiescent_AdamMlpReferenceIdeal [hAdamMlpReferenceIdeal : Cert.AdamMlpReferenceIdeal.Facts] : Prop :=
  ∀ (m : (ℓ : Loc Cert.AdamMlpReferenceIdeal.nD Cert.AdamMlpReferenceIdeal.τ Cert.AdamMlpReferenceIdeal.sig) → Buf (Elt Ideal) ℓ) (g : Dev Cert.AdamMlpReferenceIdeal.nD → PrngReg), Pre_AdamMlpReferenceIdeal m →
    θ_run (Cert.AdamMlpReferenceIdeal.defs (F := Ideal)) (onTc (τ := Cert.AdamMlpReferenceIdeal.τ) (Cert.AdamMlpReferenceIdeal.main (F := Ideal))) ⟨m, fun _ => 0, g⟩ (fun r => (∀ c : Dev Cert.AdamMlpReferenceIdeal.nD,
      r.2.mem ((c.tc : Thread Cert.AdamMlpReferenceIdeal.nD Cert.AdamMlpReferenceIdeal.τ).loc Cert.AdamMlpReferenceIdeal.main_arg0) = m ((c.tc : Thread Cert.AdamMlpReferenceIdeal.nD Cert.AdamMlpReferenceIdeal.τ).loc Cert.AdamMlpReferenceIdeal.main_arg0)
      ∧ r.2.mem ((c.tc : Thread Cert.AdamMlpReferenceIdeal.nD Cert.AdamMlpReferenceIdeal.τ).loc Cert.AdamMlpReferenceIdeal.main_arg1) = m ((c.tc : Thread Cert.AdamMlpReferenceIdeal.nD Cert.AdamMlpReferenceIdeal.τ).loc Cert.AdamMlpReferenceIdeal.main_arg1)
      ∧ r.2.mem ((c.tc : Thread Cert.AdamMlpReferenceIdeal.nD Cert.AdamMlpReferenceIdeal.τ).loc Cert.AdamMlpReferenceIdeal.main_arg2) = m ((c.tc : Thread Cert.AdamMlpReferenceIdeal.nD Cert.AdamMlpReferenceIdeal.τ).loc Cert.AdamMlpReferenceIdeal.main_arg2)
      ∧ r.2.mem ((c.tc : Thread Cert.AdamMlpReferenceIdeal.nD Cert.AdamMlpReferenceIdeal.τ).loc Cert.AdamMlpReferenceIdeal.main_arg3) = m ((c.tc : Thread Cert.AdamMlpReferenceIdeal.nD Cert.AdamMlpReferenceIdeal.τ).loc Cert.AdamMlpReferenceIdeal.main_arg3))
      ∧ r.2.sem = fun _ => 0)

def quiescent_AdamSquareKernel [hAdamSquareKernel : Cert.AdamSquareKernel.Facts] : Prop :=
  ∀ (m : (ℓ : Loc Cert.AdamSquareKernel.nD Cert.AdamSquareKernel.τ Cert.AdamSquareKernel.sig) → Buf (Elt Bits) ℓ) (g : Dev Cert.AdamSquareKernel.nD → PrngReg), Pre_AdamSquareKernel m →
    θ_run (Cert.AdamSquareKernel.defs (F := Bits)) (onTc (τ := Cert.AdamSquareKernel.τ) (Cert.AdamSquareKernel.main (F := Bits))) ⟨m, fun _ => 0, g⟩ (fun r => (∀ c : Dev Cert.AdamSquareKernel.nD,
      r.2.mem ((c.tc : Thread Cert.AdamSquareKernel.nD Cert.AdamSquareKernel.τ).loc Cert.AdamSquareKernel.main_arg0) = m ((c.tc : Thread Cert.AdamSquareKernel.nD Cert.AdamSquareKernel.τ).loc Cert.AdamSquareKernel.main_arg0)
      ∧ r.2.mem ((c.tc : Thread Cert.AdamSquareKernel.nD Cert.AdamSquareKernel.τ).loc Cert.AdamSquareKernel.main_arg1) = m ((c.tc : Thread Cert.AdamSquareKernel.nD Cert.AdamSquareKernel.τ).loc Cert.AdamSquareKernel.main_arg1)
      ∧ r.2.mem ((c.tc : Thread Cert.AdamSquareKernel.nD Cert.AdamSquareKernel.τ).loc Cert.AdamSquareKernel.main_arg2) = m ((c.tc : Thread Cert.AdamSquareKernel.nD Cert.AdamSquareKernel.τ).loc Cert.AdamSquareKernel.main_arg2)
      ∧ r.2.mem ((c.tc : Thread Cert.AdamSquareKernel.nD Cert.AdamSquareKernel.τ).loc Cert.AdamSquareKernel.main_arg3) = m ((c.tc : Thread Cert.AdamSquareKernel.nD Cert.AdamSquareKernel.τ).loc Cert.AdamSquareKernel.main_arg3))
      ∧ r.2.sem = fun _ => 0)

def quiescent_AdamSquareKernelIdeal [hAdamSquareKernelIdeal : Cert.AdamSquareKernelIdeal.Facts] : Prop :=
  ∀ (m : (ℓ : Loc Cert.AdamSquareKernelIdeal.nD Cert.AdamSquareKernelIdeal.τ Cert.AdamSquareKernelIdeal.sig) → Buf (Elt Ideal) ℓ) (g : Dev Cert.AdamSquareKernelIdeal.nD → PrngReg), Pre_AdamSquareKernelIdeal m →
    θ_run (Cert.AdamSquareKernelIdeal.defs (F := Ideal)) (onTc (τ := Cert.AdamSquareKernelIdeal.τ) (Cert.AdamSquareKernelIdeal.main (F := Ideal))) ⟨m, fun _ => 0, g⟩ (fun r => (∀ c : Dev Cert.AdamSquareKernelIdeal.nD,
      r.2.mem ((c.tc : Thread Cert.AdamSquareKernelIdeal.nD Cert.AdamSquareKernelIdeal.τ).loc Cert.AdamSquareKernelIdeal.main_arg0) = m ((c.tc : Thread Cert.AdamSquareKernelIdeal.nD Cert.AdamSquareKernelIdeal.τ).loc Cert.AdamSquareKernelIdeal.main_arg0)
      ∧ r.2.mem ((c.tc : Thread Cert.AdamSquareKernelIdeal.nD Cert.AdamSquareKernelIdeal.τ).loc Cert.AdamSquareKernelIdeal.main_arg1) = m ((c.tc : Thread Cert.AdamSquareKernelIdeal.nD Cert.AdamSquareKernelIdeal.τ).loc Cert.AdamSquareKernelIdeal.main_arg1)
      ∧ r.2.mem ((c.tc : Thread Cert.AdamSquareKernelIdeal.nD Cert.AdamSquareKernelIdeal.τ).loc Cert.AdamSquareKernelIdeal.main_arg2) = m ((c.tc : Thread Cert.AdamSquareKernelIdeal.nD Cert.AdamSquareKernelIdeal.τ).loc Cert.AdamSquareKernelIdeal.main_arg2)
      ∧ r.2.mem ((c.tc : Thread Cert.AdamSquareKernelIdeal.nD Cert.AdamSquareKernelIdeal.τ).loc Cert.AdamSquareKernelIdeal.main_arg3) = m ((c.tc : Thread Cert.AdamSquareKernelIdeal.nD Cert.AdamSquareKernelIdeal.τ).loc Cert.AdamSquareKernelIdeal.main_arg3))
      ∧ r.2.sem = fun _ => 0)

def quiescent_AdamSquareReferenceIdeal [hAdamSquareReferenceIdeal : Cert.AdamSquareReferenceIdeal.Facts] : Prop :=
  ∀ (m : (ℓ : Loc Cert.AdamSquareReferenceIdeal.nD Cert.AdamSquareReferenceIdeal.τ Cert.AdamSquareReferenceIdeal.sig) → Buf (Elt Ideal) ℓ) (g : Dev Cert.AdamSquareReferenceIdeal.nD → PrngReg), Pre_AdamSquareReferenceIdeal m →
    θ_run (Cert.AdamSquareReferenceIdeal.defs (F := Ideal)) (onTc (τ := Cert.AdamSquareReferenceIdeal.τ) (Cert.AdamSquareReferenceIdeal.main (F := Ideal))) ⟨m, fun _ => 0, g⟩ (fun r => (∀ c : Dev Cert.AdamSquareReferenceIdeal.nD,
      r.2.mem ((c.tc : Thread Cert.AdamSquareReferenceIdeal.nD Cert.AdamSquareReferenceIdeal.τ).loc Cert.AdamSquareReferenceIdeal.main_arg0) = m ((c.tc : Thread Cert.AdamSquareReferenceIdeal.nD Cert.AdamSquareReferenceIdeal.τ).loc Cert.AdamSquareReferenceIdeal.main_arg0)
      ∧ r.2.mem ((c.tc : Thread Cert.AdamSquareReferenceIdeal.nD Cert.AdamSquareReferenceIdeal.τ).loc Cert.AdamSquareReferenceIdeal.main_arg1) = m ((c.tc : Thread Cert.AdamSquareReferenceIdeal.nD Cert.AdamSquareReferenceIdeal.τ).loc Cert.AdamSquareReferenceIdeal.main_arg1)
      ∧ r.2.mem ((c.tc : Thread Cert.AdamSquareReferenceIdeal.nD Cert.AdamSquareReferenceIdeal.τ).loc Cert.AdamSquareReferenceIdeal.main_arg2) = m ((c.tc : Thread Cert.AdamSquareReferenceIdeal.nD Cert.AdamSquareReferenceIdeal.τ).loc Cert.AdamSquareReferenceIdeal.main_arg2)
      ∧ r.2.mem ((c.tc : Thread Cert.AdamSquareReferenceIdeal.nD Cert.AdamSquareReferenceIdeal.τ).loc Cert.AdamSquareReferenceIdeal.main_arg3) = m ((c.tc : Thread Cert.AdamSquareReferenceIdeal.nD Cert.AdamSquareReferenceIdeal.τ).loc Cert.AdamSquareReferenceIdeal.main_arg3))
      ∧ r.2.sem = fun _ => 0)

def quiescent_AdamSmallKernel [hAdamSmallKernel : Cert.AdamSmallKernel.Facts] : Prop :=
  ∀ (m : (ℓ : Loc Cert.AdamSmallKernel.nD Cert.AdamSmallKernel.τ Cert.AdamSmallKernel.sig) → Buf (Elt Bits) ℓ) (g : Dev Cert.AdamSmallKernel.nD → PrngReg), Pre_AdamSmallKernel m →
    θ_run (Cert.AdamSmallKernel.defs (F := Bits)) (onTc (τ := Cert.AdamSmallKernel.τ) (Cert.AdamSmallKernel.main (F := Bits))) ⟨m, fun _ => 0, g⟩ (fun r => (∀ c : Dev Cert.AdamSmallKernel.nD,
      r.2.mem ((c.tc : Thread Cert.AdamSmallKernel.nD Cert.AdamSmallKernel.τ).loc Cert.AdamSmallKernel.main_arg0) = m ((c.tc : Thread Cert.AdamSmallKernel.nD Cert.AdamSmallKernel.τ).loc Cert.AdamSmallKernel.main_arg0)
      ∧ r.2.mem ((c.tc : Thread Cert.AdamSmallKernel.nD Cert.AdamSmallKernel.τ).loc Cert.AdamSmallKernel.main_arg1) = m ((c.tc : Thread Cert.AdamSmallKernel.nD Cert.AdamSmallKernel.τ).loc Cert.AdamSmallKernel.main_arg1)
      ∧ r.2.mem ((c.tc : Thread Cert.AdamSmallKernel.nD Cert.AdamSmallKernel.τ).loc Cert.AdamSmallKernel.main_arg2) = m ((c.tc : Thread Cert.AdamSmallKernel.nD Cert.AdamSmallKernel.τ).loc Cert.AdamSmallKernel.main_arg2)
      ∧ r.2.mem ((c.tc : Thread Cert.AdamSmallKernel.nD Cert.AdamSmallKernel.τ).loc Cert.AdamSmallKernel.main_arg3) = m ((c.tc : Thread Cert.AdamSmallKernel.nD Cert.AdamSmallKernel.τ).loc Cert.AdamSmallKernel.main_arg3)
      ∧ r.2.mem ((c.tc : Thread Cert.AdamSmallKernel.nD Cert.AdamSmallKernel.τ).loc Cert.AdamSmallKernel.main_arg4) = m ((c.tc : Thread Cert.AdamSmallKernel.nD Cert.AdamSmallKernel.τ).loc Cert.AdamSmallKernel.main_arg4)
      ∧ r.2.mem ((c.tc : Thread Cert.AdamSmallKernel.nD Cert.AdamSmallKernel.τ).loc Cert.AdamSmallKernel.main_arg5) = m ((c.tc : Thread Cert.AdamSmallKernel.nD Cert.AdamSmallKernel.τ).loc Cert.AdamSmallKernel.main_arg5)
      ∧ r.2.mem ((c.tc : Thread Cert.AdamSmallKernel.nD Cert.AdamSmallKernel.τ).loc Cert.AdamSmallKernel.main_arg6) = m ((c.tc : Thread Cert.AdamSmallKernel.nD Cert.AdamSmallKernel.τ).loc Cert.AdamSmallKernel.main_arg6)
      ∧ r.2.mem ((c.tc : Thread Cert.AdamSmallKernel.nD Cert.AdamSmallKernel.τ).loc Cert.AdamSmallKernel.main_arg7) = m ((c.tc : Thread Cert.AdamSmallKernel.nD Cert.AdamSmallKernel.τ).loc Cert.AdamSmallKernel.main_arg7)
      ∧ r.2.mem ((c.tc : Thread Cert.AdamSmallKernel.nD Cert.AdamSmallKernel.τ).loc Cert.AdamSmallKernel.main_arg8) = m ((c.tc : Thread Cert.AdamSmallKernel.nD Cert.AdamSmallKernel.τ).loc Cert.AdamSmallKernel.main_arg8)
      ∧ r.2.mem ((c.tc : Thread Cert.AdamSmallKernel.nD Cert.AdamSmallKernel.τ).loc Cert.AdamSmallKernel.main_arg9) = m ((c.tc : Thread Cert.AdamSmallKernel.nD Cert.AdamSmallKernel.τ).loc Cert.AdamSmallKernel.main_arg9)
      ∧ r.2.mem ((c.tc : Thread Cert.AdamSmallKernel.nD Cert.AdamSmallKernel.τ).loc Cert.AdamSmallKernel.main_arg10) = m ((c.tc : Thread Cert.AdamSmallKernel.nD Cert.AdamSmallKernel.τ).loc Cert.AdamSmallKernel.main_arg10)
      ∧ r.2.mem ((c.tc : Thread Cert.AdamSmallKernel.nD Cert.AdamSmallKernel.τ).loc Cert.AdamSmallKernel.main_arg11) = m ((c.tc : Thread Cert.AdamSmallKernel.nD Cert.AdamSmallKernel.τ).loc Cert.AdamSmallKernel.main_arg11)
      ∧ r.2.mem ((c.tc : Thread Cert.AdamSmallKernel.nD Cert.AdamSmallKernel.τ).loc Cert.AdamSmallKernel.main_arg12) = m ((c.tc : Thread Cert.AdamSmallKernel.nD Cert.AdamSmallKernel.τ).loc Cert.AdamSmallKernel.main_arg12)
      ∧ r.2.mem ((c.tc : Thread Cert.AdamSmallKernel.nD Cert.AdamSmallKernel.τ).loc Cert.AdamSmallKernel.main_arg13) = m ((c.tc : Thread Cert.AdamSmallKernel.nD Cert.AdamSmallKernel.τ).loc Cert.AdamSmallKernel.main_arg13)
      ∧ r.2.mem ((c.tc : Thread Cert.AdamSmallKernel.nD Cert.AdamSmallKernel.τ).loc Cert.AdamSmallKernel.main_arg14) = m ((c.tc : Thread Cert.AdamSmallKernel.nD Cert.AdamSmallKernel.τ).loc Cert.AdamSmallKernel.main_arg14)
      ∧ r.2.mem ((c.tc : Thread Cert.AdamSmallKernel.nD Cert.AdamSmallKernel.τ).loc Cert.AdamSmallKernel.main_arg15) = m ((c.tc : Thread Cert.AdamSmallKernel.nD Cert.AdamSmallKernel.τ).loc Cert.AdamSmallKernel.main_arg15)
      ∧ r.2.mem ((c.tc : Thread Cert.AdamSmallKernel.nD Cert.AdamSmallKernel.τ).loc Cert.AdamSmallKernel.main_arg16) = m ((c.tc : Thread Cert.AdamSmallKernel.nD Cert.AdamSmallKernel.τ).loc Cert.AdamSmallKernel.main_arg16)
      ∧ r.2.mem ((c.tc : Thread Cert.AdamSmallKernel.nD Cert.AdamSmallKernel.τ).loc Cert.AdamSmallKernel.main_arg17) = m ((c.tc : Thread Cert.AdamSmallKernel.nD Cert.AdamSmallKernel.τ).loc Cert.AdamSmallKernel.main_arg17)
      ∧ r.2.mem ((c.tc : Thread Cert.AdamSmallKernel.nD Cert.AdamSmallKernel.τ).loc Cert.AdamSmallKernel.main_arg18) = m ((c.tc : Thread Cert.AdamSmallKernel.nD Cert.AdamSmallKernel.τ).loc Cert.AdamSmallKernel.main_arg18)
      ∧ r.2.mem ((c.tc : Thread Cert.AdamSmallKernel.nD Cert.AdamSmallKernel.τ).loc Cert.AdamSmallKernel.main_arg19) = m ((c.tc : Thread Cert.AdamSmallKernel.nD Cert.AdamSmallKernel.τ).loc Cert.AdamSmallKernel.main_arg19)
      ∧ r.2.mem ((c.tc : Thread Cert.AdamSmallKernel.nD Cert.AdamSmallKernel.τ).loc Cert.AdamSmallKernel.main_arg20) = m ((c.tc : Thread Cert.AdamSmallKernel.nD Cert.AdamSmallKernel.τ).loc Cert.AdamSmallKernel.main_arg20)
      ∧ r.2.mem ((c.tc : Thread Cert.AdamSmallKernel.nD Cert.AdamSmallKernel.τ).loc Cert.AdamSmallKernel.main_arg21) = m ((c.tc : Thread Cert.AdamSmallKernel.nD Cert.AdamSmallKernel.τ).loc Cert.AdamSmallKernel.main_arg21)
      ∧ r.2.mem ((c.tc : Thread Cert.AdamSmallKernel.nD Cert.AdamSmallKernel.τ).loc Cert.AdamSmallKernel.main_arg22) = m ((c.tc : Thread Cert.AdamSmallKernel.nD Cert.AdamSmallKernel.τ).loc Cert.AdamSmallKernel.main_arg22)
      ∧ r.2.mem ((c.tc : Thread Cert.AdamSmallKernel.nD Cert.AdamSmallKernel.τ).loc Cert.AdamSmallKernel.main_arg23) = m ((c.tc : Thread Cert.AdamSmallKernel.nD Cert.AdamSmallKernel.τ).loc Cert.AdamSmallKernel.main_arg23)
      ∧ r.2.mem ((c.tc : Thread Cert.AdamSmallKernel.nD Cert.AdamSmallKernel.τ).loc Cert.AdamSmallKernel.main_arg24) = m ((c.tc : Thread Cert.AdamSmallKernel.nD Cert.AdamSmallKernel.τ).loc Cert.AdamSmallKernel.main_arg24)
      ∧ r.2.mem ((c.tc : Thread Cert.AdamSmallKernel.nD Cert.AdamSmallKernel.τ).loc Cert.AdamSmallKernel.main_arg25) = m ((c.tc : Thread Cert.AdamSmallKernel.nD Cert.AdamSmallKernel.τ).loc Cert.AdamSmallKernel.main_arg25)
      ∧ r.2.mem ((c.tc : Thread Cert.AdamSmallKernel.nD Cert.AdamSmallKernel.τ).loc Cert.AdamSmallKernel.main_arg26) = m ((c.tc : Thread Cert.AdamSmallKernel.nD Cert.AdamSmallKernel.τ).loc Cert.AdamSmallKernel.main_arg26)
      ∧ r.2.mem ((c.tc : Thread Cert.AdamSmallKernel.nD Cert.AdamSmallKernel.τ).loc Cert.AdamSmallKernel.main_arg27) = m ((c.tc : Thread Cert.AdamSmallKernel.nD Cert.AdamSmallKernel.τ).loc Cert.AdamSmallKernel.main_arg27)
      ∧ r.2.mem ((c.tc : Thread Cert.AdamSmallKernel.nD Cert.AdamSmallKernel.τ).loc Cert.AdamSmallKernel.main_arg28) = m ((c.tc : Thread Cert.AdamSmallKernel.nD Cert.AdamSmallKernel.τ).loc Cert.AdamSmallKernel.main_arg28)
      ∧ r.2.mem ((c.tc : Thread Cert.AdamSmallKernel.nD Cert.AdamSmallKernel.τ).loc Cert.AdamSmallKernel.main_arg29) = m ((c.tc : Thread Cert.AdamSmallKernel.nD Cert.AdamSmallKernel.τ).loc Cert.AdamSmallKernel.main_arg29)
      ∧ r.2.mem ((c.tc : Thread Cert.AdamSmallKernel.nD Cert.AdamSmallKernel.τ).loc Cert.AdamSmallKernel.main_arg30) = m ((c.tc : Thread Cert.AdamSmallKernel.nD Cert.AdamSmallKernel.τ).loc Cert.AdamSmallKernel.main_arg30)
      ∧ r.2.mem ((c.tc : Thread Cert.AdamSmallKernel.nD Cert.AdamSmallKernel.τ).loc Cert.AdamSmallKernel.main_arg31) = m ((c.tc : Thread Cert.AdamSmallKernel.nD Cert.AdamSmallKernel.τ).loc Cert.AdamSmallKernel.main_arg31))
      ∧ r.2.sem = fun _ => 0)

def quiescent_AdamSmallKernelIdeal [hAdamSmallKernelIdeal : Cert.AdamSmallKernelIdeal.Facts] : Prop :=
  ∀ (m : (ℓ : Loc Cert.AdamSmallKernelIdeal.nD Cert.AdamSmallKernelIdeal.τ Cert.AdamSmallKernelIdeal.sig) → Buf (Elt Ideal) ℓ) (g : Dev Cert.AdamSmallKernelIdeal.nD → PrngReg), Pre_AdamSmallKernelIdeal m →
    θ_run (Cert.AdamSmallKernelIdeal.defs (F := Ideal)) (onTc (τ := Cert.AdamSmallKernelIdeal.τ) (Cert.AdamSmallKernelIdeal.main (F := Ideal))) ⟨m, fun _ => 0, g⟩ (fun r => (∀ c : Dev Cert.AdamSmallKernelIdeal.nD,
      r.2.mem ((c.tc : Thread Cert.AdamSmallKernelIdeal.nD Cert.AdamSmallKernelIdeal.τ).loc Cert.AdamSmallKernelIdeal.main_arg0) = m ((c.tc : Thread Cert.AdamSmallKernelIdeal.nD Cert.AdamSmallKernelIdeal.τ).loc Cert.AdamSmallKernelIdeal.main_arg0)
      ∧ r.2.mem ((c.tc : Thread Cert.AdamSmallKernelIdeal.nD Cert.AdamSmallKernelIdeal.τ).loc Cert.AdamSmallKernelIdeal.main_arg1) = m ((c.tc : Thread Cert.AdamSmallKernelIdeal.nD Cert.AdamSmallKernelIdeal.τ).loc Cert.AdamSmallKernelIdeal.main_arg1)
      ∧ r.2.mem ((c.tc : Thread Cert.AdamSmallKernelIdeal.nD Cert.AdamSmallKernelIdeal.τ).loc Cert.AdamSmallKernelIdeal.main_arg2) = m ((c.tc : Thread Cert.AdamSmallKernelIdeal.nD Cert.AdamSmallKernelIdeal.τ).loc Cert.AdamSmallKernelIdeal.main_arg2)
      ∧ r.2.mem ((c.tc : Thread Cert.AdamSmallKernelIdeal.nD Cert.AdamSmallKernelIdeal.τ).loc Cert.AdamSmallKernelIdeal.main_arg3) = m ((c.tc : Thread Cert.AdamSmallKernelIdeal.nD Cert.AdamSmallKernelIdeal.τ).loc Cert.AdamSmallKernelIdeal.main_arg3)
      ∧ r.2.mem ((c.tc : Thread Cert.AdamSmallKernelIdeal.nD Cert.AdamSmallKernelIdeal.τ).loc Cert.AdamSmallKernelIdeal.main_arg4) = m ((c.tc : Thread Cert.AdamSmallKernelIdeal.nD Cert.AdamSmallKernelIdeal.τ).loc Cert.AdamSmallKernelIdeal.main_arg4)
      ∧ r.2.mem ((c.tc : Thread Cert.AdamSmallKernelIdeal.nD Cert.AdamSmallKernelIdeal.τ).loc Cert.AdamSmallKernelIdeal.main_arg5) = m ((c.tc : Thread Cert.AdamSmallKernelIdeal.nD Cert.AdamSmallKernelIdeal.τ).loc Cert.AdamSmallKernelIdeal.main_arg5)
      ∧ r.2.mem ((c.tc : Thread Cert.AdamSmallKernelIdeal.nD Cert.AdamSmallKernelIdeal.τ).loc Cert.AdamSmallKernelIdeal.main_arg6) = m ((c.tc : Thread Cert.AdamSmallKernelIdeal.nD Cert.AdamSmallKernelIdeal.τ).loc Cert.AdamSmallKernelIdeal.main_arg6)
      ∧ r.2.mem ((c.tc : Thread Cert.AdamSmallKernelIdeal.nD Cert.AdamSmallKernelIdeal.τ).loc Cert.AdamSmallKernelIdeal.main_arg7) = m ((c.tc : Thread Cert.AdamSmallKernelIdeal.nD Cert.AdamSmallKernelIdeal.τ).loc Cert.AdamSmallKernelIdeal.main_arg7)
      ∧ r.2.mem ((c.tc : Thread Cert.AdamSmallKernelIdeal.nD Cert.AdamSmallKernelIdeal.τ).loc Cert.AdamSmallKernelIdeal.main_arg8) = m ((c.tc : Thread Cert.AdamSmallKernelIdeal.nD Cert.AdamSmallKernelIdeal.τ).loc Cert.AdamSmallKernelIdeal.main_arg8)
      ∧ r.2.mem ((c.tc : Thread Cert.AdamSmallKernelIdeal.nD Cert.AdamSmallKernelIdeal.τ).loc Cert.AdamSmallKernelIdeal.main_arg9) = m ((c.tc : Thread Cert.AdamSmallKernelIdeal.nD Cert.AdamSmallKernelIdeal.τ).loc Cert.AdamSmallKernelIdeal.main_arg9)
      ∧ r.2.mem ((c.tc : Thread Cert.AdamSmallKernelIdeal.nD Cert.AdamSmallKernelIdeal.τ).loc Cert.AdamSmallKernelIdeal.main_arg10) = m ((c.tc : Thread Cert.AdamSmallKernelIdeal.nD Cert.AdamSmallKernelIdeal.τ).loc Cert.AdamSmallKernelIdeal.main_arg10)
      ∧ r.2.mem ((c.tc : Thread Cert.AdamSmallKernelIdeal.nD Cert.AdamSmallKernelIdeal.τ).loc Cert.AdamSmallKernelIdeal.main_arg11) = m ((c.tc : Thread Cert.AdamSmallKernelIdeal.nD Cert.AdamSmallKernelIdeal.τ).loc Cert.AdamSmallKernelIdeal.main_arg11)
      ∧ r.2.mem ((c.tc : Thread Cert.AdamSmallKernelIdeal.nD Cert.AdamSmallKernelIdeal.τ).loc Cert.AdamSmallKernelIdeal.main_arg12) = m ((c.tc : Thread Cert.AdamSmallKernelIdeal.nD Cert.AdamSmallKernelIdeal.τ).loc Cert.AdamSmallKernelIdeal.main_arg12)
      ∧ r.2.mem ((c.tc : Thread Cert.AdamSmallKernelIdeal.nD Cert.AdamSmallKernelIdeal.τ).loc Cert.AdamSmallKernelIdeal.main_arg13) = m ((c.tc : Thread Cert.AdamSmallKernelIdeal.nD Cert.AdamSmallKernelIdeal.τ).loc Cert.AdamSmallKernelIdeal.main_arg13)
      ∧ r.2.mem ((c.tc : Thread Cert.AdamSmallKernelIdeal.nD Cert.AdamSmallKernelIdeal.τ).loc Cert.AdamSmallKernelIdeal.main_arg14) = m ((c.tc : Thread Cert.AdamSmallKernelIdeal.nD Cert.AdamSmallKernelIdeal.τ).loc Cert.AdamSmallKernelIdeal.main_arg14)
      ∧ r.2.mem ((c.tc : Thread Cert.AdamSmallKernelIdeal.nD Cert.AdamSmallKernelIdeal.τ).loc Cert.AdamSmallKernelIdeal.main_arg15) = m ((c.tc : Thread Cert.AdamSmallKernelIdeal.nD Cert.AdamSmallKernelIdeal.τ).loc Cert.AdamSmallKernelIdeal.main_arg15)
      ∧ r.2.mem ((c.tc : Thread Cert.AdamSmallKernelIdeal.nD Cert.AdamSmallKernelIdeal.τ).loc Cert.AdamSmallKernelIdeal.main_arg16) = m ((c.tc : Thread Cert.AdamSmallKernelIdeal.nD Cert.AdamSmallKernelIdeal.τ).loc Cert.AdamSmallKernelIdeal.main_arg16)
      ∧ r.2.mem ((c.tc : Thread Cert.AdamSmallKernelIdeal.nD Cert.AdamSmallKernelIdeal.τ).loc Cert.AdamSmallKernelIdeal.main_arg17) = m ((c.tc : Thread Cert.AdamSmallKernelIdeal.nD Cert.AdamSmallKernelIdeal.τ).loc Cert.AdamSmallKernelIdeal.main_arg17)
      ∧ r.2.mem ((c.tc : Thread Cert.AdamSmallKernelIdeal.nD Cert.AdamSmallKernelIdeal.τ).loc Cert.AdamSmallKernelIdeal.main_arg18) = m ((c.tc : Thread Cert.AdamSmallKernelIdeal.nD Cert.AdamSmallKernelIdeal.τ).loc Cert.AdamSmallKernelIdeal.main_arg18)
      ∧ r.2.mem ((c.tc : Thread Cert.AdamSmallKernelIdeal.nD Cert.AdamSmallKernelIdeal.τ).loc Cert.AdamSmallKernelIdeal.main_arg19) = m ((c.tc : Thread Cert.AdamSmallKernelIdeal.nD Cert.AdamSmallKernelIdeal.τ).loc Cert.AdamSmallKernelIdeal.main_arg19)
      ∧ r.2.mem ((c.tc : Thread Cert.AdamSmallKernelIdeal.nD Cert.AdamSmallKernelIdeal.τ).loc Cert.AdamSmallKernelIdeal.main_arg20) = m ((c.tc : Thread Cert.AdamSmallKernelIdeal.nD Cert.AdamSmallKernelIdeal.τ).loc Cert.AdamSmallKernelIdeal.main_arg20)
      ∧ r.2.mem ((c.tc : Thread Cert.AdamSmallKernelIdeal.nD Cert.AdamSmallKernelIdeal.τ).loc Cert.AdamSmallKernelIdeal.main_arg21) = m ((c.tc : Thread Cert.AdamSmallKernelIdeal.nD Cert.AdamSmallKernelIdeal.τ).loc Cert.AdamSmallKernelIdeal.main_arg21)
      ∧ r.2.mem ((c.tc : Thread Cert.AdamSmallKernelIdeal.nD Cert.AdamSmallKernelIdeal.τ).loc Cert.AdamSmallKernelIdeal.main_arg22) = m ((c.tc : Thread Cert.AdamSmallKernelIdeal.nD Cert.AdamSmallKernelIdeal.τ).loc Cert.AdamSmallKernelIdeal.main_arg22)
      ∧ r.2.mem ((c.tc : Thread Cert.AdamSmallKernelIdeal.nD Cert.AdamSmallKernelIdeal.τ).loc Cert.AdamSmallKernelIdeal.main_arg23) = m ((c.tc : Thread Cert.AdamSmallKernelIdeal.nD Cert.AdamSmallKernelIdeal.τ).loc Cert.AdamSmallKernelIdeal.main_arg23)
      ∧ r.2.mem ((c.tc : Thread Cert.AdamSmallKernelIdeal.nD Cert.AdamSmallKernelIdeal.τ).loc Cert.AdamSmallKernelIdeal.main_arg24) = m ((c.tc : Thread Cert.AdamSmallKernelIdeal.nD Cert.AdamSmallKernelIdeal.τ).loc Cert.AdamSmallKernelIdeal.main_arg24)
      ∧ r.2.mem ((c.tc : Thread Cert.AdamSmallKernelIdeal.nD Cert.AdamSmallKernelIdeal.τ).loc Cert.AdamSmallKernelIdeal.main_arg25) = m ((c.tc : Thread Cert.AdamSmallKernelIdeal.nD Cert.AdamSmallKernelIdeal.τ).loc Cert.AdamSmallKernelIdeal.main_arg25)
      ∧ r.2.mem ((c.tc : Thread Cert.AdamSmallKernelIdeal.nD Cert.AdamSmallKernelIdeal.τ).loc Cert.AdamSmallKernelIdeal.main_arg26) = m ((c.tc : Thread Cert.AdamSmallKernelIdeal.nD Cert.AdamSmallKernelIdeal.τ).loc Cert.AdamSmallKernelIdeal.main_arg26)
      ∧ r.2.mem ((c.tc : Thread Cert.AdamSmallKernelIdeal.nD Cert.AdamSmallKernelIdeal.τ).loc Cert.AdamSmallKernelIdeal.main_arg27) = m ((c.tc : Thread Cert.AdamSmallKernelIdeal.nD Cert.AdamSmallKernelIdeal.τ).loc Cert.AdamSmallKernelIdeal.main_arg27)
      ∧ r.2.mem ((c.tc : Thread Cert.AdamSmallKernelIdeal.nD Cert.AdamSmallKernelIdeal.τ).loc Cert.AdamSmallKernelIdeal.main_arg28) = m ((c.tc : Thread Cert.AdamSmallKernelIdeal.nD Cert.AdamSmallKernelIdeal.τ).loc Cert.AdamSmallKernelIdeal.main_arg28)
      ∧ r.2.mem ((c.tc : Thread Cert.AdamSmallKernelIdeal.nD Cert.AdamSmallKernelIdeal.τ).loc Cert.AdamSmallKernelIdeal.main_arg29) = m ((c.tc : Thread Cert.AdamSmallKernelIdeal.nD Cert.AdamSmallKernelIdeal.τ).loc Cert.AdamSmallKernelIdeal.main_arg29)
      ∧ r.2.mem ((c.tc : Thread Cert.AdamSmallKernelIdeal.nD Cert.AdamSmallKernelIdeal.τ).loc Cert.AdamSmallKernelIdeal.main_arg30) = m ((c.tc : Thread Cert.AdamSmallKernelIdeal.nD Cert.AdamSmallKernelIdeal.τ).loc Cert.AdamSmallKernelIdeal.main_arg30)
      ∧ r.2.mem ((c.tc : Thread Cert.AdamSmallKernelIdeal.nD Cert.AdamSmallKernelIdeal.τ).loc Cert.AdamSmallKernelIdeal.main_arg31) = m ((c.tc : Thread Cert.AdamSmallKernelIdeal.nD Cert.AdamSmallKernelIdeal.τ).loc Cert.AdamSmallKernelIdeal.main_arg31))
      ∧ r.2.sem = fun _ => 0)

def quiescent_AdamSmallReferenceIdeal [hAdamSmallReferenceIdeal : Cert.AdamSmallReferenceIdeal.Facts] : Prop :=
  ∀ (m : (ℓ : Loc Cert.AdamSmallReferenceIdeal.nD Cert.AdamSmallReferenceIdeal.τ Cert.AdamSmallReferenceIdeal.sig) → Buf (Elt Ideal) ℓ) (g : Dev Cert.AdamSmallReferenceIdeal.nD → PrngReg), Pre_AdamSmallReferenceIdeal m →
    θ_run (Cert.AdamSmallReferenceIdeal.defs (F := Ideal)) (onTc (τ := Cert.AdamSmallReferenceIdeal.τ) (Cert.AdamSmallReferenceIdeal.main (F := Ideal))) ⟨m, fun _ => 0, g⟩ (fun r => (∀ c : Dev Cert.AdamSmallReferenceIdeal.nD,
      r.2.mem ((c.tc : Thread Cert.AdamSmallReferenceIdeal.nD Cert.AdamSmallReferenceIdeal.τ).loc Cert.AdamSmallReferenceIdeal.main_arg0) = m ((c.tc : Thread Cert.AdamSmallReferenceIdeal.nD Cert.AdamSmallReferenceIdeal.τ).loc Cert.AdamSmallReferenceIdeal.main_arg0)
      ∧ r.2.mem ((c.tc : Thread Cert.AdamSmallReferenceIdeal.nD Cert.AdamSmallReferenceIdeal.τ).loc Cert.AdamSmallReferenceIdeal.main_arg1) = m ((c.tc : Thread Cert.AdamSmallReferenceIdeal.nD Cert.AdamSmallReferenceIdeal.τ).loc Cert.AdamSmallReferenceIdeal.main_arg1)
      ∧ r.2.mem ((c.tc : Thread Cert.AdamSmallReferenceIdeal.nD Cert.AdamSmallReferenceIdeal.τ).loc Cert.AdamSmallReferenceIdeal.main_arg2) = m ((c.tc : Thread Cert.AdamSmallReferenceIdeal.nD Cert.AdamSmallReferenceIdeal.τ).loc Cert.AdamSmallReferenceIdeal.main_arg2)
      ∧ r.2.mem ((c.tc : Thread Cert.AdamSmallReferenceIdeal.nD Cert.AdamSmallReferenceIdeal.τ).loc Cert.AdamSmallReferenceIdeal.main_arg3) = m ((c.tc : Thread Cert.AdamSmallReferenceIdeal.nD Cert.AdamSmallReferenceIdeal.τ).loc Cert.AdamSmallReferenceIdeal.main_arg3)
      ∧ r.2.mem ((c.tc : Thread Cert.AdamSmallReferenceIdeal.nD Cert.AdamSmallReferenceIdeal.τ).loc Cert.AdamSmallReferenceIdeal.main_arg4) = m ((c.tc : Thread Cert.AdamSmallReferenceIdeal.nD Cert.AdamSmallReferenceIdeal.τ).loc Cert.AdamSmallReferenceIdeal.main_arg4)
      ∧ r.2.mem ((c.tc : Thread Cert.AdamSmallReferenceIdeal.nD Cert.AdamSmallReferenceIdeal.τ).loc Cert.AdamSmallReferenceIdeal.main_arg5) = m ((c.tc : Thread Cert.AdamSmallReferenceIdeal.nD Cert.AdamSmallReferenceIdeal.τ).loc Cert.AdamSmallReferenceIdeal.main_arg5)
      ∧ r.2.mem ((c.tc : Thread Cert.AdamSmallReferenceIdeal.nD Cert.AdamSmallReferenceIdeal.τ).loc Cert.AdamSmallReferenceIdeal.main_arg6) = m ((c.tc : Thread Cert.AdamSmallReferenceIdeal.nD Cert.AdamSmallReferenceIdeal.τ).loc Cert.AdamSmallReferenceIdeal.main_arg6)
      ∧ r.2.mem ((c.tc : Thread Cert.AdamSmallReferenceIdeal.nD Cert.AdamSmallReferenceIdeal.τ).loc Cert.AdamSmallReferenceIdeal.main_arg7) = m ((c.tc : Thread Cert.AdamSmallReferenceIdeal.nD Cert.AdamSmallReferenceIdeal.τ).loc Cert.AdamSmallReferenceIdeal.main_arg7)
      ∧ r.2.mem ((c.tc : Thread Cert.AdamSmallReferenceIdeal.nD Cert.AdamSmallReferenceIdeal.τ).loc Cert.AdamSmallReferenceIdeal.main_arg8) = m ((c.tc : Thread Cert.AdamSmallReferenceIdeal.nD Cert.AdamSmallReferenceIdeal.τ).loc Cert.AdamSmallReferenceIdeal.main_arg8)
      ∧ r.2.mem ((c.tc : Thread Cert.AdamSmallReferenceIdeal.nD Cert.AdamSmallReferenceIdeal.τ).loc Cert.AdamSmallReferenceIdeal.main_arg9) = m ((c.tc : Thread Cert.AdamSmallReferenceIdeal.nD Cert.AdamSmallReferenceIdeal.τ).loc Cert.AdamSmallReferenceIdeal.main_arg9)
      ∧ r.2.mem ((c.tc : Thread Cert.AdamSmallReferenceIdeal.nD Cert.AdamSmallReferenceIdeal.τ).loc Cert.AdamSmallReferenceIdeal.main_arg10) = m ((c.tc : Thread Cert.AdamSmallReferenceIdeal.nD Cert.AdamSmallReferenceIdeal.τ).loc Cert.AdamSmallReferenceIdeal.main_arg10)
      ∧ r.2.mem ((c.tc : Thread Cert.AdamSmallReferenceIdeal.nD Cert.AdamSmallReferenceIdeal.τ).loc Cert.AdamSmallReferenceIdeal.main_arg11) = m ((c.tc : Thread Cert.AdamSmallReferenceIdeal.nD Cert.AdamSmallReferenceIdeal.τ).loc Cert.AdamSmallReferenceIdeal.main_arg11)
      ∧ r.2.mem ((c.tc : Thread Cert.AdamSmallReferenceIdeal.nD Cert.AdamSmallReferenceIdeal.τ).loc Cert.AdamSmallReferenceIdeal.main_arg12) = m ((c.tc : Thread Cert.AdamSmallReferenceIdeal.nD Cert.AdamSmallReferenceIdeal.τ).loc Cert.AdamSmallReferenceIdeal.main_arg12)
      ∧ r.2.mem ((c.tc : Thread Cert.AdamSmallReferenceIdeal.nD Cert.AdamSmallReferenceIdeal.τ).loc Cert.AdamSmallReferenceIdeal.main_arg13) = m ((c.tc : Thread Cert.AdamSmallReferenceIdeal.nD Cert.AdamSmallReferenceIdeal.τ).loc Cert.AdamSmallReferenceIdeal.main_arg13)
      ∧ r.2.mem ((c.tc : Thread Cert.AdamSmallReferenceIdeal.nD Cert.AdamSmallReferenceIdeal.τ).loc Cert.AdamSmallReferenceIdeal.main_arg14) = m ((c.tc : Thread Cert.AdamSmallReferenceIdeal.nD Cert.AdamSmallReferenceIdeal.τ).loc Cert.AdamSmallReferenceIdeal.main_arg14)
      ∧ r.2.mem ((c.tc : Thread Cert.AdamSmallReferenceIdeal.nD Cert.AdamSmallReferenceIdeal.τ).loc Cert.AdamSmallReferenceIdeal.main_arg15) = m ((c.tc : Thread Cert.AdamSmallReferenceIdeal.nD Cert.AdamSmallReferenceIdeal.τ).loc Cert.AdamSmallReferenceIdeal.main_arg15)
      ∧ r.2.mem ((c.tc : Thread Cert.AdamSmallReferenceIdeal.nD Cert.AdamSmallReferenceIdeal.τ).loc Cert.AdamSmallReferenceIdeal.main_arg16) = m ((c.tc : Thread Cert.AdamSmallReferenceIdeal.nD Cert.AdamSmallReferenceIdeal.τ).loc Cert.AdamSmallReferenceIdeal.main_arg16)
      ∧ r.2.mem ((c.tc : Thread Cert.AdamSmallReferenceIdeal.nD Cert.AdamSmallReferenceIdeal.τ).loc Cert.AdamSmallReferenceIdeal.main_arg17) = m ((c.tc : Thread Cert.AdamSmallReferenceIdeal.nD Cert.AdamSmallReferenceIdeal.τ).loc Cert.AdamSmallReferenceIdeal.main_arg17)
      ∧ r.2.mem ((c.tc : Thread Cert.AdamSmallReferenceIdeal.nD Cert.AdamSmallReferenceIdeal.τ).loc Cert.AdamSmallReferenceIdeal.main_arg18) = m ((c.tc : Thread Cert.AdamSmallReferenceIdeal.nD Cert.AdamSmallReferenceIdeal.τ).loc Cert.AdamSmallReferenceIdeal.main_arg18)
      ∧ r.2.mem ((c.tc : Thread Cert.AdamSmallReferenceIdeal.nD Cert.AdamSmallReferenceIdeal.τ).loc Cert.AdamSmallReferenceIdeal.main_arg19) = m ((c.tc : Thread Cert.AdamSmallReferenceIdeal.nD Cert.AdamSmallReferenceIdeal.τ).loc Cert.AdamSmallReferenceIdeal.main_arg19)
      ∧ r.2.mem ((c.tc : Thread Cert.AdamSmallReferenceIdeal.nD Cert.AdamSmallReferenceIdeal.τ).loc Cert.AdamSmallReferenceIdeal.main_arg20) = m ((c.tc : Thread Cert.AdamSmallReferenceIdeal.nD Cert.AdamSmallReferenceIdeal.τ).loc Cert.AdamSmallReferenceIdeal.main_arg20)
      ∧ r.2.mem ((c.tc : Thread Cert.AdamSmallReferenceIdeal.nD Cert.AdamSmallReferenceIdeal.τ).loc Cert.AdamSmallReferenceIdeal.main_arg21) = m ((c.tc : Thread Cert.AdamSmallReferenceIdeal.nD Cert.AdamSmallReferenceIdeal.τ).loc Cert.AdamSmallReferenceIdeal.main_arg21)
      ∧ r.2.mem ((c.tc : Thread Cert.AdamSmallReferenceIdeal.nD Cert.AdamSmallReferenceIdeal.τ).loc Cert.AdamSmallReferenceIdeal.main_arg22) = m ((c.tc : Thread Cert.AdamSmallReferenceIdeal.nD Cert.AdamSmallReferenceIdeal.τ).loc Cert.AdamSmallReferenceIdeal.main_arg22)
      ∧ r.2.mem ((c.tc : Thread Cert.AdamSmallReferenceIdeal.nD Cert.AdamSmallReferenceIdeal.τ).loc Cert.AdamSmallReferenceIdeal.main_arg23) = m ((c.tc : Thread Cert.AdamSmallReferenceIdeal.nD Cert.AdamSmallReferenceIdeal.τ).loc Cert.AdamSmallReferenceIdeal.main_arg23)
      ∧ r.2.mem ((c.tc : Thread Cert.AdamSmallReferenceIdeal.nD Cert.AdamSmallReferenceIdeal.τ).loc Cert.AdamSmallReferenceIdeal.main_arg24) = m ((c.tc : Thread Cert.AdamSmallReferenceIdeal.nD Cert.AdamSmallReferenceIdeal.τ).loc Cert.AdamSmallReferenceIdeal.main_arg24)
      ∧ r.2.mem ((c.tc : Thread Cert.AdamSmallReferenceIdeal.nD Cert.AdamSmallReferenceIdeal.τ).loc Cert.AdamSmallReferenceIdeal.main_arg25) = m ((c.tc : Thread Cert.AdamSmallReferenceIdeal.nD Cert.AdamSmallReferenceIdeal.τ).loc Cert.AdamSmallReferenceIdeal.main_arg25)
      ∧ r.2.mem ((c.tc : Thread Cert.AdamSmallReferenceIdeal.nD Cert.AdamSmallReferenceIdeal.τ).loc Cert.AdamSmallReferenceIdeal.main_arg26) = m ((c.tc : Thread Cert.AdamSmallReferenceIdeal.nD Cert.AdamSmallReferenceIdeal.τ).loc Cert.AdamSmallReferenceIdeal.main_arg26)
      ∧ r.2.mem ((c.tc : Thread Cert.AdamSmallReferenceIdeal.nD Cert.AdamSmallReferenceIdeal.τ).loc Cert.AdamSmallReferenceIdeal.main_arg27) = m ((c.tc : Thread Cert.AdamSmallReferenceIdeal.nD Cert.AdamSmallReferenceIdeal.τ).loc Cert.AdamSmallReferenceIdeal.main_arg27)
      ∧ r.2.mem ((c.tc : Thread Cert.AdamSmallReferenceIdeal.nD Cert.AdamSmallReferenceIdeal.τ).loc Cert.AdamSmallReferenceIdeal.main_arg28) = m ((c.tc : Thread Cert.AdamSmallReferenceIdeal.nD Cert.AdamSmallReferenceIdeal.τ).loc Cert.AdamSmallReferenceIdeal.main_arg28)
      ∧ r.2.mem ((c.tc : Thread Cert.AdamSmallReferenceIdeal.nD Cert.AdamSmallReferenceIdeal.τ).loc Cert.AdamSmallReferenceIdeal.main_arg29) = m ((c.tc : Thread Cert.AdamSmallReferenceIdeal.nD Cert.AdamSmallReferenceIdeal.τ).loc Cert.AdamSmallReferenceIdeal.main_arg29)
      ∧ r.2.mem ((c.tc : Thread Cert.AdamSmallReferenceIdeal.nD Cert.AdamSmallReferenceIdeal.τ).loc Cert.AdamSmallReferenceIdeal.main_arg30) = m ((c.tc : Thread Cert.AdamSmallReferenceIdeal.nD Cert.AdamSmallReferenceIdeal.τ).loc Cert.AdamSmallReferenceIdeal.main_arg30)
      ∧ r.2.mem ((c.tc : Thread Cert.AdamSmallReferenceIdeal.nD Cert.AdamSmallReferenceIdeal.τ).loc Cert.AdamSmallReferenceIdeal.main_arg31) = m ((c.tc : Thread Cert.AdamSmallReferenceIdeal.nD Cert.AdamSmallReferenceIdeal.τ).loc Cert.AdamSmallReferenceIdeal.main_arg31))
      ∧ r.2.sem = fun _ => 0)

def quiescent_FirstNormKernel [hFirstNormKernel : Cert.FirstNormKernel.Facts] : Prop :=
  ∀ (m : (ℓ : Loc Cert.FirstNormKernel.nD Cert.FirstNormKernel.τ Cert.FirstNormKernel.sig) → Buf (Elt Bits) ℓ) (g : Dev Cert.FirstNormKernel.nD → PrngReg), Pre_FirstNormKernel m →
    θ_run (Cert.FirstNormKernel.defs (F := Bits)) (onTc (τ := Cert.FirstNormKernel.τ) (Cert.FirstNormKernel.main (F := Bits))) ⟨m, fun _ => 0, g⟩ (fun r => (∀ c : Dev Cert.FirstNormKernel.nD,
      r.2.mem ((c.tc : Thread Cert.FirstNormKernel.nD Cert.FirstNormKernel.τ).loc Cert.FirstNormKernel.main_arg0) = m ((c.tc : Thread Cert.FirstNormKernel.nD Cert.FirstNormKernel.τ).loc Cert.FirstNormKernel.main_arg0)
      ∧ r.2.mem ((c.tc : Thread Cert.FirstNormKernel.nD Cert.FirstNormKernel.τ).loc Cert.FirstNormKernel.main_arg1) = m ((c.tc : Thread Cert.FirstNormKernel.nD Cert.FirstNormKernel.τ).loc Cert.FirstNormKernel.main_arg1))
      ∧ r.2.sem = fun _ => 0)

def quiescent_FirstNormKernelIdeal [hFirstNormKernelIdeal : Cert.FirstNormKernelIdeal.Facts] : Prop :=
  ∀ (m : (ℓ : Loc Cert.FirstNormKernelIdeal.nD Cert.FirstNormKernelIdeal.τ Cert.FirstNormKernelIdeal.sig) → Buf (Elt Ideal) ℓ) (g : Dev Cert.FirstNormKernelIdeal.nD → PrngReg), Pre_FirstNormKernelIdeal m →
    θ_run (Cert.FirstNormKernelIdeal.defs (F := Ideal)) (onTc (τ := Cert.FirstNormKernelIdeal.τ) (Cert.FirstNormKernelIdeal.main (F := Ideal))) ⟨m, fun _ => 0, g⟩ (fun r => (∀ c : Dev Cert.FirstNormKernelIdeal.nD,
      r.2.mem ((c.tc : Thread Cert.FirstNormKernelIdeal.nD Cert.FirstNormKernelIdeal.τ).loc Cert.FirstNormKernelIdeal.main_arg0) = m ((c.tc : Thread Cert.FirstNormKernelIdeal.nD Cert.FirstNormKernelIdeal.τ).loc Cert.FirstNormKernelIdeal.main_arg0)
      ∧ r.2.mem ((c.tc : Thread Cert.FirstNormKernelIdeal.nD Cert.FirstNormKernelIdeal.τ).loc Cert.FirstNormKernelIdeal.main_arg1) = m ((c.tc : Thread Cert.FirstNormKernelIdeal.nD Cert.FirstNormKernelIdeal.τ).loc Cert.FirstNormKernelIdeal.main_arg1))
      ∧ r.2.sem = fun _ => 0)

def quiescent_FirstNormReferenceIdeal [hFirstNormReferenceIdeal : Cert.FirstNormReferenceIdeal.Facts] : Prop :=
  ∀ (m : (ℓ : Loc Cert.FirstNormReferenceIdeal.nD Cert.FirstNormReferenceIdeal.τ Cert.FirstNormReferenceIdeal.sig) → Buf (Elt Ideal) ℓ) (g : Dev Cert.FirstNormReferenceIdeal.nD → PrngReg), Pre_FirstNormReferenceIdeal m →
    θ_run (Cert.FirstNormReferenceIdeal.defs (F := Ideal)) (onTc (τ := Cert.FirstNormReferenceIdeal.τ) (Cert.FirstNormReferenceIdeal.main (F := Ideal))) ⟨m, fun _ => 0, g⟩ (fun r => (∀ c : Dev Cert.FirstNormReferenceIdeal.nD,
      r.2.mem ((c.tc : Thread Cert.FirstNormReferenceIdeal.nD Cert.FirstNormReferenceIdeal.τ).loc Cert.FirstNormReferenceIdeal.main_arg0) = m ((c.tc : Thread Cert.FirstNormReferenceIdeal.nD Cert.FirstNormReferenceIdeal.τ).loc Cert.FirstNormReferenceIdeal.main_arg0)
      ∧ r.2.mem ((c.tc : Thread Cert.FirstNormReferenceIdeal.nD Cert.FirstNormReferenceIdeal.τ).loc Cert.FirstNormReferenceIdeal.main_arg1) = m ((c.tc : Thread Cert.FirstNormReferenceIdeal.nD Cert.FirstNormReferenceIdeal.τ).loc Cert.FirstNormReferenceIdeal.main_arg1))
      ∧ r.2.sem = fun _ => 0)

def quiescent_ShortConvKernel [hShortConvKernel : Cert.ShortConvKernel.Facts] : Prop :=
  ∀ (m : (ℓ : Loc Cert.ShortConvKernel.nD Cert.ShortConvKernel.τ Cert.ShortConvKernel.sig) → Buf (Elt Bits) ℓ) (g : Dev Cert.ShortConvKernel.nD → PrngReg), Pre_ShortConvKernel m →
    θ_run (Cert.ShortConvKernel.defs (F := Bits)) (onTc (τ := Cert.ShortConvKernel.τ) (Cert.ShortConvKernel.main (F := Bits))) ⟨m, fun _ => 0, g⟩ (fun r => (∀ c : Dev Cert.ShortConvKernel.nD,
      r.2.mem ((c.tc : Thread Cert.ShortConvKernel.nD Cert.ShortConvKernel.τ).loc Cert.ShortConvKernel.main_arg0) = m ((c.tc : Thread Cert.ShortConvKernel.nD Cert.ShortConvKernel.τ).loc Cert.ShortConvKernel.main_arg0)
      ∧ r.2.mem ((c.tc : Thread Cert.ShortConvKernel.nD Cert.ShortConvKernel.τ).loc Cert.ShortConvKernel.main_arg1) = m ((c.tc : Thread Cert.ShortConvKernel.nD Cert.ShortConvKernel.τ).loc Cert.ShortConvKernel.main_arg1)
      ∧ r.2.mem ((c.tc : Thread Cert.ShortConvKernel.nD Cert.ShortConvKernel.τ).loc Cert.ShortConvKernel.main_arg2) = m ((c.tc : Thread Cert.ShortConvKernel.nD Cert.ShortConvKernel.τ).loc Cert.ShortConvKernel.main_arg2))
      ∧ r.2.sem = fun _ => 0)

def quiescent_ShortConvKernelIdeal [hShortConvKernelIdeal : Cert.ShortConvKernelIdeal.Facts] : Prop :=
  ∀ (m : (ℓ : Loc Cert.ShortConvKernelIdeal.nD Cert.ShortConvKernelIdeal.τ Cert.ShortConvKernelIdeal.sig) → Buf (Elt Ideal) ℓ) (g : Dev Cert.ShortConvKernelIdeal.nD → PrngReg), Pre_ShortConvKernelIdeal m →
    θ_run (Cert.ShortConvKernelIdeal.defs (F := Ideal)) (onTc (τ := Cert.ShortConvKernelIdeal.τ) (Cert.ShortConvKernelIdeal.main (F := Ideal))) ⟨m, fun _ => 0, g⟩ (fun r => (∀ c : Dev Cert.ShortConvKernelIdeal.nD,
      r.2.mem ((c.tc : Thread Cert.ShortConvKernelIdeal.nD Cert.ShortConvKernelIdeal.τ).loc Cert.ShortConvKernelIdeal.main_arg0) = m ((c.tc : Thread Cert.ShortConvKernelIdeal.nD Cert.ShortConvKernelIdeal.τ).loc Cert.ShortConvKernelIdeal.main_arg0)
      ∧ r.2.mem ((c.tc : Thread Cert.ShortConvKernelIdeal.nD Cert.ShortConvKernelIdeal.τ).loc Cert.ShortConvKernelIdeal.main_arg1) = m ((c.tc : Thread Cert.ShortConvKernelIdeal.nD Cert.ShortConvKernelIdeal.τ).loc Cert.ShortConvKernelIdeal.main_arg1)
      ∧ r.2.mem ((c.tc : Thread Cert.ShortConvKernelIdeal.nD Cert.ShortConvKernelIdeal.τ).loc Cert.ShortConvKernelIdeal.main_arg2) = m ((c.tc : Thread Cert.ShortConvKernelIdeal.nD Cert.ShortConvKernelIdeal.τ).loc Cert.ShortConvKernelIdeal.main_arg2))
      ∧ r.2.sem = fun _ => 0)

def quiescent_ShortConvReferenceIdeal [hShortConvReferenceIdeal : Cert.ShortConvReferenceIdeal.Facts] : Prop :=
  ∀ (m : (ℓ : Loc Cert.ShortConvReferenceIdeal.nD Cert.ShortConvReferenceIdeal.τ Cert.ShortConvReferenceIdeal.sig) → Buf (Elt Ideal) ℓ) (g : Dev Cert.ShortConvReferenceIdeal.nD → PrngReg), Pre_ShortConvReferenceIdeal m →
    θ_run (Cert.ShortConvReferenceIdeal.defs (F := Ideal)) (onTc (τ := Cert.ShortConvReferenceIdeal.τ) (Cert.ShortConvReferenceIdeal.main (F := Ideal))) ⟨m, fun _ => 0, g⟩ (fun r => (∀ c : Dev Cert.ShortConvReferenceIdeal.nD,
      r.2.mem ((c.tc : Thread Cert.ShortConvReferenceIdeal.nD Cert.ShortConvReferenceIdeal.τ).loc Cert.ShortConvReferenceIdeal.main_arg0) = m ((c.tc : Thread Cert.ShortConvReferenceIdeal.nD Cert.ShortConvReferenceIdeal.τ).loc Cert.ShortConvReferenceIdeal.main_arg0)
      ∧ r.2.mem ((c.tc : Thread Cert.ShortConvReferenceIdeal.nD Cert.ShortConvReferenceIdeal.τ).loc Cert.ShortConvReferenceIdeal.main_arg1) = m ((c.tc : Thread Cert.ShortConvReferenceIdeal.nD Cert.ShortConvReferenceIdeal.τ).loc Cert.ShortConvReferenceIdeal.main_arg1)
      ∧ r.2.mem ((c.tc : Thread Cert.ShortConvReferenceIdeal.nD Cert.ShortConvReferenceIdeal.τ).loc Cert.ShortConvReferenceIdeal.main_arg2) = m ((c.tc : Thread Cert.ShortConvReferenceIdeal.nD Cert.ShortConvReferenceIdeal.τ).loc Cert.ShortConvReferenceIdeal.main_arg2))
      ∧ r.2.sem = fun _ => 0)

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0))
      ∧ r.2.sem = fun _ => 0)

def preserves_ConvKernel_ConvKernelIdeal : Prop :=
  True

def algebraic_ConvKernelIdeal_ConvReferenceIdeal [hConvKernelIdeal : Cert.ConvKernelIdeal.Facts] [hConvReferenceIdeal : Cert.ConvReferenceIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvKernelIdeal m →
    (∀ c : Dev Cert.ConvKernelIdeal.nD,
      m' ((c.tc : Thread Cert.ConvReferenceIdeal.nD Cert.ConvReferenceIdeal.τ).loc Cert.ConvReferenceIdeal.main_arg0) = m ((c.tc : Thread Cert.ConvKernelIdeal.nD Cert.ConvKernelIdeal.τ).loc Cert.ConvKernelIdeal.main_arg0)
      ∧ m' ((c.tc : Thread Cert.ConvReferenceIdeal.nD Cert.ConvReferenceIdeal.τ).loc Cert.ConvReferenceIdeal.main_arg1) = m ((c.tc : Thread Cert.ConvKernelIdeal.nD Cert.ConvKernelIdeal.τ).loc Cert.ConvKernelIdeal.main_arg1)
      ∧ m' ((c.tc : Thread Cert.ConvReferenceIdeal.nD Cert.ConvReferenceIdeal.τ).loc Cert.ConvReferenceIdeal.main_arg2) = m ((c.tc : Thread Cert.ConvKernelIdeal.nD Cert.ConvKernelIdeal.τ).loc Cert.ConvKernelIdeal.main_arg2)
      ∧ m' ((c.tc : Thread Cert.ConvReferenceIdeal.nD Cert.ConvReferenceIdeal.τ).loc Cert.ConvReferenceIdeal.main_arg3) = m ((c.tc : Thread Cert.ConvKernelIdeal.nD Cert.ConvKernelIdeal.τ).loc Cert.ConvKernelIdeal.main_arg3)
      ∧ m' ((c.tc : Thread Cert.ConvReferenceIdeal.nD Cert.ConvReferenceIdeal.τ).loc Cert.ConvReferenceIdeal.main_arg4) = m ((c.tc : Thread Cert.ConvKernelIdeal.nD Cert.ConvKernelIdeal.τ).loc Cert.ConvKernelIdeal.main_arg4)) →
    ∃ (v0 : (c : Dev Cert.ConvKernelIdeal.nD) → Buf (Elt Ideal) ((c.tc : Thread Cert.ConvKernelIdeal.nD Cert.ConvKernelIdeal.τ).loc Cert.ConvKernelIdeal.main_v1_0)) (v1 : (c : Dev Cert.ConvKernelIdeal.nD) → Buf (Elt Ideal) ((c.tc : Thread Cert.ConvKernelIdeal.nD Cert.ConvKernelIdeal.τ).loc Cert.ConvKernelIdeal.main_v1_1)),
      θ_run (Cert.ConvKernelIdeal.defs (F := Ideal)) (onTc (τ := Cert.ConvKernelIdeal.τ) (Cert.ConvKernelIdeal.main (F := Ideal))) ⟨m, fun _ => 0, g⟩ (fun r => ∀ c : Dev Cert.ConvKernelIdeal.nD,
          r.2.mem ((c.tc : Thread Cert.ConvKernelIdeal.nD Cert.ConvKernelIdeal.τ).loc Cert.ConvKernelIdeal.main_v1_0) = v0 c
          ∧ r.2.mem ((c.tc : Thread Cert.ConvKernelIdeal.nD Cert.ConvKernelIdeal.τ).loc Cert.ConvKernelIdeal.main_v1_1) = v1 c
          ∧ r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
          ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
          ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2)
          ∧ r.2.mem ((c.tc : Thread Cert.ConvKernelIdeal.nD Cert.ConvKernelIdeal.τ).loc Cert.ConvKernelIdeal.main_arg3) = m ((c.tc : Thread Cert.ConvKernelIdeal.nD Cert.ConvKernelIdeal.τ).loc Cert.ConvKernelIdeal.main_arg3)
          ∧ r.2.mem ((c.tc : Thread Cert.ConvKernelIdeal.nD Cert.ConvKernelIdeal.τ).loc Cert.ConvKernelIdeal.main_arg4) = m ((c.tc : Thread Cert.ConvKernelIdeal.nD Cert.ConvKernelIdeal.τ).loc Cert.ConvKernelIdeal.main_arg4))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v80) = v0 c
          ∧ r.2.mem ((c.tc : Thread Cert.ConvReferenceIdeal.nD Cert.ConvReferenceIdeal.τ).loc Cert.ConvReferenceIdeal.main_v83) = v1 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2)
          ∧ r.2.mem ((c.tc : Thread Cert.ConvReferenceIdeal.nD Cert.ConvReferenceIdeal.τ).loc Cert.ConvReferenceIdeal.main_arg3) = m' ((c.tc : Thread Cert.ConvReferenceIdeal.nD Cert.ConvReferenceIdeal.τ).loc Cert.ConvReferenceIdeal.main_arg3)
          ∧ r.2.mem ((c.tc : Thread Cert.ConvReferenceIdeal.nD Cert.ConvReferenceIdeal.τ).loc Cert.ConvReferenceIdeal.main_arg4) = m' ((c.tc : Thread Cert.ConvReferenceIdeal.nD Cert.ConvReferenceIdeal.τ).loc Cert.ConvReferenceIdeal.main_arg4))

def preserves_NormOneKernel_NormOneKernelIdeal : Prop :=
  True

def algebraic_NormOneKernelIdeal_NormOneReferenceIdeal [hNormOneKernelIdeal : Cert.NormOneKernelIdeal.Facts] [hNormOneReferenceIdeal : Cert.NormOneReferenceIdeal.Facts] : Prop :=
  ∀ (m : (ℓ : Loc Cert.NormOneKernelIdeal.nD Cert.NormOneKernelIdeal.τ Cert.NormOneKernelIdeal.sig) → Buf (Elt Ideal) ℓ) (g : Dev Cert.NormOneKernelIdeal.nD → PrngReg)
    (m' : (ℓ : Loc Cert.NormOneReferenceIdeal.nD Cert.NormOneReferenceIdeal.τ Cert.NormOneReferenceIdeal.sig) → Buf (Elt Ideal) ℓ) (g' : Dev Cert.NormOneReferenceIdeal.nD → PrngReg), Pre_NormOneKernelIdeal m →
    (∀ c : Dev Cert.NormOneKernelIdeal.nD,
      m' ((c.tc : Thread Cert.NormOneReferenceIdeal.nD Cert.NormOneReferenceIdeal.τ).loc Cert.NormOneReferenceIdeal.main_arg0) = m ((c.tc : Thread Cert.NormOneKernelIdeal.nD Cert.NormOneKernelIdeal.τ).loc Cert.NormOneKernelIdeal.main_arg0)
      ∧ m' ((c.tc : Thread Cert.NormOneReferenceIdeal.nD Cert.NormOneReferenceIdeal.τ).loc Cert.NormOneReferenceIdeal.main_arg1) = m ((c.tc : Thread Cert.NormOneKernelIdeal.nD Cert.NormOneKernelIdeal.τ).loc Cert.NormOneKernelIdeal.main_arg1)
      ∧ m' ((c.tc : Thread Cert.NormOneReferenceIdeal.nD Cert.NormOneReferenceIdeal.τ).loc Cert.NormOneReferenceIdeal.main_arg2) = m ((c.tc : Thread Cert.NormOneKernelIdeal.nD Cert.NormOneKernelIdeal.τ).loc Cert.NormOneKernelIdeal.main_arg2)
      ∧ m' ((c.tc : Thread Cert.NormOneReferenceIdeal.nD Cert.NormOneReferenceIdeal.τ).loc Cert.NormOneReferenceIdeal.main_arg3) = m ((c.tc : Thread Cert.NormOneKernelIdeal.nD Cert.NormOneKernelIdeal.τ).loc Cert.NormOneKernelIdeal.main_arg3)
      ∧ m' ((c.tc : Thread Cert.NormOneReferenceIdeal.nD Cert.NormOneReferenceIdeal.τ).loc Cert.NormOneReferenceIdeal.main_arg4) = m ((c.tc : Thread Cert.NormOneKernelIdeal.nD Cert.NormOneKernelIdeal.τ).loc Cert.NormOneKernelIdeal.main_arg4)
      ∧ m' ((c.tc : Thread Cert.NormOneReferenceIdeal.nD Cert.NormOneReferenceIdeal.τ).loc Cert.NormOneReferenceIdeal.main_arg5) = m ((c.tc : Thread Cert.NormOneKernelIdeal.nD Cert.NormOneKernelIdeal.τ).loc Cert.NormOneKernelIdeal.main_arg5)
      ∧ m' ((c.tc : Thread Cert.NormOneReferenceIdeal.nD Cert.NormOneReferenceIdeal.τ).loc Cert.NormOneReferenceIdeal.main_arg6) = m ((c.tc : Thread Cert.NormOneKernelIdeal.nD Cert.NormOneKernelIdeal.τ).loc Cert.NormOneKernelIdeal.main_arg6)) →
    ∃ (v0 : (c : Dev Cert.NormOneKernelIdeal.nD) → Buf (Elt Ideal) ((c.tc : Thread Cert.NormOneKernelIdeal.nD Cert.NormOneKernelIdeal.τ).loc Cert.NormOneKernelIdeal.main_v1_0)) (v1 : (c : Dev Cert.NormOneKernelIdeal.nD) → Buf (Elt Ideal) ((c.tc : Thread Cert.NormOneKernelIdeal.nD Cert.NormOneKernelIdeal.τ).loc Cert.NormOneKernelIdeal.main_v1_1)),
      θ_run (Cert.NormOneKernelIdeal.defs (F := Ideal)) (onTc (τ := Cert.NormOneKernelIdeal.τ) (Cert.NormOneKernelIdeal.main (F := Ideal))) ⟨m, fun _ => 0, g⟩ (fun r => ∀ c : Dev Cert.NormOneKernelIdeal.nD,
          r.2.mem ((c.tc : Thread Cert.NormOneKernelIdeal.nD Cert.NormOneKernelIdeal.τ).loc Cert.NormOneKernelIdeal.main_v1_0) = v0 c
          ∧ r.2.mem ((c.tc : Thread Cert.NormOneKernelIdeal.nD Cert.NormOneKernelIdeal.τ).loc Cert.NormOneKernelIdeal.main_v1_1) = v1 c
          ∧ r.2.mem ((c.tc : Thread Cert.NormOneKernelIdeal.nD Cert.NormOneKernelIdeal.τ).loc Cert.NormOneKernelIdeal.main_arg0) = m ((c.tc : Thread Cert.NormOneKernelIdeal.nD Cert.NormOneKernelIdeal.τ).loc Cert.NormOneKernelIdeal.main_arg0)
          ∧ r.2.mem ((c.tc : Thread Cert.NormOneKernelIdeal.nD Cert.NormOneKernelIdeal.τ).loc Cert.NormOneKernelIdeal.main_arg1) = m ((c.tc : Thread Cert.NormOneKernelIdeal.nD Cert.NormOneKernelIdeal.τ).loc Cert.NormOneKernelIdeal.main_arg1)
          ∧ r.2.mem ((c.tc : Thread Cert.NormOneKernelIdeal.nD Cert.NormOneKernelIdeal.τ).loc Cert.NormOneKernelIdeal.main_arg2) = m ((c.tc : Thread Cert.NormOneKernelIdeal.nD Cert.NormOneKernelIdeal.τ).loc Cert.NormOneKernelIdeal.main_arg2)
          ∧ r.2.mem ((c.tc : Thread Cert.NormOneKernelIdeal.nD Cert.NormOneKernelIdeal.τ).loc Cert.NormOneKernelIdeal.main_arg3) = m ((c.tc : Thread Cert.NormOneKernelIdeal.nD Cert.NormOneKernelIdeal.τ).loc Cert.NormOneKernelIdeal.main_arg3)
          ∧ r.2.mem ((c.tc : Thread Cert.NormOneKernelIdeal.nD Cert.NormOneKernelIdeal.τ).loc Cert.NormOneKernelIdeal.main_arg4) = m ((c.tc : Thread Cert.NormOneKernelIdeal.nD Cert.NormOneKernelIdeal.τ).loc Cert.NormOneKernelIdeal.main_arg4)
          ∧ r.2.mem ((c.tc : Thread Cert.NormOneKernelIdeal.nD Cert.NormOneKernelIdeal.τ).loc Cert.NormOneKernelIdeal.main_arg5) = m ((c.tc : Thread Cert.NormOneKernelIdeal.nD Cert.NormOneKernelIdeal.τ).loc Cert.NormOneKernelIdeal.main_arg5)
          ∧ r.2.mem ((c.tc : Thread Cert.NormOneKernelIdeal.nD Cert.NormOneKernelIdeal.τ).loc Cert.NormOneKernelIdeal.main_arg6) = m ((c.tc : Thread Cert.NormOneKernelIdeal.nD Cert.NormOneKernelIdeal.τ).loc Cert.NormOneKernelIdeal.main_arg6))
      ∧ θ_run (Cert.NormOneReferenceIdeal.defs (F := Ideal)) (onTc (τ := Cert.NormOneReferenceIdeal.τ) (Cert.NormOneReferenceIdeal.main (F := Ideal))) ⟨m', fun _ => 0, g'⟩ (fun r => ∀ c : Dev Cert.NormOneReferenceIdeal.nD,
          r.2.mem ((c.tc : Thread Cert.NormOneReferenceIdeal.nD Cert.NormOneReferenceIdeal.τ).loc Cert.NormOneReferenceIdeal.main_v82) = v0 c
          ∧ r.2.mem ((c.tc : Thread Cert.NormOneReferenceIdeal.nD Cert.NormOneReferenceIdeal.τ).loc Cert.NormOneReferenceIdeal.main_v83) = v1 c
          ∧ r.2.mem ((c.tc : Thread Cert.NormOneReferenceIdeal.nD Cert.NormOneReferenceIdeal.τ).loc Cert.NormOneReferenceIdeal.main_arg0) = m' ((c.tc : Thread Cert.NormOneReferenceIdeal.nD Cert.NormOneReferenceIdeal.τ).loc Cert.NormOneReferenceIdeal.main_arg0)
          ∧ r.2.mem ((c.tc : Thread Cert.NormOneReferenceIdeal.nD Cert.NormOneReferenceIdeal.τ).loc Cert.NormOneReferenceIdeal.main_arg1) = m' ((c.tc : Thread Cert.NormOneReferenceIdeal.nD Cert.NormOneReferenceIdeal.τ).loc Cert.NormOneReferenceIdeal.main_arg1)
          ∧ r.2.mem ((c.tc : Thread Cert.NormOneReferenceIdeal.nD Cert.NormOneReferenceIdeal.τ).loc Cert.NormOneReferenceIdeal.main_arg2) = m' ((c.tc : Thread Cert.NormOneReferenceIdeal.nD Cert.NormOneReferenceIdeal.τ).loc Cert.NormOneReferenceIdeal.main_arg2)
          ∧ r.2.mem ((c.tc : Thread Cert.NormOneReferenceIdeal.nD Cert.NormOneReferenceIdeal.τ).loc Cert.NormOneReferenceIdeal.main_arg3) = m' ((c.tc : Thread Cert.NormOneReferenceIdeal.nD Cert.NormOneReferenceIdeal.τ).loc Cert.NormOneReferenceIdeal.main_arg3)
          ∧ r.2.mem ((c.tc : Thread Cert.NormOneReferenceIdeal.nD Cert.NormOneReferenceIdeal.τ).loc Cert.NormOneReferenceIdeal.main_arg4) = m' ((c.tc : Thread Cert.NormOneReferenceIdeal.nD Cert.NormOneReferenceIdeal.τ).loc Cert.NormOneReferenceIdeal.main_arg4)
          ∧ r.2.mem ((c.tc : Thread Cert.NormOneReferenceIdeal.nD Cert.NormOneReferenceIdeal.τ).loc Cert.NormOneReferenceIdeal.main_arg5) = m' ((c.tc : Thread Cert.NormOneReferenceIdeal.nD Cert.NormOneReferenceIdeal.τ).loc Cert.NormOneReferenceIdeal.main_arg5)
          ∧ r.2.mem ((c.tc : Thread Cert.NormOneReferenceIdeal.nD Cert.NormOneReferenceIdeal.τ).loc Cert.NormOneReferenceIdeal.main_arg6) = m' ((c.tc : Thread Cert.NormOneReferenceIdeal.nD Cert.NormOneReferenceIdeal.τ).loc Cert.NormOneReferenceIdeal.main_arg6))

def preserves_NormTwoKernel_NormTwoKernelIdeal : Prop :=
  True

def algebraic_NormTwoKernelIdeal_NormTwoReferenceIdeal [hNormTwoKernelIdeal : Cert.NormTwoKernelIdeal.Facts] [hNormTwoReferenceIdeal : Cert.NormTwoReferenceIdeal.Facts] : Prop :=
  ∀ (m : (ℓ : Loc Cert.NormTwoKernelIdeal.nD Cert.NormTwoKernelIdeal.τ Cert.NormTwoKernelIdeal.sig) → Buf (Elt Ideal) ℓ) (g : Dev Cert.NormTwoKernelIdeal.nD → PrngReg)
    (m' : (ℓ : Loc Cert.NormTwoReferenceIdeal.nD Cert.NormTwoReferenceIdeal.τ Cert.NormTwoReferenceIdeal.sig) → Buf (Elt Ideal) ℓ) (g' : Dev Cert.NormTwoReferenceIdeal.nD → PrngReg), Pre_NormTwoKernelIdeal m →
    (∀ c : Dev Cert.NormTwoKernelIdeal.nD,
      m' ((c.tc : Thread Cert.NormTwoReferenceIdeal.nD Cert.NormTwoReferenceIdeal.τ).loc Cert.NormTwoReferenceIdeal.main_arg0) = m ((c.tc : Thread Cert.NormTwoKernelIdeal.nD Cert.NormTwoKernelIdeal.τ).loc Cert.NormTwoKernelIdeal.main_arg0)
      ∧ m' ((c.tc : Thread Cert.NormTwoReferenceIdeal.nD Cert.NormTwoReferenceIdeal.τ).loc Cert.NormTwoReferenceIdeal.main_arg1) = m ((c.tc : Thread Cert.NormTwoKernelIdeal.nD Cert.NormTwoKernelIdeal.τ).loc Cert.NormTwoKernelIdeal.main_arg1)
      ∧ m' ((c.tc : Thread Cert.NormTwoReferenceIdeal.nD Cert.NormTwoReferenceIdeal.τ).loc Cert.NormTwoReferenceIdeal.main_arg2) = m ((c.tc : Thread Cert.NormTwoKernelIdeal.nD Cert.NormTwoKernelIdeal.τ).loc Cert.NormTwoKernelIdeal.main_arg2)
      ∧ m' ((c.tc : Thread Cert.NormTwoReferenceIdeal.nD Cert.NormTwoReferenceIdeal.τ).loc Cert.NormTwoReferenceIdeal.main_arg3) = m ((c.tc : Thread Cert.NormTwoKernelIdeal.nD Cert.NormTwoKernelIdeal.τ).loc Cert.NormTwoKernelIdeal.main_arg3)
      ∧ m' ((c.tc : Thread Cert.NormTwoReferenceIdeal.nD Cert.NormTwoReferenceIdeal.τ).loc Cert.NormTwoReferenceIdeal.main_arg4) = m ((c.tc : Thread Cert.NormTwoKernelIdeal.nD Cert.NormTwoKernelIdeal.τ).loc Cert.NormTwoKernelIdeal.main_arg4)) →
    ∃ (v0 : (c : Dev Cert.NormTwoKernelIdeal.nD) → Buf (Elt Ideal) ((c.tc : Thread Cert.NormTwoKernelIdeal.nD Cert.NormTwoKernelIdeal.τ).loc Cert.NormTwoKernelIdeal.main_v2_0)) (v1 : (c : Dev Cert.NormTwoKernelIdeal.nD) → Buf (Elt Ideal) ((c.tc : Thread Cert.NormTwoKernelIdeal.nD Cert.NormTwoKernelIdeal.τ).loc Cert.NormTwoKernelIdeal.main_v2_1)),
      θ_run (Cert.NormTwoKernelIdeal.defs (F := Ideal)) (onTc (τ := Cert.NormTwoKernelIdeal.τ) (Cert.NormTwoKernelIdeal.main (F := Ideal))) ⟨m, fun _ => 0, g⟩ (fun r => ∀ c : Dev Cert.NormTwoKernelIdeal.nD,
          r.2.mem ((c.tc : Thread Cert.NormTwoKernelIdeal.nD Cert.NormTwoKernelIdeal.τ).loc Cert.NormTwoKernelIdeal.main_v2_0) = v0 c
          ∧ r.2.mem ((c.tc : Thread Cert.NormTwoKernelIdeal.nD Cert.NormTwoKernelIdeal.τ).loc Cert.NormTwoKernelIdeal.main_v2_1) = v1 c
          ∧ r.2.mem ((c.tc : Thread Cert.NormTwoKernelIdeal.nD Cert.NormTwoKernelIdeal.τ).loc Cert.NormTwoKernelIdeal.main_arg0) = m ((c.tc : Thread Cert.NormTwoKernelIdeal.nD Cert.NormTwoKernelIdeal.τ).loc Cert.NormTwoKernelIdeal.main_arg0)
          ∧ r.2.mem ((c.tc : Thread Cert.NormTwoKernelIdeal.nD Cert.NormTwoKernelIdeal.τ).loc Cert.NormTwoKernelIdeal.main_arg1) = m ((c.tc : Thread Cert.NormTwoKernelIdeal.nD Cert.NormTwoKernelIdeal.τ).loc Cert.NormTwoKernelIdeal.main_arg1)
          ∧ r.2.mem ((c.tc : Thread Cert.NormTwoKernelIdeal.nD Cert.NormTwoKernelIdeal.τ).loc Cert.NormTwoKernelIdeal.main_arg2) = m ((c.tc : Thread Cert.NormTwoKernelIdeal.nD Cert.NormTwoKernelIdeal.τ).loc Cert.NormTwoKernelIdeal.main_arg2)
          ∧ r.2.mem ((c.tc : Thread Cert.NormTwoKernelIdeal.nD Cert.NormTwoKernelIdeal.τ).loc Cert.NormTwoKernelIdeal.main_arg3) = m ((c.tc : Thread Cert.NormTwoKernelIdeal.nD Cert.NormTwoKernelIdeal.τ).loc Cert.NormTwoKernelIdeal.main_arg3)
          ∧ r.2.mem ((c.tc : Thread Cert.NormTwoKernelIdeal.nD Cert.NormTwoKernelIdeal.τ).loc Cert.NormTwoKernelIdeal.main_arg4) = m ((c.tc : Thread Cert.NormTwoKernelIdeal.nD Cert.NormTwoKernelIdeal.τ).loc Cert.NormTwoKernelIdeal.main_arg4))
      ∧ θ_run (Cert.NormTwoReferenceIdeal.defs (F := Ideal)) (onTc (τ := Cert.NormTwoReferenceIdeal.τ) (Cert.NormTwoReferenceIdeal.main (F := Ideal))) ⟨m', fun _ => 0, g'⟩ (fun r => ∀ c : Dev Cert.NormTwoReferenceIdeal.nD,
          r.2.mem ((c.tc : Thread Cert.NormTwoReferenceIdeal.nD Cert.NormTwoReferenceIdeal.τ).loc Cert.NormTwoReferenceIdeal.main_v51) = v0 c
          ∧ r.2.mem ((c.tc : Thread Cert.NormTwoReferenceIdeal.nD Cert.NormTwoReferenceIdeal.τ).loc Cert.NormTwoReferenceIdeal.main_v52) = v1 c
          ∧ r.2.mem ((c.tc : Thread Cert.NormTwoReferenceIdeal.nD Cert.NormTwoReferenceIdeal.τ).loc Cert.NormTwoReferenceIdeal.main_arg0) = m' ((c.tc : Thread Cert.NormTwoReferenceIdeal.nD Cert.NormTwoReferenceIdeal.τ).loc Cert.NormTwoReferenceIdeal.main_arg0)
          ∧ r.2.mem ((c.tc : Thread Cert.NormTwoReferenceIdeal.nD Cert.NormTwoReferenceIdeal.τ).loc Cert.NormTwoReferenceIdeal.main_arg1) = m' ((c.tc : Thread Cert.NormTwoReferenceIdeal.nD Cert.NormTwoReferenceIdeal.τ).loc Cert.NormTwoReferenceIdeal.main_arg1)
          ∧ r.2.mem ((c.tc : Thread Cert.NormTwoReferenceIdeal.nD Cert.NormTwoReferenceIdeal.τ).loc Cert.NormTwoReferenceIdeal.main_arg2) = m' ((c.tc : Thread Cert.NormTwoReferenceIdeal.nD Cert.NormTwoReferenceIdeal.τ).loc Cert.NormTwoReferenceIdeal.main_arg2)
          ∧ r.2.mem ((c.tc : Thread Cert.NormTwoReferenceIdeal.nD Cert.NormTwoReferenceIdeal.τ).loc Cert.NormTwoReferenceIdeal.main_arg3) = m' ((c.tc : Thread Cert.NormTwoReferenceIdeal.nD Cert.NormTwoReferenceIdeal.τ).loc Cert.NormTwoReferenceIdeal.main_arg3)
          ∧ r.2.mem ((c.tc : Thread Cert.NormTwoReferenceIdeal.nD Cert.NormTwoReferenceIdeal.τ).loc Cert.NormTwoReferenceIdeal.main_arg4) = m' ((c.tc : Thread Cert.NormTwoReferenceIdeal.nD Cert.NormTwoReferenceIdeal.τ).loc Cert.NormTwoReferenceIdeal.main_arg4))

def preserves_ActKernel_ActKernelIdeal : Prop :=
  True

def algebraic_ActKernelIdeal_ActReferenceIdeal [hActKernelIdeal : Cert.ActKernelIdeal.Facts] [hActReferenceIdeal : Cert.ActReferenceIdeal.Facts] : Prop :=
  ∀ (m : (ℓ : Loc Cert.ActKernelIdeal.nD Cert.ActKernelIdeal.τ Cert.ActKernelIdeal.sig) → Buf (Elt Ideal) ℓ) (g : Dev Cert.ActKernelIdeal.nD → PrngReg)
    (m' : (ℓ : Loc Cert.ActReferenceIdeal.nD Cert.ActReferenceIdeal.τ Cert.ActReferenceIdeal.sig) → Buf (Elt Ideal) ℓ) (g' : Dev Cert.ActReferenceIdeal.nD → PrngReg), Pre_ActKernelIdeal m →
    (∀ c : Dev Cert.ActKernelIdeal.nD,
      m' ((c.tc : Thread Cert.ActReferenceIdeal.nD Cert.ActReferenceIdeal.τ).loc Cert.ActReferenceIdeal.main_arg0) = m ((c.tc : Thread Cert.ActKernelIdeal.nD Cert.ActKernelIdeal.τ).loc Cert.ActKernelIdeal.main_arg0)
      ∧ m' ((c.tc : Thread Cert.ActReferenceIdeal.nD Cert.ActReferenceIdeal.τ).loc Cert.ActReferenceIdeal.main_arg1) = m ((c.tc : Thread Cert.ActKernelIdeal.nD Cert.ActKernelIdeal.τ).loc Cert.ActKernelIdeal.main_arg1)
      ∧ m' ((c.tc : Thread Cert.ActReferenceIdeal.nD Cert.ActReferenceIdeal.τ).loc Cert.ActReferenceIdeal.main_arg2) = m ((c.tc : Thread Cert.ActKernelIdeal.nD Cert.ActKernelIdeal.τ).loc Cert.ActKernelIdeal.main_arg2)
      ∧ m' ((c.tc : Thread Cert.ActReferenceIdeal.nD Cert.ActReferenceIdeal.τ).loc Cert.ActReferenceIdeal.main_arg3) = m ((c.tc : Thread Cert.ActKernelIdeal.nD Cert.ActKernelIdeal.τ).loc Cert.ActKernelIdeal.main_arg3)) →
    ∃ (v0 : (c : Dev Cert.ActKernelIdeal.nD) → Buf (Elt Ideal) ((c.tc : Thread Cert.ActKernelIdeal.nD Cert.ActKernelIdeal.τ).loc Cert.ActKernelIdeal.main_v15)),
      θ_run (Cert.ActKernelIdeal.defs (F := Ideal)) (onTc (τ := Cert.ActKernelIdeal.τ) (Cert.ActKernelIdeal.main (F := Ideal))) ⟨m, fun _ => 0, g⟩ (fun r => ∀ c : Dev Cert.ActKernelIdeal.nD,
          r.2.mem ((c.tc : Thread Cert.ActKernelIdeal.nD Cert.ActKernelIdeal.τ).loc Cert.ActKernelIdeal.main_v15) = v0 c
          ∧ r.2.mem ((c.tc : Thread Cert.ActKernelIdeal.nD Cert.ActKernelIdeal.τ).loc Cert.ActKernelIdeal.main_arg0) = m ((c.tc : Thread Cert.ActKernelIdeal.nD Cert.ActKernelIdeal.τ).loc Cert.ActKernelIdeal.main_arg0)
          ∧ r.2.mem ((c.tc : Thread Cert.ActKernelIdeal.nD Cert.ActKernelIdeal.τ).loc Cert.ActKernelIdeal.main_arg1) = m ((c.tc : Thread Cert.ActKernelIdeal.nD Cert.ActKernelIdeal.τ).loc Cert.ActKernelIdeal.main_arg1)
          ∧ r.2.mem ((c.tc : Thread Cert.ActKernelIdeal.nD Cert.ActKernelIdeal.τ).loc Cert.ActKernelIdeal.main_arg2) = m ((c.tc : Thread Cert.ActKernelIdeal.nD Cert.ActKernelIdeal.τ).loc Cert.ActKernelIdeal.main_arg2)
          ∧ r.2.mem ((c.tc : Thread Cert.ActKernelIdeal.nD Cert.ActKernelIdeal.τ).loc Cert.ActKernelIdeal.main_arg3) = m ((c.tc : Thread Cert.ActKernelIdeal.nD Cert.ActKernelIdeal.τ).loc Cert.ActKernelIdeal.main_arg3))
      ∧ θ_run (Cert.ActReferenceIdeal.defs (F := Ideal)) (onTc (τ := Cert.ActReferenceIdeal.τ) (Cert.ActReferenceIdeal.main (F := Ideal))) ⟨m', fun _ => 0, g'⟩ (fun r => ∀ c : Dev Cert.ActReferenceIdeal.nD,
          r.2.mem ((c.tc : Thread Cert.ActReferenceIdeal.nD Cert.ActReferenceIdeal.τ).loc Cert.ActReferenceIdeal.main_v26) = v0 c
          ∧ r.2.mem ((c.tc : Thread Cert.ActReferenceIdeal.nD Cert.ActReferenceIdeal.τ).loc Cert.ActReferenceIdeal.main_arg0) = m' ((c.tc : Thread Cert.ActReferenceIdeal.nD Cert.ActReferenceIdeal.τ).loc Cert.ActReferenceIdeal.main_arg0)
          ∧ r.2.mem ((c.tc : Thread Cert.ActReferenceIdeal.nD Cert.ActReferenceIdeal.τ).loc Cert.ActReferenceIdeal.main_arg1) = m' ((c.tc : Thread Cert.ActReferenceIdeal.nD Cert.ActReferenceIdeal.τ).loc Cert.ActReferenceIdeal.main_arg1)
          ∧ r.2.mem ((c.tc : Thread Cert.ActReferenceIdeal.nD Cert.ActReferenceIdeal.τ).loc Cert.ActReferenceIdeal.main_arg2) = m' ((c.tc : Thread Cert.ActReferenceIdeal.nD Cert.ActReferenceIdeal.τ).loc Cert.ActReferenceIdeal.main_arg2)
          ∧ r.2.mem ((c.tc : Thread Cert.ActReferenceIdeal.nD Cert.ActReferenceIdeal.τ).loc Cert.ActReferenceIdeal.main_arg3) = m' ((c.tc : Thread Cert.ActReferenceIdeal.nD Cert.ActReferenceIdeal.τ).loc Cert.ActReferenceIdeal.main_arg3))

def preserves_WInKernel_WInKernelIdeal : Prop :=
  True

def algebraic_WInKernelIdeal_WInReferenceIdeal [hWInKernelIdeal : Cert.WInKernelIdeal.Facts] [hWInReferenceIdeal : Cert.WInReferenceIdeal.Facts] : Prop :=
  ∀ (m : (ℓ : Loc Cert.WInKernelIdeal.nD Cert.WInKernelIdeal.τ Cert.WInKernelIdeal.sig) → Buf (Elt Ideal) ℓ) (g : Dev Cert.WInKernelIdeal.nD → PrngReg)
    (m' : (ℓ : Loc Cert.WInReferenceIdeal.nD Cert.WInReferenceIdeal.τ Cert.WInReferenceIdeal.sig) → Buf (Elt Ideal) ℓ) (g' : Dev Cert.WInReferenceIdeal.nD → PrngReg), Pre_WInKernelIdeal m →
    (∀ c : Dev Cert.WInKernelIdeal.nD,
      m' ((c.tc : Thread Cert.WInReferenceIdeal.nD Cert.WInReferenceIdeal.τ).loc Cert.WInReferenceIdeal.main_arg0) = m ((c.tc : Thread Cert.WInKernelIdeal.nD Cert.WInKernelIdeal.τ).loc Cert.WInKernelIdeal.main_arg0)
      ∧ m' ((c.tc : Thread Cert.WInReferenceIdeal.nD Cert.WInReferenceIdeal.τ).loc Cert.WInReferenceIdeal.main_arg1) = m ((c.tc : Thread Cert.WInKernelIdeal.nD Cert.WInKernelIdeal.τ).loc Cert.WInKernelIdeal.main_arg1)) →
    ∃ (v0 : (c : Dev Cert.WInKernelIdeal.nD) → Buf (Elt Ideal) ((c.tc : Thread Cert.WInKernelIdeal.nD Cert.WInKernelIdeal.τ).loc Cert.WInKernelIdeal.main_v0)),
      θ_run (Cert.WInKernelIdeal.defs (F := Ideal)) (onTc (τ := Cert.WInKernelIdeal.τ) (Cert.WInKernelIdeal.main (F := Ideal))) ⟨m, fun _ => 0, g⟩ (fun r => ∀ c : Dev Cert.WInKernelIdeal.nD,
          r.2.mem ((c.tc : Thread Cert.WInKernelIdeal.nD Cert.WInKernelIdeal.τ).loc Cert.WInKernelIdeal.main_v0) = v0 c
          ∧ r.2.mem ((c.tc : Thread Cert.WInKernelIdeal.nD Cert.WInKernelIdeal.τ).loc Cert.WInKernelIdeal.main_arg0) = m ((c.tc : Thread Cert.WInKernelIdeal.nD Cert.WInKernelIdeal.τ).loc Cert.WInKernelIdeal.main_arg0)
          ∧ r.2.mem ((c.tc : Thread Cert.WInKernelIdeal.nD Cert.WInKernelIdeal.τ).loc Cert.WInKernelIdeal.main_arg1) = m ((c.tc : Thread Cert.WInKernelIdeal.nD Cert.WInKernelIdeal.τ).loc Cert.WInKernelIdeal.main_arg1))
      ∧ θ_run (Cert.WInReferenceIdeal.defs (F := Ideal)) (onTc (τ := Cert.WInReferenceIdeal.τ) (Cert.WInReferenceIdeal.main (F := Ideal))) ⟨m', fun _ => 0, g'⟩ (fun r => ∀ c : Dev Cert.WInReferenceIdeal.nD,
          r.2.mem ((c.tc : Thread Cert.WInReferenceIdeal.nD Cert.WInReferenceIdeal.τ).loc Cert.WInReferenceIdeal.main_v27) = v0 c
          ∧ r.2.mem ((c.tc : Thread Cert.WInReferenceIdeal.nD Cert.WInReferenceIdeal.τ).loc Cert.WInReferenceIdeal.main_arg0) = m' ((c.tc : Thread Cert.WInReferenceIdeal.nD Cert.WInReferenceIdeal.τ).loc Cert.WInReferenceIdeal.main_arg0)
          ∧ r.2.mem ((c.tc : Thread Cert.WInReferenceIdeal.nD Cert.WInReferenceIdeal.τ).loc Cert.WInReferenceIdeal.main_arg1) = m' ((c.tc : Thread Cert.WInReferenceIdeal.nD Cert.WInReferenceIdeal.τ).loc Cert.WInReferenceIdeal.main_arg1))

def preserves_WUpKernel_WUpKernelIdeal : Prop :=
  True

def algebraic_WUpKernelIdeal_WUpReferenceIdeal [hWUpKernelIdeal : Cert.WUpKernelIdeal.Facts] [hWUpReferenceIdeal : Cert.WUpReferenceIdeal.Facts] : Prop :=
  ∀ (m : (ℓ : Loc Cert.WUpKernelIdeal.nD Cert.WUpKernelIdeal.τ Cert.WUpKernelIdeal.sig) → Buf (Elt Ideal) ℓ) (g : Dev Cert.WUpKernelIdeal.nD → PrngReg)
    (m' : (ℓ : Loc Cert.WUpReferenceIdeal.nD Cert.WUpReferenceIdeal.τ Cert.WUpReferenceIdeal.sig) → Buf (Elt Ideal) ℓ) (g' : Dev Cert.WUpReferenceIdeal.nD → PrngReg), Pre_WUpKernelIdeal m →
    (∀ c : Dev Cert.WUpKernelIdeal.nD,
      m' ((c.tc : Thread Cert.WUpReferenceIdeal.nD Cert.WUpReferenceIdeal.τ).loc Cert.WUpReferenceIdeal.main_arg0) = m ((c.tc : Thread Cert.WUpKernelIdeal.nD Cert.WUpKernelIdeal.τ).loc Cert.WUpKernelIdeal.main_arg0)
      ∧ m' ((c.tc : Thread Cert.WUpReferenceIdeal.nD Cert.WUpReferenceIdeal.τ).loc Cert.WUpReferenceIdeal.main_arg1) = m ((c.tc : Thread Cert.WUpKernelIdeal.nD Cert.WUpKernelIdeal.τ).loc Cert.WUpKernelIdeal.main_arg1)) →
    ∃ (v0 : (c : Dev Cert.WUpKernelIdeal.nD) → Buf (Elt Ideal) ((c.tc : Thread Cert.WUpKernelIdeal.nD Cert.WUpKernelIdeal.τ).loc Cert.WUpKernelIdeal.main_v0)),
      θ_run (Cert.WUpKernelIdeal.defs (F := Ideal)) (onTc (τ := Cert.WUpKernelIdeal.τ) (Cert.WUpKernelIdeal.main (F := Ideal))) ⟨m, fun _ => 0, g⟩ (fun r => ∀ c : Dev Cert.WUpKernelIdeal.nD,
          r.2.mem ((c.tc : Thread Cert.WUpKernelIdeal.nD Cert.WUpKernelIdeal.τ).loc Cert.WUpKernelIdeal.main_v0) = v0 c
          ∧ r.2.mem ((c.tc : Thread Cert.WUpKernelIdeal.nD Cert.WUpKernelIdeal.τ).loc Cert.WUpKernelIdeal.main_arg0) = m ((c.tc : Thread Cert.WUpKernelIdeal.nD Cert.WUpKernelIdeal.τ).loc Cert.WUpKernelIdeal.main_arg0)
          ∧ r.2.mem ((c.tc : Thread Cert.WUpKernelIdeal.nD Cert.WUpKernelIdeal.τ).loc Cert.WUpKernelIdeal.main_arg1) = m ((c.tc : Thread Cert.WUpKernelIdeal.nD Cert.WUpKernelIdeal.τ).loc Cert.WUpKernelIdeal.main_arg1))
      ∧ θ_run (Cert.WUpReferenceIdeal.defs (F := Ideal)) (onTc (τ := Cert.WUpReferenceIdeal.τ) (Cert.WUpReferenceIdeal.main (F := Ideal))) ⟨m', fun _ => 0, g'⟩ (fun r => ∀ c : Dev Cert.WUpReferenceIdeal.nD,
          r.2.mem ((c.tc : Thread Cert.WUpReferenceIdeal.nD Cert.WUpReferenceIdeal.τ).loc Cert.WUpReferenceIdeal.main_v14) = v0 c
          ∧ r.2.mem ((c.tc : Thread Cert.WUpReferenceIdeal.nD Cert.WUpReferenceIdeal.τ).loc Cert.WUpReferenceIdeal.main_arg0) = m' ((c.tc : Thread Cert.WUpReferenceIdeal.nD Cert.WUpReferenceIdeal.τ).loc Cert.WUpReferenceIdeal.main_arg0)
          ∧ r.2.mem ((c.tc : Thread Cert.WUpReferenceIdeal.nD Cert.WUpReferenceIdeal.τ).loc Cert.WUpReferenceIdeal.main_arg1) = m' ((c.tc : Thread Cert.WUpReferenceIdeal.nD Cert.WUpReferenceIdeal.τ).loc Cert.WUpReferenceIdeal.main_arg1))

def preserves_WDownKernel_WDownKernelIdeal : Prop :=
  True

def algebraic_WDownKernelIdeal_WDownReferenceIdeal [hWDownKernelIdeal : Cert.WDownKernelIdeal.Facts] [hWDownReferenceIdeal : Cert.WDownReferenceIdeal.Facts] : Prop :=
  ∀ (m : (ℓ : Loc Cert.WDownKernelIdeal.nD Cert.WDownKernelIdeal.τ Cert.WDownKernelIdeal.sig) → Buf (Elt Ideal) ℓ) (g : Dev Cert.WDownKernelIdeal.nD → PrngReg)
    (m' : (ℓ : Loc Cert.WDownReferenceIdeal.nD Cert.WDownReferenceIdeal.τ Cert.WDownReferenceIdeal.sig) → Buf (Elt Ideal) ℓ) (g' : Dev Cert.WDownReferenceIdeal.nD → PrngReg), Pre_WDownKernelIdeal m →
    (∀ c : Dev Cert.WDownKernelIdeal.nD,
      m' ((c.tc : Thread Cert.WDownReferenceIdeal.nD Cert.WDownReferenceIdeal.τ).loc Cert.WDownReferenceIdeal.main_arg0) = m ((c.tc : Thread Cert.WDownKernelIdeal.nD Cert.WDownKernelIdeal.τ).loc Cert.WDownKernelIdeal.main_arg0)
      ∧ m' ((c.tc : Thread Cert.WDownReferenceIdeal.nD Cert.WDownReferenceIdeal.τ).loc Cert.WDownReferenceIdeal.main_arg1) = m ((c.tc : Thread Cert.WDownKernelIdeal.nD Cert.WDownKernelIdeal.τ).loc Cert.WDownKernelIdeal.main_arg1)) →
    ∃ (v0 : (c : Dev Cert.WDownKernelIdeal.nD) → Buf (Elt Ideal) ((c.tc : Thread Cert.WDownKernelIdeal.nD Cert.WDownKernelIdeal.τ).loc Cert.WDownKernelIdeal.main_v0)),
      θ_run (Cert.WDownKernelIdeal.defs (F := Ideal)) (onTc (τ := Cert.WDownKernelIdeal.τ) (Cert.WDownKernelIdeal.main (F := Ideal))) ⟨m, fun _ => 0, g⟩ (fun r => ∀ c : Dev Cert.WDownKernelIdeal.nD,
          r.2.mem ((c.tc : Thread Cert.WDownKernelIdeal.nD Cert.WDownKernelIdeal.τ).loc Cert.WDownKernelIdeal.main_v0) = v0 c
          ∧ r.2.mem ((c.tc : Thread Cert.WDownKernelIdeal.nD Cert.WDownKernelIdeal.τ).loc Cert.WDownKernelIdeal.main_arg0) = m ((c.tc : Thread Cert.WDownKernelIdeal.nD Cert.WDownKernelIdeal.τ).loc Cert.WDownKernelIdeal.main_arg0)
          ∧ r.2.mem ((c.tc : Thread Cert.WDownKernelIdeal.nD Cert.WDownKernelIdeal.τ).loc Cert.WDownKernelIdeal.main_arg1) = m ((c.tc : Thread Cert.WDownKernelIdeal.nD Cert.WDownKernelIdeal.τ).loc Cert.WDownKernelIdeal.main_arg1))
      ∧ θ_run (Cert.WDownReferenceIdeal.defs (F := Ideal)) (onTc (τ := Cert.WDownReferenceIdeal.τ) (Cert.WDownReferenceIdeal.main (F := Ideal))) ⟨m', fun _ => 0, g'⟩ (fun r => ∀ c : Dev Cert.WDownReferenceIdeal.nD,
          r.2.mem ((c.tc : Thread Cert.WDownReferenceIdeal.nD Cert.WDownReferenceIdeal.τ).loc Cert.WDownReferenceIdeal.main_v5) = v0 c
          ∧ r.2.mem ((c.tc : Thread Cert.WDownReferenceIdeal.nD Cert.WDownReferenceIdeal.τ).loc Cert.WDownReferenceIdeal.main_arg0) = m' ((c.tc : Thread Cert.WDownReferenceIdeal.nD Cert.WDownReferenceIdeal.τ).loc Cert.WDownReferenceIdeal.main_arg0)
          ∧ r.2.mem ((c.tc : Thread Cert.WDownReferenceIdeal.nD Cert.WDownReferenceIdeal.τ).loc Cert.WDownReferenceIdeal.main_arg1) = m' ((c.tc : Thread Cert.WDownReferenceIdeal.nD Cert.WDownReferenceIdeal.τ).loc Cert.WDownReferenceIdeal.main_arg1))

def preserves_WGateKernel_WGateKernelIdeal : Prop :=
  True

def algebraic_WGateKernelIdeal_WGateReferenceIdeal [hWGateKernelIdeal : Cert.WGateKernelIdeal.Facts] [hWGateReferenceIdeal : Cert.WGateReferenceIdeal.Facts] : Prop :=
  ∀ (m : (ℓ : Loc Cert.WGateKernelIdeal.nD Cert.WGateKernelIdeal.τ Cert.WGateKernelIdeal.sig) → Buf (Elt Ideal) ℓ) (g : Dev Cert.WGateKernelIdeal.nD → PrngReg)
    (m' : (ℓ : Loc Cert.WGateReferenceIdeal.nD Cert.WGateReferenceIdeal.τ Cert.WGateReferenceIdeal.sig) → Buf (Elt Ideal) ℓ) (g' : Dev Cert.WGateReferenceIdeal.nD → PrngReg), Pre_WGateKernelIdeal m →
    (∀ c : Dev Cert.WGateKernelIdeal.nD,
      m' ((c.tc : Thread Cert.WGateReferenceIdeal.nD Cert.WGateReferenceIdeal.τ).loc Cert.WGateReferenceIdeal.main_arg0) = m ((c.tc : Thread Cert.WGateKernelIdeal.nD Cert.WGateKernelIdeal.τ).loc Cert.WGateKernelIdeal.main_arg0)
      ∧ m' ((c.tc : Thread Cert.WGateReferenceIdeal.nD Cert.WGateReferenceIdeal.τ).loc Cert.WGateReferenceIdeal.main_arg1) = m ((c.tc : Thread Cert.WGateKernelIdeal.nD Cert.WGateKernelIdeal.τ).loc Cert.WGateKernelIdeal.main_arg1)) →
    ∃ (v0 : (c : Dev Cert.WGateKernelIdeal.nD) → Buf (Elt Ideal) ((c.tc : Thread Cert.WGateKernelIdeal.nD Cert.WGateKernelIdeal.τ).loc Cert.WGateKernelIdeal.main_v0)),
      θ_run (Cert.WGateKernelIdeal.defs (F := Ideal)) (onTc (τ := Cert.WGateKernelIdeal.τ) (Cert.WGateKernelIdeal.main (F := Ideal))) ⟨m, fun _ => 0, g⟩ (fun r => ∀ c : Dev Cert.WGateKernelIdeal.nD,
          r.2.mem ((c.tc : Thread Cert.WGateKernelIdeal.nD Cert.WGateKernelIdeal.τ).loc Cert.WGateKernelIdeal.main_v0) = v0 c
          ∧ r.2.mem ((c.tc : Thread Cert.WGateKernelIdeal.nD Cert.WGateKernelIdeal.τ).loc Cert.WGateKernelIdeal.main_arg0) = m ((c.tc : Thread Cert.WGateKernelIdeal.nD Cert.WGateKernelIdeal.τ).loc Cert.WGateKernelIdeal.main_arg0)
          ∧ r.2.mem ((c.tc : Thread Cert.WGateKernelIdeal.nD Cert.WGateKernelIdeal.τ).loc Cert.WGateKernelIdeal.main_arg1) = m ((c.tc : Thread Cert.WGateKernelIdeal.nD Cert.WGateKernelIdeal.τ).loc Cert.WGateKernelIdeal.main_arg1))
      ∧ θ_run (Cert.WGateReferenceIdeal.defs (F := Ideal)) (onTc (τ := Cert.WGateReferenceIdeal.τ) (Cert.WGateReferenceIdeal.main (F := Ideal))) ⟨m', fun _ => 0, g'⟩ (fun r => ∀ c : Dev Cert.WGateReferenceIdeal.nD,
          r.2.mem ((c.tc : Thread Cert.WGateReferenceIdeal.nD Cert.WGateReferenceIdeal.τ).loc Cert.WGateReferenceIdeal.main_v19) = v0 c
          ∧ r.2.mem ((c.tc : Thread Cert.WGateReferenceIdeal.nD Cert.WGateReferenceIdeal.τ).loc Cert.WGateReferenceIdeal.main_arg0) = m' ((c.tc : Thread Cert.WGateReferenceIdeal.nD Cert.WGateReferenceIdeal.τ).loc Cert.WGateReferenceIdeal.main_arg0)
          ∧ r.2.mem ((c.tc : Thread Cert.WGateReferenceIdeal.nD Cert.WGateReferenceIdeal.τ).loc Cert.WGateReferenceIdeal.main_arg1) = m' ((c.tc : Thread Cert.WGateReferenceIdeal.nD Cert.WGateReferenceIdeal.τ).loc Cert.WGateReferenceIdeal.main_arg1))

def preserves_WOutKernel_WOutKernelIdeal : Prop :=
  True

def algebraic_WOutKernelIdeal_WOutReferenceIdeal [hWOutKernelIdeal : Cert.WOutKernelIdeal.Facts] [hWOutReferenceIdeal : Cert.WOutReferenceIdeal.Facts] : Prop :=
  ∀ (m : (ℓ : Loc Cert.WOutKernelIdeal.nD Cert.WOutKernelIdeal.τ Cert.WOutKernelIdeal.sig) → Buf (Elt Ideal) ℓ) (g : Dev Cert.WOutKernelIdeal.nD → PrngReg)
    (m' : (ℓ : Loc Cert.WOutReferenceIdeal.nD Cert.WOutReferenceIdeal.τ Cert.WOutReferenceIdeal.sig) → Buf (Elt Ideal) ℓ) (g' : Dev Cert.WOutReferenceIdeal.nD → PrngReg), Pre_WOutKernelIdeal m →
    (∀ c : Dev Cert.WOutKernelIdeal.nD,
      m' ((c.tc : Thread Cert.WOutReferenceIdeal.nD Cert.WOutReferenceIdeal.τ).loc Cert.WOutReferenceIdeal.main_arg0) = m ((c.tc : Thread Cert.WOutKernelIdeal.nD Cert.WOutKernelIdeal.τ).loc Cert.WOutKernelIdeal.main_arg0)
      ∧ m' ((c.tc : Thread Cert.WOutReferenceIdeal.nD Cert.WOutReferenceIdeal.τ).loc Cert.WOutReferenceIdeal.main_arg1) = m ((c.tc : Thread Cert.WOutKernelIdeal.nD Cert.WOutKernelIdeal.τ).loc Cert.WOutKernelIdeal.main_arg1)) →
    ∃ (v0 : (c : Dev Cert.WOutKernelIdeal.nD) → Buf (Elt Ideal) ((c.tc : Thread Cert.WOutKernelIdeal.nD Cert.WOutKernelIdeal.τ).loc Cert.WOutKernelIdeal.main_v0)),
      θ_run (Cert.WOutKernelIdeal.defs (F := Ideal)) (onTc (τ := Cert.WOutKernelIdeal.τ) (Cert.WOutKernelIdeal.main (F := Ideal))) ⟨m, fun _ => 0, g⟩ (fun r => ∀ c : Dev Cert.WOutKernelIdeal.nD,
          r.2.mem ((c.tc : Thread Cert.WOutKernelIdeal.nD Cert.WOutKernelIdeal.τ).loc Cert.WOutKernelIdeal.main_v0) = v0 c
          ∧ r.2.mem ((c.tc : Thread Cert.WOutKernelIdeal.nD Cert.WOutKernelIdeal.τ).loc Cert.WOutKernelIdeal.main_arg0) = m ((c.tc : Thread Cert.WOutKernelIdeal.nD Cert.WOutKernelIdeal.τ).loc Cert.WOutKernelIdeal.main_arg0)
          ∧ r.2.mem ((c.tc : Thread Cert.WOutKernelIdeal.nD Cert.WOutKernelIdeal.τ).loc Cert.WOutKernelIdeal.main_arg1) = m ((c.tc : Thread Cert.WOutKernelIdeal.nD Cert.WOutKernelIdeal.τ).loc Cert.WOutKernelIdeal.main_arg1))
      ∧ θ_run (Cert.WOutReferenceIdeal.defs (F := Ideal)) (onTc (τ := Cert.WOutReferenceIdeal.τ) (Cert.WOutReferenceIdeal.main (F := Ideal))) ⟨m', fun _ => 0, g'⟩ (fun r => ∀ c : Dev Cert.WOutReferenceIdeal.nD,
          r.2.mem ((c.tc : Thread Cert.WOutReferenceIdeal.nD Cert.WOutReferenceIdeal.τ).loc Cert.WOutReferenceIdeal.main_v5) = v0 c
          ∧ r.2.mem ((c.tc : Thread Cert.WOutReferenceIdeal.nD Cert.WOutReferenceIdeal.τ).loc Cert.WOutReferenceIdeal.main_arg0) = m' ((c.tc : Thread Cert.WOutReferenceIdeal.nD Cert.WOutReferenceIdeal.τ).loc Cert.WOutReferenceIdeal.main_arg0)
          ∧ r.2.mem ((c.tc : Thread Cert.WOutReferenceIdeal.nD Cert.WOutReferenceIdeal.τ).loc Cert.WOutReferenceIdeal.main_arg1) = m' ((c.tc : Thread Cert.WOutReferenceIdeal.nD Cert.WOutReferenceIdeal.τ).loc Cert.WOutReferenceIdeal.main_arg1))

def preserves_BranchKernel_BranchKernelIdeal : Prop :=
  True

def algebraic_BranchKernelIdeal_BranchReferenceIdeal [hBranchKernelIdeal : Cert.BranchKernelIdeal.Facts] [hBranchReferenceIdeal : Cert.BranchReferenceIdeal.Facts] : Prop :=
  ∀ (m : (ℓ : Loc Cert.BranchKernelIdeal.nD Cert.BranchKernelIdeal.τ Cert.BranchKernelIdeal.sig) → Buf (Elt Ideal) ℓ) (g : Dev Cert.BranchKernelIdeal.nD → PrngReg)
    (m' : (ℓ : Loc Cert.BranchReferenceIdeal.nD Cert.BranchReferenceIdeal.τ Cert.BranchReferenceIdeal.sig) → Buf (Elt Ideal) ℓ) (g' : Dev Cert.BranchReferenceIdeal.nD → PrngReg), Pre_BranchKernelIdeal m →
    (∀ c : Dev Cert.BranchKernelIdeal.nD,
      m' ((c.tc : Thread Cert.BranchReferenceIdeal.nD Cert.BranchReferenceIdeal.τ).loc Cert.BranchReferenceIdeal.main_arg0) = m ((c.tc : Thread Cert.BranchKernelIdeal.nD Cert.BranchKernelIdeal.τ).loc Cert.BranchKernelIdeal.main_arg0)
      ∧ m' ((c.tc : Thread Cert.BranchReferenceIdeal.nD Cert.BranchReferenceIdeal.τ).loc Cert.BranchReferenceIdeal.main_arg1) = m ((c.tc : Thread Cert.BranchKernelIdeal.nD Cert.BranchKernelIdeal.τ).loc Cert.BranchKernelIdeal.main_arg1)) →
    ∃ (v0 : (c : Dev Cert.BranchKernelIdeal.nD) → Buf (Elt Ideal) ((c.tc : Thread Cert.BranchKernelIdeal.nD Cert.BranchKernelIdeal.τ).loc Cert.BranchKernelIdeal.main_v0)),
      θ_run (Cert.BranchKernelIdeal.defs (F := Ideal)) (onTc (τ := Cert.BranchKernelIdeal.τ) (Cert.BranchKernelIdeal.main (F := Ideal))) ⟨m, fun _ => 0, g⟩ (fun r => ∀ c : Dev Cert.BranchKernelIdeal.nD,
          r.2.mem ((c.tc : Thread Cert.BranchKernelIdeal.nD Cert.BranchKernelIdeal.τ).loc Cert.BranchKernelIdeal.main_v0) = v0 c
          ∧ r.2.mem ((c.tc : Thread Cert.BranchKernelIdeal.nD Cert.BranchKernelIdeal.τ).loc Cert.BranchKernelIdeal.main_arg0) = m ((c.tc : Thread Cert.BranchKernelIdeal.nD Cert.BranchKernelIdeal.τ).loc Cert.BranchKernelIdeal.main_arg0)
          ∧ r.2.mem ((c.tc : Thread Cert.BranchKernelIdeal.nD Cert.BranchKernelIdeal.τ).loc Cert.BranchKernelIdeal.main_arg1) = m ((c.tc : Thread Cert.BranchKernelIdeal.nD Cert.BranchKernelIdeal.τ).loc Cert.BranchKernelIdeal.main_arg1))
      ∧ θ_run (Cert.BranchReferenceIdeal.defs (F := Ideal)) (onTc (τ := Cert.BranchReferenceIdeal.τ) (Cert.BranchReferenceIdeal.main (F := Ideal))) ⟨m', fun _ => 0, g'⟩ (fun r => ∀ c : Dev Cert.BranchReferenceIdeal.nD,
          r.2.mem ((c.tc : Thread Cert.BranchReferenceIdeal.nD Cert.BranchReferenceIdeal.τ).loc Cert.BranchReferenceIdeal.main_v5) = v0 c
          ∧ r.2.mem ((c.tc : Thread Cert.BranchReferenceIdeal.nD Cert.BranchReferenceIdeal.τ).loc Cert.BranchReferenceIdeal.main_arg0) = m' ((c.tc : Thread Cert.BranchReferenceIdeal.nD Cert.BranchReferenceIdeal.τ).loc Cert.BranchReferenceIdeal.main_arg0)
          ∧ r.2.mem ((c.tc : Thread Cert.BranchReferenceIdeal.nD Cert.BranchReferenceIdeal.τ).loc Cert.BranchReferenceIdeal.main_arg1) = m' ((c.tc : Thread Cert.BranchReferenceIdeal.nD Cert.BranchReferenceIdeal.τ).loc Cert.BranchReferenceIdeal.main_arg1))

def preserves_MergeKernel_MergeKernelIdeal : Prop :=
  True

def algebraic_MergeKernelIdeal_MergeReferenceIdeal [hMergeKernelIdeal : Cert.MergeKernelIdeal.Facts] [hMergeReferenceIdeal : Cert.MergeReferenceIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)
      ∧ m' ((c.tc : Thread Cert.MergeReferenceIdeal.nD Cert.MergeReferenceIdeal.τ).loc Cert.MergeReferenceIdeal.main_arg4) = m ((c.tc : Thread Cert.MergeKernelIdeal.nD Cert.MergeKernelIdeal.τ).loc Cert.MergeKernelIdeal.main_arg4)) →
    ∃ (v0 : (c : Dev Cert.MergeKernelIdeal.nD) → Buf (Elt Ideal) ((c.tc : Thread Cert.MergeKernelIdeal.nD Cert.MergeKernelIdeal.τ).loc Cert.MergeKernelIdeal.main_v7_0)) (v1 : (c : Dev Cert.MergeKernelIdeal.nD) → Buf (Elt Ideal) ((c.tc : Thread Cert.MergeKernelIdeal.nD Cert.MergeKernelIdeal.τ).loc Cert.MergeKernelIdeal.main_v7_1)) (v2 : (c : Dev Cert.MergeKernelIdeal.nD) → Buf (Elt Ideal) ((c.tc : Thread Cert.MergeKernelIdeal.nD Cert.MergeKernelIdeal.τ).loc Cert.MergeKernelIdeal.main_v7_2)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v7_0) = v0 c
          ∧ r.2.mem ((c.tc : Thread Cert.MergeKernelIdeal.nD Cert.MergeKernelIdeal.τ).loc Cert.MergeKernelIdeal.main_v7_1) = v1 c
          ∧ r.2.mem ((c.tc : Thread Cert.MergeKernelIdeal.nD Cert.MergeKernelIdeal.τ).loc Cert.MergeKernelIdeal.main_v7_2) = v2 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v26) = v0 c
          ∧ r.2.mem ((c.tc : Thread Cert.MergeReferenceIdeal.nD Cert.MergeReferenceIdeal.τ).loc Cert.MergeReferenceIdeal.main_v27) = v1 c
          ∧ r.2.mem ((c.tc : Thread Cert.MergeReferenceIdeal.nD Cert.MergeReferenceIdeal.τ).loc Cert.MergeReferenceIdeal.main_v33) = v2 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4))

def preserves_UpKernel_UpKernelIdeal : Prop :=
  True

def algebraic_UpKernelIdeal_UpReferenceIdeal [hUpKernelIdeal : Cert.UpKernelIdeal.Facts] [hUpReferenceIdeal : Cert.UpReferenceIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpKernelIdeal m →
    (∀ c : Dev Cert.UpKernelIdeal.nD,
      m' ((c.tc : Thread Cert.UpReferenceIdeal.nD Cert.UpReferenceIdeal.τ).loc Cert.UpReferenceIdeal.main_arg0) = m ((c.tc : Thread Cert.UpKernelIdeal.nD Cert.UpKernelIdeal.τ).loc Cert.UpKernelIdeal.main_arg0)
      ∧ m' ((c.tc : Thread Cert.UpReferenceIdeal.nD Cert.UpReferenceIdeal.τ).loc Cert.UpReferenceIdeal.main_arg1) = m ((c.tc : Thread Cert.UpKernelIdeal.nD Cert.UpKernelIdeal.τ).loc Cert.UpKernelIdeal.main_arg1)) →
    ∃ (v0 : (c : Dev Cert.UpKernelIdeal.nD) → Buf (Elt Ideal) ((c.tc : Thread Cert.UpKernelIdeal.nD Cert.UpKernelIdeal.τ).loc Cert.UpKernelIdeal.main_v0)),
      θ_run (Cert.UpKernelIdeal.defs (F := Ideal)) (onTc (τ := Cert.UpKernelIdeal.τ) (Cert.UpKernelIdeal.main (F := Ideal))) ⟨m, fun _ => 0, g⟩ (fun r => ∀ c : Dev Cert.UpKernelIdeal.nD,
          r.2.mem ((c.tc : Thread Cert.UpKernelIdeal.nD Cert.UpKernelIdeal.τ).loc Cert.UpKernelIdeal.main_v0) = v0 c
          ∧ r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
          ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v14) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_DownKernel_DownKernelIdeal : Prop :=
  True

def algebraic_DownKernelIdeal_DownReferenceIdeal [hDownKernelIdeal : Cert.DownKernelIdeal.Facts] [hDownReferenceIdeal : Cert.DownReferenceIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownKernelIdeal m →
    (∀ c : Dev Cert.DownKernelIdeal.nD,
      m' ((c.tc : Thread Cert.DownReferenceIdeal.nD Cert.DownReferenceIdeal.τ).loc Cert.DownReferenceIdeal.main_arg0) = m ((c.tc : Thread Cert.DownKernelIdeal.nD Cert.DownKernelIdeal.τ).loc Cert.DownKernelIdeal.main_arg0)
      ∧ m' ((c.tc : Thread Cert.DownReferenceIdeal.nD Cert.DownReferenceIdeal.τ).loc Cert.DownReferenceIdeal.main_arg1) = m ((c.tc : Thread Cert.DownKernelIdeal.nD Cert.DownKernelIdeal.τ).loc Cert.DownKernelIdeal.main_arg1)
      ∧ m' ((c.tc : Thread Cert.DownReferenceIdeal.nD Cert.DownReferenceIdeal.τ).loc Cert.DownReferenceIdeal.main_arg2) = m ((c.tc : Thread Cert.DownKernelIdeal.nD Cert.DownKernelIdeal.τ).loc Cert.DownKernelIdeal.main_arg2)
      ∧ m' ((c.tc : Thread Cert.DownReferenceIdeal.nD Cert.DownReferenceIdeal.τ).loc Cert.DownReferenceIdeal.main_arg3) = m ((c.tc : Thread Cert.DownKernelIdeal.nD Cert.DownKernelIdeal.τ).loc Cert.DownKernelIdeal.main_arg3)) →
    ∃ (v0 : (c : Dev Cert.DownKernelIdeal.nD) → Buf (Elt Ideal) ((c.tc : Thread Cert.DownKernelIdeal.nD Cert.DownKernelIdeal.τ).loc Cert.DownKernelIdeal.main_v0_0)) (v1 : (c : Dev Cert.DownKernelIdeal.nD) → Buf (Elt Ideal) ((c.tc : Thread Cert.DownKernelIdeal.nD Cert.DownKernelIdeal.τ).loc Cert.DownKernelIdeal.main_v0_1)),
      θ_run (Cert.DownKernelIdeal.defs (F := Ideal)) (onTc (τ := Cert.DownKernelIdeal.τ) (Cert.DownKernelIdeal.main (F := Ideal))) ⟨m, fun _ => 0, g⟩ (fun r => ∀ c : Dev Cert.DownKernelIdeal.nD,
          r.2.mem ((c.tc : Thread Cert.DownKernelIdeal.nD Cert.DownKernelIdeal.τ).loc Cert.DownKernelIdeal.main_v0_0) = v0 c
          ∧ r.2.mem ((c.tc : Thread Cert.DownKernelIdeal.nD Cert.DownKernelIdeal.τ).loc Cert.DownKernelIdeal.main_v0_1) = v1 c
          ∧ r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
          ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
          ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2)
          ∧ r.2.mem ((c.tc : Thread Cert.DownKernelIdeal.nD Cert.DownKernelIdeal.τ).loc Cert.DownKernelIdeal.main_arg3) = m ((c.tc : Thread Cert.DownKernelIdeal.nD Cert.DownKernelIdeal.τ).loc Cert.DownKernelIdeal.main_arg3))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v25) = v0 c
          ∧ r.2.mem ((c.tc : Thread Cert.DownReferenceIdeal.nD Cert.DownReferenceIdeal.τ).loc Cert.DownReferenceIdeal.main_v24) = v1 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3))

def preserves_ConvInKernel_ConvInKernelIdeal : Prop :=
  True

def algebraic_ConvInKernelIdeal_ConvInReferenceIdeal [hConvInKernelIdeal : Cert.ConvInKernelIdeal.Facts] [hConvInReferenceIdeal : Cert.ConvInReferenceIdeal.Facts] : Prop :=
  ∀ (m : (ℓ : Loc Cert.ConvInKernelIdeal.nD Cert.ConvInKernelIdeal.τ Cert.ConvInKernelIdeal.sig) → Buf (Elt Ideal) ℓ) (g : Dev Cert.ConvInKernelIdeal.nD → PrngReg)
    (m' : (ℓ : Loc Cert.ConvInReferenceIdeal.nD Cert.ConvInReferenceIdeal.τ Cert.ConvInReferenceIdeal.sig) → Buf (Elt Ideal) ℓ) (g' : Dev Cert.ConvInReferenceIdeal.nD → PrngReg), Pre_ConvInKernelIdeal m →
    (∀ c : Dev Cert.ConvInKernelIdeal.nD,
      m' ((c.tc : Thread Cert.ConvInReferenceIdeal.nD Cert.ConvInReferenceIdeal.τ).loc Cert.ConvInReferenceIdeal.main_arg0) = m ((c.tc : Thread Cert.ConvInKernelIdeal.nD Cert.ConvInKernelIdeal.τ).loc Cert.ConvInKernelIdeal.main_arg0)
      ∧ m' ((c.tc : Thread Cert.ConvInReferenceIdeal.nD Cert.ConvInReferenceIdeal.τ).loc Cert.ConvInReferenceIdeal.main_arg1) = m ((c.tc : Thread Cert.ConvInKernelIdeal.nD Cert.ConvInKernelIdeal.τ).loc Cert.ConvInKernelIdeal.main_arg1)) →
    ∃ (v0 : (c : Dev Cert.ConvInKernelIdeal.nD) → Buf (Elt Ideal) ((c.tc : Thread Cert.ConvInKernelIdeal.nD Cert.ConvInKernelIdeal.τ).loc Cert.ConvInKernelIdeal.main_v0)),
      θ_run (Cert.ConvInKernelIdeal.defs (F := Ideal)) (onTc (τ := Cert.ConvInKernelIdeal.τ) (Cert.ConvInKernelIdeal.main (F := Ideal))) ⟨m, fun _ => 0, g⟩ (fun r => ∀ c : Dev Cert.ConvInKernelIdeal.nD,
          r.2.mem ((c.tc : Thread Cert.ConvInKernelIdeal.nD Cert.ConvInKernelIdeal.τ).loc Cert.ConvInKernelIdeal.main_v0) = v0 c
          ∧ r.2.mem ((c.tc : Thread Cert.ConvInKernelIdeal.nD Cert.ConvInKernelIdeal.τ).loc Cert.ConvInKernelIdeal.main_arg0) = m ((c.tc : Thread Cert.ConvInKernelIdeal.nD Cert.ConvInKernelIdeal.τ).loc Cert.ConvInKernelIdeal.main_arg0)
          ∧ r.2.mem ((c.tc : Thread Cert.ConvInKernelIdeal.nD Cert.ConvInKernelIdeal.τ).loc Cert.ConvInKernelIdeal.main_arg1) = m ((c.tc : Thread Cert.ConvInKernelIdeal.nD Cert.ConvInKernelIdeal.τ).loc Cert.ConvInKernelIdeal.main_arg1))
      ∧ θ_run (Cert.ConvInReferenceIdeal.defs (F := Ideal)) (onTc (τ := Cert.ConvInReferenceIdeal.τ) (Cert.ConvInReferenceIdeal.main (F := Ideal))) ⟨m', fun _ => 0, g'⟩ (fun r => ∀ c : Dev Cert.ConvInReferenceIdeal.nD,
          r.2.mem ((c.tc : Thread Cert.ConvInReferenceIdeal.nD Cert.ConvInReferenceIdeal.τ).loc Cert.ConvInReferenceIdeal.main_v13) = v0 c
          ∧ r.2.mem ((c.tc : Thread Cert.ConvInReferenceIdeal.nD Cert.ConvInReferenceIdeal.τ).loc Cert.ConvInReferenceIdeal.main_arg0) = m' ((c.tc : Thread Cert.ConvInReferenceIdeal.nD Cert.ConvInReferenceIdeal.τ).loc Cert.ConvInReferenceIdeal.main_arg0)
          ∧ r.2.mem ((c.tc : Thread Cert.ConvInReferenceIdeal.nD Cert.ConvInReferenceIdeal.τ).loc Cert.ConvInReferenceIdeal.main_arg1) = m' ((c.tc : Thread Cert.ConvInReferenceIdeal.nD Cert.ConvInReferenceIdeal.τ).loc Cert.ConvInReferenceIdeal.main_arg1))

def preserves_VProjKernel_VProjKernelIdeal : Prop :=
  True

def algebraic_VProjKernelIdeal_VProjReferenceIdeal [hVProjKernelIdeal : Cert.VProjKernelIdeal.Facts] [hVProjReferenceIdeal : Cert.VProjReferenceIdeal.Facts] : Prop :=
  ∀ (m : (ℓ : Loc Cert.VProjKernelIdeal.nD Cert.VProjKernelIdeal.τ Cert.VProjKernelIdeal.sig) → Buf (Elt Ideal) ℓ) (g : Dev Cert.VProjKernelIdeal.nD → PrngReg)
    (m' : (ℓ : Loc Cert.VProjReferenceIdeal.nD Cert.VProjReferenceIdeal.τ Cert.VProjReferenceIdeal.sig) → Buf (Elt Ideal) ℓ) (g' : Dev Cert.VProjReferenceIdeal.nD → PrngReg), Pre_VProjKernelIdeal m →
    (∀ c : Dev Cert.VProjKernelIdeal.nD,
      m' ((c.tc : Thread Cert.VProjReferenceIdeal.nD Cert.VProjReferenceIdeal.τ).loc Cert.VProjReferenceIdeal.main_arg0) = m ((c.tc : Thread Cert.VProjKernelIdeal.nD Cert.VProjKernelIdeal.τ).loc Cert.VProjKernelIdeal.main_arg0)
      ∧ m' ((c.tc : Thread Cert.VProjReferenceIdeal.nD Cert.VProjReferenceIdeal.τ).loc Cert.VProjReferenceIdeal.main_arg1) = m ((c.tc : Thread Cert.VProjKernelIdeal.nD Cert.VProjKernelIdeal.τ).loc Cert.VProjKernelIdeal.main_arg1)) →
    ∃ (v0 : (c : Dev Cert.VProjKernelIdeal.nD) → Buf (Elt Ideal) ((c.tc : Thread Cert.VProjKernelIdeal.nD Cert.VProjKernelIdeal.τ).loc Cert.VProjKernelIdeal.main_v0)),
      θ_run (Cert.VProjKernelIdeal.defs (F := Ideal)) (onTc (τ := Cert.VProjKernelIdeal.τ) (Cert.VProjKernelIdeal.main (F := Ideal))) ⟨m, fun _ => 0, g⟩ (fun r => ∀ c : Dev Cert.VProjKernelIdeal.nD,
          r.2.mem ((c.tc : Thread Cert.VProjKernelIdeal.nD Cert.VProjKernelIdeal.τ).loc Cert.VProjKernelIdeal.main_v0) = v0 c
          ∧ r.2.mem ((c.tc : Thread Cert.VProjKernelIdeal.nD Cert.VProjKernelIdeal.τ).loc Cert.VProjKernelIdeal.main_arg0) = m ((c.tc : Thread Cert.VProjKernelIdeal.nD Cert.VProjKernelIdeal.τ).loc Cert.VProjKernelIdeal.main_arg0)
          ∧ r.2.mem ((c.tc : Thread Cert.VProjKernelIdeal.nD Cert.VProjKernelIdeal.τ).loc Cert.VProjKernelIdeal.main_arg1) = m ((c.tc : Thread Cert.VProjKernelIdeal.nD Cert.VProjKernelIdeal.τ).loc Cert.VProjKernelIdeal.main_arg1))
      ∧ θ_run (Cert.VProjReferenceIdeal.defs (F := Ideal)) (onTc (τ := Cert.VProjReferenceIdeal.τ) (Cert.VProjReferenceIdeal.main (F := Ideal))) ⟨m', fun _ => 0, g'⟩ (fun r => ∀ c : Dev Cert.VProjReferenceIdeal.nD,
          r.2.mem ((c.tc : Thread Cert.VProjReferenceIdeal.nD Cert.VProjReferenceIdeal.τ).loc Cert.VProjReferenceIdeal.main_v13) = v0 c
          ∧ r.2.mem ((c.tc : Thread Cert.VProjReferenceIdeal.nD Cert.VProjReferenceIdeal.τ).loc Cert.VProjReferenceIdeal.main_arg0) = m' ((c.tc : Thread Cert.VProjReferenceIdeal.nD Cert.VProjReferenceIdeal.τ).loc Cert.VProjReferenceIdeal.main_arg0)
          ∧ r.2.mem ((c.tc : Thread Cert.VProjReferenceIdeal.nD Cert.VProjReferenceIdeal.τ).loc Cert.VProjReferenceIdeal.main_arg1) = m' ((c.tc : Thread Cert.VProjReferenceIdeal.nD Cert.VProjReferenceIdeal.τ).loc Cert.VProjReferenceIdeal.main_arg1))

def preserves_GatesKernel_GatesKernelIdeal : Prop :=
  True

def algebraic_GatesKernelIdeal_GatesReferenceIdeal [hGatesKernelIdeal : Cert.GatesKernelIdeal.Facts] [hGatesReferenceIdeal : Cert.GatesReferenceIdeal.Facts] : Prop :=
  ∀ (m : (ℓ : Loc Cert.GatesKernelIdeal.nD Cert.GatesKernelIdeal.τ Cert.GatesKernelIdeal.sig) → Buf (Elt Ideal) ℓ) (g : Dev Cert.GatesKernelIdeal.nD → PrngReg)
    (m' : (ℓ : Loc Cert.GatesReferenceIdeal.nD Cert.GatesReferenceIdeal.τ Cert.GatesReferenceIdeal.sig) → Buf (Elt Ideal) ℓ) (g' : Dev Cert.GatesReferenceIdeal.nD → PrngReg), Pre_GatesKernelIdeal m →
    (∀ c : Dev Cert.GatesKernelIdeal.nD,
      m' ((c.tc : Thread Cert.GatesReferenceIdeal.nD Cert.GatesReferenceIdeal.τ).loc Cert.GatesReferenceIdeal.main_arg0) = m ((c.tc : Thread Cert.GatesKernelIdeal.nD Cert.GatesKernelIdeal.τ).loc Cert.GatesKernelIdeal.main_arg0)
      ∧ m' ((c.tc : Thread Cert.GatesReferenceIdeal.nD Cert.GatesReferenceIdeal.τ).loc Cert.GatesReferenceIdeal.main_arg1) = m ((c.tc : Thread Cert.GatesKernelIdeal.nD Cert.GatesKernelIdeal.τ).loc Cert.GatesKernelIdeal.main_arg1)
      ∧ m' ((c.tc : Thread Cert.GatesReferenceIdeal.nD Cert.GatesReferenceIdeal.τ).loc Cert.GatesReferenceIdeal.main_arg2) = m ((c.tc : Thread Cert.GatesKernelIdeal.nD Cert.GatesKernelIdeal.τ).loc Cert.GatesKernelIdeal.main_arg2)) →
    ∃ (v0 : (c : Dev Cert.GatesKernelIdeal.nD) → Buf (Elt Ideal) ((c.tc : Thread Cert.GatesKernelIdeal.nD Cert.GatesKernelIdeal.τ).loc Cert.GatesKernelIdeal.main_v1)),
      θ_run (Cert.GatesKernelIdeal.defs (F := Ideal)) (onTc (τ := Cert.GatesKernelIdeal.τ) (Cert.GatesKernelIdeal.main (F := Ideal))) ⟨m, fun _ => 0, g⟩ (fun r => ∀ c : Dev Cert.GatesKernelIdeal.nD,
          r.2.mem ((c.tc : Thread Cert.GatesKernelIdeal.nD Cert.GatesKernelIdeal.τ).loc Cert.GatesKernelIdeal.main_v1) = v0 c
          ∧ r.2.mem ((c.tc : Thread Cert.GatesKernelIdeal.nD Cert.GatesKernelIdeal.τ).loc Cert.GatesKernelIdeal.main_arg0) = m ((c.tc : Thread Cert.GatesKernelIdeal.nD Cert.GatesKernelIdeal.τ).loc Cert.GatesKernelIdeal.main_arg0)
          ∧ r.2.mem ((c.tc : Thread Cert.GatesKernelIdeal.nD Cert.GatesKernelIdeal.τ).loc Cert.GatesKernelIdeal.main_arg1) = m ((c.tc : Thread Cert.GatesKernelIdeal.nD Cert.GatesKernelIdeal.τ).loc Cert.GatesKernelIdeal.main_arg1)
          ∧ r.2.mem ((c.tc : Thread Cert.GatesKernelIdeal.nD Cert.GatesKernelIdeal.τ).loc Cert.GatesKernelIdeal.main_arg2) = m ((c.tc : Thread Cert.GatesKernelIdeal.nD Cert.GatesKernelIdeal.τ).loc Cert.GatesKernelIdeal.main_arg2))
      ∧ θ_run (Cert.GatesReferenceIdeal.defs (F := Ideal)) (onTc (τ := Cert.GatesReferenceIdeal.τ) (Cert.GatesReferenceIdeal.main (F := Ideal))) ⟨m', fun _ => 0, g'⟩ (fun r => ∀ c : Dev Cert.GatesReferenceIdeal.nD,
          r.2.mem ((c.tc : Thread Cert.GatesReferenceIdeal.nD Cert.GatesReferenceIdeal.τ).loc Cert.GatesReferenceIdeal.main_v21) = v0 c
          ∧ r.2.mem ((c.tc : Thread Cert.GatesReferenceIdeal.nD Cert.GatesReferenceIdeal.τ).loc Cert.GatesReferenceIdeal.main_arg0) = m' ((c.tc : Thread Cert.GatesReferenceIdeal.nD Cert.GatesReferenceIdeal.τ).loc Cert.GatesReferenceIdeal.main_arg0)
          ∧ r.2.mem ((c.tc : Thread Cert.GatesReferenceIdeal.nD Cert.GatesReferenceIdeal.τ).loc Cert.GatesReferenceIdeal.main_arg1) = m' ((c.tc : Thread Cert.GatesReferenceIdeal.nD Cert.GatesReferenceIdeal.τ).loc Cert.GatesReferenceIdeal.main_arg1)
          ∧ r.2.mem ((c.tc : Thread Cert.GatesReferenceIdeal.nD Cert.GatesReferenceIdeal.τ).loc Cert.GatesReferenceIdeal.main_arg2) = m' ((c.tc : Thread Cert.GatesReferenceIdeal.nD Cert.GatesReferenceIdeal.τ).loc Cert.GatesReferenceIdeal.main_arg2))

def preserves_MixedKernel_MixedKernelIdeal : Prop :=
  True

def algebraic_MixedKernelIdeal_MixedReferenceIdeal [hMixedKernelIdeal : Cert.MixedKernelIdeal.Facts] [hMixedReferenceIdeal : Cert.MixedReferenceIdeal.Facts] : Prop :=
  ∀ (m : (ℓ : Loc Cert.MixedKernelIdeal.nD Cert.MixedKernelIdeal.τ Cert.MixedKernelIdeal.sig) → Buf (Elt Ideal) ℓ) (g : Dev Cert.MixedKernelIdeal.nD → PrngReg)
    (m' : (ℓ : Loc Cert.MixedReferenceIdeal.nD Cert.MixedReferenceIdeal.τ Cert.MixedReferenceIdeal.sig) → Buf (Elt Ideal) ℓ) (g' : Dev Cert.MixedReferenceIdeal.nD → PrngReg), Pre_MixedKernelIdeal m →
    (∀ c : Dev Cert.MixedKernelIdeal.nD,
      m' ((c.tc : Thread Cert.MixedReferenceIdeal.nD Cert.MixedReferenceIdeal.τ).loc Cert.MixedReferenceIdeal.main_arg0) = m ((c.tc : Thread Cert.MixedKernelIdeal.nD Cert.MixedKernelIdeal.τ).loc Cert.MixedKernelIdeal.main_arg0)
      ∧ m' ((c.tc : Thread Cert.MixedReferenceIdeal.nD Cert.MixedReferenceIdeal.τ).loc Cert.MixedReferenceIdeal.main_arg1) = m ((c.tc : Thread Cert.MixedKernelIdeal.nD Cert.MixedKernelIdeal.τ).loc Cert.MixedKernelIdeal.main_arg1)) →
    ∃ (v0 : (c : Dev Cert.MixedKernelIdeal.nD) → Buf (Elt Ideal) ((c.tc : Thread Cert.MixedKernelIdeal.nD Cert.MixedKernelIdeal.τ).loc Cert.MixedKernelIdeal.main_v0)),
      θ_run (Cert.MixedKernelIdeal.defs (F := Ideal)) (onTc (τ := Cert.MixedKernelIdeal.τ) (Cert.MixedKernelIdeal.main (F := Ideal))) ⟨m, fun _ => 0, g⟩ (fun r => ∀ c : Dev Cert.MixedKernelIdeal.nD,
          r.2.mem ((c.tc : Thread Cert.MixedKernelIdeal.nD Cert.MixedKernelIdeal.τ).loc Cert.MixedKernelIdeal.main_v0) = v0 c
          ∧ r.2.mem ((c.tc : Thread Cert.MixedKernelIdeal.nD Cert.MixedKernelIdeal.τ).loc Cert.MixedKernelIdeal.main_arg0) = m ((c.tc : Thread Cert.MixedKernelIdeal.nD Cert.MixedKernelIdeal.τ).loc Cert.MixedKernelIdeal.main_arg0)
          ∧ r.2.mem ((c.tc : Thread Cert.MixedKernelIdeal.nD Cert.MixedKernelIdeal.τ).loc Cert.MixedKernelIdeal.main_arg1) = m ((c.tc : Thread Cert.MixedKernelIdeal.nD Cert.MixedKernelIdeal.τ).loc Cert.MixedKernelIdeal.main_arg1))
      ∧ θ_run (Cert.MixedReferenceIdeal.defs (F := Ideal)) (onTc (τ := Cert.MixedReferenceIdeal.τ) (Cert.MixedReferenceIdeal.main (F := Ideal))) ⟨m', fun _ => 0, g'⟩ (fun r => ∀ c : Dev Cert.MixedReferenceIdeal.nD,
          r.2.mem ((c.tc : Thread Cert.MixedReferenceIdeal.nD Cert.MixedReferenceIdeal.τ).loc Cert.MixedReferenceIdeal.main_v3) = v0 c
          ∧ r.2.mem ((c.tc : Thread Cert.MixedReferenceIdeal.nD Cert.MixedReferenceIdeal.τ).loc Cert.MixedReferenceIdeal.main_arg0) = m' ((c.tc : Thread Cert.MixedReferenceIdeal.nD Cert.MixedReferenceIdeal.τ).loc Cert.MixedReferenceIdeal.main_arg0)
          ∧ r.2.mem ((c.tc : Thread Cert.MixedReferenceIdeal.nD Cert.MixedReferenceIdeal.τ).loc Cert.MixedReferenceIdeal.main_arg1) = m' ((c.tc : Thread Cert.MixedReferenceIdeal.nD Cert.MixedReferenceIdeal.τ).loc Cert.MixedReferenceIdeal.main_arg1))

def preserves_MergedKernel_MergedKernelIdeal : Prop :=
  True

def algebraic_MergedKernelIdeal_MergedReferenceIdeal [hMergedKernelIdeal : Cert.MergedKernelIdeal.Facts] [hMergedReferenceIdeal : Cert.MergedReferenceIdeal.Facts] : Prop :=
  ∀ (m : (ℓ : Loc Cert.MergedKernelIdeal.nD Cert.MergedKernelIdeal.τ Cert.MergedKernelIdeal.sig) → Buf (Elt Ideal) ℓ) (g : Dev Cert.MergedKernelIdeal.nD → PrngReg)
    (m' : (ℓ : Loc Cert.MergedReferenceIdeal.nD Cert.MergedReferenceIdeal.τ Cert.MergedReferenceIdeal.sig) → Buf (Elt Ideal) ℓ) (g' : Dev Cert.MergedReferenceIdeal.nD → PrngReg), Pre_MergedKernelIdeal m →
    (∀ c : Dev Cert.MergedKernelIdeal.nD,
      m' ((c.tc : Thread Cert.MergedReferenceIdeal.nD Cert.MergedReferenceIdeal.τ).loc Cert.MergedReferenceIdeal.main_arg0) = m ((c.tc : Thread Cert.MergedKernelIdeal.nD Cert.MergedKernelIdeal.τ).loc Cert.MergedKernelIdeal.main_arg0)
      ∧ m' ((c.tc : Thread Cert.MergedReferenceIdeal.nD Cert.MergedReferenceIdeal.τ).loc Cert.MergedReferenceIdeal.main_arg1) = m ((c.tc : Thread Cert.MergedKernelIdeal.nD Cert.MergedKernelIdeal.τ).loc Cert.MergedKernelIdeal.main_arg1)
      ∧ m' ((c.tc : Thread Cert.MergedReferenceIdeal.nD Cert.MergedReferenceIdeal.τ).loc Cert.MergedReferenceIdeal.main_arg2) = m ((c.tc : Thread Cert.MergedKernelIdeal.nD Cert.MergedKernelIdeal.τ).loc Cert.MergedKernelIdeal.main_arg2)
      ∧ m' ((c.tc : Thread Cert.MergedReferenceIdeal.nD Cert.MergedReferenceIdeal.τ).loc Cert.MergedReferenceIdeal.main_arg3) = m ((c.tc : Thread Cert.MergedKernelIdeal.nD Cert.MergedKernelIdeal.τ).loc Cert.MergedKernelIdeal.main_arg3)) →
    ∃ (v0 : (c : Dev Cert.MergedKernelIdeal.nD) → Buf (Elt Ideal) ((c.tc : Thread Cert.MergedKernelIdeal.nD Cert.MergedKernelIdeal.τ).loc Cert.MergedKernelIdeal.main_v0_0)) (v1 : (c : Dev Cert.MergedKernelIdeal.nD) → Buf (Elt Ideal) ((c.tc : Thread Cert.MergedKernelIdeal.nD Cert.MergedKernelIdeal.τ).loc Cert.MergedKernelIdeal.main_v0_1)),
      θ_run (Cert.MergedKernelIdeal.defs (F := Ideal)) (onTc (τ := Cert.MergedKernelIdeal.τ) (Cert.MergedKernelIdeal.main (F := Ideal))) ⟨m, fun _ => 0, g⟩ (fun r => ∀ c : Dev Cert.MergedKernelIdeal.nD,
          r.2.mem ((c.tc : Thread Cert.MergedKernelIdeal.nD Cert.MergedKernelIdeal.τ).loc Cert.MergedKernelIdeal.main_v0_0) = v0 c
          ∧ r.2.mem ((c.tc : Thread Cert.MergedKernelIdeal.nD Cert.MergedKernelIdeal.τ).loc Cert.MergedKernelIdeal.main_v0_1) = v1 c
          ∧ r.2.mem ((c.tc : Thread Cert.MergedKernelIdeal.nD Cert.MergedKernelIdeal.τ).loc Cert.MergedKernelIdeal.main_arg0) = m ((c.tc : Thread Cert.MergedKernelIdeal.nD Cert.MergedKernelIdeal.τ).loc Cert.MergedKernelIdeal.main_arg0)
          ∧ r.2.mem ((c.tc : Thread Cert.MergedKernelIdeal.nD Cert.MergedKernelIdeal.τ).loc Cert.MergedKernelIdeal.main_arg1) = m ((c.tc : Thread Cert.MergedKernelIdeal.nD Cert.MergedKernelIdeal.τ).loc Cert.MergedKernelIdeal.main_arg1)
          ∧ r.2.mem ((c.tc : Thread Cert.MergedKernelIdeal.nD Cert.MergedKernelIdeal.τ).loc Cert.MergedKernelIdeal.main_arg2) = m ((c.tc : Thread Cert.MergedKernelIdeal.nD Cert.MergedKernelIdeal.τ).loc Cert.MergedKernelIdeal.main_arg2)
          ∧ r.2.mem ((c.tc : Thread Cert.MergedKernelIdeal.nD Cert.MergedKernelIdeal.τ).loc Cert.MergedKernelIdeal.main_arg3) = m ((c.tc : Thread Cert.MergedKernelIdeal.nD Cert.MergedKernelIdeal.τ).loc Cert.MergedKernelIdeal.main_arg3))
      ∧ θ_run (Cert.MergedReferenceIdeal.defs (F := Ideal)) (onTc (τ := Cert.MergedReferenceIdeal.τ) (Cert.MergedReferenceIdeal.main (F := Ideal))) ⟨m', fun _ => 0, g'⟩ (fun r => ∀ c : Dev Cert.MergedReferenceIdeal.nD,
          r.2.mem ((c.tc : Thread Cert.MergedReferenceIdeal.nD Cert.MergedReferenceIdeal.τ).loc Cert.MergedReferenceIdeal.main_v10) = v0 c
          ∧ r.2.mem ((c.tc : Thread Cert.MergedReferenceIdeal.nD Cert.MergedReferenceIdeal.τ).loc Cert.MergedReferenceIdeal.main_v11) = v1 c
          ∧ r.2.mem ((c.tc : Thread Cert.MergedReferenceIdeal.nD Cert.MergedReferenceIdeal.τ).loc Cert.MergedReferenceIdeal.main_arg0) = m' ((c.tc : Thread Cert.MergedReferenceIdeal.nD Cert.MergedReferenceIdeal.τ).loc Cert.MergedReferenceIdeal.main_arg0)
          ∧ r.2.mem ((c.tc : Thread Cert.MergedReferenceIdeal.nD Cert.MergedReferenceIdeal.τ).loc Cert.MergedReferenceIdeal.main_arg1) = m' ((c.tc : Thread Cert.MergedReferenceIdeal.nD Cert.MergedReferenceIdeal.τ).loc Cert.MergedReferenceIdeal.main_arg1)
          ∧ r.2.mem ((c.tc : Thread Cert.MergedReferenceIdeal.nD Cert.MergedReferenceIdeal.τ).loc Cert.MergedReferenceIdeal.main_arg2) = m' ((c.tc : Thread Cert.MergedReferenceIdeal.nD Cert.MergedReferenceIdeal.τ).loc Cert.MergedReferenceIdeal.main_arg2)
          ∧ r.2.mem ((c.tc : Thread Cert.MergedReferenceIdeal.nD Cert.MergedReferenceIdeal.τ).loc Cert.MergedReferenceIdeal.main_arg3) = m' ((c.tc : Thread Cert.MergedReferenceIdeal.nD Cert.MergedReferenceIdeal.τ).loc Cert.MergedReferenceIdeal.main_arg3))

def preserves_ResidualKernel_ResidualKernelIdeal : Prop :=
  True

def algebraic_ResidualKernelIdeal_ResidualReferenceIdeal [hResidualKernelIdeal : Cert.ResidualKernelIdeal.Facts] [hResidualReferenceIdeal : Cert.ResidualReferenceIdeal.Facts] : Prop :=
  ∀ (m : (ℓ : Loc Cert.ResidualKernelIdeal.nD Cert.ResidualKernelIdeal.τ Cert.ResidualKernelIdeal.sig) → Buf (Elt Ideal) ℓ) (g : Dev Cert.ResidualKernelIdeal.nD → PrngReg)
    (m' : (ℓ : Loc Cert.ResidualReferenceIdeal.nD Cert.ResidualReferenceIdeal.τ Cert.ResidualReferenceIdeal.sig) → Buf (Elt Ideal) ℓ) (g' : Dev Cert.ResidualReferenceIdeal.nD → PrngReg), Pre_ResidualKernelIdeal m →
    (∀ c : Dev Cert.ResidualKernelIdeal.nD,
      m' ((c.tc : Thread Cert.ResidualReferenceIdeal.nD Cert.ResidualReferenceIdeal.τ).loc Cert.ResidualReferenceIdeal.main_arg0) = m ((c.tc : Thread Cert.ResidualKernelIdeal.nD Cert.ResidualKernelIdeal.τ).loc Cert.ResidualKernelIdeal.main_arg0)
      ∧ m' ((c.tc : Thread Cert.ResidualReferenceIdeal.nD Cert.ResidualReferenceIdeal.τ).loc Cert.ResidualReferenceIdeal.main_arg1) = m ((c.tc : Thread Cert.ResidualKernelIdeal.nD Cert.ResidualKernelIdeal.τ).loc Cert.ResidualKernelIdeal.main_arg1)
      ∧ m' ((c.tc : Thread Cert.ResidualReferenceIdeal.nD Cert.ResidualReferenceIdeal.τ).loc Cert.ResidualReferenceIdeal.main_arg2) = m ((c.tc : Thread Cert.ResidualKernelIdeal.nD Cert.ResidualKernelIdeal.τ).loc Cert.ResidualKernelIdeal.main_arg2)
      ∧ m' ((c.tc : Thread Cert.ResidualReferenceIdeal.nD Cert.ResidualReferenceIdeal.τ).loc Cert.ResidualReferenceIdeal.main_arg3) = m ((c.tc : Thread Cert.ResidualKernelIdeal.nD Cert.ResidualKernelIdeal.τ).loc Cert.ResidualKernelIdeal.main_arg3)) →
    ∃ (v0 : (c : Dev Cert.ResidualKernelIdeal.nD) → Buf (Elt Ideal) ((c.tc : Thread Cert.ResidualKernelIdeal.nD Cert.ResidualKernelIdeal.τ).loc Cert.ResidualKernelIdeal.main_v1_0)) (v1 : (c : Dev Cert.ResidualKernelIdeal.nD) → Buf (Elt Ideal) ((c.tc : Thread Cert.ResidualKernelIdeal.nD Cert.ResidualKernelIdeal.τ).loc Cert.ResidualKernelIdeal.main_v1_1)),
      θ_run (Cert.ResidualKernelIdeal.defs (F := Ideal)) (onTc (τ := Cert.ResidualKernelIdeal.τ) (Cert.ResidualKernelIdeal.main (F := Ideal))) ⟨m, fun _ => 0, g⟩ (fun r => ∀ c : Dev Cert.ResidualKernelIdeal.nD,
          r.2.mem ((c.tc : Thread Cert.ResidualKernelIdeal.nD Cert.ResidualKernelIdeal.τ).loc Cert.ResidualKernelIdeal.main_v1_0) = v0 c
          ∧ r.2.mem ((c.tc : Thread Cert.ResidualKernelIdeal.nD Cert.ResidualKernelIdeal.τ).loc Cert.ResidualKernelIdeal.main_v1_1) = v1 c
          ∧ r.2.mem ((c.tc : Thread Cert.ResidualKernelIdeal.nD Cert.ResidualKernelIdeal.τ).loc Cert.ResidualKernelIdeal.main_arg0) = m ((c.tc : Thread Cert.ResidualKernelIdeal.nD Cert.ResidualKernelIdeal.τ).loc Cert.ResidualKernelIdeal.main_arg0)
          ∧ r.2.mem ((c.tc : Thread Cert.ResidualKernelIdeal.nD Cert.ResidualKernelIdeal.τ).loc Cert.ResidualKernelIdeal.main_arg1) = m ((c.tc : Thread Cert.ResidualKernelIdeal.nD Cert.ResidualKernelIdeal.τ).loc Cert.ResidualKernelIdeal.main_arg1)
          ∧ r.2.mem ((c.tc : Thread Cert.ResidualKernelIdeal.nD Cert.ResidualKernelIdeal.τ).loc Cert.ResidualKernelIdeal.main_arg2) = m ((c.tc : Thread Cert.ResidualKernelIdeal.nD Cert.ResidualKernelIdeal.τ).loc Cert.ResidualKernelIdeal.main_arg2)
          ∧ r.2.mem ((c.tc : Thread Cert.ResidualKernelIdeal.nD Cert.ResidualKernelIdeal.τ).loc Cert.ResidualKernelIdeal.main_arg3) = m ((c.tc : Thread Cert.ResidualKernelIdeal.nD Cert.ResidualKernelIdeal.τ).loc Cert.ResidualKernelIdeal.main_arg3))
      ∧ θ_run (Cert.ResidualReferenceIdeal.defs (F := Ideal)) (onTc (τ := Cert.ResidualReferenceIdeal.τ) (Cert.ResidualReferenceIdeal.main (F := Ideal))) ⟨m', fun _ => 0, g'⟩ (fun r => ∀ c : Dev Cert.ResidualReferenceIdeal.nD,
          r.2.mem ((c.tc : Thread Cert.ResidualReferenceIdeal.nD Cert.ResidualReferenceIdeal.τ).loc Cert.ResidualReferenceIdeal.main_v3) = v0 c
          ∧ r.2.mem ((c.tc : Thread Cert.ResidualReferenceIdeal.nD Cert.ResidualReferenceIdeal.τ).loc Cert.ResidualReferenceIdeal.main_v17) = v1 c
          ∧ r.2.mem ((c.tc : Thread Cert.ResidualReferenceIdeal.nD Cert.ResidualReferenceIdeal.τ).loc Cert.ResidualReferenceIdeal.main_arg0) = m' ((c.tc : Thread Cert.ResidualReferenceIdeal.nD Cert.ResidualReferenceIdeal.τ).loc Cert.ResidualReferenceIdeal.main_arg0)
          ∧ r.2.mem ((c.tc : Thread Cert.ResidualReferenceIdeal.nD Cert.ResidualReferenceIdeal.τ).loc Cert.ResidualReferenceIdeal.main_arg1) = m' ((c.tc : Thread Cert.ResidualReferenceIdeal.nD Cert.ResidualReferenceIdeal.τ).loc Cert.ResidualReferenceIdeal.main_arg1)
          ∧ r.2.mem ((c.tc : Thread Cert.ResidualReferenceIdeal.nD Cert.ResidualReferenceIdeal.τ).loc Cert.ResidualReferenceIdeal.main_arg2) = m' ((c.tc : Thread Cert.ResidualReferenceIdeal.nD Cert.ResidualReferenceIdeal.τ).loc Cert.ResidualReferenceIdeal.main_arg2)
          ∧ r.2.mem ((c.tc : Thread Cert.ResidualReferenceIdeal.nD Cert.ResidualReferenceIdeal.τ).loc Cert.ResidualReferenceIdeal.main_arg3) = m' ((c.tc : Thread Cert.ResidualReferenceIdeal.nD Cert.ResidualReferenceIdeal.τ).loc Cert.ResidualReferenceIdeal.main_arg3))

def preserves_AdamInKernel_AdamInKernelIdeal : Prop :=
  True

def algebraic_AdamInKernelIdeal_AdamInReferenceIdeal [hAdamInKernelIdeal : Cert.AdamInKernelIdeal.Facts] [hAdamInReferenceIdeal : Cert.AdamInReferenceIdeal.Facts] : Prop :=
  ∀ (m : (ℓ : Loc Cert.AdamInKernelIdeal.nD Cert.AdamInKernelIdeal.τ Cert.AdamInKernelIdeal.sig) → Buf (Elt Ideal) ℓ) (g : Dev Cert.AdamInKernelIdeal.nD → PrngReg)
    (m' : (ℓ : Loc Cert.AdamInReferenceIdeal.nD Cert.AdamInReferenceIdeal.τ Cert.AdamInReferenceIdeal.sig) → Buf (Elt Ideal) ℓ) (g' : Dev Cert.AdamInReferenceIdeal.nD → PrngReg), Pre_AdamInKernelIdeal m →
    (∀ c : Dev Cert.AdamInKernelIdeal.nD,
      m' ((c.tc : Thread Cert.AdamInReferenceIdeal.nD Cert.AdamInReferenceIdeal.τ).loc Cert.AdamInReferenceIdeal.main_arg0) = m ((c.tc : Thread Cert.AdamInKernelIdeal.nD Cert.AdamInKernelIdeal.τ).loc Cert.AdamInKernelIdeal.main_arg0)
      ∧ m' ((c.tc : Thread Cert.AdamInReferenceIdeal.nD Cert.AdamInReferenceIdeal.τ).loc Cert.AdamInReferenceIdeal.main_arg1) = m ((c.tc : Thread Cert.AdamInKernelIdeal.nD Cert.AdamInKernelIdeal.τ).loc Cert.AdamInKernelIdeal.main_arg1)
      ∧ m' ((c.tc : Thread Cert.AdamInReferenceIdeal.nD Cert.AdamInReferenceIdeal.τ).loc Cert.AdamInReferenceIdeal.main_arg2) = m ((c.tc : Thread Cert.AdamInKernelIdeal.nD Cert.AdamInKernelIdeal.τ).loc Cert.AdamInKernelIdeal.main_arg2)
      ∧ m' ((c.tc : Thread Cert.AdamInReferenceIdeal.nD Cert.AdamInReferenceIdeal.τ).loc Cert.AdamInReferenceIdeal.main_arg3) = m ((c.tc : Thread Cert.AdamInKernelIdeal.nD Cert.AdamInKernelIdeal.τ).loc Cert.AdamInKernelIdeal.main_arg3)) →
    ∃ (v0 : (c : Dev Cert.AdamInKernelIdeal.nD) → Buf (Elt Ideal) ((c.tc : Thread Cert.AdamInKernelIdeal.nD Cert.AdamInKernelIdeal.τ).loc Cert.AdamInKernelIdeal.main_v0_0)) (v1 : (c : Dev Cert.AdamInKernelIdeal.nD) → Buf (Elt Ideal) ((c.tc : Thread Cert.AdamInKernelIdeal.nD Cert.AdamInKernelIdeal.τ).loc Cert.AdamInKernelIdeal.main_v0_1)) (v2 : (c : Dev Cert.AdamInKernelIdeal.nD) → Buf (Elt Ideal) ((c.tc : Thread Cert.AdamInKernelIdeal.nD Cert.AdamInKernelIdeal.τ).loc Cert.AdamInKernelIdeal.main_v0_2)),
      θ_run (Cert.AdamInKernelIdeal.defs (F := Ideal)) (onTc (τ := Cert.AdamInKernelIdeal.τ) (Cert.AdamInKernelIdeal.main (F := Ideal))) ⟨m, fun _ => 0, g⟩ (fun r => ∀ c : Dev Cert.AdamInKernelIdeal.nD,
          r.2.mem ((c.tc : Thread Cert.AdamInKernelIdeal.nD Cert.AdamInKernelIdeal.τ).loc Cert.AdamInKernelIdeal.main_v0_0) = v0 c
          ∧ r.2.mem ((c.tc : Thread Cert.AdamInKernelIdeal.nD Cert.AdamInKernelIdeal.τ).loc Cert.AdamInKernelIdeal.main_v0_1) = v1 c
          ∧ r.2.mem ((c.tc : Thread Cert.AdamInKernelIdeal.nD Cert.AdamInKernelIdeal.τ).loc Cert.AdamInKernelIdeal.main_v0_2) = v2 c
          ∧ r.2.mem ((c.tc : Thread Cert.AdamInKernelIdeal.nD Cert.AdamInKernelIdeal.τ).loc Cert.AdamInKernelIdeal.main_arg0) = m ((c.tc : Thread Cert.AdamInKernelIdeal.nD Cert.AdamInKernelIdeal.τ).loc Cert.AdamInKernelIdeal.main_arg0)
          ∧ r.2.mem ((c.tc : Thread Cert.AdamInKernelIdeal.nD Cert.AdamInKernelIdeal.τ).loc Cert.AdamInKernelIdeal.main_arg1) = m ((c.tc : Thread Cert.AdamInKernelIdeal.nD Cert.AdamInKernelIdeal.τ).loc Cert.AdamInKernelIdeal.main_arg1)
          ∧ r.2.mem ((c.tc : Thread Cert.AdamInKernelIdeal.nD Cert.AdamInKernelIdeal.τ).loc Cert.AdamInKernelIdeal.main_arg2) = m ((c.tc : Thread Cert.AdamInKernelIdeal.nD Cert.AdamInKernelIdeal.τ).loc Cert.AdamInKernelIdeal.main_arg2)
          ∧ r.2.mem ((c.tc : Thread Cert.AdamInKernelIdeal.nD Cert.AdamInKernelIdeal.τ).loc Cert.AdamInKernelIdeal.main_arg3) = m ((c.tc : Thread Cert.AdamInKernelIdeal.nD Cert.AdamInKernelIdeal.τ).loc Cert.AdamInKernelIdeal.main_arg3))
      ∧ θ_run (Cert.AdamInReferenceIdeal.defs (F := Ideal)) (onTc (τ := Cert.AdamInReferenceIdeal.τ) (Cert.AdamInReferenceIdeal.main (F := Ideal))) ⟨m', fun _ => 0, g'⟩ (fun r => ∀ c : Dev Cert.AdamInReferenceIdeal.nD,
          r.2.mem ((c.tc : Thread Cert.AdamInReferenceIdeal.nD Cert.AdamInReferenceIdeal.τ).loc Cert.AdamInReferenceIdeal.main_v23) = v0 c
          ∧ r.2.mem ((c.tc : Thread Cert.AdamInReferenceIdeal.nD Cert.AdamInReferenceIdeal.τ).loc Cert.AdamInReferenceIdeal.main_v4) = v1 c
          ∧ r.2.mem ((c.tc : Thread Cert.AdamInReferenceIdeal.nD Cert.AdamInReferenceIdeal.τ).loc Cert.AdamInReferenceIdeal.main_v10) = v2 c
          ∧ r.2.mem ((c.tc : Thread Cert.AdamInReferenceIdeal.nD Cert.AdamInReferenceIdeal.τ).loc Cert.AdamInReferenceIdeal.main_arg0) = m' ((c.tc : Thread Cert.AdamInReferenceIdeal.nD Cert.AdamInReferenceIdeal.τ).loc Cert.AdamInReferenceIdeal.main_arg0)
          ∧ r.2.mem ((c.tc : Thread Cert.AdamInReferenceIdeal.nD Cert.AdamInReferenceIdeal.τ).loc Cert.AdamInReferenceIdeal.main_arg1) = m' ((c.tc : Thread Cert.AdamInReferenceIdeal.nD Cert.AdamInReferenceIdeal.τ).loc Cert.AdamInReferenceIdeal.main_arg1)
          ∧ r.2.mem ((c.tc : Thread Cert.AdamInReferenceIdeal.nD Cert.AdamInReferenceIdeal.τ).loc Cert.AdamInReferenceIdeal.main_arg2) = m' ((c.tc : Thread Cert.AdamInReferenceIdeal.nD Cert.AdamInReferenceIdeal.τ).loc Cert.AdamInReferenceIdeal.main_arg2)
          ∧ r.2.mem ((c.tc : Thread Cert.AdamInReferenceIdeal.nD Cert.AdamInReferenceIdeal.τ).loc Cert.AdamInReferenceIdeal.main_arg3) = m' ((c.tc : Thread Cert.AdamInReferenceIdeal.nD Cert.AdamInReferenceIdeal.τ).loc Cert.AdamInReferenceIdeal.main_arg3))

def preserves_AdamGateKernel_AdamGateKernelIdeal : Prop :=
  True

def algebraic_AdamGateKernelIdeal_AdamGateReferenceIdeal [hAdamGateKernelIdeal : Cert.AdamGateKernelIdeal.Facts] [hAdamGateReferenceIdeal : Cert.AdamGateReferenceIdeal.Facts] : Prop :=
  ∀ (m : (ℓ : Loc Cert.AdamGateKernelIdeal.nD Cert.AdamGateKernelIdeal.τ Cert.AdamGateKernelIdeal.sig) → Buf (Elt Ideal) ℓ) (g : Dev Cert.AdamGateKernelIdeal.nD → PrngReg)
    (m' : (ℓ : Loc Cert.AdamGateReferenceIdeal.nD Cert.AdamGateReferenceIdeal.τ Cert.AdamGateReferenceIdeal.sig) → Buf (Elt Ideal) ℓ) (g' : Dev Cert.AdamGateReferenceIdeal.nD → PrngReg), Pre_AdamGateKernelIdeal m →
    (∀ c : Dev Cert.AdamGateKernelIdeal.nD,
      m' ((c.tc : Thread Cert.AdamGateReferenceIdeal.nD Cert.AdamGateReferenceIdeal.τ).loc Cert.AdamGateReferenceIdeal.main_arg0) = m ((c.tc : Thread Cert.AdamGateKernelIdeal.nD Cert.AdamGateKernelIdeal.τ).loc Cert.AdamGateKernelIdeal.main_arg0)
      ∧ m' ((c.tc : Thread Cert.AdamGateReferenceIdeal.nD Cert.AdamGateReferenceIdeal.τ).loc Cert.AdamGateReferenceIdeal.main_arg1) = m ((c.tc : Thread Cert.AdamGateKernelIdeal.nD Cert.AdamGateKernelIdeal.τ).loc Cert.AdamGateKernelIdeal.main_arg1)
      ∧ m' ((c.tc : Thread Cert.AdamGateReferenceIdeal.nD Cert.AdamGateReferenceIdeal.τ).loc Cert.AdamGateReferenceIdeal.main_arg2) = m ((c.tc : Thread Cert.AdamGateKernelIdeal.nD Cert.AdamGateKernelIdeal.τ).loc Cert.AdamGateKernelIdeal.main_arg2)
      ∧ m' ((c.tc : Thread Cert.AdamGateReferenceIdeal.nD Cert.AdamGateReferenceIdeal.τ).loc Cert.AdamGateReferenceIdeal.main_arg3) = m ((c.tc : Thread Cert.AdamGateKernelIdeal.nD Cert.AdamGateKernelIdeal.τ).loc Cert.AdamGateKernelIdeal.main_arg3)) →
    ∃ (v0 : (c : Dev Cert.AdamGateKernelIdeal.nD) → Buf (Elt Ideal) ((c.tc : Thread Cert.AdamGateKernelIdeal.nD Cert.AdamGateKernelIdeal.τ).loc Cert.AdamGateKernelIdeal.main_v0_0)) (v1 : (c : Dev Cert.AdamGateKernelIdeal.nD) → Buf (Elt Ideal) ((c.tc : Thread Cert.AdamGateKernelIdeal.nD Cert.AdamGateKernelIdeal.τ).loc Cert.AdamGateKernelIdeal.main_v0_1)) (v2 : (c : Dev Cert.AdamGateKernelIdeal.nD) → Buf (Elt Ideal) ((c.tc : Thread Cert.AdamGateKernelIdeal.nD Cert.AdamGateKernelIdeal.τ).loc Cert.AdamGateKernelIdeal.main_v0_2)),
      θ_run (Cert.AdamGateKernelIdeal.defs (F := Ideal)) (onTc (τ := Cert.AdamGateKernelIdeal.τ) (Cert.AdamGateKernelIdeal.main (F := Ideal))) ⟨m, fun _ => 0, g⟩ (fun r => ∀ c : Dev Cert.AdamGateKernelIdeal.nD,
          r.2.mem ((c.tc : Thread Cert.AdamGateKernelIdeal.nD Cert.AdamGateKernelIdeal.τ).loc Cert.AdamGateKernelIdeal.main_v0_0) = v0 c
          ∧ r.2.mem ((c.tc : Thread Cert.AdamGateKernelIdeal.nD Cert.AdamGateKernelIdeal.τ).loc Cert.AdamGateKernelIdeal.main_v0_1) = v1 c
          ∧ r.2.mem ((c.tc : Thread Cert.AdamGateKernelIdeal.nD Cert.AdamGateKernelIdeal.τ).loc Cert.AdamGateKernelIdeal.main_v0_2) = v2 c
          ∧ r.2.mem ((c.tc : Thread Cert.AdamGateKernelIdeal.nD Cert.AdamGateKernelIdeal.τ).loc Cert.AdamGateKernelIdeal.main_arg0) = m ((c.tc : Thread Cert.AdamGateKernelIdeal.nD Cert.AdamGateKernelIdeal.τ).loc Cert.AdamGateKernelIdeal.main_arg0)
          ∧ r.2.mem ((c.tc : Thread Cert.AdamGateKernelIdeal.nD Cert.AdamGateKernelIdeal.τ).loc Cert.AdamGateKernelIdeal.main_arg1) = m ((c.tc : Thread Cert.AdamGateKernelIdeal.nD Cert.AdamGateKernelIdeal.τ).loc Cert.AdamGateKernelIdeal.main_arg1)
          ∧ r.2.mem ((c.tc : Thread Cert.AdamGateKernelIdeal.nD Cert.AdamGateKernelIdeal.τ).loc Cert.AdamGateKernelIdeal.main_arg2) = m ((c.tc : Thread Cert.AdamGateKernelIdeal.nD Cert.AdamGateKernelIdeal.τ).loc Cert.AdamGateKernelIdeal.main_arg2)
          ∧ r.2.mem ((c.tc : Thread Cert.AdamGateKernelIdeal.nD Cert.AdamGateKernelIdeal.τ).loc Cert.AdamGateKernelIdeal.main_arg3) = m ((c.tc : Thread Cert.AdamGateKernelIdeal.nD Cert.AdamGateKernelIdeal.τ).loc Cert.AdamGateKernelIdeal.main_arg3))
      ∧ θ_run (Cert.AdamGateReferenceIdeal.defs (F := Ideal)) (onTc (τ := Cert.AdamGateReferenceIdeal.τ) (Cert.AdamGateReferenceIdeal.main (F := Ideal))) ⟨m', fun _ => 0, g'⟩ (fun r => ∀ c : Dev Cert.AdamGateReferenceIdeal.nD,
          r.2.mem ((c.tc : Thread Cert.AdamGateReferenceIdeal.nD Cert.AdamGateReferenceIdeal.τ).loc Cert.AdamGateReferenceIdeal.main_v23) = v0 c
          ∧ r.2.mem ((c.tc : Thread Cert.AdamGateReferenceIdeal.nD Cert.AdamGateReferenceIdeal.τ).loc Cert.AdamGateReferenceIdeal.main_v4) = v1 c
          ∧ r.2.mem ((c.tc : Thread Cert.AdamGateReferenceIdeal.nD Cert.AdamGateReferenceIdeal.τ).loc Cert.AdamGateReferenceIdeal.main_v10) = v2 c
          ∧ r.2.mem ((c.tc : Thread Cert.AdamGateReferenceIdeal.nD Cert.AdamGateReferenceIdeal.τ).loc Cert.AdamGateReferenceIdeal.main_arg0) = m' ((c.tc : Thread Cert.AdamGateReferenceIdeal.nD Cert.AdamGateReferenceIdeal.τ).loc Cert.AdamGateReferenceIdeal.main_arg0)
          ∧ r.2.mem ((c.tc : Thread Cert.AdamGateReferenceIdeal.nD Cert.AdamGateReferenceIdeal.τ).loc Cert.AdamGateReferenceIdeal.main_arg1) = m' ((c.tc : Thread Cert.AdamGateReferenceIdeal.nD Cert.AdamGateReferenceIdeal.τ).loc Cert.AdamGateReferenceIdeal.main_arg1)
          ∧ r.2.mem ((c.tc : Thread Cert.AdamGateReferenceIdeal.nD Cert.AdamGateReferenceIdeal.τ).loc Cert.AdamGateReferenceIdeal.main_arg2) = m' ((c.tc : Thread Cert.AdamGateReferenceIdeal.nD Cert.AdamGateReferenceIdeal.τ).loc Cert.AdamGateReferenceIdeal.main_arg2)
          ∧ r.2.mem ((c.tc : Thread Cert.AdamGateReferenceIdeal.nD Cert.AdamGateReferenceIdeal.τ).loc Cert.AdamGateReferenceIdeal.main_arg3) = m' ((c.tc : Thread Cert.AdamGateReferenceIdeal.nD Cert.AdamGateReferenceIdeal.τ).loc Cert.AdamGateReferenceIdeal.main_arg3))

def preserves_AdamMlpKernel_AdamMlpKernelIdeal : Prop :=
  True

def algebraic_AdamMlpKernelIdeal_AdamMlpReferenceIdeal [hAdamMlpKernelIdeal : Cert.AdamMlpKernelIdeal.Facts] [hAdamMlpReferenceIdeal : Cert.AdamMlpReferenceIdeal.Facts] : Prop :=
  ∀ (m : (ℓ : Loc Cert.AdamMlpKernelIdeal.nD Cert.AdamMlpKernelIdeal.τ Cert.AdamMlpKernelIdeal.sig) → Buf (Elt Ideal) ℓ) (g : Dev Cert.AdamMlpKernelIdeal.nD → PrngReg)
    (m' : (ℓ : Loc Cert.AdamMlpReferenceIdeal.nD Cert.AdamMlpReferenceIdeal.τ Cert.AdamMlpReferenceIdeal.sig) → Buf (Elt Ideal) ℓ) (g' : Dev Cert.AdamMlpReferenceIdeal.nD → PrngReg), Pre_AdamMlpKernelIdeal m →
    (∀ c : Dev Cert.AdamMlpKernelIdeal.nD,
      m' ((c.tc : Thread Cert.AdamMlpReferenceIdeal.nD Cert.AdamMlpReferenceIdeal.τ).loc Cert.AdamMlpReferenceIdeal.main_arg0) = m ((c.tc : Thread Cert.AdamMlpKernelIdeal.nD Cert.AdamMlpKernelIdeal.τ).loc Cert.AdamMlpKernelIdeal.main_arg0)
      ∧ m' ((c.tc : Thread Cert.AdamMlpReferenceIdeal.nD Cert.AdamMlpReferenceIdeal.τ).loc Cert.AdamMlpReferenceIdeal.main_arg1) = m ((c.tc : Thread Cert.AdamMlpKernelIdeal.nD Cert.AdamMlpKernelIdeal.τ).loc Cert.AdamMlpKernelIdeal.main_arg1)
      ∧ m' ((c.tc : Thread Cert.AdamMlpReferenceIdeal.nD Cert.AdamMlpReferenceIdeal.τ).loc Cert.AdamMlpReferenceIdeal.main_arg2) = m ((c.tc : Thread Cert.AdamMlpKernelIdeal.nD Cert.AdamMlpKernelIdeal.τ).loc Cert.AdamMlpKernelIdeal.main_arg2)
      ∧ m' ((c.tc : Thread Cert.AdamMlpReferenceIdeal.nD Cert.AdamMlpReferenceIdeal.τ).loc Cert.AdamMlpReferenceIdeal.main_arg3) = m ((c.tc : Thread Cert.AdamMlpKernelIdeal.nD Cert.AdamMlpKernelIdeal.τ).loc Cert.AdamMlpKernelIdeal.main_arg3)) →
    ∃ (v0 : (c : Dev Cert.AdamMlpKernelIdeal.nD) → Buf (Elt Ideal) ((c.tc : Thread Cert.AdamMlpKernelIdeal.nD Cert.AdamMlpKernelIdeal.τ).loc Cert.AdamMlpKernelIdeal.main_v0_0)) (v1 : (c : Dev Cert.AdamMlpKernelIdeal.nD) → Buf (Elt Ideal) ((c.tc : Thread Cert.AdamMlpKernelIdeal.nD Cert.AdamMlpKernelIdeal.τ).loc Cert.AdamMlpKernelIdeal.main_v0_1)) (v2 : (c : Dev Cert.AdamMlpKernelIdeal.nD) → Buf (Elt Ideal) ((c.tc : Thread Cert.AdamMlpKernelIdeal.nD Cert.AdamMlpKernelIdeal.τ).loc Cert.AdamMlpKernelIdeal.main_v0_2)),
      θ_run (Cert.AdamMlpKernelIdeal.defs (F := Ideal)) (onTc (τ := Cert.AdamMlpKernelIdeal.τ) (Cert.AdamMlpKernelIdeal.main (F := Ideal))) ⟨m, fun _ => 0, g⟩ (fun r => ∀ c : Dev Cert.AdamMlpKernelIdeal.nD,
          r.2.mem ((c.tc : Thread Cert.AdamMlpKernelIdeal.nD Cert.AdamMlpKernelIdeal.τ).loc Cert.AdamMlpKernelIdeal.main_v0_0) = v0 c
          ∧ r.2.mem ((c.tc : Thread Cert.AdamMlpKernelIdeal.nD Cert.AdamMlpKernelIdeal.τ).loc Cert.AdamMlpKernelIdeal.main_v0_1) = v1 c
          ∧ r.2.mem ((c.tc : Thread Cert.AdamMlpKernelIdeal.nD Cert.AdamMlpKernelIdeal.τ).loc Cert.AdamMlpKernelIdeal.main_v0_2) = v2 c
          ∧ r.2.mem ((c.tc : Thread Cert.AdamMlpKernelIdeal.nD Cert.AdamMlpKernelIdeal.τ).loc Cert.AdamMlpKernelIdeal.main_arg0) = m ((c.tc : Thread Cert.AdamMlpKernelIdeal.nD Cert.AdamMlpKernelIdeal.τ).loc Cert.AdamMlpKernelIdeal.main_arg0)
          ∧ r.2.mem ((c.tc : Thread Cert.AdamMlpKernelIdeal.nD Cert.AdamMlpKernelIdeal.τ).loc Cert.AdamMlpKernelIdeal.main_arg1) = m ((c.tc : Thread Cert.AdamMlpKernelIdeal.nD Cert.AdamMlpKernelIdeal.τ).loc Cert.AdamMlpKernelIdeal.main_arg1)
          ∧ r.2.mem ((c.tc : Thread Cert.AdamMlpKernelIdeal.nD Cert.AdamMlpKernelIdeal.τ).loc Cert.AdamMlpKernelIdeal.main_arg2) = m ((c.tc : Thread Cert.AdamMlpKernelIdeal.nD Cert.AdamMlpKernelIdeal.τ).loc Cert.AdamMlpKernelIdeal.main_arg2)
          ∧ r.2.mem ((c.tc : Thread Cert.AdamMlpKernelIdeal.nD Cert.AdamMlpKernelIdeal.τ).loc Cert.AdamMlpKernelIdeal.main_arg3) = m ((c.tc : Thread Cert.AdamMlpKernelIdeal.nD Cert.AdamMlpKernelIdeal.τ).loc Cert.AdamMlpKernelIdeal.main_arg3))
      ∧ θ_run (Cert.AdamMlpReferenceIdeal.defs (F := Ideal)) (onTc (τ := Cert.AdamMlpReferenceIdeal.τ) (Cert.AdamMlpReferenceIdeal.main (F := Ideal))) ⟨m', fun _ => 0, g'⟩ (fun r => ∀ c : Dev Cert.AdamMlpReferenceIdeal.nD,
          r.2.mem ((c.tc : Thread Cert.AdamMlpReferenceIdeal.nD Cert.AdamMlpReferenceIdeal.τ).loc Cert.AdamMlpReferenceIdeal.main_v23) = v0 c
          ∧ r.2.mem ((c.tc : Thread Cert.AdamMlpReferenceIdeal.nD Cert.AdamMlpReferenceIdeal.τ).loc Cert.AdamMlpReferenceIdeal.main_v4) = v1 c
          ∧ r.2.mem ((c.tc : Thread Cert.AdamMlpReferenceIdeal.nD Cert.AdamMlpReferenceIdeal.τ).loc Cert.AdamMlpReferenceIdeal.main_v10) = v2 c
          ∧ r.2.mem ((c.tc : Thread Cert.AdamMlpReferenceIdeal.nD Cert.AdamMlpReferenceIdeal.τ).loc Cert.AdamMlpReferenceIdeal.main_arg0) = m' ((c.tc : Thread Cert.AdamMlpReferenceIdeal.nD Cert.AdamMlpReferenceIdeal.τ).loc Cert.AdamMlpReferenceIdeal.main_arg0)
          ∧ r.2.mem ((c.tc : Thread Cert.AdamMlpReferenceIdeal.nD Cert.AdamMlpReferenceIdeal.τ).loc Cert.AdamMlpReferenceIdeal.main_arg1) = m' ((c.tc : Thread Cert.AdamMlpReferenceIdeal.nD Cert.AdamMlpReferenceIdeal.τ).loc Cert.AdamMlpReferenceIdeal.main_arg1)
          ∧ r.2.mem ((c.tc : Thread Cert.AdamMlpReferenceIdeal.nD Cert.AdamMlpReferenceIdeal.τ).loc Cert.AdamMlpReferenceIdeal.main_arg2) = m' ((c.tc : Thread Cert.AdamMlpReferenceIdeal.nD Cert.AdamMlpReferenceIdeal.τ).loc Cert.AdamMlpReferenceIdeal.main_arg2)
          ∧ r.2.mem ((c.tc : Thread Cert.AdamMlpReferenceIdeal.nD Cert.AdamMlpReferenceIdeal.τ).loc Cert.AdamMlpReferenceIdeal.main_arg3) = m' ((c.tc : Thread Cert.AdamMlpReferenceIdeal.nD Cert.AdamMlpReferenceIdeal.τ).loc Cert.AdamMlpReferenceIdeal.main_arg3))

def preserves_AdamSquareKernel_AdamSquareKernelIdeal : Prop :=
  True

def algebraic_AdamSquareKernelIdeal_AdamSquareReferenceIdeal [hAdamSquareKernelIdeal : Cert.AdamSquareKernelIdeal.Facts] [hAdamSquareReferenceIdeal : Cert.AdamSquareReferenceIdeal.Facts] : Prop :=
  ∀ (m : (ℓ : Loc Cert.AdamSquareKernelIdeal.nD Cert.AdamSquareKernelIdeal.τ Cert.AdamSquareKernelIdeal.sig) → Buf (Elt Ideal) ℓ) (g : Dev Cert.AdamSquareKernelIdeal.nD → PrngReg)
    (m' : (ℓ : Loc Cert.AdamSquareReferenceIdeal.nD Cert.AdamSquareReferenceIdeal.τ Cert.AdamSquareReferenceIdeal.sig) → Buf (Elt Ideal) ℓ) (g' : Dev Cert.AdamSquareReferenceIdeal.nD → PrngReg), Pre_AdamSquareKernelIdeal m →
    (∀ c : Dev Cert.AdamSquareKernelIdeal.nD,
      m' ((c.tc : Thread Cert.AdamSquareReferenceIdeal.nD Cert.AdamSquareReferenceIdeal.τ).loc Cert.AdamSquareReferenceIdeal.main_arg0) = m ((c.tc : Thread Cert.AdamSquareKernelIdeal.nD Cert.AdamSquareKernelIdeal.τ).loc Cert.AdamSquareKernelIdeal.main_arg0)
      ∧ m' ((c.tc : Thread Cert.AdamSquareReferenceIdeal.nD Cert.AdamSquareReferenceIdeal.τ).loc Cert.AdamSquareReferenceIdeal.main_arg1) = m ((c.tc : Thread Cert.AdamSquareKernelIdeal.nD Cert.AdamSquareKernelIdeal.τ).loc Cert.AdamSquareKernelIdeal.main_arg1)
      ∧ m' ((c.tc : Thread Cert.AdamSquareReferenceIdeal.nD Cert.AdamSquareReferenceIdeal.τ).loc Cert.AdamSquareReferenceIdeal.main_arg2) = m ((c.tc : Thread Cert.AdamSquareKernelIdeal.nD Cert.AdamSquareKernelIdeal.τ).loc Cert.AdamSquareKernelIdeal.main_arg2)
      ∧ m' ((c.tc : Thread Cert.AdamSquareReferenceIdeal.nD Cert.AdamSquareReferenceIdeal.τ).loc Cert.AdamSquareReferenceIdeal.main_arg3) = m ((c.tc : Thread Cert.AdamSquareKernelIdeal.nD Cert.AdamSquareKernelIdeal.τ).loc Cert.AdamSquareKernelIdeal.main_arg3)) →
    ∃ (v0 : (c : Dev Cert.AdamSquareKernelIdeal.nD) → Buf (Elt Ideal) ((c.tc : Thread Cert.AdamSquareKernelIdeal.nD Cert.AdamSquareKernelIdeal.τ).loc Cert.AdamSquareKernelIdeal.main_v0_0)) (v1 : (c : Dev Cert.AdamSquareKernelIdeal.nD) → Buf (Elt Ideal) ((c.tc : Thread Cert.AdamSquareKernelIdeal.nD Cert.AdamSquareKernelIdeal.τ).loc Cert.AdamSquareKernelIdeal.main_v0_1)) (v2 : (c : Dev Cert.AdamSquareKernelIdeal.nD) → Buf (Elt Ideal) ((c.tc : Thread Cert.AdamSquareKernelIdeal.nD Cert.AdamSquareKernelIdeal.τ).loc Cert.AdamSquareKernelIdeal.main_v0_2)),
      θ_run (Cert.AdamSquareKernelIdeal.defs (F := Ideal)) (onTc (τ := Cert.AdamSquareKernelIdeal.τ) (Cert.AdamSquareKernelIdeal.main (F := Ideal))) ⟨m, fun _ => 0, g⟩ (fun r => ∀ c : Dev Cert.AdamSquareKernelIdeal.nD,
          r.2.mem ((c.tc : Thread Cert.AdamSquareKernelIdeal.nD Cert.AdamSquareKernelIdeal.τ).loc Cert.AdamSquareKernelIdeal.main_v0_0) = v0 c
          ∧ r.2.mem ((c.tc : Thread Cert.AdamSquareKernelIdeal.nD Cert.AdamSquareKernelIdeal.τ).loc Cert.AdamSquareKernelIdeal.main_v0_1) = v1 c
          ∧ r.2.mem ((c.tc : Thread Cert.AdamSquareKernelIdeal.nD Cert.AdamSquareKernelIdeal.τ).loc Cert.AdamSquareKernelIdeal.main_v0_2) = v2 c
          ∧ r.2.mem ((c.tc : Thread Cert.AdamSquareKernelIdeal.nD Cert.AdamSquareKernelIdeal.τ).loc Cert.AdamSquareKernelIdeal.main_arg0) = m ((c.tc : Thread Cert.AdamSquareKernelIdeal.nD Cert.AdamSquareKernelIdeal.τ).loc Cert.AdamSquareKernelIdeal.main_arg0)
          ∧ r.2.mem ((c.tc : Thread Cert.AdamSquareKernelIdeal.nD Cert.AdamSquareKernelIdeal.τ).loc Cert.AdamSquareKernelIdeal.main_arg1) = m ((c.tc : Thread Cert.AdamSquareKernelIdeal.nD Cert.AdamSquareKernelIdeal.τ).loc Cert.AdamSquareKernelIdeal.main_arg1)
          ∧ r.2.mem ((c.tc : Thread Cert.AdamSquareKernelIdeal.nD Cert.AdamSquareKernelIdeal.τ).loc Cert.AdamSquareKernelIdeal.main_arg2) = m ((c.tc : Thread Cert.AdamSquareKernelIdeal.nD Cert.AdamSquareKernelIdeal.τ).loc Cert.AdamSquareKernelIdeal.main_arg2)
          ∧ r.2.mem ((c.tc : Thread Cert.AdamSquareKernelIdeal.nD Cert.AdamSquareKernelIdeal.τ).loc Cert.AdamSquareKernelIdeal.main_arg3) = m ((c.tc : Thread Cert.AdamSquareKernelIdeal.nD Cert.AdamSquareKernelIdeal.τ).loc Cert.AdamSquareKernelIdeal.main_arg3))
      ∧ θ_run (Cert.AdamSquareReferenceIdeal.defs (F := Ideal)) (onTc (τ := Cert.AdamSquareReferenceIdeal.τ) (Cert.AdamSquareReferenceIdeal.main (F := Ideal))) ⟨m', fun _ => 0, g'⟩ (fun r => ∀ c : Dev Cert.AdamSquareReferenceIdeal.nD,
          r.2.mem ((c.tc : Thread Cert.AdamSquareReferenceIdeal.nD Cert.AdamSquareReferenceIdeal.τ).loc Cert.AdamSquareReferenceIdeal.main_v23) = v0 c
          ∧ r.2.mem ((c.tc : Thread Cert.AdamSquareReferenceIdeal.nD Cert.AdamSquareReferenceIdeal.τ).loc Cert.AdamSquareReferenceIdeal.main_v4) = v1 c
          ∧ r.2.mem ((c.tc : Thread Cert.AdamSquareReferenceIdeal.nD Cert.AdamSquareReferenceIdeal.τ).loc Cert.AdamSquareReferenceIdeal.main_v10) = v2 c
          ∧ r.2.mem ((c.tc : Thread Cert.AdamSquareReferenceIdeal.nD Cert.AdamSquareReferenceIdeal.τ).loc Cert.AdamSquareReferenceIdeal.main_arg0) = m' ((c.tc : Thread Cert.AdamSquareReferenceIdeal.nD Cert.AdamSquareReferenceIdeal.τ).loc Cert.AdamSquareReferenceIdeal.main_arg0)
          ∧ r.2.mem ((c.tc : Thread Cert.AdamSquareReferenceIdeal.nD Cert.AdamSquareReferenceIdeal.τ).loc Cert.AdamSquareReferenceIdeal.main_arg1) = m' ((c.tc : Thread Cert.AdamSquareReferenceIdeal.nD Cert.AdamSquareReferenceIdeal.τ).loc Cert.AdamSquareReferenceIdeal.main_arg1)
          ∧ r.2.mem ((c.tc : Thread Cert.AdamSquareReferenceIdeal.nD Cert.AdamSquareReferenceIdeal.τ).loc Cert.AdamSquareReferenceIdeal.main_arg2) = m' ((c.tc : Thread Cert.AdamSquareReferenceIdeal.nD Cert.AdamSquareReferenceIdeal.τ).loc Cert.AdamSquareReferenceIdeal.main_arg2)
          ∧ r.2.mem ((c.tc : Thread Cert.AdamSquareReferenceIdeal.nD Cert.AdamSquareReferenceIdeal.τ).loc Cert.AdamSquareReferenceIdeal.main_arg3) = m' ((c.tc : Thread Cert.AdamSquareReferenceIdeal.nD Cert.AdamSquareReferenceIdeal.τ).loc Cert.AdamSquareReferenceIdeal.main_arg3))

def preserves_AdamSmallKernel_AdamSmallKernelIdeal : Prop :=
  True

def algebraic_AdamSmallKernelIdeal_AdamSmallReferenceIdeal [hAdamSmallKernelIdeal : Cert.AdamSmallKernelIdeal.Facts] [hAdamSmallReferenceIdeal : Cert.AdamSmallReferenceIdeal.Facts] : Prop :=
  ∀ (m : (ℓ : Loc Cert.AdamSmallKernelIdeal.nD Cert.AdamSmallKernelIdeal.τ Cert.AdamSmallKernelIdeal.sig) → Buf (Elt Ideal) ℓ) (g : Dev Cert.AdamSmallKernelIdeal.nD → PrngReg)
    (m' : (ℓ : Loc Cert.AdamSmallReferenceIdeal.nD Cert.AdamSmallReferenceIdeal.τ Cert.AdamSmallReferenceIdeal.sig) → Buf (Elt Ideal) ℓ) (g' : Dev Cert.AdamSmallReferenceIdeal.nD → PrngReg), Pre_AdamSmallKernelIdeal m →
    (∀ c : Dev Cert.AdamSmallKernelIdeal.nD,
      m' ((c.tc : Thread Cert.AdamSmallReferenceIdeal.nD Cert.AdamSmallReferenceIdeal.τ).loc Cert.AdamSmallReferenceIdeal.main_arg0) = m ((c.tc : Thread Cert.AdamSmallKernelIdeal.nD Cert.AdamSmallKernelIdeal.τ).loc Cert.AdamSmallKernelIdeal.main_arg0)
      ∧ m' ((c.tc : Thread Cert.AdamSmallReferenceIdeal.nD Cert.AdamSmallReferenceIdeal.τ).loc Cert.AdamSmallReferenceIdeal.main_arg1) = m ((c.tc : Thread Cert.AdamSmallKernelIdeal.nD Cert.AdamSmallKernelIdeal.τ).loc Cert.AdamSmallKernelIdeal.main_arg1)
      ∧ m' ((c.tc : Thread Cert.AdamSmallReferenceIdeal.nD Cert.AdamSmallReferenceIdeal.τ).loc Cert.AdamSmallReferenceIdeal.main_arg2) = m ((c.tc : Thread Cert.AdamSmallKernelIdeal.nD Cert.AdamSmallKernelIdeal.τ).loc Cert.AdamSmallKernelIdeal.main_arg2)
      ∧ m' ((c.tc : Thread Cert.AdamSmallReferenceIdeal.nD Cert.AdamSmallReferenceIdeal.τ).loc Cert.AdamSmallReferenceIdeal.main_arg3) = m ((c.tc : Thread Cert.AdamSmallKernelIdeal.nD Cert.AdamSmallKernelIdeal.τ).loc Cert.AdamSmallKernelIdeal.main_arg3)
      ∧ m' ((c.tc : Thread Cert.AdamSmallReferenceIdeal.nD Cert.AdamSmallReferenceIdeal.τ).loc Cert.AdamSmallReferenceIdeal.main_arg4) = m ((c.tc : Thread Cert.AdamSmallKernelIdeal.nD Cert.AdamSmallKernelIdeal.τ).loc Cert.AdamSmallKernelIdeal.main_arg4)
      ∧ m' ((c.tc : Thread Cert.AdamSmallReferenceIdeal.nD Cert.AdamSmallReferenceIdeal.τ).loc Cert.AdamSmallReferenceIdeal.main_arg5) = m ((c.tc : Thread Cert.AdamSmallKernelIdeal.nD Cert.AdamSmallKernelIdeal.τ).loc Cert.AdamSmallKernelIdeal.main_arg5)
      ∧ m' ((c.tc : Thread Cert.AdamSmallReferenceIdeal.nD Cert.AdamSmallReferenceIdeal.τ).loc Cert.AdamSmallReferenceIdeal.main_arg6) = m ((c.tc : Thread Cert.AdamSmallKernelIdeal.nD Cert.AdamSmallKernelIdeal.τ).loc Cert.AdamSmallKernelIdeal.main_arg6)
      ∧ m' ((c.tc : Thread Cert.AdamSmallReferenceIdeal.nD Cert.AdamSmallReferenceIdeal.τ).loc Cert.AdamSmallReferenceIdeal.main_arg7) = m ((c.tc : Thread Cert.AdamSmallKernelIdeal.nD Cert.AdamSmallKernelIdeal.τ).loc Cert.AdamSmallKernelIdeal.main_arg7)
      ∧ m' ((c.tc : Thread Cert.AdamSmallReferenceIdeal.nD Cert.AdamSmallReferenceIdeal.τ).loc Cert.AdamSmallReferenceIdeal.main_arg8) = m ((c.tc : Thread Cert.AdamSmallKernelIdeal.nD Cert.AdamSmallKernelIdeal.τ).loc Cert.AdamSmallKernelIdeal.main_arg8)
      ∧ m' ((c.tc : Thread Cert.AdamSmallReferenceIdeal.nD Cert.AdamSmallReferenceIdeal.τ).loc Cert.AdamSmallReferenceIdeal.main_arg9) = m ((c.tc : Thread Cert.AdamSmallKernelIdeal.nD Cert.AdamSmallKernelIdeal.τ).loc Cert.AdamSmallKernelIdeal.main_arg9)
      ∧ m' ((c.tc : Thread Cert.AdamSmallReferenceIdeal.nD Cert.AdamSmallReferenceIdeal.τ).loc Cert.AdamSmallReferenceIdeal.main_arg10) = m ((c.tc : Thread Cert.AdamSmallKernelIdeal.nD Cert.AdamSmallKernelIdeal.τ).loc Cert.AdamSmallKernelIdeal.main_arg10)
      ∧ m' ((c.tc : Thread Cert.AdamSmallReferenceIdeal.nD Cert.AdamSmallReferenceIdeal.τ).loc Cert.AdamSmallReferenceIdeal.main_arg11) = m ((c.tc : Thread Cert.AdamSmallKernelIdeal.nD Cert.AdamSmallKernelIdeal.τ).loc Cert.AdamSmallKernelIdeal.main_arg11)
      ∧ m' ((c.tc : Thread Cert.AdamSmallReferenceIdeal.nD Cert.AdamSmallReferenceIdeal.τ).loc Cert.AdamSmallReferenceIdeal.main_arg12) = m ((c.tc : Thread Cert.AdamSmallKernelIdeal.nD Cert.AdamSmallKernelIdeal.τ).loc Cert.AdamSmallKernelIdeal.main_arg12)
      ∧ m' ((c.tc : Thread Cert.AdamSmallReferenceIdeal.nD Cert.AdamSmallReferenceIdeal.τ).loc Cert.AdamSmallReferenceIdeal.main_arg13) = m ((c.tc : Thread Cert.AdamSmallKernelIdeal.nD Cert.AdamSmallKernelIdeal.τ).loc Cert.AdamSmallKernelIdeal.main_arg13)
      ∧ m' ((c.tc : Thread Cert.AdamSmallReferenceIdeal.nD Cert.AdamSmallReferenceIdeal.τ).loc Cert.AdamSmallReferenceIdeal.main_arg14) = m ((c.tc : Thread Cert.AdamSmallKernelIdeal.nD Cert.AdamSmallKernelIdeal.τ).loc Cert.AdamSmallKernelIdeal.main_arg14)
      ∧ m' ((c.tc : Thread Cert.AdamSmallReferenceIdeal.nD Cert.AdamSmallReferenceIdeal.τ).loc Cert.AdamSmallReferenceIdeal.main_arg15) = m ((c.tc : Thread Cert.AdamSmallKernelIdeal.nD Cert.AdamSmallKernelIdeal.τ).loc Cert.AdamSmallKernelIdeal.main_arg15)
      ∧ m' ((c.tc : Thread Cert.AdamSmallReferenceIdeal.nD Cert.AdamSmallReferenceIdeal.τ).loc Cert.AdamSmallReferenceIdeal.main_arg16) = m ((c.tc : Thread Cert.AdamSmallKernelIdeal.nD Cert.AdamSmallKernelIdeal.τ).loc Cert.AdamSmallKernelIdeal.main_arg16)
      ∧ m' ((c.tc : Thread Cert.AdamSmallReferenceIdeal.nD Cert.AdamSmallReferenceIdeal.τ).loc Cert.AdamSmallReferenceIdeal.main_arg17) = m ((c.tc : Thread Cert.AdamSmallKernelIdeal.nD Cert.AdamSmallKernelIdeal.τ).loc Cert.AdamSmallKernelIdeal.main_arg17)
      ∧ m' ((c.tc : Thread Cert.AdamSmallReferenceIdeal.nD Cert.AdamSmallReferenceIdeal.τ).loc Cert.AdamSmallReferenceIdeal.main_arg18) = m ((c.tc : Thread Cert.AdamSmallKernelIdeal.nD Cert.AdamSmallKernelIdeal.τ).loc Cert.AdamSmallKernelIdeal.main_arg18)
      ∧ m' ((c.tc : Thread Cert.AdamSmallReferenceIdeal.nD Cert.AdamSmallReferenceIdeal.τ).loc Cert.AdamSmallReferenceIdeal.main_arg19) = m ((c.tc : Thread Cert.AdamSmallKernelIdeal.nD Cert.AdamSmallKernelIdeal.τ).loc Cert.AdamSmallKernelIdeal.main_arg19)
      ∧ m' ((c.tc : Thread Cert.AdamSmallReferenceIdeal.nD Cert.AdamSmallReferenceIdeal.τ).loc Cert.AdamSmallReferenceIdeal.main_arg20) = m ((c.tc : Thread Cert.AdamSmallKernelIdeal.nD Cert.AdamSmallKernelIdeal.τ).loc Cert.AdamSmallKernelIdeal.main_arg20)
      ∧ m' ((c.tc : Thread Cert.AdamSmallReferenceIdeal.nD Cert.AdamSmallReferenceIdeal.τ).loc Cert.AdamSmallReferenceIdeal.main_arg21) = m ((c.tc : Thread Cert.AdamSmallKernelIdeal.nD Cert.AdamSmallKernelIdeal.τ).loc Cert.AdamSmallKernelIdeal.main_arg21)
      ∧ m' ((c.tc : Thread Cert.AdamSmallReferenceIdeal.nD Cert.AdamSmallReferenceIdeal.τ).loc Cert.AdamSmallReferenceIdeal.main_arg22) = m ((c.tc : Thread Cert.AdamSmallKernelIdeal.nD Cert.AdamSmallKernelIdeal.τ).loc Cert.AdamSmallKernelIdeal.main_arg22)
      ∧ m' ((c.tc : Thread Cert.AdamSmallReferenceIdeal.nD Cert.AdamSmallReferenceIdeal.τ).loc Cert.AdamSmallReferenceIdeal.main_arg23) = m ((c.tc : Thread Cert.AdamSmallKernelIdeal.nD Cert.AdamSmallKernelIdeal.τ).loc Cert.AdamSmallKernelIdeal.main_arg23)
      ∧ m' ((c.tc : Thread Cert.AdamSmallReferenceIdeal.nD Cert.AdamSmallReferenceIdeal.τ).loc Cert.AdamSmallReferenceIdeal.main_arg24) = m ((c.tc : Thread Cert.AdamSmallKernelIdeal.nD Cert.AdamSmallKernelIdeal.τ).loc Cert.AdamSmallKernelIdeal.main_arg24)
      ∧ m' ((c.tc : Thread Cert.AdamSmallReferenceIdeal.nD Cert.AdamSmallReferenceIdeal.τ).loc Cert.AdamSmallReferenceIdeal.main_arg25) = m ((c.tc : Thread Cert.AdamSmallKernelIdeal.nD Cert.AdamSmallKernelIdeal.τ).loc Cert.AdamSmallKernelIdeal.main_arg25)
      ∧ m' ((c.tc : Thread Cert.AdamSmallReferenceIdeal.nD Cert.AdamSmallReferenceIdeal.τ).loc Cert.AdamSmallReferenceIdeal.main_arg26) = m ((c.tc : Thread Cert.AdamSmallKernelIdeal.nD Cert.AdamSmallKernelIdeal.τ).loc Cert.AdamSmallKernelIdeal.main_arg26)
      ∧ m' ((c.tc : Thread Cert.AdamSmallReferenceIdeal.nD Cert.AdamSmallReferenceIdeal.τ).loc Cert.AdamSmallReferenceIdeal.main_arg27) = m ((c.tc : Thread Cert.AdamSmallKernelIdeal.nD Cert.AdamSmallKernelIdeal.τ).loc Cert.AdamSmallKernelIdeal.main_arg27)
      ∧ m' ((c.tc : Thread Cert.AdamSmallReferenceIdeal.nD Cert.AdamSmallReferenceIdeal.τ).loc Cert.AdamSmallReferenceIdeal.main_arg28) = m ((c.tc : Thread Cert.AdamSmallKernelIdeal.nD Cert.AdamSmallKernelIdeal.τ).loc Cert.AdamSmallKernelIdeal.main_arg28)
      ∧ m' ((c.tc : Thread Cert.AdamSmallReferenceIdeal.nD Cert.AdamSmallReferenceIdeal.τ).loc Cert.AdamSmallReferenceIdeal.main_arg29) = m ((c.tc : Thread Cert.AdamSmallKernelIdeal.nD Cert.AdamSmallKernelIdeal.τ).loc Cert.AdamSmallKernelIdeal.main_arg29)
      ∧ m' ((c.tc : Thread Cert.AdamSmallReferenceIdeal.nD Cert.AdamSmallReferenceIdeal.τ).loc Cert.AdamSmallReferenceIdeal.main_arg30) = m ((c.tc : Thread Cert.AdamSmallKernelIdeal.nD Cert.AdamSmallKernelIdeal.τ).loc Cert.AdamSmallKernelIdeal.main_arg30)
      ∧ m' ((c.tc : Thread Cert.AdamSmallReferenceIdeal.nD Cert.AdamSmallReferenceIdeal.τ).loc Cert.AdamSmallReferenceIdeal.main_arg31) = m ((c.tc : Thread Cert.AdamSmallKernelIdeal.nD Cert.AdamSmallKernelIdeal.τ).loc Cert.AdamSmallKernelIdeal.main_arg31)) →
    ∃ (v0 : (c : Dev Cert.AdamSmallKernelIdeal.nD) → Buf (Elt Ideal) ((c.tc : Thread Cert.AdamSmallKernelIdeal.nD Cert.AdamSmallKernelIdeal.τ).loc Cert.AdamSmallKernelIdeal.main_v126)) (v1 : (c : Dev Cert.AdamSmallKernelIdeal.nD) → Buf (Elt Ideal) ((c.tc : Thread Cert.AdamSmallKernelIdeal.nD Cert.AdamSmallKernelIdeal.τ).loc Cert.AdamSmallKernelIdeal.main_v128)) (v2 : (c : Dev Cert.AdamSmallKernelIdeal.nD) → Buf (Elt Ideal) ((c.tc : Thread Cert.AdamSmallKernelIdeal.nD Cert.AdamSmallKernelIdeal.τ).loc Cert.AdamSmallKernelIdeal.main_v130)) (v3 : (c : Dev Cert.AdamSmallKernelIdeal.nD) → Buf (Elt Ideal) ((c.tc : Thread Cert.AdamSmallKernelIdeal.nD Cert.AdamSmallKernelIdeal.τ).loc Cert.AdamSmallKernelIdeal.main_v132)) (v4 : (c : Dev Cert.AdamSmallKernelIdeal.nD) → Buf (Elt Ideal) ((c.tc : Thread Cert.AdamSmallKernelIdeal.nD Cert.AdamSmallKernelIdeal.τ).loc Cert.AdamSmallKernelIdeal.main_v133)) (v5 : (c : Dev Cert.AdamSmallKernelIdeal.nD) → Buf (Elt Ideal) ((c.tc : Thread Cert.AdamSmallKernelIdeal.nD Cert.AdamSmallKernelIdeal.τ).loc Cert.AdamSmallKernelIdeal.main_v135)) (v6 : (c : Dev Cert.AdamSmallKernelIdeal.nD) → Buf (Elt Ideal) ((c.tc : Thread Cert.AdamSmallKernelIdeal.nD Cert.AdamSmallKernelIdeal.τ).loc Cert.AdamSmallKernelIdeal.main_v137)) (v7 : (c : Dev Cert.AdamSmallKernelIdeal.nD) → Buf (Elt Ideal) ((c.tc : Thread Cert.AdamSmallKernelIdeal.nD Cert.AdamSmallKernelIdeal.τ).loc Cert.AdamSmallKernelIdeal.main_v138)) (v8 : (c : Dev Cert.AdamSmallKernelIdeal.nD) → Buf (Elt Ideal) ((c.tc : Thread Cert.AdamSmallKernelIdeal.nD Cert.AdamSmallKernelIdeal.τ).loc Cert.AdamSmallKernelIdeal.main_v140)) (v9 : (c : Dev Cert.AdamSmallKernelIdeal.nD) → Buf (Elt Ideal) ((c.tc : Thread Cert.AdamSmallKernelIdeal.nD Cert.AdamSmallKernelIdeal.τ).loc Cert.AdamSmallKernelIdeal.main_v142)) (v10 : (c : Dev Cert.AdamSmallKernelIdeal.nD) → Buf (Elt Ideal) ((c.tc : Thread Cert.AdamSmallKernelIdeal.nD Cert.AdamSmallKernelIdeal.τ).loc Cert.AdamSmallKernelIdeal.main_v144)) (v11 : (c : Dev Cert.AdamSmallKernelIdeal.nD) → Buf (Elt Ideal) ((c.tc : Thread Cert.AdamSmallKernelIdeal.nD Cert.AdamSmallKernelIdeal.τ).loc Cert.AdamSmallKernelIdeal.main_v146)) (v12 : (c : Dev Cert.AdamSmallKernelIdeal.nD) → Buf (Elt Ideal) ((c.tc : Thread Cert.AdamSmallKernelIdeal.nD Cert.AdamSmallKernelIdeal.τ).loc Cert.AdamSmallKernelIdeal.main_v147)) (v13 : (c : Dev Cert.AdamSmallKernelIdeal.nD) → Buf (Elt Ideal) ((c.tc : Thread Cert.AdamSmallKernelIdeal.nD Cert.AdamSmallKernelIdeal.τ).loc Cert.AdamSmallKernelIdeal.main_v149)) (v14 : (c : Dev Cert.AdamSmallKernelIdeal.nD) → Buf (Elt Ideal) ((c.tc : Thread Cert.AdamSmallKernelIdeal.nD Cert.AdamSmallKernelIdeal.τ).loc Cert.AdamSmallKernelIdeal.main_v151)) (v15 : (c : Dev Cert.AdamSmallKernelIdeal.nD) → Buf (Elt Ideal) ((c.tc : Thread Cert.AdamSmallKernelIdeal.nD Cert.AdamSmallKernelIdeal.τ).loc Cert.AdamSmallKernelIdeal.main_v152)) (v16 : (c : Dev Cert.AdamSmallKernelIdeal.nD) → Buf (Elt Ideal) ((c.tc : Thread Cert.AdamSmallKernelIdeal.nD Cert.AdamSmallKernelIdeal.τ).loc Cert.AdamSmallKernelIdeal.main_v154)) (v17 : (c : Dev Cert.AdamSmallKernelIdeal.nD) → Buf (Elt Ideal) ((c.tc : Thread Cert.AdamSmallKernelIdeal.nD Cert.AdamSmallKernelIdeal.τ).loc Cert.AdamSmallKernelIdeal.main_v156)) (v18 : (c : Dev Cert.AdamSmallKernelIdeal.nD) → Buf (Elt Ideal) ((c.tc : Thread Cert.AdamSmallKernelIdeal.nD Cert.AdamSmallKernelIdeal.τ).loc Cert.AdamSmallKernelIdeal.main_v158)) (v19 : (c : Dev Cert.AdamSmallKernelIdeal.nD) → Buf (Elt Ideal) ((c.tc : Thread Cert.AdamSmallKernelIdeal.nD Cert.AdamSmallKernelIdeal.τ).loc Cert.AdamSmallKernelIdeal.main_v160)) (v20 : (c : Dev Cert.AdamSmallKernelIdeal.nD) → Buf (Elt Ideal) ((c.tc : Thread Cert.AdamSmallKernelIdeal.nD Cert.AdamSmallKernelIdeal.τ).loc Cert.AdamSmallKernelIdeal.main_v161)) (v21 : (c : Dev Cert.AdamSmallKernelIdeal.nD) → Buf (Elt Ideal) ((c.tc : Thread Cert.AdamSmallKernelIdeal.nD Cert.AdamSmallKernelIdeal.τ).loc Cert.AdamSmallKernelIdeal.main_v163)) (v22 : (c : Dev Cert.AdamSmallKernelIdeal.nD) → Buf (Elt Ideal) ((c.tc : Thread Cert.AdamSmallKernelIdeal.nD Cert.AdamSmallKernelIdeal.τ).loc Cert.AdamSmallKernelIdeal.main_v165)) (v23 : (c : Dev Cert.AdamSmallKernelIdeal.nD) → Buf (Elt Ideal) ((c.tc : Thread Cert.AdamSmallKernelIdeal.nD Cert.AdamSmallKernelIdeal.τ).loc Cert.AdamSmallKernelIdeal.main_v166)),
      θ_run (Cert.AdamSmallKernelIdeal.defs (F := Ideal)) (onTc (τ := Cert.AdamSmallKernelIdeal.τ) (Cert.AdamSmallKernelIdeal.main (F := Ideal))) ⟨m, fun _ => 0, g⟩ (fun r => ∀ c : Dev Cert.AdamSmallKernelIdeal.nD,
          r.2.mem ((c.tc : Thread Cert.AdamSmallKernelIdeal.nD Cert.AdamSmallKernelIdeal.τ).loc Cert.AdamSmallKernelIdeal.main_v126) = v0 c
          ∧ r.2.mem ((c.tc : Thread Cert.AdamSmallKernelIdeal.nD Cert.AdamSmallKernelIdeal.τ).loc Cert.AdamSmallKernelIdeal.main_v128) = v1 c
          ∧ r.2.mem ((c.tc : Thread Cert.AdamSmallKernelIdeal.nD Cert.AdamSmallKernelIdeal.τ).loc Cert.AdamSmallKernelIdeal.main_v130) = v2 c
          ∧ r.2.mem ((c.tc : Thread Cert.AdamSmallKernelIdeal.nD Cert.AdamSmallKernelIdeal.τ).loc Cert.AdamSmallKernelIdeal.main_v132) = v3 c
          ∧ r.2.mem ((c.tc : Thread Cert.AdamSmallKernelIdeal.nD Cert.AdamSmallKernelIdeal.τ).loc Cert.AdamSmallKernelIdeal.main_v133) = v4 c
          ∧ r.2.mem ((c.tc : Thread Cert.AdamSmallKernelIdeal.nD Cert.AdamSmallKernelIdeal.τ).loc Cert.AdamSmallKernelIdeal.main_v135) = v5 c
          ∧ r.2.mem ((c.tc : Thread Cert.AdamSmallKernelIdeal.nD Cert.AdamSmallKernelIdeal.τ).loc Cert.AdamSmallKernelIdeal.main_v137) = v6 c
          ∧ r.2.mem ((c.tc : Thread Cert.AdamSmallKernelIdeal.nD Cert.AdamSmallKernelIdeal.τ).loc Cert.AdamSmallKernelIdeal.main_v138) = v7 c
          ∧ r.2.mem ((c.tc : Thread Cert.AdamSmallKernelIdeal.nD Cert.AdamSmallKernelIdeal.τ).loc Cert.AdamSmallKernelIdeal.main_v140) = v8 c
          ∧ r.2.mem ((c.tc : Thread Cert.AdamSmallKernelIdeal.nD Cert.AdamSmallKernelIdeal.τ).loc Cert.AdamSmallKernelIdeal.main_v142) = v9 c
          ∧ r.2.mem ((c.tc : Thread Cert.AdamSmallKernelIdeal.nD Cert.AdamSmallKernelIdeal.τ).loc Cert.AdamSmallKernelIdeal.main_v144) = v10 c
          ∧ r.2.mem ((c.tc : Thread Cert.AdamSmallKernelIdeal.nD Cert.AdamSmallKernelIdeal.τ).loc Cert.AdamSmallKernelIdeal.main_v146) = v11 c
          ∧ r.2.mem ((c.tc : Thread Cert.AdamSmallKernelIdeal.nD Cert.AdamSmallKernelIdeal.τ).loc Cert.AdamSmallKernelIdeal.main_v147) = v12 c
          ∧ r.2.mem ((c.tc : Thread Cert.AdamSmallKernelIdeal.nD Cert.AdamSmallKernelIdeal.τ).loc Cert.AdamSmallKernelIdeal.main_v149) = v13 c
          ∧ r.2.mem ((c.tc : Thread Cert.AdamSmallKernelIdeal.nD Cert.AdamSmallKernelIdeal.τ).loc Cert.AdamSmallKernelIdeal.main_v151) = v14 c
          ∧ r.2.mem ((c.tc : Thread Cert.AdamSmallKernelIdeal.nD Cert.AdamSmallKernelIdeal.τ).loc Cert.AdamSmallKernelIdeal.main_v152) = v15 c
          ∧ r.2.mem ((c.tc : Thread Cert.AdamSmallKernelIdeal.nD Cert.AdamSmallKernelIdeal.τ).loc Cert.AdamSmallKernelIdeal.main_v154) = v16 c
          ∧ r.2.mem ((c.tc : Thread Cert.AdamSmallKernelIdeal.nD Cert.AdamSmallKernelIdeal.τ).loc Cert.AdamSmallKernelIdeal.main_v156) = v17 c
          ∧ r.2.mem ((c.tc : Thread Cert.AdamSmallKernelIdeal.nD Cert.AdamSmallKernelIdeal.τ).loc Cert.AdamSmallKernelIdeal.main_v158) = v18 c
          ∧ r.2.mem ((c.tc : Thread Cert.AdamSmallKernelIdeal.nD Cert.AdamSmallKernelIdeal.τ).loc Cert.AdamSmallKernelIdeal.main_v160) = v19 c
          ∧ r.2.mem ((c.tc : Thread Cert.AdamSmallKernelIdeal.nD Cert.AdamSmallKernelIdeal.τ).loc Cert.AdamSmallKernelIdeal.main_v161) = v20 c
          ∧ r.2.mem ((c.tc : Thread Cert.AdamSmallKernelIdeal.nD Cert.AdamSmallKernelIdeal.τ).loc Cert.AdamSmallKernelIdeal.main_v163) = v21 c
          ∧ r.2.mem ((c.tc : Thread Cert.AdamSmallKernelIdeal.nD Cert.AdamSmallKernelIdeal.τ).loc Cert.AdamSmallKernelIdeal.main_v165) = v22 c
          ∧ r.2.mem ((c.tc : Thread Cert.AdamSmallKernelIdeal.nD Cert.AdamSmallKernelIdeal.τ).loc Cert.AdamSmallKernelIdeal.main_v166) = v23 c
          ∧ r.2.mem ((c.tc : Thread Cert.AdamSmallKernelIdeal.nD Cert.AdamSmallKernelIdeal.τ).loc Cert.AdamSmallKernelIdeal.main_arg0) = m ((c.tc : Thread Cert.AdamSmallKernelIdeal.nD Cert.AdamSmallKernelIdeal.τ).loc Cert.AdamSmallKernelIdeal.main_arg0)
          ∧ r.2.mem ((c.tc : Thread Cert.AdamSmallKernelIdeal.nD Cert.AdamSmallKernelIdeal.τ).loc Cert.AdamSmallKernelIdeal.main_arg1) = m ((c.tc : Thread Cert.AdamSmallKernelIdeal.nD Cert.AdamSmallKernelIdeal.τ).loc Cert.AdamSmallKernelIdeal.main_arg1)
          ∧ r.2.mem ((c.tc : Thread Cert.AdamSmallKernelIdeal.nD Cert.AdamSmallKernelIdeal.τ).loc Cert.AdamSmallKernelIdeal.main_arg2) = m ((c.tc : Thread Cert.AdamSmallKernelIdeal.nD Cert.AdamSmallKernelIdeal.τ).loc Cert.AdamSmallKernelIdeal.main_arg2)
          ∧ r.2.mem ((c.tc : Thread Cert.AdamSmallKernelIdeal.nD Cert.AdamSmallKernelIdeal.τ).loc Cert.AdamSmallKernelIdeal.main_arg3) = m ((c.tc : Thread Cert.AdamSmallKernelIdeal.nD Cert.AdamSmallKernelIdeal.τ).loc Cert.AdamSmallKernelIdeal.main_arg3)
          ∧ r.2.mem ((c.tc : Thread Cert.AdamSmallKernelIdeal.nD Cert.AdamSmallKernelIdeal.τ).loc Cert.AdamSmallKernelIdeal.main_arg4) = m ((c.tc : Thread Cert.AdamSmallKernelIdeal.nD Cert.AdamSmallKernelIdeal.τ).loc Cert.AdamSmallKernelIdeal.main_arg4)
          ∧ r.2.mem ((c.tc : Thread Cert.AdamSmallKernelIdeal.nD Cert.AdamSmallKernelIdeal.τ).loc Cert.AdamSmallKernelIdeal.main_arg5) = m ((c.tc : Thread Cert.AdamSmallKernelIdeal.nD Cert.AdamSmallKernelIdeal.τ).loc Cert.AdamSmallKernelIdeal.main_arg5)
          ∧ r.2.mem ((c.tc : Thread Cert.AdamSmallKernelIdeal.nD Cert.AdamSmallKernelIdeal.τ).loc Cert.AdamSmallKernelIdeal.main_arg6) = m ((c.tc : Thread Cert.AdamSmallKernelIdeal.nD Cert.AdamSmallKernelIdeal.τ).loc Cert.AdamSmallKernelIdeal.main_arg6)
          ∧ r.2.mem ((c.tc : Thread Cert.AdamSmallKernelIdeal.nD Cert.AdamSmallKernelIdeal.τ).loc Cert.AdamSmallKernelIdeal.main_arg7) = m ((c.tc : Thread Cert.AdamSmallKernelIdeal.nD Cert.AdamSmallKernelIdeal.τ).loc Cert.AdamSmallKernelIdeal.main_arg7)
          ∧ r.2.mem ((c.tc : Thread Cert.AdamSmallKernelIdeal.nD Cert.AdamSmallKernelIdeal.τ).loc Cert.AdamSmallKernelIdeal.main_arg8) = m ((c.tc : Thread Cert.AdamSmallKernelIdeal.nD Cert.AdamSmallKernelIdeal.τ).loc Cert.AdamSmallKernelIdeal.main_arg8)
          ∧ r.2.mem ((c.tc : Thread Cert.AdamSmallKernelIdeal.nD Cert.AdamSmallKernelIdeal.τ).loc Cert.AdamSmallKernelIdeal.main_arg9) = m ((c.tc : Thread Cert.AdamSmallKernelIdeal.nD Cert.AdamSmallKernelIdeal.τ).loc Cert.AdamSmallKernelIdeal.main_arg9)
          ∧ r.2.mem ((c.tc : Thread Cert.AdamSmallKernelIdeal.nD Cert.AdamSmallKernelIdeal.τ).loc Cert.AdamSmallKernelIdeal.main_arg10) = m ((c.tc : Thread Cert.AdamSmallKernelIdeal.nD Cert.AdamSmallKernelIdeal.τ).loc Cert.AdamSmallKernelIdeal.main_arg10)
          ∧ r.2.mem ((c.tc : Thread Cert.AdamSmallKernelIdeal.nD Cert.AdamSmallKernelIdeal.τ).loc Cert.AdamSmallKernelIdeal.main_arg11) = m ((c.tc : Thread Cert.AdamSmallKernelIdeal.nD Cert.AdamSmallKernelIdeal.τ).loc Cert.AdamSmallKernelIdeal.main_arg11)
          ∧ r.2.mem ((c.tc : Thread Cert.AdamSmallKernelIdeal.nD Cert.AdamSmallKernelIdeal.τ).loc Cert.AdamSmallKernelIdeal.main_arg12) = m ((c.tc : Thread Cert.AdamSmallKernelIdeal.nD Cert.AdamSmallKernelIdeal.τ).loc Cert.AdamSmallKernelIdeal.main_arg12)
          ∧ r.2.mem ((c.tc : Thread Cert.AdamSmallKernelIdeal.nD Cert.AdamSmallKernelIdeal.τ).loc Cert.AdamSmallKernelIdeal.main_arg13) = m ((c.tc : Thread Cert.AdamSmallKernelIdeal.nD Cert.AdamSmallKernelIdeal.τ).loc Cert.AdamSmallKernelIdeal.main_arg13)
          ∧ r.2.mem ((c.tc : Thread Cert.AdamSmallKernelIdeal.nD Cert.AdamSmallKernelIdeal.τ).loc Cert.AdamSmallKernelIdeal.main_arg14) = m ((c.tc : Thread Cert.AdamSmallKernelIdeal.nD Cert.AdamSmallKernelIdeal.τ).loc Cert.AdamSmallKernelIdeal.main_arg14)
          ∧ r.2.mem ((c.tc : Thread Cert.AdamSmallKernelIdeal.nD Cert.AdamSmallKernelIdeal.τ).loc Cert.AdamSmallKernelIdeal.main_arg15) = m ((c.tc : Thread Cert.AdamSmallKernelIdeal.nD Cert.AdamSmallKernelIdeal.τ).loc Cert.AdamSmallKernelIdeal.main_arg15)
          ∧ r.2.mem ((c.tc : Thread Cert.AdamSmallKernelIdeal.nD Cert.AdamSmallKernelIdeal.τ).loc Cert.AdamSmallKernelIdeal.main_arg16) = m ((c.tc : Thread Cert.AdamSmallKernelIdeal.nD Cert.AdamSmallKernelIdeal.τ).loc Cert.AdamSmallKernelIdeal.main_arg16)
          ∧ r.2.mem ((c.tc : Thread Cert.AdamSmallKernelIdeal.nD Cert.AdamSmallKernelIdeal.τ).loc Cert.AdamSmallKernelIdeal.main_arg17) = m ((c.tc : Thread Cert.AdamSmallKernelIdeal.nD Cert.AdamSmallKernelIdeal.τ).loc Cert.AdamSmallKernelIdeal.main_arg17)
          ∧ r.2.mem ((c.tc : Thread Cert.AdamSmallKernelIdeal.nD Cert.AdamSmallKernelIdeal.τ).loc Cert.AdamSmallKernelIdeal.main_arg18) = m ((c.tc : Thread Cert.AdamSmallKernelIdeal.nD Cert.AdamSmallKernelIdeal.τ).loc Cert.AdamSmallKernelIdeal.main_arg18)
          ∧ r.2.mem ((c.tc : Thread Cert.AdamSmallKernelIdeal.nD Cert.AdamSmallKernelIdeal.τ).loc Cert.AdamSmallKernelIdeal.main_arg19) = m ((c.tc : Thread Cert.AdamSmallKernelIdeal.nD Cert.AdamSmallKernelIdeal.τ).loc Cert.AdamSmallKernelIdeal.main_arg19)
          ∧ r.2.mem ((c.tc : Thread Cert.AdamSmallKernelIdeal.nD Cert.AdamSmallKernelIdeal.τ).loc Cert.AdamSmallKernelIdeal.main_arg20) = m ((c.tc : Thread Cert.AdamSmallKernelIdeal.nD Cert.AdamSmallKernelIdeal.τ).loc Cert.AdamSmallKernelIdeal.main_arg20)
          ∧ r.2.mem ((c.tc : Thread Cert.AdamSmallKernelIdeal.nD Cert.AdamSmallKernelIdeal.τ).loc Cert.AdamSmallKernelIdeal.main_arg21) = m ((c.tc : Thread Cert.AdamSmallKernelIdeal.nD Cert.AdamSmallKernelIdeal.τ).loc Cert.AdamSmallKernelIdeal.main_arg21)
          ∧ r.2.mem ((c.tc : Thread Cert.AdamSmallKernelIdeal.nD Cert.AdamSmallKernelIdeal.τ).loc Cert.AdamSmallKernelIdeal.main_arg22) = m ((c.tc : Thread Cert.AdamSmallKernelIdeal.nD Cert.AdamSmallKernelIdeal.τ).loc Cert.AdamSmallKernelIdeal.main_arg22)
          ∧ r.2.mem ((c.tc : Thread Cert.AdamSmallKernelIdeal.nD Cert.AdamSmallKernelIdeal.τ).loc Cert.AdamSmallKernelIdeal.main_arg23) = m ((c.tc : Thread Cert.AdamSmallKernelIdeal.nD Cert.AdamSmallKernelIdeal.τ).loc Cert.AdamSmallKernelIdeal.main_arg23)
          ∧ r.2.mem ((c.tc : Thread Cert.AdamSmallKernelIdeal.nD Cert.AdamSmallKernelIdeal.τ).loc Cert.AdamSmallKernelIdeal.main_arg24) = m ((c.tc : Thread Cert.AdamSmallKernelIdeal.nD Cert.AdamSmallKernelIdeal.τ).loc Cert.AdamSmallKernelIdeal.main_arg24)
          ∧ r.2.mem ((c.tc : Thread Cert.AdamSmallKernelIdeal.nD Cert.AdamSmallKernelIdeal.τ).loc Cert.AdamSmallKernelIdeal.main_arg25) = m ((c.tc : Thread Cert.AdamSmallKernelIdeal.nD Cert.AdamSmallKernelIdeal.τ).loc Cert.AdamSmallKernelIdeal.main_arg25)
          ∧ r.2.mem ((c.tc : Thread Cert.AdamSmallKernelIdeal.nD Cert.AdamSmallKernelIdeal.τ).loc Cert.AdamSmallKernelIdeal.main_arg26) = m ((c.tc : Thread Cert.AdamSmallKernelIdeal.nD Cert.AdamSmallKernelIdeal.τ).loc Cert.AdamSmallKernelIdeal.main_arg26)
          ∧ r.2.mem ((c.tc : Thread Cert.AdamSmallKernelIdeal.nD Cert.AdamSmallKernelIdeal.τ).loc Cert.AdamSmallKernelIdeal.main_arg27) = m ((c.tc : Thread Cert.AdamSmallKernelIdeal.nD Cert.AdamSmallKernelIdeal.τ).loc Cert.AdamSmallKernelIdeal.main_arg27)
          ∧ r.2.mem ((c.tc : Thread Cert.AdamSmallKernelIdeal.nD Cert.AdamSmallKernelIdeal.τ).loc Cert.AdamSmallKernelIdeal.main_arg28) = m ((c.tc : Thread Cert.AdamSmallKernelIdeal.nD Cert.AdamSmallKernelIdeal.τ).loc Cert.AdamSmallKernelIdeal.main_arg28)
          ∧ r.2.mem ((c.tc : Thread Cert.AdamSmallKernelIdeal.nD Cert.AdamSmallKernelIdeal.τ).loc Cert.AdamSmallKernelIdeal.main_arg29) = m ((c.tc : Thread Cert.AdamSmallKernelIdeal.nD Cert.AdamSmallKernelIdeal.τ).loc Cert.AdamSmallKernelIdeal.main_arg29)
          ∧ r.2.mem ((c.tc : Thread Cert.AdamSmallKernelIdeal.nD Cert.AdamSmallKernelIdeal.τ).loc Cert.AdamSmallKernelIdeal.main_arg30) = m ((c.tc : Thread Cert.AdamSmallKernelIdeal.nD Cert.AdamSmallKernelIdeal.τ).loc Cert.AdamSmallKernelIdeal.main_arg30)
          ∧ r.2.mem ((c.tc : Thread Cert.AdamSmallKernelIdeal.nD Cert.AdamSmallKernelIdeal.τ).loc Cert.AdamSmallKernelIdeal.main_arg31) = m ((c.tc : Thread Cert.AdamSmallKernelIdeal.nD Cert.AdamSmallKernelIdeal.τ).loc Cert.AdamSmallKernelIdeal.main_arg31))
      ∧ θ_run (Cert.AdamSmallReferenceIdeal.defs (F := Ideal)) (onTc (τ := Cert.AdamSmallReferenceIdeal.τ) (Cert.AdamSmallReferenceIdeal.main (F := Ideal))) ⟨m', fun _ => 0, g'⟩ (fun r => ∀ c : Dev Cert.AdamSmallReferenceIdeal.nD,
          r.2.mem ((c.tc : Thread Cert.AdamSmallReferenceIdeal.nD Cert.AdamSmallReferenceIdeal.τ).loc Cert.AdamSmallReferenceIdeal.main_v23) = v0 c
          ∧ r.2.mem ((c.tc : Thread Cert.AdamSmallReferenceIdeal.nD Cert.AdamSmallReferenceIdeal.τ).loc Cert.AdamSmallReferenceIdeal.main_v47) = v1 c
          ∧ r.2.mem ((c.tc : Thread Cert.AdamSmallReferenceIdeal.nD Cert.AdamSmallReferenceIdeal.τ).loc Cert.AdamSmallReferenceIdeal.main_v71) = v2 c
          ∧ r.2.mem ((c.tc : Thread Cert.AdamSmallReferenceIdeal.nD Cert.AdamSmallReferenceIdeal.τ).loc Cert.AdamSmallReferenceIdeal.main_v95) = v3 c
          ∧ r.2.mem ((c.tc : Thread Cert.AdamSmallReferenceIdeal.nD Cert.AdamSmallReferenceIdeal.τ).loc Cert.AdamSmallReferenceIdeal.main_v119) = v4 c
          ∧ r.2.mem ((c.tc : Thread Cert.AdamSmallReferenceIdeal.nD Cert.AdamSmallReferenceIdeal.τ).loc Cert.AdamSmallReferenceIdeal.main_v143) = v5 c
          ∧ r.2.mem ((c.tc : Thread Cert.AdamSmallReferenceIdeal.nD Cert.AdamSmallReferenceIdeal.τ).loc Cert.AdamSmallReferenceIdeal.main_v167) = v6 c
          ∧ r.2.mem ((c.tc : Thread Cert.AdamSmallReferenceIdeal.nD Cert.AdamSmallReferenceIdeal.τ).loc Cert.AdamSmallReferenceIdeal.main_v191) = v7 c
          ∧ r.2.mem ((c.tc : Thread Cert.AdamSmallReferenceIdeal.nD Cert.AdamSmallReferenceIdeal.τ).loc Cert.AdamSmallReferenceIdeal.main_v4) = v8 c
          ∧ r.2.mem ((c.tc : Thread Cert.AdamSmallReferenceIdeal.nD Cert.AdamSmallReferenceIdeal.τ).loc Cert.AdamSmallReferenceIdeal.main_v28) = v9 c
          ∧ r.2.mem ((c.tc : Thread Cert.AdamSmallReferenceIdeal.nD Cert.AdamSmallReferenceIdeal.τ).loc Cert.AdamSmallReferenceIdeal.main_v52) = v10 c
          ∧ r.2.mem ((c.tc : Thread Cert.AdamSmallReferenceIdeal.nD Cert.AdamSmallReferenceIdeal.τ).loc Cert.AdamSmallReferenceIdeal.main_v76) = v11 c
          ∧ r.2.mem ((c.tc : Thread Cert.AdamSmallReferenceIdeal.nD Cert.AdamSmallReferenceIdeal.τ).loc Cert.AdamSmallReferenceIdeal.main_v100) = v12 c
          ∧ r.2.mem ((c.tc : Thread Cert.AdamSmallReferenceIdeal.nD Cert.AdamSmallReferenceIdeal.τ).loc Cert.AdamSmallReferenceIdeal.main_v124) = v13 c
          ∧ r.2.mem ((c.tc : Thread Cert.AdamSmallReferenceIdeal.nD Cert.AdamSmallReferenceIdeal.τ).loc Cert.AdamSmallReferenceIdeal.main_v148) = v14 c
          ∧ r.2.mem ((c.tc : Thread Cert.AdamSmallReferenceIdeal.nD Cert.AdamSmallReferenceIdeal.τ).loc Cert.AdamSmallReferenceIdeal.main_v172) = v15 c
          ∧ r.2.mem ((c.tc : Thread Cert.AdamSmallReferenceIdeal.nD Cert.AdamSmallReferenceIdeal.τ).loc Cert.AdamSmallReferenceIdeal.main_v10) = v16 c
          ∧ r.2.mem ((c.tc : Thread Cert.AdamSmallReferenceIdeal.nD Cert.AdamSmallReferenceIdeal.τ).loc Cert.AdamSmallReferenceIdeal.main_v34) = v17 c
          ∧ r.2.mem ((c.tc : Thread Cert.AdamSmallReferenceIdeal.nD Cert.AdamSmallReferenceIdeal.τ).loc Cert.AdamSmallReferenceIdeal.main_v58) = v18 c
          ∧ r.2.mem ((c.tc : Thread Cert.AdamSmallReferenceIdeal.nD Cert.AdamSmallReferenceIdeal.τ).loc Cert.AdamSmallReferenceIdeal.main_v82) = v19 c
          ∧ r.2.mem ((c.tc : Thread Cert.AdamSmallReferenceIdeal.nD Cert.AdamSmallReferenceIdeal.τ).loc Cert.AdamSmallReferenceIdeal.main_v106) = v20 c
          ∧ r.2.mem ((c.tc : Thread Cert.AdamSmallReferenceIdeal.nD Cert.AdamSmallReferenceIdeal.τ).loc Cert.AdamSmallReferenceIdeal.main_v130) = v21 c
          ∧ r.2.mem ((c.tc : Thread Cert.AdamSmallReferenceIdeal.nD Cert.AdamSmallReferenceIdeal.τ).loc Cert.AdamSmallReferenceIdeal.main_v154) = v22 c
          ∧ r.2.mem ((c.tc : Thread Cert.AdamSmallReferenceIdeal.nD Cert.AdamSmallReferenceIdeal.τ).loc Cert.AdamSmallReferenceIdeal.main_v178) = v23 c
          ∧ r.2.mem ((c.tc : Thread Cert.AdamSmallReferenceIdeal.nD Cert.AdamSmallReferenceIdeal.τ).loc Cert.AdamSmallReferenceIdeal.main_arg0) = m' ((c.tc : Thread Cert.AdamSmallReferenceIdeal.nD Cert.AdamSmallReferenceIdeal.τ).loc Cert.AdamSmallReferenceIdeal.main_arg0)
          ∧ r.2.mem ((c.tc : Thread Cert.AdamSmallReferenceIdeal.nD Cert.AdamSmallReferenceIdeal.τ).loc Cert.AdamSmallReferenceIdeal.main_arg1) = m' ((c.tc : Thread Cert.AdamSmallReferenceIdeal.nD Cert.AdamSmallReferenceIdeal.τ).loc Cert.AdamSmallReferenceIdeal.main_arg1)
          ∧ r.2.mem ((c.tc : Thread Cert.AdamSmallReferenceIdeal.nD Cert.AdamSmallReferenceIdeal.τ).loc Cert.AdamSmallReferenceIdeal.main_arg2) = m' ((c.tc : Thread Cert.AdamSmallReferenceIdeal.nD Cert.AdamSmallReferenceIdeal.τ).loc Cert.AdamSmallReferenceIdeal.main_arg2)
          ∧ r.2.mem ((c.tc : Thread Cert.AdamSmallReferenceIdeal.nD Cert.AdamSmallReferenceIdeal.τ).loc Cert.AdamSmallReferenceIdeal.main_arg3) = m' ((c.tc : Thread Cert.AdamSmallReferenceIdeal.nD Cert.AdamSmallReferenceIdeal.τ).loc Cert.AdamSmallReferenceIdeal.main_arg3)
          ∧ r.2.mem ((c.tc : Thread Cert.AdamSmallReferenceIdeal.nD Cert.AdamSmallReferenceIdeal.τ).loc Cert.AdamSmallReferenceIdeal.main_arg4) = m' ((c.tc : Thread Cert.AdamSmallReferenceIdeal.nD Cert.AdamSmallReferenceIdeal.τ).loc Cert.AdamSmallReferenceIdeal.main_arg4)
          ∧ r.2.mem ((c.tc : Thread Cert.AdamSmallReferenceIdeal.nD Cert.AdamSmallReferenceIdeal.τ).loc Cert.AdamSmallReferenceIdeal.main_arg5) = m' ((c.tc : Thread Cert.AdamSmallReferenceIdeal.nD Cert.AdamSmallReferenceIdeal.τ).loc Cert.AdamSmallReferenceIdeal.main_arg5)
          ∧ r.2.mem ((c.tc : Thread Cert.AdamSmallReferenceIdeal.nD Cert.AdamSmallReferenceIdeal.τ).loc Cert.AdamSmallReferenceIdeal.main_arg6) = m' ((c.tc : Thread Cert.AdamSmallReferenceIdeal.nD Cert.AdamSmallReferenceIdeal.τ).loc Cert.AdamSmallReferenceIdeal.main_arg6)
          ∧ r.2.mem ((c.tc : Thread Cert.AdamSmallReferenceIdeal.nD Cert.AdamSmallReferenceIdeal.τ).loc Cert.AdamSmallReferenceIdeal.main_arg7) = m' ((c.tc : Thread Cert.AdamSmallReferenceIdeal.nD Cert.AdamSmallReferenceIdeal.τ).loc Cert.AdamSmallReferenceIdeal.main_arg7)
          ∧ r.2.mem ((c.tc : Thread Cert.AdamSmallReferenceIdeal.nD Cert.AdamSmallReferenceIdeal.τ).loc Cert.AdamSmallReferenceIdeal.main_arg8) = m' ((c.tc : Thread Cert.AdamSmallReferenceIdeal.nD Cert.AdamSmallReferenceIdeal.τ).loc Cert.AdamSmallReferenceIdeal.main_arg8)
          ∧ r.2.mem ((c.tc : Thread Cert.AdamSmallReferenceIdeal.nD Cert.AdamSmallReferenceIdeal.τ).loc Cert.AdamSmallReferenceIdeal.main_arg9) = m' ((c.tc : Thread Cert.AdamSmallReferenceIdeal.nD Cert.AdamSmallReferenceIdeal.τ).loc Cert.AdamSmallReferenceIdeal.main_arg9)
          ∧ r.2.mem ((c.tc : Thread Cert.AdamSmallReferenceIdeal.nD Cert.AdamSmallReferenceIdeal.τ).loc Cert.AdamSmallReferenceIdeal.main_arg10) = m' ((c.tc : Thread Cert.AdamSmallReferenceIdeal.nD Cert.AdamSmallReferenceIdeal.τ).loc Cert.AdamSmallReferenceIdeal.main_arg10)
          ∧ r.2.mem ((c.tc : Thread Cert.AdamSmallReferenceIdeal.nD Cert.AdamSmallReferenceIdeal.τ).loc Cert.AdamSmallReferenceIdeal.main_arg11) = m' ((c.tc : Thread Cert.AdamSmallReferenceIdeal.nD Cert.AdamSmallReferenceIdeal.τ).loc Cert.AdamSmallReferenceIdeal.main_arg11)
          ∧ r.2.mem ((c.tc : Thread Cert.AdamSmallReferenceIdeal.nD Cert.AdamSmallReferenceIdeal.τ).loc Cert.AdamSmallReferenceIdeal.main_arg12) = m' ((c.tc : Thread Cert.AdamSmallReferenceIdeal.nD Cert.AdamSmallReferenceIdeal.τ).loc Cert.AdamSmallReferenceIdeal.main_arg12)
          ∧ r.2.mem ((c.tc : Thread Cert.AdamSmallReferenceIdeal.nD Cert.AdamSmallReferenceIdeal.τ).loc Cert.AdamSmallReferenceIdeal.main_arg13) = m' ((c.tc : Thread Cert.AdamSmallReferenceIdeal.nD Cert.AdamSmallReferenceIdeal.τ).loc Cert.AdamSmallReferenceIdeal.main_arg13)
          ∧ r.2.mem ((c.tc : Thread Cert.AdamSmallReferenceIdeal.nD Cert.AdamSmallReferenceIdeal.τ).loc Cert.AdamSmallReferenceIdeal.main_arg14) = m' ((c.tc : Thread Cert.AdamSmallReferenceIdeal.nD Cert.AdamSmallReferenceIdeal.τ).loc Cert.AdamSmallReferenceIdeal.main_arg14)
          ∧ r.2.mem ((c.tc : Thread Cert.AdamSmallReferenceIdeal.nD Cert.AdamSmallReferenceIdeal.τ).loc Cert.AdamSmallReferenceIdeal.main_arg15) = m' ((c.tc : Thread Cert.AdamSmallReferenceIdeal.nD Cert.AdamSmallReferenceIdeal.τ).loc Cert.AdamSmallReferenceIdeal.main_arg15)
          ∧ r.2.mem ((c.tc : Thread Cert.AdamSmallReferenceIdeal.nD Cert.AdamSmallReferenceIdeal.τ).loc Cert.AdamSmallReferenceIdeal.main_arg16) = m' ((c.tc : Thread Cert.AdamSmallReferenceIdeal.nD Cert.AdamSmallReferenceIdeal.τ).loc Cert.AdamSmallReferenceIdeal.main_arg16)
          ∧ r.2.mem ((c.tc : Thread Cert.AdamSmallReferenceIdeal.nD Cert.AdamSmallReferenceIdeal.τ).loc Cert.AdamSmallReferenceIdeal.main_arg17) = m' ((c.tc : Thread Cert.AdamSmallReferenceIdeal.nD Cert.AdamSmallReferenceIdeal.τ).loc Cert.AdamSmallReferenceIdeal.main_arg17)
          ∧ r.2.mem ((c.tc : Thread Cert.AdamSmallReferenceIdeal.nD Cert.AdamSmallReferenceIdeal.τ).loc Cert.AdamSmallReferenceIdeal.main_arg18) = m' ((c.tc : Thread Cert.AdamSmallReferenceIdeal.nD Cert.AdamSmallReferenceIdeal.τ).loc Cert.AdamSmallReferenceIdeal.main_arg18)
          ∧ r.2.mem ((c.tc : Thread Cert.AdamSmallReferenceIdeal.nD Cert.AdamSmallReferenceIdeal.τ).loc Cert.AdamSmallReferenceIdeal.main_arg19) = m' ((c.tc : Thread Cert.AdamSmallReferenceIdeal.nD Cert.AdamSmallReferenceIdeal.τ).loc Cert.AdamSmallReferenceIdeal.main_arg19)
          ∧ r.2.mem ((c.tc : Thread Cert.AdamSmallReferenceIdeal.nD Cert.AdamSmallReferenceIdeal.τ).loc Cert.AdamSmallReferenceIdeal.main_arg20) = m' ((c.tc : Thread Cert.AdamSmallReferenceIdeal.nD Cert.AdamSmallReferenceIdeal.τ).loc Cert.AdamSmallReferenceIdeal.main_arg20)
          ∧ r.2.mem ((c.tc : Thread Cert.AdamSmallReferenceIdeal.nD Cert.AdamSmallReferenceIdeal.τ).loc Cert.AdamSmallReferenceIdeal.main_arg21) = m' ((c.tc : Thread Cert.AdamSmallReferenceIdeal.nD Cert.AdamSmallReferenceIdeal.τ).loc Cert.AdamSmallReferenceIdeal.main_arg21)
          ∧ r.2.mem ((c.tc : Thread Cert.AdamSmallReferenceIdeal.nD Cert.AdamSmallReferenceIdeal.τ).loc Cert.AdamSmallReferenceIdeal.main_arg22) = m' ((c.tc : Thread Cert.AdamSmallReferenceIdeal.nD Cert.AdamSmallReferenceIdeal.τ).loc Cert.AdamSmallReferenceIdeal.main_arg22)
          ∧ r.2.mem ((c.tc : Thread Cert.AdamSmallReferenceIdeal.nD Cert.AdamSmallReferenceIdeal.τ).loc Cert.AdamSmallReferenceIdeal.main_arg23) = m' ((c.tc : Thread Cert.AdamSmallReferenceIdeal.nD Cert.AdamSmallReferenceIdeal.τ).loc Cert.AdamSmallReferenceIdeal.main_arg23)
          ∧ r.2.mem ((c.tc : Thread Cert.AdamSmallReferenceIdeal.nD Cert.AdamSmallReferenceIdeal.τ).loc Cert.AdamSmallReferenceIdeal.main_arg24) = m' ((c.tc : Thread Cert.AdamSmallReferenceIdeal.nD Cert.AdamSmallReferenceIdeal.τ).loc Cert.AdamSmallReferenceIdeal.main_arg24)
          ∧ r.2.mem ((c.tc : Thread Cert.AdamSmallReferenceIdeal.nD Cert.AdamSmallReferenceIdeal.τ).loc Cert.AdamSmallReferenceIdeal.main_arg25) = m' ((c.tc : Thread Cert.AdamSmallReferenceIdeal.nD Cert.AdamSmallReferenceIdeal.τ).loc Cert.AdamSmallReferenceIdeal.main_arg25)
          ∧ r.2.mem ((c.tc : Thread Cert.AdamSmallReferenceIdeal.nD Cert.AdamSmallReferenceIdeal.τ).loc Cert.AdamSmallReferenceIdeal.main_arg26) = m' ((c.tc : Thread Cert.AdamSmallReferenceIdeal.nD Cert.AdamSmallReferenceIdeal.τ).loc Cert.AdamSmallReferenceIdeal.main_arg26)
          ∧ r.2.mem ((c.tc : Thread Cert.AdamSmallReferenceIdeal.nD Cert.AdamSmallReferenceIdeal.τ).loc Cert.AdamSmallReferenceIdeal.main_arg27) = m' ((c.tc : Thread Cert.AdamSmallReferenceIdeal.nD Cert.AdamSmallReferenceIdeal.τ).loc Cert.AdamSmallReferenceIdeal.main_arg27)
          ∧ r.2.mem ((c.tc : Thread Cert.AdamSmallReferenceIdeal.nD Cert.AdamSmallReferenceIdeal.τ).loc Cert.AdamSmallReferenceIdeal.main_arg28) = m' ((c.tc : Thread Cert.AdamSmallReferenceIdeal.nD Cert.AdamSmallReferenceIdeal.τ).loc Cert.AdamSmallReferenceIdeal.main_arg28)
          ∧ r.2.mem ((c.tc : Thread Cert.AdamSmallReferenceIdeal.nD Cert.AdamSmallReferenceIdeal.τ).loc Cert.AdamSmallReferenceIdeal.main_arg29) = m' ((c.tc : Thread Cert.AdamSmallReferenceIdeal.nD Cert.AdamSmallReferenceIdeal.τ).loc Cert.AdamSmallReferenceIdeal.main_arg29)
          ∧ r.2.mem ((c.tc : Thread Cert.AdamSmallReferenceIdeal.nD Cert.AdamSmallReferenceIdeal.τ).loc Cert.AdamSmallReferenceIdeal.main_arg30) = m' ((c.tc : Thread Cert.AdamSmallReferenceIdeal.nD Cert.AdamSmallReferenceIdeal.τ).loc Cert.AdamSmallReferenceIdeal.main_arg30)
          ∧ r.2.mem ((c.tc : Thread Cert.AdamSmallReferenceIdeal.nD Cert.AdamSmallReferenceIdeal.τ).loc Cert.AdamSmallReferenceIdeal.main_arg31) = m' ((c.tc : Thread Cert.AdamSmallReferenceIdeal.nD Cert.AdamSmallReferenceIdeal.τ).loc Cert.AdamSmallReferenceIdeal.main_arg31))

def preserves_FirstNormKernel_FirstNormKernelIdeal : Prop :=
  True

def algebraic_FirstNormKernelIdeal_FirstNormReferenceIdeal [hFirstNormKernelIdeal : Cert.FirstNormKernelIdeal.Facts] [hFirstNormReferenceIdeal : Cert.FirstNormReferenceIdeal.Facts] : Prop :=
  ∀ (m : (ℓ : Loc Cert.FirstNormKernelIdeal.nD Cert.FirstNormKernelIdeal.τ Cert.FirstNormKernelIdeal.sig) → Buf (Elt Ideal) ℓ) (g : Dev Cert.FirstNormKernelIdeal.nD → PrngReg)
    (m' : (ℓ : Loc Cert.FirstNormReferenceIdeal.nD Cert.FirstNormReferenceIdeal.τ Cert.FirstNormReferenceIdeal.sig) → Buf (Elt Ideal) ℓ) (g' : Dev Cert.FirstNormReferenceIdeal.nD → PrngReg), Pre_FirstNormKernelIdeal m →
    (∀ c : Dev Cert.FirstNormKernelIdeal.nD,
      m' ((c.tc : Thread Cert.FirstNormReferenceIdeal.nD Cert.FirstNormReferenceIdeal.τ).loc Cert.FirstNormReferenceIdeal.main_arg0) = m ((c.tc : Thread Cert.FirstNormKernelIdeal.nD Cert.FirstNormKernelIdeal.τ).loc Cert.FirstNormKernelIdeal.main_arg0)
      ∧ m' ((c.tc : Thread Cert.FirstNormReferenceIdeal.nD Cert.FirstNormReferenceIdeal.τ).loc Cert.FirstNormReferenceIdeal.main_arg1) = m ((c.tc : Thread Cert.FirstNormKernelIdeal.nD Cert.FirstNormKernelIdeal.τ).loc Cert.FirstNormKernelIdeal.main_arg1)) →
    ∃ (v0 : (c : Dev Cert.FirstNormKernelIdeal.nD) → Buf (Elt Ideal) ((c.tc : Thread Cert.FirstNormKernelIdeal.nD Cert.FirstNormKernelIdeal.τ).loc Cert.FirstNormKernelIdeal.main_v1)),
      θ_run (Cert.FirstNormKernelIdeal.defs (F := Ideal)) (onTc (τ := Cert.FirstNormKernelIdeal.τ) (Cert.FirstNormKernelIdeal.main (F := Ideal))) ⟨m, fun _ => 0, g⟩ (fun r => ∀ c : Dev Cert.FirstNormKernelIdeal.nD,
          r.2.mem ((c.tc : Thread Cert.FirstNormKernelIdeal.nD Cert.FirstNormKernelIdeal.τ).loc Cert.FirstNormKernelIdeal.main_v1) = v0 c
          ∧ r.2.mem ((c.tc : Thread Cert.FirstNormKernelIdeal.nD Cert.FirstNormKernelIdeal.τ).loc Cert.FirstNormKernelIdeal.main_arg0) = m ((c.tc : Thread Cert.FirstNormKernelIdeal.nD Cert.FirstNormKernelIdeal.τ).loc Cert.FirstNormKernelIdeal.main_arg0)
          ∧ r.2.mem ((c.tc : Thread Cert.FirstNormKernelIdeal.nD Cert.FirstNormKernelIdeal.τ).loc Cert.FirstNormKernelIdeal.main_arg1) = m ((c.tc : Thread Cert.FirstNormKernelIdeal.nD Cert.FirstNormKernelIdeal.τ).loc Cert.FirstNormKernelIdeal.main_arg1))
      ∧ θ_run (Cert.FirstNormReferenceIdeal.defs (F := Ideal)) (onTc (τ := Cert.FirstNormReferenceIdeal.τ) (Cert.FirstNormReferenceIdeal.main (F := Ideal))) ⟨m', fun _ => 0, g'⟩ (fun r => ∀ c : Dev Cert.FirstNormReferenceIdeal.nD,
          r.2.mem ((c.tc : Thread Cert.FirstNormReferenceIdeal.nD Cert.FirstNormReferenceIdeal.τ).loc Cert.FirstNormReferenceIdeal.main_v13) = v0 c
          ∧ r.2.mem ((c.tc : Thread Cert.FirstNormReferenceIdeal.nD Cert.FirstNormReferenceIdeal.τ).loc Cert.FirstNormReferenceIdeal.main_arg0) = m' ((c.tc : Thread Cert.FirstNormReferenceIdeal.nD Cert.FirstNormReferenceIdeal.τ).loc Cert.FirstNormReferenceIdeal.main_arg0)
          ∧ r.2.mem ((c.tc : Thread Cert.FirstNormReferenceIdeal.nD Cert.FirstNormReferenceIdeal.τ).loc Cert.FirstNormReferenceIdeal.main_arg1) = m' ((c.tc : Thread Cert.FirstNormReferenceIdeal.nD Cert.FirstNormReferenceIdeal.τ).loc Cert.FirstNormReferenceIdeal.main_arg1))

def preserves_ShortConvKernel_ShortConvKernelIdeal : Prop :=
  True

def algebraic_ShortConvKernelIdeal_ShortConvReferenceIdeal [hShortConvKernelIdeal : Cert.ShortConvKernelIdeal.Facts] [hShortConvReferenceIdeal : Cert.ShortConvReferenceIdeal.Facts] : Prop :=
  ∀ (m : (ℓ : Loc Cert.ShortConvKernelIdeal.nD Cert.ShortConvKernelIdeal.τ Cert.ShortConvKernelIdeal.sig) → Buf (Elt Ideal) ℓ) (g : Dev Cert.ShortConvKernelIdeal.nD → PrngReg)
    (m' : (ℓ : Loc Cert.ShortConvReferenceIdeal.nD Cert.ShortConvReferenceIdeal.τ Cert.ShortConvReferenceIdeal.sig) → Buf (Elt Ideal) ℓ) (g' : Dev Cert.ShortConvReferenceIdeal.nD → PrngReg), Pre_ShortConvKernelIdeal m →
    (∀ c : Dev Cert.ShortConvKernelIdeal.nD,
      m' ((c.tc : Thread Cert.ShortConvReferenceIdeal.nD Cert.ShortConvReferenceIdeal.τ).loc Cert.ShortConvReferenceIdeal.main_arg0) = m ((c.tc : Thread Cert.ShortConvKernelIdeal.nD Cert.ShortConvKernelIdeal.τ).loc Cert.ShortConvKernelIdeal.main_arg0)
      ∧ m' ((c.tc : Thread Cert.ShortConvReferenceIdeal.nD Cert.ShortConvReferenceIdeal.τ).loc Cert.ShortConvReferenceIdeal.main_arg1) = m ((c.tc : Thread Cert.ShortConvKernelIdeal.nD Cert.ShortConvKernelIdeal.τ).loc Cert.ShortConvKernelIdeal.main_arg1)
      ∧ m' ((c.tc : Thread Cert.ShortConvReferenceIdeal.nD Cert.ShortConvReferenceIdeal.τ).loc Cert.ShortConvReferenceIdeal.main_arg2) = m ((c.tc : Thread Cert.ShortConvKernelIdeal.nD Cert.ShortConvKernelIdeal.τ).loc Cert.ShortConvKernelIdeal.main_arg2)) →
    ∃ (v0 : (c : Dev Cert.ShortConvKernelIdeal.nD) → Buf (Elt Ideal) ((c.tc : Thread Cert.ShortConvKernelIdeal.nD Cert.ShortConvKernelIdeal.τ).loc Cert.ShortConvKernelIdeal.main_v1)),
      θ_run (Cert.ShortConvKernelIdeal.defs (F := Ideal)) (onTc (τ := Cert.ShortConvKernelIdeal.τ) (Cert.ShortConvKernelIdeal.main (F := Ideal))) ⟨m, fun _ => 0, g⟩ (fun r => ∀ c : Dev Cert.ShortConvKernelIdeal.nD,
          r.2.mem ((c.tc : Thread Cert.ShortConvKernelIdeal.nD Cert.ShortConvKernelIdeal.τ).loc Cert.ShortConvKernelIdeal.main_v1) = v0 c
          ∧ r.2.mem ((c.tc : Thread Cert.ShortConvKernelIdeal.nD Cert.ShortConvKernelIdeal.τ).loc Cert.ShortConvKernelIdeal.main_arg0) = m ((c.tc : Thread Cert.ShortConvKernelIdeal.nD Cert.ShortConvKernelIdeal.τ).loc Cert.ShortConvKernelIdeal.main_arg0)
          ∧ r.2.mem ((c.tc : Thread Cert.ShortConvKernelIdeal.nD Cert.ShortConvKernelIdeal.τ).loc Cert.ShortConvKernelIdeal.main_arg1) = m ((c.tc : Thread Cert.ShortConvKernelIdeal.nD Cert.ShortConvKernelIdeal.τ).loc Cert.ShortConvKernelIdeal.main_arg1)
          ∧ r.2.mem ((c.tc : Thread Cert.ShortConvKernelIdeal.nD Cert.ShortConvKernelIdeal.τ).loc Cert.ShortConvKernelIdeal.main_arg2) = m ((c.tc : Thread Cert.ShortConvKernelIdeal.nD Cert.ShortConvKernelIdeal.τ).loc Cert.ShortConvKernelIdeal.main_arg2))
      ∧ θ_run (Cert.ShortConvReferenceIdeal.defs (F := Ideal)) (onTc (τ := Cert.ShortConvReferenceIdeal.τ) (Cert.ShortConvReferenceIdeal.main (F := Ideal))) ⟨m', fun _ => 0, g'⟩ (fun r => ∀ c : Dev Cert.ShortConvReferenceIdeal.nD,
          r.2.mem ((c.tc : Thread Cert.ShortConvReferenceIdeal.nD Cert.ShortConvReferenceIdeal.τ).loc Cert.ShortConvReferenceIdeal.main_v35) = v0 c
          ∧ r.2.mem ((c.tc : Thread Cert.ShortConvReferenceIdeal.nD Cert.ShortConvReferenceIdeal.τ).loc Cert.ShortConvReferenceIdeal.main_arg0) = m' ((c.tc : Thread Cert.ShortConvReferenceIdeal.nD Cert.ShortConvReferenceIdeal.τ).loc Cert.ShortConvReferenceIdeal.main_arg0)
          ∧ r.2.mem ((c.tc : Thread Cert.ShortConvReferenceIdeal.nD Cert.ShortConvReferenceIdeal.τ).loc Cert.ShortConvReferenceIdeal.main_arg1) = m' ((c.tc : Thread Cert.ShortConvReferenceIdeal.nD Cert.ShortConvReferenceIdeal.τ).loc Cert.ShortConvReferenceIdeal.main_arg1)
          ∧ r.2.mem ((c.tc : Thread Cert.ShortConvReferenceIdeal.nD Cert.ShortConvReferenceIdeal.τ).loc Cert.ShortConvReferenceIdeal.main_arg2) = m' ((c.tc : Thread Cert.ShortConvReferenceIdeal.nD Cert.ShortConvReferenceIdeal.τ).loc Cert.ShortConvReferenceIdeal.main_arg2))

def preserves_LossKernel_LossKernelIdeal : Prop :=
  True

def algebraic_LossKernelIdeal_LossReferenceIdeal [hLossKernelIdeal : Cert.LossKernelIdeal.Facts] [hLossReferenceIdeal : Cert.LossReferenceIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)) →
    ∃ (v0 : (c : Dev Cert.LossKernelIdeal.nD) → Buf (Elt Ideal) ((c.tc : Thread Cert.LossKernelIdeal.nD Cert.LossKernelIdeal.τ).loc Cert.LossKernelIdeal.main_v0)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v0) = v0 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v2) = v0 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0))

def Claim : Prop :=
  ∃ (hConvKernel : Cert.ConvKernel.Facts) (hConvKernelIdeal : Cert.ConvKernelIdeal.Facts) (hConvReferenceIdeal : Cert.ConvReferenceIdeal.Facts) (hNormOneKernel : Cert.NormOneKernel.Facts) (hNormOneKernelIdeal : Cert.NormOneKernelIdeal.Facts) (hNormOneReferenceIdeal : Cert.NormOneReferenceIdeal.Facts) (hNormTwoKernel : Cert.NormTwoKernel.Facts) (hNormTwoKernelIdeal : Cert.NormTwoKernelIdeal.Facts) (hNormTwoReferenceIdeal : Cert.NormTwoReferenceIdeal.Facts) (hActKernel : Cert.ActKernel.Facts) (hActKernelIdeal : Cert.ActKernelIdeal.Facts) (hActReferenceIdeal : Cert.ActReferenceIdeal.Facts) (hWInKernel : Cert.WInKernel.Facts) (hWInKernelIdeal : Cert.WInKernelIdeal.Facts) (hWInReferenceIdeal : Cert.WInReferenceIdeal.Facts) (hWUpKernel : Cert.WUpKernel.Facts) (hWUpKernelIdeal : Cert.WUpKernelIdeal.Facts) (hWUpReferenceIdeal : Cert.WUpReferenceIdeal.Facts) (hWDownKernel : Cert.WDownKernel.Facts) (hWDownKernelIdeal : Cert.WDownKernelIdeal.Facts) (hWDownReferenceIdeal : Cert.WDownReferenceIdeal.Facts) (hWGateKernel : Cert.WGateKernel.Facts) (hWGateKernelIdeal : Cert.WGateKernelIdeal.Facts) (hWGateReferenceIdeal : Cert.WGateReferenceIdeal.Facts) (hWOutKernel : Cert.WOutKernel.Facts) (hWOutKernelIdeal : Cert.WOutKernelIdeal.Facts) (hWOutReferenceIdeal : Cert.WOutReferenceIdeal.Facts) (hBranchKernel : Cert.BranchKernel.Facts) (hBranchKernelIdeal : Cert.BranchKernelIdeal.Facts) (hBranchReferenceIdeal : Cert.BranchReferenceIdeal.Facts) (hMergeKernel : Cert.MergeKernel.Facts) (hMergeKernelIdeal : Cert.MergeKernelIdeal.Facts) (hMergeReferenceIdeal : Cert.MergeReferenceIdeal.Facts) (hUpKernel : Cert.UpKernel.Facts) (hUpKernelIdeal : Cert.UpKernelIdeal.Facts) (hUpReferenceIdeal : Cert.UpReferenceIdeal.Facts) (hDownKernel : Cert.DownKernel.Facts) (hDownKernelIdeal : Cert.DownKernelIdeal.Facts) (hDownReferenceIdeal : Cert.DownReferenceIdeal.Facts) (hConvInKernel : Cert.ConvInKernel.Facts) (hConvInKernelIdeal : Cert.ConvInKernelIdeal.Facts) (hConvInReferenceIdeal : Cert.ConvInReferenceIdeal.Facts) (hVProjKernel : Cert.VProjKernel.Facts) (hVProjKernelIdeal : Cert.VProjKernelIdeal.Facts) (hVProjReferenceIdeal : Cert.VProjReferenceIdeal.Facts) (hGatesKernel : Cert.GatesKernel.Facts) (hGatesKernelIdeal : Cert.GatesKernelIdeal.Facts) (hGatesReferenceIdeal : Cert.GatesReferenceIdeal.Facts) (hMixedKernel : Cert.MixedKernel.Facts) (hMixedKernelIdeal : Cert.MixedKernelIdeal.Facts) (hMixedReferenceIdeal : Cert.MixedReferenceIdeal.Facts) (hMergedKernel : Cert.MergedKernel.Facts) (hMergedKernelIdeal : Cert.MergedKernelIdeal.Facts) (hMergedReferenceIdeal : Cert.MergedReferenceIdeal.Facts) (hResidualKernel : Cert.ResidualKernel.Facts) (hResidualKernelIdeal : Cert.ResidualKernelIdeal.Facts) (hResidualReferenceIdeal : Cert.ResidualReferenceIdeal.Facts) (hAdamInKernel : Cert.AdamInKernel.Facts) (hAdamInKernelIdeal : Cert.AdamInKernelIdeal.Facts) (hAdamInReferenceIdeal : Cert.AdamInReferenceIdeal.Facts) (hAdamGateKernel : Cert.AdamGateKernel.Facts) (hAdamGateKernelIdeal : Cert.AdamGateKernelIdeal.Facts) (hAdamGateReferenceIdeal : Cert.AdamGateReferenceIdeal.Facts) (hAdamMlpKernel : Cert.AdamMlpKernel.Facts) (hAdamMlpKernelIdeal : Cert.AdamMlpKernelIdeal.Facts) (hAdamMlpReferenceIdeal : Cert.AdamMlpReferenceIdeal.Facts) (hAdamSquareKernel : Cert.AdamSquareKernel.Facts) (hAdamSquareKernelIdeal : Cert.AdamSquareKernelIdeal.Facts) (hAdamSquareReferenceIdeal : Cert.AdamSquareReferenceIdeal.Facts) (hAdamSmallKernel : Cert.AdamSmallKernel.Facts) (hAdamSmallKernelIdeal : Cert.AdamSmallKernelIdeal.Facts) (hAdamSmallReferenceIdeal : Cert.AdamSmallReferenceIdeal.Facts) (hFirstNormKernel : Cert.FirstNormKernel.Facts) (hFirstNormKernelIdeal : Cert.FirstNormKernelIdeal.Facts) (hFirstNormReferenceIdeal : Cert.FirstNormReferenceIdeal.Facts) (hShortConvKernel : Cert.ShortConvKernel.Facts) (hShortConvKernelIdeal : Cert.ShortConvKernelIdeal.Facts) (hShortConvReferenceIdeal : Cert.ShortConvReferenceIdeal.Facts) (hLossKernel : Cert.LossKernel.Facts) (hLossKernelIdeal : Cert.LossKernelIdeal.Facts) (hLossReferenceIdeal : Cert.LossReferenceIdeal.Facts),
    quiescent_ConvKernel (hConvKernel := hConvKernel)
    ∧ quiescent_ConvKernelIdeal (hConvKernelIdeal := hConvKernelIdeal)
    ∧ quiescent_ConvReferenceIdeal (hConvReferenceIdeal := hConvReferenceIdeal)
    ∧ quiescent_NormOneKernel (hNormOneKernel := hNormOneKernel)
    ∧ quiescent_NormOneKernelIdeal (hNormOneKernelIdeal := hNormOneKernelIdeal)
    ∧ quiescent_NormOneReferenceIdeal (hNormOneReferenceIdeal := hNormOneReferenceIdeal)
    ∧ quiescent_NormTwoKernel (hNormTwoKernel := hNormTwoKernel)
    ∧ quiescent_NormTwoKernelIdeal (hNormTwoKernelIdeal := hNormTwoKernelIdeal)
    ∧ quiescent_NormTwoReferenceIdeal (hNormTwoReferenceIdeal := hNormTwoReferenceIdeal)
    ∧ quiescent_ActKernel (hActKernel := hActKernel)
    ∧ quiescent_ActKernelIdeal (hActKernelIdeal := hActKernelIdeal)
    ∧ quiescent_ActReferenceIdeal (hActReferenceIdeal := hActReferenceIdeal)
    ∧ quiescent_WInKernel (hWInKernel := hWInKernel)
    ∧ quiescent_WInKernelIdeal (hWInKernelIdeal := hWInKernelIdeal)
    ∧ quiescent_WInReferenceIdeal (hWInReferenceIdeal := hWInReferenceIdeal)
    ∧ quiescent_WUpKernel (hWUpKernel := hWUpKernel)
    ∧ quiescent_WUpKernelIdeal (hWUpKernelIdeal := hWUpKernelIdeal)
    ∧ quiescent_WUpReferenceIdeal (hWUpReferenceIdeal := hWUpReferenceIdeal)
    ∧ quiescent_WDownKernel (hWDownKernel := hWDownKernel)
    ∧ quiescent_WDownKernelIdeal (hWDownKernelIdeal := hWDownKernelIdeal)
    ∧ quiescent_WDownReferenceIdeal (hWDownReferenceIdeal := hWDownReferenceIdeal)
    ∧ quiescent_WGateKernel (hWGateKernel := hWGateKernel)
    ∧ quiescent_WGateKernelIdeal (hWGateKernelIdeal := hWGateKernelIdeal)
    ∧ quiescent_WGateReferenceIdeal (hWGateReferenceIdeal := hWGateReferenceIdeal)
    ∧ quiescent_WOutKernel (hWOutKernel := hWOutKernel)
    ∧ quiescent_WOutKernelIdeal (hWOutKernelIdeal := hWOutKernelIdeal)
    ∧ quiescent_WOutReferenceIdeal (hWOutReferenceIdeal := hWOutReferenceIdeal)
    ∧ quiescent_BranchKernel (hBranchKernel := hBranchKernel)
    ∧ quiescent_BranchKernelIdeal (hBranchKernelIdeal := hBranchKernelIdeal)
    ∧ quiescent_BranchReferenceIdeal (hBranchReferenceIdeal := hBranchReferenceIdeal)
    ∧ quiescent_MergeKernel (hMergeKernel := hMergeKernel)
    ∧ quiescent_MergeKernelIdeal (hMergeKernelIdeal := hMergeKernelIdeal)
    ∧ quiescent_MergeReferenceIdeal (hMergeReferenceIdeal := hMergeReferenceIdeal)
    ∧ quiescent_UpKernel (hUpKernel := hUpKernel)
    ∧ quiescent_UpKernelIdeal (hUpKernelIdeal := hUpKernelIdeal)
    ∧ quiescent_UpReferenceIdeal (hUpReferenceIdeal := hUpReferenceIdeal)
    ∧ quiescent_DownKernel (hDownKernel := hDownKernel)
    ∧ quiescent_DownKernelIdeal (hDownKernelIdeal := hDownKernelIdeal)
    ∧ quiescent_DownReferenceIdeal (hDownReferenceIdeal := hDownReferenceIdeal)
    ∧ quiescent_ConvInKernel (hConvInKernel := hConvInKernel)
    ∧ quiescent_ConvInKernelIdeal (hConvInKernelIdeal := hConvInKernelIdeal)
    ∧ quiescent_ConvInReferenceIdeal (hConvInReferenceIdeal := hConvInReferenceIdeal)
    ∧ quiescent_VProjKernel (hVProjKernel := hVProjKernel)
    ∧ quiescent_VProjKernelIdeal (hVProjKernelIdeal := hVProjKernelIdeal)
    ∧ quiescent_VProjReferenceIdeal (hVProjReferenceIdeal := hVProjReferenceIdeal)
    ∧ quiescent_GatesKernel (hGatesKernel := hGatesKernel)
    ∧ quiescent_GatesKernelIdeal (hGatesKernelIdeal := hGatesKernelIdeal)
    ∧ quiescent_GatesReferenceIdeal (hGatesReferenceIdeal := hGatesReferenceIdeal)
    ∧ quiescent_MixedKernel (hMixedKernel := hMixedKernel)
    ∧ quiescent_MixedKernelIdeal (hMixedKernelIdeal := hMixedKernelIdeal)
    ∧ quiescent_MixedReferenceIdeal (hMixedReferenceIdeal := hMixedReferenceIdeal)
    ∧ quiescent_MergedKernel (hMergedKernel := hMergedKernel)
    ∧ quiescent_MergedKernelIdeal (hMergedKernelIdeal := hMergedKernelIdeal)
    ∧ quiescent_MergedReferenceIdeal (hMergedReferenceIdeal := hMergedReferenceIdeal)
    ∧ quiescent_ResidualKernel (hResidualKernel := hResidualKernel)
    ∧ quiescent_ResidualKernelIdeal (hResidualKernelIdeal := hResidualKernelIdeal)
    ∧ quiescent_ResidualReferenceIdeal (hResidualReferenceIdeal := hResidualReferenceIdeal)
    ∧ quiescent_AdamInKernel (hAdamInKernel := hAdamInKernel)
    ∧ quiescent_AdamInKernelIdeal (hAdamInKernelIdeal := hAdamInKernelIdeal)
    ∧ quiescent_AdamInReferenceIdeal (hAdamInReferenceIdeal := hAdamInReferenceIdeal)
    ∧ quiescent_AdamGateKernel (hAdamGateKernel := hAdamGateKernel)
    ∧ quiescent_AdamGateKernelIdeal (hAdamGateKernelIdeal := hAdamGateKernelIdeal)
    ∧ quiescent_AdamGateReferenceIdeal (hAdamGateReferenceIdeal := hAdamGateReferenceIdeal)
    ∧ quiescent_AdamMlpKernel (hAdamMlpKernel := hAdamMlpKernel)
    ∧ quiescent_AdamMlpKernelIdeal (hAdamMlpKernelIdeal := hAdamMlpKernelIdeal)
    ∧ quiescent_AdamMlpReferenceIdeal (hAdamMlpReferenceIdeal := hAdamMlpReferenceIdeal)
    ∧ quiescent_AdamSquareKernel (hAdamSquareKernel := hAdamSquareKernel)
    ∧ quiescent_AdamSquareKernelIdeal (hAdamSquareKernelIdeal := hAdamSquareKernelIdeal)
    ∧ quiescent_AdamSquareReferenceIdeal (hAdamSquareReferenceIdeal := hAdamSquareReferenceIdeal)
    ∧ quiescent_AdamSmallKernel (hAdamSmallKernel := hAdamSmallKernel)
    ∧ quiescent_AdamSmallKernelIdeal (hAdamSmallKernelIdeal := hAdamSmallKernelIdeal)
    ∧ quiescent_AdamSmallReferenceIdeal (hAdamSmallReferenceIdeal := hAdamSmallReferenceIdeal)
    ∧ quiescent_FirstNormKernel (hFirstNormKernel := hFirstNormKernel)
    ∧ quiescent_FirstNormKernelIdeal (hFirstNormKernelIdeal := hFirstNormKernelIdeal)
    ∧ quiescent_FirstNormReferenceIdeal (hFirstNormReferenceIdeal := hFirstNormReferenceIdeal)
    ∧ quiescent_ShortConvKernel (hShortConvKernel := hShortConvKernel)
    ∧ quiescent_ShortConvKernelIdeal (hShortConvKernelIdeal := hShortConvKernelIdeal)
    ∧ quiescent_ShortConvReferenceIdeal (hShortConvReferenceIdeal := hShortConvReferenceIdeal)
    ∧ quiescent_LossKernel (hLossKernel := hLossKernel)
    ∧ quiescent_LossKernelIdeal (hLossKernelIdeal := hLossKernelIdeal)
    ∧ quiescent_LossReferenceIdeal (hLossReferenceIdeal := hLossReferenceIdeal)
    ∧ preserves_ConvKernel_ConvKernelIdeal
    ∧ algebraic_ConvKernelIdeal_ConvReferenceIdeal (hConvKernelIdeal := hConvKernelIdeal) (hConvReferenceIdeal := hConvReferenceIdeal)
    ∧ preserves_NormOneKernel_NormOneKernelIdeal
    ∧ algebraic_NormOneKernelIdeal_NormOneReferenceIdeal (hNormOneKernelIdeal := hNormOneKernelIdeal) (hNormOneReferenceIdeal := hNormOneReferenceIdeal)
    ∧ preserves_NormTwoKernel_NormTwoKernelIdeal
    ∧ algebraic_NormTwoKernelIdeal_NormTwoReferenceIdeal (hNormTwoKernelIdeal := hNormTwoKernelIdeal) (hNormTwoReferenceIdeal := hNormTwoReferenceIdeal)
    ∧ preserves_ActKernel_ActKernelIdeal
    ∧ algebraic_ActKernelIdeal_ActReferenceIdeal (hActKernelIdeal := hActKernelIdeal) (hActReferenceIdeal := hActReferenceIdeal)
    ∧ preserves_WInKernel_WInKernelIdeal
    ∧ algebraic_WInKernelIdeal_WInReferenceIdeal (hWInKernelIdeal := hWInKernelIdeal) (hWInReferenceIdeal := hWInReferenceIdeal)
    ∧ preserves_WUpKernel_WUpKernelIdeal
    ∧ algebraic_WUpKernelIdeal_WUpReferenceIdeal (hWUpKernelIdeal := hWUpKernelIdeal) (hWUpReferenceIdeal := hWUpReferenceIdeal)
    ∧ preserves_WDownKernel_WDownKernelIdeal
    ∧ algebraic_WDownKernelIdeal_WDownReferenceIdeal (hWDownKernelIdeal := hWDownKernelIdeal) (hWDownReferenceIdeal := hWDownReferenceIdeal)
    ∧ preserves_WGateKernel_WGateKernelIdeal
    ∧ algebraic_WGateKernelIdeal_WGateReferenceIdeal (hWGateKernelIdeal := hWGateKernelIdeal) (hWGateReferenceIdeal := hWGateReferenceIdeal)
    ∧ preserves_WOutKernel_WOutKernelIdeal
    ∧ algebraic_WOutKernelIdeal_WOutReferenceIdeal (hWOutKernelIdeal := hWOutKernelIdeal) (hWOutReferenceIdeal := hWOutReferenceIdeal)
    ∧ preserves_BranchKernel_BranchKernelIdeal
    ∧ algebraic_BranchKernelIdeal_BranchReferenceIdeal (hBranchKernelIdeal := hBranchKernelIdeal) (hBranchReferenceIdeal := hBranchReferenceIdeal)
    ∧ preserves_MergeKernel_MergeKernelIdeal
    ∧ algebraic_MergeKernelIdeal_MergeReferenceIdeal (hMergeKernelIdeal := hMergeKernelIdeal) (hMergeReferenceIdeal := hMergeReferenceIdeal)
    ∧ preserves_UpKernel_UpKernelIdeal
    ∧ algebraic_UpKernelIdeal_UpReferenceIdeal (hUpKernelIdeal := hUpKernelIdeal) (hUpReferenceIdeal := hUpReferenceIdeal)
    ∧ preserves_DownKernel_DownKernelIdeal
    ∧ algebraic_DownKernelIdeal_DownReferenceIdeal (hDownKernelIdeal := hDownKernelIdeal) (hDownReferenceIdeal := hDownReferenceIdeal)
    ∧ preserves_ConvInKernel_ConvInKernelIdeal
    ∧ algebraic_ConvInKernelIdeal_ConvInReferenceIdeal (hConvInKernelIdeal := hConvInKernelIdeal) (hConvInReferenceIdeal := hConvInReferenceIdeal)
    ∧ preserves_VProjKernel_VProjKernelIdeal
    ∧ algebraic_VProjKernelIdeal_VProjReferenceIdeal (hVProjKernelIdeal := hVProjKernelIdeal) (hVProjReferenceIdeal := hVProjReferenceIdeal)
    ∧ preserves_GatesKernel_GatesKernelIdeal
    ∧ algebraic_GatesKernelIdeal_GatesReferenceIdeal (hGatesKernelIdeal := hGatesKernelIdeal) (hGatesReferenceIdeal := hGatesReferenceIdeal)
    ∧ preserves_MixedKernel_MixedKernelIdeal
    ∧ algebraic_MixedKernelIdeal_MixedReferenceIdeal (hMixedKernelIdeal := hMixedKernelIdeal) (hMixedReferenceIdeal := hMixedReferenceIdeal)
    ∧ preserves_MergedKernel_MergedKernelIdeal
    ∧ algebraic_MergedKernelIdeal_MergedReferenceIdeal (hMergedKernelIdeal := hMergedKernelIdeal) (hMergedReferenceIdeal := hMergedReferenceIdeal)
    ∧ preserves_ResidualKernel_ResidualKernelIdeal
    ∧ algebraic_ResidualKernelIdeal_ResidualReferenceIdeal (hResidualKernelIdeal := hResidualKernelIdeal) (hResidualReferenceIdeal := hResidualReferenceIdeal)
    ∧ preserves_AdamInKernel_AdamInKernelIdeal
    ∧ algebraic_AdamInKernelIdeal_AdamInReferenceIdeal (hAdamInKernelIdeal := hAdamInKernelIdeal) (hAdamInReferenceIdeal := hAdamInReferenceIdeal)
    ∧ preserves_AdamGateKernel_AdamGateKernelIdeal
    ∧ algebraic_AdamGateKernelIdeal_AdamGateReferenceIdeal (hAdamGateKernelIdeal := hAdamGateKernelIdeal) (hAdamGateReferenceIdeal := hAdamGateReferenceIdeal)
    ∧ preserves_AdamMlpKernel_AdamMlpKernelIdeal
    ∧ algebraic_AdamMlpKernelIdeal_AdamMlpReferenceIdeal (hAdamMlpKernelIdeal := hAdamMlpKernelIdeal) (hAdamMlpReferenceIdeal := hAdamMlpReferenceIdeal)
    ∧ preserves_AdamSquareKernel_AdamSquareKernelIdeal
    ∧ algebraic_AdamSquareKernelIdeal_AdamSquareReferenceIdeal (hAdamSquareKernelIdeal := hAdamSquareKernelIdeal) (hAdamSquareReferenceIdeal := hAdamSquareReferenceIdeal)
    ∧ preserves_AdamSmallKernel_AdamSmallKernelIdeal
    ∧ algebraic_AdamSmallKernelIdeal_AdamSmallReferenceIdeal (hAdamSmallKernelIdeal := hAdamSmallKernelIdeal) (hAdamSmallReferenceIdeal := hAdamSmallReferenceIdeal)
    ∧ preserves_FirstNormKernel_FirstNormKernelIdeal
    ∧ algebraic_FirstNormKernelIdeal_FirstNormReferenceIdeal (hFirstNormKernelIdeal := hFirstNormKernelIdeal) (hFirstNormReferenceIdeal := hFirstNormReferenceIdeal)
    ∧ preserves_ShortConvKernel_ShortConvKernelIdeal
    ∧ algebraic_ShortConvKernelIdeal_ShortConvReferenceIdeal (hShortConvKernelIdeal := hShortConvKernelIdeal) (hShortConvReferenceIdeal := hShortConvReferenceIdeal)
    ∧ preserves_LossKernel_LossKernelIdeal
    ∧ algebraic_LossKernelIdeal_LossReferenceIdeal (hLossKernelIdeal := hLossKernelIdeal) (hLossReferenceIdeal := hLossReferenceIdeal)
-- ==== ConvKernel.lean ====
abbrev S6x4096x1024 : Shape := ⟨3, ![6, 4096, 1024]⟩
abbrev S4096x1024 : Shape := ⟨2, ![4096, 1024]⟩
abbrev S4096x3072 : Shape := ⟨2, ![4096, 3072]⟩
abbrev S3x1024 : Shape := ⟨2, ![3, 1024]⟩
abbrev S1024 : Shape := ⟨1, ![1024]⟩
abbrev S1x1024 : Shape := ⟨2, ![1, 1024]⟩
abbrev S8x1024 : Shape := ⟨2, ![8, 1024]⟩
abbrev S4096x128 : Shape := ⟨2, ![4096, 128]⟩
abbrev S3x128 : Shape := ⟨2, ![3, 128]⟩
abbrev S1x128 : Shape := ⟨2, ![1, 128]⟩
abbrev S3x4096x128 : Shape := ⟨3, ![3, 4096, 128]⟩
abbrev S8x128 : Shape := ⟨2, ![8, 128]⟩
abbrev S16x128 : Shape := ⟨2, ![16, 128]⟩
abbrev S512x128 : Shape := ⟨2, ![512, 128]⟩
abbrev S528x128 : Shape := ⟨2, ![528, 128]⟩
abbrev S1x512x128 : Shape := ⟨3, ![1, 512, 128]⟩
abbrev S128 : Shape := ⟨1, ![128]⟩

abbrev nBuf : Space → Nat
  | .hbm => 8
  | .vmem => 16
  | .smem => 0
  | _ => 0

abbrev bufTy : (tb : Table) → Fin (tcTables nBuf tb) → BufTy
  | .hbm, ⟨0, _⟩ => ⟨S6x4096x1024, .bf16⟩
  | .hbm, ⟨1, _⟩ => ⟨S4096x1024, .bf16⟩
  | .hbm, ⟨2, _⟩ => ⟨S4096x3072, .bf16⟩
  | .hbm, ⟨3, _⟩ => ⟨S3x1024, .f32⟩
  | .hbm, ⟨4, _⟩ => ⟨S1024, .f32⟩
  | .hbm, ⟨5, _⟩ => ⟨S1x1024, .f32⟩
  | .hbm, ⟨6, _⟩ => ⟨S6x4096x1024, .bf16⟩
  | .hbm, ⟨7, _⟩ => ⟨S8x1024, .f32⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S4096x128, .bf16⟩
  | .local _ .vmem, ⟨8, _⟩ => ⟨S3x128, .f32⟩
  | .local _ .vmem, ⟨9, _⟩ => ⟨S3x128, .f32⟩
  | .local _ .vmem, ⟨10, _⟩ => ⟨S1x128, .f32⟩
  | .local _ .vmem, ⟨11, _⟩ => ⟨S1x128, .f32⟩
  | .local _ .vmem, ⟨12, _⟩ => ⟨S3x4096x128, .bf16⟩
  | .local _ .vmem, ⟨13, _⟩ => ⟨S3x4096x128, .bf16⟩
  | .local _ .vmem, ⟨14, _⟩ => ⟨S8x128, .f32⟩
  | .local _ .vmem, ⟨15, _⟩ => ⟨S8x128, .f32⟩
  | _, _ => ⟨S6x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3x4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ConvReferenceIdeal.lean ====
abbrev S6x4096x1024 : Shape := ⟨3, ![6, 4096, 1024]⟩
abbrev S4096x1024 : Shape := ⟨2, ![4096, 1024]⟩
abbrev S4096x3072 : Shape := ⟨2, ![4096, 3072]⟩
abbrev S3x1024 : Shape := ⟨2, ![3, 1024]⟩
abbrev S1024 : Shape := ⟨1, ![1024]⟩
abbrev S1x4096x3072 : Shape := ⟨3, ![1, 4096, 3072]⟩
abbrev S1x4096x1024 : Shape := ⟨3, ![1, 4096, 1024]⟩
abbrev S_ : Shape := ⟨0, ![]⟩
abbrev S1x2x1024 : Shape := ⟨3, ![1, 2, 1024]⟩
abbrev S1x4098x1024 : Shape := ⟨3, ![1, 4098, 1024]⟩
abbrev S1x1024 : Shape := ⟨2, ![1, 1024]⟩
abbrev S1x1x1024 : Shape := ⟨3, ![1, 1, 1024]⟩
abbrev S3x4096x1024 : Shape := ⟨3, ![3, 4096, 1024]⟩
abbrev S4x1024 : Shape := ⟨2, ![4, 1024]⟩
abbrev S8x1024 : Shape := ⟨2, ![8, 1024]⟩

abbrev nBuf : Space → Nat
  | .hbm => 107
  | .vmem => 0
  | .smem => 0
  | _ => 0

abbrev bufTy : (tb : Table) → Fin (tcTables nBuf tb) → BufTy
  | .hbm, ⟨0, _⟩ => ⟨S6x4096x1024, .bf16⟩
  | .hbm, ⟨1, _⟩ => ⟨S4096x1024, .bf16⟩
  | .hbm, ⟨2, _⟩ => ⟨S4096x3072, .bf16⟩
  | .hbm, ⟨3, _⟩ => ⟨S3x1024, .f32⟩
  | .hbm, ⟨4, _⟩ => ⟨S1024, .f32⟩
  | .hbm, ⟨5, _⟩ => ⟨S4096x3072, .f32⟩
  | .hbm, ⟨6, _⟩ => ⟨S1x4096x3072, .f32⟩
  | .hbm, ⟨7, _⟩ => ⟨S1x4096x1024, .f32⟩
  | .hbm, ⟨8, _⟩ => ⟨S1x4096x1024, .f32⟩
  | .hbm, ⟨9, _⟩ => ⟨S1x4096x1024, .f32⟩
  | .hbm, ⟨10, _⟩ => ⟨S4096x1024, .f32⟩
  | .hbm, ⟨11, _⟩ => ⟨S1x4096x1024, .f32⟩
  | .hbm, ⟨12, _⟩ => ⟨S1x4096x1024, .f32⟩
  | .hbm, ⟨13, _⟩ => ⟨S_, .f32⟩
  | .hbm, ⟨14, _⟩ => ⟨S1x2x1024, .f32⟩
  | .hbm, ⟨15, _⟩ => ⟨S1x4098x1024, .f32⟩
  | .hbm, ⟨16, _⟩ => ⟨S_, .f32⟩
  | .hbm, ⟨17, _⟩ => ⟨S1x2x1024, .f32⟩
  | .hbm, ⟨18, _⟩ => ⟨S1x1024, .f32⟩
  | .hbm, ⟨19, _⟩ => ⟨S1024, .f32⟩
  | .hbm, ⟨20, _⟩ => ⟨S1x4096x1024, .f32⟩
  | .hbm, ⟨21, _⟩ => ⟨S1x1x1024, .f32⟩
  | .hbm, ⟨22, _⟩ => ⟨S1x4096x1024, .f32⟩
  | .hbm, ⟨23, _⟩ => ⟨S1x4096x1024, .f32⟩
  | .hbm, ⟨24, _⟩ => ⟨S_, .f32⟩
  | .hbm, ⟨25, _⟩ => ⟨S1x4096x1024, .f32⟩
  | .hbm, ⟨26, _⟩ => ⟨S1x4096x1024, .f32⟩
  | .hbm, ⟨27, _⟩ => ⟨S1x1024, .f32⟩
  | .hbm, ⟨28, _⟩ => ⟨S1024, .f32⟩
  | .hbm, ⟨29, _⟩ => ⟨S1x4096x1024, .f32⟩
  | .hbm, ⟨30, _⟩ => ⟨S1x1x1024, .f32⟩
  | .hbm, ⟨31, _⟩ => ⟨S1x4096x1024, .f32⟩
  | .hbm, ⟨32, _⟩ => ⟨S1x4096x1024, .f32⟩
  | .hbm, ⟨33, _⟩ => ⟨S1x4096x1024, .f32⟩
  | .hbm, ⟨34, _⟩ => ⟨S1x1024, .f32⟩
  | .hbm, ⟨35, _⟩ => ⟨S1024, .f32⟩
  | .hbm, ⟨36, _⟩ => ⟨S1x4096x1024, .f32⟩
  | .hbm, ⟨37, _⟩ => ⟨S1x1x1024, .f32⟩
  | .hbm, ⟨38, _⟩ => ⟨S1x4096x1024, .f32⟩
  | .hbm, ⟨39, _⟩ => ⟨S1x4096x1024, .f32⟩
  | .hbm, ⟨40, _⟩ => ⟨S1x4096x1024, .f32⟩
  | .hbm, ⟨41, _⟩ => ⟨S1x1x1024, .f32⟩
  | .hbm, ⟨42, _⟩ => ⟨S1x4096x1024, .f32⟩
  | .hbm, ⟨43, _⟩ => ⟨S1x4096x1024, .f32⟩
  | .hbm, ⟨44, _⟩ => ⟨S1x4096x1024, .f32⟩
  | .hbm, ⟨45, _⟩ => ⟨S1x4096x1024, .f32⟩
  | .hbm, ⟨46, _⟩ => ⟨S1x4096x1024, .f32⟩
  | .hbm, ⟨47, _⟩ => ⟨S_, .f32⟩
  | .hbm, ⟨48, _⟩ => ⟨S1x1024, .f32⟩
  | .hbm, ⟨49, _⟩ => ⟨S1x1x1024, .f32⟩
  | .hbm, ⟨50, _⟩ => ⟨S_, .f32⟩
  | .hbm, ⟨51, _⟩ => ⟨S1024, .f32⟩
  | .hbm, ⟨52, _⟩ => ⟨S1x4096x1024, .f32⟩
  | .hbm, ⟨53, _⟩ => ⟨S1x4096x1024, .f32⟩
  | .hbm, ⟨54, _⟩ => ⟨S1x4096x1024, .f32⟩
  | .hbm, ⟨55, _⟩ => ⟨S_, .f32⟩
  | .hbm, ⟨56, _⟩ => ⟨S1x1024, .f32⟩
  | .hbm, ⟨57, _⟩ => ⟨S1x1x1024, .f32⟩
  | .hbm, ⟨58, _⟩ => ⟨S_, .f32⟩
  | .hbm, ⟨59, _⟩ => ⟨S1024, .f32⟩
  | .hbm, ⟨60, _⟩ => ⟨S_, .f32⟩
  | .hbm, ⟨61, _⟩ => ⟨S1x4098x1024, .f32⟩
  | .hbm, ⟨62, _⟩ => ⟨S1x1024, .f32⟩
  | .hbm, ⟨63, _⟩ => ⟨S_, .f32⟩
  | .hbm, ⟨64, _⟩ => ⟨S3x1024, .f32⟩
  | .hbm, ⟨65, _⟩ => ⟨S1x4096x1024, .f32⟩
  | .hbm, ⟨66, _⟩ => ⟨S1x4096x1024, .f32⟩
  | .hbm, ⟨67, _⟩ => ⟨S1x4096x1024, .f32⟩
  | .hbm, ⟨68, _⟩ => ⟨S_, .f32⟩
  | .hbm, ⟨69, _⟩ => ⟨S1x1024, .f32⟩
  | .hbm, ⟨70, _⟩ => ⟨S1x1x1024, .f32⟩
  | .hbm, ⟨71, _⟩ => ⟨S_, .f32⟩
  | .hbm, ⟨72, _⟩ => ⟨S1024, .f32⟩
  | .hbm, ⟨73, _⟩ => ⟨S_, .f32⟩
  | .hbm, ⟨74, _⟩ => ⟨S1x4098x1024, .f32⟩
  | .hbm, ⟨75, _⟩ => ⟨S1x4098x1024, .f32⟩
  | .hbm, ⟨76, _⟩ => ⟨S1x1024, .f32⟩
  | .hbm, ⟨77, _⟩ => ⟨S_, .f32⟩
  | .hbm, ⟨78, _⟩ => ⟨S3x1024, .f32⟩
  | .hbm, ⟨79, _⟩ => ⟨S3x1024, .f32⟩
  | .hbm, ⟨80, _⟩ => ⟨S1x4096x1024, .f32⟩
  | .hbm, ⟨81, _⟩ => ⟨S1x4096x1024, .f32⟩
  | .hbm, ⟨82, _⟩ => ⟨S1x4096x1024, .f32⟩
  | .hbm, ⟨83, _⟩ => ⟨S_, .f32⟩
  | .hbm, ⟨84, _⟩ => ⟨S1x1024, .f32⟩
  | .hbm, ⟨85, _⟩ => ⟨S1x1x1024, .f32⟩
  | .hbm, ⟨86, _⟩ => ⟨S_, .f32⟩
  | .hbm, ⟨87, _⟩ => ⟨S1024, .f32⟩
  | .hbm, ⟨88, _⟩ => ⟨S_, .f32⟩
  | .hbm, ⟨89, _⟩ => ⟨S1x4098x1024, .f32⟩
  | .hbm, ⟨90, _⟩ => ⟨S1x4098x1024, .f32⟩
  | .hbm, ⟨91, _⟩ => ⟨S1x1024, .f32⟩
  | .hbm, ⟨92, _⟩ => ⟨S_, .f32⟩
  | .hbm, ⟨93, _⟩ => ⟨S3x1024, .f32⟩
  | .hbm, ⟨94, _⟩ => ⟨S3x1024, .f32⟩
  | .hbm, ⟨95, _⟩ => ⟨S1x2x1024, .f32⟩
  | .hbm, ⟨96, _⟩ => ⟨S1x4096x1024, .f32⟩
  | .hbm, ⟨97, _⟩ => ⟨S1x4096x1024, .f32⟩
  | .hbm, ⟨98, _⟩ => ⟨S1x4096x1024, .f32⟩
  | .hbm, ⟨99, _⟩ => ⟨S3x4096x1024, .f32⟩
  | .hbm, ⟨100, _⟩ => ⟨S3x4096x1024, .bf16⟩
  | .hbm, ⟨101, _⟩ => ⟨S3x4096x1024, .bf16⟩
  | .hbm, ⟨102, _⟩ => ⟨S6x4096x1024, .bf16⟩
  | .hbm, ⟨103, _⟩ => ⟨S1x1024, .f32⟩
  | .hbm, ⟨104, _⟩ => ⟨S_, .f32⟩
  | .hbm, ⟨105, _⟩ => ⟨S4x1024, .f32⟩
  | .hbm, ⟨106, _⟩ => ⟨S8x1024, .f32⟩
  | _, _ => ⟨S6x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_2 : Ref sig .tc := ⟨.hbm, 47, rfl⟩
abbrev main_v39 : Ref sig .tc := ⟨.hbm, 48, rfl⟩
abbrev main_v40 : Ref sig .tc := ⟨.hbm, 49, rfl⟩
abbrev main_cst_3 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_4 : Ref sig .tc := ⟨.hbm, 55, rfl⟩
abbrev main_v45 : Ref sig .tc := ⟨.hbm, 56, rfl⟩
abbrev main_v46 : Ref sig .tc := ⟨.hbm, 57, rfl⟩
abbrev main_cst_5 : Ref sig .tc := ⟨.hbm, 58, rfl⟩
abbrev main_v47 : Ref sig .tc := ⟨.hbm, 59, rfl⟩
abbrev main_cst_6 : Ref sig .tc := ⟨.hbm, 60, rfl⟩
abbrev main_v48 : Ref sig .tc := ⟨.hbm, 61, rfl⟩
abbrev main_v49 : Ref sig .tc := ⟨.hbm, 62, rfl⟩
abbrev main_cst_7 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_8 : Ref sig .tc := ⟨.hbm, 68, rfl⟩
abbrev main_v54 : Ref sig .tc := ⟨.hbm, 69, rfl⟩
abbrev main_v55 : Ref sig .tc := ⟨.hbm, 70, rfl⟩
abbrev main_cst_9 : Ref sig .tc := ⟨.hbm, 71, rfl⟩
abbrev main_v56 : Ref sig .tc := ⟨.hbm, 72, rfl⟩
abbrev main_cst_10 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_11 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_12 : Ref sig .tc := ⟨.hbm, 83, rfl⟩
abbrev main_v65 : Ref sig .tc := ⟨.hbm, 84, rfl⟩
abbrev main_v66 : Ref sig .tc := ⟨.hbm, 85, rfl⟩
abbrev main_cst_13 : Ref sig .tc := ⟨.hbm, 86, rfl⟩
abbrev main_v67 : Ref sig .tc := ⟨.hbm, 87, rfl⟩
abbrev main_cst_14 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_15 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_cst_16 : Ref sig .tc := ⟨.hbm, 104, rfl⟩
abbrev main_v82 : Ref sig .tc := ⟨.hbm, 105, rfl⟩
abbrev main_v83 : Ref sig .tc := ⟨.hbm, 106, rfl⟩

abbrev nD : Nat := 1
abbrev τ : Topo := Topo.v7x

variable {F : FTy → Type} [FloatOps F]
-- ==== NormOneKernel.lean ====
abbrev S6x4096x1024 : Shape := ⟨3, ![6, 4096, 1024]⟩
abbrev S4x1024x1536 : Shape := ⟨3, ![4, 1024, 1536]⟩
abbrev S2x4096x1024 : Shape := ⟨3, ![2, 4096, 1024]⟩
abbrev S4x1024x512 : Shape := ⟨3, ![4, 1024, 512]⟩
abbrev S4096x1024 : Shape := ⟨2, ![4096, 1024]⟩
abbrev S1024 : Shape := ⟨1, ![1024]⟩
abbrev S1x1024 : Shape := ⟨2, ![1, 1024]⟩
abbrev S6x512x1024 : Shape := ⟨3, ![6, 512, 1024]⟩
abbrev S2x512x1024 : Shape := ⟨3, ![2, 512, 1024]⟩
abbrev S512x1024 : Shape := ⟨2, ![512, 1024]⟩
abbrev S1x512x512 : Shape := ⟨3, ![1, 512, 512]⟩
abbrev S512x512 : Shape := ⟨2, ![512, 512]⟩
abbrev S1x1024x512 : Shape := ⟨3, ![1, 1024, 512]⟩
abbrev S1024x512 : Shape := ⟨2, ![1024, 512]⟩
abbrev S512 : Shape := ⟨1, ![512]⟩
abbrev S512x1 : Shape := ⟨2, ![512, 1]⟩

abbrev nBuf : Space → Nat
  | .hbm => 10
  | .vmem => 14
  | .smem => 0
  | _ => 0

abbrev bufTy : (tb : Table) → Fin (tcTables nBuf tb) → BufTy
  | .hbm, ⟨0, _⟩ => ⟨S6x4096x1024, .bf16⟩
  | .hbm, ⟨1, _⟩ => ⟨S4x1024x1536, .bf16⟩
  | .hbm, ⟨2, _⟩ => ⟨S2x4096x1024, .bf16⟩
  | .hbm, ⟨3, _⟩ => ⟨S4x1024x512, .bf16⟩
  | .hbm, ⟨4, _⟩ => ⟨S4096x1024, .f32⟩
  | .hbm, ⟨5, _⟩ => ⟨S1024, .f32⟩
  | .hbm, ⟨6, _⟩ => ⟨S4096x1024, .bf16⟩
  | .hbm, ⟨7, _⟩ => ⟨S1x1024, .f32⟩
  | .hbm, ⟨8, _⟩ => ⟨S4096x1024, .f32⟩
  | .hbm, ⟨9, _⟩ => ⟨S1x1024, .f32⟩
  | .local _ .vmem, ⟨0, _⟩ => ⟨S6x512x1024, .bf16⟩
  | .local _ .vmem, ⟨1, _⟩ => ⟨S6x512x1024, .bf16⟩
  | .local _ .vmem, ⟨2, _⟩ => ⟨S2x512x1024, .bf16⟩
  | .local _ .vmem, ⟨3, _⟩ => ⟨S2x512x1024, .bf16⟩
  | .local _ .vmem, ⟨4, _⟩ => ⟨S4x1024x1536, .bf16⟩
  | .local _ .vmem, ⟨5, _⟩ => ⟨S4x1024x512, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | _, _ => ⟨S6x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v129 : BitVec 1 := Scalar.cmpi .eq arg0 c0_i32
  let v130 : BitVec 32 := Scalar.extui v129
  let c0_i32_118 : BitVec 32 := 0#32
  let v131 : BitVec 1 := Scalar.cmpi .ne v130 c0_i32_118
  v131

def k0_cond2 (i : grid0.Coords) : BitVec 1 :=
  let arg0 : BitVec 32 := BitVec.ofNat 32 (i 0).val
  let c0_i32_119 : BitVec 32 := 0#32
  let v132 : BitVec 1 := Scalar.cmpi .sgt arg0 c0_i32_119
  let v133 : BitVec 32 := Scalar.extui v132
  let c0_i32_120 : BitVec 32 := 0#32
  let v134 : BitVec 1 := Scalar.cmpi .ne v133 c0_i32_120
  v134

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S6x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== NormOneReferenceIdeal.lean ====
abbrev S6x4096x1024 : Shape := ⟨3, ![6, 4096, 1024]⟩
abbrev S4x1024x1536 : Shape := ⟨3, ![4, 1024, 1536]⟩
abbrev S2x4096x1024 : Shape := ⟨3, ![2, 4096, 1024]⟩
abbrev S4x1024x512 : Shape := ⟨3, ![4, 1024, 512]⟩
abbrev S4096x1024 : Shape := ⟨2, ![4096, 1024]⟩
abbrev S1024 : Shape := ⟨1, ![1024]⟩
abbrev S1x1024x1536 : Shape := ⟨3, ![1, 1024, 1536]⟩
abbrev S1024x1536 : Shape := ⟨2, ![1024, 1536]⟩
abbrev S1024x6144 : Shape := ⟨2, ![1024, 6144]⟩
abbrev S1x1024x512 : Shape := ⟨3, ![1, 1024, 512]⟩
abbrev S1024x512 : Shape := ⟨2, ![1024, 512]⟩
abbrev S1024x2048 : Shape := ⟨2, ![1024, 2048]⟩
abbrev S1x4096x1024 : Shape := ⟨3, ![1, 4096, 1024]⟩
abbrev S4096x6144 : Shape := ⟨2, ![4096, 6144]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 100
  | .vmem => 0
  | .smem => 0
  | _ => 0

abbrev bufTy : (tb : Table) → Fin (tcTables nBuf tb) → BufTy
  | .hbm, ⟨0, _⟩ => ⟨S6x4096x1024, .bf16⟩
  | .hbm, ⟨1, _⟩ => ⟨S4x1024x1536, .bf16⟩
  | .hbm, ⟨2, _⟩ => ⟨S2x4096x1024, .bf16⟩
  | .hbm, ⟨3, _⟩ => ⟨S4x1024x512, .bf16⟩
  | .hbm, ⟨4, _⟩ => ⟨S4096x1024, .f32⟩
  | .hbm, ⟨5, _⟩ => ⟨S1024, .f32⟩
  | .hbm, ⟨6, _⟩ => ⟨S4096x1024, .bf16⟩
  | .hbm, ⟨7, _⟩ => ⟨S1x1024x1536, .bf16⟩
  | .hbm, ⟨8, _⟩ => ⟨S1024x1536, .bf16⟩
  | .hbm, ⟨9, _⟩ => ⟨S1x1024x1536, .bf16⟩
  | .hbm, ⟨10, _⟩ => ⟨S1024x1536, .bf16⟩
  | .hbm, ⟨11, _⟩ => ⟨S1x1024x1536, .bf16⟩
  | .hbm, ⟨12, _⟩ => ⟨S1024x1536, .bf16⟩
  | .hbm, ⟨13, _⟩ => ⟨S1x1024x1536, .bf16⟩
  | .hbm, ⟨14, _⟩ => ⟨S1024x1536, .bf16⟩
  | .hbm, ⟨15, _⟩ => ⟨S1024x6144, .bf16⟩
  | .hbm, ⟨16, _⟩ => ⟨S1024x6144, .f32⟩
  | .hbm, ⟨17, _⟩ => ⟨S1x1024x512, .bf16⟩
  | .hbm, ⟨18, _⟩ => ⟨S1024x512, .bf16⟩
  | .hbm, ⟨19, _⟩ => ⟨S1x1024x512, .bf16⟩
  | .hbm, ⟨20, _⟩ => ⟨S1024x512, .bf16⟩
  | .hbm, ⟨21, _⟩ => ⟨S1x1024x512, .bf16⟩
  | .hbm, ⟨22, _⟩ => ⟨S1024x512, .bf16⟩
  | .hbm, ⟨23, _⟩ => ⟨S1x1024x512, .bf16⟩
  | .hbm, ⟨24, _⟩ => ⟨S1024x512, .bf16⟩
  | .hbm, ⟨25, _⟩ => ⟨S1024x2048, .bf16⟩
  | .hbm, ⟨26, _⟩ => ⟨S1024x2048, .f32⟩
  | .hbm, ⟨27, _⟩ => ⟨S1x4096x1024, .bf16⟩
  | .hbm, ⟨28, _⟩ => ⟨S4096x1024, .bf16⟩
  | .hbm, ⟨29, _⟩ => ⟨S1x4096x1024, .bf16⟩
  | .hbm, ⟨30, _⟩ => ⟨S4096x1024, .bf16⟩
  | .hbm, ⟨31, _⟩ => ⟨S1x4096x1024, .bf16⟩
  | .hbm, ⟨32, _⟩ => ⟨S4096x1024, .bf16⟩
  | .hbm, ⟨33, _⟩ => ⟨S1x4096x1024, .bf16⟩
  | .hbm, ⟨34, _⟩ => ⟨S4096x1024, .bf16⟩
  | .hbm, ⟨35, _⟩ => ⟨S1x4096x1024, .bf16⟩
  | .hbm, ⟨36, _⟩ => ⟨S4096x1024, .bf16⟩
  | .hbm, ⟨37, _⟩ => ⟨S1x4096x1024, .bf16⟩
  | .hbm, ⟨38, _⟩ => ⟨S4096x1024, .bf16⟩
  | .hbm, ⟨39, _⟩ => ⟨S4096x6144, .bf16⟩
  | .hbm, ⟨40, _⟩ => ⟨S4096x6144, .f32⟩
  | .hbm, ⟨41, _⟩ => ⟨S1x4096x1024, .bf16⟩
  | .hbm, ⟨42, _⟩ => ⟨S4096x1024, .bf16⟩
  | .hbm, ⟨43, _⟩ => ⟨S1x4096x1024, .bf16⟩
  | .hbm, ⟨44, _⟩ => ⟨S4096x1024, .bf16⟩
  | .hbm, ⟨45, _⟩ => ⟨S4096x2048, .bf16⟩
  | .hbm, ⟨46, _⟩ => ⟨S4096x2048, .f32⟩
  | .hbm, ⟨47, _⟩ => ⟨S4096x1024, .f32⟩
  | .hbm, ⟨48, _⟩ => ⟨S_, .f32⟩
  | .hbm, ⟨49, _⟩ => ⟨S4096, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096x1, .f32⟩
  | .hbm, ⟨56, _⟩ => ⟨S4096x1, .f32⟩
  | .hbm, ⟨57, _⟩ => ⟨S4096x1, .f32⟩
  | .hbm, ⟨58, _⟩ => ⟨S4096x1, .f32⟩
  | .hbm, ⟨59, _⟩ => ⟨S_, .f32⟩
  | .hbm, ⟨60, _⟩ => ⟨S4096x1, .f32⟩
  | .hbm, ⟨61, _⟩ => ⟨S4096x1, .f32⟩
  | .hbm, ⟨62, _⟩ => ⟨S4096x1024, .f32⟩
  | .hbm, ⟨63, _⟩ => ⟨S4096x1024, .f32⟩
  | .hbm, ⟨64, _⟩ => ⟨S1x1024, .f32⟩
  | .hbm, ⟨65, _⟩ => ⟨S4096x1024, .f32⟩
  | .hbm, ⟨66, _⟩ => ⟨S4096x1024, .f32⟩
  | .hbm, ⟨67, _⟩ => ⟨S4096x6144, .f32⟩
  | .hbm, ⟨68, _⟩ => ⟨S4096x2048, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S_, .f32⟩
  | .hbm, ⟨74, _⟩ => ⟨S1024, .f32⟩
  | .hbm, ⟨75, _⟩ => ⟨S1x1024, .f32⟩
  | .hbm, ⟨76, _⟩ => ⟨S4096x1024, .f32⟩
  | .hbm, ⟨77, _⟩ => ⟨S4096x1024, .f32⟩
  | .hbm, ⟨78, _⟩ => ⟨S_, .f32⟩
  | .hbm, ⟨79, _⟩ => ⟨S1024, .f32⟩
  | .hbm, ⟨80, _⟩ => ⟨S4096x1024, .f32⟩
  | .hbm, ⟨81, _⟩ => ⟨S_, .f32⟩
  | .hbm, ⟨82, _⟩ => ⟨S4096, .f32⟩
  | .hbm, ⟨83, _⟩ => ⟨S4096x1, .f32⟩
  | .hbm, ⟨84, _⟩ => ⟨S4096x1024, .f32⟩
  | .hbm, ⟨85, _⟩ => ⟨S4096x1024, .f32⟩
  | .hbm, ⟨86, _⟩ => ⟨S4096x1, .f32⟩
  | .hbm, ⟨87, _⟩ => ⟨S_, .f32⟩
  | .hbm, ⟨88, _⟩ => ⟨S4096x1, .f32⟩
  | .hbm, ⟨89, _⟩ => ⟨S4096x1, .f32⟩
  | .hbm, ⟨90, _⟩ => ⟨S_, .f32⟩
  | .hbm, ⟨91, _⟩ => ⟨S4096, .f32⟩
  | .hbm, ⟨92, _⟩ => ⟨S4096x1024, .f32⟩
  | .hbm, ⟨93, _⟩ => ⟨S4096x1024, .f32⟩
  | .hbm, ⟨94, _⟩ => ⟨S4096x1024, .f32⟩
  | .hbm, ⟨95, _⟩ => ⟨S4096x1024, .f32⟩
  | .hbm, ⟨96, _⟩ => ⟨S4096x1024, .f32⟩
  | .hbm, ⟨97, _⟩ => ⟨S4096x1024, .f32⟩
  | .hbm, ⟨98, _⟩ => ⟨S4096x1024, .f32⟩
  | .hbm, ⟨99, _⟩ => ⟨S1x1024, .f32⟩
  | _, _ => ⟨S6x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_cst : Ref sig .tc := ⟨.hbm, 48, rfl⟩
abbrev main_v41 : Ref sig .tc := ⟨.hbm, 49, rfl⟩
abbrev main_v42 : Ref sig .tc := ⟨.hbm, 50, rfl⟩
abbrev main_cst_0 : Ref sig .tc := ⟨.hbm, 51, rfl⟩
abbrev main_v43 : Ref sig .tc := ⟨.hbm, 52, rfl⟩
abbrev main_v44 : Ref sig .tc := ⟨.hbm, 53, rfl⟩
abbrev main_cst_1 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst_2 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_cst_3 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_cst_4 : Ref sig .tc := ⟨.hbm, 78, rfl⟩
abbrev main_v66 : Ref sig .tc := ⟨.hbm, 79, rfl⟩
abbrev main_v67 : Ref sig .tc := ⟨.hbm, 80, rfl⟩
abbrev main_cst_5 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_cst_6 : Ref sig .tc := ⟨.hbm, 87, rfl⟩
abbrev main_v73 : Ref sig .tc := ⟨.hbm, 88, rfl⟩
abbrev main_v74 : Ref sig .tc := ⟨.hbm, 89, rfl⟩
abbrev main_cst_7 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩

abbrev nD : Nat := 1
abbrev τ : Topo := Topo.v7x

variable {F : FTy → Type} [FloatOps F]
-- ==== NormTwoKernel.lean ====
abbrev S4096x4096 : Shape := ⟨2, ![4096, 4096]⟩
abbrev S4x1024x1024 : Shape := ⟨3, ![4, 1024, 1024]⟩
abbrev S4096x1024 : Shape := ⟨2, ![4096, 1024]⟩
abbrev S1024 : Shape := ⟨1, ![1024]⟩
abbrev S1x4096x4096 : Shape := ⟨3, ![1, 4096, 4096]⟩
abbrev S1x1024 : Shape := ⟨2, ![1, 1024]⟩
abbrev S1x512x4096 : Shape := ⟨3, ![1, 512, 4096]⟩
abbrev S512x1024 : Shape := ⟨2, ![512, 1024]⟩
abbrev S1x512x512 : Shape := ⟨3, ![1, 512, 512]⟩
abbrev S512x512 : Shape := ⟨2, ![512, 512]⟩
abbrev S1x1024x512 : Shape := ⟨3, ![1, 1024, 512]⟩
abbrev S1024x512 : Shape := ⟨2, ![1024, 512]⟩
abbrev S512 : Shape := ⟨1, ![512]⟩
abbrev S512x1 : Shape := ⟨2, ![512, 1]⟩

abbrev nBuf : Space → Nat
  | .hbm => 9
  | .vmem => 11
  | .smem => 0
  | _ => 0

abbrev bufTy : (tb : Table) → Fin (tcTables nBuf tb) → BufTy
  | .hbm, ⟨0, _⟩ => ⟨S4096x4096, .bf16⟩
  | .hbm, ⟨1, _⟩ => ⟨S4x1024x1024, .bf16⟩
  | .hbm, ⟨2, _⟩ => ⟨S4096x1024, .f32⟩
  | .hbm, ⟨3, _⟩ => ⟨S1024, .f32⟩
  | .hbm, ⟨4, _⟩ => ⟨S4096x1024, .bf16⟩
  | .hbm, ⟨5, _⟩ => ⟨S1x4096x4096, .bf16⟩
  | .hbm, ⟨6, _⟩ => ⟨S1x1024, .f32⟩
  | .hbm, ⟨7, _⟩ => ⟨S4096x1024, .bf16⟩
  | .hbm, ⟨8, _⟩ => ⟨S1x1024, .f32⟩
  | .local _ .vmem, ⟨0, _⟩ => ⟨S1x512x4096, .bf16⟩
  | .local _ .vmem, ⟨1, _⟩ => ⟨S1x512x4096, .bf16⟩
  | .local _ .vmem, ⟨2, _⟩ => ⟨S4x1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v82 : BitVec 1 := Scalar.cmpi .eq arg0 c0_i32
  let v83 : BitVec 32 := Scalar.extui v82
  let c0_i32_59 : BitVec 32 := 0#32
  let v84 : BitVec 1 := Scalar.cmpi .ne v83 c0_i32_59
  v84

def k0_cond2 (i : grid0.Coords) : BitVec 1 :=
  let arg0 : BitVec 32 := BitVec.ofNat 32 (i 0).val
  let c0_i32_60 : BitVec 32 := 0#32
  let v85 : BitVec 1 := Scalar.cmpi .sgt arg0 c0_i32_60
  let v86 : BitVec 32 := Scalar.extui v85
  let c0_i32_61 : BitVec 32 := 0#32
  let v87 : BitVec 1 := Scalar.cmpi .ne v86 c0_i32_61
  v87

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormTwoReferenceIdeal.lean ====
abbrev S4096x4096 : Shape := ⟨2, ![4096, 4096]⟩
abbrev S4x1024x1024 : Shape := ⟨3, ![4, 1024, 1024]⟩
abbrev S4096x1024 : Shape := ⟨2, ![4096, 1024]⟩
abbrev S1024 : Shape := ⟨1, ![1024]⟩
abbrev S1x1024x1024 : Shape := ⟨3, ![1, 1024, 1024]⟩
abbrev S1024x1024 : Shape := ⟨2, ![1024, 1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 67
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4x1024x1024, .bf16⟩
  | .hbm, ⟨2, _⟩ => ⟨S4096x1024, .f32⟩
  | .hbm, ⟨3, _⟩ => ⟨S1024, .f32⟩
  | .hbm, ⟨4, _⟩ => ⟨S4096x1024, .bf16⟩
  | .hbm, ⟨5, _⟩ => ⟨S1x1024x1024, .bf16⟩
  | .hbm, ⟨6, _⟩ => ⟨S1024x1024, .bf16⟩
  | .hbm, ⟨7, _⟩ => ⟨S1x1024x1024, .bf16⟩
  | .hbm, ⟨8, _⟩ => ⟨S1024x1024, .bf16⟩
  | .hbm, ⟨9, _⟩ => ⟨S1x1024x1024, .bf16⟩
  | .hbm, ⟨10, _⟩ => ⟨S1024x1024, .bf16⟩
  | .hbm, ⟨11, _⟩ => ⟨S1x1024x1024, .bf16⟩
  | .hbm, ⟨12, _⟩ => ⟨S1024x1024, .bf16⟩
  | .hbm, ⟨13, _⟩ => ⟨S1024x4096, .bf16⟩
  | .hbm, ⟨14, _⟩ => ⟨S1024x4096, .f32⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x4096, .f32⟩
  | .hbm, ⟨36, _⟩ => ⟨S4096x4096, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S1024, .f32⟩
  | .hbm, ⟨46, _⟩ => ⟨S4096x1024, .f32⟩
  | .hbm, ⟨47, _⟩ => ⟨S_, .f32⟩
  | .hbm, ⟨48, _⟩ => ⟨S4096, .f32⟩
  | .hbm, ⟨49, _⟩ => ⟨S4096x1, .f32⟩
  | .hbm, ⟨50, _⟩ => ⟨S4096x1024, .f32⟩
  | .hbm, ⟨51, _⟩ => ⟨S4096x1024, .f32⟩
  | .hbm, ⟨52, _⟩ => ⟨S4096x1, .f32⟩
  | .hbm, ⟨53, _⟩ => ⟨S_, .f32⟩
  | .hbm, ⟨54, _⟩ => ⟨S4096x1, .f32⟩
  | .hbm, ⟨55, _⟩ => ⟨S4096x1, .f32⟩
  | .hbm, ⟨56, _⟩ => ⟨S_, .f32⟩
  | .hbm, ⟨57, _⟩ => ⟨S4096, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .bf16⟩
  | .hbm, ⟨66, _⟩ => ⟨S1x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_6 : Ref sig .tc := ⟨.hbm, 53, rfl⟩
abbrev main_v41 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩

abbrev nD : Nat := 1
abbrev τ : Topo := Topo.v7x

variable {F : FTy → Type} [FloatOps F]
-- ==== ActKernel.lean ====
abbrev S4096x1024 : Shape := ⟨2, ![4096, 1024]⟩
abbrev S4x1024x1024 : Shape := ⟨3, ![4, 1024, 1024]⟩
abbrev S1x1024x1024 : Shape := ⟨3, ![1, 1024, 1024]⟩
abbrev S1024x1024 : Shape := ⟨2, ![1024, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 22
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4x1024x1024, .bf16⟩
  | .hbm, ⟨3, _⟩ => ⟨S4096x1024, .bf16⟩
  | .hbm, ⟨4, _⟩ => ⟨S1x1024x1024, .bf16⟩
  | .hbm, ⟨5, _⟩ => ⟨S1024x1024, .bf16⟩
  | .hbm, ⟨6, _⟩ => ⟨S1x1024x1024, .bf16⟩
  | .hbm, ⟨7, _⟩ => ⟨S1024x1024, .bf16⟩
  | .hbm, ⟨8, _⟩ => ⟨S1x1024x1024, .bf16⟩
  | .hbm, ⟨9, _⟩ => ⟨S1024x1024, .bf16⟩
  | .hbm, ⟨10, _⟩ => ⟨S1x1024x1024, .bf16⟩
  | .hbm, ⟨11, _⟩ => ⟨S1024x1024, .bf16⟩
  | .hbm, ⟨12, _⟩ => ⟨S1024x4096, .bf16⟩
  | .hbm, ⟨13, _⟩ => ⟨S1024x4096, .f32⟩
  | .hbm, ⟨14, _⟩ => ⟨S4096x1024, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4096x4096, .bf16⟩
  | .hbm, ⟨21, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_call0_cst : Ref sig .tc := ⟨.hbm, 16, rfl⟩
abbrev main_call0_v0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ActReferenceIdeal.lean ====
abbrev S4096x1024 : Shape := ⟨2, ![4096, 1024]⟩
abbrev S4x1024x1024 : Shape := ⟨3, ![4, 1024, 1024]⟩
abbrev S1x1024x1024 : Shape := ⟨3, ![1, 1024, 1024]⟩
abbrev S1024x1024 : Shape := ⟨2, ![1024, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4x1024x1024, .bf16⟩
  | .hbm, ⟨3, _⟩ => ⟨S4096x1024, .bf16⟩
  | .hbm, ⟨4, _⟩ => ⟨S1x1024x1024, .bf16⟩
  | .hbm, ⟨5, _⟩ => ⟨S1024x1024, .bf16⟩
  | .hbm, ⟨6, _⟩ => ⟨S1x1024x1024, .bf16⟩
  | .hbm, ⟨7, _⟩ => ⟨S1024x1024, .bf16⟩
  | .hbm, ⟨8, _⟩ => ⟨S1x1024x1024, .bf16⟩
  | .hbm, ⟨9, _⟩ => ⟨S1024x1024, .bf16⟩
  | .hbm, ⟨10, _⟩ => ⟨S1x1024x1024, .bf16⟩
  | .hbm, ⟨11, _⟩ => ⟨S1024x1024, .bf16⟩
  | .hbm, ⟨12, _⟩ => ⟨S1024x4096, .bf16⟩
  | .hbm, ⟨13, _⟩ => ⟨S1024x4096, .f32⟩
  | .hbm, ⟨14, _⟩ => ⟨S4096x1024, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .i1⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S4096x4096, .f32⟩
  | .hbm, ⟨27, _⟩ => ⟨S4096x4096, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x4096, .f32⟩
  | .hbm, ⟨32, _⟩ => ⟨S4096x4096, .f32⟩
  | .hbm, ⟨33, _⟩ => ⟨S_, .f32⟩
  | .hbm, ⟨34, _⟩ => ⟨S4096x4096, .f32⟩
  | .hbm, ⟨35, _⟩ => ⟨S4096x4096, .f32⟩
  | .hbm, ⟨36, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_call0_cst : Ref sig .tc := ⟨.hbm, 16, rfl⟩
abbrev main_call0_v0 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== WInKernel.lean ====
abbrev S4096x1024 : Shape := ⟨2, ![4096, 1024]⟩
abbrev S6x4096x1024 : Shape := ⟨3, ![6, 4096, 1024]⟩
abbrev S4x1024x1536 : Shape := ⟨3, ![4, 1024, 1536]⟩
abbrev S1x4096x512 : Shape := ⟨3, ![1, 4096, 512]⟩
abbrev S1x1024x512 : Shape := ⟨3, ![1, 1024, 512]⟩
abbrev S4096x512 : Shape := ⟨2, ![4096, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S6x4096x1024, .bf16⟩
  | .hbm, ⟨2, _⟩ => ⟨S4x1024x1536, .f32⟩
  | .local _ .vmem, ⟨0, _⟩ => ⟨S4096x1024, .bf16⟩
  | .local _ .vmem, ⟨1, _⟩ => ⟨S1x4096x512, .bf16⟩
  | .local _ .vmem, ⟨2, _⟩ => ⟨S1x4096x512, .bf16⟩
  | .local _ .vmem, ⟨3, _⟩ => ⟨S1x1024x512, .f32⟩
  | .local _ .vmem, ⟨4, _⟩ => ⟨S1x1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c512_i32 : BitVec 32 := 512#32
  let v0 : BitVec 32 := Scalar.muli arg1 c512_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c512_i32_4 : BitVec 32 := 512#32
  let v18 : BitVec 32 := Scalar.muli arg1 c512_i32_4
  let c1024_i32_5 : BitVec 32 := 1024#32
  let c0_i32_6 : BitVec 32 := 0#32
  let v19 : BitVec 1 := Scalar.cmpi .eq c1024_i32_5 c0_i32_6
  let c1_i32_7 : BitVec 32 := 1#32
  let v20 : BitVec 32 := Scalar.select v19 c1_i32_7 c1024_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c512_i32_11 : BitVec 32 := 512#32
  let v29 : BitVec 32 := Scalar.divsi v28 c512_i32_11
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c0_i32_14 : BitVec 32 := 0#32
  let v35 : BitVec 1 := Scalar.cmpi .sgt c512_i32_11 c0_i32_14
  let v36 : BitVec 32 := Scalar.extui v35
  let c0_i32_15 : BitVec 32 := 0#32
  let v37 : BitVec 1 := Scalar.cmpi .slt c512_i32_11 c0_i32_15
  let v38 : BitVec 32 := Scalar.extui v37
  let v39 : BitVec 32 := Scalar.subi v36 v38
  let v40 : BitVec 1 := Scalar.cmpi .ne v34 v39
  let v41 : BitVec 32 := Scalar.remsi v28 c512_i32_11
  let c0_i32_16 : BitVec 32 := 0#32
  let v42 : BitVec 1 := Scalar.cmpi .ne v41 c0_i32_16
  let v43 : BitVec 1 := Scalar.andi v40 v42
  let c1_i32_17 : BitVec 32 := 1#32
  let v44 : BitVec 32 := Scalar.subi v29 c1_i32_17
  let v45 : BitVec 32 := Scalar.select v43 v44 v29
  let c0_i32_18 : BitVec 32 := 0#32
  ![v17.toNat, arg2.toNat, v45.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WInReferenceIdeal.lean ====
abbrev S4096x1024 : Shape := ⟨2, ![4096, 1024]⟩
abbrev S6x4096x1024 : Shape := ⟨3, ![6, 4096, 1024]⟩
abbrev S1x4096x1024 : Shape := ⟨3, ![1, 4096, 1024]⟩
abbrev S4096x6144 : Shape := ⟨2, ![4096, 6144]⟩
abbrev S_ : Shape := ⟨0, ![]⟩
abbrev S1024x6144 : Shape := ⟨2, ![1024, 6144]⟩
abbrev S6144x1024 : Shape := ⟨2, ![6144, 1024]⟩
abbrev S1024x1536 : Shape := ⟨2, ![1024, 1536]⟩
abbrev S1x1024x1536 : Shape := ⟨3, ![1, 1024, 1536]⟩
abbrev S4x1024x1536 : Shape := ⟨3, ![4, 1024, 1536]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S6x4096x1024, .bf16⟩
  | .hbm, ⟨2, _⟩ => ⟨S1x4096x1024, .bf16⟩
  | .hbm, ⟨3, _⟩ => ⟨S4096x1024, .bf16⟩
  | .hbm, ⟨4, _⟩ => ⟨S1x4096x1024, .bf16⟩
  | .hbm, ⟨5, _⟩ => ⟨S4096x1024, .bf16⟩
  | .hbm, ⟨6, _⟩ => ⟨S1x4096x1024, .bf16⟩
  | .hbm, ⟨7, _⟩ => ⟨S4096x1024, .bf16⟩
  | .hbm, ⟨8, _⟩ => ⟨S1x4096x1024, .bf16⟩
  | .hbm, ⟨9, _⟩ => ⟨S4096x1024, .bf16⟩
  | .hbm, ⟨10, _⟩ => ⟨S1x4096x1024, .bf16⟩
  | .hbm, ⟨11, _⟩ => ⟨S4096x1024, .bf16⟩
  | .hbm, ⟨12, _⟩ => ⟨S1x4096x1024, .bf16⟩
  | .hbm, ⟨13, _⟩ => ⟨S4096x1024, .bf16⟩
  | .hbm, ⟨14, _⟩ => ⟨S4096x6144, .bf16⟩
  | .hbm, ⟨15, _⟩ => ⟨S_, .f32⟩
  | .hbm, ⟨16, _⟩ => ⟨S1024x6144, .f32⟩
  | .hbm, ⟨17, _⟩ => ⟨S4096x1024, .f32⟩
  | .hbm, ⟨18, _⟩ => ⟨S4096x6144, .f32⟩
  | .hbm, ⟨19, _⟩ => ⟨S4096x6144, .f32⟩
  | .hbm, ⟨20, _⟩ => ⟨S6144x1024, .f32⟩
  | .hbm, ⟨21, _⟩ => ⟨S1024x6144, .f32⟩
  | .hbm, ⟨22, _⟩ => ⟨S1024x1536, .f32⟩
  | .hbm, ⟨23, _⟩ => ⟨S1024x1536, .f32⟩
  | .hbm, ⟨24, _⟩ => ⟨S1024x1536, .f32⟩
  | .hbm, ⟨25, _⟩ => ⟨S1024x1536, .f32⟩
  | .hbm, ⟨26, _⟩ => ⟨S1x1024x1536, .f32⟩
  | .hbm, ⟨27, _⟩ => ⟨S1x1024x1536, .f32⟩
  | .hbm, ⟨28, _⟩ => ⟨S1x1024x1536, .f32⟩
  | .hbm, ⟨29, _⟩ => ⟨S1x1024x1536, .f32⟩
  | .hbm, ⟨30, _⟩ => ⟨S4x1024x1536, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩

abbrev nD : Nat := 1
abbrev τ : Topo := Topo.v7x

variable {F : FTy → Type} [FloatOps F]
-- ==== WUpKernel.lean ====
abbrev S4096x1024 : Shape := ⟨2, ![4096, 1024]⟩
abbrev S4096x4096 : Shape := ⟨2, ![4096, 4096]⟩
abbrev S4x1024x1024 : Shape := ⟨3, ![4, 1024, 1024]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4x1024x1024, .f32⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1x1024x512, .f32⟩
  | .local _ .vmem, ⟨4, _⟩ => ⟨S1x1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WUpReferenceIdeal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x1024 : Shape := ⟨2, ![1024, 1024]⟩
abbrev S1x1024x1024 : Shape := ⟨3, ![1, 1024, 1024]⟩
abbrev S4x1024x1024 : Shape := ⟨3, ![4, 1024, 1024]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S_, .f32⟩
  | .hbm, ⟨3, _⟩ => ⟨S1024x4096, .f32⟩
  | .hbm, ⟨4, _⟩ => ⟨S4096x1024, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1x1024x1024, .f32⟩
  | .hbm, ⟨14, _⟩ => ⟨S1x1024x1024, .f32⟩
  | .hbm, ⟨15, _⟩ => ⟨S1x1024x1024, .f32⟩
  | .hbm, ⟨16, _⟩ => ⟨S1x1024x1024, .f32⟩
  | .hbm, ⟨17, _⟩ => ⟨S4x1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== WDownKernel.lean ====
abbrev S4096x4096 : Shape := ⟨2, ![4096, 4096]⟩
abbrev S4096x1024 : Shape := ⟨2, ![4096, 1024]⟩
abbrev S4096x512 : Shape := ⟨2, ![4096, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WDownReferenceIdeal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S_, .f32⟩
  | .hbm, ⟨3, _⟩ => ⟨S4096x1024, .f32⟩
  | .hbm, ⟨4, _⟩ => ⟨S4096x4096, .f32⟩
  | .hbm, ⟨5, _⟩ => ⟨S4096x1024, .f32⟩
  | .hbm, ⟨6, _⟩ => ⟨S4096x1024, .f32⟩
  | .hbm, ⟨7, _⟩ => ⟨S1024x4096, .f32⟩
  | .hbm, ⟨8, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== WGateKernel.lean ====
abbrev S4096x1024 : Shape := ⟨2, ![4096, 1024]⟩
abbrev S2x4096x1024 : Shape := ⟨3, ![2, 4096, 1024]⟩
abbrev S4x1024x512 : Shape := ⟨3, ![4, 1024, 512]⟩
abbrev S1x4096x512 : Shape := ⟨3, ![1, 4096, 512]⟩
abbrev S1x1024x512 : Shape := ⟨3, ![1, 1024, 512]⟩
abbrev S4096x512 : Shape := ⟨2, ![4096, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S2x4096x1024, .bf16⟩
  | .hbm, ⟨2, _⟩ => ⟨S4x1024x512, .f32⟩
  | .local _ .vmem, ⟨0, _⟩ => ⟨S4096x1024, .bf16⟩
  | .local _ .vmem, ⟨1, _⟩ => ⟨S1x4096x512, .bf16⟩
  | .local _ .vmem, ⟨2, _⟩ => ⟨S1x4096x512, .bf16⟩
  | .local _ .vmem, ⟨3, _⟩ => ⟨S1x1024x512, .f32⟩
  | .local _ .vmem, ⟨4, _⟩ => ⟨S1x1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c512_i32 : BitVec 32 := 512#32
  let v0 : BitVec 32 := Scalar.muli arg1 c512_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c512_i32_4 : BitVec 32 := 512#32
  let v18 : BitVec 32 := Scalar.muli arg1 c512_i32_4
  let c1024_i32_5 : BitVec 32 := 1024#32
  let c0_i32_6 : BitVec 32 := 0#32
  let v19 : BitVec 1 := Scalar.cmpi .eq c1024_i32_5 c0_i32_6
  let c1_i32_7 : BitVec 32 := 1#32
  let v20 : BitVec 32 := Scalar.select v19 c1_i32_7 c1024_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c512_i32_11 : BitVec 32 := 512#32
  let v29 : BitVec 32 := Scalar.divsi v28 c512_i32_11
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c0_i32_14 : BitVec 32 := 0#32
  let v35 : BitVec 1 := Scalar.cmpi .sgt c512_i32_11 c0_i32_14
  let v36 : BitVec 32 := Scalar.extui v35
  let c0_i32_15 : BitVec 32 := 0#32
  let v37 : BitVec 1 := Scalar.cmpi .slt c512_i32_11 c0_i32_15
  let v38 : BitVec 32 := Scalar.extui v37
  let v39 : BitVec 32 := Scalar.subi v36 v38
  let v40 : BitVec 1 := Scalar.cmpi .ne v34 v39
  let v41 : BitVec 32 := Scalar.remsi v28 c512_i32_11
  let c0_i32_16 : BitVec 32 := 0#32
  let v42 : BitVec 1 := Scalar.cmpi .ne v41 c0_i32_16
  let v43 : BitVec 1 := Scalar.andi v40 v42
  let c1_i32_17 : BitVec 32 := 1#32
  let v44 : BitVec 32 := Scalar.subi v29 c1_i32_17
  let v45 : BitVec 32 := Scalar.select v43 v44 v29
  let c0_i32_18 : BitVec 32 := 0#32
  ![v17.toNat, arg2.toNat, v45.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WGateReferenceIdeal.lean ====
abbrev S4096x1024 : Shape := ⟨2, ![4096, 1024]⟩
abbrev S2x4096x1024 : Shape := ⟨3, ![2, 4096, 1024]⟩
abbrev S1x4096x1024 : Shape := ⟨3, ![1, 4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩
abbrev S1024x512 : Shape := ⟨2, ![1024, 512]⟩
abbrev S1x1024x512 : Shape := ⟨3, ![1, 1024, 512]⟩
abbrev S4x1024x512 : Shape := ⟨3, ![4, 1024, 512]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x4096x1024, .bf16⟩
  | .hbm, ⟨2, _⟩ => ⟨S1x4096x1024, .bf16⟩
  | .hbm, ⟨3, _⟩ => ⟨S4096x1024, .bf16⟩
  | .hbm, ⟨4, _⟩ => ⟨S1x4096x1024, .bf16⟩
  | .hbm, ⟨5, _⟩ => ⟨S4096x1024, .bf16⟩
  | .hbm, ⟨6, _⟩ => ⟨S4096x2048, .bf16⟩
  | .hbm, ⟨7, _⟩ => ⟨S_, .f32⟩
  | .hbm, ⟨8, _⟩ => ⟨S1024x2048, .f32⟩
  | .hbm, ⟨9, _⟩ => ⟨S4096x1024, .f32⟩
  | .hbm, ⟨10, _⟩ => ⟨S4096x2048, .f32⟩
  | .hbm, ⟨11, _⟩ => ⟨S4096x2048, .f32⟩
  | .hbm, ⟨12, _⟩ => ⟨S2048x1024, .f32⟩
  | .hbm, ⟨13, _⟩ => ⟨S1024x2048, .f32⟩
  | .hbm, ⟨14, _⟩ => ⟨S1024x512, .f32⟩
  | .hbm, ⟨15, _⟩ => ⟨S1024x512, .f32⟩
  | .hbm, ⟨16, _⟩ => ⟨S1024x512, .f32⟩
  | .hbm, ⟨17, _⟩ => ⟨S1024x512, .f32⟩
  | .hbm, ⟨18, _⟩ => ⟨S1x1024x512, .f32⟩
  | .hbm, ⟨19, _⟩ => ⟨S1x1024x512, .f32⟩
  | .hbm, ⟨20, _⟩ => ⟨S1x1024x512, .f32⟩
  | .hbm, ⟨21, _⟩ => ⟨S1x1024x512, .f32⟩
  | .hbm, ⟨22, _⟩ => ⟨S4x1024x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩

abbrev nD : Nat := 1
abbrev τ : Topo := Topo.v7x

variable {F : FTy → Type} [FloatOps F]
-- ==== WOutKernel.lean ====
abbrev S4096x1024 : Shape := ⟨2, ![4096, 1024]⟩
abbrev S1024x1024 : Shape := ⟨2, ![1024, 1024]⟩
abbrev S4096x512 : Shape := ⟨2, ![4096, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .f32⟩
  | .local _ .vmem, ⟨4, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WOutReferenceIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== BranchKernel.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchReferenceIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MergeKernel.lean ====
abbrev S4096x1024 : Shape := ⟨2, ![4096, 1024]⟩
abbrev S1024x1024 : Shape := ⟨2, ![1024, 1024]⟩
abbrev S4096x2048 : Shape := ⟨2, ![4096, 2048]⟩
abbrev S_ : Shape := ⟨0, ![]⟩
abbrev S2x4096x1024 : Shape := ⟨3, ![2, 4096, 1024]⟩
abbrev S2x1024x1024 : Shape := ⟨3, ![2, 1024, 1024]⟩
abbrev S1x1024x1024 : Shape := ⟨3, ![1, 1024, 1024]⟩

abbrev nBuf : Space → Nat
  | .hbm => 17
  | .vmem => 17
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .hbm, ⟨3, _⟩ => ⟨S4096x1024, .bf16⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S4096x2048, .bf16⟩
  | .hbm, ⟨14, _⟩ => ⟨S4096x1024, .bf16⟩
  | .hbm, ⟨15, _⟩ => ⟨S4096x1024, .bf16⟩
  | .hbm, ⟨16, _⟩ => ⟨S2x4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S2x1024x1024, .bf16⟩
  | .local _ .vmem, ⟨16, _⟩ => ⟨S2x1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S2x1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== MergeReferenceIdeal.lean ====
abbrev S4096x1024 : Shape := ⟨2, ![4096, 1024]⟩
abbrev S1024x1024 : Shape := ⟨2, ![1024, 1024]⟩
abbrev S4096x2048 : Shape := ⟨2, ![4096, 2048]⟩
abbrev S_ : Shape := ⟨0, ![]⟩
abbrev S1x4096x1024 : Shape := ⟨3, ![1, 4096, 1024]⟩
abbrev S2x4096x1024 : Shape := ⟨3, ![2, 4096, 1024]⟩

abbrev nBuf : Space → Nat
  | .hbm => 42
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .hbm, ⟨3, _⟩ => ⟨S4096x1024, .bf16⟩
  | .hbm, ⟨4, _⟩ => ⟨S4096x2048, .f32⟩
  | .hbm, ⟨5, _⟩ => ⟨S4096x1024, .f32⟩
  | .hbm, ⟨6, _⟩ => ⟨S4096x1024, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S1024x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x2048, .f32⟩
  | .hbm, ⟨33, _⟩ => ⟨S4096x2048, .f32⟩
  | .hbm, ⟨34, _⟩ => ⟨S4096x1024, .bf16⟩
  | .hbm, ⟨35, _⟩ => ⟨S4096x1024, .bf16⟩
  | .hbm, ⟨36, _⟩ => ⟨S4096x1024, .f32⟩
  | .hbm, ⟨37, _⟩ => ⟨S4096x1024, .f32⟩
  | .hbm, ⟨38, _⟩ => ⟨S1x4096x1024, .f32⟩
  | .hbm, ⟨39, _⟩ => ⟨S1x4096x1024, .f32⟩
  | .hbm, ⟨40, _⟩ => ⟨S2x4096x1024, .f32⟩
  | .hbm, ⟨41, _⟩ => ⟨S2x4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩

abbrev nD : Nat := 1
abbrev τ : Topo := Topo.v7x

variable {F : FTy → Type} [FloatOps F]
-- ==== UpKernel.lean ====
abbrev S4096x1024 : Shape := ⟨2, ![4096, 1024]⟩
abbrev S4x1024x1024 : Shape := ⟨3, ![4, 1024, 1024]⟩
abbrev S4096x4096 : Shape := ⟨2, ![4096, 4096]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x1024x1024, .bf16⟩
  | .hbm, ⟨2, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S2048x1024, .bf16⟩
  | .local _ .vmem, ⟨5, _⟩ => ⟨S2048x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c1_i32 : BitVec 32 := 1#32
  let v1 : BitVec 32 := Scalar.divsi v0 c1_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi v0 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c0_i32_6 : BitVec 32 := 0#32
  let v18 : BitVec 32 := Scalar.addi arg1 c0_i32_6
  let c1_i32_7 : BitVec 32 := 1#32
  let c0_i32_8 : BitVec 32 := 0#32
  let v19 : BitVec 1 := Scalar.cmpi .eq c1_i32_7 c0_i32_8
  let c1_i32_9 : BitVec 32 := 1#32
  let v20 : BitVec 32 := Scalar.select v19 c1_i32_9 c1_i32_7
  let v21 : BitVec 32 := Scalar.remsi v18 v20
  let c0_i32_10 : BitVec 32 := 0#32
  let v22 : BitVec 1 := Scalar.cmpi .ne v21 c0_i32_10
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let v26 : BitVec 1 := Scalar.andi v25 v22
  let v27 : BitVec 32 := Scalar.addi v21 v20
  let v28 : BitVec 32 := Scalar.select v26 v27 v21
  let c0_i32_13 : BitVec 32 := 0#32
  ![v17.toNat, arg2.toNat, v28.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpReferenceIdeal.lean ====
abbrev S4096x1024 : Shape := ⟨2, ![4096, 1024]⟩
abbrev S4x1024x1024 : Shape := ⟨3, ![4, 1024, 1024]⟩
abbrev S1x1024x1024 : Shape := ⟨3, ![1, 1024, 1024]⟩
abbrev S1024x1024 : Shape := ⟨2, ![1024, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x1024, .bf16⟩
  | .hbm, ⟨2, _⟩ => ⟨S1x1024x1024, .bf16⟩
  | .hbm, ⟨3, _⟩ => ⟨S1024x1024, .bf16⟩
  | .hbm, ⟨4, _⟩ => ⟨S1x1024x1024, .bf16⟩
  | .hbm, ⟨5, _⟩ => ⟨S1024x1024, .bf16⟩
  | .hbm, ⟨6, _⟩ => ⟨S1x1024x1024, .bf16⟩
  | .hbm, ⟨7, _⟩ => ⟨S1024x1024, .bf16⟩
  | .hbm, ⟨8, _⟩ => ⟨S1x1024x1024, .bf16⟩
  | .hbm, ⟨9, _⟩ => ⟨S1024x1024, .bf16⟩
  | .hbm, ⟨10, _⟩ => ⟨S1024x4096, .bf16⟩
  | .hbm, ⟨11, _⟩ => ⟨S1024x4096, .f32⟩
  | .hbm, ⟨12, _⟩ => ⟨S4096x1024, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_call0_cst : Ref sig .tc := ⟨.hbm, 14, rfl⟩
abbrev main_call0_v0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== DownKernel.lean ====
abbrev S4096x4096 : Shape := ⟨2, ![4096, 4096]⟩
abbrev S4096x1024 : Shape := ⟨2, ![4096, 1024]⟩
abbrev S64x128 : Shape := ⟨2, ![64, 128]⟩
abbrev S512x4096 : Shape := ⟨2, ![512, 4096]⟩
abbrev S512x1024 : Shape := ⟨2, ![512, 1024]⟩
abbrev S8x128 : Shape := ⟨2, ![8, 128]⟩
abbrev S512x128 : Shape := ⟨2, ![512, 128]⟩
abbrev S64x8x128 : Shape := ⟨3, ![64, 8, 128]⟩

abbrev nBuf : Space → Nat
  | .hbm => 6
  | .vmem => 11
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S4096x1024, .bf16⟩
  | .hbm, ⟨5, _⟩ => ⟨S64x128, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S8x128, .f32⟩
  | .local _ .vmem, ⟨10, _⟩ => ⟨S8x128, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]
-- ==== DownReferenceIdeal.lean ====
abbrev S4096x4096 : Shape := ⟨2, ![4096, 4096]⟩
abbrev S4096x1024 : Shape := ⟨2, ![4096, 1024]⟩
abbrev S_ : Shape := ⟨0, ![]⟩
abbrev S4096 : Shape := ⟨1, ![4096]⟩
abbrev S8x64x8x8x128 : Shape := ⟨5, ![8, 64, 8, 8, 128]⟩
abbrev S8x64x8x128 : Shape := ⟨4, ![8, 64, 8, 128]⟩
abbrev S8x8x128 : Shape := ⟨3, ![8, 8, 128]⟩
abbrev S64x128 : Shape := ⟨2, ![64, 128]⟩

abbrev nBuf : Space → Nat
  | .hbm => 40
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x4096, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4096, .f32⟩
  | .hbm, ⟨26, _⟩ => ⟨S_, .f32⟩
  | .hbm, ⟨27, _⟩ => ⟨S4096, .f32⟩
  | .hbm, ⟨28, _⟩ => ⟨S4096, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S8x64x8x8x128, .f32⟩
  | .hbm, ⟨34, _⟩ => ⟨S_, .f32⟩
  | .hbm, ⟨35, _⟩ => ⟨S8x64x8x128, .f32⟩
  | .hbm, ⟨36, _⟩ => ⟨S_, .f32⟩
  | .hbm, ⟨37, _⟩ => ⟨S8x8x128, .f32⟩
  | .hbm, ⟨38, _⟩ => ⟨S64x128, .f32⟩
  | .hbm, ⟨39, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_cst_4 : Ref sig .tc := ⟨.hbm, 22, rfl⟩
abbrev main_cst_5 : Ref sig .tc := ⟨.hbm, 23, rfl⟩
abbrev main_v13 : Ref sig .tc := ⟨.hbm, 24, rfl⟩
abbrev main_v14 : Ref sig .tc := ⟨.hbm, 25, rfl⟩
abbrev main_cst_6 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== ConvInKernel.lean ====
abbrev S4096x1024 : Shape := ⟨2, ![4096, 1024]⟩
abbrev S4x1024x1536 : Shape := ⟨3, ![4, 1024, 1536]⟩
abbrev S4096x3072 : Shape := ⟨2, ![4096, 3072]⟩
abbrev S2048x1024 : Shape := ⟨2, ![2048, 1024]⟩
abbrev S1x1024x1536 : Shape := ⟨3, ![1, 1024, 1536]⟩
abbrev S2048x1536 : Shape := ⟨2, ![2048, 1536]⟩
abbrev S1024x1536 : Shape := ⟨2, ![1024, 1536]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x1024x1536, .bf16⟩
  | .hbm, ⟨2, _⟩ => ⟨S4096x3072, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1536, .bf16⟩
  | .local _ .vmem, ⟨3, _⟩ => ⟨S1x1024x1536, .bf16⟩
  | .local _ .vmem, ⟨4, _⟩ => ⟨S2048x1536, .bf16⟩
  | .local _ .vmem, ⟨5, _⟩ => ⟨S2048x1536, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg1 c2_i32
  let c1_i32 : BitVec 32 := 1#32
  let v1 : BitVec 32 := Scalar.divsi v0 c1_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1_i32 c0_i32_1
  let v8 : BitVec 32 := Scalar.extui v7
  let c0_i32_2 : BitVec 32 := 0#32
  let v9 : BitVec 1 := Scalar.cmpi .slt c1_i32 c0_i32_2
  let v10 : BitVec 32 := Scalar.extui v9
  let v11 : BitVec 32 := Scalar.subi v8 v10
  let v12 : BitVec 1 := Scalar.cmpi .ne v6 v11
  let v13 : BitVec 32 := Scalar.remsi v0 c1_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c2_i32_5 : BitVec 32 := 2#32
  let v18 : BitVec 32 := Scalar.addi arg1 c2_i32_5
  let c1_i32_6 : BitVec 32 := 1#32
  let c0_i32_7 : BitVec 32 := 0#32
  let v19 : BitVec 1 := Scalar.cmpi .eq c1_i32_6 c0_i32_7
  let c1_i32_8 : BitVec 32 := 1#32
  let v20 : BitVec 32 := Scalar.select v19 c1_i32_8 c1_i32_6
  let v21 : BitVec 32 := Scalar.remsi v18 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  ![v17.toNat, arg2.toNat, v28.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ConvInReferenceIdeal.lean ====
abbrev S4096x1024 : Shape := ⟨2, ![4096, 1024]⟩
abbrev S4x1024x1536 : Shape := ⟨3, ![4, 1024, 1536]⟩
abbrev S1x1024x1536 : Shape := ⟨3, ![1, 1024, 1536]⟩
abbrev S1024x1536 : Shape := ⟨2, ![1024, 1536]⟩
abbrev S1024x6144 : Shape := ⟨2, ![1024, 6144]⟩
abbrev S4096x6144 : Shape := ⟨2, ![4096, 6144]⟩
abbrev S4096x3072 : Shape := ⟨2, ![4096, 3072]⟩

abbrev nBuf : Space → Nat
  | .hbm => 16
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x1536, .bf16⟩
  | .hbm, ⟨2, _⟩ => ⟨S1x1024x1536, .bf16⟩
  | .hbm, ⟨3, _⟩ => ⟨S1024x1536, .bf16⟩
  | .hbm, ⟨4, _⟩ => ⟨S1x1024x1536, .bf16⟩
  | .hbm, ⟨5, _⟩ => ⟨S1024x1536, .bf16⟩
  | .hbm, ⟨6, _⟩ => ⟨S1x1024x1536, .bf16⟩
  | .hbm, ⟨7, _⟩ => ⟨S1024x1536, .bf16⟩
  | .hbm, ⟨8, _⟩ => ⟨S1x1024x1536, .bf16⟩
  | .hbm, ⟨9, _⟩ => ⟨S1024x1536, .bf16⟩
  | .hbm, ⟨10, _⟩ => ⟨S1024x6144, .bf16⟩
  | .hbm, ⟨11, _⟩ => ⟨S1024x6144, .f32⟩
  | .hbm, ⟨12, _⟩ => ⟨S4096x1024, .f32⟩
  | .hbm, ⟨13, _⟩ => ⟨S4096x6144, .f32⟩
  | .hbm, ⟨14, _⟩ => ⟨S4096x3072, .f32⟩
  | .hbm, ⟨15, _⟩ => ⟨S4096x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩

abbrev nD : Nat := 1
abbrev τ : Topo := Topo.v7x

variable {F : FTy → Type} [FloatOps F]
-- ==== VProjKernel.lean ====
abbrev S4096x1024 : Shape := ⟨2, ![4096, 1024]⟩
abbrev S4x1024x1536 : Shape := ⟨3, ![4, 1024, 1536]⟩
abbrev S2048x1024 : Shape := ⟨2, ![2048, 1024]⟩
abbrev S1x1024x512 : Shape := ⟨3, ![1, 1024, 512]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x1024x1536, .bf16⟩
  | .hbm, ⟨2, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S2048x512, .bf16⟩
  | .local _ .vmem, ⟨5, _⟩ => ⟨S2048x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg1 c4_i32
  let c3_i32 : BitVec 32 := 3#32
  let v1 : BitVec 32 := Scalar.divsi v0 c3_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c3_i32 c0_i32_1
  let v8 : BitVec 32 := Scalar.extui v7
  let c0_i32_2 : BitVec 32 := 0#32
  let v9 : BitVec 1 := Scalar.cmpi .slt c3_i32 c0_i32_2
  let v10 : BitVec 32 := Scalar.extui v9
  let v11 : BitVec 32 := Scalar.subi v8 v10
  let v12 : BitVec 1 := Scalar.cmpi .ne v6 v11
  let v13 : BitVec 32 := Scalar.remsi v0 c3_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let v18 : BitVec 32 := Scalar.addi arg1 c4_i32_4
  let c3_i32_5 : BitVec 32 := 3#32
  let c0_i32_6 : BitVec 32 := 0#32
  let v19 : BitVec 1 := Scalar.cmpi .eq c3_i32_5 c0_i32_6
  let c1_i32_7 : BitVec 32 := 1#32
  let v20 : BitVec 32 := Scalar.select v19 c1_i32_7 c3_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  ![v17.toNat, arg2.toNat, v28.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== VProjReferenceIdeal.lean ====
abbrev S4096x1024 : Shape := ⟨2, ![4096, 1024]⟩
abbrev S4x1024x1536 : Shape := ⟨3, ![4, 1024, 1536]⟩
abbrev S1x1024x1536 : Shape := ⟨3, ![1, 1024, 1536]⟩
abbrev S1024x1536 : Shape := ⟨2, ![1024, 1536]⟩
abbrev S1024x6144 : Shape := ⟨2, ![1024, 6144]⟩
abbrev S4096x6144 : Shape := ⟨2, ![4096, 6144]⟩

abbrev nBuf : Space → Nat
  | .hbm => 16
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x1536, .bf16⟩
  | .hbm, ⟨2, _⟩ => ⟨S1x1024x1536, .bf16⟩
  | .hbm, ⟨3, _⟩ => ⟨S1024x1536, .bf16⟩
  | .hbm, ⟨4, _⟩ => ⟨S1x1024x1536, .bf16⟩
  | .hbm, ⟨5, _⟩ => ⟨S1024x1536, .bf16⟩
  | .hbm, ⟨6, _⟩ => ⟨S1x1024x1536, .bf16⟩
  | .hbm, ⟨7, _⟩ => ⟨S1024x1536, .bf16⟩
  | .hbm, ⟨8, _⟩ => ⟨S1x1024x1536, .bf16⟩
  | .hbm, ⟨9, _⟩ => ⟨S1024x1536, .bf16⟩
  | .hbm, ⟨10, _⟩ => ⟨S1024x6144, .bf16⟩
  | .hbm, ⟨11, _⟩ => ⟨S1024x6144, .f32⟩
  | .hbm, ⟨12, _⟩ => ⟨S4096x1024, .f32⟩
  | .hbm, ⟨13, _⟩ => ⟨S4096x6144, .f32⟩
  | .hbm, ⟨14, _⟩ => ⟨S4096x1024, .f32⟩
  | .hbm, ⟨15, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩

abbrev nD : Nat := 1
abbrev τ : Topo := Topo.v7x

variable {F : FTy → Type} [FloatOps F]
-- ==== GatesKernel.lean ====
abbrev S4096x1024 : Shape := ⟨2, ![4096, 1024]⟩
abbrev S4x1024x512 : Shape := ⟨3, ![4, 1024, 512]⟩
abbrev S2048 : Shape := ⟨1, ![2048]⟩
abbrev S1x2048 : Shape := ⟨2, ![1, 2048]⟩
abbrev S4096x2048 : Shape := ⟨2, ![4096, 2048]⟩
abbrev S2048x1024 : Shape := ⟨2, ![2048, 1024]⟩
abbrev S1x1024x512 : Shape := ⟨3, ![1, 1024, 512]⟩
abbrev S1x512 : Shape := ⟨2, ![1, 512]⟩
abbrev S2048x512 : Shape := ⟨2, ![2048, 512]⟩
abbrev S1024x512 : Shape := ⟨2, ![1024, 512]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4x1024x512, .bf16⟩
  | .hbm, ⟨2, _⟩ => ⟨S2048, .f32⟩
  | .hbm, ⟨3, _⟩ => ⟨S1x2048, .f32⟩
  | .hbm, ⟨4, _⟩ => ⟨S4096x2048, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x512, .f32⟩
  | .local _ .vmem, ⟨5, _⟩ => ⟨S1x512, .f32⟩
  | .local _ .vmem, ⟨6, _⟩ => ⟨S2048x512, .bf16⟩
  | .local _ .vmem, ⟨7, _⟩ => ⟨S2048x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c1_i32 : BitVec 32 := 1#32
  let v1 : BitVec 32 := Scalar.divsi v0 c1_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi v0 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c0_i32_6 : BitVec 32 := 0#32
  let v18 : BitVec 32 := Scalar.addi arg1 c0_i32_6
  let c1_i32_7 : BitVec 32 := 1#32
  let c0_i32_8 : BitVec 32 := 0#32
  let v19 : BitVec 1 := Scalar.cmpi .eq c1_i32_7 c0_i32_8
  let c1_i32_9 : BitVec 32 := 1#32
  let v20 : BitVec 32 := Scalar.select v19 c1_i32_9 c1_i32_7
  let v21 : BitVec 32 := Scalar.remsi v18 v20
  let c0_i32_10 : BitVec 32 := 0#32
  let v22 : BitVec 1 := Scalar.cmpi .ne v21 c0_i32_10
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let v26 : BitVec 1 := Scalar.andi v25 v22
  let v27 : BitVec 32 := Scalar.addi v21 v20
  let v28 : BitVec 32 := Scalar.select v26 v27 v21
  let c0_i32_13 : BitVec 32 := 0#32
  ![v17.toNat, arg2.toNat, v28.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GatesReferenceIdeal.lean ====
abbrev S4096x1024 : Shape := ⟨2, ![4096, 1024]⟩
abbrev S4x1024x512 : Shape := ⟨3, ![4, 1024, 512]⟩
abbrev S2048 : Shape := ⟨1, ![2048]⟩
abbrev S1x1024x512 : Shape := ⟨3, ![1, 1024, 512]⟩
abbrev S1024x512 : Shape := ⟨2, ![1024, 512]⟩
abbrev S1024x2048 : Shape := ⟨2, ![1024, 2048]⟩
abbrev S4096x2048 : Shape := ⟨2, ![4096, 2048]⟩
abbrev S1x2048 : Shape := ⟨2, ![1, 2048]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x512, .bf16⟩
  | .hbm, ⟨2, _⟩ => ⟨S2048, .f32⟩
  | .hbm, ⟨3, _⟩ => ⟨S1x1024x512, .bf16⟩
  | .hbm, ⟨4, _⟩ => ⟨S1024x512, .bf16⟩
  | .hbm, ⟨5, _⟩ => ⟨S1x1024x512, .bf16⟩
  | .hbm, ⟨6, _⟩ => ⟨S1024x512, .bf16⟩
  | .hbm, ⟨7, _⟩ => ⟨S1x1024x512, .bf16⟩
  | .hbm, ⟨8, _⟩ => ⟨S1024x512, .bf16⟩
  | .hbm, ⟨9, _⟩ => ⟨S1x1024x512, .bf16⟩
  | .hbm, ⟨10, _⟩ => ⟨S1024x512, .bf16⟩
  | .hbm, ⟨11, _⟩ => ⟨S1024x2048, .bf16⟩
  | .hbm, ⟨12, _⟩ => ⟨S1024x2048, .f32⟩
  | .hbm, ⟨13, _⟩ => ⟨S4096x1024, .f32⟩
  | .hbm, ⟨14, _⟩ => ⟨S4096x2048, .f32⟩
  | .hbm, ⟨15, _⟩ => ⟨S1x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096x2048, .f32⟩
  | .hbm, ⟨25, _⟩ => ⟨S4096x2048, .f32⟩
  | .hbm, ⟨26, _⟩ => ⟨S4096x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst : Ref sig .tc := ⟨.hbm, 20, rfl⟩
abbrev main_v17 : Ref sig .tc := ⟨.hbm, 21, rfl⟩
abbrev main_v18 : Ref sig .tc := ⟨.hbm, 22, rfl⟩
abbrev main_cst_0 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩

abbrev nD : Nat := 1
abbrev τ : Topo := Topo.v7x

variable {F : FTy → Type} [FloatOps F]
-- ==== MixedKernel.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixedReferenceIdeal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S1024x1024, .f32⟩
  | .hbm, ⟨3, _⟩ => ⟨S4096x1024, .f32⟩
  | .hbm, ⟨4, _⟩ => ⟨S4096x1024, .f32⟩
  | .hbm, ⟨5, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MergedKernel.lean ====
abbrev S4096x1024 : Shape := ⟨2, ![4096, 1024]⟩
abbrev S1024x1024 : Shape := ⟨2, ![1024, 1024]⟩
abbrev S4096x2048 : Shape := ⟨2, ![4096, 2048]⟩

abbrev nBuf : Space → Nat
  | .hbm => 6
  | .vmem => 13
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .hbm, ⟨3, _⟩ => ⟨S4096x2048, .bf16⟩
  | .hbm, ⟨4, _⟩ => ⟨S4096x1024, .bf16⟩
  | .hbm, ⟨5, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== MergedReferenceIdeal.lean ====
abbrev S4096x1024 : Shape := ⟨2, ![4096, 1024]⟩
abbrev S1024x1024 : Shape := ⟨2, ![1024, 1024]⟩
abbrev S4096x2048 : Shape := ⟨2, ![4096, 2048]⟩

abbrev nBuf : Space → Nat
  | .hbm => 16
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .hbm, ⟨3, _⟩ => ⟨S4096x2048, .bf16⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x2048, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .bf16⟩
  | .hbm, ⟨15, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== ResidualKernel.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024, .f32⟩
  | .hbm, ⟨4, _⟩ => ⟨S1x1024, .f32⟩
  | .hbm, ⟨5, _⟩ => ⟨S4096x1024, .f32⟩
  | .hbm, ⟨6, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ResidualReferenceIdeal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== AdamInKernel.lean ====
abbrev S1024x1536 : Shape := ⟨2, ![1024, 1536]⟩
abbrev S256x1536 : Shape := ⟨2, ![256, 1536]⟩

abbrev nBuf : Space → Nat
  | .hbm => 7
  | .vmem => 14
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S1024x1536, .f32⟩
  | .hbm, ⟨5, _⟩ => ⟨S1024x1536, .f32⟩
  | .hbm, ⟨6, _⟩ => ⟨S1024x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInReferenceIdeal.lean ====
abbrev S1024x1536 : Shape := ⟨2, ![1024, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S_, .f32⟩
  | .hbm, ⟨5, _⟩ => ⟨S1024x1536, .f32⟩
  | .hbm, ⟨6, _⟩ => ⟨S1024x1536, .f32⟩
  | .hbm, ⟨7, _⟩ => ⟨S_, .f32⟩
  | .hbm, ⟨8, _⟩ => ⟨S1024x1536, .f32⟩
  | .hbm, ⟨9, _⟩ => ⟨S1024x1536, .f32⟩
  | .hbm, ⟨10, _⟩ => ⟨S1024x1536, .f32⟩
  | .hbm, ⟨11, _⟩ => ⟨S_, .f32⟩
  | .hbm, ⟨12, _⟩ => ⟨S1024x1536, .f32⟩
  | .hbm, ⟨13, _⟩ => ⟨S1024x1536, .f32⟩
  | .hbm, ⟨14, _⟩ => ⟨S1024x1536, .f32⟩
  | .hbm, ⟨15, _⟩ => ⟨S_, .f32⟩
  | .hbm, ⟨16, _⟩ => ⟨S1024x1536, .f32⟩
  | .hbm, ⟨17, _⟩ => ⟨S1024x1536, .f32⟩
  | .hbm, ⟨18, _⟩ => ⟨S1024x1536, .f32⟩
  | .hbm, ⟨19, _⟩ => ⟨S_, .f32⟩
  | .hbm, ⟨20, _⟩ => ⟨S1024x1536, .f32⟩
  | .hbm, ⟨21, _⟩ => ⟨S1024x1536, .f32⟩
  | .hbm, ⟨22, _⟩ => ⟨S_, .f32⟩
  | .hbm, ⟨23, _⟩ => ⟨S1024x1536, .f32⟩
  | .hbm, ⟨24, _⟩ => ⟨S1024x1536, .f32⟩
  | .hbm, ⟨25, _⟩ => ⟨S1024x1536, .f32⟩
  | .hbm, ⟨26, _⟩ => ⟨S_, .f32⟩
  | .hbm, ⟨27, _⟩ => ⟨S1024x1536, .f32⟩
  | .hbm, ⟨28, _⟩ => ⟨S1024x1536, .f32⟩
  | .hbm, ⟨29, _⟩ => ⟨S1024x1536, .f32⟩
  | .hbm, ⟨30, _⟩ => ⟨S_, .f32⟩
  | .hbm, ⟨31, _⟩ => ⟨S1024x1536, .f32⟩
  | .hbm, ⟨32, _⟩ => ⟨S1024x1536, .f32⟩
  | .hbm, ⟨33, _⟩ => ⟨S1024x1536, .f32⟩
  | .hbm, ⟨34, _⟩ => ⟨S_, .f32⟩
  | .hbm, ⟨35, _⟩ => ⟨S1024x1536, .f32⟩
  | .hbm, ⟨36, _⟩ => ⟨S1024x1536, .f32⟩
  | _, _ => ⟨S1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGateKernel.lean ====
abbrev S1024x512 : Shape := ⟨2, ![1024, 512]⟩
abbrev S256x512 : Shape := ⟨2, ![256, 512]⟩

abbrev nBuf : Space → Nat
  | .hbm => 7
  | .vmem => 14
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamGateReferenceIdeal.lean ====
abbrev S1024x512 : Shape := ⟨2, ![1024, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S_, .f32⟩
  | .hbm, ⟨5, _⟩ => ⟨S1024x512, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S_, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S_, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S1024x512, .f32⟩
  | .hbm, ⟨26, _⟩ => ⟨S_, .f32⟩
  | .hbm, ⟨27, _⟩ => ⟨S1024x512, .f32⟩
  | .hbm, ⟨28, _⟩ => ⟨S1024x512, .f32⟩
  | .hbm, ⟨29, _⟩ => ⟨S1024x512, .f32⟩
  | .hbm, ⟨30, _⟩ => ⟨S_, .f32⟩
  | .hbm, ⟨31, _⟩ => ⟨S1024x512, .f32⟩
  | .hbm, ⟨32, _⟩ => ⟨S1024x512, .f32⟩
  | .hbm, ⟨33, _⟩ => ⟨S1024x512, .f32⟩
  | .hbm, ⟨34, _⟩ => ⟨S_, .f32⟩
  | .hbm, ⟨35, _⟩ => ⟨S1024x512, .f32⟩
  | .hbm, ⟨36, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamMlpKernel.lean ====
abbrev S1024x1024 : Shape := ⟨2, ![1024, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamMlpReferenceIdeal.lean ====
abbrev S1024x1024 : Shape := ⟨2, ![1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024x1024, .f32⟩
  | .hbm, ⟨36, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSquareKernel.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSquareReferenceIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmallKernel.lean ====
abbrev S1024 : Shape := ⟨1, ![1024]⟩
abbrev S2048 : Shape := ⟨1, ![2048]⟩
abbrev S3x256 : Shape := ⟨2, ![3, 256]⟩
abbrev S64 : Shape := ⟨1, ![64]⟩
abbrev S16x513 : Shape := ⟨2, ![16, 513]⟩
abbrev S_ : Shape := ⟨0, ![]⟩
abbrev S32x1024 : Shape := ⟨2, ![32, 1024]⟩
abbrev S2x1024 : Shape := ⟨2, ![2, 1024]⟩
abbrev S1x1024 : Shape := ⟨2, ![1, 1024]⟩
abbrev S1 : Shape := ⟨1, ![1]⟩
abbrev S2 : Shape := ⟨1, ![2]⟩
abbrev S1x64 : Shape := ⟨2, ![1, 64]⟩

abbrev nBuf : Space → Nat
  | .hbm => 253
  | .vmem => 7
  | .smem => 0
  | _ => 0

abbrev hbmTy0_0 (i : Nat) : BufTy := match i % 128 with
  | 0 => ⟨S1024, .f32⟩
  | 1 => ⟨S1024, .f32⟩
  | 2 => ⟨S1024, .f32⟩
  | 3 => ⟨S2048, .f32⟩
  | 4 => ⟨S3x256, .f32⟩
  | 5 => ⟨S64, .f32⟩
  | 6 => ⟨S64, .f32⟩
  | 7 => ⟨S16x513, .f32⟩
  | 8 => ⟨S1024, .f32⟩
  | 9 => ⟨S1024, .f32⟩
  | 10 => ⟨S1024, .f32⟩
  | 11 => ⟨S2048, .f32⟩
  | 12 => ⟨S3x256, .f32⟩
  | 13 => ⟨S64, .f32⟩
  | 14 => ⟨S64, .f32⟩
  | 15 => ⟨S16x513, .f32⟩
  | 16 => ⟨S1024, .f32⟩
  | 17 => ⟨S1024, .f32⟩
  | 18 => ⟨S1024, .f32⟩
  | 19 => ⟨S2048, .f32⟩
  | 20 => ⟨S3x256, .f32⟩
  | 21 => ⟨S64, .f32⟩
  | 22 => ⟨S64, .f32⟩
  | 23 => ⟨S16x513, .f32⟩
  | 24 => ⟨S1024, .f32⟩
  | 25 => ⟨S1024, .f32⟩
  | 26 => ⟨S1024, .f32⟩
  | 27 => ⟨S2048, .f32⟩
  | 28 => ⟨S3x256, .f32⟩
  | 29 => ⟨S64, .f32⟩
  | 30 => ⟨S64, .f32⟩
  | 31 => ⟨S16x513, .f32⟩
  | 32 => ⟨S_, .f32⟩
  | 33 => ⟨S32x1024, .f32⟩
  | 34 => ⟨S2x1024, .f32⟩
  | 35 => ⟨S1x1024, .f32⟩
  | 36 => ⟨S_, .i32⟩
  | 37 => ⟨S1, .i32⟩
  | 38 => ⟨S32x1024, .f32⟩
  | 39 => ⟨S1x1024, .f32⟩
  | 40 => ⟨S_, .i32⟩
  | 41 => ⟨S1, .i32⟩
  | 42 => ⟨S32x1024, .f32⟩
  | 43 => ⟨S1x1024, .f32⟩
  | 44 => ⟨S_, .i32⟩
  | 45 => ⟨S1, .i32⟩
  | 46 => ⟨S32x1024, .f32⟩
  | 47 => ⟨S_, .i32⟩
  | 48 => ⟨S1, .i32⟩
  | 49 => ⟨S32x1024, .f32⟩
  | 50 => ⟨S_, .i32⟩
  | 51 => ⟨S1, .i32⟩
  | 52 => ⟨S_, .i32⟩
  | 53 => ⟨S1, .i32⟩
  | 54 => ⟨S2, .i32⟩
  | 55 => ⟨S32x1024, .f32⟩
  | 56 => ⟨S1x64, .f32⟩
  | 57 => ⟨S_, .i32⟩
  | 58 => ⟨S1, .i32⟩
  | 59 => ⟨S_, .i32⟩
  | 60 => ⟨S1, .i32⟩
  | 61 => ⟨S2, .i32⟩
  | 62 => ⟨S32x1024, .f32⟩
  | 63 => ⟨S1x64, .f32⟩
  | 64 => ⟨S_, .i32⟩
  | 65 => ⟨S1, .i32⟩
  | 66 => ⟨S_, .i32⟩
  | 67 => ⟨S1, .i32⟩
  | 68 => ⟨S2, .i32⟩
  | 69 => ⟨S32x1024, .f32⟩
  | 70 => ⟨S_, .i32⟩
  | 71 => ⟨S1, .i32⟩
  | 72 => ⟨S_, .i32⟩
  | 73 => ⟨S1, .i32⟩
  | 74 => ⟨S2, .i32⟩
  | 75 => ⟨S32x1024, .f32⟩
  | 76 => ⟨S_, .f32⟩
  | 77 => ⟨S32x1024, .f32⟩
  | 78 => ⟨S2x1024, .f32⟩
  | 79 => ⟨S1x1024, .f32⟩
  | 80 => ⟨S_, .i32⟩
  | 81 => ⟨S1, .i32⟩
  | 82 => ⟨S32x1024, .f32⟩
  | 83 => ⟨S1x1024, .f32⟩
  | 84 => ⟨S_, .i32⟩
  | 85 => ⟨S1, .i32⟩
  | 86 => ⟨S32x1024, .f32⟩
  | 87 => ⟨S1x1024, .f32⟩
  | 88 => ⟨S_, .i32⟩
  | 89 => ⟨S1, .i32⟩
  | 90 => ⟨S32x1024, .f32⟩
  | 91 => ⟨S_, .i32⟩
  | 92 => ⟨S1, .i32⟩
  | 93 => ⟨S32x1024, .f32⟩
  | 94 => ⟨S_, .i32⟩
  | 95 => ⟨S1, .i32⟩
  | 96 => ⟨S_, .i32⟩
  | 97 => ⟨S1, .i32⟩
  | 98 => ⟨S2, .i32⟩
  | 99 => ⟨S32x1024, .f32⟩
  | 100 => ⟨S1x64, .f32⟩
  | 101 => ⟨S_, .i32⟩
  | 102 => ⟨S1, .i32⟩
  | 103 => ⟨S_, .i32⟩
  | 104 => ⟨S1, .i32⟩
  | 105 => ⟨S2, .i32⟩
  | 106 => ⟨S32x1024, .f32⟩
  | 107 => ⟨S1x64, .f32⟩
  | 108 => ⟨S_, .i32⟩
  | 109 => ⟨S1, .i32⟩
  | 110 => ⟨S_, .i32⟩
  | 111 => ⟨S1, .i32⟩
  | 112 => ⟨S2, .i32⟩
  | 113 => ⟨S32x1024, .f32⟩
  | 114 => ⟨S_, .i32⟩
  | 115 => ⟨S1, .i32⟩
  | 116 => ⟨S_, .i32⟩
  | 117 => ⟨S1, .i32⟩
  | 118 => ⟨S2, .i32⟩
  | 119 => ⟨S32x1024, .f32⟩
  | 120 => ⟨S_, .f32⟩
  | 121 => ⟨S32x1024, .f32⟩
  | 122 => ⟨S2x1024, .f32⟩
  | 123 => ⟨S1x1024, .f32⟩
  | 124 => ⟨S_, .i32⟩
  | 125 => ⟨S1, .i32⟩
  | 126 => ⟨S32x1024, .f32⟩
  | 127 => ⟨S1x1024, .f32⟩
  | _ => ⟨S1024, .f32⟩

abbrev hbmTy0_1 (i : Nat) : BufTy := match i % 128 with
  | 0 => ⟨S_, .i32⟩
  | 1 => ⟨S1, .i32⟩
  | 2 => ⟨S32x1024, .f32⟩
  | 3 => ⟨S1x1024, .f32⟩
  | 4 => ⟨S_, .i32⟩
  | 5 => ⟨S1, .i32⟩
  | 6 => ⟨S32x1024, .f32⟩
  | 7 => ⟨S_, .i32⟩
  | 8 => ⟨S1, .i32⟩
  | 9 => ⟨S32x1024, .f32⟩
  | 10 => ⟨S_, .i32⟩
  | 11 => ⟨S1, .i32⟩
  | 12 => ⟨S_, .i32⟩
  | 13 => ⟨S1, .i32⟩
  | 14 => ⟨S2, .i32⟩
  | 15 => ⟨S32x1024, .f32⟩
  | 16 => ⟨S1x64, .f32⟩
  | 17 => ⟨S_, .i32⟩
  | 18 => ⟨S1, .i32⟩
  | 19 => ⟨S_, .i32⟩
  | 20 => ⟨S1, .i32⟩
  | 21 => ⟨S2, .i32⟩
  | 22 => ⟨S32x1024, .f32⟩
  | 23 => ⟨S1x64, .f32⟩
  | 24 => ⟨S_, .i32⟩
  | 25 => ⟨S1, .i32⟩
  | 26 => ⟨S_, .i32⟩
  | 27 => ⟨S1, .i32⟩
  | 28 => ⟨S2, .i32⟩
  | 29 => ⟨S32x1024, .f32⟩
  | 30 => ⟨S_, .i32⟩
  | 31 => ⟨S1, .i32⟩
  | 32 => ⟨S_, .i32⟩
  | 33 => ⟨S1, .i32⟩
  | 34 => ⟨S2, .i32⟩
  | 35 => ⟨S32x1024, .f32⟩
  | 36 => ⟨S_, .f32⟩
  | 37 => ⟨S32x1024, .f32⟩
  | 38 => ⟨S2x1024, .f32⟩
  | 39 => ⟨S1x1024, .f32⟩
  | 40 => ⟨S_, .i32⟩
  | 41 => ⟨S1, .i32⟩
  | 42 => ⟨S32x1024, .f32⟩
  | 43 => ⟨S1x1024, .f32⟩
  | 44 => ⟨S_, .i32⟩
  | 45 => ⟨S1, .i32⟩
  | 46 => ⟨S32x1024, .f32⟩
  | 47 => ⟨S1x1024, .f32⟩
  | 48 => ⟨S_, .i32⟩
  | 49 => ⟨S1, .i32⟩
  | 50 => ⟨S32x1024, .f32⟩
  | 51 => ⟨S_, .i32⟩
  | 52 => ⟨S1, .i32⟩
  | 53 => ⟨S32x1024, .f32⟩
  | 54 => ⟨S_, .i32⟩
  | 55 => ⟨S1, .i32⟩
  | 56 => ⟨S_, .i32⟩
  | 57 => ⟨S1, .i32⟩
  | 58 => ⟨S2, .i32⟩
  | 59 => ⟨S32x1024, .f32⟩
  | 60 => ⟨S1x64, .f32⟩
  | 61 => ⟨S_, .i32⟩
  | 62 => ⟨S1, .i32⟩
  | 63 => ⟨S_, .i32⟩
  | 64 => ⟨S1, .i32⟩
  | 65 => ⟨S2, .i32⟩
  | 66 => ⟨S32x1024, .f32⟩
  | 67 => ⟨S1x64, .f32⟩
  | 68 => ⟨S_, .i32⟩
  | 69 => ⟨S1, .i32⟩
  | 70 => ⟨S_, .i32⟩
  | 71 => ⟨S1, .i32⟩
  | 72 => ⟨S2, .i32⟩
  | 73 => ⟨S32x1024, .f32⟩
  | 74 => ⟨S_, .i32⟩
  | 75 => ⟨S1, .i32⟩
  | 76 => ⟨S_, .i32⟩
  | 77 => ⟨S1, .i32⟩
  | 78 => ⟨S2, .i32⟩
  | 79 => ⟨S32x1024, .f32⟩
  | 80 => ⟨S32x1024, .f32⟩
  | 81 => ⟨S32x1024, .f32⟩
  | 82 => ⟨S32x1024, .f32⟩
  | 83 => ⟨S1x1024, .f32⟩
  | 84 => ⟨S1024, .f32⟩
  | 85 => ⟨S1x1024, .f32⟩
  | 86 => ⟨S1024, .f32⟩
  | 87 => ⟨S1x1024, .f32⟩
  | 88 => ⟨S1024, .f32⟩
  | 89 => ⟨S2x1024, .f32⟩
  | 90 => ⟨S2048, .f32⟩
  | 91 => ⟨S3x256, .f32⟩
  | 92 => ⟨S1x64, .f32⟩
  | 93 => ⟨S64, .f32⟩
  | 94 => ⟨S1x64, .f32⟩
  | 95 => ⟨S64, .f32⟩
  | 96 => ⟨S16x513, .f32⟩
  | 97 => ⟨S1x1024, .f32⟩
  | 98 => ⟨S1024, .f32⟩
  | 99 => ⟨S1x1024, .f32⟩
  | 100 => ⟨S1024, .f32⟩
  | 101 => ⟨S1x1024, .f32⟩
  | 102 => ⟨S1024, .f32⟩
  | 103 => ⟨S2x1024, .f32⟩
  | 104 => ⟨S2048, .f32⟩
  | 105 => ⟨S3x256, .f32⟩
  | 106 => ⟨S1x64, .f32⟩
  | 107 => ⟨S64, .f32⟩
  | 108 => ⟨S1x64, .f32⟩
  | 109 => ⟨S64, .f32⟩
  | 110 => ⟨S16x513, .f32⟩
  | 111 => ⟨S1x1024, .f32⟩
  | 112 => ⟨S1024, .f32⟩
  | 113 => ⟨S1x1024, .f32⟩
  | 114 => ⟨S1024, .f32⟩
  | 115 => ⟨S1x1024, .f32⟩
  | 116 => ⟨S1024, .f32⟩
  | 117 => ⟨S2x1024, .f32⟩
  | 118 => ⟨S2048, .f32⟩
  | 119 => ⟨S3x256, .f32⟩
  | 120 => ⟨S1x64, .f32⟩
  | 121 => ⟨S64, .f32⟩
  | 122 => ⟨S1x64, .f32⟩
  | 123 => ⟨S64, .f32⟩
  | 124 => ⟨S16x513, .f32⟩
  | _ => ⟨S1024, .f32⟩

abbrev hbmTy (i : Nat) : BufTy := match i / 128 with
  | 0 => hbmTy0_0 i
  | 1 => hbmTy0_1 i
  | _ => ⟨S1024, .f32⟩

abbrev bufTy : (tb : Table) → Fin (tcTables nBuf tb) → BufTy
  | .hbm, ⟨i, _⟩ => hbmTy i
  | .local _ .vmem, ⟨0, _⟩ => ⟨S32x1024, .f32⟩
  | .local _ .vmem, ⟨1, _⟩ => ⟨S32x1024, .f32⟩
  | .local _ .vmem, ⟨2, _⟩ => ⟨S32x1024, .f32⟩
  | .local _ .vmem, ⟨3, _⟩ => ⟨S32x1024, .f32⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_cst : Ref sig .tc := ⟨.hbm, 32, rfl⟩
abbrev main_v0 : Ref sig .tc := ⟨.hbm, 33, rfl⟩
abbrev main_v1 : Ref sig .tc := ⟨.hbm, 34, rfl⟩
abbrev main_v2 : Ref sig .tc := ⟨.hbm, 35, rfl⟩
abbrev main_c : Ref sig .tc := ⟨.hbm, 36, rfl⟩
abbrev main_v3 : Ref sig .tc := ⟨.hbm, 37, rfl⟩
abbrev main_v4 : Ref sig .tc := ⟨.hbm, 38, rfl⟩
abbrev main_v5 : Ref sig .tc := ⟨.hbm, 39, rfl⟩
abbrev main_c_0 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_c_1 : Ref sig .tc := ⟨.hbm, 44, rfl⟩
abbrev main_v9 : Ref sig .tc := ⟨.hbm, 45, rfl⟩
abbrev main_v10 : Ref sig .tc := ⟨.hbm, 46, rfl⟩
abbrev main_c_2 : Ref sig .tc := ⟨.hbm, 47, rfl⟩
abbrev main_v11 : Ref sig .tc := ⟨.hbm, 48, rfl⟩
abbrev main_v12 : Ref sig .tc := ⟨.hbm, 49, rfl⟩
abbrev main_c_3 : Ref sig .tc := ⟨.hbm, 50, rfl⟩
abbrev main_v13 : Ref sig .tc := ⟨.hbm, 51, rfl⟩
abbrev main_c_4 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_c_5 : Ref sig .tc := ⟨.hbm, 57, rfl⟩
abbrev main_v18 : Ref sig .tc := ⟨.hbm, 58, rfl⟩
abbrev main_c_6 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_c_7 : Ref sig .tc := ⟨.hbm, 64, rfl⟩
abbrev main_v23 : Ref sig .tc := ⟨.hbm, 65, rfl⟩
abbrev main_c_8 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_c_9 : Ref sig .tc := ⟨.hbm, 70, rfl⟩
abbrev main_v27 : Ref sig .tc := ⟨.hbm, 71, rfl⟩
abbrev main_c_10 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_cst_11 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_c_12 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_c_13 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_c_14 : Ref sig .tc := ⟨.hbm, 88, rfl⟩
abbrev main_v40 : Ref sig .tc := ⟨.hbm, 89, rfl⟩
abbrev main_v41 : Ref sig .tc := ⟨.hbm, 90, rfl⟩
abbrev main_c_15 : Ref sig .tc := ⟨.hbm, 91, rfl⟩
abbrev main_v42 : Ref sig .tc := ⟨.hbm, 92, rfl⟩
abbrev main_v43 : Ref sig .tc := ⟨.hbm, 93, rfl⟩
abbrev main_c_16 : Ref sig .tc := ⟨.hbm, 94, rfl⟩
abbrev main_v44 : Ref sig .tc := ⟨.hbm, 95, rfl⟩
abbrev main_c_17 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_c_18 : Ref sig .tc := ⟨.hbm, 101, rfl⟩
abbrev main_v49 : Ref sig .tc := ⟨.hbm, 102, rfl⟩
abbrev main_c_19 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_c_20 : Ref sig .tc := ⟨.hbm, 108, rfl⟩
abbrev main_v54 : Ref sig .tc := ⟨.hbm, 109, rfl⟩
abbrev main_c_21 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_c_22 : Ref sig .tc := ⟨.hbm, 114, rfl⟩
abbrev main_v58 : Ref sig .tc := ⟨.hbm, 115, rfl⟩
abbrev main_c_23 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_cst_24 : Ref sig .tc := ⟨.hbm, 120, rfl⟩
abbrev main_v62 : Ref sig .tc := ⟨.hbm, 121, rfl⟩
abbrev main_v63 : Ref sig .tc := ⟨.hbm, 122, rfl⟩
abbrev main_v64 : Ref sig .tc := ⟨.hbm, 123, rfl⟩
abbrev main_c_25 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_c_26 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_c_27 : Ref sig .tc := ⟨.hbm, 132, rfl⟩
abbrev main_v71 : Ref sig .tc := ⟨.hbm, 133, rfl⟩
abbrev main_v72 : Ref sig .tc := ⟨.hbm, 134, rfl⟩
abbrev main_c_28 : Ref sig .tc := ⟨.hbm, 135, rfl⟩
abbrev main_v73 : Ref sig .tc := ⟨.hbm, 136, rfl⟩
abbrev main_v74 : Ref sig .tc := ⟨.hbm, 137, rfl⟩
abbrev main_c_29 : Ref sig .tc := ⟨.hbm, 138, rfl⟩
abbrev main_v75 : Ref sig .tc := ⟨.hbm, 139, rfl⟩
abbrev main_c_30 : Ref sig .tc := ⟨.hbm, 140, rfl⟩
abbrev main_v76 : Ref sig .tc := ⟨.hbm, 141, rfl⟩
abbrev main_v77 : Ref sig .tc := ⟨.hbm, 142, rfl⟩
abbrev main_v78 : Ref sig .tc := ⟨.hbm, 143, rfl⟩
abbrev main_v79 : Ref sig .tc := ⟨.hbm, 144, rfl⟩
abbrev main_c_31 : Ref sig .tc := ⟨.hbm, 145, rfl⟩
abbrev main_v80 : Ref sig .tc := ⟨.hbm, 146, rfl⟩
abbrev main_c_32 : Ref sig .tc := ⟨.hbm, 147, rfl⟩
abbrev main_v81 : Ref sig .tc := ⟨.hbm, 148, rfl⟩
abbrev main_v82 : Ref sig .tc := ⟨.hbm, 149, rfl⟩
abbrev main_v83 : Ref sig .tc := ⟨.hbm, 150, rfl⟩
abbrev main_v84 : Ref sig .tc := ⟨.hbm, 151, rfl⟩
abbrev main_c_33 : Ref sig .tc := ⟨.hbm, 152, rfl⟩
abbrev main_v85 : Ref sig .tc := ⟨.hbm, 153, rfl⟩
abbrev main_c_34 : Ref sig .tc := ⟨.hbm, 154, rfl⟩
abbrev main_v86 : Ref sig .tc := ⟨.hbm, 155, rfl⟩
abbrev main_v87 : Ref sig .tc := ⟨.hbm, 156, rfl⟩
abbrev main_v88 : Ref sig .tc := ⟨.hbm, 157, rfl⟩
abbrev main_c_35 : Ref sig .tc := ⟨.hbm, 158, rfl⟩
abbrev main_v89 : Ref sig .tc := ⟨.hbm, 159, rfl⟩
abbrev main_c_36 : Ref sig .tc := ⟨.hbm, 160, rfl⟩
abbrev main_v90 : Ref sig .tc := ⟨.hbm, 161, rfl⟩
abbrev main_v91 : Ref sig .tc := ⟨.hbm, 162, rfl⟩
abbrev main_v92 : Ref sig .tc := ⟨.hbm, 163, rfl⟩
abbrev main_cst_37 : Ref sig .tc := ⟨.hbm, 164, rfl⟩
abbrev main_v93 : Ref sig .tc := ⟨.hbm, 165, rfl⟩
abbrev main_v94 : Ref sig .tc := ⟨.hbm, 166, rfl⟩
abbrev main_v95 : Ref sig .tc := ⟨.hbm, 167, rfl⟩
abbrev main_c_38 : Ref sig .tc := ⟨.hbm, 168, rfl⟩
abbrev main_v96 : Ref sig .tc := ⟨.hbm, 169, rfl⟩
abbrev main_v97 : Ref sig .tc := ⟨.hbm, 170, rfl⟩
abbrev main_v98 : Ref sig .tc := ⟨.hbm, 171, rfl⟩
abbrev main_c_39 : Ref sig .tc := ⟨.hbm, 172, rfl⟩
abbrev main_v99 : Ref sig .tc := ⟨.hbm, 173, rfl⟩
abbrev main_v100 : Ref sig .tc := ⟨.hbm, 174, rfl⟩
abbrev main_v101 : Ref sig .tc := ⟨.hbm, 175, rfl⟩
abbrev main_c_40 : Ref sig .tc := ⟨.hbm, 176, rfl⟩
abbrev main_v102 : Ref sig .tc := ⟨.hbm, 177, rfl⟩
abbrev main_v103 : Ref sig .tc := ⟨.hbm, 178, rfl⟩
abbrev main_c_41 : Ref sig .tc := ⟨.hbm, 179, rfl⟩
abbrev main_v104 : Ref sig .tc := ⟨.hbm, 180, rfl⟩
abbrev main_v105 : Ref sig .tc := ⟨.hbm, 181, rfl⟩
abbrev main_c_42 : Ref sig .tc := ⟨.hbm, 182, rfl⟩
abbrev main_v106 : Ref sig .tc := ⟨.hbm, 183, rfl⟩
abbrev main_c_43 : Ref sig .tc := ⟨.hbm, 184, rfl⟩
abbrev main_v107 : Ref sig .tc := ⟨.hbm, 185, rfl⟩
abbrev main_v108 : Ref sig .tc := ⟨.hbm, 186, rfl⟩
abbrev main_v109 : Ref sig .tc := ⟨.hbm, 187, rfl⟩
abbrev main_v110 : Ref sig .tc := ⟨.hbm, 188, rfl⟩
abbrev main_c_44 : Ref sig .tc := ⟨.hbm, 189, rfl⟩
abbrev main_v111 : Ref sig .tc := ⟨.hbm, 190, rfl⟩
abbrev main_c_45 : Ref sig .tc := ⟨.hbm, 191, rfl⟩
abbrev main_v112 : Ref sig .tc := ⟨.hbm, 192, rfl⟩
abbrev main_v113 : Ref sig .tc := ⟨.hbm, 193, rfl⟩
abbrev main_v114 : Ref sig .tc := ⟨.hbm, 194, rfl⟩
abbrev main_v115 : Ref sig .tc := ⟨.hbm, 195, rfl⟩
abbrev main_c_46 : Ref sig .tc := ⟨.hbm, 196, rfl⟩
abbrev main_v116 : Ref sig .tc := ⟨.hbm, 197, rfl⟩
abbrev main_c_47 : Ref sig .tc := ⟨.hbm, 198, rfl⟩
abbrev main_v117 : Ref sig .tc := ⟨.hbm, 199, rfl⟩
abbrev main_v118 : Ref sig .tc := ⟨.hbm, 200, rfl⟩
abbrev main_v119 : Ref sig .tc := ⟨.hbm, 201, rfl⟩
abbrev main_c_48 : Ref sig .tc := ⟨.hbm, 202, rfl⟩
abbrev main_v120 : Ref sig .tc := ⟨.hbm, 203, rfl⟩
abbrev main_c_49 : Ref sig .tc := ⟨.hbm, 204, rfl⟩
abbrev main_v121 : Ref sig .tc := ⟨.hbm, 205, rfl⟩
abbrev main_v122 : Ref sig .tc := ⟨.hbm, 206, rfl⟩
abbrev main_v123 : Ref sig .tc := ⟨.hbm, 207, rfl⟩
abbrev main_v124_0 : Ref sig .tc := ⟨.hbm, 208, rfl⟩
abbrev main_v124_1 : Ref sig .tc := ⟨.hbm, 209, rfl⟩
abbrev main_v124_2 : Ref sig .tc := ⟨.hbm, 210, rfl⟩
abbrev main_v125 : Ref sig .tc := ⟨.hbm, 211, rfl⟩
abbrev main_v126 : Ref sig .tc := ⟨.hbm, 212, rfl⟩
abbrev main_v127 : Ref sig .tc := ⟨.hbm, 213, rfl⟩
abbrev main_v128 : Ref sig .tc := ⟨.hbm, 214, rfl⟩
abbrev main_v129 : Ref sig .tc := ⟨.hbm, 215, rfl⟩
abbrev main_v130 : Ref sig .tc := ⟨.hbm, 216, rfl⟩
abbrev main_v131 : Ref sig .tc := ⟨.hbm, 217, rfl⟩
abbrev main_v132 : Ref sig .tc := ⟨.hbm, 218, rfl⟩
abbrev main_v133 : Ref sig .tc := ⟨.hbm, 219, rfl⟩
abbrev main_v134 : Ref sig .tc := ⟨.hbm, 220, rfl⟩
abbrev main_v135 : Ref sig .tc := ⟨.hbm, 221, rfl⟩
abbrev main_v136 : Ref sig .tc := ⟨.hbm, 222, rfl⟩
abbrev main_v137 : Ref sig .tc := ⟨.hbm, 223, rfl⟩
abbrev main_v138 : Ref sig .tc := ⟨.hbm, 224, rfl⟩
abbrev main_v139 : Ref sig .tc := ⟨.hbm, 225, rfl⟩
abbrev main_v140 : Ref sig .tc := ⟨.hbm, 226, rfl⟩
abbrev main_v141 : Ref sig .tc := ⟨.hbm, 227, rfl⟩
abbrev main_v142 : Ref sig .tc := ⟨.hbm, 228, rfl⟩
abbrev main_v143 : Ref sig .tc := ⟨.hbm, 229, rfl⟩
abbrev main_v144 : Ref sig .tc := ⟨.hbm, 230, rfl⟩
abbrev main_v145 : Ref sig .tc := ⟨.hbm, 231, rfl⟩
abbrev main_v146 : Ref sig .tc := ⟨.hbm, 232, rfl⟩
abbrev main_v147 : Ref sig .tc := ⟨.hbm, 233, rfl⟩
abbrev main_v148 : Ref sig .tc := ⟨.hbm, 234, rfl⟩
abbrev main_v149 : Ref sig .tc := ⟨.hbm, 235, rfl⟩
abbrev main_v150 : Ref sig .tc := ⟨.hbm, 236, rfl⟩
abbrev main_v151 : Ref sig .tc := ⟨.hbm, 237, rfl⟩
abbrev main_v152 : Ref sig .tc := ⟨.hbm, 238, rfl⟩
abbrev main_v153 : Ref sig .tc := ⟨.hbm, 239, rfl⟩
abbrev main_v154 : Ref sig .tc := ⟨.hbm, 240, rfl⟩
abbrev main_v155 : Ref sig .tc := ⟨.hbm, 241, rfl⟩
abbrev main_v156 : Ref sig .tc := ⟨.hbm, 242, rfl⟩
abbrev main_v157 : Ref sig .tc := ⟨.hbm, 243, rfl⟩
abbrev main_v158 : Ref sig .tc := ⟨.hbm, 244, rfl⟩
abbrev main_v159 : Ref sig .tc := ⟨.hbm, 245, rfl⟩
abbrev main_v160 : Ref sig .tc := ⟨.hbm, 246, rfl⟩
abbrev main_v161 : Ref sig .tc := ⟨.hbm, 247, rfl⟩
abbrev main_v162 : Ref sig .tc := ⟨.hbm, 248, rfl⟩
abbrev main_v163 : Ref sig .tc := ⟨.hbm, 249, rfl⟩
abbrev main_v164 : Ref sig .tc := ⟨.hbm, 250, rfl⟩
abbrev main_v165 : Ref sig .tc := ⟨.hbm, 251, rfl⟩
abbrev main_v166 : Ref sig .tc := ⟨.hbm, 252, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSmallReferenceIdeal.lean ====
abbrev S1024 : Shape := ⟨1, ![1024]⟩
abbrev S2048 : Shape := ⟨1, ![2048]⟩
abbrev S3x256 : Shape := ⟨2, ![3, 256]⟩
abbrev S64 : Shape := ⟨1, ![64]⟩
abbrev S16x513 : Shape := ⟨2, ![16, 513]⟩
abbrev S_ : Shape := ⟨0, ![]⟩

abbrev nBuf : Space → Nat
  | .hbm => 296
  | .vmem => 0
  | .smem => 0
  | _ => 0

abbrev hbmTy0_0 (i : Nat) : BufTy := match i % 128 with
  | 0 => ⟨S1024, .f32⟩
  | 1 => ⟨S1024, .f32⟩
  | 2 => ⟨S1024, .f32⟩
  | 3 => ⟨S2048, .f32⟩
  | 4 => ⟨S3x256, .f32⟩
  | 5 => ⟨S64, .f32⟩
  | 6 => ⟨S64, .f32⟩
  | 7 => ⟨S16x513, .f32⟩
  | 8 => ⟨S1024, .f32⟩
  | 9 => ⟨S1024, .f32⟩
  | 10 => ⟨S1024, .f32⟩
  | 11 => ⟨S2048, .f32⟩
  | 12 => ⟨S3x256, .f32⟩
  | 13 => ⟨S64, .f32⟩
  | 14 => ⟨S64, .f32⟩
  | 15 => ⟨S16x513, .f32⟩
  | 16 => ⟨S1024, .f32⟩
  | 17 => ⟨S1024, .f32⟩
  | 18 => ⟨S1024, .f32⟩
  | 19 => ⟨S2048, .f32⟩
  | 20 => ⟨S3x256, .f32⟩
  | 21 => ⟨S64, .f32⟩
  | 22 => ⟨S64, .f32⟩
  | 23 => ⟨S16x513, .f32⟩
  | 24 => ⟨S1024, .f32⟩
  | 25 => ⟨S1024, .f32⟩
  | 26 => ⟨S1024, .f32⟩
  | 27 => ⟨S2048, .f32⟩
  | 28 => ⟨S3x256, .f32⟩
  | 29 => ⟨S64, .f32⟩
  | 30 => ⟨S64, .f32⟩
  | 31 => ⟨S16x513, .f32⟩
  | 32 => ⟨S_, .f32⟩
  | 33 => ⟨S1024, .f32⟩
  | 34 => ⟨S1024, .f32⟩
  | 35 => ⟨S_, .f32⟩
  | 36 => ⟨S1024, .f32⟩
  | 37 => ⟨S1024, .f32⟩
  | 38 => ⟨S1024, .f32⟩
  | 39 => ⟨S_, .f32⟩
  | 40 => ⟨S1024, .f32⟩
  | 41 => ⟨S1024, .f32⟩
  | 42 => ⟨S1024, .f32⟩
  | 43 => ⟨S_, .f32⟩
  | 44 => ⟨S1024, .f32⟩
  | 45 => ⟨S1024, .f32⟩
  | 46 => ⟨S1024, .f32⟩
  | 47 => ⟨S_, .f32⟩
  | 48 => ⟨S1024, .f32⟩
  | 49 => ⟨S1024, .f32⟩
  | 50 => ⟨S_, .f32⟩
  | 51 => ⟨S1024, .f32⟩
  | 52 => ⟨S1024, .f32⟩
  | 53 => ⟨S1024, .f32⟩
  | 54 => ⟨S_, .f32⟩
  | 55 => ⟨S1024, .f32⟩
  | 56 => ⟨S1024, .f32⟩
  | 57 => ⟨S1024, .f32⟩
  | 58 => ⟨S_, .f32⟩
  | 59 => ⟨S1024, .f32⟩
  | 60 => ⟨S1024, .f32⟩
  | 61 => ⟨S1024, .f32⟩
  | 62 => ⟨S_, .f32⟩
  | 63 => ⟨S1024, .f32⟩
  | 64 => ⟨S1024, .f32⟩
  | 65 => ⟨S_, .f32⟩
  | 66 => ⟨S1024, .f32⟩
  | 67 => ⟨S1024, .f32⟩
  | 68 => ⟨S_, .f32⟩
  | 69 => ⟨S1024, .f32⟩
  | 70 => ⟨S1024, .f32⟩
  | 71 => ⟨S1024, .f32⟩
  | 72 => ⟨S_, .f32⟩
  | 73 => ⟨S1024, .f32⟩
  | 74 => ⟨S1024, .f32⟩
  | 75 => ⟨S1024, .f32⟩
  | 76 => ⟨S_, .f32⟩
  | 77 => ⟨S1024, .f32⟩
  | 78 => ⟨S1024, .f32⟩
  | 79 => ⟨S1024, .f32⟩
  | 80 => ⟨S_, .f32⟩
  | 81 => ⟨S1024, .f32⟩
  | 82 => ⟨S1024, .f32⟩
  | 83 => ⟨S_, .f32⟩
  | 84 => ⟨S1024, .f32⟩
  | 85 => ⟨S1024, .f32⟩
  | 86 => ⟨S1024, .f32⟩
  | 87 => ⟨S_, .f32⟩
  | 88 => ⟨S1024, .f32⟩
  | 89 => ⟨S1024, .f32⟩
  | 90 => ⟨S1024, .f32⟩
  | 91 => ⟨S_, .f32⟩
  | 92 => ⟨S1024, .f32⟩
  | 93 => ⟨S1024, .f32⟩
  | 94 => ⟨S1024, .f32⟩
  | 95 => ⟨S_, .f32⟩
  | 96 => ⟨S1024, .f32⟩
  | 97 => ⟨S1024, .f32⟩
  | 98 => ⟨S_, .f32⟩
  | 99 => ⟨S1024, .f32⟩
  | 100 => ⟨S1024, .f32⟩
  | 101 => ⟨S_, .f32⟩
  | 102 => ⟨S1024, .f32⟩
  | 103 => ⟨S1024, .f32⟩
  | 104 => ⟨S1024, .f32⟩
  | 105 => ⟨S_, .f32⟩
  | 106 => ⟨S1024, .f32⟩
  | 107 => ⟨S1024, .f32⟩
  | 108 => ⟨S1024, .f32⟩
  | 109 => ⟨S_, .f32⟩
  | 110 => ⟨S1024, .f32⟩
  | 111 => ⟨S1024, .f32⟩
  | 112 => ⟨S1024, .f32⟩
  | 113 => ⟨S_, .f32⟩
  | 114 => ⟨S1024, .f32⟩
  | 115 => ⟨S1024, .f32⟩
  | 116 => ⟨S_, .f32⟩
  | 117 => ⟨S1024, .f32⟩
  | 118 => ⟨S1024, .f32⟩
  | 119 => ⟨S1024, .f32⟩
  | 120 => ⟨S_, .f32⟩
  | 121 => ⟨S1024, .f32⟩
  | 122 => ⟨S1024, .f32⟩
  | 123 => ⟨S1024, .f32⟩
  | 124 => ⟨S_, .f32⟩
  | 125 => ⟨S1024, .f32⟩
  | 126 => ⟨S1024, .f32⟩
  | 127 => ⟨S1024, .f32⟩
  | _ => ⟨S1024, .f32⟩

abbrev hbmTy0_1 (i : Nat) : BufTy := match i % 128 with
  | 0 => ⟨S_, .f32⟩
  | 1 => ⟨S1024, .f32⟩
  | 2 => ⟨S1024, .f32⟩
  | 3 => ⟨S_, .f32⟩
  | 4 => ⟨S2048, .f32⟩
  | 5 => ⟨S2048, .f32⟩
  | 6 => ⟨S_, .f32⟩
  | 7 => ⟨S2048, .f32⟩
  | 8 => ⟨S2048, .f32⟩
  | 9 => ⟨S2048, .f32⟩
  | 10 => ⟨S_, .f32⟩
  | 11 => ⟨S2048, .f32⟩
  | 12 => ⟨S2048, .f32⟩
  | 13 => ⟨S2048, .f32⟩
  | 14 => ⟨S_, .f32⟩
  | 15 => ⟨S2048, .f32⟩
  | 16 => ⟨S2048, .f32⟩
  | 17 => ⟨S2048, .f32⟩
  | 18 => ⟨S_, .f32⟩
  | 19 => ⟨S2048, .f32⟩
  | 20 => ⟨S2048, .f32⟩
  | 21 => ⟨S_, .f32⟩
  | 22 => ⟨S2048, .f32⟩
  | 23 => ⟨S2048, .f32⟩
  | 24 => ⟨S2048, .f32⟩
  | 25 => ⟨S_, .f32⟩
  | 26 => ⟨S2048, .f32⟩
  | 27 => ⟨S2048, .f32⟩
  | 28 => ⟨S2048, .f32⟩
  | 29 => ⟨S_, .f32⟩
  | 30 => ⟨S2048, .f32⟩
  | 31 => ⟨S2048, .f32⟩
  | 32 => ⟨S2048, .f32⟩
  | 33 => ⟨S_, .f32⟩
  | 34 => ⟨S2048, .f32⟩
  | 35 => ⟨S2048, .f32⟩
  | 36 => ⟨S_, .f32⟩
  | 37 => ⟨S3x256, .f32⟩
  | 38 => ⟨S3x256, .f32⟩
  | 39 => ⟨S_, .f32⟩
  | 40 => ⟨S3x256, .f32⟩
  | 41 => ⟨S3x256, .f32⟩
  | 42 => ⟨S3x256, .f32⟩
  | 43 => ⟨S_, .f32⟩
  | 44 => ⟨S3x256, .f32⟩
  | 45 => ⟨S3x256, .f32⟩
  | 46 => ⟨S3x256, .f32⟩
  | 47 => ⟨S_, .f32⟩
  | 48 => ⟨S3x256, .f32⟩
  | 49 => ⟨S3x256, .f32⟩
  | 50 => ⟨S3x256, .f32⟩
  | 51 => ⟨S_, .f32⟩
  | 52 => ⟨S3x256, .f32⟩
  | 53 => ⟨S3x256, .f32⟩
  | 54 => ⟨S_, .f32⟩
  | 55 => ⟨S3x256, .f32⟩
  | 56 => ⟨S3x256, .f32⟩
  | 57 => ⟨S3x256, .f32⟩
  | 58 => ⟨S_, .f32⟩
  | 59 => ⟨S3x256, .f32⟩
  | 60 => ⟨S3x256, .f32⟩
  | 61 => ⟨S3x256, .f32⟩
  | 62 => ⟨S_, .f32⟩
  | 63 => ⟨S3x256, .f32⟩
  | 64 => ⟨S3x256, .f32⟩
  | 65 => ⟨S3x256, .f32⟩
  | 66 => ⟨S_, .f32⟩
  | 67 => ⟨S3x256, .f32⟩
  | 68 => ⟨S3x256, .f32⟩
  | 69 => ⟨S_, .f32⟩
  | 70 => ⟨S64, .f32⟩
  | 71 => ⟨S64, .f32⟩
  | 72 => ⟨S_, .f32⟩
  | 73 => ⟨S64, .f32⟩
  | 74 => ⟨S64, .f32⟩
  | 75 => ⟨S64, .f32⟩
  | 76 => ⟨S_, .f32⟩
  | 77 => ⟨S64, .f32⟩
  | 78 => ⟨S64, .f32⟩
  | 79 => ⟨S64, .f32⟩
  | 80 => ⟨S_, .f32⟩
  | 81 => ⟨S64, .f32⟩
  | 82 => ⟨S64, .f32⟩
  | 83 => ⟨S64, .f32⟩
  | 84 => ⟨S_, .f32⟩
  | 85 => ⟨S64, .f32⟩
  | 86 => ⟨S64, .f32⟩
  | 87 => ⟨S_, .f32⟩
  | 88 => ⟨S64, .f32⟩
  | 89 => ⟨S64, .f32⟩
  | 90 => ⟨S64, .f32⟩
  | 91 => ⟨S_, .f32⟩
  | 92 => ⟨S64, .f32⟩
  | 93 => ⟨S64, .f32⟩
  | 94 => ⟨S64, .f32⟩
  | 95 => ⟨S_, .f32⟩
  | 96 => ⟨S64, .f32⟩
  | 97 => ⟨S64, .f32⟩
  | 98 => ⟨S64, .f32⟩
  | 99 => ⟨S_, .f32⟩
  | 100 => ⟨S64, .f32⟩
  | 101 => ⟨S64, .f32⟩
  | 102 => ⟨S_, .f32⟩
  | 103 => ⟨S64, .f32⟩
  | 104 => ⟨S64, .f32⟩
  | 105 => ⟨S_, .f32⟩
  | 106 => ⟨S64, .f32⟩
  | 107 => ⟨S64, .f32⟩
  | 108 => ⟨S64, .f32⟩
  | 109 => ⟨S_, .f32⟩
  | 110 => ⟨S64, .f32⟩
  | 111 => ⟨S64, .f32⟩
  | 112 => ⟨S64, .f32⟩
  | 113 => ⟨S_, .f32⟩
  | 114 => ⟨S64, .f32⟩
  | 115 => ⟨S64, .f32⟩
  | 116 => ⟨S64, .f32⟩
  | 117 => ⟨S_, .f32⟩
  | 118 => ⟨S64, .f32⟩
  | 119 => ⟨S64, .f32⟩
  | 120 => ⟨S_, .f32⟩
  | 121 => ⟨S64, .f32⟩
  | 122 => ⟨S64, .f32⟩
  | 123 => ⟨S64, .f32⟩
  | 124 => ⟨S_, .f32⟩
  | 125 => ⟨S64, .f32⟩
  | 126 => ⟨S64, .f32⟩
  | 127 => ⟨S64, .f32⟩
  | _ => ⟨S1024, .f32⟩

abbrev hbmTy0_2 (i : Nat) : BufTy := match i % 128 with
  | 0 => ⟨S_, .f32⟩
  | 1 => ⟨S64, .f32⟩
  | 2 => ⟨S64, .f32⟩
  | 3 => ⟨S64, .f32⟩
  | 4 => ⟨S_, .f32⟩
  | 5 => ⟨S64, .f32⟩
  | 6 => ⟨S64, .f32⟩
  | 7 => ⟨S_, .f32⟩
  | 8 => ⟨S16x513, .f32⟩
  | 9 => ⟨S16x513, .f32⟩
  | 10 => ⟨S_, .f32⟩
  | 11 => ⟨S16x513, .f32⟩
  | 12 => ⟨S16x513, .f32⟩
  | 13 => ⟨S16x513, .f32⟩
  | 14 => ⟨S_, .f32⟩
  | 15 => ⟨S16x513, .f32⟩
  | 16 => ⟨S16x513, .f32⟩
  | 17 => ⟨S16x513, .f32⟩
  | 18 => ⟨S_, .f32⟩
  | 19 => ⟨S16x513, .f32⟩
  | 20 => ⟨S16x513, .f32⟩
  | 21 => ⟨S16x513, .f32⟩
  | 22 => ⟨S_, .f32⟩
  | 23 => ⟨S16x513, .f32⟩
  | 24 => ⟨S16x513, .f32⟩
  | 25 => ⟨S_, .f32⟩
  | 26 => ⟨S16x513, .f32⟩
  | 27 => ⟨S16x513, .f32⟩
  | 28 => ⟨S16x513, .f32⟩
  | 29 => ⟨S_, .f32⟩
  | 30 => ⟨S16x513, .f32⟩
  | 31 => ⟨S16x513, .f32⟩
  | 32 => ⟨S16x513, .f32⟩
  | 33 => ⟨S_, .f32⟩
  | 34 => ⟨S16x513, .f32⟩
  | 35 => ⟨S16x513, .f32⟩
  | 36 => ⟨S16x513, .f32⟩
  | 37 => ⟨S_, .f32⟩
  | 38 => ⟨S16x513, .f32⟩
  | 39 => ⟨S16x513, .f32⟩
  | _ => ⟨S1024, .f32⟩

abbrev hbmTy (i : Nat) : BufTy := match i / 128 with
  | 0 => hbmTy0_0 i
  | 1 => hbmTy0_1 i
  | 2 => hbmTy0_2 i
  | _ => ⟨S1024, .f32⟩

abbrev bufTy : (tb : Table) → Fin (tcTables nBuf tb) → BufTy
  | .hbm, ⟨i, _⟩ => hbmTy i
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_cst : Ref sig .tc := ⟨.hbm, 32, rfl⟩
abbrev main_v0 : Ref sig .tc := ⟨.hbm, 33, rfl⟩
abbrev main_v1 : Ref sig .tc := ⟨.hbm, 34, rfl⟩
abbrev main_cst_0 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_cst_1 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_cst_2 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_cst_3 : Ref sig .tc := ⟨.hbm, 47, rfl⟩
abbrev main_v11 : Ref sig .tc := ⟨.hbm, 48, rfl⟩
abbrev main_v12 : Ref sig .tc := ⟨.hbm, 49, rfl⟩
abbrev main_cst_4 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_cst_5 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_cst_6 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_cst_7 : Ref sig .tc := ⟨.hbm, 62, rfl⟩
abbrev main_v22 : Ref sig .tc := ⟨.hbm, 63, rfl⟩
abbrev main_v23 : Ref sig .tc := ⟨.hbm, 64, rfl⟩
abbrev main_cst_8 : Ref sig .tc := ⟨.hbm, 65, rfl⟩
abbrev main_v24 : Ref sig .tc := ⟨.hbm, 66, rfl⟩
abbrev main_v25 : Ref sig .tc := ⟨.hbm, 67, rfl⟩
abbrev main_cst_9 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_cst_10 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_cst_11 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_cst_12 : Ref sig .tc := ⟨.hbm, 80, rfl⟩
abbrev main_v35 : Ref sig .tc := ⟨.hbm, 81, rfl⟩
abbrev main_v36 : Ref sig .tc := ⟨.hbm, 82, rfl⟩
abbrev main_cst_13 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_cst_14 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_cst_15 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_cst_16 : Ref sig .tc := ⟨.hbm, 95, rfl⟩
abbrev main_v46 : Ref sig .tc := ⟨.hbm, 96, rfl⟩
abbrev main_v47 : Ref sig .tc := ⟨.hbm, 97, rfl⟩
abbrev main_cst_17 : Ref sig .tc := ⟨.hbm, 98, rfl⟩
abbrev main_v48 : Ref sig .tc := ⟨.hbm, 99, rfl⟩
abbrev main_v49 : Ref sig .tc := ⟨.hbm, 100, rfl⟩
abbrev main_cst_18 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_cst_19 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_cst_20 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_cst_21 : Ref sig .tc := ⟨.hbm, 113, rfl⟩
abbrev main_v59 : Ref sig .tc := ⟨.hbm, 114, rfl⟩
abbrev main_v60 : Ref sig .tc := ⟨.hbm, 115, rfl⟩
abbrev main_cst_22 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_cst_23 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_cst_24 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_cst_25 : Ref sig .tc := ⟨.hbm, 128, rfl⟩
abbrev main_v70 : Ref sig .tc := ⟨.hbm, 129, rfl⟩
abbrev main_v71 : Ref sig .tc := ⟨.hbm, 130, rfl⟩
abbrev main_cst_26 : Ref sig .tc := ⟨.hbm, 131, rfl⟩
abbrev main_v72 : Ref sig .tc := ⟨.hbm, 132, rfl⟩
abbrev main_v73 : Ref sig .tc := ⟨.hbm, 133, rfl⟩
abbrev main_cst_27 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_cst_28 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_cst_29 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_cst_30 : Ref sig .tc := ⟨.hbm, 146, rfl⟩
abbrev main_v83 : Ref sig .tc := ⟨.hbm, 147, rfl⟩
abbrev main_v84 : Ref sig .tc := ⟨.hbm, 148, rfl⟩
abbrev main_cst_31 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_cst_32 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_cst_33 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_cst_34 : Ref sig .tc := ⟨.hbm, 161, rfl⟩
abbrev main_v94 : Ref sig .tc := ⟨.hbm, 162, rfl⟩
abbrev main_v95 : Ref sig .tc := ⟨.hbm, 163, rfl⟩
abbrev main_cst_35 : Ref sig .tc := ⟨.hbm, 164, rfl⟩
abbrev main_v96 : Ref sig .tc := ⟨.hbm, 165, rfl⟩
abbrev main_v97 : Ref sig .tc := ⟨.hbm, 166, rfl⟩
abbrev main_cst_36 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_cst_37 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_cst_38 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_cst_39 : Ref sig .tc := ⟨.hbm, 179, rfl⟩
abbrev main_v107 : Ref sig .tc := ⟨.hbm, 180, rfl⟩
abbrev main_v108 : Ref sig .tc := ⟨.hbm, 181, rfl⟩
abbrev main_cst_40 : Ref sig .tc := ⟨.hbm, 182, rfl⟩
abbrev main_v109 : Ref sig .tc := ⟨.hbm, 183, rfl⟩
abbrev main_v110 : Ref sig .tc := ⟨.hbm, 184, rfl⟩
abbrev main_v111 : Ref sig .tc := ⟨.hbm, 185, rfl⟩
abbrev main_cst_41 : Ref sig .tc := ⟨.hbm, 186, rfl⟩
abbrev main_v112 : Ref sig .tc := ⟨.hbm, 187, rfl⟩
abbrev main_v113 : Ref sig .tc := ⟨.hbm, 188, rfl⟩
abbrev main_v114 : Ref sig .tc := ⟨.hbm, 189, rfl⟩
abbrev main_cst_42 : Ref sig .tc := ⟨.hbm, 190, rfl⟩
abbrev main_v115 : Ref sig .tc := ⟨.hbm, 191, rfl⟩
abbrev main_v116 : Ref sig .tc := ⟨.hbm, 192, rfl⟩
abbrev main_v117 : Ref sig .tc := ⟨.hbm, 193, rfl⟩
abbrev main_cst_43 : Ref sig .tc := ⟨.hbm, 194, rfl⟩
abbrev main_v118 : Ref sig .tc := ⟨.hbm, 195, rfl⟩
abbrev main_v119 : Ref sig .tc := ⟨.hbm, 196, rfl⟩
abbrev main_cst_44 : Ref sig .tc := ⟨.hbm, 197, rfl⟩
abbrev main_v120 : Ref sig .tc := ⟨.hbm, 198, rfl⟩
abbrev main_v121 : Ref sig .tc := ⟨.hbm, 199, rfl⟩
abbrev main_cst_45 : Ref sig .tc := ⟨.hbm, 200, rfl⟩
abbrev main_v122 : Ref sig .tc := ⟨.hbm, 201, rfl⟩
abbrev main_v123 : Ref sig .tc := ⟨.hbm, 202, rfl⟩
abbrev main_v124 : Ref sig .tc := ⟨.hbm, 203, rfl⟩
abbrev main_cst_46 : Ref sig .tc := ⟨.hbm, 204, rfl⟩
abbrev main_v125 : Ref sig .tc := ⟨.hbm, 205, rfl⟩
abbrev main_v126 : Ref sig .tc := ⟨.hbm, 206, rfl⟩
abbrev main_v127 : Ref sig .tc := ⟨.hbm, 207, rfl⟩
abbrev main_cst_47 : Ref sig .tc := ⟨.hbm, 208, rfl⟩
abbrev main_v128 : Ref sig .tc := ⟨.hbm, 209, rfl⟩
abbrev main_v129 : Ref sig .tc := ⟨.hbm, 210, rfl⟩
abbrev main_v130 : Ref sig .tc := ⟨.hbm, 211, rfl⟩
abbrev main_cst_48 : Ref sig .tc := ⟨.hbm, 212, rfl⟩
abbrev main_v131 : Ref sig .tc := ⟨.hbm, 213, rfl⟩
abbrev main_v132 : Ref sig .tc := ⟨.hbm, 214, rfl⟩
abbrev main_cst_49 : Ref sig .tc := ⟨.hbm, 215, rfl⟩
abbrev main_v133 : Ref sig .tc := ⟨.hbm, 216, rfl⟩
abbrev main_v134 : Ref sig .tc := ⟨.hbm, 217, rfl⟩
abbrev main_v135 : Ref sig .tc := ⟨.hbm, 218, rfl⟩
abbrev main_cst_50 : Ref sig .tc := ⟨.hbm, 219, rfl⟩
abbrev main_v136 : Ref sig .tc := ⟨.hbm, 220, rfl⟩
abbrev main_v137 : Ref sig .tc := ⟨.hbm, 221, rfl⟩
abbrev main_v138 : Ref sig .tc := ⟨.hbm, 222, rfl⟩
abbrev main_cst_51 : Ref sig .tc := ⟨.hbm, 223, rfl⟩
abbrev main_v139 : Ref sig .tc := ⟨.hbm, 224, rfl⟩
abbrev main_v140 : Ref sig .tc := ⟨.hbm, 225, rfl⟩
abbrev main_v141 : Ref sig .tc := ⟨.hbm, 226, rfl⟩
abbrev main_cst_52 : Ref sig .tc := ⟨.hbm, 227, rfl⟩
abbrev main_v142 : Ref sig .tc := ⟨.hbm, 228, rfl⟩
abbrev main_v143 : Ref sig .tc := ⟨.hbm, 229, rfl⟩
abbrev main_cst_53 : Ref sig .tc := ⟨.hbm, 230, rfl⟩
abbrev main_v144 : Ref sig .tc := ⟨.hbm, 231, rfl⟩
abbrev main_v145 : Ref sig .tc := ⟨.hbm, 232, rfl⟩
abbrev main_cst_54 : Ref sig .tc := ⟨.hbm, 233, rfl⟩
abbrev main_v146 : Ref sig .tc := ⟨.hbm, 234, rfl⟩
abbrev main_v147 : Ref sig .tc := ⟨.hbm, 235, rfl⟩
abbrev main_v148 : Ref sig .tc := ⟨.hbm, 236, rfl⟩
abbrev main_cst_55 : Ref sig .tc := ⟨.hbm, 237, rfl⟩
abbrev main_v149 : Ref sig .tc := ⟨.hbm, 238, rfl⟩
abbrev main_v150 : Ref sig .tc := ⟨.hbm, 239, rfl⟩
abbrev main_v151 : Ref sig .tc := ⟨.hbm, 240, rfl⟩
abbrev main_cst_56 : Ref sig .tc := ⟨.hbm, 241, rfl⟩
abbrev main_v152 : Ref sig .tc := ⟨.hbm, 242, rfl⟩
abbrev main_v153 : Ref sig .tc := ⟨.hbm, 243, rfl⟩
abbrev main_v154 : Ref sig .tc := ⟨.hbm, 244, rfl⟩
abbrev main_cst_57 : Ref sig .tc := ⟨.hbm, 245, rfl⟩
abbrev main_v155 : Ref sig .tc := ⟨.hbm, 246, rfl⟩
abbrev main_v156 : Ref sig .tc := ⟨.hbm, 247, rfl⟩
abbrev main_cst_58 : Ref sig .tc := ⟨.hbm, 248, rfl⟩
abbrev main_v157 : Ref sig .tc := ⟨.hbm, 249, rfl⟩
abbrev main_v158 : Ref sig .tc := ⟨.hbm, 250, rfl⟩
abbrev main_v159 : Ref sig .tc := ⟨.hbm, 251, rfl⟩
abbrev main_cst_59 : Ref sig .tc := ⟨.hbm, 252, rfl⟩
abbrev main_v160 : Ref sig .tc := ⟨.hbm, 253, rfl⟩
abbrev main_v161 : Ref sig .tc := ⟨.hbm, 254, rfl⟩
abbrev main_v162 : Ref sig .tc := ⟨.hbm, 255, rfl⟩
abbrev main_cst_60 : Ref sig .tc := ⟨.hbm, 256, rfl⟩
abbrev main_v163 : Ref sig .tc := ⟨.hbm, 257, rfl⟩
abbrev main_v164 : Ref sig .tc := ⟨.hbm, 258, rfl⟩
abbrev main_v165 : Ref sig .tc := ⟨.hbm, 259, rfl⟩
abbrev main_cst_61 : Ref sig .tc := ⟨.hbm, 260, rfl⟩
abbrev main_v166 : Ref sig .tc := ⟨.hbm, 261, rfl⟩
abbrev main_v167 : Ref sig .tc := ⟨.hbm, 262, rfl⟩
abbrev main_cst_62 : Ref sig .tc := ⟨.hbm, 263, rfl⟩
abbrev main_v168 : Ref sig .tc := ⟨.hbm, 264, rfl⟩
abbrev main_v169 : Ref sig .tc := ⟨.hbm, 265, rfl⟩
abbrev main_cst_63 : Ref sig .tc := ⟨.hbm, 266, rfl⟩
abbrev main_v170 : Ref sig .tc := ⟨.hbm, 267, rfl⟩
abbrev main_v171 : Ref sig .tc := ⟨.hbm, 268, rfl⟩
abbrev main_v172 : Ref sig .tc := ⟨.hbm, 269, rfl⟩
abbrev main_cst_64 : Ref sig .tc := ⟨.hbm, 270, rfl⟩
abbrev main_v173 : Ref sig .tc := ⟨.hbm, 271, rfl⟩
abbrev main_v174 : Ref sig .tc := ⟨.hbm, 272, rfl⟩
abbrev main_v175 : Ref sig .tc := ⟨.hbm, 273, rfl⟩
abbrev main_cst_65 : Ref sig .tc := ⟨.hbm, 274, rfl⟩
abbrev main_v176 : Ref sig .tc := ⟨.hbm, 275, rfl⟩
abbrev main_v177 : Ref sig .tc := ⟨.hbm, 276, rfl⟩
abbrev main_v178 : Ref sig .tc := ⟨.hbm, 277, rfl⟩
abbrev main_cst_66 : Ref sig .tc := ⟨.hbm, 278, rfl⟩
abbrev main_v179 : Ref sig .tc := ⟨.hbm, 279, rfl⟩
abbrev main_v180 : Ref sig .tc := ⟨.hbm, 280, rfl⟩
abbrev main_cst_67 : Ref sig .tc := ⟨.hbm, 281, rfl⟩
abbrev main_v181 : Ref sig .tc := ⟨.hbm, 282, rfl⟩
abbrev main_v182 : Ref sig .tc := ⟨.hbm, 283, rfl⟩
abbrev main_v183 : Ref sig .tc := ⟨.hbm, 284, rfl⟩
abbrev main_cst_68 : Ref sig .tc := ⟨.hbm, 285, rfl⟩
abbrev main_v184 : Ref sig .tc := ⟨.hbm, 286, rfl⟩
abbrev main_v185 : Ref sig .tc := ⟨.hbm, 287, rfl⟩
abbrev main_v186 : Ref sig .tc := ⟨.hbm, 288, rfl⟩
abbrev main_cst_69 : Ref sig .tc := ⟨.hbm, 289, rfl⟩
abbrev main_v187 : Ref sig .tc := ⟨.hbm, 290, rfl⟩
abbrev main_v188 : Ref sig .tc := ⟨.hbm, 291, rfl⟩
abbrev main_v189 : Ref sig .tc := ⟨.hbm, 292, rfl⟩
abbrev main_cst_70 : Ref sig .tc := ⟨.hbm, 293, rfl⟩
abbrev main_v190 : Ref sig .tc := ⟨.hbm, 294, rfl⟩
abbrev main_v191 : Ref sig .tc := ⟨.hbm, 295, rfl⟩

abbrev nD : Nat := 1
abbrev τ : Topo := Topo.v7x

variable {F : FTy → Type} [FloatOps F]
-- ==== FirstNormKernel.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FirstNormReferenceIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== ShortConvKernel.lean ====
abbrev S4096x3072 : Shape := ⟨2, ![4096, 3072]⟩
abbrev S3x1024 : Shape := ⟨2, ![3, 1024]⟩
abbrev S1024 : Shape := ⟨1, ![1024]⟩
abbrev S1x1024 : Shape := ⟨2, ![1, 1024]⟩
abbrev S4096x1024 : Shape := ⟨2, ![4096, 1024]⟩
abbrev S4096x128 : Shape := ⟨2, ![4096, 128]⟩
abbrev S3x128 : Shape := ⟨2, ![3, 128]⟩
abbrev S1x128 : Shape := ⟨2, ![1, 128]⟩
abbrev S16x128 : Shape := ⟨2, ![16, 128]⟩
abbrev S512x128 : Shape := ⟨2, ![512, 128]⟩
abbrev S528x128 : Shape := ⟨2, ![528, 128]⟩

abbrev nBuf : Space → Nat
  | .hbm => 5
  | .vmem => 12
  | .smem => 0
  | _ => 0

abbrev bufTy : (tb : Table) → Fin (tcTables nBuf tb) → BufTy
  | .hbm, ⟨0, _⟩ => ⟨S4096x3072, .bf16⟩
  | .hbm, ⟨1, _⟩ => ⟨S3x1024, .f32⟩
  | .hbm, ⟨2, _⟩ => ⟨S1024, .f32⟩
  | .hbm, ⟨3, _⟩ => ⟨S1x1024, .f32⟩
  | .hbm, ⟨4, _⟩ => ⟨S4096x1024, .bf16⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S3x128, .f32⟩
  | .local _ .vmem, ⟨7, _⟩ => ⟨S3x128, .f32⟩
  | .local _ .vmem, ⟨8, _⟩ => ⟨S1x128, .f32⟩
  | .local _ .vmem, ⟨9, _⟩ => ⟨S1x128, .f32⟩
  | .local _ .vmem, ⟨10, _⟩ => ⟨S4096x128, .bf16⟩
  | .local _ .vmem, ⟨11, _⟩ => ⟨S4096x128, .bf16⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ShortConvReferenceIdeal.lean ====
abbrev S4096x3072 : Shape := ⟨2, ![4096, 3072]⟩
abbrev S3x1024 : Shape := ⟨2, ![3, 1024]⟩
abbrev S1024 : Shape := ⟨1, ![1024]⟩
abbrev S1x4096x3072 : Shape := ⟨3, ![1, 4096, 3072]⟩
abbrev S1x4096x1024 : Shape := ⟨3, ![1, 4096, 1024]⟩
abbrev S_ : Shape := ⟨0, ![]⟩
abbrev S1x2x1024 : Shape := ⟨3, ![1, 2, 1024]⟩
abbrev S1x4098x1024 : Shape := ⟨3, ![1, 4098, 1024]⟩
abbrev S1x1024 : Shape := ⟨2, ![1, 1024]⟩
abbrev S1x1x1024 : Shape := ⟨3, ![1, 1, 1024]⟩
abbrev S4096x1024 : Shape := ⟨2, ![4096, 1024]⟩

abbrev nBuf : Space → Nat
  | .hbm => 41
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S3x1024, .f32⟩
  | .hbm, ⟨2, _⟩ => ⟨S1024, .f32⟩
  | .hbm, ⟨3, _⟩ => ⟨S4096x3072, .f32⟩
  | .hbm, ⟨4, _⟩ => ⟨S1x4096x3072, .f32⟩
  | .hbm, ⟨5, _⟩ => ⟨S1x4096x1024, .f32⟩
  | .hbm, ⟨6, _⟩ => ⟨S1x4096x1024, .f32⟩
  | .hbm, ⟨7, _⟩ => ⟨S1x4096x1024, .f32⟩
  | .hbm, ⟨8, _⟩ => ⟨S1x4096x1024, .f32⟩
  | .hbm, ⟨9, _⟩ => ⟨S_, .f32⟩
  | .hbm, ⟨10, _⟩ => ⟨S1x2x1024, .f32⟩
  | .hbm, ⟨11, _⟩ => ⟨S1x4098x1024, .f32⟩
  | .hbm, ⟨12, _⟩ => ⟨S1x1024, .f32⟩
  | .hbm, ⟨13, _⟩ => ⟨S1024, .f32⟩
  | .hbm, ⟨14, _⟩ => ⟨S1x4096x1024, .f32⟩
  | .hbm, ⟨15, _⟩ => ⟨S1x1x1024, .f32⟩
  | .hbm, ⟨16, _⟩ => ⟨S1x4096x1024, .f32⟩
  | .hbm, ⟨17, _⟩ => ⟨S1x4096x1024, .f32⟩
  | .hbm, ⟨18, _⟩ => ⟨S_, .f32⟩
  | .hbm, ⟨19, _⟩ => ⟨S1x4096x1024, .f32⟩
  | .hbm, ⟨20, _⟩ => ⟨S1x4096x1024, .f32⟩
  | .hbm, ⟨21, _⟩ => ⟨S1x1024, .f32⟩
  | .hbm, ⟨22, _⟩ => ⟨S1024, .f32⟩
  | .hbm, ⟨23, _⟩ => ⟨S1x4096x1024, .f32⟩
  | .hbm, ⟨24, _⟩ => ⟨S1x1x1024, .f32⟩
  | .hbm, ⟨25, _⟩ => ⟨S1x4096x1024, .f32⟩
  | .hbm, ⟨26, _⟩ => ⟨S1x4096x1024, .f32⟩
  | .hbm, ⟨27, _⟩ => ⟨S1x4096x1024, .f32⟩
  | .hbm, ⟨28, _⟩ => ⟨S1x1024, .f32⟩
  | .hbm, ⟨29, _⟩ => ⟨S1024, .f32⟩
  | .hbm, ⟨30, _⟩ => ⟨S1x4096x1024, .f32⟩
  | .hbm, ⟨31, _⟩ => ⟨S1x1x1024, .f32⟩
  | .hbm, ⟨32, _⟩ => ⟨S1x4096x1024, .f32⟩
  | .hbm, ⟨33, _⟩ => ⟨S1x4096x1024, .f32⟩
  | .hbm, ⟨34, _⟩ => ⟨S1x4096x1024, .f32⟩
  | .hbm, ⟨35, _⟩ => ⟨S1x1x1024, .f32⟩
  | .hbm, ⟨36, _⟩ => ⟨S1x4096x1024, .f32⟩
  | .hbm, ⟨37, _⟩ => ⟨S1x4096x1024, .f32⟩
  | .hbm, ⟨38, _⟩ => ⟨S1x4096x1024, .f32⟩
  | .hbm, ⟨39, _⟩ => ⟨S4096x1024, .f32⟩
  | .hbm, ⟨40, _⟩ => ⟨S4096x1024, .bf16⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩

abbrev nD : Nat := 1
abbrev τ : Topo := Topo.v7x

variable {F : FTy → Type} [FloatOps F]
-- ==== LossKernel.lean ====
abbrev S64x128 : Shape := ⟨2, ![64, 128]⟩
abbrev S8x128 : Shape := ⟨2, ![8, 128]⟩
abbrev S128 : Shape := ⟨1, ![128]⟩
abbrev S1x128 : Shape := ⟨2, ![1, 128]⟩
abbrev S1 : Shape := ⟨1, ![1]⟩
abbrev S1x1 : Shape := ⟨2, ![1, 1]⟩

abbrev nBuf : Space → Nat
  | .hbm => 2
  | .vmem => 2
  | .smem => 0
  | _ => 0

abbrev bufTy : (tb : Table) → Fin (tcTables nBuf tb) → BufTy
  | .hbm, ⟨0, _⟩ => ⟨S64x128, .f32⟩
  | .hbm, ⟨1, _⟩ => ⟨S8x128, .f32⟩
  | .local _ .vmem, ⟨0, _⟩ => ⟨S64x128, .f32⟩
  | .local _ .vmem, ⟨1, _⟩ => ⟨S8x128, .f32⟩
  | _, _ => ⟨S64x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== LossReferenceIdeal.lean ====
abbrev S64x128 : Shape := ⟨2, ![64, 128]⟩
abbrev S_ : Shape := ⟨0, ![]⟩
abbrev S8x128 : Shape := ⟨2, ![8, 128]⟩

abbrev nBuf : Space → Nat
  | .hbm => 6
  | .vmem => 0
  | .smem => 0
  | _ => 0

abbrev bufTy : (tb : Table) → Fin (tcTables nBuf tb) → BufTy
  | .hbm, ⟨0, _⟩ => ⟨S64x128, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S8x128, .f32⟩
  | _, _ => ⟨S64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Conv.Channel.lean ====
module

public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

/-! # The gradient of the gated short convolution, one channel at a time

The convolution mixes neighbouring tokens of one channel and nothing else, so kernel and reference are compared channel
by channel: a channel of an array of 4096 tokens is a function of the token number, zero past the last token. -/

namespace Cert.Conv

/-- Channel `l` of an array of 4096 tokens, as a function of the token number; zero past the end. -/
def col {n : ℕ} (x : (⟨2, ![4096, n]⟩ : Shape).Idx → EReal) (l : Fin n) (r : ℕ) : EReal :=
  if h : r < 4096 then x (ix2 ⟨r, h⟩ l) else 0

/-- An element of the array is its channel at its token. -/
theorem read_eq_col {n : ℕ} (x : (⟨2, ![4096, n]⟩ : Shape).Idx → EReal) (a : ℕ) (h : a < 4096) (l : Fin n) :
    x (ix2 ⟨a, h⟩ l) = col x l a := by
  rw [col, dif_pos h]

theorem col_past {n : ℕ} (x : (⟨2, ![4096, n]⟩ : Shape).Idx → EReal) (l : Fin n) (r : ℕ) (h : 4096 ≤ r) :
    col x l r = 0 := by
  rw [col, dif_neg (by omega)]

/-- The channel `k` tokens earlier; zero before the first token. -/
def back (f : ℕ → EReal) (k r : ℕ) : EReal := if r < k then 0 else f (r - k)

/-- The short convolution of the channel `u` with three taps and a bias. -/
def conv3 (u : ℕ → EReal) (w0 w1 w2 b : EReal) (r : ℕ) : EReal :=
  b + w0 * back u 2 r + w1 * back u 1 r + w2 * u r

/-- The gradient of the convolution's input: the taps applied to later tokens of the gradient of its output. -/
def tconv (d : ℕ → EReal) (w0 w1 w2 : EReal) (r : ℕ) : EReal := w2 * d r + w1 * d (r + 1) + w0 * d (r + 2)

/-- The product of two channels. -/
def prod (f g : ℕ → EReal) (r : ℕ) : EReal := f r * g r

/-- Gradient number `p` of one channel at token `r`: of the output gate (0), of the input gate (1), of the input (2). -/
def gradAt (p : ℕ) (dy bg cg xc : ℕ → EReal) (w0 w1 w2 b : EReal) (r : ℕ) : EReal :=
  if p = 0 then dy r * conv3 (prod cg xc) w0 w1 w2 b r
  else if p = 1 then tconv (prod dy bg) w0 w1 w2 r * xc r
  else tconv (prod dy bg) w0 w1 w2 r * cg r

/-- Row `k` of one channel's parameter gradients: of the three taps (0, 1, 2), of the bias (3); the rest is zero. -/
def paramAt (k : ℕ) (dy bg cg xc : ℕ → EReal) : EReal :=
  if k = 0 then ∑ r : Fin 4096, prod dy bg r * back (prod cg xc) 2 r
  else if k = 1 then ∑ r : Fin 4096, prod dy bg r * back (prod cg xc) 1 r
  else if k = 2 then ∑ r : Fin 4096, prod dy bg r * prod cg xc r
  else if k = 3 then ∑ r : Fin 4096, prod dy bg r
  else 0

/-- A sum over 4096 tokens taken in eight runs of 512, added first to last. -/
theorem sum_runs (F : ℕ → EReal) : ∑ r : Fin 4096, F r
    = ∑ x : Fin 512, F x + ∑ x : Fin 512, F (512 + x) + ∑ x : Fin 512, F (1024 + x) + ∑ x : Fin 512, F (1536 + x)
      + ∑ x : Fin 512, F (2048 + x) + ∑ x : Fin 512, F (2560 + x) + ∑ x : Fin 512, F (3072 + x) + ∑ x : Fin 512, F (3584 + x) := by
  rw [← Fin.sum_mul_add_fin 8 512 (fun r : Fin 4096 => F r) (by decide), Fin.sum_univ_eight]
  refine congrArg₂ (· + ·) (congrArg₂ (· + ·) (congrArg₂ (· + ·) (congrArg₂ (· + ·) (congrArg₂ (· + ·) (congrArg₂ (· + ·)
    (congrArg₂ (· + ·) ?_ ?_) ?_) ?_) ?_) ?_) ?_) ?_ <;> refine Finset.sum_congr rfl fun x _ => congrArg F ?_ <;> simp

/-- Eight sums added first to last, compared summand by summand. -/
theorem runs_congr {S0 S1 S2 S3 S4 S5 S6 S7 T0 T1 T2 T3 T4 T5 T6 T7 : Fin 512 → EReal}
    (h0 : ∀ x, S0 x = T0 x) (h1 : ∀ x, S1 x = T1 x) (h2 : ∀ x, S2 x = T2 x) (h3 : ∀ x, S3 x = T3 x)
    (h4 : ∀ x, S4 x = T4 x) (h5 : ∀ x, S5 x = T5 x) (h6 : ∀ x, S6 x = T6 x) (h7 : ∀ x, S7 x = T7 x) :
    ∑ x, S0 x + ∑ x, S1 x + ∑ x, S2 x + ∑ x, S3 x + ∑ x, S4 x + ∑ x, S5 x + ∑ x, S6 x + ∑ x, S7 x
      = ∑ x, T0 x + ∑ x, T1 x + ∑ x, T2 x + ∑ x, T3 x + ∑ x, T4 x + ∑ x, T5 x + ∑ x, T6 x + ∑ x, T7 x := by
  rw [funext h0, funext h1, funext h2, funext h3, funext h4, funext h5, funext h6, funext h7]

section Reads

variable {n : ℕ} (x y : (⟨2, ![4096, n]⟩ : Shape).Idx → EReal) (l : Fin n)

/-- A product of two channels read at one token. -/
theorem prod_read (a r : ℕ) (h : a < 4096) (e : a = r) :
    x (ix2 ⟨a, h⟩ l) * y (ix2 ⟨a, h⟩ l) = prod (col x l) (col y l) r := by
  subst e; rw [read_eq_col x, read_eq_col y]; rfl

/-- A product of two channels read `k` tokens earlier, inside the array. -/
theorem back_read (k a r : ℕ) (h : a < 4096) (e : a + k = r) :
    x (ix2 ⟨a, h⟩ l) * y (ix2 ⟨a, h⟩ l) = back (prod (col x l) (col y l)) k r := by
  subst e
  rw [back, if_neg (by omega), Nat.add_sub_cancel]
  exact prod_read x y l a a h rfl

/-- A product of two channels read `k` tokens earlier in the first run of tokens, which zeros precede. -/
theorem back_first (k j : ℕ) (hj : j < 512) (h0 : 0 < k) (hk : k ≤ 16)
    (p : ¬ (16 + j + 528 - k) % 528 < 16 → (16 + j + 528 - k) % 528 - 16 < 4096) :
    ((if h : (16 + j + 528 - k) % 528 < 16 then 0 else x (ix2 ⟨(16 + j + 528 - k) % 528 - 16, p h⟩ l))
      * (if h : (16 + j + 528 - k) % 528 < 16 then 0 else y (ix2 ⟨(16 + j + 528 - k) % 528 - 16, p h⟩ l)))
      = back (prod (col x l) (col y l)) k j := by
  by_cases hh : (16 + j + 528 - k) % 528 < 16
  · rw [dif_pos hh, dif_pos hh, back, if_pos (by omega), zero_mul]
  · rw [dif_neg hh, dif_neg hh]
    exact back_read x y l k _ j _ (by omega)

/-- A product of two channels read `k` tokens later in the last run of tokens, which zeros follow. -/
theorem later_last (k j q r : ℕ) (hq : q + k = 528) (hj : j < 512) (hk : k ≤ 16) (e : 3584 + j + k = r)
    (p : (j + 528 - q) % 528 < 512 → 3584 + (j + 528 - q) % 528 < 4096) :
    ((if h : (j + 528 - q) % 528 < 512 then x (ix2 ⟨3584 + (j + 528 - q) % 528, p h⟩ l) else 0)
      * (if h : (j + 528 - q) % 528 < 512 then y (ix2 ⟨3584 + (j + 528 - q) % 528, p h⟩ l) else 0))
      = prod (col x l) (col y l) r := by
  by_cases hh : (j + 528 - q) % 528 < 512
  · rw [dif_pos hh, dif_pos hh]
    exact prod_read x y l _ _ _ (by omega)
  · rw [dif_neg hh, dif_neg hh, prod, col_past _ _ _ (by omega), zero_mul, zero_mul]

end Reads

/-- The gradient of the output gate, from its reads. -/
theorem grad0 (dy bg cg xc : ℕ → EReal) (w0 w1 w2 b : EReal) (p r : ℕ) (hp : p = 0) {g a2 a1 a0 : EReal} (hg : g = dy r)
    (h2 : a2 = back (prod cg xc) 2 r) (h1 : a1 = back (prod cg xc) 1 r) (h0 : a0 = prod cg xc r) :
    g * (b + w0 * a2 + w1 * a1 + w2 * a0) = gradAt p dy bg cg xc w0 w1 w2 b r := by
  subst hp hg h2 h1 h0; rfl

/-- The gradient of the input gate, from its reads. -/
theorem grad1 (dy bg cg xc : ℕ → EReal) (w0 w1 w2 b : EReal) (p r : ℕ) (hp : p = 1) {g a2 a1 a0 : EReal} (hg : g = xc r)
    (h0 : a0 = prod dy bg r) (h1 : a1 = prod dy bg (r + 1)) (h2 : a2 = prod dy bg (r + 2)) :
    (w2 * a0 + w1 * a1 + w0 * a2) * g = gradAt p dy bg cg xc w0 w1 w2 b r := by
  subst hp hg h2 h1 h0; rfl

/-- The gradient of the input, from its reads. -/
theorem grad2 (dy bg cg xc : ℕ → EReal) (w0 w1 w2 b : EReal) (p r : ℕ) (hp : p = 2) {g a2 a1 a0 : EReal} (hg : g = cg r)
    (h0 : a0 = prod dy bg r) (h1 : a1 = prod dy bg (r + 1)) (h2 : a2 = prod dy bg (r + 2)) :
    (w2 * a0 + w1 * a1 + w0 * a2) * g = gradAt p dy bg cg xc w0 w1 w2 b r := by
  subst hp hg h2 h1 h0; rfl

end Cert.Conv

end
-- ==== Proof.Conv.Planes.lean ====
module

public import proofs.«01_k».proof.Proof.Gen.ConvKernelIdeal.Frame
public import proofs.«01_k».proof.Proof.Conv.Channel

@[expose] public section

set_option maxRecDepth 16384

noncomputable section

open Idealize.ShloMosaic Idealize.ShloMosaic.TcCoe Idealize.SL.Sem
open Idealize.ShloMosaic.Pipeline (Dat)

namespace Cert.ConvKernelIdeal.Conv

open Cert.ConvKernelIdeal Cert.ConvKernelIdeal.Gen Cert.Conv

set_option maxHeartbeats 1600000 in
/-- What one grid point leaves in the three gradient planes: plane `p`, token `r`, channel `l` hold gradient number `p`
    of channel `l` at token `r`. -/
theorem block6 (c : Dev nD) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S3x128 .f32) (harg5 : arg5.IsWhole) (arg6 : Memref sig .tc .vmem S1x128 .f32) (harg6 : arg6.IsWhole) (arg8 : Memref sig .tc .vmem S3x4096x128 .bf16) (harg8 : arg8.IsWhole) (arg9 : Memref sig .tc .vmem S8x128 .f32) (harg9 : arg9.IsWhole)
    (x0 : Vec Ideal S4096x128 .bf16) (x1 : Vec Ideal S4096x128 .bf16) (x2 : Vec Ideal S4096x128 .bf16) (x3 : Vec Ideal S4096x128 .bf16) (x4 : Vec Ideal S3x128 .f32) (x5 : Vec Ideal S1x128 .f32) (y : S3x4096x128.Idx) :
    out0_A_6 c i arg1 harg1 arg2 harg2 arg3 harg3 arg4 harg4 arg5 harg5 arg6 harg6 arg8 harg8 arg9 harg9 x0 x1 x2 x3 x4 x5 y
      = gradAt (y 0).val (col x0 (y 2)) (col x1 (y 2)) (col x2 (y 2)) (col x3 (y 2)) (x4 (ix2 0 (y 2))) (x4 (ix2 1 (y 2))) (x4 (ix2 2 (y 2))) (x5 (ix2 0 (y 2))) (y 1).val := by
  frame_out
  clear harg1 harg2 harg3 harg4 harg5 harg6 harg8 harg9
  canon_tiles x h
  case piece0 =>
    rw [show y 2 = x 2 from Fin.ext h2, show (y 1).val = 3584 + (x 1).val by omega]
    open_payloads; pointwise
    exact grad2 (col x0 (x 2)) (col x1 (x 2)) (col x2 (x 2)) (col x3 (x 2)) _ _ _ _ _ _ (by omega) (read_eq_col x2 _ _ _) (prod_read x0 x1 (x 2) _ _ _ (by omega)) (later_last x0 x1 (x 2) 1 _ 527 _ (by omega) (x 1).isLt (by omega) (by omega) _) (later_last x0 x1 (x 2) 2 _ 526 _ (by omega) (x 1).isLt (by omega) (by omega) _)
  case piece1 =>
    rw [show y 2 = x 2 from Fin.ext h2, show (y 1).val = 3584 + (x 1).val by omega]
    open_payloads; pointwise
    exact grad1 (col x0 (x 2)) (col x1 (x 2)) (col x2 (x 2)) (col x3 (x 2)) _ _ _ _ _ _ (by omega) (read_eq_col x3 _ _ _) (prod_read x0 x1 (x 2) _ _ _ (by omega)) (later_last x0 x1 (x 2) 1 _ 527 _ (by omega) (x 1).isLt (by omega) (by omega) _) (later_last x0 x1 (x 2) 2 _ 526 _ (by omega) (x 1).isLt (by omega) (by omega) _)
  case piece2 =>
    rw [show y 2 = x 2 from Fin.ext h2, show (y 1).val = 3584 + (x 1).val by omega]
    open_payloads; pointwise
    exact grad0 (col x0 (x 2)) (col x1 (x 2)) (col x2 (x 2)) (col x3 (x 2)) _ _ _ _ _ _ (by omega) (read_eq_col x0 _ _ _) (back_read x2 x3 (x 2) 2 _ _ _ (by omega)) (back_read x2 x3 (x 2) 1 _ _ _ (by omega)) (prod_read x2 x3 (x 2) _ _ _ (by omega))
  case piece3 =>
    rw [show y 2 = x 2 from Fin.ext h2, show (y 1).val = 3072 + (x 1).val by omega]
    open_payloads; pointwise
    exact grad2 (col x0 (x 2)) (col x1 (x 2)) (col x2 (x 2)) (col x3 (x 2)) _ _ _ _ _ _ (by omega) (read_eq_col x2 _ _ _) (prod_read x0 x1 (x 2) _ _ _ (by omega)) (prod_read x0 x1 (x 2) _ _ _ (by omega)) (prod_read x0 x1 (x 2) _ _ _ (by omega))
  case piece4 =>
    rw [show y 2 = x 2 from Fin.ext h2, show (y 1).val = 3072 + (x 1).val by omega]
    open_payloads; pointwise
    exact grad1 (col x0 (x 2)) (col x1 (x 2)) (col x2 (x 2)) (col x3 (x 2)) _ _ _ _ _ _ (by omega) (read_eq_col x3 _ _ _) (prod_read x0 x1 (x 2) _ _ _ (by omega)) (prod_read x0 x1 (x 2) _ _ _ (by omega)) (prod_read x0 x1 (x 2) _ _ _ (by omega))
  case piece5 =>
    rw [show y 2 = x 2 from Fin.ext h2, show (y 1).val = 3072 + (x 1).val by omega]
    open_payloads; pointwise
    exact grad0 (col x0 (x 2)) (col x1 (x 2)) (col x2 (x 2)) (col x3 (x 2)) _ _ _ _ _ _ (by omega) (read_eq_col x0 _ _ _) (back_read x2 x3 (x 2) 2 _ _ _ (by omega)) (back_read x2 x3 (x 2) 1 _ _ _ (by omega)) (prod_read x2 x3 (x 2) _ _ _ (by omega))
  case piece6 =>
    rw [show y 2 = x 2 from Fin.ext h2, show (y 1).val = 2560 + (x 1).val by omega]
    open_payloads; pointwise
    exact grad2 (col x0 (x 2)) (col x1 (x 2)) (col x2 (x 2)) (col x3 (x 2)) _ _ _ _ _ _ (by omega) (read_eq_col x2 _ _ _) (prod_read x0 x1 (x 2) _ _ _ (by omega)) (prod_read x0 x1 (x 2) _ _ _ (by omega)) (prod_read x0 x1 (x 2) _ _ _ (by omega))
  case piece7 =>
    rw [show y 2 = x 2 from Fin.ext h2, show (y 1).val = 2560 + (x 1).val by omega]
    open_payloads; pointwise
    exact grad1 (col x0 (x 2)) (col x1 (x 2)) (col x2 (x 2)) (col x3 (x 2)) _ _ _ _ _ _ (by omega) (read_eq_col x3 _ _ _) (prod_read x0 x1 (x 2) _ _ _ (by omega)) (prod_read x0 x1 (x 2) _ _ _ (by omega)) (prod_read x0 x1 (x 2) _ _ _ (by omega))
  case piece8 =>
    rw [show y 2 = x 2 from Fin.ext h2, show (y 1).val = 2560 + (x 1).val by omega]
    open_payloads; pointwise
    exact grad0 (col x0 (x 2)) (col x1 (x 2)) (col x2 (x 2)) (col x3 (x 2)) _ _ _ _ _ _ (by omega) (read_eq_col x0 _ _ _) (back_read x2 x3 (x 2) 2 _ _ _ (by omega)) (back_read x2 x3 (x 2) 1 _ _ _ (by omega)) (prod_read x2 x3 (x 2) _ _ _ (by omega))
  case piece9 =>
    rw [show y 2 = x 2 from Fin.ext h2, show (y 1).val = 2048 + (x 1).val by omega]
    open_payloads; pointwise
    exact grad2 (col x0 (x 2)) (col x1 (x 2)) (col x2 (x 2)) (col x3 (x 2)) _ _ _ _ _ _ (by omega) (read_eq_col x2 _ _ _) (prod_read x0 x1 (x 2) _ _ _ (by omega)) (prod_read x0 x1 (x 2) _ _ _ (by omega)) (prod_read x0 x1 (x 2) _ _ _ (by omega))
  case piece10 =>
    rw [show y 2 = x 2 from Fin.ext h2, show (y 1).val = 2048 + (x 1).val by omega]
    open_payloads; pointwise
    exact grad1 (col x0 (x 2)) (col x1 (x 2)) (col x2 (x 2)) (col x3 (x 2)) _ _ _ _ _ _ (by omega) (read_eq_col x3 _ _ _) (prod_read x0 x1 (x 2) _ _ _ (by omega)) (prod_read x0 x1 (x 2) _ _ _ (by omega)) (prod_read x0 x1 (x 2) _ _ _ (by omega))
  case piece11 =>
    rw [show y 2 = x 2 from Fin.ext h2, show (y 1).val = 2048 + (x 1).val by omega]
    open_payloads; pointwise
    exact grad0 (col x0 (x 2)) (col x1 (x 2)) (col x2 (x 2)) (col x3 (x 2)) _ _ _ _ _ _ (by omega) (read_eq_col x0 _ _ _) (back_read x2 x3 (x 2) 2 _ _ _ (by omega)) (back_read x2 x3 (x 2) 1 _ _ _ (by omega)) (prod_read x2 x3 (x 2) _ _ _ (by omega))
  case piece12 =>
    rw [show y 2 = x 2 from Fin.ext h2, show (y 1).val = 1536 + (x 1).val by omega]
    open_payloads; pointwise
    exact grad2 (col x0 (x 2)) (col x1 (x 2)) (col x2 (x 2)) (col x3 (x 2)) _ _ _ _ _ _ (by omega) (read_eq_col x2 _ _ _) (prod_read x0 x1 (x 2) _ _ _ (by omega)) (prod_read x0 x1 (x 2) _ _ _ (by omega)) (prod_read x0 x1 (x 2) _ _ _ (by omega))
  case piece13 =>
    rw [show y 2 = x 2 from Fin.ext h2, show (y 1).val = 1536 + (x 1).val by omega]
    open_payloads; pointwise
    exact grad1 (col x0 (x 2)) (col x1 (x 2)) (col x2 (x 2)) (col x3 (x 2)) _ _ _ _ _ _ (by omega) (read_eq_col x3 _ _ _) (prod_read x0 x1 (x 2) _ _ _ (by omega)) (prod_read x0 x1 (x 2) _ _ _ (by omega)) (prod_read x0 x1 (x 2) _ _ _ (by omega))
  case piece14 =>
    rw [show y 2 = x 2 from Fin.ext h2, show (y 1).val = 1536 + (x 1).val by omega]
    open_payloads; pointwise
    exact grad0 (col x0 (x 2)) (col x1 (x 2)) (col x2 (x 2)) (col x3 (x 2)) _ _ _ _ _ _ (by omega) (read_eq_col x0 _ _ _) (back_read x2 x3 (x 2) 2 _ _ _ (by omega)) (back_read x2 x3 (x 2) 1 _ _ _ (by omega)) (prod_read x2 x3 (x 2) _ _ _ (by omega))
  case piece15 =>
    rw [show y 2 = x 2 from Fin.ext h2, show (y 1).val = 1024 + (x 1).val by omega]
    open_payloads; pointwise
    exact grad2 (col x0 (x 2)) (col x1 (x 2)) (col x2 (x 2)) (col x3 (x 2)) _ _ _ _ _ _ (by omega) (read_eq_col x2 _ _ _) (prod_read x0 x1 (x 2) _ _ _ (by omega)) (prod_read x0 x1 (x 2) _ _ _ (by omega)) (prod_read x0 x1 (x 2) _ _ _ (by omega))
  case piece16 =>
    rw [show y 2 = x 2 from Fin.ext h2, show (y 1).val = 1024 + (x 1).val by omega]
    open_payloads; pointwise
    exact grad1 (col x0 (x 2)) (col x1 (x 2)) (col x2 (x 2)) (col x3 (x 2)) _ _ _ _ _ _ (by omega) (read_eq_col x3 _ _ _) (prod_read x0 x1 (x 2) _ _ _ (by omega)) (prod_read x0 x1 (x 2) _ _ _ (by omega)) (prod_read x0 x1 (x 2) _ _ _ (by omega))
  case piece17 =>
    rw [show y 2 = x 2 from Fin.ext h2, show (y 1).val = 1024 + (x 1).val by omega]
    open_payloads; pointwise
    exact grad0 (col x0 (x 2)) (col x1 (x 2)) (col x2 (x 2)) (col x3 (x 2)) _ _ _ _ _ _ (by omega) (read_eq_col x0 _ _ _) (back_read x2 x3 (x 2) 2 _ _ _ (by omega)) (back_read x2 x3 (x 2) 1 _ _ _ (by omega)) (prod_read x2 x3 (x 2) _ _ _ (by omega))
  case piece18 =>
    rw [show y 2 = x 2 from Fin.ext h2, show (y 1).val = 512 + (x 1).val by omega]
    open_payloads; pointwise
    exact grad2 (col x0 (x 2)) (col x1 (x 2)) (col x2 (x 2)) (col x3 (x 2)) _ _ _ _ _ _ (by omega) (read_eq_col x2 _ _ _) (prod_read x0 x1 (x 2) _ _ _ (by omega)) (prod_read x0 x1 (x 2) _ _ _ (by omega)) (prod_read x0 x1 (x 2) _ _ _ (by omega))
  case piece19 =>
    rw [show y 2 = x 2 from Fin.ext h2, show (y 1).val = 512 + (x 1).val by omega]
    open_payloads; pointwise
    exact grad1 (col x0 (x 2)) (col x1 (x 2)) (col x2 (x 2)) (col x3 (x 2)) _ _ _ _ _ _ (by omega) (read_eq_col x3 _ _ _) (prod_read x0 x1 (x 2) _ _ _ (by omega)) (prod_read x0 x1 (x 2) _ _ _ (by omega)) (prod_read x0 x1 (x 2) _ _ _ (by omega))
  case piece20 =>
    rw [show y 2 = x 2 from Fin.ext h2, show (y 1).val = 512 + (x 1).val by omega]
    open_payloads; pointwise
    exact grad0 (col x0 (x 2)) (col x1 (x 2)) (col x2 (x 2)) (col x3 (x 2)) _ _ _ _ _ _ (by omega) (read_eq_col x0 _ _ _) (back_read x2 x3 (x 2) 2 _ _ _ (by omega)) (back_read x2 x3 (x 2) 1 _ _ _ (by omega)) (prod_read x2 x3 (x 2) _ _ _ (by omega))
  case piece21 =>
    rw [show y 2 = x 2 from Fin.ext h2, show (y 1).val = 0 + (x 1).val by omega]
    open_payloads; pointwise
    exact grad2 (col x0 (x 2)) (col x1 (x 2)) (col x2 (x 2)) (col x3 (x 2)) _ _ _ _ _ _ (by omega) (read_eq_col x2 _ _ _) (prod_read x0 x1 (x 2) _ _ _ (by omega)) (prod_read x0 x1 (x 2) _ _ _ (by omega)) (prod_read x0 x1 (x 2) _ _ _ (by omega))
  case piece22 =>
    rw [show y 2 = x 2 from Fin.ext h2, show (y 1).val = 0 + (x 1).val by omega]
    open_payloads; pointwise
    exact grad1 (col x0 (x 2)) (col x1 (x 2)) (col x2 (x 2)) (col x3 (x 2)) _ _ _ _ _ _ (by omega) (read_eq_col x3 _ _ _) (prod_read x0 x1 (x 2) _ _ _ (by omega)) (prod_read x0 x1 (x 2) _ _ _ (by omega)) (prod_read x0 x1 (x 2) _ _ _ (by omega))
  case piece23 =>
    rw [show y 2 = x 2 from Fin.ext h2, show (y 1).val = 0 + (x 1).val by omega]
    open_payloads; pointwise
    exact grad0 (col x0 (x 2)) (col x1 (x 2)) (col x2 (x 2)) (col x3 (x 2)) _ _ _ _ _ _ (by omega) (read_eq_col x0 _ _ _) (back_first x2 x3 (x 2) 2 _ (x 1).isLt (by omega) (by omega) _) (back_first x2 x3 (x 2) 1 _ (x 1).isLt (by omega) (by omega) _) (prod_read x2 x3 (x 2) _ _ _ (by omega))

end Cert.ConvKernelIdeal.Conv

end
-- ==== Proof.Conv.Rows.lean ====
module

public import proofs.«01_k».proof.Proof.Gen.ConvKernelIdeal.Frame
public import proofs.«01_k».proof.Proof.Conv.Channel

@[expose] public section

set_option maxRecDepth 16384

noncomputable section

open Idealize.ShloMosaic Idealize.ShloMosaic.TcCoe Idealize.SL.Sem
open Idealize.ShloMosaic.Pipeline (Dat)

namespace Cert.ConvKernelIdeal.Conv

open Cert.ConvKernelIdeal Cert.ConvKernelIdeal.Gen Cert.Conv

/-- A one-row store at row `k` of an 8 by 128 buffer, made last. -/
theorem canon_row (k : ℕ) (inb : ∀ a, (![k, 0] : Fin 2 → ℕ) a + S1x128.size a ≤ S8x128.size a) (w : Vec Ideal S1x128 .f32)
    (L : List (View.Piece (Elt Ideal) S8x128 .f32)) (y : S8x128.Idx) :
    View.canon ((⟨Rect.unit (s := S8x128) ![k, 0] S1x128.size inb, w⟩ : View.Piece (Elt Ideal) S8x128 .f32) :: L) y
      = if (y 0).val = k then w (ix2 0 (y 1)) else View.canon L y := by
  split
  · rename_i h
    have e : y = (Rect.unit (s := S8x128) ![k, 0] S1x128.size inb).emb (ix2 0 (y 1)) := by
      funext a; apply Fin.ext
      match a with
      | ⟨0, _⟩ => show (y 0).val = k + 1 * 0; omega
      | ⟨1, _⟩ => show (y 1).val = 0 + 1 * (y 1).val; omega
    conv_lhs => rw [e]
    exact View.canon_cons_emb _ _ _ _
  · rename_i h
    refine View.canon_cons_of_not_mem _ _ fun hm => h ?_
    have hm' := (Rect.mem_set_unit (s := S8x128) (off := ![k, 0]) (size := S1x128.size) (inb := inb) (i := y)).mp hm (0 : Fin 2)
    have h1 : k ≤ (y 0).val := hm'.1
    have h2 : (y 0).val < k + 1 := hm'.2
    omega

set_option maxHeartbeats 1600000 in
/-- What one grid point leaves in the block of parameter gradients: row `k`, channel `l` hold row `k` of channel `l`'s
    parameter gradients, the sum over the tokens taken in eight runs. -/
theorem block7 (c : Dev nD) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S3x128 .f32) (harg5 : arg5.IsWhole) (arg6 : Memref sig .tc .vmem S1x128 .f32) (harg6 : arg6.IsWhole) (arg8 : Memref sig .tc .vmem S3x4096x128 .bf16) (harg8 : arg8.IsWhole) (arg9 : Memref sig .tc .vmem S8x128 .f32) (harg9 : arg9.IsWhole)
    (x0 : Vec Ideal S4096x128 .bf16) (x1 : Vec Ideal S4096x128 .bf16) (x2 : Vec Ideal S4096x128 .bf16) (x3 : Vec Ideal S4096x128 .bf16) (x4 : Vec Ideal S3x128 .f32) (x5 : Vec Ideal S1x128 .f32) (y : S8x128.Idx) :
    out0_A_7 c i arg1 harg1 arg2 harg2 arg3 harg3 arg4 harg4 arg5 harg5 arg6 harg6 arg8 harg8 arg9 harg9 x0 x1 x2 x3 x4 x5 y
      = paramAt (y 0).val (col x0 (y 1)) (col x1 (y 1)) (col x2 (y 1)) (col x3 (y 1)) := by
  frame_out
  clear harg1 harg2 harg3 harg4 harg5 harg6 harg8 harg9
  rw [canon_row]
  split
  · rename_i hr
    open_payloads; pointwise
    simp only [paramAt, hr, Nat.reduceEqDiff, OfNat.ofNat_ne_zero, one_ne_zero, ↓reduceIte]
    rw [sum_runs (fun r => prod (col x0 (y 1)) (col x1 (y 1)) r)]
    exact runs_congr (fun x => prod_read x0 x1 (y 1) _ _ _ (by omega)) (fun x => prod_read x0 x1 (y 1) _ _ _ (by omega)) (fun x => prod_read x0 x1 (y 1) _ _ _ (by omega)) (fun x => prod_read x0 x1 (y 1) _ _ _ (by omega)) (fun x => prod_read x0 x1 (y 1) _ _ _ (by omega)) (fun x => prod_read x0 x1 (y 1) _ _ _ (by omega)) (fun x => prod_read x0 x1 (y 1) _ _ _ (by omega)) (fun x => prod_read x0 x1 (y 1) _ _ _ (by omega))
  rw [canon_row]
  split
  · rename_i hr
    open_payloads; pointwise
    simp only [paramAt, hr, Nat.reduceEqDiff, OfNat.ofNat_ne_zero, one_ne_zero, ↓reduceIte]
    rw [sum_runs (fun r => prod (col x0 (y 1)) (col x1 (y 1)) r * prod (col x2 (y 1)) (col x3 (y 1)) r)]
    exact runs_congr (fun x => congrArg₂ (· * ·) (prod_read x0 x1 (y 1) _ _ _ (by omega)) (prod_read x2 x3 (y 1) _ _ _ (by omega))) (fun x => congrArg₂ (· * ·) (prod_read x0 x1 (y 1) _ _ _ (by omega)) (prod_read x2 x3 (y 1) _ _ _ (by omega))) (fun x => congrArg₂ (· * ·) (prod_read x0 x1 (y 1) _ _ _ (by omega)) (prod_read x2 x3 (y 1) _ _ _ (by omega))) (fun x => congrArg₂ (· * ·) (prod_read x0 x1 (y 1) _ _ _ (by omega)) (prod_read x2 x3 (y 1) _ _ _ (by omega))) (fun x => congrArg₂ (· * ·) (prod_read x0 x1 (y 1) _ _ _ (by omega)) (prod_read x2 x3 (y 1) _ _ _ (by omega))) (fun x => congrArg₂ (· * ·) (prod_read x0 x1 (y 1) _ _ _ (by omega)) (prod_read x2 x3 (y 1) _ _ _ (by omega))) (fun x => congrArg₂ (· * ·) (prod_read x0 x1 (y 1) _ _ _ (by omega)) (prod_read x2 x3 (y 1) _ _ _ (by omega))) (fun x => congrArg₂ (· * ·) (prod_read x0 x1 (y 1) _ _ _ (by omega)) (prod_read x2 x3 (y 1) _ _ _ (by omega)))
  rw [canon_row]
  split
  · rename_i hr
    open_payloads; pointwise
    simp only [paramAt, hr, Nat.reduceEqDiff, OfNat.ofNat_ne_zero, one_ne_zero, ↓reduceIte]
    rw [sum_runs (fun r => prod (col x0 (y 1)) (col x1 (y 1)) r * back (prod (col x2 (y 1)) (col x3 (y 1))) 1 r)]
    exact runs_congr (fun x => congrArg₂ (· * ·) (prod_read x0 x1 (y 1) _ _ _ (by omega)) (back_first x2 x3 (y 1) 1 _ x.isLt (by omega) (by omega) _)) (fun x => congrArg₂ (· * ·) (prod_read x0 x1 (y 1) _ _ _ (by omega)) (back_read x2 x3 (y 1) 1 _ _ _ (by omega))) (fun x => congrArg₂ (· * ·) (prod_read x0 x1 (y 1) _ _ _ (by omega)) (back_read x2 x3 (y 1) 1 _ _ _ (by omega))) (fun x => congrArg₂ (· * ·) (prod_read x0 x1 (y 1) _ _ _ (by omega)) (back_read x2 x3 (y 1) 1 _ _ _ (by omega))) (fun x => congrArg₂ (· * ·) (prod_read x0 x1 (y 1) _ _ _ (by omega)) (back_read x2 x3 (y 1) 1 _ _ _ (by omega))) (fun x => congrArg₂ (· * ·) (prod_read x0 x1 (y 1) _ _ _ (by omega)) (back_read x2 x3 (y 1) 1 _ _ _ (by omega))) (fun x => congrArg₂ (· * ·) (prod_read x0 x1 (y 1) _ _ _ (by omega)) (back_read x2 x3 (y 1) 1 _ _ _ (by omega))) (fun x => congrArg₂ (· * ·) (prod_read x0 x1 (y 1) _ _ _ (by omega)) (back_read x2 x3 (y 1) 1 _ _ _ (by omega)))
  rw [canon_row]
  split
  · rename_i hr
    open_payloads; pointwise
    simp only [paramAt, hr, Nat.reduceEqDiff, OfNat.ofNat_ne_zero, one_ne_zero, ↓reduceIte]
    rw [sum_runs (fun r => prod (col x0 (y 1)) (col x1 (y 1)) r * back (prod (col x2 (y 1)) (col x3 (y 1))) 2 r)]
    exact runs_congr (fun x => congrArg₂ (· * ·) (prod_read x0 x1 (y 1) _ _ _ (by omega)) (back_first x2 x3 (y 1) 2 _ x.isLt (by omega) (by omega) _)) (fun x => congrArg₂ (· * ·) (prod_read x0 x1 (y 1) _ _ _ (by omega)) (back_read x2 x3 (y 1) 2 _ _ _ (by omega))) (fun x => congrArg₂ (· * ·) (prod_read x0 x1 (y 1) _ _ _ (by omega)) (back_read x2 x3 (y 1) 2 _ _ _ (by omega))) (fun x => congrArg₂ (· * ·) (prod_read x0 x1 (y 1) _ _ _ (by omega)) (back_read x2 x3 (y 1) 2 _ _ _ (by omega))) (fun x => congrArg₂ (· * ·) (prod_read x0 x1 (y 1) _ _ _ (by omega)) (back_read x2 x3 (y 1) 2 _ _ _ (by omega))) (fun x => congrArg₂ (· * ·) (prod_read x0 x1 (y 1) _ _ _ (by omega)) (back_read x2 x3 (y 1) 2 _ _ _ (by omega))) (fun x => congrArg₂ (· * ·) (prod_read x0 x1 (y 1) _ _ _ (by omega)) (back_read x2 x3 (y 1) 2 _ _ _ (by omega))) (fun x => congrArg₂ (· * ·) (prod_read x0 x1 (y 1) _ _ _ (by omega)) (back_read x2 x3 (y 1) 2 _ _ _ (by omega)))
  rename_i n3 n2 n1 n0
  rw [View.canon_unit_zero (S := S8x128) (funext fun a => by fin_cases a <;> rfl)]
  open_payloads; pointwise
  rw [paramAt, if_neg n0, if_neg n1, if_neg n2, if_neg n3]

end Cert.ConvKernelIdeal.Conv

end
-- ==== Proof.Conv.Arrays.lean ====
module

public import proofs.«01_k».proof.Proof.Gen.ConvKernelIdeal.Value
public import proofs.«01_k».proof.Proof.Conv.Planes
public import proofs.«01_k».proof.Proof.Conv.Rows
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ConvKernelIdeal.Conv

open Cert.ConvKernelIdeal Cert.ConvKernelIdeal.Gen Cert.Conv

variable (m : (ℓ : Loc nD τ sig) → Buf (Elt Ideal) ℓ)

/-- Every window's block at point `t`: the rows are whole, the columns are the `t`-th 128 channels (of the projection:
    of its first, second and third 1024 columns). -/
theorem block_index : ∀ t : Fin cfg0.N, win0_0.index t = ![0, t.val] ∧ win0_1.index t = ![0, t.val]
    ∧ win0_2.index t = ![0, 8 + t.val] ∧ win0_3.index t = ![0, 16 + t.val] ∧ win0_4.index t = ![0, t.val]
    ∧ win0_5.index t = ![0, t.val] ∧ win0_6.index t = ![1, 0, t.val] ∧ win0_7.index t = ![0, t.val] ∧ t.val < 8 :=
  (by decide +kernel : ∀ t : Fin grid0.N, _)

/-- The bias as the launch finds it: the argument as one row. -/
theorem entry_bias (c : Dev nD) (l : Fin 1024) :
    (V m c main_v0 : Vec Ideal S1x1024 .f32) (ix2 0 l) = (m ((c : Thread nD τ).loc main_arg4) : Vec Ideal S1024 .f32) (ix1 l) := by
  entry_read
  pointwise

/-- The result array's planes as the launch finds them: the argument's. -/
theorem entry_planes (c : Dev nD) : V m c main_v1_0 = m ((c : Thread nD τ).loc main_arg0) := by
  entry_read
  rfl

section Channels

variable (c : Dev nD) (t : Fin cfg0.N) (l : Fin 128) (L : Fin 1024) (h : L.val = t.val * 128 + l.val)

include h

/-- Channel `l` of the block of output gradients is channel `128 t + l` of the array. -/
theorem chan_dy : col (iblk m c 0 t : Vec Ideal S4096x128 .bf16) l
    = col (m ((c : Thread nD τ).loc main_arg1) : Vec Ideal S4096x1024 .bf16) L := by
  funext r
  unfold col
  split
  · blk_ext [iblk, V, block_index t]
  · rfl

/-- Channel `l` of the block of the output gate is channel `128 t + l` of the projection. -/
theorem chan_bg : col (iblk m c 1 t : Vec Ideal S4096x128 .bf16) l
    = col (m ((c : Thread nD τ).loc main_arg2) : Vec Ideal S4096x3072 .bf16) (⟨0 + L.val, by omega⟩ : Fin 3072) := by
  funext r
  unfold col
  split
  · blk_ext [iblk, V, block_index t]
  · rfl

/-- Channel `l` of the block of the input gate is channel `1024 + 128 t + l` of the projection. -/
theorem chan_cg : col (iblk m c 2 t : Vec Ideal S4096x128 .bf16) l
    = col (m ((c : Thread nD τ).loc main_arg2) : Vec Ideal S4096x3072 .bf16) (⟨1024 + L.val, by omega⟩ : Fin 3072) := by
  funext r
  unfold col
  split
  · blk_ext [iblk, V, block_index t]
  · rfl

/-- Channel `l` of the block of the convolution input is channel `2048 + 128 t + l` of the projection. -/
theorem chan_xc : col (iblk m c 3 t : Vec Ideal S4096x128 .bf16) l
    = col (m ((c : Thread nD τ).loc main_arg2) : Vec Ideal S4096x3072 .bf16) (⟨2048 + L.val, by omega⟩ : Fin 3072) := by
  funext r
  unfold col
  split
  · blk_ext [iblk, V, block_index t]
  · rfl

/-- The taps of channel `l` of the block are those of channel `128 t + l`. -/
theorem chan_tap (k : Fin 3) : (iblk m c 4 t : Vec Ideal S3x128 .f32) (ix2 k l)
    = (m ((c : Thread nD τ).loc main_arg3) : Vec Ideal S3x1024 .f32) (ix2 k L) := by
  blk_ext [iblk, V, block_index t]

/-- The bias of channel `l` of the block is that of channel `128 t + l`. -/
theorem chan_bias : (iblk m c 5 t : Vec Ideal S1x128 .f32) (ix2 0 l)
    = (m ((c : Thread nD τ).loc main_arg4) : Vec Ideal S1024 .f32) (ix1 L) := by
  rw [← entry_bias m c L]
  blk_ext [iblk, block_index t]

end Channels

/-- The gradient planes as one array: planes 0, 1, 2 are the argument's, planes 3, 4, 5 the gradients of the output
    gate, the input gate and the convolution's input. -/
def planesOf (D : Vec Ideal S6x4096x1024 .bf16) (dy : Vec Ideal S4096x1024 .bf16) (proj : Vec Ideal S4096x3072 .bf16)
    (w : Vec Ideal S3x1024 .f32) (b : Vec Ideal S1024 .f32) : Vec Ideal S6x4096x1024 .bf16 := fun i =>
  if 3 ≤ (i 0).val then
    gradAt ((i 0).val - 3) (col dy (i 2)) (col proj (⟨0 + (i 2).val, Nat.lt_of_lt_of_le (Nat.add_lt_add_left (i 2).isLt 0) (by decide)⟩ : Fin 3072))
      (col proj (⟨1024 + (i 2).val, Nat.lt_of_lt_of_le (Nat.add_lt_add_left (i 2).isLt 1024) (by decide)⟩ : Fin 3072))
      (col proj (⟨2048 + (i 2).val, Nat.lt_of_lt_of_le (Nat.add_lt_add_left (i 2).isLt 2048) (by decide)⟩ : Fin 3072))
      (w (ix2 0 (i 2))) (w (ix2 1 (i 2))) (w (ix2 2 (i 2))) (b (ix1 (i 2))) (i 1).val
  else D i

/-- The parameter gradients as one array: one row per tap, one for the bias, four rows of zeros. -/
def rowsOf (dy : Vec Ideal S4096x1024 .bf16) (proj : Vec Ideal S4096x3072 .bf16) : Vec Ideal S8x1024 .f32 := fun i =>
  paramAt (i 0).val (col dy (i 1)) (col proj (⟨0 + (i 1).val, Nat.lt_of_lt_of_le (Nat.add_lt_add_left (i 1).isLt 0) (by decide)⟩ : Fin 3072))
      (col proj (⟨1024 + (i 1).val, Nat.lt_of_lt_of_le (Nat.add_lt_add_left (i 1).isLt 1024) (by decide)⟩ : Fin 3072))
      (col proj (⟨2048 + (i 1).val, Nat.lt_of_lt_of_le (Nat.add_lt_add_left (i 1).isLt 2048) (by decide)⟩ : Fin 3072))

/-- After the run the gradient planes hold `planesOf` of the arguments. -/
theorem final6 (c : Dev nD) : (dats m 0 c).arrAt 6 cfg0.N
    = planesOf (m ((c : Thread nD τ).loc main_arg0)) (m ((c : Thread nD τ).loc main_arg1)) (m ((c : Thread nD τ).loc main_arg2))
        (m ((c : Thread nD τ).loc main_arg3)) (m ((c : Thread nD τ).loc main_arg4)) := by
  have e : planesOf (m ((c : Thread nD τ).loc main_arg0)) (m ((c : Thread nD τ).loc main_arg1)) (m ((c : Thread nD τ).loc main_arg2))
        (m ((c : Thread nD τ).loc main_arg3)) (m ((c : Thread nD τ).loc main_arg4))
      = fun i : S6x4096x1024.Idx => if 3 ≤ (i 0).val then planesOf (m ((c : Thread nD τ).loc main_arg0)) (m ((c : Thread nD τ).loc main_arg1)) (m ((c : Thread nD τ).loc main_arg2))
        (m ((c : Thread nD τ).loc main_arg3)) (m ((c : Thread nD τ).loc main_arg4)) i else V m c main_v1_0 i := by
    funext i
    rw [entry_planes]
    by_cases hi : 3 ≤ (i 0).val
    · rw [if_pos hi]
    · rw [if_neg hi, planesOf, if_neg hi]
  rw [e]
  refine (dats m 0 c).arrAt_eq_of_coversWhere 6 _ (fun β => 1 ≤ β 0) (by decide +kernel) (fun t hf y => ?_)
    (fun j => by blk_simp [Pipeline.Window.cell_apply]; omega)
  blk_simp
  rw [after0_6]
  unfold outsAt0
  dsimp only
  rw [block6]
  generalize hi : ((View.whole main_v1_0).slice (win0_6.rect t)).emb y = i
  have h0 : (i 0).val = 3 + (y 0).val := by rw [← hi]; blk_simp [block_index t]
  have h1 : (i 1).val = (y 1).val := by rw [← hi]; blk_simp [block_index t]
  have h2 : (i 2).val = t.val * 128 + (y 2).val := by rw [← hi]; blk_simp [block_index t]
  unfold planesOf
  rw [if_pos (by omega), chan_dy m c t (y 2) (i 2) h2, chan_bg m c t (y 2) (i 2) h2, chan_cg m c t (y 2) (i 2) h2,
    chan_xc m c t (y 2) (i 2) h2, chan_tap m c t (y 2) (i 2) h2, chan_tap m c t (y 2) (i 2) h2,
    chan_tap m c t (y 2) (i 2) h2, chan_bias m c t (y 2) (i 2) h2, h1, h0, Nat.add_sub_cancel_left]

/-- After the run the parameter gradients hold `rowsOf` of the arguments. -/
theorem final7 (c : Dev nD) : (dats m 0 c).arrAt 7 cfg0.N
    = rowsOf (m ((c : Thread nD τ).loc main_arg1)) (m ((c : Thread nD τ).loc main_arg2)) := by
  refine (dats m 0 c).arrAt_eq_of_covers 7 _ (by decide +kernel) fun t _ y => ?_
  blk_simp
  rw [after0_7]
  unfold outsAt0
  dsimp only
  rw [block7]
  generalize hi : ((View.whole main_v1_1).slice (win0_7.rect t)).emb y = i
  have h0 : (i 0).val = (y 0).val := by rw [← hi]; blk_simp [block_index t]
  have h1 : (i 1).val = t.val * 128 + (y 1).val := by rw [← hi]; blk_simp [block_index t]
  unfold rowsOf
  rw [chan_dy m c t (y 1) (i 1) h1, chan_bg m c t (y 1) (i 1) h1, chan_cg m c t (y 1) (i 1) h1,
    chan_xc m c t (y 1) (i 1) h1, h0]

end Cert.ConvKernelIdeal.Conv

end
-- ==== Proof.Conv.Reference.lean ====
module

public import proofs.«01_k».proof.Proof.Gen.ConvReferenceIdeal.Read
public import proofs.«01_k».proof.Proof.Conv.Channel

@[expose] public section

set_option maxRecDepth 16384

noncomputable section

open Idealize.ShloMosaic Idealize.ShloMosaic.TcCoe Idealize.SL.Sem

/-! # The reference's gradients, channel by channel

Each stage of the reference is read at one token of one channel, until both results are the functions of the channels
that the kernel's are. -/

namespace Cert.ConvReferenceIdeal.Conv

open Cert.ConvReferenceIdeal Cert.ConvReferenceIdeal.Read Cert.Conv

/-- A sum over two leading axes of length one is the one element there. -/
theorem sum_two_units {n : ℕ} {t : Shape} (h : (⟨3, ![1, 1, n]⟩ : Shape).ReducesTo [0, 1] t) (ht : 0 < t.rank)
    (v : (⟨3, ![1, 1, n]⟩ : Shape).Idx → EReal) (init : EReal) (j : t.Idx) (l : Fin n) (hl : (j ⟨0, ht⟩).val = l.val) :
    Ideal.hostReduceAdd h v init j = init + v (ix3 0 0 l) := by
  unfold Ideal.hostReduceAdd
  have hr : t.rank = 1 := h.1
  have e : Finset.univ.filter (fun i => h.drop i = j) = {ix3 0 0 l} := by
    ext i
    rw [Finset.mem_filter, Finset.mem_singleton]
    constructor
    · rintro ⟨_, e⟩
      funext a
      match a with
      | ⟨0, _⟩ => exact Fin.ext (by have : (i 0).val < 1 := (i 0).isLt; show (i 0).val = 0; omega)
      | ⟨1, _⟩ => exact Fin.ext (by have : (i 1).val < 1 := (i 1).isLt; show (i 1).val = 0; omega)
      | ⟨2, _⟩ => exact Fin.ext ((congrArg Fin.val (congrFun e ⟨0, ht⟩)).trans hl)
    · rintro rfl
      refine ⟨Finset.mem_univ _, ?_⟩
      funext b
      apply Fin.ext
      match b with
      | ⟨0, _⟩ => exact hl.symm
      | ⟨_ + 1, hb⟩ => exact absurd hb (by omega)
  rw [e, Finset.sum_singleton]

/-- Two tokens before the token after `a` is one token before `a`. -/
theorem back_next (f : ℕ → EReal) (a : ℕ) : back f 2 (1 + a) = back f 1 a := by
  unfold back
  by_cases h : a < 1
  · rw [if_pos (by omega), if_pos h]
  · rw [if_neg (by omega), if_neg h]; congr 1; omega

/-- Two tokens before the second token after `a` is `a`. -/
theorem back_second (f : ℕ → EReal) (a : ℕ) : back f 2 (2 + a) = f a := by
  unfold back
  rw [if_neg (by omega)]; congr 1; omega

variable (x0 : Vec Ideal S6x4096x1024 .bf16) (x1 : Vec Ideal S4096x1024 .bf16) (x2 : Vec Ideal S4096x3072 .bf16)
  (x3 : Vec Ideal S3x1024 .f32) (x4 : Vec Ideal S1024 .f32)

/-- Channel `l` of the output gate in the projection. -/
def bg (l : Fin 1024) : ℕ → EReal := col x2 (⟨0 + l.val, by omega⟩ : Fin 3072)
/-- Channel `l` of the input gate in the projection. -/
def cg (l : Fin 1024) : ℕ → EReal := col x2 (⟨1024 + l.val, by omega⟩ : Fin 3072)
/-- Channel `l` of the convolution's input in the projection. -/
def xc (l : Fin 1024) : ℕ → EReal := col x2 (⟨2048 + l.val, by omega⟩ : Fin 3072)

/-- The output gate read at a token. -/
theorem read_bg (a : Fin 4096) (l : Fin 1024) : val_main_v2 (F := Ideal) x2 (ix3 0 a l) = bg x2 l a := by
  unfold val_main_v2 val_main_v1 val_main_v0 bg
  pointwise
  exact read_eq_col x2 a.val a.isLt _

/-- The input gate read at a token. -/
theorem read_cg (a : Fin 4096) (l : Fin 1024) : val_main_v3 (F := Ideal) x2 (ix3 0 a l) = cg x2 l a := by
  unfold val_main_v3 val_main_v1 val_main_v0 cg
  pointwise
  exact read_eq_col x2 a.val a.isLt _

/-- The convolution's input read at a token. -/
theorem read_xc (a : Fin 4096) (l : Fin 1024) : val_main_v4 (F := Ideal) x2 (ix3 0 a l) = xc x2 l a := by
  unfold val_main_v4 val_main_v1 val_main_v0 xc
  pointwise
  exact read_eq_col x2 a.val a.isLt _

/-- The gradient of the result read at a token. -/
theorem read_dy (a : Fin 4096) (l : Fin 1024) : val_main_v6 (F := Ideal) x1 (ix3 0 a l) = col x1 l a := by
  unfold val_main_v6 val_main_v5
  pointwise
  exact read_eq_col x1 a.val a.isLt _

/-- The gated input with two zeros before it: entry `a` is the gated input two tokens before `a`. -/
theorem read_padded (a : Fin 4098) (l : Fin 1024) :
    val_main_v9 (F := Ideal) x2 (ix3 0 a l) = back (prod (cg x2 l) (xc x2 l)) 2 a := by
  unfold val_main_v9 val_main_v8 val_main_cst
  pointwise
  unfold back
  by_cases h : a.val < 2
  · simp only [h, if_true, dif_pos]
  · simp only [h, if_false, dif_neg, not_false_eq_true]
    rw [val_main_v7_apply]
    pointwise
    rw [read_cg, read_xc]; rfl

/-- The gradient of the convolution's output. -/
theorem read_dconv (a : Fin 4096) (l : Fin 1024) :
    val_main_v37 (F := Ideal) x1 x2 (ix3 0 a l) = prod (col x1 l) (bg x2 l) a := by
  rw [val_main_v37_apply, read_bg, read_dy]
  exact mul_comm _ _

/-- The convolution. -/
theorem read_conv (a : Fin 4096) (l : Fin 1024) : val_main_v35 (F := Ideal) x2 x3 x4 (ix3 0 a l)
    = conv3 (prod (cg x2 l) (xc x2 l)) (x3 (ix2 0 l)) (x3 (ix2 1 l)) (x3 (ix2 2 l)) (x4 (ix1 l)) a := by
  unfold val_main_v35 val_main_v34 val_main_v33 val_main_v32 val_main_v31 val_main_v30 val_main_v29 val_main_v28 val_main_v27
    val_main_v26 val_main_v25 val_main_v24 val_main_v23 val_main_v22 val_main_v21 val_main_v20 val_main_v19 val_main_v18
    val_main_v17 val_main_v16 val_main_v15 val_main_v14 val_main_v13 val_main_v12 val_main_v11 val_main_cst_1
  pointwise
  rw [read_padded, read_padded, read_padded]
  show _ + (_ * _ + _ * back _ 2 (1 + a.val) + _ * back _ 2 (2 + a.val)) = _
  rw [back_next, back_second]
  simp only [conv3, add_assoc]

/-- The gradient of the gated input. -/
theorem read_du (a : Fin 4096) (l : Fin 1024) : val_main_v74 (F := Ideal) x1 x2 x3 (ix3 0 a l)
    = tconv (prod (col x1 l) (bg x2 l)) (x3 (ix2 0 l)) (x3 (ix2 1 l)) (x3 (ix2 2 l)) a := by
  unfold val_main_v74 val_main_v69 val_main_v68 val_main_v58 val_main_v57 val_main_v48 val_main_v43 val_main_v52 val_main_v63
    val_main_v42 val_main_v29 val_main_v27 val_main_v26 val_main_v51 val_main_v22 val_main_v20 val_main_v19
    val_main_v62 val_main_v14 val_main_v12 val_main_v11 val_main_cst_6 val_main_cst_10 val_main_cst_14
  pointwise
  have e1 : (if h : 1 ≤ 2 + a.val ∧ 2 + a.val - 1 < 4096 then
      x3 (ix2 1 l) * val_main_v37 (F := Ideal) x1 x2 (ix3 0 ⟨2 + a.val - 1, h.2⟩ l) else 0)
      = x3 (ix2 1 l) * prod (col x1 l) (bg x2 l) (a.val + 1) := by
    by_cases h : 1 ≤ 2 + a.val ∧ 2 + a.val - 1 < 4096
    · rw [dif_pos h, read_dconv]
      show _ * prod _ _ (2 + a.val - 1) = _
      congr 2; omega
    · rw [dif_neg h, prod, col_past _ _ _ (by omega), zero_mul, mul_zero]
  have e2 : (if h : 2 + a.val < 4096 then
      x3 (ix2 0 l) * val_main_v37 (F := Ideal) x1 x2 (ix3 0 ⟨2 + a.val, h⟩ l) else 0)
      = x3 (ix2 0 l) * prod (col x1 l) (bg x2 l) (a.val + 2) := by
    by_cases h : 2 + a.val < 4096
    · rw [dif_pos h, read_dconv]
      show _ * prod _ _ (2 + a.val) = _
      congr 2; omega
    · rw [dif_neg h, prod, col_past _ _ _ (by omega), zero_mul, mul_zero]
  rw [e1, e2, read_dconv]
  rfl

/-- The gradient of the first tap. -/
theorem read_dw0 (l : Fin 1024) : val_main_v67 (F := Ideal) x1 x2 (ix1 l)
    = ∑ r : Fin 4096, prod (col x1 l) (bg x2 l) r * back (prod (cg x2 l) (xc x2 l)) 2 r := by
  unfold val_main_v67
  refine (sum_two_units Gen.reducesTo_S1x1x1024_S1024_d0_1 (by decide) _ _ (ix1 l) l rfl).trans ?_
  unfold val_main_v66 val_main_v65 val_main_v64 val_main_v13 val_main_cst_12 val_main_cst_13
  pointwise
  refine Finset.sum_congr rfl fun r _ => ?_
  rw [read_dconv, read_padded]

/-- The gradient of the middle tap. -/
theorem read_dw1 (l : Fin 1024) : val_main_v56 (F := Ideal) x1 x2 (ix1 l)
    = ∑ r : Fin 4096, prod (col x1 l) (bg x2 l) r * back (prod (cg x2 l) (xc x2 l)) 1 r := by
  unfold val_main_v56
  refine (sum_two_units Gen.reducesTo_S1x1x1024_S1024_d0_1 (by decide) _ _ (ix1 l) l rfl).trans ?_
  unfold val_main_v55 val_main_v54 val_main_v53 val_main_v21 val_main_cst_8 val_main_cst_9
  pointwise
  refine Finset.sum_congr rfl fun r _ => ?_
  rw [read_dconv, read_padded]
  exact congrArg (_ * ·) (back_next _ _)

/-- The gradient of the last tap. -/
theorem read_dw2 (l : Fin 1024) : val_main_v47 (F := Ideal) x1 x2 (ix1 l)
    = ∑ r : Fin 4096, prod (col x1 l) (bg x2 l) r * prod (cg x2 l) (xc x2 l) r := by
  unfold val_main_v47
  refine (sum_two_units Gen.reducesTo_S1x1x1024_S1024_d0_1 (by decide) _ _ (ix1 l) l rfl).trans ?_
  unfold val_main_v46 val_main_v45 val_main_v44 val_main_v28 val_main_cst_4 val_main_cst_5
  pointwise
  refine Finset.sum_congr rfl fun r _ => ?_
  rw [read_dconv, read_padded]
  exact congrArg (_ * ·) (back_second _ _)

/-- The gradient of the bias. -/
theorem read_db (l : Fin 1024) : val_main_v41 (F := Ideal) x1 x2 (ix1 l)
    = ∑ r : Fin 4096, prod (col x1 l) (bg x2 l) r := by
  unfold val_main_v41
  refine (sum_two_units Gen.reducesTo_S1x1x1024_S1024_d0_1 (by decide) _ _ (ix1 l) l rfl).trans ?_
  unfold val_main_v40 val_main_v39 val_main_cst_2 val_main_cst_3
  pointwise
  refine Finset.sum_congr rfl fun r _ => ?_
  rw [read_dconv]

/-- An axis of length one has one index. -/
theorem at_unit {n k : ℕ} (f : (⟨3, ![1, n, k]⟩ : Shape).Idx → EReal) (u : Fin 1) (a : Fin n) (l : Fin k) :
    f (ix3 u a l) = f (ix3 0 a l) := by
  rw [Subsingleton.elim u 0]

/-- The reference's first result: the planes of the argument, then the three gradients. -/
theorem planes (p : Fin 6) (a : Fin 4096) (l : Fin 1024) : val_main_v80 (F := Ideal) x0 x1 x2 x3 x4 (ix3 p a l)
    = if 3 ≤ p.val then gradAt (p.val - 3) (col x1 l) (bg x2 l) (cg x2 l) (xc x2 l)
        (x3 (ix2 0 l)) (x3 (ix2 1 l)) (x3 (ix2 2 l)) (x4 (ix1 l)) a.val else x0 (ix3 p a l) := by
  unfold val_main_v80 val_main_v79 val_main_v78 val_main_v77 val_main_v76 val_main_v75 val_main_v38
  pointwise
  by_cases h : p.val < 3
  · rw [dif_pos h, if_neg (show ¬ 3 ≤ p.val by omega)]
  · rw [dif_neg h, if_pos (show 3 ≤ p.val by omega)]
    by_cases h1 : p.val - 3 < 1
    · rw [dif_pos h1, at_unit (val_main_v6 (F := Ideal) x1), at_unit (val_main_v35 (F := Ideal) x2 x3 x4), read_dy, read_conv,
        gradAt, if_pos (show p.val - 3 = 0 by omega)]
    · rw [dif_neg h1, gradAt, if_neg (show ¬ p.val - 3 = 0 by omega)]
      by_cases h2 : p.val - 3 - 1 < 1
      · rw [dif_pos h2, if_pos (show p.val - 3 = 1 by omega), at_unit (val_main_v74 (F := Ideal) x1 x2 x3), at_unit (val_main_v4 (F := Ideal) x2),
          read_du, read_xc]
      · rw [dif_neg h2, if_neg (show ¬ p.val - 3 = 1 by omega), at_unit (val_main_v74 (F := Ideal) x1 x2 x3), at_unit (val_main_v3 (F := Ideal) x2),
          read_du, read_cg]
        exact mul_comm _ _

/-- The reference's second result: the gradients of the taps, of the bias, and zeros. -/
theorem rows (k : Fin 8) (l : Fin 1024) : val_main_v83 (F := Ideal) x1 x2 (ix2 k l)
    = paramAt k.val (col x1 l) (bg x2 l) (cg x2 l) (xc x2 l) := by
  unfold val_main_v83 val_main_v82 val_main_v81 val_main_v72 val_main_v71 val_main_v70 val_main_v61 val_main_v60 val_main_v59
    val_main_v50 val_main_v49 val_main_cst_7 val_main_cst_11 val_main_cst_15 val_main_cst_16
  pointwise
  unfold paramAt
  rw [read_dw0, read_dw1, read_dw2, read_db]
  by_cases h0 : k.val = 0
  · rw [dif_pos (by omega), dif_neg (by omega), dif_neg (by omega), dif_pos (by omega), if_pos h0, add_zero, zero_add]
  by_cases h1 : k.val = 1
  · rw [dif_pos (by omega), dif_neg (by omega), dif_pos (by omega), dif_neg (by omega), if_neg h0, if_pos h1, add_zero, zero_add]
  by_cases h2 : k.val = 2
  · rw [dif_pos (by omega), dif_pos (by omega), dif_neg (by omega), dif_neg (by omega), if_neg h0, if_neg h1, if_pos h2, add_zero, add_zero]
  rw [dif_neg (by omega), if_neg h0, if_neg h1, if_neg h2]
  by_cases h3 : k.val = 3
  · rw [dif_pos (by omega), if_pos h3]
  · rw [dif_neg (by omega), if_neg h3]

end Cert.ConvReferenceIdeal.Conv

end
-- ==== Proof.Conv.Algebraic.lean ====
module

public import proofs.«01_k».proof.Defs
public import proofs.«01_k».proof.Proof.Gen.ConvReferenceIdeal.Run
public import proofs.«01_k».proof.Proof.Conv.Arrays
public import proofs.«01_k».proof.Proof.Conv.Reference
public import Idealize.ShloMosaic.Lib.Claim

@[expose] public section

set_option maxRecDepth 16384

noncomputable section

open Idealize.ShloMosaic Idealize.ShloMosaic.TcCoe Idealize.SL.Sem

/-! # Kernel and reference of the gated short convolution's gradient end with equal results -/

namespace Cert.Conv

open Cert.ConvKernelIdeal.Conv Cert.ConvReferenceIdeal.Conv Cert.ConvReferenceIdeal.Read

/-- The reference's gradient planes are the kernel's. -/
theorem planes_eq (x0 : Vec Ideal Cert.ConvReferenceIdeal.S6x4096x1024 .bf16) (x1 : Vec Ideal Cert.ConvReferenceIdeal.S4096x1024 .bf16)
    (x2 : Vec Ideal Cert.ConvReferenceIdeal.S4096x3072 .bf16) (x3 : Vec Ideal Cert.ConvReferenceIdeal.S3x1024 .f32)
    (x4 : Vec Ideal Cert.ConvReferenceIdeal.S1024 .f32) : val_main_v80 (F := Ideal) x0 x1 x2 x3 x4 = planesOf x0 x1 x2 x3 x4 := by
  funext i
  have e : i = ix3 (i 0) (i 1) (i 2) := by
    funext a
    match a with
    | ⟨0, _⟩ => rfl
    | ⟨1, _⟩ => rfl
    | ⟨2, _⟩ => rfl
  rw [e]
  exact planes x0 x1 x2 x3 x4 (i 0) (i 1) (i 2)

/-- The reference's parameter gradients are the kernel's. -/
theorem rows_eq (x1 : Vec Ideal Cert.ConvReferenceIdeal.S4096x1024 .bf16) (x2 : Vec Ideal Cert.ConvReferenceIdeal.S4096x3072 .bf16) :
    val_main_v83 (F := Ideal) x1 x2 = rowsOf x1 x2 := by
  funext i
  have e : i = ix2 (i 0) (i 1) := by
    funext a
    match a with
    | ⟨0, _⟩ => rfl
    | ⟨1, _⟩ => rfl
  rw [e]
  exact rows x1 x2 (i 0) (i 1)

/-- From memories agreeing on the arguments, kernel and reference end with equal results over the extended reals. -/
theorem algebraic : Cert.algebraic_ConvKernelIdeal_ConvReferenceIdeal (hConvKernelIdeal := Cert.ConvKernelIdeal.Gen.facts)
    (hConvReferenceIdeal := Cert.ConvReferenceIdeal.Gen.facts) := by
  pair_intro
  · run_from Cert.ConvKernelIdeal.Gen.run_main m g
  · run_from Cert.ConvReferenceIdeal.Value.run m' g'
    · rw [val_main_v80_eq, planes_eq, final6]
      obtain ⟨h0, h1, h2, h3, h4⟩ := hagree c
      exact congr (congr (congr (congr (congrArg planesOf h0) h1) h2) h3) h4
    · rw [val_main_v83_eq, rows_eq, final7]
      obtain ⟨h0, h1, h2, h3, h4⟩ := hagree c
      exact congr (congrArg rowsOf h1) h2

end Cert.Conv

end
-- ==== Proof.Shared.Reading.lean ====
module

public import Idealize.ShloMosaic.Lib.Pointwise
public import Idealize.ShloMosaic.Lib.Claim

@[expose] public section

noncomputable section

open Idealize.ShloMosaic

/-! # Arrays read at natural numbers

An array's element at row and column numbers that carry no proof of being in range, so that two ways of computing the
same position are compared by arithmetic alone. -/

namespace Cert.Shared

/-- The element at row `a`, column `b`; zero outside the array. -/
def at2 {r s : ℕ} (v : (⟨2, ![r, s]⟩ : Shape).Idx → EReal) (a b : ℕ) : EReal :=
  if h : a < r ∧ b < s then v (ix2 ⟨a, h.1⟩ ⟨b, h.2⟩) else 0

/-- The element at plane `p`, row `a`, column `b`; zero outside the array. -/
def at3 {q r s : ℕ} (v : (⟨3, ![q, r, s]⟩ : Shape).Idx → EReal) (p a b : ℕ) : EReal :=
  if h : p < q ∧ a < r ∧ b < s then v (ix3 ⟨p, h.1⟩ ⟨a, h.2.1⟩ ⟨b, h.2.2⟩) else 0

/-- An element of a matrix is the element at its row and column numbers. -/
theorem eq_at2 {r s : ℕ} (v : (⟨2, ![r, s]⟩ : Shape).Idx → EReal) (i : Fin r) (j : Fin s) : v (ix2 i j) = at2 v i.val j.val := by
  rw [at2, dif_pos ⟨i.isLt, j.isLt⟩]

/-- An element of a stack of matrices is the element at its three numbers. -/
theorem eq_at3 {q r s : ℕ} (v : (⟨3, ![q, r, s]⟩ : Shape).Idx → EReal) (p : Fin q) (i : Fin r) (j : Fin s) :
    v (ix3 p i j) = at3 v p.val i.val j.val := by
  rw [at3, dif_pos ⟨p.isLt, i.isLt, j.isLt⟩]

/-- An element of a stack of matrices is the element at any three numbers equal to its own. -/
theorem eq_at3_of {q r s : ℕ} (v : (⟨3, ![q, r, s]⟩ : Shape).Idx → EReal) (p : Fin q) (i : Fin r) (j : Fin s) {a b c : ℕ}
    (ha : a = p.val) (hb : b = i.val) (hc : c = j.val) : v (ix3 p i j) = at3 v a b c := by
  rw [ha, hb, hc]; exact eq_at3 v p i j

/-- Two sums of products over the same terms agree when their factors do. -/
theorem sum_mul_congr {n : ℕ} {a b c d : Fin n → EReal} (h : ∀ k, a k = c k) (h' : ∀ k, b k = d k) :
    ∑ k, a k * b k = ∑ k, c k * d k :=
  Finset.sum_congr rfl fun k _ => by rw [h, h']

/-- An index of a matrix is made of its two coordinates. -/
theorem idx2_eta {r s : ℕ} (i : (⟨2, ![r, s]⟩ : Shape).Idx) : i = ix2 (i 0) (i 1) := by
  funext a
  match a with
  | ⟨0, _⟩ => rfl
  | ⟨1, _⟩ => rfl

/-- An index of a stack of matrices is made of its three coordinates. -/
theorem idx3_eta {q r s : ℕ} (i : (⟨3, ![q, r, s]⟩ : Shape).Idx) : i = ix3 (i 0) (i 1) (i 2) := by
  funext a
  match a with
  | ⟨0, _⟩ => rfl
  | ⟨1, _⟩ => rfl
  | ⟨2, _⟩ => rfl

end Cert.Shared

end
-- ==== Proof.Norms.Row.lean ====
module

public import Idealize.ShloMosaic.Lib.Pipeline.ValueKit

@[expose] public section

noncomputable section

open Idealize.ShloMosaic

/-! # The gradient of a root mean square norm along one row, over the extended reals -/

namespace Cert.Norms

/-- The row's length, 1024. -/
abbrev width : EReal := Ideal.ofBits FTy.f32 0x44800000#32

/-- The small positive number under the root. -/
abbrev eps : EReal := Ideal.ofBits FTy.f32 0x358637BD#32

/-- Minus one half. -/
abbrev minus_half : EReal := Ideal.ofBits FTy.f32 0xBF000000#32

theorem width_eq : width = ((1024 : ℝ) : EReal) := by
  unfold width
  simp [Ideal.ofBits, Ideal.ieee]
  rw [← EReal.coe_mul]
  norm_num

theorem minus_half_eq : minus_half = ((-(1/2) : ℝ) : EReal) := by
  unfold minus_half
  simp [Ideal.ofBits, Ideal.ieee]
  rw [← EReal.coe_mul]
  norm_num

theorem eps_pos : ∃ e : ℝ, 0 < e ∧ eps = (e : EReal) := by
  unfold eps
  simp only [Ideal.ofBits, Ideal.ieee]
  refine ⟨(1 * (2 ^ 23 + 407485 : ℕ) * (2:ℝ) ^ ((107:Int) - (2 ^ (8 - 1) - 1) - 23)), by positivity, ?_⟩
  simp

/-- The mean of squares plus the small number. -/
def mean_square (x : Fin 1024 → EReal) : EReal := Ideal.div (∑ k : Fin 1024, x k * x k) width + eps

/-- The reciprocal root of the mean of squares. -/
def inv_rms (x : Fin 1024 → EReal) : EReal := Ideal.rsqrt (mean_square x)

/-- Dividing by the width is multiplying by a positive real. -/
theorem div_width (y : EReal) : Ideal.div y width = y * ((1024⁻¹ : ℝ) : EReal) := by
  rw [width_eq, Ideal.div, if_neg (by norm_num), EReal.coe_inv]

/-- A nonnegative real moves into a sum. -/
theorem mul_sum_nonneg {n : ℕ} (r : ℝ) (hr : 0 ≤ r) (f : Fin n → EReal) : (r : EReal) * ∑ k, f k = ∑ k, (r : EReal) * f k := by
  classical
  induction (Finset.univ : Finset (Fin n)) using Finset.induction_on with
  | empty => simp
  | insert a s ha ih =>
    rw [Finset.sum_insert ha, Finset.sum_insert ha, ← ih]
    exact EReal.left_distrib_of_nonneg_of_ne_top (by exact_mod_cast hr) (EReal.coe_ne_top r) _ _

/-- A sum of reals is the same sum among the extended reals. -/
theorem coe_sum {n : ℕ} (f : Fin n → ℝ) : ((∑ k, f k : ℝ) : EReal) = ∑ k, (f k : EReal) := by
  classical
  induction (Finset.univ : Finset (Fin n)) using Finset.induction_on with
  | empty => simp
  | insert a s ha ih => rw [Finset.sum_insert ha, Finset.sum_insert ha, ← ih, EReal.coe_add]

/-- Twice an extended real is the sum of two copies. -/
theorem add_self (y : EReal) : y + y = ((2 : ℝ) : EReal) * y := by
  induction y with
  | bot => rw [EReal.coe_mul_bot_of_pos (by norm_num)]; rfl
  | top => rw [EReal.coe_mul_top_of_pos (by norm_num)]; rfl
  | coe r => rw [← EReal.coe_add, ← EReal.coe_mul, two_mul]

/-- A square of an extended real is not negative. -/
theorem square_nonneg (y : EReal) : 0 ≤ y * y := by
  induction y with
  | bot => simp
  | top => simp
  | coe r => rw [← EReal.coe_mul]; exact_mod_cast mul_self_nonneg r

/-- If the sum of squares is finite, every element is a real. -/
theorem reals_of_sum (x : Fin 1024 → EReal) (h : ∑ k, x k * x k ≠ ⊤) : ∃ z : Fin 1024 → ℝ, ∀ k, x k = (z k : EReal) := by
  refine ⟨fun k => (x k).toReal, fun k => ?_⟩
  have le : x k * x k ≤ ∑ k, x k * x k := Finset.single_le_sum (f := fun k => x k * x k) (fun i _ => square_nonneg (x i)) (Finset.mem_univ k)
  refine (EReal.coe_toReal ?_ ?_).symm
  · intro e; rw [e] at le; simp at le; exact h le
  · intro e; rw [e] at le; simp at le; exact h le

/-- One element of a row's gradient as the kernel forms it: the gradient `u` at the normalised row, less the normalised row times the
mean of their products, scaled by the reciprocal root. -/
def row_dx (x u : Fin 1024 → EReal) (l : Fin 1024) : EReal :=
  inv_rms x * (u l - x l * inv_rms x * Ideal.div (∑ k, u k * (x k * inv_rms x)) width)

/-- Equal rows, equal gradients at the normalised rows and equal positions give equal elements. -/
theorem row_dx_congr {x x' u u' : Fin 1024 → EReal} {l l' : Fin 1024} (hx : ∀ k, x k = x' k) (hu : ∀ k, u k = u' k) (hl : l = l') :
    row_dx x u l = row_dx x' u' l' := by
  rw [funext hx, funext hu, hl]

/-- One element of the row's gradient, as the kernel forms it and as differentiation gives it (through the reciprocal root's derivative, twice for the two factors of each square). `u` is the gradient at the
normalised row, `l` the element. At an infinite mean of squares both are zero; otherwise the row is real and both are the same sum. -/
theorem row_gradient (x u : Fin 1024 → EReal) (l : Fin 1024) :
    row_dx x u l
      = u l * inv_rms x + x l * Ideal.div ((∑ k, x k * u k) * (minus_half * Ideal.div (inv_rms x) (mean_square x))) width
        + Ideal.div ((∑ k, x k * u k) * (minus_half * Ideal.div (inv_rms x) (mean_square x))) width * x l := by
  obtain ⟨e, he, hee⟩ := eps_pos
  unfold row_dx
  by_cases hS : ∑ k, x k * x k = ⊤
  · have hs : mean_square x = ⊤ := by
      rw [mean_square, hS, div_width, EReal.top_mul_coe_of_pos (by norm_num), hee, EReal.top_add_coe]
    have hr : inv_rms x = 0 := by rw [inv_rms, hs]; rfl
    have hq : Ideal.div 0 ⊤ = 0 := by rw [Ideal.div, if_neg (by simp), zero_mul]
    rw [hr, hs, hq, div_width, div_width]
    simp
  · obtain ⟨z, hz⟩ := reals_of_sum x hS
    have hsum : ∑ k, x k * x k = ((∑ k, z k * z k : ℝ) : EReal) := by
      rw [coe_sum]
      exact Finset.sum_congr rfl fun k _ => by rw [hz, EReal.coe_mul]
    have hs : mean_square x = (((∑ k, z k * z k) * 1024⁻¹ + e : ℝ) : EReal) := by
      rw [mean_square, hsum, div_width, hee, ← EReal.coe_mul, ← EReal.coe_add]
    have hpos : 0 < (∑ k, z k * z k) * 1024⁻¹ + e := by
      have : 0 ≤ ∑ k, z k * z k := Finset.sum_nonneg fun k _ => mul_self_nonneg (z k)
      positivity
    generalize (∑ k, z k * z k) * 1024⁻¹ + e = s at hs hpos
    obtain ⟨r, hr0, hrr, hr⟩ : ∃ r : ℝ, 0 < r ∧ r * s⁻¹ = r * r * r ∧ inv_rms x = (r : EReal) := by
      refine ⟨(Real.sqrt s)⁻¹, by positivity, ?_, ?_⟩
      · rw [mul_assoc (Real.sqrt s)⁻¹, ← mul_inv (Real.sqrt s) (Real.sqrt s), Real.mul_self_sqrt hpos.le]
      · rw [inv_rms, hs]
        show (if s < 0 then ⊥ else if s = 0 then ⊤ else (((Real.sqrt s)⁻¹ : ℝ) : EReal)) = _
        rw [if_neg (not_lt.mpr hpos.le), if_neg hpos.ne']
    have hq : Ideal.div (r : EReal) (s : EReal) = ((r * r * r : ℝ) : EReal) := by
      rw [Ideal.div, if_neg (by exact_mod_cast hpos.ne'), ← EReal.coe_inv, ← EReal.coe_mul, hrr]
    have hT : ∑ k, u k * (x k * inv_rms x) = (r : EReal) * ∑ k, x k * u k := by
      rw [mul_sum_nonneg r hr0.le]
      exact Finset.sum_congr rfl fun k _ => by rw [hr, mul_comm (u k), mul_comm (x k), mul_assoc]
    rw [hT, hr, hs, hq, minus_half_eq, div_width, div_width, hz l]
    generalize ∑ k, x k * u k = T
    rw [sub_eq_add_neg, EReal.left_distrib_of_nonneg_of_ne_top (by exact_mod_cast hr0.le) (EReal.coe_ne_top r), add_assoc, mul_comm (u l)]
    refine congrArg _ ?_
    rw [mul_comm _ (z l : EReal), add_self]
    have left : (r : EReal) * -((z l : EReal) * (r : EReal) * ((r : EReal) * T * ((1024⁻¹ : ℝ) : EReal)))
        = ((-(r * (z l * r) * (r * 1024⁻¹)) : ℝ) : EReal) * T := by
      rw [EReal.coe_neg, EReal.neg_mul, mul_comm (r : EReal), EReal.neg_mul]
      refine congrArg _ ?_
      push_cast
      ac_rfl
    have right : ((2 : ℝ) : EReal) * ((z l : EReal) * (T * (((-(1/2) : ℝ) : EReal) * ((r * r * r : ℝ) : EReal)) * ((1024⁻¹ : ℝ) : EReal)))
        = ((2 * (z l * (-(1/2) * (r * r * r) * 1024⁻¹)) : ℝ) : EReal) * T := by
      simp only [EReal.coe_mul]
      ac_rfl
    rw [left, right]
    refine congrArg (fun y : ℝ => (y : EReal) * T) ?_
    ring

end Cert.Norms

end
-- ==== Proof.Norms.One.lean ====
module

public import proofs.«01_k».proof.Defs
public import proofs.«01_k».proof.Proof.Gen.NormOneKernelIdeal.Value
public import proofs.«01_k».proof.Proof.Gen.NormOneReferenceIdeal.Run
public import proofs.«01_k».proof.Proof.Gen.NormOneReferenceIdeal.Read
public import proofs.«01_k».proof.Proof.Shared.Reading
public import proofs.«01_k».proof.Proof.Norms.Row
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! # The gradient of the first norm: the call d_h -/

namespace Cert.NormOneKernelIdeal.Proof

open Cert.NormOneKernelIdeal Cert.NormOneKernelIdeal.Gen Cert.Shared Cert.Norms Cert.NormOneReferenceIdeal.Read

variable (m : (ℓ : Loc nD τ sig) → Buf (Elt Ideal) ℓ)

/-- Grid point `t` is token block `t`; the weights and the scale are one block each. -/
theorem block_index : ∀ t : Fin cfg0.N, win0_0.index t = ![0, t.val, 0] ∧ win0_1.index t = ![0, t.val, 0] ∧ win0_2.index t = ![0, 0, 0]
    ∧ win0_3.index t = ![0, 0, 0] ∧ win0_4.index t = ![t.val, 0] ∧ win0_5.index t = ![0, 0] ∧ win0_6.index t = ![t.val, 0]
    ∧ win0_7.index t = ![t.val, 0] ∧ win0_8.index t = ![0, 0] ∧ t.val < 8 :=
  (by decide +kernel : ∀ t : Fin grid0.N, _)

/-- The number of a grid point is less than eight. -/
theorem point_lt (t : Fin cfg0.N) : t.val < 8 := (block_index t).2.2.2.2.2.2.2.2.2

/-- The norm's scale as the launch finds it is the argument. -/
theorem entry_scale (c : Dev nD) (l : Fin 1024) : (V m c main_v0 : Vec Ideal S1x1024 .f32) (ix2 0 l)
    = (m ((c : Thread nD τ).loc main_arg5) : Vec Ideal S1024 .f32) (ix1 l) := by
  entry_read
  pointwise

/-- The gradient at the norm's output that one grid point forms from its blocks: twelve parts through the projections' weight and four
through the gates' weight. -/
def tile (x0 : Vec Ideal S6x512x1024 .bf16) (x1 : Vec Ideal S2x512x1024 .bf16) (x2 : Vec Ideal S4x1024x1536 .bf16) (x3 : Vec Ideal S4x1024x512 .bf16) :
    FVec Ideal S512x1024 .f32 :=
  k0_pay9 (F := Ideal)
    (k0_pay7 (F := Ideal)
      (k0_pay6 (F := Ideal)
        (k0_pay4 (F := Ideal)
          (View.ld x0 (Rect.unit ![0, 0, 0] ![1, 512, 512] inb_S6x512x1024_S1x512x512_0_0_0))
          (View.ld x2 (Rect.unit ![0, 0, 0] ![1, 1024, 512] inb_S4x1024x1536_S1x1024x512_0_0_0))
          (View.ld x0 (Rect.unit ![0, 0, 512] ![1, 512, 512] inb_S6x512x1024_S1x512x512_0_0_512))
          (View.ld x2 (Rect.unit ![0, 0, 512] ![1, 1024, 512] inb_S4x1024x1536_S1x1024x512_0_0_512))
          (View.ld x0 (Rect.unit ![1, 0, 0] ![1, 512, 512] inb_S6x512x1024_S1x512x512_1_0_0))
          (View.ld x2 (Rect.unit ![0, 0, 1024] ![1, 1024, 512] inb_S4x1024x1536_S1x1024x512_0_0_1024))
          (View.ld x0 (Rect.unit ![1, 0, 512] ![1, 512, 512] inb_S6x512x1024_S1x512x512_1_0_512))
          (View.ld x2 (Rect.unit ![1, 0, 0] ![1, 1024, 512] inb_S4x1024x1536_S1x1024x512_1_0_0)))
        (k0_pay5 (F := Ideal) (View.ld x0 (Rect.unit ![2, 0, 0] ![1, 512, 512] inb_S6x512x1024_S1x512x512_2_0_0)))
        (View.ld x2 (Rect.unit ![1, 0, 512] ![1, 1024, 512] inb_S4x1024x1536_S1x1024x512_1_0_512))
        (View.ld x0 (Rect.unit ![2, 0, 512] ![1, 512, 512] inb_S6x512x1024_S1x512x512_2_0_512))
        (View.ld x2 (Rect.unit ![1, 0, 1024] ![1, 1024, 512] inb_S4x1024x1536_S1x1024x512_1_0_1024))
        (View.ld x0 (Rect.unit ![3, 0, 0] ![1, 512, 512] inb_S6x512x1024_S1x512x512_3_0_0))
        (View.ld x2 (Rect.unit ![2, 0, 0] ![1, 1024, 512] inb_S4x1024x1536_S1x1024x512_2_0_0))
        (View.ld x0 (Rect.unit ![3, 0, 512] ![1, 512, 512] inb_S6x512x1024_S1x512x512_3_0_512))
        (View.ld x2 (Rect.unit ![2, 0, 512] ![1, 1024, 512] inb_S4x1024x1536_S1x1024x512_2_0_512))
        (View.ld x0 (Rect.unit ![4, 0, 0] ![1, 512, 512] inb_S6x512x1024_S1x512x512_4_0_0))
        (View.ld x2 (Rect.unit ![2, 0, 1024] ![1, 1024, 512] inb_S4x1024x1536_S1x1024x512_2_0_1024)))
      (View.ld x0 (Rect.unit ![4, 0, 512] ![1, 512, 512] inb_S6x512x1024_S1x512x512_4_0_512))
      (View.ld x2 (Rect.unit ![3, 0, 0] ![1, 1024, 512] inb_S4x1024x1536_S1x1024x512_3_0_0))
      (View.ld x0 (Rect.unit ![5, 0, 0] ![1, 512, 512] inb_S6x512x1024_S1x512x512_5_0_0))
      (View.ld x2 (Rect.unit ![3, 0, 512] ![1, 1024, 512] inb_S4x1024x1536_S1x1024x512_3_0_512))
      (View.ld x0 (Rect.unit ![5, 0, 512] ![1, 512, 512] inb_S6x512x1024_S1x512x512_5_0_512))
      (View.ld x2 (Rect.unit ![3, 0, 1024] ![1, 1024, 512] inb_S4x1024x1536_S1x1024x512_3_0_1024))
      (View.ld x1 (Rect.unit ![0, 0, 0] ![1, 512, 512] inb_S2x512x1024_S1x512x512_0_0_0))
      (View.ld x3 (Rect.unit ![0, 0, 0] ![1, 1024, 512] inb_S4x1024x512_S1x1024x512_0_0_0)))
    (k0_pay8 (F := Ideal) (View.ld x1 (Rect.unit ![0, 0, 512] ![1, 512, 512] inb_S2x512x1024_S1x512x512_0_0_512)))
    (View.ld x3 (Rect.unit ![1, 0, 0] ![1, 1024, 512] inb_S4x1024x512_S1x1024x512_1_0_0))
    (View.ld x1 (Rect.unit ![1, 0, 0] ![1, 512, 512] inb_S2x512x1024_S1x512x512_1_0_0))
    (View.ld x3 (Rect.unit ![2, 0, 0] ![1, 1024, 512] inb_S4x1024x512_S1x1024x512_2_0_0))
    (View.ld x1 (Rect.unit ![1, 0, 512] ![1, 512, 512] inb_S2x512x1024_S1x512x512_1_0_512))
    (View.ld x3 (Rect.unit ![3, 0, 0] ![1, 1024, 512] inb_S4x1024x512_S1x1024x512_3_0_0))

/-- A sum over twelve, written out. -/
theorem sum_twelve (f : Fin 12 → EReal) : ∑ j, f j = f 0 + f 1 + f 2 + f 3 + f 4 + f 5 + f 6 + f 7 + f 8 + f 9 + f 10 + f 11 := by
  simp [Fin.sum_univ_castSucc]

/-- Four terms added one after another to a first one are their sum added to it. -/
theorem add_four (s a b c d : EReal) : s + a + b + c + d = s + (a + b + c + d) := by
  simp only [add_assoc]

/-- The sixteen parts add up to one sum over the projections' columns and one over the gates' columns. -/
theorem tile_sum (x0 : Vec Ideal S6x512x1024 .bf16) (x1 : Vec Ideal S2x512x1024 .bf16) (x2 : Vec Ideal S4x1024x1536 .bf16) (x3 : Vec Ideal S4x1024x512 .bf16)
    (a : Fin 512) (l : Fin 1024) : tile x0 x1 x2 x3 (ix2 a l)
      = (∑ k : Fin 6144, at3 x0 (k.val / 1024) a.val (k.val % 1024) * at3 x2 (k.val / 1536) l.val (k.val % 1536))
        + ∑ k : Fin 2048, at3 x1 (k.val / 1024) a.val (k.val % 1024) * at3 x3 (k.val / 512) l.val (k.val % 512) := by
  unfold tile
  rw [Fin.sum_univ_tiles 12 512 rfl, sum_twelve, Fin.sum_univ_tiles 4 512 rfl, Fin.sum_univ_four]
  pointwise [k0_pay9, k0_pay8, k0_pay7, k0_pay6, k0_pay5, k0_pay4]
  have part : ∀ (f : Fin 512 → EReal) (w : Fin 512 → EReal) (j : Fin 12),
      (∀ k : Fin 512, f k = at3 x0 ((j.val * 512 + k.val) / 1024) a.val ((j.val * 512 + k.val) % 1024)) →
      (∀ k : Fin 512, w k = at3 x2 ((j.val * 512 + k.val) / 1536) l.val ((j.val * 512 + k.val) % 1536)) →
      ∑ k, f k * w k = ∑ k : Fin 512, at3 x0 ((j.val * 512 + k.val) / 1024) a.val ((j.val * 512 + k.val) % 1024)
        * at3 x2 ((j.val * 512 + k.val) / 1536) l.val ((j.val * 512 + k.val) % 1536) :=
    fun f w j hf hw => sum_mul_congr hf hw
  have gate_part : ∀ (f : Fin 512 → EReal) (w : Fin 512 → EReal) (j : Fin 4),
      (∀ k : Fin 512, f k = at3 x1 ((j.val * 512 + k.val) / 1024) a.val ((j.val * 512 + k.val) % 1024)) →
      (∀ k : Fin 512, w k = at3 x3 ((j.val * 512 + k.val) / 512) l.val ((j.val * 512 + k.val) % 512)) →
      ∑ k, f k * w k = ∑ k : Fin 512, at3 x1 ((j.val * 512 + k.val) / 1024) a.val ((j.val * 512 + k.val) % 1024)
        * at3 x3 ((j.val * 512 + k.val) / 512) l.val ((j.val * 512 + k.val) % 512) :=
    fun f w j hf hw => sum_mul_congr hf hw
  refine (add_four _ _ _ _ _).trans (congrArg₂ (· + ·) ?_
    (congrArg₂ (· + ·) (congrArg₂ (· + ·) (congrArg₂ (· + ·) (gate_part _ _ 0 ?_ ?_) (gate_part _ _ 1 ?_ ?_)) (gate_part _ _ 2 ?_ ?_)) (gate_part _ _ 3 ?_ ?_)))
  · refine congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (part _ _ 0 ?_ ?_) (part _ _ 1 ?_ ?_)) (part _ _ 2 ?_ ?_)) (part _ _ 3 ?_ ?_)) (part _ _ 4 ?_ ?_)) (part _ _ 5 ?_ ?_)) (part _ _ 6 ?_ ?_)) (part _ _ 7 ?_ ?_)) (part _ _ 8 ?_ ?_)) (part _ _ 9 ?_ ?_)) (part _ _ 10 ?_ ?_)) (part _ _ 11 ?_ ?_)
    all_goals
      intro k
      have := k.isLt
      refine eq_at3_of _ _ _ _ ?_ ?_ ?_
    all_goals first | rfl | (simp; done) | (simp; omega)
  all_goals
    intro k
    have := k.isLt
    refine eq_at3_of _ _ _ _ ?_ ?_ ?_
  all_goals first | rfl | (simp; done) | (simp; omega)

/-- The kernel's reciprocal root is that of the row. -/
theorem root (x : Vec Ideal S512x1024 .f32) (a : Fin 512) : k0_pay10 (F := Ideal) x (ix2 a 0) = inv_rms (fun k => x (ix2 a k)) := by
  pointwise [k0_pay10]
  rfl

/-- The first result's block: the row gradients plus the gradient that bypasses the norm. -/
theorem block7 (s : FVec Ideal S512x1024 .f32) (p : FVec Ideal S512x512 .bf16) (q : Vec Ideal S1x1024x512 .bf16) (p' : Vec Ideal S1x512x512 .bf16)
    (q' : Vec Ideal S1x1024x512 .bf16) (p'' : Vec Ideal S1x512x512 .bf16) (q'' : Vec Ideal S1x1024x512 .bf16) (x : Vec Ideal S512x1024 .f32)
    (g : Vec Ideal S1x1024 .f32) (e : Vec Ideal S512x1024 .bf16) (a : Fin 512) (l : Fin 1024) :
    k0_pay1 (F := Ideal) (k0_pay10 (F := Ideal) x) (k0_pay11 (F := Ideal) x) (k0_pay12 (F := Ideal) s p q p' q' p'' q'' g)
        (k0_pay13 (F := Ideal) s p q p' q' p'' q'' x g) e (ix2 a l)
      = row_dx (fun k => x (ix2 a k)) (fun k => k0_pay9 (F := Ideal) s p q p' q' p'' q'' (ix2 a k) * g (ix2 0 k)) l + e (ix2 a l) := by
  have r := root x a
  unfold k0_pay13 k0_pay12 k0_pay11
  generalize k0_pay9 (F := Ideal) s p q p' q' p'' q'' = d
  generalize k0_pay10 (F := Ideal) x = z at *
  pointwise [k0_pay1]
  rw [r]
  rfl

/-- The second result's part from one grid point: the products with the normalised rows, summed over the block's tokens. -/
theorem block8 (d x : Vec Ideal S512x1024 .f32) (z : Fin 1) (l : Fin 1024) : k0_pay2 (F := Ideal) d (k0_pay11 (F := Ideal) x) (ix2 z l)
    = ∑ a : Fin 512, d (ix2 a l) * (x (ix2 a l) * inv_rms (fun k => x (ix2 a k))) := by
  obtain rfl : z = 0 := Subsingleton.elim _ _
  have r := root x
  unfold k0_pay11
  generalize k0_pay10 (F := Ideal) x = z at *
  pointwise [k0_pay2]
  exact Finset.sum_congr rfl fun a _ => by rw [r a]

/-- What every grid point leaves in the first result's block. -/
theorem after_dx (c : Dev nD) (t : Fin cfg0.N) (a : Fin 512) (l : Fin 1024) : (outsAt0 m c t.val t.isLt).1 (ix2 a l)
    = row_dx (fun k => (iblk m c 4 t : Vec Ideal S512x1024 .f32) (ix2 a k))
        (fun k => tile (iblk m c 0 t) (iblk m c 1 t) (iblk m c 2 t) (iblk m c 3 t) (ix2 a k) * (iblk m c 5 t : Vec Ideal S1x1024 .f32) (ix2 0 k)) l
      + (iblk m c 6 t : Vec Ideal S512x1024 .bf16) (ix2 a l) := by
  have ht := point_lt t
  by_cases h : t.val = 0
  · rw [outsAt0_A m c t (by omega) (by omega)]; frame_out; exact block7 _ _ _ _ _ _ _ _ _ _ _ _
  · rw [outsAt0_B m c t (by omega) (by omega)]; frame_out; exact block7 _ _ _ _ _ _ _ _ _ _ _ _

/-- The second result's part at grid point `t`. -/
def part_dg (c : Dev nD) (t : Fin cfg0.N) : Vec Ideal S1x1024 .f32 :=
  k0_pay2 (F := Ideal) (tile (iblk m c 0 t) (iblk m c 1 t) (iblk m c 2 t) (iblk m c 3 t)) (k0_pay11 (F := Ideal) (iblk m c 4 t))

/-- After the last grid point the second result's block is the sum of the parts. -/
theorem after_dg (c : Dev nD) (t : Fin cfg0.N) (ht : t.val + 1 = cfg0.N) (y : S1x1024.Idx) :
    (outsAt0 m c t.val t.isLt).2 y = ∑ p : Fin cfg0.N, part_dg m c p y := by
  have := Pipeline.eq_sum_fin_of_reset_step_apply_last (fun n h => ((outsAt0 m c n h).2 : S1x1024.Idx → EReal)) 8 (fun _ => (0 : EReal)) (fun p => part_dg m c p)
    (fun t h j => by
      have ht := point_lt t
      show (outsAt0 m c t.val t.isLt).2 j = _
      rw [outsAt0_A m c t h (by omega)]; frame_out; exact (zero_add _).symm)
    (fun t h j => by
      have ht := point_lt t
      show (outsAt0 m c t.val t.isLt).2 j = _
      rw [outsAt0_B m c t h (by omega)]; frame_out
      rw [idx2_eta j]
      pointwise [k0_pay3]
      rfl)
    (le_of_eq N_0) t ht y
  exact this.trans (zero_add _)

/-- The projections' gradient block in the argument. -/
theorem read_proj (c : Dev nD) (t : Fin cfg0.N) (a : Fin 512) (p k r : ℕ) (hr : r = t.val * 512 + a.val) :
    at3 (iblk m c 0 t : Vec Ideal S6x512x1024 .bf16) p a.val k = at3 (m ((c : Thread nD τ).loc main_arg0) : Vec Ideal S6x4096x1024 .bf16) p r k := by
  have := a.isLt
  have := point_lt t
  unfold at3
  by_cases h : p < 6 ∧ k < 1024
  · rw [dif_pos (by omega), dif_pos (by omega)]
    blk_ext [iblk, V, block_index t]
  · rw [dif_neg (by omega), dif_neg (by omega)]

/-- The gates' gradient block in the argument. -/
theorem read_gate (c : Dev nD) (t : Fin cfg0.N) (a : Fin 512) (p k r : ℕ) (hr : r = t.val * 512 + a.val) :
    at3 (iblk m c 1 t : Vec Ideal S2x512x1024 .bf16) p a.val k = at3 (m ((c : Thread nD τ).loc main_arg2) : Vec Ideal S2x4096x1024 .bf16) p r k := by
  have := a.isLt
  have := point_lt t
  unfold at3
  by_cases h : p < 2 ∧ k < 1024
  · rw [dif_pos (by omega), dif_pos (by omega)]
    blk_ext [iblk, V, block_index t]
  · rw [dif_neg (by omega), dif_neg (by omega)]

/-- The projections' weight block is the whole weight. -/
theorem read_w (c : Dev nD) (t : Fin cfg0.N) (p a b : ℕ) :
    at3 (iblk m c 2 t : Vec Ideal S4x1024x1536 .bf16) p a b = at3 (m ((c : Thread nD τ).loc main_arg1) : Vec Ideal S4x1024x1536 .bf16) p a b := by
  unfold at3
  by_cases h : p < 4 ∧ a < 1024 ∧ b < 1536
  · rw [dif_pos h, dif_pos h]
    blk_ext [iblk, V, block_index t]
  · rw [dif_neg h, dif_neg h]

/-- The gates' weight block is the whole weight. -/
theorem read_v (c : Dev nD) (t : Fin cfg0.N) (p a b : ℕ) :
    at3 (iblk m c 3 t : Vec Ideal S4x1024x512 .bf16) p a b = at3 (m ((c : Thread nD τ).loc main_arg3) : Vec Ideal S4x1024x512 .bf16) p a b := by
  unfold at3
  by_cases h : p < 4 ∧ a < 1024 ∧ b < 512
  · rw [dif_pos h, dif_pos h]
    blk_ext [iblk, V, block_index t]
  · rw [dif_neg h, dif_neg h]

/-- The norm's input block in the argument. -/
theorem read_x (c : Dev nD) (t : Fin cfg0.N) (a : Fin 512) (l : Fin 1024) (r : ℕ) (hr : r = t.val * 512 + a.val) :
    (iblk m c 4 t : Vec Ideal S512x1024 .f32) (ix2 a l) = at2 (m ((c : Thread nD τ).loc main_arg4) : Vec Ideal S4096x1024 .f32) r l.val := by
  have := a.isLt
  have := l.isLt
  have := point_lt t
  rw [at2, dif_pos (by omega)]
  blk_ext [iblk, V, block_index t]

/-- The scale block is the whole scale. -/
theorem read_scale (c : Dev nD) (t : Fin cfg0.N) (l : Fin 1024) :
    (iblk m c 5 t : Vec Ideal S1x1024 .f32) (ix2 0 l) = (m ((c : Thread nD τ).loc main_arg5) : Vec Ideal S1024 .f32) (ix1 l) := by
  refine Eq.trans ?_ (entry_scale m c l)
  blk_ext [iblk, block_index t]

/-- The block of the gradient that bypasses the norm, in the argument. -/
theorem read_res (c : Dev nD) (t : Fin cfg0.N) (a : Fin 512) (l : Fin 1024) (r : ℕ) (hr : r = t.val * 512 + a.val) :
    (iblk m c 6 t : Vec Ideal S512x1024 .bf16) (ix2 a l) = at2 (m ((c : Thread nD τ).loc main_arg6) : Vec Ideal S4096x1024 .bf16) r l.val := by
  have := a.isLt
  have := l.isLt
  have := point_lt t
  rw [at2, dif_pos (by omega)]
  blk_ext [iblk, V, block_index t]

/-- The gradient at the norm's output: the projections' gradient times their transposed weight plus the gates' gradient times theirs. The
gradients' planes are column blocks of 1024, the weights' planes quarters of the columns. -/
def dh (dproj : Vec Ideal S6x4096x1024 .bf16) (w : Vec Ideal S4x1024x1536 .bf16) (dgate : Vec Ideal S2x4096x1024 .bf16) (v : Vec Ideal S4x1024x512 .bf16)
    (r l : ℕ) : EReal :=
  (∑ k : Fin 6144, at3 dproj (k.val / 1024) r (k.val % 1024) * at3 w (k.val / 1536) l (k.val % 1536))
    + ∑ k : Fin 2048, at3 dgate (k.val / 1024) r (k.val % 1024) * at3 v (k.val / 512) l (k.val % 512)

/-- The gradient at the norm's input. -/
def gradient_x (dproj : Vec Ideal S6x4096x1024 .bf16) (w : Vec Ideal S4x1024x1536 .bf16) (dgate : Vec Ideal S2x4096x1024 .bf16) (v : Vec Ideal S4x1024x512 .bf16)
    (x : Vec Ideal S4096x1024 .f32) (g : Vec Ideal S1024 .f32) (e : Vec Ideal S4096x1024 .bf16) : Vec Ideal S4096x1024 .f32 := fun i =>
  row_dx (fun k => at2 x (i 0).val k.val) (fun k => dh dproj w dgate v (i 0).val k.val * g (ix1 k)) (i 1) + at2 e (i 0).val (i 1).val

/-- One token's part of the gradient of the norm's scale. -/
def part_g (dproj : Vec Ideal S6x4096x1024 .bf16) (w : Vec Ideal S4x1024x1536 .bf16) (dgate : Vec Ideal S2x4096x1024 .bf16) (v : Vec Ideal S4x1024x512 .bf16)
    (x : Vec Ideal S4096x1024 .f32) (l : ℕ) (r : Fin 4096) : EReal :=
  dh dproj w dgate v r.val l * (at2 x r.val l * inv_rms (fun k => at2 x r.val k.val))

/-- The gradient of the norm's scale. -/
def gradient_g (dproj : Vec Ideal S6x4096x1024 .bf16) (w : Vec Ideal S4x1024x1536 .bf16) (dgate : Vec Ideal S2x4096x1024 .bf16) (v : Vec Ideal S4x1024x512 .bf16)
    (x : Vec Ideal S4096x1024 .f32) : Vec Ideal S1x1024 .f32 := fun i =>
  ∑ r : Fin 4096, part_g dproj w dgate v x (i 1).val r

/-- The tile of the gradient at the norm's output in terms of the arguments. -/
theorem tile_eq (c : Dev nD) (t : Fin cfg0.N) (a : Fin 512) (l : Fin 1024) (r : ℕ) (hr : r = t.val * 512 + a.val) :
    tile (iblk m c 0 t) (iblk m c 1 t) (iblk m c 2 t) (iblk m c 3 t) (ix2 a l)
      = dh (m ((c : Thread nD τ).loc main_arg0)) (m ((c : Thread nD τ).loc main_arg1)) (m ((c : Thread nD τ).loc main_arg2)) (m ((c : Thread nD τ).loc main_arg3)) r l.val :=
  (tile_sum _ _ _ _ a l).trans (congrArg₂ (· + ·) (sum_mul_congr (fun k => read_proj m c t a _ _ r hr) fun k => read_w m c t _ _ _)
    (sum_mul_congr (fun k => read_gate m c t a _ _ r hr) fun k => read_v m c t _ _ _))

/-- After the run the first result holds the gradient at the norm's input. -/
theorem final7 (c : Dev nD) : (dats m 0 c).arrAt 7 cfg0.N
    = gradient_x (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t _ y => ?_
  blk_simp
  rw [after0_7]
  generalize hi : ((View.whole main_v1_0).slice (win0_7.rect t)).emb y = i
  have h0 : (i 0).val = t.val * 512 + (y 0).val := by rw [← hi]; blk_simp [block_index t]
  have h1 : (i 1).val = (y 1).val := by rw [← hi]; blk_simp [block_index t]
  have h1' : y 1 = i 1 := Fin.ext h1.symm
  unfold gradient_x
  rw [idx2_eta y]
  refine (after_dx m c t (y 0) (y 1)).trans ?_
  refine congrArg₂ (· + ·) (row_dx_congr (fun k => read_x m c t (y 0) k _ h0) (fun k => congrArg₂ (· * ·) (tile_eq m c t (y 0) k _ h0) (read_scale m c t k)) h1') ?_
  exact (read_res m c t (y 0) (y 1) _ h0).trans (by rw [h1])

/-- After the run the second result holds the gradient of the norm's scale. -/
theorem final8 (c : Dev nD) : (dats m 0 c).arrAt 8 cfg0.N
    = gradient_g (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_after_last 8 t0_7 (by decide +kernel) _ fun y => ?_
  blk_simp
  rw [after0_8, after_dg m c t0_7 rfl]
  have hy : y = ix2 (y 0) (y 1) := idx2_eta y
  have term : ∀ p : Fin cfg0.N, part_dg m c p y = ∑ a : Fin 512, part_g (m ((c : Thread nD τ).loc main_arg0)) (m ((c : Thread nD τ).loc main_arg1))
      (m ((c : Thread nD τ).loc main_arg2)) (m ((c : Thread nD τ).loc main_arg3)) (m ((c : Thread nD τ).loc main_arg4)) (y 1).val
        ⟨p.val * 512 + a.val, by have := point_lt p; have := a.isLt; omega⟩ := fun p => by
    rw [hy]
    refine (block8 _ _ (y 0) (y 1)).trans (Finset.sum_congr rfl fun a _ => ?_)
    exact congrArg₂ (· * ·) (tile_eq m c p a (y 1) _ rfl) (congrArg₂ (· * ·) (read_x m c p a (y 1) _ rfl) (congrArg inv_rms (funext fun k => read_x m c p a k _ rfl)))
  have parts : (∑ p : Fin cfg0.N, part_dg m c p y : EReal) = _ := Finset.sum_congr rfl fun p _ => term p
  exact parts.trans (Fin.sum_univ_tiles 8 512 rfl (part_g (m ((c : Thread nD τ).loc main_arg0)) (m ((c : Thread nD τ).loc main_arg1))
    (m ((c : Thread nD τ).loc main_arg2)) (m ((c : Thread nD τ).loc main_arg3)) (m ((c : Thread nD τ).loc main_arg4)) (y 1).val)).symm

variable (x0 : Vec Ideal Cert.NormOneReferenceIdeal.S6x4096x1024 .bf16) (x1 : Vec Ideal Cert.NormOneReferenceIdeal.S4x1024x1536 .bf16)
  (x2 : Vec Ideal Cert.NormOneReferenceIdeal.S2x4096x1024 .bf16) (x3 : Vec Ideal Cert.NormOneReferenceIdeal.S4x1024x512 .bf16)
  (x4 : Vec Ideal Cert.NormOneReferenceIdeal.S4096x1024 .f32) (x5 : Vec Ideal Cert.NormOneReferenceIdeal.S1024 .f32)
  (x6 : Vec Ideal Cert.NormOneReferenceIdeal.S4096x1024 .bf16)

/-- The reference's mean of squares. -/
theorem reference_mean (r : Fin 4096) (z : Fin 1) : val_main_v46 (F := Ideal) x4 (ix2 r z) = mean_square (fun k => at2 x4 r.val k.val) := by
  obtain rfl : z = 0 := Subsingleton.elim _ _
  unfold val_main_v46 val_main_v45 val_main_v44 val_main_v43 val_main_v42 val_main_v41 val_main_v40 val_main_cst_1 val_main_cst_0 val_main_cst
  pointwise
  exact congrArg (fun q => Ideal.div q width + eps) (sum_mul_congr (fun k => eq_at2 x4 r k) fun k => eq_at2 x4 r k)

/-- The reference's projection weight: the planes side by side. -/
theorem reference_w (l : Fin 1024) (k : Fin 6144) : val_main_v8 (F := Ideal) x1 (ix2 l k) = at3 x1 (k.val / 1536) l.val (k.val % 1536) := by
  have := k.isLt
  unfold val_main_v8 val_main_v7 val_main_v6 val_main_v5 val_main_v4 val_main_v3 val_main_v2 val_main_v1 val_main_v0
  pointwise
  by_cases h : k.val < 1536
  · rw [dif_pos h]
    exact eq_at3_of x1 _ _ _ (by show _ = 0; omega) rfl (by show _ = k.val; omega)
  rw [dif_neg h]
  by_cases h : k.val - 1536 < 1536
  · rw [dif_pos h]
    exact eq_at3_of x1 _ _ _ (by show _ = 1; omega) rfl (by show _ = k.val - 1536; omega)
  rw [dif_neg h]
  by_cases h : k.val - 1536 - 1536 < 1536
  · rw [dif_pos h]
    exact eq_at3_of x1 _ _ _ (by show _ = 2; omega) rfl (by show _ = k.val - 1536 - 1536; omega)
  rw [dif_neg h]
  exact eq_at3_of x1 _ _ _ (by show _ = 3; omega) rfl (by show _ = k.val - 1536 - 1536 - 1536; omega)

/-- The reference's gate weight: the planes side by side. -/
theorem reference_v (l : Fin 1024) (k : Fin 2048) : val_main_v18 (F := Ideal) x3 (ix2 l k) = at3 x3 (k.val / 512) l.val (k.val % 512) := by
  have := k.isLt
  unfold val_main_v18 val_main_v17 val_main_v16 val_main_v15 val_main_v14 val_main_v13 val_main_v12 val_main_v11 val_main_v10
  pointwise
  by_cases h : k.val < 512
  · rw [dif_pos h]
    exact eq_at3_of x3 _ _ _ (by show _ = 0; omega) rfl (by show _ = k.val; omega)
  rw [dif_neg h]
  by_cases h : k.val - 512 < 512
  · rw [dif_pos h]
    exact eq_at3_of x3 _ _ _ (by show _ = 1; omega) rfl (by show _ = k.val - 512; omega)
  rw [dif_neg h]
  by_cases h : k.val - 512 - 512 < 512
  · rw [dif_pos h]
    exact eq_at3_of x3 _ _ _ (by show _ = 2; omega) rfl (by show _ = k.val - 512 - 512; omega)
  rw [dif_neg h]
  exact eq_at3_of x3 _ _ _ (by show _ = 3; omega) rfl (by show _ = k.val - 512 - 512 - 512; omega)

/-- The reference's projection gradient: the planes side by side. -/
theorem reference_proj (r : Fin 4096) (k : Fin 6144) : val_main_v32 (F := Ideal) x0 (ix2 r k) = at3 x0 (k.val / 1024) r.val (k.val % 1024) := by
  have := k.isLt
  unfold val_main_v32 val_main_v31 val_main_v30 val_main_v29 val_main_v28 val_main_v27 val_main_v26 val_main_v25 val_main_v24 val_main_v23 val_main_v22 val_main_v21 val_main_v20
  pointwise
  by_cases h : k.val < 1024
  · rw [dif_pos h]
    exact eq_at3_of x0 _ _ _ (by show _ = 0; omega) rfl (by show _ = k.val; omega)
  rw [dif_neg h]
  by_cases h : k.val - 1024 < 1024
  · rw [dif_pos h]
    exact eq_at3_of x0 _ _ _ (by show _ = 1; omega) rfl (by show _ = k.val - 1024; omega)
  rw [dif_neg h]
  by_cases h : k.val - 1024 - 1024 < 1024
  · rw [dif_pos h]
    exact eq_at3_of x0 _ _ _ (by show _ = 2; omega) rfl (by show _ = k.val - 1024 - 1024; omega)
  rw [dif_neg h]
  by_cases h : k.val - 1024 - 1024 - 1024 < 1024
  · rw [dif_pos h]
    exact eq_at3_of x0 _ _ _ (by show _ = 3; omega) rfl (by show _ = k.val - 1024 - 1024 - 1024; omega)
  rw [dif_neg h]
  by_cases h : k.val - 1024 - 1024 - 1024 - 1024 < 1024
  · rw [dif_pos h]
    exact eq_at3_of x0 _ _ _ (by show _ = 4; omega) rfl (by show _ = k.val - 1024 - 1024 - 1024 - 1024; omega)
  rw [dif_neg h]
  exact eq_at3_of x0 _ _ _ (by show _ = 5; omega) rfl (by show _ = k.val - 1024 - 1024 - 1024 - 1024 - 1024; omega)

/-- The reference's gate gradient: the planes side by side. -/
theorem reference_gate (r : Fin 4096) (k : Fin 2048) : val_main_v38 (F := Ideal) x2 (ix2 r k) = at3 x2 (k.val / 1024) r.val (k.val % 1024) := by
  have := k.isLt
  unfold val_main_v38 val_main_v37 val_main_v36 val_main_v35 val_main_v34
  pointwise
  by_cases h : k.val < 1024
  · rw [dif_pos h]
    exact eq_at3_of x2 _ _ _ (by show _ = 0; omega) rfl (by show _ = k.val; omega)
  rw [dif_neg h]
  exact eq_at3_of x2 _ _ _ (by show _ = 1; omega) rfl (by show _ = k.val - 1024; omega)

/-- The reference's gradient at the norm's output. -/
theorem reference_dh (r : Fin 4096) (l : Fin 1024) : val_main_v60 (F := Ideal) x0 x1 x2 x3 (ix2 r l) = dh x0 x1 x2 x3 r.val l.val := by
  have w := reference_w x1 l
  have v := reference_v x3 l
  have p := reference_proj x0 r
  have q := reference_gate x2 r
  unfold val_main_v60 val_main_v59 val_main_v58 val_main_v39 val_main_v33 val_main_v19 val_main_v9
  generalize val_main_v8 (F := Ideal) x1 = z1 at *
  generalize val_main_v18 (F := Ideal) x3 = z2 at *
  generalize val_main_v32 (F := Ideal) x0 = z3 at *
  generalize val_main_v38 (F := Ideal) x2 = z4 at *
  pointwise
  exact (add_comm _ _).trans (congrArg₂ (· + ·) (sum_mul_congr p w) (sum_mul_congr q v))

/-- The reference's first result is the gradient at the norm's input. -/
theorem reference_x : val_main_v82 (F := Ideal) x0 x1 x2 x3 x4 x5 x6 = gradient_x x0 x1 x2 x3 x4 x5 x6 := by
  have all : ∀ (r : Fin 4096) (l : Fin 1024), val_main_v82 (F := Ideal) x0 x1 x2 x3 x4 x5 x6 (ix2 r l)
      = row_dx (fun k => at2 x4 r.val k.val) (fun k => dh x0 x1 x2 x3 r.val k.val * x5 (ix1 k)) l + at2 x6 r.val l.val := by
    intro r l
    rw [row_gradient]
    have s := reference_mean x4 r 0
    have d := fun k => reference_dh x0 x1 x2 x3 r k
    unfold val_main_v82 val_main_v81 val_main_v80 val_main_v79 val_main_v78 val_main_v77 val_main_v76 val_main_v75 val_main_v74 val_main_v73 val_main_v72 val_main_v71 val_main_v70 val_main_v69 val_main_v68 val_main_v67 val_main_v65 val_main_v64 val_main_v53 val_main_v50 val_main_v49 val_main_v48 val_main_v47 val_main_cst_7 val_main_cst_6 val_main_cst_5 val_main_cst_2
    generalize val_main_v60 (F := Ideal) x0 x1 x2 x3 = p at *
    generalize val_main_v46 (F := Ideal) x4 = q at *
    pointwise
    simp only [Fin.sum_univ_one, s, d, eq_at2 x4, eq_at2 x6]
    rfl
  funext i
  rw [idx2_eta i]
  exact all (i 0) (i 1)

/-- The reference's second result is the gradient of the norm's scale. -/
theorem reference_g : val_main_v83 (F := Ideal) x0 x1 x2 x3 x4 = gradient_g x0 x1 x2 x3 x4 := by
  have all : ∀ (z : Fin 1) (l : Fin 1024), val_main_v83 (F := Ideal) x0 x1 x2 x3 x4 (ix2 z l)
      = ∑ r : Fin 4096, part_g x0 x1 x2 x3 x4 l.val r := by
    intro z l
    obtain rfl : z = 0 := Subsingleton.elim _ _
    have s := fun r => reference_mean x4 r 0
    have d := fun r => reference_dh x0 x1 x2 x3 r l
    unfold val_main_v83 val_main_v66 val_main_v63 val_main_v62 val_main_v61 val_main_v52 val_main_v51 val_main_v47 val_main_cst_4 val_main_cst_3
    generalize val_main_v60 (F := Ideal) x0 x1 x2 x3 = p at *
    generalize val_main_v46 (F := Ideal) x4 = q at *
    pointwise
    simp only [Fin.sum_univ_one, s, d, eq_at2 x4]
    exact Finset.sum_congr rfl fun r _ => mul_comm _ _
  funext i
  rw [idx2_eta i]
  exact all (i 0) (i 1)

/-- The reference's run ends with the two gradients in its results. -/
theorem reference_run (m' : (ℓ : Loc Cert.NormOneReferenceIdeal.nD Cert.NormOneReferenceIdeal.τ Cert.NormOneReferenceIdeal.sig) → Buf (Elt Ideal) ℓ)
    (ρ : Dev Cert.NormOneReferenceIdeal.nD → PrngReg) :
    θ_run Cert.NormOneReferenceIdeal.defs (onTc (τ := Cert.NormOneReferenceIdeal.τ) (Cert.NormOneReferenceIdeal.main (F := Ideal))) ⟨m', fun _ => 0, ρ⟩
      fun r => ∀ c : Dev Cert.NormOneReferenceIdeal.nD,
        r.2.mem (c.tc.loc Cert.NormOneReferenceIdeal.main_v82) = gradient_x (m' (c.tc.loc Cert.NormOneReferenceIdeal.main_arg0))
          (m' (c.tc.loc Cert.NormOneReferenceIdeal.main_arg1)) (m' (c.tc.loc Cert.NormOneReferenceIdeal.main_arg2))
          (m' (c.tc.loc Cert.NormOneReferenceIdeal.main_arg3)) (m' (c.tc.loc Cert.NormOneReferenceIdeal.main_arg4))
          (m' (c.tc.loc Cert.NormOneReferenceIdeal.main_arg5)) (m' (c.tc.loc Cert.NormOneReferenceIdeal.main_arg6))
        ∧ r.2.mem (c.tc.loc Cert.NormOneReferenceIdeal.main_v83) = gradient_g (m' (c.tc.loc Cert.NormOneReferenceIdeal.main_arg0))
          (m' (c.tc.loc Cert.NormOneReferenceIdeal.main_arg1)) (m' (c.tc.loc Cert.NormOneReferenceIdeal.main_arg2))
          (m' (c.tc.loc Cert.NormOneReferenceIdeal.main_arg3)) (m' (c.tc.loc Cert.NormOneReferenceIdeal.main_arg4))
        ∧ r.2.mem (c.tc.loc Cert.NormOneReferenceIdeal.main_arg0) = m' (c.tc.loc Cert.NormOneReferenceIdeal.main_arg0)
        ∧ r.2.mem (c.tc.loc Cert.NormOneReferenceIdeal.main_arg1) = m' (c.tc.loc Cert.NormOneReferenceIdeal.main_arg1)
        ∧ r.2.mem (c.tc.loc Cert.NormOneReferenceIdeal.main_arg2) = m' (c.tc.loc Cert.NormOneReferenceIdeal.main_arg2)
        ∧ r.2.mem (c.tc.loc Cert.NormOneReferenceIdeal.main_arg3) = m' (c.tc.loc Cert.NormOneReferenceIdeal.main_arg3)
        ∧ r.2.mem (c.tc.loc Cert.NormOneReferenceIdeal.main_arg4) = m' (c.tc.loc Cert.NormOneReferenceIdeal.main_arg4)
        ∧ r.2.mem (c.tc.loc Cert.NormOneReferenceIdeal.main_arg5) = m' (c.tc.loc Cert.NormOneReferenceIdeal.main_arg5)
        ∧ r.2.mem (c.tc.loc Cert.NormOneReferenceIdeal.main_arg6) = m' (c.tc.loc Cert.NormOneReferenceIdeal.main_arg6) :=
  (θ_run _ _ _).mono (fun r h c => ⟨(h c).1.trans ((val_main_v82_eq m' c).trans (reference_x _ _ _ _ _ _ _)),
    (h c).2.1.trans ((val_main_v83_eq m' c).trans (reference_g _ _ _ _ _)), (h c).2.2⟩) (Cert.NormOneReferenceIdeal.Value.run m' ρ)

/-- From memories agreeing on the arguments, kernel and reference end with equal results over the extended reals. -/
theorem algebraic : Cert.algebraic_NormOneKernelIdeal_NormOneReferenceIdeal (hNormOneKernelIdeal := Cert.NormOneKernelIdeal.Gen.facts)
    (hNormOneReferenceIdeal := Cert.NormOneReferenceIdeal.Gen.facts) := by
  pair_intro
  · run_from Cert.NormOneKernelIdeal.Gen.run_main m g
  · run_from reference_run m' g'
    · rw [final7]
    · rw [final8]

end Cert.NormOneKernelIdeal.Proof

end
-- ==== Proof.Norms.Two.lean ====
module

public import proofs.«01_k».proof.Defs
public import proofs.«01_k».proof.Proof.Gen.NormTwoKernelIdeal.Value
public import proofs.«01_k».proof.Proof.Gen.NormTwoReferenceIdeal.Run
public import proofs.«01_k».proof.Proof.Gen.NormTwoReferenceIdeal.Read
public import proofs.«01_k».proof.Proof.Shared.Reading
public import proofs.«01_k».proof.Proof.Norms.Row
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! # The gradient of the second norm: the call d_h2 -/

namespace Cert.NormTwoKernelIdeal.Proof

open Cert.NormTwoKernelIdeal Cert.NormTwoKernelIdeal.Gen Cert.Shared Cert.Norms Cert.NormTwoReferenceIdeal.Read

variable (m : (ℓ : Loc nD τ sig) → Buf (Elt Ideal) ℓ)

/-- Grid point `t` is token block `t`; the weight and the scale are one block each. -/
theorem block_index : ∀ t : Fin cfg0.N, win0_0.index t = ![0, t.val, 0] ∧ win0_1.index t = ![0, 0, 0]
    ∧ win0_2.index t = ![t.val, 0] ∧ win0_3.index t = ![0, 0] ∧ win0_4.index t = ![t.val, 0] ∧ win0_5.index t = ![t.val, 0]
    ∧ win0_6.index t = ![0, 0] ∧ t.val < 8 :=
  (by decide +kernel : ∀ t : Fin grid0.N, _)

/-- The hidden gradient as the launch finds it is the argument. -/
theorem entry_dup (c : Dev nD) (r k : Fin 4096) : (V m c main_v0 : Vec Ideal S1x4096x4096 .bf16) (ix3 0 r k)
    = (m ((c : Thread nD τ).loc main_arg0) : Vec Ideal S4096x4096 .bf16) (ix2 r k) := by
  entry_read
  pointwise

/-- The norm's scale as the launch finds it is the argument. -/
theorem entry_scale (c : Dev nD) (l : Fin 1024) : (V m c main_v1 : Vec Ideal S1x1024 .f32) (ix2 0 l)
    = (m ((c : Thread nD τ).loc main_arg3) : Vec Ideal S1024 .f32) (ix1 l) := by
  entry_read
  pointwise

/-- The gradient at the norm's output that one grid point forms from its two blocks, in eight parts. -/
def tile (x0 : Vec Ideal S1x512x4096 .bf16) (x1 : Vec Ideal S4x1024x1024 .bf16) : FVec Ideal S512x1024 .f32 :=
  k0_pay8 (F := Ideal)
    (k0_pay6 (F := Ideal) (View.ld x0 (Rect.unit ![0, 0, 0] ![1, 512, 512] inb_S1x512x4096_S1x512x512_0_0_0))
      (View.ld x1 (Rect.unit ![0, 0, 0] ![1, 1024, 512] inb_S4x1024x1024_S1x1024x512_0_0_0))
      (View.ld x0 (Rect.unit ![0, 0, 512] ![1, 512, 512] inb_S1x512x4096_S1x512x512_0_0_512))
      (View.ld x1 (Rect.unit ![0, 0, 512] ![1, 1024, 512] inb_S4x1024x1024_S1x1024x512_0_0_512))
      (View.ld x0 (Rect.unit ![0, 0, 1024] ![1, 512, 512] inb_S1x512x4096_S1x512x512_0_0_1024))
      (View.ld x1 (Rect.unit ![1, 0, 0] ![1, 1024, 512] inb_S4x1024x1024_S1x1024x512_1_0_0))
      (View.ld x0 (Rect.unit ![0, 0, 1536] ![1, 512, 512] inb_S1x512x4096_S1x512x512_0_0_1536))
      (View.ld x1 (Rect.unit ![1, 0, 512] ![1, 1024, 512] inb_S4x1024x1024_S1x1024x512_1_0_512)))
    (k0_pay7 (F := Ideal) (View.ld x0 (Rect.unit ![0, 0, 2048] ![1, 512, 512] inb_S1x512x4096_S1x512x512_0_0_2048)))
    (View.ld x1 (Rect.unit ![2, 0, 0] ![1, 1024, 512] inb_S4x1024x1024_S1x1024x512_2_0_0))
    (View.ld x0 (Rect.unit ![0, 0, 2560] ![1, 512, 512] inb_S1x512x4096_S1x512x512_0_0_2560))
    (View.ld x1 (Rect.unit ![2, 0, 512] ![1, 1024, 512] inb_S4x1024x1024_S1x1024x512_2_0_512))
    (View.ld x0 (Rect.unit ![0, 0, 3072] ![1, 512, 512] inb_S1x512x4096_S1x512x512_0_0_3072))
    (View.ld x1 (Rect.unit ![3, 0, 0] ![1, 1024, 512] inb_S4x1024x1024_S1x1024x512_3_0_0))
    (View.ld x0 (Rect.unit ![0, 0, 3584] ![1, 512, 512] inb_S1x512x4096_S1x512x512_0_0_3584))
    (View.ld x1 (Rect.unit ![3, 0, 512] ![1, 1024, 512] inb_S4x1024x1024_S1x1024x512_3_0_512))

/-- The eight parts add up to one sum over all hidden units. -/
theorem tile_sum (x0 : Vec Ideal S1x512x4096 .bf16) (x1 : Vec Ideal S4x1024x1024 .bf16) (a : Fin 512) (l : Fin 1024) :
    tile x0 x1 (ix2 a l) = ∑ k : Fin 4096, at3 x0 0 a.val k.val * at3 x1 (k.val / 1024) l.val (k.val % 1024) := by
  unfold tile
  rw [Fin.sum_univ_tiles 8 512 rfl, Fin.sum_univ_eight]
  pointwise [k0_pay8, k0_pay7, k0_pay6]
  have part : ∀ (f : Fin 512 → EReal) (w : Fin 512 → EReal) (j : Fin 8),
      (∀ k : Fin 512, f k = at3 x0 0 a.val (j.val * 512 + k.val)) →
      (∀ k : Fin 512, w k = at3 x1 ((j.val * 512 + k.val) / 1024) l.val ((j.val * 512 + k.val) % 1024)) →
      ∑ k, f k * w k = ∑ k : Fin 512, at3 x0 0 a.val (j.val * 512 + k.val) * at3 x1 ((j.val * 512 + k.val) / 1024) l.val ((j.val * 512 + k.val) % 1024) :=
    fun f w j hf hw => sum_mul_congr hf hw
  refine congrArg₂ (· + ·) (congrArg₂ (· + ·) (congrArg₂ (· + ·) (congrArg₂ (· + ·) (congrArg₂ (· + ·) (congrArg₂ (· + ·) (congrArg₂ (· + ·)
    (part _ _ 0 ?_ ?_) (part _ _ 1 ?_ ?_)) (part _ _ 2 ?_ ?_)) (part _ _ 3 ?_ ?_)) (part _ _ 4 ?_ ?_)) (part _ _ 5 ?_ ?_)) (part _ _ 6 ?_ ?_)) (part _ _ 7 ?_ ?_)
  all_goals
    intro k
    have := k.isLt
    refine eq_at3_of _ _ _ _ ?_ ?_ ?_
  all_goals first | rfl | (simp; done) | (simp; omega)

/-- The first result's block: the row gradients plus the gradient that bypasses the norm. -/
theorem block5 (d x : Vec Ideal S512x1024 .f32) (g : Vec Ideal S1x1024 .f32) (e : Vec Ideal S512x1024 .bf16) (a : Fin 512) (l : Fin 1024) :
    k0_pay3 (F := Ideal) d x (k0_pay9 (F := Ideal) x) g e (ix2 a l)
      = row_dx (fun k => x (ix2 a k)) (fun k => d (ix2 a k) * g (ix2 0 k)) l + e (ix2 a l) := by
  have s : k0_pay9 (F := Ideal) x (ix2 a 0) = mean_square (fun k => x (ix2 a k)) := by
    pointwise [k0_pay9]
    rfl
  pointwise [k0_pay3, k0_pay2, k0_pay1]
  rw [s]
  rfl

/-- The second result's part from one grid point: the products with the normalised rows, summed over the block's tokens. -/
theorem block6 (d x : Vec Ideal S512x1024 .f32) (z : Fin 1) (l : Fin 1024) : k0_pay4 (F := Ideal) d x (k0_pay9 (F := Ideal) x) (ix2 z l)
    = ∑ a : Fin 512, d (ix2 a l) * (x (ix2 a l) * inv_rms (fun k => x (ix2 a k))) := by
  obtain rfl : z = 0 := Subsingleton.elim _ _
  have s : ∀ a : Fin 512, k0_pay9 (F := Ideal) x (ix2 a 0) = mean_square (fun k => x (ix2 a k)) := by
    intro a
    pointwise [k0_pay9]
    rfl
  pointwise [k0_pay4, k0_pay2, k0_pay1]
  exact Finset.sum_congr rfl fun a _ => by rw [s a]; rfl

/-- What every grid point leaves in the first result's block. -/
theorem after_dx (c : Dev nD) (t : Fin cfg0.N) (y : S512x1024.Idx) : (outsAt0 m c t.val t.isLt).1 y
    = k0_pay3 (F := Ideal) (tile (iblk m c 0 t) (iblk m c 1 t)) (iblk m c 2 t) (k0_pay9 (F := Ideal) (iblk m c 2 t)) (iblk m c 3 t) (iblk m c 4 t) y := by
  have ht := (block_index t).2.2.2.2.2.2.2
  by_cases h : t.val = 0
  · rw [outsAt0_A m c t (by omega) (by omega)]; frame_out; rfl
  · rw [outsAt0_B m c t (by omega) (by omega)]; frame_out; rfl

/-- The second result's part at grid point `t`. -/
def part_dg (c : Dev nD) (t : Fin cfg0.N) : Vec Ideal S1x1024 .f32 :=
  k0_pay4 (F := Ideal) (tile (iblk m c 0 t) (iblk m c 1 t)) (iblk m c 2 t) (k0_pay9 (F := Ideal) (iblk m c 2 t))

/-- After the last grid point the second result's block is the sum of the parts. -/
theorem after_dg (c : Dev nD) (t : Fin cfg0.N) (ht : t.val + 1 = cfg0.N) (y : S1x1024.Idx) :
    (outsAt0 m c t.val t.isLt).2 y = ∑ p : Fin cfg0.N, part_dg m c p y := by
  have := Pipeline.eq_sum_fin_of_reset_step_apply_last (fun n h => ((outsAt0 m c n h).2 : S1x1024.Idx → EReal)) 8 (fun _ => (0 : EReal)) (fun p => part_dg m c p)
    (fun t h j => by
      have ht := (block_index t).2.2.2.2.2.2.2
      show (outsAt0 m c t.val t.isLt).2 j = _
      rw [outsAt0_A m c t h (by omega)]; frame_out; exact (zero_add _).symm)
    (fun t h j => by
      have ht := (block_index t).2.2.2.2.2.2.2
      show (outsAt0 m c t.val t.isLt).2 j = _
      rw [outsAt0_B m c t h (by omega)]; frame_out
      rw [idx2_eta j]
      pointwise [k0_pay5]
      rfl)
    (le_of_eq N_0) t ht y
  exact this.trans (zero_add _)

/-- The first block's elements in the argument. -/
theorem read_dup (c : Dev nD) (t : Fin cfg0.N) (a : Fin 512) (k : Fin 4096) (r : ℕ) (hr : r = t.val * 512 + a.val) :
    at3 (iblk m c 0 t : Vec Ideal S1x512x4096 .bf16) 0 a.val k.val = at2 (m ((c : Thread nD τ).loc main_arg0) : Vec Ideal S4096x4096 .bf16) r k.val := by
  have := a.isLt
  have := k.isLt
  have := block_index t
  rw [at3, dif_pos (by omega), at2, dif_pos (by omega)]
  refine Eq.trans ?_ (entry_dup m c _ _)
  blk_ext [iblk, block_index t]

/-- The weight block is the whole weight. -/
theorem read_w (c : Dev nD) (t : Fin cfg0.N) (p a b : ℕ) :
    at3 (iblk m c 1 t : Vec Ideal S4x1024x1024 .bf16) p a b = at3 (m ((c : Thread nD τ).loc main_arg1) : Vec Ideal S4x1024x1024 .bf16) p a b := by
  unfold at3
  by_cases h : p < 4 ∧ a < 1024 ∧ b < 1024
  · rw [dif_pos h, dif_pos h]
    blk_ext [iblk, V, block_index t]
  · rw [dif_neg h, dif_neg h]

/-- The third block's elements in the argument. -/
theorem read_x (c : Dev nD) (t : Fin cfg0.N) (a : Fin 512) (l : Fin 1024) (r : ℕ) (hr : r = t.val * 512 + a.val) :
    (iblk m c 2 t : Vec Ideal S512x1024 .f32) (ix2 a l) = at2 (m ((c : Thread nD τ).loc main_arg2) : Vec Ideal S4096x1024 .f32) r l.val := by
  have := a.isLt
  have := l.isLt
  have := block_index t
  rw [at2, dif_pos (by omega)]
  blk_ext [iblk, V, block_index t]

/-- The scale block is the whole scale. -/
theorem read_scale (c : Dev nD) (t : Fin cfg0.N) (l : Fin 1024) :
    (iblk m c 3 t : Vec Ideal S1x1024 .f32) (ix2 0 l) = (m ((c : Thread nD τ).loc main_arg3) : Vec Ideal S1024 .f32) (ix1 l) := by
  refine Eq.trans ?_ (entry_scale m c l)
  blk_ext [iblk, block_index t]

/-- The fifth block's elements in the argument. -/
theorem read_res (c : Dev nD) (t : Fin cfg0.N) (a : Fin 512) (l : Fin 1024) (r : ℕ) (hr : r = t.val * 512 + a.val) :
    (iblk m c 4 t : Vec Ideal S512x1024 .bf16) (ix2 a l) = at2 (m ((c : Thread nD τ).loc main_arg4) : Vec Ideal S4096x1024 .bf16) r l.val := by
  have := a.isLt
  have := l.isLt
  have := block_index t
  rw [at2, dif_pos (by omega)]
  blk_ext [iblk, V, block_index t]

/-- The gradient at the norm's output: the hidden gradient times the transposed up weight, whose four planes are the hidden layer's quarters. -/
def dh (dup : Vec Ideal S4096x4096 .bf16) (w : Vec Ideal S4x1024x1024 .bf16) (r l : ℕ) : EReal :=
  ∑ k : Fin 4096, at2 dup r k.val * at3 w (k.val / 1024) l (k.val % 1024)

/-- The gradient at the norm's input. -/
def gradient_x (dup : Vec Ideal S4096x4096 .bf16) (w : Vec Ideal S4x1024x1024 .bf16) (x : Vec Ideal S4096x1024 .f32) (g : Vec Ideal S1024 .f32)
    (e : Vec Ideal S4096x1024 .bf16) : Vec Ideal S4096x1024 .bf16 := fun i =>
  row_dx (fun k => at2 x (i 0).val k.val) (fun k => dh dup w (i 0).val k.val * g (ix1 k)) (i 1) + at2 e (i 0).val (i 1).val

/-- One token's part of the gradient of the norm's scale. -/
def part_g (dup : Vec Ideal S4096x4096 .bf16) (w : Vec Ideal S4x1024x1024 .bf16) (x : Vec Ideal S4096x1024 .f32) (l : ℕ) (r : Fin 4096) : EReal :=
  dh dup w r.val l * (at2 x r.val l * inv_rms (fun k => at2 x r.val k.val))

/-- The gradient of the norm's scale. -/
def gradient_g (dup : Vec Ideal S4096x4096 .bf16) (w : Vec Ideal S4x1024x1024 .bf16) (x : Vec Ideal S4096x1024 .f32) : Vec Ideal S1x1024 .f32 := fun i =>
  ∑ r : Fin 4096, part_g dup w x (i 1).val r

/-- The tile of the gradient at the norm's output in terms of the arguments. -/
theorem tile_eq (c : Dev nD) (t : Fin cfg0.N) (a : Fin 512) (l : Fin 1024) (r : ℕ) (hr : r = t.val * 512 + a.val) :
    tile (iblk m c 0 t) (iblk m c 1 t) (ix2 a l) = dh (m ((c : Thread nD τ).loc main_arg0)) (m ((c : Thread nD τ).loc main_arg1)) r l.val :=
  (tile_sum _ _ a l).trans (sum_mul_congr (fun k => read_dup m c t a k r hr) fun k => read_w m c t _ _ _)

/-- After the run the first result holds the gradient at the norm's input. -/
theorem final5 (c : Dev nD) : (dats m 0 c).arrAt 5 cfg0.N
    = gradient_x (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5, after_dx]
  generalize hi : ((View.whole main_v2_0).slice (win0_5.rect t)).emb y = i
  have h0 : (i 0).val = t.val * 512 + (y 0).val := by rw [← hi]; blk_simp [block_index t]
  have h1 : (i 1).val = (y 1).val := by rw [← hi]; blk_simp [block_index t]
  have h1' : y 1 = i 1 := Fin.ext h1.symm
  unfold gradient_x
  rw [idx2_eta y]
  refine (block5 _ _ _ _ (y 0) (y 1)).trans ?_
  refine congrArg₂ (· + ·) (row_dx_congr (fun k => read_x m c t (y 0) k _ h0) (fun k => congrArg₂ (· * ·) (tile_eq m c t (y 0) k _ h0) (read_scale m c t k)) h1') ?_
  exact (read_res m c t (y 0) (y 1) _ h0).trans (by rw [h1])

/-- After the run the second result holds the gradient of the norm's scale. -/
theorem final6 (c : Dev nD) : (dats m 0 c).arrAt 6 cfg0.N
    = gradient_g (m ((c : Thread nD τ).loc main_arg0)) (m ((c : Thread nD τ).loc main_arg1)) (m ((c : Thread nD τ).loc main_arg2)) := by
  refine (dats m 0 c).arrAt_eq_of_after_last 6 t0_7 (by decide +kernel) _ fun y => ?_
  blk_simp
  rw [after0_6, after_dg m c t0_7 rfl]
  have hy : y = ix2 (y 0) (y 1) := idx2_eta y
  have term : ∀ p : Fin cfg0.N, part_dg m c p y = ∑ a : Fin 512, part_g (m ((c : Thread nD τ).loc main_arg0)) (m ((c : Thread nD τ).loc main_arg1))
      (m ((c : Thread nD τ).loc main_arg2)) (y 1).val ⟨p.val * 512 + a.val, by have := (block_index p).2.2.2.2.2.2.2; have := a.isLt; omega⟩ := fun p => by
    rw [hy]
    refine (block6 _ _ (y 0) (y 1)).trans (Finset.sum_congr rfl fun a _ => ?_)
    exact congrArg₂ (· * ·) (tile_eq m c p a (y 1) _ rfl) (congrArg₂ (· * ·) (read_x m c p a (y 1) _ rfl) (congrArg inv_rms (funext fun k => read_x m c p a k _ rfl)))
  have parts : (∑ p : Fin cfg0.N, part_dg m c p y : EReal) = _ := Finset.sum_congr rfl fun p _ => term p
  exact parts.trans (Fin.sum_univ_tiles 8 512 rfl (part_g (m ((c : Thread nD τ).loc main_arg0)) (m ((c : Thread nD τ).loc main_arg1))
    (m ((c : Thread nD τ).loc main_arg2)) (y 1).val)).symm

variable (x0 : Vec Ideal Cert.NormTwoReferenceIdeal.S4096x4096 .bf16) (x1 : Vec Ideal Cert.NormTwoReferenceIdeal.S4x1024x1024 .bf16)
  (x2 : Vec Ideal Cert.NormTwoReferenceIdeal.S4096x1024 .f32) (x3 : Vec Ideal Cert.NormTwoReferenceIdeal.S1024 .f32) (x4 : Vec Ideal Cert.NormTwoReferenceIdeal.S4096x1024 .bf16)

/-- The reference's mean of squares. -/
theorem reference_mean (r : Fin 4096) (z : Fin 1) : val_main_v16 (F := Ideal) x2 (ix2 r z) = mean_square (fun k => at2 x2 r.val k.val) := by
  obtain rfl : z = 0 := Subsingleton.elim _ _
  unfold val_main_v16 val_main_v15 val_main_v14 val_main_v13 val_main_v12 val_main_v11 val_main_v10 val_main_cst_1 val_main_cst_0 val_main_cst
  pointwise
  exact congrArg (fun q => Ideal.div q width + eps) (sum_mul_congr (fun k => eq_at2 x2 r k) fun k => eq_at2 x2 r k)

/-- The reference's weight: the planes side by side. -/
theorem reference_weight (l : Fin 1024) (k : Fin 4096) : val_main_v8 (F := Ideal) x1 (ix2 l k) = at3 x1 (k.val / 1024) l.val (k.val % 1024) := by
  have := k.isLt
  unfold val_main_v8 val_main_v7 val_main_v6 val_main_v5 val_main_v4 val_main_v3 val_main_v2 val_main_v1 val_main_v0
  pointwise
  by_cases h : k.val < 1024
  · rw [dif_pos h]
    exact eq_at3_of x1 _ _ _ (by show _ = 0; omega) rfl (by show _ = k.val; omega)
  rw [dif_neg h]
  by_cases h : k.val - 1024 < 1024
  · rw [dif_pos h]
    exact eq_at3_of x1 _ _ _ (by show _ = 1; omega) rfl (by show _ = k.val - 1024; omega)
  rw [dif_neg h]
  by_cases h : k.val - 1024 - 1024 < 1024
  · rw [dif_pos h]
    exact eq_at3_of x1 _ _ _ (by show _ = 2; omega) rfl (by show _ = k.val - 1024 - 1024; omega)
  rw [dif_neg h]
  exact eq_at3_of x1 _ _ _ (by show _ = 3; omega) rfl (by show _ = k.val - 1024 - 1024 - 1024; omega)

/-- The reference's gradient at the norm's output. -/
theorem reference_dh (r : Fin 4096) (l : Fin 1024) : val_main_v28 (F := Ideal) x0 x1 (ix2 r l) = dh x0 x1 r.val l.val := by
  have w := reference_weight x1 l
  unfold val_main_v28 val_main_v27 val_main_v9
  generalize val_main_v8 (F := Ideal) x1 = p at *
  pointwise
  exact sum_mul_congr (fun k => eq_at2 x0 r k) w

/-- The reference's first result is the gradient at the norm's input. -/
theorem reference_x : val_main_v51 (F := Ideal) x0 x1 x2 x3 x4 = gradient_x x0 x1 x2 x3 x4 := by
  have all : ∀ (r : Fin 4096) (l : Fin 1024), val_main_v51 (F := Ideal) x0 x1 x2 x3 x4 (ix2 r l)
      = row_dx (fun k => at2 x2 r.val k.val) (fun k => dh x0 x1 r.val k.val * x3 (ix1 k)) l + at2 x4 r.val l.val := by
    intro r l
    rw [row_gradient]
    have s := reference_mean x2 r 0
    have d := fun k => reference_dh x0 x1 r k
    unfold val_main_v51 val_main_v50 val_main_v49 val_main_v48 val_main_v47 val_main_v46 val_main_v45 val_main_v44 val_main_v43 val_main_v42 val_main_v41 val_main_v40 val_main_v39 val_main_v38 val_main_v37 val_main_v36 val_main_v35 val_main_v33 val_main_v32 val_main_v23 val_main_v20 val_main_v19 val_main_v18 val_main_v17 val_main_cst_7 val_main_cst_6 val_main_cst_5 val_main_cst_2
    generalize val_main_v28 (F := Ideal) x0 x1 = p at *
    generalize val_main_v16 (F := Ideal) x2 = q at *
    pointwise
    simp only [Fin.sum_univ_one, s, d, eq_at2 x2, eq_at2 x4]
    rfl
  funext i
  rw [idx2_eta i]
  exact all (i 0) (i 1)

/-- The reference's second result is the gradient of the norm's scale. -/
theorem reference_g : val_main_v52 (F := Ideal) x0 x1 x2 = gradient_g x0 x1 x2 := by
  have all : ∀ (z : Fin 1) (l : Fin 1024), val_main_v52 (F := Ideal) x0 x1 x2 (ix2 z l)
      = ∑ r : Fin 4096, part_g x0 x1 x2 l.val r := by
    intro z l
    obtain rfl : z = 0 := Subsingleton.elim _ _
    have s := fun r => reference_mean x2 r 0
    have d := fun r => reference_dh x0 x1 r l
    unfold val_main_v52 val_main_v34 val_main_v31 val_main_v30 val_main_v29 val_main_v22 val_main_v21 val_main_v17 val_main_cst_4 val_main_cst_3
    generalize val_main_v28 (F := Ideal) x0 x1 = p at *
    generalize val_main_v16 (F := Ideal) x2 = q at *
    pointwise
    simp only [Fin.sum_univ_one, s, d, eq_at2 x2]
    exact Finset.sum_congr rfl fun r _ => mul_comm _ _
  funext i
  rw [idx2_eta i]
  exact all (i 0) (i 1)

/-- The reference's run ends with the two gradients in its results. -/
theorem reference_run (m' : (ℓ : Loc Cert.NormTwoReferenceIdeal.nD Cert.NormTwoReferenceIdeal.τ Cert.NormTwoReferenceIdeal.sig) → Buf (Elt Ideal) ℓ)
    (ρ : Dev Cert.NormTwoReferenceIdeal.nD → PrngReg) :
    θ_run Cert.NormTwoReferenceIdeal.defs (onTc (τ := Cert.NormTwoReferenceIdeal.τ) (Cert.NormTwoReferenceIdeal.main (F := Ideal))) ⟨m', fun _ => 0, ρ⟩
      fun r => ∀ c : Dev Cert.NormTwoReferenceIdeal.nD,
        r.2.mem (c.tc.loc Cert.NormTwoReferenceIdeal.main_v51) = gradient_x (m' (c.tc.loc Cert.NormTwoReferenceIdeal.main_arg0))
          (m' (c.tc.loc Cert.NormTwoReferenceIdeal.main_arg1)) (m' (c.tc.loc Cert.NormTwoReferenceIdeal.main_arg2))
          (m' (c.tc.loc Cert.NormTwoReferenceIdeal.main_arg3)) (m' (c.tc.loc Cert.NormTwoReferenceIdeal.main_arg4))
        ∧ r.2.mem (c.tc.loc Cert.NormTwoReferenceIdeal.main_v52) = gradient_g (m' (c.tc.loc Cert.NormTwoReferenceIdeal.main_arg0))
          (m' (c.tc.loc Cert.NormTwoReferenceIdeal.main_arg1)) (m' (c.tc.loc Cert.NormTwoReferenceIdeal.main_arg2))
        ∧ r.2.mem (c.tc.loc Cert.NormTwoReferenceIdeal.main_arg0) = m' (c.tc.loc Cert.NormTwoReferenceIdeal.main_arg0)
        ∧ r.2.mem (c.tc.loc Cert.NormTwoReferenceIdeal.main_arg1) = m' (c.tc.loc Cert.NormTwoReferenceIdeal.main_arg1)
        ∧ r.2.mem (c.tc.loc Cert.NormTwoReferenceIdeal.main_arg2) = m' (c.tc.loc Cert.NormTwoReferenceIdeal.main_arg2)
        ∧ r.2.mem (c.tc.loc Cert.NormTwoReferenceIdeal.main_arg3) = m' (c.tc.loc Cert.NormTwoReferenceIdeal.main_arg3)
        ∧ r.2.mem (c.tc.loc Cert.NormTwoReferenceIdeal.main_arg4) = m' (c.tc.loc Cert.NormTwoReferenceIdeal.main_arg4) :=
  (θ_run _ _ _).mono (fun r h c => ⟨(h c).1.trans ((val_main_v51_eq m' c).trans (reference_x _ _ _ _ _)),
    (h c).2.1.trans ((val_main_v52_eq _ _ _).trans (reference_g _ _ _)), (h c).2.2⟩) (Cert.NormTwoReferenceIdeal.Value.run m' ρ)

/-- From memories agreeing on the arguments, kernel and reference end with equal results over the extended reals. -/
theorem algebraic : Cert.algebraic_NormTwoKernelIdeal_NormTwoReferenceIdeal (hNormTwoKernelIdeal := Cert.NormTwoKernelIdeal.Gen.facts)
    (hNormTwoReferenceIdeal := Cert.NormTwoReferenceIdeal.Gen.facts) := by
  pair_intro
  · run_from Cert.NormTwoKernelIdeal.Gen.run_main m g
  · run_from reference_run m' g'
    · rw [final5]
    · rw [final6]

end Cert.NormTwoKernelIdeal.Proof

end
-- ==== Proof.Activations.Act.lean ====
module

public import proofs.«01_k».proof.Defs
public import proofs.«01_k».proof.Proof.Gen.ActKernelIdeal.Value
public import proofs.«01_k».proof.Proof.Gen.ActReferenceIdeal.Run
public import proofs.«01_k».proof.Proof.Gen.ActReferenceIdeal.Read
public import proofs.«01_k».proof.Proof.Shared.Reading
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! # The gradient of the squared ReLU: the call d_act -/

namespace Cert.ActKernelIdeal.Proof

open Cert.ActKernelIdeal Cert.ActKernelIdeal.Gen Cert.Shared Cert.ActReferenceIdeal.Read

variable (m : (ℓ : Loc nD τ sig) → Buf (Elt Ideal) ℓ)

/-- Grid point `t` is token block `t / 4` and hidden block `t % 4`. -/
theorem block_index : ∀ t : Fin cfg0.N, win0_0.index t = ![t.val / 4, 0] ∧ win0_1.index t = ![t.val % 4, 0]
    ∧ win0_2.index t = ![t.val / 4, t.val % 4] ∧ win0_3.index t = ![t.val / 4, t.val % 4] ∧ t.val < 16 :=
  (by decide +kernel : ∀ t : Fin grid0.N, _)

/-- The squared ReLU as the launch finds it is the reference's. -/
theorem entry_act (c : Dev nD) : V m c main_v14
    = val_main_v16 (F := Ideal) (m ((c : Thread nD τ).loc main_arg1)) (m ((c : Thread nD τ).loc main_arg2)) := by
  entry_read
  rfl

/-- The constant two of both programs. -/
abbrev two : EReal := Ideal.ofBits FTy.f32 0x40000000#32

/-- What one grid point computes: the product of the first block with the transposed second, scaled by twice the root of the third. -/
theorem block3 (x0 : Vec Ideal S1024x1024 .bf16) (x1 : Vec Ideal S1024x1024 .bf16) (x2 : Vec Ideal S1024x1024 .bf16) (y : S1024x1024.Idx) :
    out0_3 x0 x1 x2 y = (∑ k : Fin 1024, x0 (ix2 (y 0) k) * x1 (ix2 (y 1) k)) * (two * Ideal.sqrt (x2 (ix2 (y 0) (y 1)))) := by
  unfold out0_3
  canon_tiles x h
  case piece0 =>
    open_payloads; pointwise
    obtain rfl : y = x := by rw [idx2_eta x, idx2_eta y, show y 0 = x 0 from Fin.ext h0, show y 1 = x 1 from Fin.ext h1]
    rfl

/-- The first block's elements in the argument. -/
theorem read_dy (c : Dev nD) (t : Fin cfg0.N) (k : Fin 1024) (j : Fin 1024) (a b : ℕ) (ha : a = t.val / 4 * 1024 + k.val) (hb : b = j.val) :
    (iblk m c 0 t : Vec Ideal S1024x1024 .bf16) (ix2 k j) = at2 (m ((c : Thread nD τ).loc main_arg0) : Vec Ideal S4096x1024 .bf16) a b := by
  have := k.isLt
  have := j.isLt
  have := block_index t
  rw [at2, dif_pos (by omega)]
  blk_ext [iblk, V, block_index t]

/-- The second block's elements in the argument. -/
theorem read_w (c : Dev nD) (t : Fin cfg0.N) (k : Fin 1024) (j : Fin 1024) (a b : ℕ) (ha : a = t.val % 4 * 1024 + k.val) (hb : b = j.val) :
    (iblk m c 1 t : Vec Ideal S1024x1024 .bf16) (ix2 k j) = at2 (m ((c : Thread nD τ).loc main_arg3) : Vec Ideal S4096x1024 .bf16) a b := by
  have := k.isLt
  have := j.isLt
  have := block_index t
  rw [at2, dif_pos (by omega)]
  blk_ext [iblk, V, block_index t]

/-- The third block's elements in the saved squared ReLU. -/
theorem read_act (c : Dev nD) (t : Fin cfg0.N) (k : Fin 1024) (j : Fin 1024) (a b : ℕ) (ha : a = t.val / 4 * 1024 + k.val) (hb : b = t.val % 4 * 1024 + j.val) :
    (iblk m c 2 t : Vec Ideal S1024x1024 .bf16) (ix2 k j) = at2 (V m c main_v14 : Vec Ideal S4096x4096 .bf16) a b := by
  have := k.isLt
  have := j.isLt
  have := block_index t
  rw [at2, dif_pos (by omega)]
  blk_ext [iblk, block_index t]

/-- The gradient at the MLP's hidden layer before the squared ReLU: the product with the transposed down weight, times twice the root
of the saved squared ReLU. -/
def gradient (a : Vec Ideal S4096x1024 .bf16) (b : Vec Ideal S4096x1024 .bf16) (s : Vec Ideal S4096x4096 .bf16) : Vec Ideal S4096x4096 .bf16 := fun i =>
  (∑ k : Fin 1024, at2 a (i 0).val k.val * at2 b (i 1).val k.val) * (two * Ideal.sqrt (at2 s (i 0).val (i 1).val))

/-- After the run the result holds the gradient. -/
theorem final3 (c : Dev nD) : (dats m 0 c).arrAt 3 cfg0.N
    = gradient (m ((c : Thread nD τ).loc main_arg0)) (m ((c : Thread nD τ).loc main_arg3)) (V m c main_v14) := by
  refine (dats m 0 c).arrAt_eq_of_covers 3 _ (by decide +kernel) fun t _ y => ?_
  blk_simp
  rw [after0_3, block3]
  generalize hi : ((View.whole main_v15).slice (win0_3.rect t)).emb y = i
  have h0 : (i 0).val = t.val / 4 * 1024 + (y 0).val := by rw [← hi]; blk_simp [block_index t]
  have h1 : (i 1).val = t.val % 4 * 1024 + (y 1).val := by rw [← hi]; blk_simp [block_index t]
  unfold gradient
  rw [read_act m c t (y 0) (y 1) _ _ h0 h1]
  exact congrArg (· * _) (sum_mul_congr (fun k => read_dy m c t (y 0) k _ _ h0 rfl) fun k => read_w m c t (y 1) k _ _ h1 rfl)

/-- The root of the square of a nonnegative number is the number. -/
theorem root_of_square (p : EReal) (hp : 0 ≤ p) : Ideal.sqrt (p * p) = p := by
  induction p with
  | bot => simp at hp
  | top => rw [EReal.top_mul_top]; rfl
  | coe r =>
    have hr : 0 ≤ r := by exact_mod_cast hp
    rw [← EReal.coe_mul]
    show (if r * r < 0 then ⊥ else ((Real.sqrt (r * r) : ℝ) : EReal)) = r
    rw [if_neg (not_lt.mpr (mul_self_nonneg r)), Real.sqrt_mul_self hr]

/-- The derivative of the squared ReLU as the reference takes it, by twice the saved root where the argument is positive and zero
elsewhere, is the product with twice the saved root. -/
theorem slope (p d : EReal) : (if 0 < p then d * (two * max p 0) else 0) = d * (two * Ideal.sqrt (max p 0 * max p 0)) := by
  rw [root_of_square _ (le_max_right _ _)]
  by_cases hp : 0 < p
  · rw [if_pos hp]
  · rw [if_neg hp, max_eq_right (not_lt.mp hp), mul_zero, mul_zero]

variable (x0 : Vec Ideal Cert.ActReferenceIdeal.S4096x1024 .bf16) (x1 : Vec Ideal Cert.ActReferenceIdeal.S4096x1024 .bf16)
  (x2 : Vec Ideal Cert.ActReferenceIdeal.S4x1024x1024 .bf16) (x3 : Vec Ideal Cert.ActReferenceIdeal.S4096x1024 .bf16)

/-- The reference's result is the gradient at the squared ReLU it forms itself. -/
theorem reference_eq : val_main_v26 (F := Ideal) x0 x1 x2 x3 = gradient x0 x3 (val_main_v16 (F := Ideal) x1 x2) := by
  have root : ∀ (r l : Fin 4096), val_main_v16 (F := Ideal) x1 x2 (ix2 r l)
      = max (val_main_v11 (F := Ideal) x1 x2 (ix2 r l)) 0 * max (val_main_v11 (F := Ideal) x1 x2 (ix2 r l)) 0 := by
    intro r l
    unfold val_main_v16 val_main_v12 val_main_call0_v0 val_main_call0_cst
    generalize val_main_v11 (F := Ideal) x1 x2 = p
    pointwise
  have all : ∀ (r l : Fin 4096), val_main_v26 (F := Ideal) x0 x1 x2 x3 (ix2 r l)
      = (∑ k : Fin 1024, at2 x0 r.val k.val * at2 x3 l.val k.val) * (two * Ideal.sqrt (val_main_v16 (F := Ideal) x1 x2 (ix2 r l))) := by
    intro r l
    rw [root, ← slope]
    unfold val_main_v26 val_main_v25 val_main_v24 val_main_v23 val_main_v22 val_main_v21 val_main_v19 val_main_v18 val_main_v17 val_main_v14 val_main_v13 val_main_v12 val_main_cst_2 val_main_cst_1 val_main_cst val_main_call0_v0 val_main_call0_cst
    generalize val_main_v11 (F := Ideal) x1 x2 = p
    pointwise
    exact if_congr Iff.rfl (congrArg (· * (two * max (p (ix2 r l)) 0)) (Finset.sum_congr rfl fun k _ => by rw [eq_at2 x0, eq_at2 x3])) rfl
  funext i
  rw [idx2_eta i]
  exact (all (i 0) (i 1)).trans (congrArg (fun z => _ * (two * Ideal.sqrt z)) (eq_at2 (val_main_v16 (F := Ideal) x1 x2) (i 0) (i 1)))

/-- From memories agreeing on the arguments, kernel and reference end with equal results over the extended reals. -/
theorem algebraic : Cert.algebraic_ActKernelIdeal_ActReferenceIdeal (hActKernelIdeal := Cert.ActKernelIdeal.Gen.facts)
    (hActReferenceIdeal := Cert.ActReferenceIdeal.Gen.facts) := by
  pair_intro
  · run_from Cert.ActKernelIdeal.Gen.run_main m g
    · exact V_main_arg1 m c
    · exact V_main_arg2 m c
  · run_from Cert.ActReferenceIdeal.Value.run m' g'
    rw [Cert.ActReferenceIdeal.Read.val_main_v26_eq, reference_eq, final3, entry_act]
    exact congrArg (fun w => gradient _ _ (val_main_v16 (F := Ideal) _ w)) (hagree c).2.2.1

end Cert.ActKernelIdeal.Proof

end
-- ==== Proof.Weights.In.lean ====
module

public import proofs.«01_k».proof.Defs
public import proofs.«01_k».proof.Proof.Gen.WInKernelIdeal.Value
public import proofs.«01_k».proof.Proof.Gen.WInReferenceIdeal.Run
public import proofs.«01_k».proof.Proof.Gen.WInReferenceIdeal.Read
public import proofs.«01_k».proof.Proof.Shared.Reading
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! # The gradient of the input projections' weight: the call g_in -/

namespace Cert.WInKernelIdeal.Proof

open Cert.WInKernelIdeal Cert.WInKernelIdeal.Gen Cert.Shared

variable (m : (ℓ : Loc nD τ sig) → Buf (Elt Ideal) ℓ)

/-- Grid point `t` reads all tokens of the first argument and of the `t`-th 512 columns of the second, and writes its 512 columns of the shard that holds them. -/
theorem block_index : ∀ t : Fin cfg0.N, win0_0.index t = ![0, 0] ∧ win0_1.index t = ![t.val / 2, 0, t.val % 2]
    ∧ win0_2.index t = ![t.val / 3, 0, t.val % 3] ∧ t.val < 12 :=
  (by decide +kernel : ∀ t : Fin grid0.N, _)

/-- What one grid point computes: the product of the transposed first block with the second. -/
theorem block2 (x0 : Vec Ideal S4096x1024 .bf16) (x1 : Vec Ideal S1x4096x512 .bf16) (y : S1x1024x512.Idx) :
    out0_2 x0 x1 y = ∑ k : Fin 4096, x0 (ix2 k (y 1)) * x1 (ix3 0 k (y 2)) := by
  unfold out0_2
  canon_tiles x h
  case piece0 =>
    open_payloads; pointwise
    rw [show y 1 = x 1 from Fin.ext h1, show y 2 = x 2 from Fin.ext h2]

/-- The first block's elements in the argument. -/
theorem read_a (c : Dev nD) (t : Fin cfg0.N) (k : Fin 4096) (j : Fin 1024) (a b : ℕ) (ha : a = k.val) (hb : b = j.val) :
    (iblk m c 0 t : Vec Ideal S4096x1024 .bf16) (ix2 k j) = at2 (m ((c : Thread nD τ).loc main_arg0) : Vec Ideal S4096x1024 .bf16) a b := by
  have := k.isLt
  have := j.isLt
  have := block_index t
  rw [at2, dif_pos (by omega)]
  blk_ext [iblk, V, block_index t]

/-- The second block's elements in the argument. -/
theorem read_dy (c : Dev nD) (t : Fin cfg0.N) (k : Fin 4096) (j : Fin 512) (p a b : ℕ) (hp : p = t.val / 2) (ha : a = k.val) (hb : b = t.val % 2 * 512 + j.val) :
    (iblk m c 1 t : Vec Ideal S1x4096x512 .bf16) (ix3 0 k j) = at3 (m ((c : Thread nD τ).loc main_arg1) : Vec Ideal S6x4096x1024 .bf16) p a b := by
  have := k.isLt
  have := j.isLt
  have := block_index t
  rw [at3, dif_pos (by omega)]
  blk_ext [iblk, V, block_index t]

/-- The gradient of the weight, shard by shard: row `r`, column `l` of shard `p` is a sum over the tokens. -/
def gradient (a : Vec Ideal S4096x1024 .bf16) (b : Vec Ideal S6x4096x1024 .bf16) : Vec Ideal S4x1024x1536 .f32 := fun i =>
  ∑ k : Fin 4096, at2 a k.val (i 1).val * at3 b (((i 0).val * 1536 + (i 2).val) / 1024) k.val (((i 0).val * 1536 + (i 2).val) % 1024)

/-- After the run the result holds the gradient. -/
theorem final2 (c : Dev nD) : (dats m 0 c).arrAt 2 cfg0.N
    = gradient (m ((c : Thread nD τ).loc main_arg0)) (m ((c : Thread nD τ).loc main_arg1)) := by
  refine (dats m 0 c).arrAt_eq_of_covers 2 _ (by decide +kernel) fun t _ y => ?_
  blk_simp
  rw [after0_2, block2]
  generalize hi : ((View.whole main_v0).slice (win0_2.rect t)).emb y = i
  have h0 : (i 0).val = t.val / 3 + (y 0).val := by rw [← hi]; blk_simp [block_index t]
  have h1 : (i 1).val = (y 1).val := by rw [← hi]; blk_simp [block_index t]
  have h2 : (i 2).val = t.val % 3 * 512 + (y 2).val := by rw [← hi]; blk_simp [block_index t]
  unfold gradient
  have : (y 0).val < 1 := (y 0).isLt
  have : (y 2).val < 512 := (y 2).isLt
  have := block_index t
  exact sum_mul_congr (fun k => read_a m c t k (y 1) _ _ rfl h1) fun k => read_dy m c t k (y 2) _ _ _ (by omega) rfl (by omega)

variable (x0 : Vec Ideal Cert.WInReferenceIdeal.S4096x1024 .bf16) (x1 : Vec Ideal Cert.WInReferenceIdeal.S6x4096x1024 .bf16)

open Cert.WInReferenceIdeal.Read

/-- The planes side by side, read by column. -/
theorem reference_columns (k : Fin 4096) (j : Fin 6144) : val_main_v12 (F := Ideal) x1 (ix2 k j)
    = at3 x1 (j.val / 1024) k.val (j.val % 1024) := by
  have := j.isLt
  unfold val_main_v12 val_main_v11 val_main_v10 val_main_v9 val_main_v8 val_main_v7 val_main_v6 val_main_v5 val_main_v4 val_main_v3 val_main_v2 val_main_v1 val_main_v0
  pointwise
  by_cases h0 : j.val < 1024
  · rw [dif_pos h0]
    exact eq_at3_of x1 _ _ _ (by show _ = 0; omega) rfl (by show _ = j.val; omega)
  rw [dif_neg h0]
  by_cases h1 : j.val - 1024 < 1024
  · rw [dif_pos h1]
    exact eq_at3_of x1 _ _ _ (by show _ = 1; omega) rfl (by show _ = j.val - 1024; omega)
  rw [dif_neg h1]
  by_cases h2 : j.val - 1024 - 1024 < 1024
  · rw [dif_pos h2]
    exact eq_at3_of x1 _ _ _ (by show _ = 2; omega) rfl (by show _ = j.val - 1024 - 1024; omega)
  rw [dif_neg h2]
  by_cases h3 : j.val - 1024 - 1024 - 1024 < 1024
  · rw [dif_pos h3]
    exact eq_at3_of x1 _ _ _ (by show _ = 3; omega) rfl (by show _ = j.val - 1024 - 1024 - 1024; omega)
  rw [dif_neg h3]
  by_cases h4 : j.val - 1024 - 1024 - 1024 - 1024 < 1024
  · rw [dif_pos h4]
    exact eq_at3_of x1 _ _ _ (by show _ = 4; omega) rfl (by show _ = j.val - 1024 - 1024 - 1024 - 1024; omega)
  rw [dif_neg h4]
  exact eq_at3_of x1 _ _ _ (by show _ = 5; omega) rfl (by show _ = j.val - 1024 - 1024 - 1024 - 1024 - 1024; omega)

/-- The reference's product, before the columns are dealt to the shards. -/
theorem reference_product (j : Fin 6144) (r : Fin 1024) : val_main_v17 (F := Ideal) x0 x1 (ix2 j r)
    = ∑ k : Fin 4096, at2 x0 k.val r.val * at3 x1 (j.val / 1024) k.val (j.val % 1024) := by
  unfold val_main_v17 val_main_v16 val_main_v14
  pointwise
  exact Finset.sum_congr rfl fun k _ => by rw [reference_columns, eq_at2 x0, mul_comm]

/-- The reference's result is the gradient of the weight. -/
theorem reference_eq : val_main_v27 (F := Ideal) x0 x1 = gradient x0 x1 := by
  have all : ∀ (p : Fin 4) (r : Fin 1024) (l : Fin 1536), val_main_v27 (F := Ideal) x0 x1 (ix3 p r l)
      = ∑ k : Fin 4096, at2 x0 k.val r.val * at3 x1 ((p.val * 1536 + l.val) / 1024) k.val ((p.val * 1536 + l.val) % 1024) := by
    intro p r l
    have key : ∀ j : Fin 6144, j.val = p.val * 1536 + l.val → val_main_v17 (F := Ideal) x0 x1 (ix2 j r)
        = ∑ k : Fin 4096, at2 x0 k.val r.val * at3 x1 ((p.val * 1536 + l.val) / 1024) k.val ((p.val * 1536 + l.val) % 1024) := fun j hj => by
      rw [reference_product, hj]
    have := p.isLt
    unfold val_main_v27 val_main_v26 val_main_v25 val_main_v24 val_main_v23 val_main_v22 val_main_v21 val_main_v20 val_main_v19 val_main_v18
    pointwise
    split_ifs
    · exact key _ (by show l.val = _; omega)
    · exact key _ (by show 1536 + l.val = _; omega)
    · exact key _ (by show 3072 + l.val = _; omega)
    · exact key _ (by show 4608 + l.val = _; omega)
  funext i
  rw [idx3_eta i]
  exact all (i 0) (i 1) (i 2)

/-- From memories agreeing on the arguments, kernel and reference end with equal results over the extended reals. -/
theorem algebraic : Cert.algebraic_WInKernelIdeal_WInReferenceIdeal (hWInKernelIdeal := Cert.WInKernelIdeal.Gen.facts)
    (hWInReferenceIdeal := Cert.WInReferenceIdeal.Gen.facts) := by
  pair_intro
  · run_from Cert.WInKernelIdeal.Gen.run_main m g
  · run_from Cert.WInReferenceIdeal.Value.run m' g'
    rw [Cert.WInReferenceIdeal.Read.val_main_v27_eq, reference_eq, final2]
    obtain ⟨h0, h1⟩ := hagree c
    exact congr (congrArg gradient h0) h1

end Cert.WInKernelIdeal.Proof

end
-- ==== Proof.Weights.Up.lean ====
module

public import proofs.«01_k».proof.Defs
public import proofs.«01_k».proof.Proof.Gen.WUpKernelIdeal.Value
public import proofs.«01_k».proof.Proof.Gen.WUpReferenceIdeal.Run
public import proofs.«01_k».proof.Proof.Gen.WUpReferenceIdeal.Read
public import proofs.«01_k».proof.Proof.Shared.Reading
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! # The gradient of the up-projection's weight: the call g_up -/

namespace Cert.WUpKernelIdeal.Proof

open Cert.WUpKernelIdeal Cert.WUpKernelIdeal.Gen Cert.Shared

variable (m : (ℓ : Loc nD τ sig) → Buf (Elt Ideal) ℓ)

/-- Grid point `t` reads all tokens of the first argument and of the `t`-th 512 columns of the second, and writes its 512 columns of the shard that holds them. -/
theorem block_index : ∀ t : Fin cfg0.N, win0_0.index t = ![0, 0] ∧ win0_1.index t = ![0, t.val]
    ∧ win0_2.index t = ![t.val / 2, 0, t.val % 2] ∧ t.val < 8 :=
  (by decide +kernel : ∀ t : Fin grid0.N, _)

/-- What one grid point computes: the product of the transposed first block with the second. -/
theorem block2 (x0 : Vec Ideal S4096x1024 .bf16) (x1 : Vec Ideal S4096x512 .bf16) (y : S1x1024x512.Idx) :
    out0_2 x0 x1 y = ∑ k : Fin 4096, x0 (ix2 k (y 1)) * x1 (ix2 k (y 2)) := by
  unfold out0_2
  canon_tiles x h
  case piece0 =>
    open_payloads; pointwise
    rw [show y 1 = x 1 from Fin.ext h1, show y 2 = x 2 from Fin.ext h2]

/-- The first block's elements in the argument. -/
theorem read_a (c : Dev nD) (t : Fin cfg0.N) (k : Fin 4096) (j : Fin 1024) (a b : ℕ) (ha : a = k.val) (hb : b = j.val) :
    (iblk m c 0 t : Vec Ideal S4096x1024 .bf16) (ix2 k j) = at2 (m ((c : Thread nD τ).loc main_arg0) : Vec Ideal S4096x1024 .bf16) a b := by
  have := k.isLt
  have := j.isLt
  have := block_index t
  rw [at2, dif_pos (by omega)]
  blk_ext [iblk, V, block_index t]

/-- The second block's elements in the argument. -/
theorem read_dy (c : Dev nD) (t : Fin cfg0.N) (k : Fin 4096) (j : Fin 512) (a b : ℕ) (ha : a = k.val) (hb : b = t.val * 512 + j.val) :
    (iblk m c 1 t : Vec Ideal S4096x512 .bf16) (ix2 k j) = at2 (m ((c : Thread nD τ).loc main_arg1) : Vec Ideal S4096x4096 .bf16) a b := by
  have := k.isLt
  have := j.isLt
  have := block_index t
  rw [at2, dif_pos (by omega)]
  blk_ext [iblk, V, block_index t]

/-- The gradient of the weight, shard by shard: row `r`, column `l` of shard `p` is a sum over the tokens. -/
def gradient (a : Vec Ideal S4096x1024 .bf16) (b : Vec Ideal S4096x4096 .bf16) : Vec Ideal S4x1024x1024 .f32 := fun i =>
  ∑ k : Fin 4096, at2 a k.val (i 1).val * at2 b k.val ((i 0).val * 1024 + (i 2).val)

/-- After the run the result holds the gradient. -/
theorem final2 (c : Dev nD) : (dats m 0 c).arrAt 2 cfg0.N
    = gradient (m ((c : Thread nD τ).loc main_arg0)) (m ((c : Thread nD τ).loc main_arg1)) := by
  refine (dats m 0 c).arrAt_eq_of_covers 2 _ (by decide +kernel) fun t _ y => ?_
  blk_simp
  rw [after0_2, block2]
  generalize hi : ((View.whole main_v0).slice (win0_2.rect t)).emb y = i
  have h0 : (i 0).val = t.val / 2 + (y 0).val := by rw [← hi]; blk_simp [block_index t]
  have h1 : (i 1).val = (y 1).val := by rw [← hi]; blk_simp [block_index t]
  have h2 : (i 2).val = t.val % 2 * 512 + (y 2).val := by rw [← hi]; blk_simp [block_index t]
  unfold gradient
  have : (y 0).val < 1 := (y 0).isLt
  have : (y 2).val < 512 := (y 2).isLt
  have := block_index t
  exact sum_mul_congr (fun k => read_a m c t k (y 1) _ _ rfl h1) fun k => read_dy m c t k (y 2) _ _ rfl (by omega)

variable (x0 : Vec Ideal Cert.WUpReferenceIdeal.S4096x1024 .bf16) (x1 : Vec Ideal Cert.WUpReferenceIdeal.S4096x4096 .bf16)

open Cert.WUpReferenceIdeal.Read

/-- The reference's product, before the columns are dealt to the shards. -/
theorem reference_product (j : Fin 4096) (r : Fin 1024) : val_main_v4 (F := Ideal) x0 x1 (ix2 j r)
    = ∑ k : Fin 4096, at2 x0 k.val r.val * at2 x1 k.val j.val := by
  unfold val_main_v4 val_main_v3 val_main_v1
  pointwise
  exact Finset.sum_congr rfl fun k _ => by rw [eq_at2 x0, eq_at2 x1, mul_comm]

/-- The reference's result is the gradient of the weight. -/
theorem reference_eq : val_main_v14 (F := Ideal) x0 x1 = gradient x0 x1 := by
  have all : ∀ (p : Fin 4) (r : Fin 1024) (l : Fin 1024), val_main_v14 (F := Ideal) x0 x1 (ix3 p r l)
      = ∑ k : Fin 4096, at2 x0 k.val r.val * at2 x1 k.val (p.val * 1024 + l.val) := by
    intro p r l
    have key : ∀ j : Fin 4096, j.val = p.val * 1024 + l.val → val_main_v4 (F := Ideal) x0 x1 (ix2 j r)
        = ∑ k : Fin 4096, at2 x0 k.val r.val * at2 x1 k.val (p.val * 1024 + l.val) := fun j hj => by
      rw [reference_product, hj]
    have := p.isLt
    unfold val_main_v14 val_main_v13 val_main_v12 val_main_v11 val_main_v10 val_main_v9 val_main_v8 val_main_v7 val_main_v6 val_main_v5
    pointwise
    split_ifs
    · exact key _ (by show l.val = _; omega)
    · exact key _ (by show 1024 + l.val = _; omega)
    · exact key _ (by show 2048 + l.val = _; omega)
    · exact key _ (by show 3072 + l.val = _; omega)
  funext i
  rw [idx3_eta i]
  exact all (i 0) (i 1) (i 2)

/-- From memories agreeing on the arguments, kernel and reference end with equal results over the extended reals. -/
theorem algebraic : Cert.algebraic_WUpKernelIdeal_WUpReferenceIdeal (hWUpKernelIdeal := Cert.WUpKernelIdeal.Gen.facts)
    (hWUpReferenceIdeal := Cert.WUpReferenceIdeal.Gen.facts) := by
  pair_intro
  · run_from Cert.WUpKernelIdeal.Gen.run_main m g
  · run_from Cert.WUpReferenceIdeal.Value.run m' g'
    rw [Cert.WUpReferenceIdeal.Read.val_main_v14_eq, reference_eq, final2]

end Cert.WUpKernelIdeal.Proof

end
-- ==== Proof.Weights.Down.lean ====
module

public import proofs.«01_k».proof.Defs
public import proofs.«01_k».proof.Proof.Gen.WDownKernelIdeal.Value
public import proofs.«01_k».proof.Proof.Gen.WDownReferenceIdeal.Run
public import proofs.«01_k».proof.Proof.Gen.WDownReferenceIdeal.Read
public import proofs.«01_k».proof.Proof.Shared.Reading
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! # The gradient of the down-projection's weight: the call g_down -/

namespace Cert.WDownKernelIdeal.Proof

open Cert.WDownKernelIdeal Cert.WDownKernelIdeal.Gen Cert.Shared

variable (m : (ℓ : Loc nD τ sig) → Buf (Elt Ideal) ℓ)

/-- Grid point `t` reads all tokens of the `t`-th 512 columns of the first argument and of the whole second, and writes the `t`-th 512 rows. -/
theorem block_index : ∀ t : Fin cfg0.N, win0_0.index t = ![0, t.val] ∧ win0_1.index t = ![0, 0]
    ∧ win0_2.index t = ![t.val, 0] ∧ t.val < 8 :=
  (by decide +kernel : ∀ t : Fin grid0.N, _)

/-- What one grid point computes: the product of the transposed first block with the second. -/
theorem block2 (x0 : Vec Ideal S4096x512 .bf16) (x1 : Vec Ideal S4096x1024 .bf16) (y : S512x1024.Idx) :
    out0_2 x0 x1 y = ∑ k : Fin 4096, x0 (ix2 k (y 0)) * x1 (ix2 k (y 1)) := by
  unfold out0_2
  canon_tiles x h
  case piece0 =>
    open_payloads; pointwise
    rw [show y 0 = x 0 from Fin.ext h0, show y 1 = x 1 from Fin.ext h1]

/-- The first block's elements in the argument. -/
theorem read_a (c : Dev nD) (t : Fin cfg0.N) (k : Fin 4096) (j : Fin 512) (a b : ℕ) (ha : a = k.val) (hb : b = t.val * 512 + j.val) :
    (iblk m c 0 t : Vec Ideal S4096x512 .bf16) (ix2 k j) = at2 (m ((c : Thread nD τ).loc main_arg0) : Vec Ideal S4096x4096 .bf16) a b := by
  have := k.isLt
  have := j.isLt
  have := block_index t
  rw [at2, dif_pos (by omega)]
  blk_ext [iblk, V, block_index t]

/-- The second block's elements in the argument. -/
theorem read_dy (c : Dev nD) (t : Fin cfg0.N) (k : Fin 4096) (j : Fin 1024) (a b : ℕ) (ha : a = k.val) (hb : b = j.val) :
    (iblk m c 1 t : Vec Ideal S4096x1024 .bf16) (ix2 k j) = at2 (m ((c : Thread nD τ).loc main_arg1) : Vec Ideal S4096x1024 .bf16) a b := by
  have := k.isLt
  have := j.isLt
  have := block_index t
  rw [at2, dif_pos (by omega)]
  blk_ext [iblk, V, block_index t]

/-- The gradient of the weight: row `r`, column `l` is a sum over the tokens. -/
def gradient (a : Vec Ideal S4096x4096 .bf16) (b : Vec Ideal S4096x1024 .bf16) : Vec Ideal S4096x1024 .f32 := fun i =>
  ∑ k : Fin 4096, at2 a k.val (i 0).val * at2 b k.val (i 1).val

/-- After the run the result holds the gradient. -/
theorem final2 (c : Dev nD) : (dats m 0 c).arrAt 2 cfg0.N
    = gradient (m ((c : Thread nD τ).loc main_arg0)) (m ((c : Thread nD τ).loc main_arg1)) := by
  refine (dats m 0 c).arrAt_eq_of_covers 2 _ (by decide +kernel) fun t _ y => ?_
  blk_simp
  rw [after0_2, block2]
  generalize hi : ((View.whole main_v0).slice (win0_2.rect t)).emb y = i
  have h0 : (i 0).val = t.val * 512 + (y 0).val := by rw [← hi]; blk_simp [block_index t]
  have h1 : (i 1).val = (y 1).val := by rw [← hi]; blk_simp [block_index t]
  unfold gradient
  exact sum_mul_congr (fun k => read_a m c t k (y 0) _ _ rfl h0) fun k => read_dy m c t k (y 1) _ _ rfl h1

variable (x0 : Vec Ideal Cert.WDownReferenceIdeal.S4096x4096 .bf16) (x1 : Vec Ideal Cert.WDownReferenceIdeal.S4096x1024 .bf16)

open Cert.WDownReferenceIdeal.Read

/-- The reference's result is the gradient of the weight. -/
theorem reference_eq : val_main_v5 (F := Ideal) x0 x1 = gradient x0 x1 := by
  have all : ∀ (r : Fin 4096) (l : Fin 1024), val_main_v5 (F := Ideal) x0 x1 (ix2 r l)
      = ∑ k : Fin 4096, at2 x0 k.val r.val * at2 x1 k.val l.val := by
    intro r l
    unfold val_main_v5 val_main_v4 val_main_v3 val_main_v1
    pointwise
    exact Finset.sum_congr rfl fun k _ => by rw [eq_at2 x0, eq_at2 x1, mul_comm]
  funext i
  rw [idx2_eta i]
  exact all (i 0) (i 1)

/-- From memories agreeing on the arguments, kernel and reference end with equal results over the extended reals. -/
theorem algebraic : Cert.algebraic_WDownKernelIdeal_WDownReferenceIdeal (hWDownKernelIdeal := Cert.WDownKernelIdeal.Gen.facts)
    (hWDownReferenceIdeal := Cert.WDownReferenceIdeal.Gen.facts) := by
  pair_intro
  · run_from Cert.WDownKernelIdeal.Gen.run_main m g
  · run_from Cert.WDownReferenceIdeal.Value.run m' g'
    rw [Cert.WDownReferenceIdeal.Read.val_main_v5_eq, reference_eq, final2]

end Cert.WDownKernelIdeal.Proof

end
-- ==== Proof.Weights.Gate.lean ====
module

public import proofs.«01_k».proof.Defs
public import proofs.«01_k».proof.Proof.Gen.WGateKernelIdeal.Value
public import proofs.«01_k».proof.Proof.Gen.WGateReferenceIdeal.Run
public import proofs.«01_k».proof.Proof.Gen.WGateReferenceIdeal.Read
public import proofs.«01_k».proof.Proof.Shared.Reading
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! # The gradient of the gates' weight: the call g_gate -/

namespace Cert.WGateKernelIdeal.Proof

open Cert.WGateKernelIdeal Cert.WGateKernelIdeal.Gen Cert.Shared

variable (m : (ℓ : Loc nD τ sig) → Buf (Elt Ideal) ℓ)

/-- Grid point `t` reads all tokens of the first argument and of the `t`-th 512 columns of the second, and writes its 512 columns of the shard that holds them. -/
theorem block_index : ∀ t : Fin cfg0.N, win0_0.index t = ![0, 0] ∧ win0_1.index t = ![t.val / 2, 0, t.val % 2]
    ∧ win0_2.index t = ![t.val, 0, 0] ∧ t.val < 4 :=
  (by decide +kernel : ∀ t : Fin grid0.N, _)

/-- What one grid point computes: the product of the transposed first block with the second. -/
theorem block2 (x0 : Vec Ideal S4096x1024 .bf16) (x1 : Vec Ideal S1x4096x512 .bf16) (y : S1x1024x512.Idx) :
    out0_2 x0 x1 y = ∑ k : Fin 4096, x0 (ix2 k (y 1)) * x1 (ix3 0 k (y 2)) := by
  unfold out0_2
  canon_tiles x h
  case piece0 =>
    open_payloads; pointwise
    rw [show y 1 = x 1 from Fin.ext h1, show y 2 = x 2 from Fin.ext h2]

/-- The first block's elements in the argument. -/
theorem read_a (c : Dev nD) (t : Fin cfg0.N) (k : Fin 4096) (j : Fin 1024) (a b : ℕ) (ha : a = k.val) (hb : b = j.val) :
    (iblk m c 0 t : Vec Ideal S4096x1024 .bf16) (ix2 k j) = at2 (m ((c : Thread nD τ).loc main_arg0) : Vec Ideal S4096x1024 .bf16) a b := by
  have := k.isLt
  have := j.isLt
  have := block_index t
  rw [at2, dif_pos (by omega)]
  blk_ext [iblk, V, block_index t]

/-- The second block's elements in the argument. -/
theorem read_dy (c : Dev nD) (t : Fin cfg0.N) (k : Fin 4096) (j : Fin 512) (p a b : ℕ) (hp : p = t.val / 2) (ha : a = k.val) (hb : b = t.val % 2 * 512 + j.val) :
    (iblk m c 1 t : Vec Ideal S1x4096x512 .bf16) (ix3 0 k j) = at3 (m ((c : Thread nD τ).loc main_arg1) : Vec Ideal S2x4096x1024 .bf16) p a b := by
  have := k.isLt
  have := j.isLt
  have := block_index t
  rw [at3, dif_pos (by omega)]
  blk_ext [iblk, V, block_index t]

/-- The gradient of the weight, shard by shard: row `r`, column `l` of shard `p` is a sum over the tokens. -/
def gradient (a : Vec Ideal S4096x1024 .bf16) (b : Vec Ideal S2x4096x1024 .bf16) : Vec Ideal S4x1024x512 .f32 := fun i =>
  ∑ k : Fin 4096, at2 a k.val (i 1).val * at3 b (((i 0).val * 512 + (i 2).val) / 1024) k.val (((i 0).val * 512 + (i 2).val) % 1024)

/-- After the run the result holds the gradient. -/
theorem final2 (c : Dev nD) : (dats m 0 c).arrAt 2 cfg0.N
    = gradient (m ((c : Thread nD τ).loc main_arg0)) (m ((c : Thread nD τ).loc main_arg1)) := by
  refine (dats m 0 c).arrAt_eq_of_covers 2 _ (by decide +kernel) fun t _ y => ?_
  blk_simp
  rw [after0_2, block2]
  generalize hi : ((View.whole main_v0).slice (win0_2.rect t)).emb y = i
  have h0 : (i 0).val = t.val + (y 0).val := by rw [← hi]; blk_simp [block_index t]
  have h1 : (i 1).val = (y 1).val := by rw [← hi]; blk_simp [block_index t]
  have h2 : (i 2).val = (y 2).val := by rw [← hi]; blk_simp [block_index t]
  unfold gradient
  have : (y 0).val < 1 := (y 0).isLt
  have : (y 2).val < 512 := (y 2).isLt
  have := block_index t
  exact sum_mul_congr (fun k => read_a m c t k (y 1) _ _ rfl h1) fun k => read_dy m c t k (y 2) _ _ _ (by omega) rfl (by omega)

variable (x0 : Vec Ideal Cert.WGateReferenceIdeal.S4096x1024 .bf16) (x1 : Vec Ideal Cert.WGateReferenceIdeal.S2x4096x1024 .bf16)

open Cert.WGateReferenceIdeal.Read

/-- The planes side by side, read by column. -/
theorem reference_columns (k : Fin 4096) (j : Fin 2048) : val_main_v4 (F := Ideal) x1 (ix2 k j)
    = at3 x1 (j.val / 1024) k.val (j.val % 1024) := by
  have := j.isLt
  unfold val_main_v4 val_main_v3 val_main_v2 val_main_v1 val_main_v0
  pointwise
  by_cases h0 : j.val < 1024
  · rw [dif_pos h0]
    exact eq_at3_of x1 _ _ _ (by show _ = 0; omega) rfl (by show _ = j.val; omega)
  rw [dif_neg h0]
  exact eq_at3_of x1 _ _ _ (by show _ = 1; omega) rfl (by show _ = j.val - 1024; omega)

/-- The reference's product, before the columns are dealt to the shards. -/
theorem reference_product (j : Fin 2048) (r : Fin 1024) : val_main_v9 (F := Ideal) x0 x1 (ix2 j r)
    = ∑ k : Fin 4096, at2 x0 k.val r.val * at3 x1 (j.val / 1024) k.val (j.val % 1024) := by
  unfold val_main_v9 val_main_v8 val_main_v6
  pointwise
  exact Finset.sum_congr rfl fun k _ => by rw [reference_columns, eq_at2 x0, mul_comm]

/-- The reference's result is the gradient of the weight. -/
theorem reference_eq : val_main_v19 (F := Ideal) x0 x1 = gradient x0 x1 := by
  have all : ∀ (p : Fin 4) (r : Fin 1024) (l : Fin 512), val_main_v19 (F := Ideal) x0 x1 (ix3 p r l)
      = ∑ k : Fin 4096, at2 x0 k.val r.val * at3 x1 ((p.val * 512 + l.val) / 1024) k.val ((p.val * 512 + l.val) % 1024) := by
    intro p r l
    have key : ∀ j : Fin 2048, j.val = p.val * 512 + l.val → val_main_v9 (F := Ideal) x0 x1 (ix2 j r)
        = ∑ k : Fin 4096, at2 x0 k.val r.val * at3 x1 ((p.val * 512 + l.val) / 1024) k.val ((p.val * 512 + l.val) % 1024) := fun j hj => by
      rw [reference_product, hj]
    have := p.isLt
    unfold val_main_v19 val_main_v18 val_main_v17 val_main_v16 val_main_v15 val_main_v14 val_main_v13 val_main_v12 val_main_v11 val_main_v10
    pointwise
    split_ifs
    · exact key _ (by show l.val = _; omega)
    · exact key _ (by show 512 + l.val = _; omega)
    · exact key _ (by show 1024 + l.val = _; omega)
    · exact key _ (by show 1536 + l.val = _; omega)
  funext i
  rw [idx3_eta i]
  exact all (i 0) (i 1) (i 2)

/-- From memories agreeing on the arguments, kernel and reference end with equal results over the extended reals. -/
theorem algebraic : Cert.algebraic_WGateKernelIdeal_WGateReferenceIdeal (hWGateKernelIdeal := Cert.WGateKernelIdeal.Gen.facts)
    (hWGateReferenceIdeal := Cert.WGateReferenceIdeal.Gen.facts) := by
  pair_intro
  · run_from Cert.WGateKernelIdeal.Gen.run_main m g
  · run_from Cert.WGateReferenceIdeal.Value.run m' g'
    rw [Cert.WGateReferenceIdeal.Read.val_main_v19_eq, reference_eq, final2]

end Cert.WGateKernelIdeal.Proof

end
-- ==== Proof.Weights.Out.lean ====
module

public import proofs.«01_k».proof.Defs
public import proofs.«01_k».proof.Proof.Gen.WOutKernelIdeal.Value
public import proofs.«01_k».proof.Proof.Gen.WOutReferenceIdeal.Run
public import proofs.«01_k».proof.Proof.Gen.WOutReferenceIdeal.Read
public import proofs.«01_k».proof.Proof.Shared.Reading
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! # The gradient of a square projection's weight: the calls g_out, g_attn_proj and g_conv_proj -/

namespace Cert.WOutKernelIdeal.Proof

open Cert.WOutKernelIdeal Cert.WOutKernelIdeal.Gen Cert.Shared

variable (m : (ℓ : Loc nD τ sig) → Buf (Elt Ideal) ℓ)

/-- Grid point `t` reads all tokens of the first argument and of the `t`-th 512 columns of the second, and writes the `t`-th 512 columns. -/
theorem block_index : ∀ t : Fin cfg0.N, win0_0.index t = ![0, 0] ∧ win0_1.index t = ![0, t.val]
    ∧ win0_2.index t = ![0, t.val] ∧ t.val < 2 :=
  (by decide +kernel : ∀ t : Fin grid0.N, _)

/-- What one grid point computes: the product of the transposed first block with the second. -/
theorem block2 (x0 : Vec Ideal S4096x1024 .bf16) (x1 : Vec Ideal S4096x512 .bf16) (y : S1024x512.Idx) :
    out0_2 x0 x1 y = ∑ k : Fin 4096, x0 (ix2 k (y 0)) * x1 (ix2 k (y 1)) := by
  unfold out0_2
  canon_tiles x h
  case piece0 =>
    open_payloads; pointwise
    rw [show y 0 = x 0 from Fin.ext h0, show y 1 = x 1 from Fin.ext h1]

/-- The first block's elements in the argument. -/
theorem read_a (c : Dev nD) (t : Fin cfg0.N) (k : Fin 4096) (j : Fin 1024) (a b : ℕ) (ha : a = k.val) (hb : b = j.val) :
    (iblk m c 0 t : Vec Ideal S4096x1024 .bf16) (ix2 k j) = at2 (m ((c : Thread nD τ).loc main_arg0) : Vec Ideal S4096x1024 .bf16) a b := by
  have := k.isLt
  have := j.isLt
  have := block_index t
  rw [at2, dif_pos (by omega)]
  blk_ext [iblk, V, block_index t]

/-- The second block's elements in the argument. -/
theorem read_dy (c : Dev nD) (t : Fin cfg0.N) (k : Fin 4096) (j : Fin 512) (a b : ℕ) (ha : a = k.val) (hb : b = t.val * 512 + j.val) :
    (iblk m c 1 t : Vec Ideal S4096x512 .bf16) (ix2 k j) = at2 (m ((c : Thread nD τ).loc main_arg1) : Vec Ideal S4096x1024 .bf16) a b := by
  have := k.isLt
  have := j.isLt
  have := block_index t
  rw [at2, dif_pos (by omega)]
  blk_ext [iblk, V, block_index t]

/-- The gradient of the weight: row `r`, column `l` is a sum over the tokens. -/
def gradient (a : Vec Ideal S4096x1024 .bf16) (b : Vec Ideal S4096x1024 .bf16) : Vec Ideal S1024x1024 .f32 := fun i =>
  ∑ k : Fin 4096, at2 a k.val (i 0).val * at2 b k.val (i 1).val

/-- After the run the result holds the gradient. -/
theorem final2 (c : Dev nD) : (dats m 0 c).arrAt 2 cfg0.N
    = gradient (m ((c : Thread nD τ).loc main_arg0)) (m ((c : Thread nD τ).loc main_arg1)) := by
  refine (dats m 0 c).arrAt_eq_of_covers 2 _ (by decide +kernel) fun t _ y => ?_
  blk_simp
  rw [after0_2, block2]
  generalize hi : ((View.whole main_v0).slice (win0_2.rect t)).emb y = i
  have h0 : (i 0).val = (y 0).val := by rw [← hi]; blk_simp [block_index t]
  have h1 : (i 1).val = t.val * 512 + (y 1).val := by rw [← hi]; blk_simp [block_index t]
  unfold gradient
  exact sum_mul_congr (fun k => read_a m c t k (y 0) _ _ rfl h0) fun k => read_dy m c t k (y 1) _ _ rfl h1

variable (x0 : Vec Ideal Cert.WOutReferenceIdeal.S4096x1024 .bf16) (x1 : Vec Ideal Cert.WOutReferenceIdeal.S4096x1024 .bf16)

open Cert.WOutReferenceIdeal.Read

/-- The reference's result is the gradient of the weight. -/
theorem reference_eq : val_main_v5 (F := Ideal) x0 x1 = gradient x0 x1 := by
  have all : ∀ (r : Fin 1024) (l : Fin 1024), val_main_v5 (F := Ideal) x0 x1 (ix2 r l)
      = ∑ k : Fin 4096, at2 x0 k.val r.val * at2 x1 k.val l.val := by
    intro r l
    unfold val_main_v5 val_main_v4 val_main_v3 val_main_v1
    pointwise
    exact Finset.sum_congr rfl fun k _ => by rw [eq_at2 x0, eq_at2 x1, mul_comm]
  funext i
  rw [idx2_eta i]
  exact all (i 0) (i 1)

/-- From memories agreeing on the arguments, kernel and reference end with equal results over the extended reals. -/
theorem algebraic : Cert.algebraic_WOutKernelIdeal_WOutReferenceIdeal (hWOutKernelIdeal := Cert.WOutKernelIdeal.Gen.facts)
    (hWOutReferenceIdeal := Cert.WOutReferenceIdeal.Gen.facts) := by
  pair_intro
  · run_from Cert.WOutKernelIdeal.Gen.run_main m g
  · run_from Cert.WOutReferenceIdeal.Value.run m' g'
    rw [Cert.WOutReferenceIdeal.Read.val_main_v5_eq, reference_eq, final2]

end Cert.WOutKernelIdeal.Proof

end
-- ==== Proof.Activations.Branch.lean ====
module

public import proofs.«01_k».proof.Defs
public import proofs.«01_k».proof.Proof.Gen.BranchKernelIdeal.Value
public import proofs.«01_k».proof.Proof.Gen.BranchReferenceIdeal.Run
public import proofs.«01_k».proof.Proof.Gen.BranchReferenceIdeal.Read
public import proofs.«01_k».proof.Proof.Shared.Reading
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! # The gradient of a square projection's input: the calls d_attn and d_yconv -/

namespace Cert.BranchKernelIdeal.Proof

open Cert.BranchKernelIdeal Cert.BranchKernelIdeal.Gen Cert.Shared

variable (m : (ℓ : Loc nD τ sig) → Buf (Elt Ideal) ℓ)

/-- Grid point `t` reads the `t`-th 1024 tokens and the whole weight, and writes the same tokens. -/
theorem block_index : ∀ t : Fin cfg0.N, win0_0.index t = ![t.val, 0] ∧ win0_1.index t = ![0, 0]
    ∧ win0_2.index t = ![t.val, 0] ∧ t.val < 4 :=
  (by decide +kernel : ∀ t : Fin grid0.N, _)

/-- What one grid point computes: the product of the first block with the transposed second. -/
theorem block2 (x0 : Vec Ideal S1024x1024 .bf16) (x1 : Vec Ideal S1024x1024 .bf16) (y : S1024x1024.Idx) :
    out0_2 x0 x1 y = ∑ k : Fin 1024, x0 (ix2 (y 0) k) * x1 (ix2 (y 1) k) := by
  unfold out0_2
  canon_tiles x h
  case piece0 =>
    open_payloads; pointwise
    rw [show y 0 = x 0 from Fin.ext h0, show y 1 = x 1 from Fin.ext h1]

/-- The first block's elements in the argument. -/
theorem read_dy (c : Dev nD) (t : Fin cfg0.N) (k : Fin 1024) (j : Fin 1024) (a b : ℕ) (ha : a = t.val * 1024 + k.val) (hb : b = j.val) :
    (iblk m c 0 t : Vec Ideal S1024x1024 .bf16) (ix2 k j) = at2 (m ((c : Thread nD τ).loc main_arg0) : Vec Ideal S4096x1024 .bf16) a b := by
  have := k.isLt
  have := j.isLt
  have := block_index t
  rw [at2, dif_pos (by omega)]
  blk_ext [iblk, V, block_index t]

/-- The second block's elements in the argument. -/
theorem read_w (c : Dev nD) (t : Fin cfg0.N) (k : Fin 1024) (j : Fin 1024) (a b : ℕ) (ha : a = k.val) (hb : b = j.val) :
    (iblk m c 1 t : Vec Ideal S1024x1024 .bf16) (ix2 k j) = at2 (m ((c : Thread nD τ).loc main_arg1) : Vec Ideal S1024x1024 .bf16) a b := by
  have := k.isLt
  have := j.isLt
  have := block_index t
  rw [at2, dif_pos (by omega)]
  blk_ext [iblk, V, block_index t]

/-- The gradient of the projection's input: token `r`, channel `l` is a sum over the projection's columns. -/
def gradient (a : Vec Ideal S4096x1024 .bf16) (b : Vec Ideal S1024x1024 .bf16) : Vec Ideal S4096x1024 .bf16 := fun i =>
  ∑ k : Fin 1024, at2 a (i 0).val k.val * at2 b (i 1).val k.val

/-- After the run the result holds the gradient. -/
theorem final2 (c : Dev nD) : (dats m 0 c).arrAt 2 cfg0.N
    = gradient (m ((c : Thread nD τ).loc main_arg0)) (m ((c : Thread nD τ).loc main_arg1)) := by
  refine (dats m 0 c).arrAt_eq_of_covers 2 _ (by decide +kernel) fun t _ y => ?_
  blk_simp
  rw [after0_2, block2]
  generalize hi : ((View.whole main_v0).slice (win0_2.rect t)).emb y = i
  have h0 : (i 0).val = t.val * 1024 + (y 0).val := by rw [← hi]; blk_simp [block_index t]
  have h1 : (i 1).val = (y 1).val := by rw [← hi]; blk_simp [block_index t]
  unfold gradient
  exact sum_mul_congr (fun k => read_dy m c t (y 0) k _ _ h0 rfl) fun k => read_w m c t (y 1) k _ _ h1 rfl

variable (x0 : Vec Ideal Cert.BranchReferenceIdeal.S4096x1024 .bf16) (x1 : Vec Ideal Cert.BranchReferenceIdeal.S1024x1024 .bf16)

open Cert.BranchReferenceIdeal.Read

/-- The reference's result is the gradient of the branch. -/
theorem reference_eq : val_main_v5 (F := Ideal) x0 x1 = gradient x0 x1 := by
  have all : ∀ (r : Fin 4096) (l : Fin 1024), val_main_v5 (F := Ideal) x0 x1 (ix2 r l)
      = ∑ k : Fin 1024, at2 x0 r.val k.val * at2 x1 l.val k.val := by
    intro r l
    unfold val_main_v5 val_main_v4 val_main_v3 val_main_v1
    pointwise
    exact Finset.sum_congr rfl fun k _ => by rw [eq_at2 x0, eq_at2 x1]
  funext i
  rw [idx2_eta i]
  exact all (i 0) (i 1)

/-- From memories agreeing on the arguments, kernel and reference end with equal results over the extended reals. -/
theorem algebraic : Cert.algebraic_BranchKernelIdeal_BranchReferenceIdeal (hBranchKernelIdeal := Cert.BranchKernelIdeal.Gen.facts)
    (hBranchReferenceIdeal := Cert.BranchReferenceIdeal.Gen.facts) := by
  pair_intro
  · run_from Cert.BranchKernelIdeal.Gen.run_main m g
  · run_from Cert.BranchReferenceIdeal.Value.run m' g'
    rw [Cert.BranchReferenceIdeal.Read.val_main_v5_eq, reference_eq, final2]

end Cert.BranchKernelIdeal.Proof

end
-- ==== Proof.Activations.Merge.lean ====
module

public import proofs.«01_k».proof.Defs
public import proofs.«01_k».proof.Proof.Gen.MergeKernelIdeal.Value
public import proofs.«01_k».proof.Proof.Gen.MergeReferenceIdeal.Run
public import proofs.«01_k».proof.Proof.Gen.MergeReferenceIdeal.Read
public import proofs.«01_k».proof.Proof.Shared.Reading
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! # The gradient through the gated merge: the call d_merged -/

namespace Cert.MergeKernelIdeal.Proof

open Cert.MergeKernelIdeal Cert.MergeKernelIdeal.Gen Cert.Shared Cert.MergeReferenceIdeal.Read

variable (m : (ℓ : Loc nD τ sig) → Buf (Elt Ideal) ℓ)

/-- Grid point `t` is the `t`-th 1024 tokens; the gates of the two branches are the two halves of one array. -/
theorem block_index : ∀ t : Fin cfg0.N, win0_0.index t = ![t.val, 0] ∧ win0_1.index t = ![0, 0]
    ∧ win0_2.index t = ![t.val, 0] ∧ win0_3.index t = ![t.val, 0] ∧ win0_4.index t = ![t.val, 0] ∧ win0_5.index t = ![t.val, 1]
    ∧ win0_6.index t = ![t.val, 0] ∧ win0_7.index t = ![t.val, 0] ∧ win0_8.index t = ![0, t.val, 0] ∧ t.val < 4 :=
  (by decide +kernel : ∀ t : Fin grid0.N, _)

/-- The gates as the launch finds them are the reference's. -/
theorem entry_gates (c : Dev nD) : V m c main_v6 = val_main_v7 (F := Ideal) (m ((c : Thread nD τ).loc main_arg4)) := by
  entry_read
  rfl

variable (x0 : Vec Ideal S1024x1024 .bf16) (x1 : Vec Ideal S1024x1024 .bf16) (x2 : Vec Ideal S1024x1024 .bf16) (x3 : Vec Ideal S1024x1024 .bf16)
  (x4 : Vec Ideal S1024x1024 .bf16) (x5 : Vec Ideal S1024x1024 .bf16)

/-- One grid point's attention result: the product with the transposed weight, gated. -/
theorem block6 (y : S1024x1024.Idx) : out0_6 x0 x1 x2 x3 x4 x5 y
    = (∑ k : Fin 1024, x0 (ix2 (y 0) k) * x1 (ix2 (y 1) k)) * x4 (ix2 (y 0) (y 1)) := by
  unfold out0_6
  canon_tiles x h
  case piece0 =>
    open_payloads; pointwise
    obtain rfl : y = x := by rw [idx2_eta x, idx2_eta y, show y 0 = x 0 from Fin.ext h0, show y 1 = x 1 from Fin.ext h1]
    rfl

/-- One grid point's convolution result: the product with the transposed weight, gated. -/
theorem block7 (y : S1024x1024.Idx) : out0_7 x0 x1 x2 x3 x4 x5 y
    = (∑ k : Fin 1024, x0 (ix2 (y 0) k) * x1 (ix2 (y 1) k)) * x5 (ix2 (y 0) (y 1)) := by
  unfold out0_7
  canon_tiles x h
  case piece0 =>
    open_payloads; pointwise
    obtain rfl : y = x := by rw [idx2_eta x, idx2_eta y, show y 0 = x 0 from Fin.ext h0, show y 1 = x 1 from Fin.ext h1]
    rfl

/-- One gate's gradient from the merged gradient `d`, the branch's value `v` and the gate `g`. -/
abbrev gate_slope (d v g : EReal) : EReal := d * v * g * (1 - g)

/-- One grid point's gate gradients: attention's in the first plane, convolution's in the second. -/
theorem block8 (y : S2x1024x1024.Idx) : out0_8 x0 x1 x2 x3 x4 x5 y
    = if (y 0).val = 0
      then gate_slope (∑ k : Fin 1024, x0 (ix2 (y 1) k) * x1 (ix2 (y 2) k)) (x2 (ix2 (y 1) (y 2))) (x4 (ix2 (y 1) (y 2)))
      else gate_slope (∑ k : Fin 1024, x0 (ix2 (y 1) k) * x1 (ix2 (y 2) k)) (x3 (ix2 (y 1) (y 2))) (x5 (ix2 (y 1) (y 2))) := by
  unfold out0_8
  canon_tiles x h
  case piece0 =>
    rw [if_neg (by omega), show y 1 = x 1 from Fin.ext (by omega), show y 2 = x 2 from Fin.ext (by omega)]
    open_payloads; pointwise
  case piece1 =>
    rw [if_pos (by omega), show y 1 = x 1 from Fin.ext (by omega), show y 2 = x 2 from Fin.ext (by omega)]
    open_payloads; pointwise

/-- The elements of the first block in its array. -/
theorem read_dx (c : Dev nD) (t : Fin cfg0.N) (k : Fin 1024) (j : Fin 1024) (a b : ℕ) (ha : a = t.val * 1024 + k.val) (hb : b = j.val) :
    (iblk m c 0 t : Vec Ideal S1024x1024 .bf16) (ix2 k j) = at2 (m ((c : Thread nD τ).loc main_arg0) : Vec Ideal S4096x1024 .bf16) a b := by
  have := k.isLt
  have := j.isLt
  have := block_index t
  rw [at2, dif_pos (by omega)]
  blk_ext [iblk, V, block_index t]

/-- The elements of the weight's block in its array. -/
theorem read_w (c : Dev nD) (t : Fin cfg0.N) (k : Fin 1024) (j : Fin 1024) (a b : ℕ) (ha : a = k.val) (hb : b = j.val) :
    (iblk m c 1 t : Vec Ideal S1024x1024 .bf16) (ix2 k j) = at2 (m ((c : Thread nD τ).loc main_arg1) : Vec Ideal S1024x1024 .bf16) a b := by
  have := k.isLt
  have := j.isLt
  have := block_index t
  rw [at2, dif_pos (by omega)]
  blk_ext [iblk, V, block_index t]

/-- The elements of the attention branch's block in its array. -/
theorem read_attn (c : Dev nD) (t : Fin cfg0.N) (k : Fin 1024) (j : Fin 1024) (a b : ℕ) (ha : a = t.val * 1024 + k.val) (hb : b = j.val) :
    (iblk m c 2 t : Vec Ideal S1024x1024 .bf16) (ix2 k j) = at2 (m ((c : Thread nD τ).loc main_arg2) : Vec Ideal S4096x1024 .bf16) a b := by
  have := k.isLt
  have := j.isLt
  have := block_index t
  rw [at2, dif_pos (by omega)]
  blk_ext [iblk, V, block_index t]

/-- The elements of the convolution branch's block in its array. -/
theorem read_conv (c : Dev nD) (t : Fin cfg0.N) (k : Fin 1024) (j : Fin 1024) (a b : ℕ) (ha : a = t.val * 1024 + k.val) (hb : b = j.val) :
    (iblk m c 3 t : Vec Ideal S1024x1024 .bf16) (ix2 k j) = at2 (m ((c : Thread nD τ).loc main_arg3) : Vec Ideal S4096x1024 .bf16) a b := by
  have := k.isLt
  have := j.isLt
  have := block_index t
  rw [at2, dif_pos (by omega)]
  blk_ext [iblk, V, block_index t]

/-- The elements of the attention gate's block in its array. -/
theorem read_ga (c : Dev nD) (t : Fin cfg0.N) (k : Fin 1024) (j : Fin 1024) (a b : ℕ) (ha : a = t.val * 1024 + k.val) (hb : b = j.val) :
    (iblk m c 4 t : Vec Ideal S1024x1024 .bf16) (ix2 k j) = at2 (V m c main_v6 : Vec Ideal S4096x2048 .bf16) a b := by
  have := k.isLt
  have := j.isLt
  have := block_index t
  rw [at2, dif_pos (by omega)]
  blk_ext [iblk, block_index t]

/-- The elements of the convolution gate's block in its array. -/
theorem read_gc (c : Dev nD) (t : Fin cfg0.N) (k : Fin 1024) (j : Fin 1024) (a b : ℕ) (ha : a = t.val * 1024 + k.val) (hb : b = 1024 + j.val) :
    (iblk m c 5 t : Vec Ideal S1024x1024 .bf16) (ix2 k j) = at2 (V m c main_v6 : Vec Ideal S4096x2048 .bf16) a b := by
  have := k.isLt
  have := j.isLt
  have := block_index t
  rw [at2, dif_pos (by omega)]
  blk_ext [iblk, block_index t]

/-- The merged gradient at token `r`, channel `l`. -/
def merged (a : Vec Ideal S4096x1024 .bf16) (b : Vec Ideal S1024x1024 .bf16) (r l : ℕ) : EReal :=
  ∑ k : Fin 1024, at2 a r k.val * at2 b l k.val

/-- The gradient of the attention branch. -/
def to_attn (a : Vec Ideal S4096x1024 .bf16) (b : Vec Ideal S1024x1024 .bf16) (G : Vec Ideal S4096x2048 .bf16) : Vec Ideal S4096x1024 .bf16 := fun i =>
  merged a b (i 0).val (i 1).val * at2 G (i 0).val (i 1).val

/-- The gradient of the convolution branch. -/
def to_conv (a : Vec Ideal S4096x1024 .bf16) (b : Vec Ideal S1024x1024 .bf16) (G : Vec Ideal S4096x2048 .bf16) : Vec Ideal S4096x1024 .bf16 := fun i =>
  merged a b (i 0).val (i 1).val * at2 G (i 0).val (1024 + (i 1).val)

/-- The gradient before the gates' logistic function, one plane per branch. -/
def to_gates (a : Vec Ideal S4096x1024 .bf16) (b : Vec Ideal S1024x1024 .bf16) (u v : Vec Ideal S4096x1024 .bf16) (G : Vec Ideal S4096x2048 .bf16) :
    Vec Ideal S2x4096x1024 .bf16 := fun i =>
  if (i 0).val = 0 then gate_slope (merged a b (i 1).val (i 2).val) (at2 u (i 1).val (i 2).val) (at2 G (i 1).val (i 2).val)
  else gate_slope (merged a b (i 1).val (i 2).val) (at2 v (i 1).val (i 2).val) (at2 G (i 1).val (1024 + (i 2).val))

/-- Gate slopes of equal quantities are equal. -/
theorem gate_congr {d d' v v' g g' : EReal} (hd : d = d') (hv : v = v') (hg : g = g') : gate_slope d v g = gate_slope d' v' g' := by
  rw [hd, hv, hg]

/-- After the run the first result holds the attention branch's gradient. -/
theorem final6 (c : Dev nD) : (dats m 0 c).arrAt 6 cfg0.N
    = to_attn (m ((c : Thread nD τ).loc main_arg0)) (m ((c : Thread nD τ).loc main_arg1)) (V m c main_v6) := by
  refine (dats m 0 c).arrAt_eq_of_covers 6 _ (by decide +kernel) fun t _ y => ?_
  blk_simp
  rw [after0_6, block6]
  generalize hi : ((View.whole main_v7_0).slice (win0_6.rect t)).emb y = i
  have h0 : (i 0).val = t.val * 1024 + (y 0).val := by rw [← hi]; blk_simp [block_index t]
  have h1 : (i 1).val = (y 1).val := by rw [← hi]; blk_simp [block_index t]
  unfold to_attn
  exact congrArg₂ (· * ·) (sum_mul_congr (fun k => read_dx m c t (y 0) k _ _ h0 rfl) fun k => read_w m c t (y 1) k _ _ h1 rfl)
    (read_ga m c t (y 0) (y 1) _ _ h0 h1)

/-- After the run the second result holds the convolution branch's gradient. -/
theorem final7 (c : Dev nD) : (dats m 0 c).arrAt 7 cfg0.N
    = to_conv (m ((c : Thread nD τ).loc main_arg0)) (m ((c : Thread nD τ).loc main_arg1)) (V m c main_v6) := by
  refine (dats m 0 c).arrAt_eq_of_covers 7 _ (by decide +kernel) fun t _ y => ?_
  blk_simp
  rw [after0_7, block7]
  generalize hi : ((View.whole main_v7_1).slice (win0_7.rect t)).emb y = i
  have h0 : (i 0).val = t.val * 1024 + (y 0).val := by rw [← hi]; blk_simp [block_index t]
  have h1 : (i 1).val = (y 1).val := by rw [← hi]; blk_simp [block_index t]
  unfold to_conv
  exact congrArg₂ (· * ·) (sum_mul_congr (fun k => read_dx m c t (y 0) k _ _ h0 rfl) fun k => read_w m c t (y 1) k _ _ h1 rfl)
    (read_gc m c t (y 0) (y 1) _ _ h0 (congrArg (1024 + ·) h1))

/-- After the run the third result holds the gates' gradients. -/
theorem final8 (c : Dev nD) : (dats m 0 c).arrAt 8 cfg0.N
    = to_gates (m ((c : Thread nD τ).loc main_arg0)) (m ((c : Thread nD τ).loc main_arg1)) (m ((c : Thread nD τ).loc main_arg2))
        (m ((c : Thread nD τ).loc main_arg3)) (V m c main_v6) := by
  refine (dats m 0 c).arrAt_eq_of_covers 8 _ (by decide +kernel) fun t _ y => ?_
  blk_simp
  rw [after0_8, block8]
  generalize hi : ((View.whole main_v7_2).slice (win0_8.rect t)).emb y = i
  have hp : (i 0).val = (y 0).val := by rw [← hi]; blk_simp [block_index t]
  have h0 : (i 1).val = t.val * 1024 + (y 1).val := by rw [← hi]; blk_simp [block_index t]
  have h1 : (i 2).val = (y 2).val := by rw [← hi]; blk_simp [block_index t]
  unfold to_gates
  rw [hp]
  exact if_congr Iff.rfl
    (gate_congr (sum_mul_congr (fun k => read_dx m c t (y 1) k _ _ h0 rfl) fun k => read_w m c t (y 2) k _ _ h1 rfl)
      (read_attn m c t (y 1) (y 2) _ _ h0 h1) (read_ga m c t (y 1) (y 2) _ _ h0 h1))
    (gate_congr (sum_mul_congr (fun k => read_dx m c t (y 1) k _ _ h0 rfl) fun k => read_w m c t (y 2) k _ _ h1 rfl)
      (read_conv m c t (y 1) (y 2) _ _ h0 h1) (read_gc m c t (y 1) (y 2) _ _ h0 (congrArg (1024 + ·) h1)))

variable (z0 : Vec Ideal Cert.MergeReferenceIdeal.S4096x1024 .bf16) (z1 : Vec Ideal Cert.MergeReferenceIdeal.S1024x1024 .bf16)
  (z2 z3 : Vec Ideal Cert.MergeReferenceIdeal.S4096x1024 .bf16) (z4 : Vec Ideal Cert.MergeReferenceIdeal.S4096x2048 .f32)

/-- The reference's product with the transposed weight is the merged gradient. -/
theorem reference_merged (r : Fin 4096) (l : Fin 1024) : val_main_v19 (F := Ideal) z0 z1 (ix2 r l) = merged z0 z1 r.val l.val := by
  unfold val_main_v19 val_main_v18 val_main_v16
  pointwise
  exact Finset.sum_congr rfl fun k _ => by rw [eq_at2 z0, eq_at2 z1]

/-- The reference's first result. -/
theorem reference_attn : val_main_v26 (F := Ideal) z0 z1 z4 = to_attn z0 z1 (val_main_v7 (F := Ideal) z4) := by
  have all : ∀ (r : Fin 4096) (l : Fin 1024), val_main_v26 (F := Ideal) z0 z1 z4 (ix2 r l)
      = merged z0 z1 r.val l.val * at2 (val_main_v7 (F := Ideal) z4 : Vec Ideal S4096x2048 .bf16) r.val l.val := by
    intro r l
    rw [← reference_merged]
    unfold val_main_v26 val_main_v22 val_main_v11
    generalize val_main_v7 (F := Ideal) z4 = G
    generalize val_main_v19 (F := Ideal) z0 z1 = d
    pointwise
    rw [mul_comm]
    exact congrArg (_ * ·) (eq_at2 (G : Vec Ideal S4096x2048 .bf16) _ _)
  funext i
  rw [idx2_eta i]
  exact all (i 0) (i 1)

/-- The reference's second result. -/
theorem reference_conv : val_main_v27 (F := Ideal) z0 z1 z4 = to_conv z0 z1 (val_main_v7 (F := Ideal) z4) := by
  have all : ∀ (r : Fin 4096) (l : Fin 1024), val_main_v27 (F := Ideal) z0 z1 z4 (ix2 r l)
      = merged z0 z1 r.val l.val * at2 (val_main_v7 (F := Ideal) z4 : Vec Ideal S4096x2048 .bf16) r.val (1024 + l.val) := by
    intro r l
    rw [← reference_merged]
    unfold val_main_v27 val_main_v20 val_main_v12
    generalize val_main_v7 (F := Ideal) z4 = G
    generalize val_main_v19 (F := Ideal) z0 z1 = d
    pointwise
    rw [mul_comm]
    exact congrArg (_ * ·) (eq_at2 (G : Vec Ideal S4096x2048 .bf16) _ _)
  funext i
  rw [idx2_eta i]
  exact all (i 0) (i 1)

/-- The reference's third result. -/
theorem reference_gates : val_main_v33 (F := Ideal) z0 z1 z2 z3 z4 = to_gates z0 z1 z2 z3 (val_main_v7 (F := Ideal) z4) := by
  have all : ∀ (p : Fin 2) (r : Fin 4096) (l : Fin 1024), val_main_v33 (F := Ideal) z0 z1 z2 z3 z4 (ix3 p r l)
      = to_gates z0 z1 z2 z3 (val_main_v7 (F := Ideal) z4) (ix3 p r l) := by
    intro p r l
    show _ = if p.val = 0
      then gate_slope (merged z0 z1 r.val l.val) (at2 z2 r.val l.val) (at2 (val_main_v7 (F := Ideal) z4 : Vec Ideal S4096x2048 .bf16) r.val l.val)
      else gate_slope (merged z0 z1 r.val l.val) (at2 z3 r.val l.val) (at2 (val_main_v7 (F := Ideal) z4 : Vec Ideal S4096x2048 .bf16) r.val (1024 + l.val))
    rw [← reference_merged]
    unfold val_main_v33 val_main_v32 val_main_v31 val_main_v30 val_main_v29 val_main_v28 val_main_v25 val_main_v24 val_main_v23 val_main_v21 val_main_v10 val_main_v9 val_main_v8 val_main_cst_1 val_main_v1 val_main_v0
    generalize val_main_v7 (F := Ideal) z4 = G
    generalize val_main_v19 (F := Ideal) z0 z1 = d
    pointwise
    have slope : ∀ u v w : EReal, u * v * (w * (1 - w)) = gate_slope u v w := fun u v w => (mul_assoc (u * v) w (1 - w)).symm
    by_cases h : p.val = 0
    · rw [dif_pos (by omega), if_pos h, slope, eq_at2 z2]
      exact congrArg (gate_slope _ _) (eq_at2 (G : Vec Ideal S4096x2048 .bf16) _ _)
    · rw [dif_neg (by omega), if_neg h, slope, eq_at2 z3]
      exact congrArg (gate_slope _ _) (eq_at2 (G : Vec Ideal S4096x2048 .bf16) _ _)
  funext i
  rw [idx3_eta i]
  exact all (i 0) (i 1) (i 2)

/-- From memories agreeing on the arguments, kernel and reference end with equal results over the extended reals. -/
theorem algebraic : Cert.algebraic_MergeKernelIdeal_MergeReferenceIdeal (hMergeKernelIdeal := Cert.MergeKernelIdeal.Gen.facts)
    (hMergeReferenceIdeal := Cert.MergeReferenceIdeal.Gen.facts) := by
  pair_intro
  · run_from Cert.MergeKernelIdeal.Gen.run_main m g
  · run_from Cert.MergeReferenceIdeal.Value.run m' g'
    · rw [Cert.MergeReferenceIdeal.Read.val_main_v26_eq, reference_attn, final6, entry_gates]
    · rw [Cert.MergeReferenceIdeal.Read.val_main_v27_eq, reference_conv, final7, entry_gates]
    · rw [Cert.MergeReferenceIdeal.Read.val_main_v33_eq, reference_gates, final8, entry_gates]
      exact congrArg (fun w => to_gates _ _ _ _ (val_main_v7 (F := Ideal) w)) (hagree c).2.2.2.2

end Cert.MergeKernelIdeal.Proof

end
-- ==== Proof.Forward.Up.lean ====
module

public import proofs.«01_k».proof.Defs
public import proofs.«01_k».proof.Proof.Gen.UpKernelIdeal.Value
public import proofs.«01_k».proof.Proof.Gen.UpReferenceIdeal.Run
public import proofs.«01_k».proof.Proof.Gen.UpReferenceIdeal.Read
public import proofs.«01_k».proof.Proof.Shared.Reading
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! # The hidden activations: the call mlp_up -/

namespace Cert.UpKernelIdeal.Proof

open Cert.UpKernelIdeal Cert.UpKernelIdeal.Gen Cert.Shared Cert.UpReferenceIdeal.Read

variable (m : (ℓ : Loc nD τ sig) → Buf (Elt Ideal) ℓ)

/-- Grid point `t` takes 2048 tokens and one tile of 1024 columns; each tile is one plane of the weight. -/
theorem block_index : ∀ t : Fin cfg0.N, win0_0.index t = ![t.val / 4, 0] ∧ win0_1.index t = ![t.val % 4, 0, 0]
    ∧ win0_2.index t = ![t.val / 4, t.val % 4] ∧ t.val < 8 :=
  (by decide +kernel : ∀ t : Fin grid0.N, _)

/-- The square of the positive part. -/
abbrev squared_relu (s : EReal) : EReal := max s 0 * max s 0

/-- What one grid point computes: the square of the positive part of the product of the two blocks. -/
theorem block2 (x0 : Vec Ideal S2048x1024 .bf16) (x1 : Vec Ideal S1x1024x1024 .bf16) (y : S2048x1024.Idx) :
    out0_2 x0 x1 y = squared_relu (∑ k : Fin 1024, x0 (ix2 (y 0) k) * x1 (ix3 0 k (y 1))) := by
  unfold out0_2
  canon_tiles x h
  case piece0 =>
    open_payloads; pointwise
    obtain rfl : y = x := by rw [idx2_eta x, idx2_eta y, show y 0 = x 0 from Fin.ext h0, show y 1 = x 1 from Fin.ext h1]
    rfl

/-- The first block's elements in the argument. -/
theorem read_x (c : Dev nD) (t : Fin cfg0.N) (k : Fin 2048) (j : Fin 1024) (a b : ℕ) (ha : a = t.val / 4 * 2048 + k.val) (hb : b = j.val) :
    (iblk m c 0 t : Vec Ideal S2048x1024 .bf16) (ix2 k j) = at2 (m ((c : Thread nD τ).loc main_arg0) : Vec Ideal S4096x1024 .bf16) a b := by
  have := k.isLt
  have := j.isLt
  have := block_index t
  rw [at2, dif_pos (by omega)]
  blk_ext [iblk, V, block_index t]

/-- The weight block's elements in the argument. -/
theorem read_w (c : Dev nD) (t : Fin cfg0.N) (k : Fin 1024) (j : Fin 1024) (p a b : ℕ) (hp : p = t.val % 4) (ha : a = k.val)
    (hb : b = 0 * 1024 + j.val) :
    (iblk m c 1 t : Vec Ideal S1x1024x1024 .bf16) (ix3 0 k j) = at3 (m ((c : Thread nD τ).loc main_arg1) : Vec Ideal S4x1024x1024 .bf16) p a b := by
  have := k.isLt
  have := j.isLt
  have := block_index t
  rw [at3, dif_pos (by omega)]
  blk_ext [iblk, V, block_index t]

/-- Token `r`'s product with column `l` of the weight, whose columns are dealt to four planes. -/
def product (a : Vec Ideal S4096x1024 .bf16) (w : Vec Ideal S4x1024x1024 .bf16) (r l : ℕ) : EReal :=
  ∑ k : Fin 1024, at2 a r k.val * at3 w (l / 1024) k.val (l % 1024)

/-- The call's result. -/
def result (a : Vec Ideal S4096x1024 .bf16) (w : Vec Ideal S4x1024x1024 .bf16) : Vec Ideal S4096x4096 .bf16 := fun i =>
  squared_relu (product a w (i 0).val (i 1).val)

/-- After the run the result holds the square of the positive part of the product of the two arguments. -/
theorem final2 (c : Dev nD) : (dats m 0 c).arrAt 2 cfg0.N
    = result (m ((c : Thread nD τ).loc main_arg0)) (m ((c : Thread nD τ).loc main_arg1)) := by
  refine (dats m 0 c).arrAt_eq_of_covers 2 _ (by decide +kernel) fun t _ y => ?_
  blk_simp
  rw [after0_2, block2]
  generalize hi : ((View.whole main_v0).slice (win0_2.rect t)).emb y = i
  have h0 : (i 0).val = t.val / 4 * 2048 + (y 0).val := by rw [← hi]; blk_simp [block_index t]
  have h1 : (i 1).val = t.val % 4 * 1024 + (y 1).val := by rw [← hi]; blk_simp [block_index t]
  unfold result product
  have : (y 1).val < 1024 := (y 1).isLt
  have := block_index t
  exact congrArg squared_relu (sum_mul_congr (fun k => read_x m c t (y 0) k _ _ h0 rfl) fun k => read_w m c t k (y 1) _ _ _ (by omega) rfl (by omega))

variable (z0 : Vec Ideal Cert.UpReferenceIdeal.S4096x1024 .bf16) (z1 : Vec Ideal Cert.UpReferenceIdeal.S4x1024x1024 .bf16)

/-- The reference's weight: the four planes side by side. -/
theorem reference_weight (k : Fin 1024) (l : Fin 4096) : val_main_v8 (F := Ideal) z1 (ix2 k l) = at3 z1 (l.val / 1024) k.val (l.val % 1024) := by
  have := l.isLt
  unfold val_main_v8 val_main_v7 val_main_v6 val_main_v5 val_main_v4 val_main_v3 val_main_v2 val_main_v1 val_main_v0
  pointwise
  by_cases h : l.val < 1024
  · rw [dif_pos h]
    exact eq_at3_of z1 _ _ _ (by show _ = 0; omega) rfl (by show _ = l.val; omega)
  rw [dif_neg h]
  by_cases h : l.val - 1024 < 1024
  · rw [dif_pos h]
    exact eq_at3_of z1 _ _ _ (by show _ = 1; omega) rfl (by show _ = l.val - 1024; omega)
  rw [dif_neg h]
  by_cases h : l.val - 1024 - 1024 < 1024
  · rw [dif_pos h]
    exact eq_at3_of z1 _ _ _ (by show _ = 2; omega) rfl (by show _ = l.val - 1024 - 1024; omega)
  rw [dif_neg h]
  exact eq_at3_of z1 _ _ _ (by show _ = 3; omega) rfl (by show _ = l.val - 1024 - 1024 - 1024; omega)

/-- The reference's product with the whole weight. -/
theorem reference_product (r : Fin 4096) (l : Fin 4096) : val_main_v11 (F := Ideal) z0 z1 (ix2 r l) = product z0 z1 r.val l.val := by
  have w := fun k => reference_weight z1 k l
  unfold val_main_v11 val_main_v10 val_main_v9
  generalize val_main_v8 (F := Ideal) z1 = p at *
  pointwise
  exact sum_mul_congr (fun k => eq_at2 z0 r k) w

/-- The reference's result is the same. -/
theorem reference_eq : val_main_v14 (F := Ideal) z0 z1 = result z0 z1 := by
  have all : ∀ (r : Fin 4096) (l : Fin 4096), val_main_v14 (F := Ideal) z0 z1 (ix2 r l)
      = squared_relu (product z0 z1 r.val l.val) := by
    intro r l
    have d := reference_product z0 z1 r l
    rw [← d]
    unfold val_main_v14 val_main_v13 val_main_v12 val_main_call0_v0 val_main_call0_cst
    generalize val_main_v11 (F := Ideal) z0 z1 = p at *
    pointwise
    all_goals try rfl
  funext i
  rw [idx2_eta i]
  exact all (i 0) (i 1)

/-- From memories agreeing on the arguments, kernel and reference end with equal results over the extended reals. -/
theorem algebraic : Cert.algebraic_UpKernelIdeal_UpReferenceIdeal (hUpKernelIdeal := Cert.UpKernelIdeal.Gen.facts)
    (hUpReferenceIdeal := Cert.UpReferenceIdeal.Gen.facts) := by
  pair_intro
  · run_from Cert.UpKernelIdeal.Gen.run_main m g
  · run_from Cert.UpReferenceIdeal.Value.run m' g'
    rw [Cert.UpReferenceIdeal.Read.val_main_v14_eq, reference_eq, final2]

end Cert.UpKernelIdeal.Proof

end
-- ==== Proof.Forward.Down.lean ====
module

public import proofs.«01_k».proof.Defs
public import proofs.«01_k».proof.Proof.Gen.DownKernelIdeal.Value
public import proofs.«01_k».proof.Proof.Gen.DownReferenceIdeal.Run
public import proofs.«01_k».proof.Proof.Gen.DownReferenceIdeal.Read
public import proofs.«01_k».proof.Proof.Shared.Reading
public import proofs.«01_k».proof.Proof.Norms.Row
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! # The down-projection, the residual and the loss: the call mlp_down -/

namespace Cert.DownKernelIdeal.Proof

open Cert.DownKernelIdeal Cert.DownKernelIdeal.Gen Cert.Shared Cert.Norms Cert.DownReferenceIdeal.Read

variable (m : (ℓ : Loc nD τ sig) → Buf (Elt Ideal) ℓ)

/-- Grid point `t` is the `t`-th 512 tokens; the weight is one block. -/
theorem block_index : ∀ t : Fin cfg0.N, win0_0.index t = ![t.val, 0] ∧ win0_1.index t = ![0, 0]
    ∧ win0_2.index t = ![t.val, 0] ∧ win0_3.index t = ![t.val, 0] ∧ win0_4.index t = ![t.val, 0] ∧ win0_5.index t = ![t.val, 0] ∧ t.val < 8 :=
  (by decide +kernel : ∀ t : Fin grid0.N, _)

variable (x0 : Vec Ideal S512x4096 .bf16) (x1 : Vec Ideal S4096x1024 .bf16) (x2 x3 : Vec Ideal S512x1024 .f32)

/-- One grid point's error: the residual plus the product, less the target. -/
abbrev gap (r : Fin 512) (l : Fin 1024) : EReal := x2 (ix2 r l) + (∑ k : Fin 4096, x0 (ix2 r k) * x1 (ix2 k l)) - x3 (ix2 r l)

/-- The payload of the errors, element by element. -/
theorem gap_eq (r : Fin 512) (l : Fin 1024) : k0_pay1 (F := Ideal) x0 x1 x2 x3 (ix2 r l) = gap x0 x1 x2 x3 r l := by
  pointwise [k0_pay1]

/-- One over the width. -/
abbrev inv_width : EReal := Ideal.ofBits FTy.f32 0x3A800000#32

/-- The payload of the first result, element by element: the error over the width. -/
theorem slope_eq (r : Fin 512) (l : Fin 1024) : k0_pay2 (F := Ideal) x0 x1 x2 x3 (ix2 r l) = gap x0 x1 x2 x3 r l * inv_width := by
  have d := gap_eq x0 x1 x2 x3
  unfold k0_pay2
  generalize k0_pay1 (F := Ideal) x0 x1 x2 x3 = p at *
  pointwise
  simp only [d]

/-- One grid point's first result. -/
theorem block4 (y : S512x1024.Idx) : out0_4 x0 x1 x2 x3 y = gap x0 x1 x2 x3 (y 0) (y 1) * inv_width := by
  unfold out0_4
  frame_out
  exact (congrArg _ (idx2_eta y)).trans (slope_eq x0 x1 x2 x3 (y 0) (y 1))

/-- One grid point's squared error at row `8 a + s`, column `128 c + l`. -/
abbrev gap_square (a : Fin 64) (s : Fin 8) (c : Fin 8) (l : Fin 128) : EReal :=
  gap x0 x1 x2 x3 ⟨a.val * 8 + s.val, by have := a.isLt; have := s.isLt; omega⟩ ⟨c.val * 128 + l.val, by have := c.isLt; have := l.isLt; omega⟩
    * gap x0 x1 x2 x3 ⟨a.val * 8 + s.val, by have := a.isLt; have := s.isLt; omega⟩ ⟨c.val * 128 + l.val, by have := c.isLt; have := l.isLt; omega⟩

/-- One grid point's second result: the squared errors added over the groups of eight rows and the groups of 128 columns. -/
theorem block5 (y : S8x128.Idx) : out0_5 x0 x1 x2 x3 y = ∑ a : Fin 64, ∑ c : Fin 8, gap_square x0 x1 x2 x3 a (y 0) c (y 1) := by
  have d := gap_eq x0 x1 x2 x3
  unfold out0_5
  frame_out
  show k0_pay3 (F := Ideal) x0 x1 x2 x3 y = _
  simp only [Fin.sum_univ_eight]
  rw [idx2_eta y]
  unfold k0_pay3 gap_square
  simp only [← d]
  generalize k0_pay1 (F := Ideal) x0 x1 x2 x3 = p at *
  pointwise

/-- The first block's elements in the argument. -/
theorem read_x (c : Dev nD) (t : Fin cfg0.N) (k : Fin 512) (j : Fin 4096) (a b : ℕ) (ha : a = t.val * 512 + k.val) (hb : b = j.val) :
    (iblk m c 0 t : Vec Ideal S512x4096 .bf16) (ix2 k j) = at2 (m ((c : Thread nD τ).loc main_arg0) : Vec Ideal S4096x4096 .bf16) a b := by
  have := k.isLt
  have := j.isLt
  have := block_index t
  rw [at2, dif_pos (by omega)]
  blk_ext [iblk, V, block_index t]

/-- The weight block's elements in the argument. -/
theorem read_w (c : Dev nD) (t : Fin cfg0.N) (k : Fin 4096) (j : Fin 1024) (a b : ℕ) (ha : a = k.val) (hb : b = j.val) :
    (iblk m c 1 t : Vec Ideal S4096x1024 .bf16) (ix2 k j) = at2 (m ((c : Thread nD τ).loc main_arg1) : Vec Ideal S4096x1024 .bf16) a b := by
  have := k.isLt
  have := j.isLt
  have := block_index t
  rw [at2, dif_pos (by omega)]
  blk_ext [iblk, V, block_index t]

/-- The residual's elements in the argument. -/
theorem read_res (c : Dev nD) (t : Fin cfg0.N) (k : Fin 512) (j : Fin 1024) (a b : ℕ) (ha : a = t.val * 512 + k.val) (hb : b = j.val) :
    (iblk m c 2 t : Vec Ideal S512x1024 .f32) (ix2 k j) = at2 (m ((c : Thread nD τ).loc main_arg2) : Vec Ideal S4096x1024 .f32) a b := by
  have := k.isLt
  have := j.isLt
  have := block_index t
  rw [at2, dif_pos (by omega)]
  blk_ext [iblk, V, block_index t]

/-- The target's elements in the argument. -/
theorem read_target (c : Dev nD) (t : Fin cfg0.N) (k : Fin 512) (j : Fin 1024) (a b : ℕ) (ha : a = t.val * 512 + k.val) (hb : b = j.val) :
    (iblk m c 3 t : Vec Ideal S512x1024 .f32) (ix2 k j) = at2 (m ((c : Thread nD τ).loc main_arg3) : Vec Ideal S4096x1024 .f32) a b := by
  have := k.isLt
  have := j.isLt
  have := block_index t
  rw [at2, dif_pos (by omega)]
  blk_ext [iblk, V, block_index t]

/-- The error of token `r`, channel `l`: the residual plus the product, less the target. -/
def error (a : Vec Ideal S4096x4096 .bf16) (w : Vec Ideal S4096x1024 .bf16) (x z : Vec Ideal S4096x1024 .f32) (r l : ℕ) : EReal :=
  at2 x r l + (∑ k : Fin 4096, at2 a r k.val * at2 w k.val l) - at2 z r l

/-- The loss's slope: the error over the width. -/
def slope (a : Vec Ideal S4096x4096 .bf16) (w : Vec Ideal S4096x1024 .bf16) (x z : Vec Ideal S4096x1024 .f32) : Vec Ideal S4096x1024 .bf16 := fun i =>
  error a w x z (i 0).val (i 1).val * inv_width

/-- The loss's parts: the squared errors of every 512 tokens, added over the groups of eight tokens and of 128 channels. -/
def parts (a : Vec Ideal S4096x4096 .bf16) (w : Vec Ideal S4096x1024 .bf16) (x z : Vec Ideal S4096x1024 .f32) : Vec Ideal S64x128 .f32 := fun i =>
  ∑ g : Fin 64, ∑ c : Fin 8,
    error a w x z ((i 0).val / 8 * 512 + g.val * 8 + (i 0).val % 8) (c.val * 128 + (i 1).val)
      * error a w x z ((i 0).val / 8 * 512 + g.val * 8 + (i 0).val % 8) (c.val * 128 + (i 1).val)

/-- A grid point's errors are the array's. -/
theorem gap_error (c : Dev nD) (t : Fin cfg0.N) (r : Fin 512) (l : Fin 1024) (a b : ℕ) (ha : a = t.val * 512 + r.val) (hb : b = l.val) :
    gap (iblk m c 0 t) (iblk m c 1 t) (iblk m c 2 t) (iblk m c 3 t) r l
      = error (m ((c : Thread nD τ).loc main_arg0)) (m ((c : Thread nD τ).loc main_arg1)) (m ((c : Thread nD τ).loc main_arg2))
          (m ((c : Thread nD τ).loc main_arg3)) a b := by
  unfold error
  exact congrArg₂ (· - ·) (congrArg₂ (· + ·) (read_res m c t r l _ _ ha hb)
    (sum_mul_congr (fun k => read_x m c t r k _ _ ha rfl) fun k => read_w m c t k l _ _ rfl hb)) (read_target m c t r l _ _ ha hb)

/-- After the run the first result holds the loss's slope. -/
theorem final4 (c : Dev nD) : (dats m 0 c).arrAt 4 cfg0.N
    = slope (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4, block4]
  generalize hi : ((View.whole main_v0_0).slice (win0_4.rect t)).emb y = i
  have h0 : (i 0).val = t.val * 512 + (y 0).val := by rw [← hi]; blk_simp [block_index t]
  have h1 : (i 1).val = (y 1).val := by rw [← hi]; blk_simp [block_index t]
  unfold slope
  exact congrArg (· * inv_width) (gap_error m c t (y 0) (y 1) _ _ h0 h1)

/-- After the run the second result holds the loss's parts. -/
theorem final5 (c : Dev nD) : (dats m 0 c).arrAt 5 cfg0.N
    = parts (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5, block5]
  generalize hi : ((View.whole main_v0_1).slice (win0_5.rect t)).emb y = i
  have h0 : (i 0).val = t.val * 8 + (y 0).val := by rw [← hi]; blk_simp [block_index t]
  have h1 : (i 1).val = (y 1).val := by rw [← hi]; blk_simp [block_index t]
  unfold parts
  have : (y 0).val < 8 := (y 0).isLt
  have e : ∀ (g : Fin 64) (q : Fin 8), _ = _ := fun g q => gap_error m c t ⟨g.val * 8 + (y 0).val, by have := g.isLt; omega⟩ ⟨q.val * 128 + (y 1).val, by have := q.isLt; have : (y 1).val < 128 := (y 1).isLt; omega⟩
    ((i 0).val / 8 * 512 + g.val * 8 + (i 0).val % 8) (q.val * 128 + (i 1).val) (by show _ = t.val * 512 + (g.val * 8 + (y 0).val); omega) (by show _ = q.val * 128 + (y 1).val; omega)
  have sums : ∑ g : Fin 64, ∑ q : Fin 8, gap_square (iblk m c 0 t) (iblk m c 1 t) (iblk m c 2 t) (iblk m c 3 t) g (y 0) q (y 1) = _ :=
    Finset.sum_congr rfl fun g _ => Finset.sum_congr rfl fun q _ => congrArg₂ (· * ·) (e g q) (e g q)
  exact sums

variable (z0 : Vec Ideal Cert.DownReferenceIdeal.S4096x4096 .bf16) (z1 : Vec Ideal Cert.DownReferenceIdeal.S4096x1024 .bf16)
  (z2 z3 : Vec Ideal Cert.DownReferenceIdeal.S4096x1024 .f32)

/-- The reference's error. -/
theorem reference_error (r : Fin 4096) (l : Fin 1024) : val_main_v4 (F := Ideal) z0 z1 z2 z3 (ix2 r l) = error z0 z1 z2 z3 r.val l.val := by
  unfold val_main_v4 val_main_v3 val_main_v2 val_main_v1 val_main_v0
  pointwise
  exact congrArg₂ (· - ·) (congrArg₂ (· + ·) (eq_at2 z2 r l) (sum_mul_congr (fun k => eq_at2 z0 r k) fun k => eq_at2 z1 k l)) (eq_at2 z3 r l)

/-- A half over the width times two times a number is the number over the width. -/
theorem slope_const (e : EReal) : Ideal.div (Ideal.ofBits FTy.f32 0x3F000000#32) width * (Ideal.ofBits FTy.f32 0x40000000#32 * e) = e * inv_width := by
  have half : Ideal.ofBits FTy.f32 0x3F000000#32 = ((1 / 2 : ℝ) : EReal) := by
    simp [Ideal.ofBits, Ideal.ieee]
    rw [← EReal.coe_mul]
    norm_num
  have two : Ideal.ofBits FTy.f32 0x40000000#32 = ((2 : ℝ) : EReal) := by
    simp [Ideal.ofBits, Ideal.ieee]
    rw [← EReal.coe_mul]
    norm_num
  have inv : inv_width = ((1024⁻¹ : ℝ) : EReal) := by
    unfold inv_width
    simp [Ideal.ofBits, Ideal.ieee]
    rw [← EReal.coe_mul]
    norm_num
  rw [half, two, inv, div_width, ← mul_assoc, ← EReal.coe_mul, ← EReal.coe_mul, mul_comm e]
  norm_num

/-- The reference's first result is the loss's slope. -/
theorem reference_slope : val_main_v25 (F := Ideal) z0 z1 z2 z3 = slope z0 z1 z2 z3 := by
  have all : ∀ (r : Fin 4096) (l : Fin 1024), val_main_v25 (F := Ideal) z0 z1 z2 z3 (ix2 r l)
      = error z0 z1 z2 z3 r.val l.val * inv_width := by
    intro r l
    have d := reference_error z0 z1 z2 z3
    unfold val_main_v25 val_main_v18 val_main_v17 val_main_v16 val_main_v15 val_main_v14 val_main_v13 val_main_v7 val_main_v6 val_main_cst val_main_cst_4 val_main_cst_5 val_main_cst_6
    generalize val_main_v4 (F := Ideal) z0 z1 z2 z3 = p at *
    pointwise
    simp only [d]
    exact slope_const _
  funext i
  rw [idx2_eta i]
  exact all (i 0) (i 1)

/-- The reference's second result is the loss's parts. -/
theorem reference_parts : val_main_v24 (F := Ideal) z0 z1 z2 z3 = parts z0 z1 z2 z3 := by
  have all : ∀ (r : Fin 64) (l : Fin 128), val_main_v24 (F := Ideal) z0 z1 z2 z3 (ix2 r l) = parts z0 z1 z2 z3 (ix2 r l) := by
    intro r l
    have d := reference_error z0 z1 z2 z3
    have d' : ∀ (r : Fin 4096) (l : Fin 1024), val_main_v19 (F := Ideal) z0 z1 z2 z3 (ix2 r l) = error z0 z1 z2 z3 r.val l.val := d
    unfold val_main_v24 val_main_v23 val_main_v22 val_main_v21 val_main_v20 val_main_cst_7 val_main_cst_8 parts
    generalize val_main_v19 (F := Ideal) z0 z1 z2 z3 = p at *
    pointwise
    simp only [d']
  funext i
  rw [idx2_eta i]
  exact all (i 0) (i 1)

/-- The reference's run ends with the two results and keeps its arguments. -/
theorem reference_run (m' : (ℓ : Loc Cert.DownReferenceIdeal.nD Cert.DownReferenceIdeal.τ Cert.DownReferenceIdeal.sig) → Buf (Elt Ideal) ℓ) (ρ : Dev Cert.DownReferenceIdeal.nD → PrngReg) :
    θ_run Cert.DownReferenceIdeal.defs (onTc (τ := Cert.DownReferenceIdeal.τ) (Cert.DownReferenceIdeal.main (F := Ideal))) ⟨m', fun _ => 0, ρ⟩
      fun r => ∀ c : Dev Cert.DownReferenceIdeal.nD,
        r.2.mem (c.tc.loc Cert.DownReferenceIdeal.main_v25) = slope (m' (c.tc.loc Cert.DownReferenceIdeal.main_arg0)) (m' (c.tc.loc Cert.DownReferenceIdeal.main_arg1)) (m' (c.tc.loc Cert.DownReferenceIdeal.main_arg2)) (m' (c.tc.loc Cert.DownReferenceIdeal.main_arg3))
        ∧ r.2.mem (c.tc.loc Cert.DownReferenceIdeal.main_v24) = parts (m' (c.tc.loc Cert.DownReferenceIdeal.main_arg0)) (m' (c.tc.loc Cert.DownReferenceIdeal.main_arg1)) (m' (c.tc.loc Cert.DownReferenceIdeal.main_arg2)) (m' (c.tc.loc Cert.DownReferenceIdeal.main_arg3))
        ∧ r.2.mem (c.tc.loc Cert.DownReferenceIdeal.main_arg0) = m' (c.tc.loc Cert.DownReferenceIdeal.main_arg0)
        ∧ r.2.mem (c.tc.loc Cert.DownReferenceIdeal.main_arg1) = m' (c.tc.loc Cert.DownReferenceIdeal.main_arg1)
        ∧ r.2.mem (c.tc.loc Cert.DownReferenceIdeal.main_arg2) = m' (c.tc.loc Cert.DownReferenceIdeal.main_arg2)
        ∧ r.2.mem (c.tc.loc Cert.DownReferenceIdeal.main_arg3) = m' (c.tc.loc Cert.DownReferenceIdeal.main_arg3) :=
  (θ_run _ _ _).mono (fun r h c => ⟨(h c).1.trans ((val_main_v25_eq _ _ _ _).trans (reference_slope _ _ _ _)), (h c).2.1.trans ((val_main_v24_eq _ _ _ _).trans (reference_parts _ _ _ _)), (h c).2.2⟩) (Cert.DownReferenceIdeal.Value.run m' ρ)

/-- From memories agreeing on the arguments, kernel and reference end with equal results over the extended reals. -/
theorem algebraic : Cert.algebraic_DownKernelIdeal_DownReferenceIdeal (hDownKernelIdeal := Cert.DownKernelIdeal.Gen.facts)
    (hDownReferenceIdeal := Cert.DownReferenceIdeal.Gen.facts) := by
  pair_intro
  · run_from Cert.DownKernelIdeal.Gen.run_main m g
  · run_from reference_run m' g'
    · rw [final4]
    · rw [final5]

end Cert.DownKernelIdeal.Proof

end
-- ==== Proof.Forward.ConvIn.lean ====
module

public import proofs.«01_k».proof.Defs
public import proofs.«01_k».proof.Proof.Gen.ConvInKernelIdeal.Value
public import proofs.«01_k».proof.Proof.Gen.ConvInReferenceIdeal.Run
public import proofs.«01_k».proof.Proof.Gen.ConvInReferenceIdeal.Read
public import proofs.«01_k».proof.Proof.Shared.Reading
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! # The convolution branch's projections: the call proj_conv -/

namespace Cert.ConvInKernelIdeal.Proof

open Cert.ConvInKernelIdeal Cert.ConvInKernelIdeal.Gen Cert.Shared Cert.ConvInReferenceIdeal.Read

variable (m : (ℓ : Loc nD τ sig) → Buf (Elt Ideal) ℓ)

/-- Grid point `t` takes 2048 tokens and one tile of 1536 columns; the tiles are the last two planes of the weight. -/
theorem block_index : ∀ t : Fin cfg0.N, win0_0.index t = ![t.val / 2, 0] ∧ win0_1.index t = ![t.val % 2 + 2, 0, 0]
    ∧ win0_2.index t = ![t.val / 2, t.val % 2] ∧ t.val < 4 :=
  (by decide +kernel : ∀ t : Fin grid0.N, _)

/-- What one grid point computes: the product of the two blocks. -/
theorem block2 (x0 : Vec Ideal S2048x1024 .bf16) (x1 : Vec Ideal S1x1024x1536 .bf16) (y : S2048x1536.Idx) :
    out0_2 x0 x1 y = ∑ k : Fin 1024, x0 (ix2 (y 0) k) * x1 (ix3 0 k (y 1)) := by
  unfold out0_2
  canon_tiles x h
  case piece0 =>
    open_payloads; pointwise
    obtain rfl : y = x := by rw [idx2_eta x, idx2_eta y, show y 0 = x 0 from Fin.ext h0, show y 1 = x 1 from Fin.ext h1]
    rfl

/-- The first block's elements in the argument. -/
theorem read_x (c : Dev nD) (t : Fin cfg0.N) (k : Fin 2048) (j : Fin 1024) (a b : ℕ) (ha : a = t.val / 2 * 2048 + k.val) (hb : b = j.val) :
    (iblk m c 0 t : Vec Ideal S2048x1024 .bf16) (ix2 k j) = at2 (m ((c : Thread nD τ).loc main_arg0) : Vec Ideal S4096x1024 .bf16) a b := by
  have := k.isLt
  have := j.isLt
  have := block_index t
  rw [at2, dif_pos (by omega)]
  blk_ext [iblk, V, block_index t]

/-- The weight block's elements in the argument. -/
theorem read_w (c : Dev nD) (t : Fin cfg0.N) (k : Fin 1024) (j : Fin 1536) (p a b : ℕ) (hp : p = t.val % 2 + 2) (ha : a = k.val)
    (hb : b = 0 * 1536 + j.val) :
    (iblk m c 1 t : Vec Ideal S1x1024x1536 .bf16) (ix3 0 k j) = at3 (m ((c : Thread nD τ).loc main_arg1) : Vec Ideal S4x1024x1536 .bf16) p a b := by
  have := k.isLt
  have := j.isLt
  have := block_index t
  rw [at3, dif_pos (by omega)]
  blk_ext [iblk, V, block_index t]

/-- Token `r`'s product with column `l` of the weight, whose columns are dealt to four planes. -/
def product (a : Vec Ideal S4096x1024 .bf16) (w : Vec Ideal S4x1024x1536 .bf16) (r l : ℕ) : EReal :=
  ∑ k : Fin 1024, at2 a r k.val * at3 w (l / 1536) k.val (l % 1536)

/-- The call's result. -/
def result (a : Vec Ideal S4096x1024 .bf16) (w : Vec Ideal S4x1024x1536 .bf16) : Vec Ideal S4096x3072 .bf16 := fun i =>
  product a w (i 0).val (3072 + (i 1).val)

/-- After the run the result holds the product of the two arguments. -/
theorem final2 (c : Dev nD) : (dats m 0 c).arrAt 2 cfg0.N
    = result (m ((c : Thread nD τ).loc main_arg0)) (m ((c : Thread nD τ).loc main_arg1)) := by
  refine (dats m 0 c).arrAt_eq_of_covers 2 _ (by decide +kernel) fun t _ y => ?_
  blk_simp
  rw [after0_2, block2]
  generalize hi : ((View.whole main_v0).slice (win0_2.rect t)).emb y = i
  have h0 : (i 0).val = t.val / 2 * 2048 + (y 0).val := by rw [← hi]; blk_simp [block_index t]
  have h1 : (i 1).val = t.val % 2 * 1536 + (y 1).val := by rw [← hi]; blk_simp [block_index t]
  unfold result product
  have : (y 1).val < 1536 := (y 1).isLt
  have := block_index t
  exact sum_mul_congr (fun k => read_x m c t (y 0) k _ _ h0 rfl) fun k => read_w m c t k (y 1) _ _ _ (by omega) rfl (by omega)

variable (z0 : Vec Ideal Cert.ConvInReferenceIdeal.S4096x1024 .bf16) (z1 : Vec Ideal Cert.ConvInReferenceIdeal.S4x1024x1536 .bf16)

/-- The reference's weight: the four planes side by side. -/
theorem reference_weight (k : Fin 1024) (l : Fin 6144) : val_main_v8 (F := Ideal) z1 (ix2 k l) = at3 z1 (l.val / 1536) k.val (l.val % 1536) := by
  have := l.isLt
  unfold val_main_v8 val_main_v7 val_main_v6 val_main_v5 val_main_v4 val_main_v3 val_main_v2 val_main_v1 val_main_v0
  pointwise
  by_cases h : l.val < 1536
  · rw [dif_pos h]
    exact eq_at3_of z1 _ _ _ (by show _ = 0; omega) rfl (by show _ = l.val; omega)
  rw [dif_neg h]
  by_cases h : l.val - 1536 < 1536
  · rw [dif_pos h]
    exact eq_at3_of z1 _ _ _ (by show _ = 1; omega) rfl (by show _ = l.val - 1536; omega)
  rw [dif_neg h]
  by_cases h : l.val - 1536 - 1536 < 1536
  · rw [dif_pos h]
    exact eq_at3_of z1 _ _ _ (by show _ = 2; omega) rfl (by show _ = l.val - 1536 - 1536; omega)
  rw [dif_neg h]
  exact eq_at3_of z1 _ _ _ (by show _ = 3; omega) rfl (by show _ = l.val - 1536 - 1536 - 1536; omega)

/-- The reference's product with the whole weight. -/
theorem reference_product (r : Fin 4096) (l : Fin 6144) : val_main_v11 (F := Ideal) z0 z1 (ix2 r l) = product z0 z1 r.val l.val := by
  have w := fun k => reference_weight z1 k l
  unfold val_main_v11 val_main_v10 val_main_v9
  generalize val_main_v8 (F := Ideal) z1 = p at *
  pointwise
  exact sum_mul_congr (fun k => eq_at2 z0 r k) w

/-- The reference's result is the same. -/
theorem reference_eq : val_main_v13 (F := Ideal) z0 z1 = result z0 z1 := by
  have all : ∀ (r : Fin 4096) (l : Fin 3072), val_main_v13 (F := Ideal) z0 z1 (ix2 r l)
      = product z0 z1 r.val (3072 + l.val) := by
    intro r l
    have d := reference_product z0 z1 r ⟨3072 + l.val, by have := l.isLt; omega⟩
    rw [← d]
    unfold val_main_v13 val_main_v12
    generalize val_main_v11 (F := Ideal) z0 z1 = p at *
    pointwise
    all_goals try rfl
  funext i
  rw [idx2_eta i]
  exact all (i 0) (i 1)

/-- From memories agreeing on the arguments, kernel and reference end with equal results over the extended reals. -/
theorem algebraic : Cert.algebraic_ConvInKernelIdeal_ConvInReferenceIdeal (hConvInKernelIdeal := Cert.ConvInKernelIdeal.Gen.facts)
    (hConvInReferenceIdeal := Cert.ConvInReferenceIdeal.Gen.facts) := by
  pair_intro
  · run_from Cert.ConvInKernelIdeal.Gen.run_main m g
  · run_from Cert.ConvInReferenceIdeal.Value.run m' g'
    rw [Cert.ConvInReferenceIdeal.Read.val_main_v13_eq, reference_eq, final2]

end Cert.ConvInKernelIdeal.Proof

end
-- ==== Proof.Forward.VProj.lean ====
module

public import proofs.«01_k».proof.Defs
public import proofs.«01_k».proof.Proof.Gen.VProjKernelIdeal.Value
public import proofs.«01_k».proof.Proof.Gen.VProjReferenceIdeal.Run
public import proofs.«01_k».proof.Proof.Gen.VProjReferenceIdeal.Read
public import proofs.«01_k».proof.Proof.Shared.Reading
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! # The projection to the attention's values: the call proj_v -/

namespace Cert.VProjKernelIdeal.Proof

open Cert.VProjKernelIdeal Cert.VProjKernelIdeal.Gen Cert.Shared Cert.VProjReferenceIdeal.Read

variable (m : (ℓ : Loc nD τ sig) → Buf (Elt Ideal) ℓ)

/-- Grid point `t` takes 2048 tokens and one tile of 512 columns; the tiles are the last third of the second plane of the weight and the first of the third. -/
theorem block_index : ∀ t : Fin cfg0.N, win0_0.index t = ![t.val / 2, 0] ∧ win0_1.index t = ![(t.val % 2 + 4) / 3, 0, ((t.val % 2 + 4) % 3)]
    ∧ win0_2.index t = ![t.val / 2, t.val % 2] ∧ t.val < 4 :=
  (by decide +kernel : ∀ t : Fin grid0.N, _)

/-- What one grid point computes: the product of the two blocks. -/
theorem block2 (x0 : Vec Ideal S2048x1024 .bf16) (x1 : Vec Ideal S1x1024x512 .bf16) (y : S2048x512.Idx) :
    out0_2 x0 x1 y = ∑ k : Fin 1024, x0 (ix2 (y 0) k) * x1 (ix3 0 k (y 1)) := by
  unfold out0_2
  canon_tiles x h
  case piece0 =>
    open_payloads; pointwise
    obtain rfl : y = x := by rw [idx2_eta x, idx2_eta y, show y 0 = x 0 from Fin.ext h0, show y 1 = x 1 from Fin.ext h1]
    rfl

/-- The first block's elements in the argument. -/
theorem read_x (c : Dev nD) (t : Fin cfg0.N) (k : Fin 2048) (j : Fin 1024) (a b : ℕ) (ha : a = t.val / 2 * 2048 + k.val) (hb : b = j.val) :
    (iblk m c 0 t : Vec Ideal S2048x1024 .bf16) (ix2 k j) = at2 (m ((c : Thread nD τ).loc main_arg0) : Vec Ideal S4096x1024 .bf16) a b := by
  have := k.isLt
  have := j.isLt
  have := block_index t
  rw [at2, dif_pos (by omega)]
  blk_ext [iblk, V, block_index t]

/-- The weight block's elements in the argument. -/
theorem read_w (c : Dev nD) (t : Fin cfg0.N) (k : Fin 1024) (j : Fin 512) (p a b : ℕ) (hp : p = (t.val % 2 + 4) / 3) (ha : a = k.val)
    (hb : b = ((t.val % 2 + 4) % 3) * 512 + j.val) :
    (iblk m c 1 t : Vec Ideal S1x1024x512 .bf16) (ix3 0 k j) = at3 (m ((c : Thread nD τ).loc main_arg1) : Vec Ideal S4x1024x1536 .bf16) p a b := by
  have := k.isLt
  have := j.isLt
  have := block_index t
  rw [at3, dif_pos (by omega)]
  blk_ext [iblk, V, block_index t]

/-- Token `r`'s product with column `l` of the weight, whose columns are dealt to four planes. -/
def product (a : Vec Ideal S4096x1024 .bf16) (w : Vec Ideal S4x1024x1536 .bf16) (r l : ℕ) : EReal :=
  ∑ k : Fin 1024, at2 a r k.val * at3 w (l / 1536) k.val (l % 1536)

/-- The call's result. -/
def result (a : Vec Ideal S4096x1024 .bf16) (w : Vec Ideal S4x1024x1536 .bf16) : Vec Ideal S4096x1024 .bf16 := fun i =>
  product a w (i 0).val (2048 + (i 1).val)

/-- After the run the result holds the product of the two arguments. -/
theorem final2 (c : Dev nD) : (dats m 0 c).arrAt 2 cfg0.N
    = result (m ((c : Thread nD τ).loc main_arg0)) (m ((c : Thread nD τ).loc main_arg1)) := by
  refine (dats m 0 c).arrAt_eq_of_covers 2 _ (by decide +kernel) fun t _ y => ?_
  blk_simp
  rw [after0_2, block2]
  generalize hi : ((View.whole main_v0).slice (win0_2.rect t)).emb y = i
  have h0 : (i 0).val = t.val / 2 * 2048 + (y 0).val := by rw [← hi]; blk_simp [block_index t]
  have h1 : (i 1).val = t.val % 2 * 512 + (y 1).val := by rw [← hi]; blk_simp [block_index t]
  unfold result product
  have : (y 1).val < 512 := (y 1).isLt
  have := block_index t
  exact sum_mul_congr (fun k => read_x m c t (y 0) k _ _ h0 rfl) fun k => read_w m c t k (y 1) _ _ _ (by omega) rfl (by omega)

variable (z0 : Vec Ideal Cert.VProjReferenceIdeal.S4096x1024 .bf16) (z1 : Vec Ideal Cert.VProjReferenceIdeal.S4x1024x1536 .bf16)

/-- The reference's weight: the four planes side by side. -/
theorem reference_weight (k : Fin 1024) (l : Fin 6144) : val_main_v8 (F := Ideal) z1 (ix2 k l) = at3 z1 (l.val / 1536) k.val (l.val % 1536) := by
  have := l.isLt
  unfold val_main_v8 val_main_v7 val_main_v6 val_main_v5 val_main_v4 val_main_v3 val_main_v2 val_main_v1 val_main_v0
  pointwise
  by_cases h : l.val < 1536
  · rw [dif_pos h]
    exact eq_at3_of z1 _ _ _ (by show _ = 0; omega) rfl (by show _ = l.val; omega)
  rw [dif_neg h]
  by_cases h : l.val - 1536 < 1536
  · rw [dif_pos h]
    exact eq_at3_of z1 _ _ _ (by show _ = 1; omega) rfl (by show _ = l.val - 1536; omega)
  rw [dif_neg h]
  by_cases h : l.val - 1536 - 1536 < 1536
  · rw [dif_pos h]
    exact eq_at3_of z1 _ _ _ (by show _ = 2; omega) rfl (by show _ = l.val - 1536 - 1536; omega)
  rw [dif_neg h]
  exact eq_at3_of z1 _ _ _ (by show _ = 3; omega) rfl (by show _ = l.val - 1536 - 1536 - 1536; omega)

/-- The reference's product with the whole weight. -/
theorem reference_product (r : Fin 4096) (l : Fin 6144) : val_main_v11 (F := Ideal) z0 z1 (ix2 r l) = product z0 z1 r.val l.val := by
  have w := fun k => reference_weight z1 k l
  unfold val_main_v11 val_main_v10 val_main_v9
  generalize val_main_v8 (F := Ideal) z1 = p at *
  pointwise
  exact sum_mul_congr (fun k => eq_at2 z0 r k) w

/-- The reference's result is the same. -/
theorem reference_eq : val_main_v13 (F := Ideal) z0 z1 = result z0 z1 := by
  have all : ∀ (r : Fin 4096) (l : Fin 1024), val_main_v13 (F := Ideal) z0 z1 (ix2 r l)
      = product z0 z1 r.val (2048 + l.val) := by
    intro r l
    have d := reference_product z0 z1 r ⟨2048 + l.val, by have := l.isLt; omega⟩
    rw [← d]
    unfold val_main_v13 val_main_v12
    generalize val_main_v11 (F := Ideal) z0 z1 = p at *
    pointwise
    all_goals try rfl
  funext i
  rw [idx2_eta i]
  exact all (i 0) (i 1)

/-- From memories agreeing on the arguments, kernel and reference end with equal results over the extended reals. -/
theorem algebraic : Cert.algebraic_VProjKernelIdeal_VProjReferenceIdeal (hVProjKernelIdeal := Cert.VProjKernelIdeal.Gen.facts)
    (hVProjReferenceIdeal := Cert.VProjReferenceIdeal.Gen.facts) := by
  pair_intro
  · run_from Cert.VProjKernelIdeal.Gen.run_main m g
  · run_from Cert.VProjReferenceIdeal.Value.run m' g'
    rw [Cert.VProjReferenceIdeal.Read.val_main_v13_eq, reference_eq, final2]

end Cert.VProjKernelIdeal.Proof

end
-- ==== Proof.Forward.Gates.lean ====
module

public import proofs.«01_k».proof.Defs
public import proofs.«01_k».proof.Proof.Gen.GatesKernelIdeal.Value
public import proofs.«01_k».proof.Proof.Gen.GatesReferenceIdeal.Run
public import proofs.«01_k».proof.Proof.Gen.GatesReferenceIdeal.Read
public import proofs.«01_k».proof.Proof.Shared.Reading
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! # The gates of the two branches: the call gates -/

namespace Cert.GatesKernelIdeal.Proof

open Cert.GatesKernelIdeal Cert.GatesKernelIdeal.Gen Cert.Shared Cert.GatesReferenceIdeal.Read

variable (m : (ℓ : Loc nD τ sig) → Buf (Elt Ideal) ℓ)

/-- Grid point `t` takes 2048 tokens and one tile of 512 columns; each tile is one plane of the weight. -/
theorem block_index : ∀ t : Fin cfg0.N, win0_0.index t = ![t.val / 4, 0] ∧ win0_1.index t = ![t.val % 4, 0, 0] ∧ win0_2.index t = ![0, t.val % 4]
    ∧ win0_3.index t = ![t.val / 4, t.val % 4] ∧ t.val < 8 :=
  (by decide +kernel : ∀ t : Fin grid0.N, _)

/-- The bias as the launch finds it is the argument. -/
theorem entry_bias (c : Dev nD) (l : Fin 2048) : (V m c main_v0 : Vec Ideal S1x2048 .f32) (ix2 0 l)
    = (m ((c : Thread nD τ).loc main_arg2) : Vec Ideal S2048 .f32) (ix1 l) := by
  entry_read
  pointwise

/-- The logistic function. -/
abbrev gate (s : EReal) : EReal := Ideal.div 1 (1 + Ideal.exp (-s))

/-- What one grid point computes: the logistic function of the product of the two blocks plus the bias. -/
theorem block3 (x0 : Vec Ideal S2048x1024 .bf16) (x1 : Vec Ideal S1x1024x512 .bf16) (x2 : Vec Ideal S1x512 .f32) (y : S2048x512.Idx) :
    out0_3 x0 x1 x2 y = gate ((∑ k : Fin 1024, x0 (ix2 (y 0) k) * x1 (ix3 0 k (y 1))) + x2 (ix2 0 (y 1))) := by
  unfold out0_3
  canon_tiles x h
  case piece0 =>
    open_payloads; pointwise
    obtain rfl : y = x := by rw [idx2_eta x, idx2_eta y, show y 0 = x 0 from Fin.ext h0, show y 1 = x 1 from Fin.ext h1]
    rfl

/-- The first block's elements in the argument. -/
theorem read_x (c : Dev nD) (t : Fin cfg0.N) (k : Fin 2048) (j : Fin 1024) (a b : ℕ) (ha : a = t.val / 4 * 2048 + k.val) (hb : b = j.val) :
    (iblk m c 0 t : Vec Ideal S2048x1024 .bf16) (ix2 k j) = at2 (m ((c : Thread nD τ).loc main_arg0) : Vec Ideal S4096x1024 .bf16) a b := by
  have := k.isLt
  have := j.isLt
  have := block_index t
  rw [at2, dif_pos (by omega)]
  blk_ext [iblk, V, block_index t]

/-- The weight block's elements in the argument. -/
theorem read_w (c : Dev nD) (t : Fin cfg0.N) (k : Fin 1024) (j : Fin 512) (p a b : ℕ) (hp : p = t.val % 4) (ha : a = k.val)
    (hb : b = 0 * 512 + j.val) :
    (iblk m c 1 t : Vec Ideal S1x1024x512 .bf16) (ix3 0 k j) = at3 (m ((c : Thread nD τ).loc main_arg1) : Vec Ideal S4x1024x512 .bf16) p a b := by
  have := k.isLt
  have := j.isLt
  have := block_index t
  rw [at3, dif_pos (by omega)]
  blk_ext [iblk, V, block_index t]

/-- The bias block's elements in the argument. -/
theorem read_b (c : Dev nD) (t : Fin cfg0.N) (j : Fin 512) (l : Fin 2048) (hl : l.val = t.val % 4 * 512 + j.val) :
    (iblk m c 2 t : Vec Ideal S1x512 .f32) (ix2 0 j) = (m ((c : Thread nD τ).loc main_arg2) : Vec Ideal S2048 .f32) (ix1 l) := by
  have := j.isLt
  have := block_index t
  refine Eq.trans ?_ (entry_bias m c l)
  blk_ext [iblk, block_index t]

/-- Token `r`'s product with column `l` of the weight, whose columns are dealt to four planes. -/
def product (a : Vec Ideal S4096x1024 .bf16) (w : Vec Ideal S4x1024x512 .bf16) (r l : ℕ) : EReal :=
  ∑ k : Fin 1024, at2 a r k.val * at3 w (l / 512) k.val (l % 512)

/-- The call's result. -/
def result (a : Vec Ideal S4096x1024 .bf16) (w : Vec Ideal S4x1024x512 .bf16) (b : Vec Ideal S2048 .f32) : Vec Ideal S4096x2048 .bf16 := fun i =>
  gate (product a w (i 0).val (i 1).val + b (ix1 (i 1)))

/-- After the run the result holds the logistic function of the product of the two arguments plus the bias. -/
theorem final3 (c : Dev nD) : (dats m 0 c).arrAt 3 cfg0.N
    = result (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, block3]
  generalize hi : ((View.whole main_v1).slice (win0_3.rect t)).emb y = i
  have h0 : (i 0).val = t.val / 4 * 2048 + (y 0).val := by rw [← hi]; blk_simp [block_index t]
  have h1 : (i 1).val = t.val % 4 * 512 + (y 1).val := by rw [← hi]; blk_simp [block_index t]
  unfold result product
  have : (y 1).val < 512 := (y 1).isLt
  have := block_index t
  exact congrArg gate (congrArg₂ (· + ·) (sum_mul_congr (fun k => read_x m c t (y 0) k _ _ h0 rfl) fun k => read_w m c t k (y 1) _ _ _ (by omega) rfl (by omega))
    (read_b m c t (y 1) (i 1) h1))

variable (z0 : Vec Ideal Cert.GatesReferenceIdeal.S4096x1024 .bf16) (z1 : Vec Ideal Cert.GatesReferenceIdeal.S4x1024x512 .bf16) (z2 : Vec Ideal Cert.GatesReferenceIdeal.S2048 .f32)

/-- The reference's weight: the four planes side by side. -/
theorem reference_weight (k : Fin 1024) (l : Fin 2048) : val_main_v8 (F := Ideal) z1 (ix2 k l) = at3 z1 (l.val / 512) k.val (l.val % 512) := by
  have := l.isLt
  unfold val_main_v8 val_main_v7 val_main_v6 val_main_v5 val_main_v4 val_main_v3 val_main_v2 val_main_v1 val_main_v0
  pointwise
  by_cases h : l.val < 512
  · rw [dif_pos h]
    exact eq_at3_of z1 _ _ _ (by show _ = 0; omega) rfl (by show _ = l.val; omega)
  rw [dif_neg h]
  by_cases h : l.val - 512 < 512
  · rw [dif_pos h]
    exact eq_at3_of z1 _ _ _ (by show _ = 1; omega) rfl (by show _ = l.val - 512; omega)
  rw [dif_neg h]
  by_cases h : l.val - 512 - 512 < 512
  · rw [dif_pos h]
    exact eq_at3_of z1 _ _ _ (by show _ = 2; omega) rfl (by show _ = l.val - 512 - 512; omega)
  rw [dif_neg h]
  exact eq_at3_of z1 _ _ _ (by show _ = 3; omega) rfl (by show _ = l.val - 512 - 512 - 512; omega)

/-- The reference's product with the whole weight. -/
theorem reference_product (r : Fin 4096) (l : Fin 2048) : val_main_v11 (F := Ideal) z0 z1 (ix2 r l) = product z0 z1 r.val l.val := by
  have w := fun k => reference_weight z1 k l
  unfold val_main_v11 val_main_v10 val_main_v9
  generalize val_main_v8 (F := Ideal) z1 = p at *
  pointwise
  exact sum_mul_congr (fun k => eq_at2 z0 r k) w

/-- The reference's result is the same. -/
theorem reference_eq : val_main_v21 (F := Ideal) z0 z1 z2 = result z0 z1 z2 := by
  have all : ∀ (r : Fin 4096) (l : Fin 2048), val_main_v21 (F := Ideal) z0 z1 z2 (ix2 r l)
      = gate (product z0 z1 r.val l.val + z2 (ix1 l)) := by
    intro r l
    have d := reference_product z0 z1 r l
    rw [← d]
    unfold val_main_v21 val_main_v20 val_main_v19 val_main_v18 val_main_v17 val_main_v16 val_main_v15 val_main_v14 val_main_v13 val_main_v12 val_main_cst val_main_cst_0
    generalize val_main_v11 (F := Ideal) z0 z1 = p at *
    pointwise
    all_goals try rfl
  funext i
  rw [idx2_eta i]
  exact all (i 0) (i 1)

/-- The reference's run ends with the gates in its result and keeps its arguments. -/
theorem reference_run (m' : (ℓ : Loc Cert.GatesReferenceIdeal.nD Cert.GatesReferenceIdeal.τ Cert.GatesReferenceIdeal.sig) → Buf (Elt Ideal) ℓ) (ρ : Dev Cert.GatesReferenceIdeal.nD → PrngReg) :
    θ_run Cert.GatesReferenceIdeal.defs (onTc (τ := Cert.GatesReferenceIdeal.τ) (Cert.GatesReferenceIdeal.main (F := Ideal))) ⟨m', fun _ => 0, ρ⟩
      fun r => ∀ c : Dev Cert.GatesReferenceIdeal.nD,
        r.2.mem (c.tc.loc Cert.GatesReferenceIdeal.main_v21) = result (m' (c.tc.loc Cert.GatesReferenceIdeal.main_arg0)) (m' (c.tc.loc Cert.GatesReferenceIdeal.main_arg1)) (m' (c.tc.loc Cert.GatesReferenceIdeal.main_arg2))
        ∧ r.2.mem (c.tc.loc Cert.GatesReferenceIdeal.main_arg0) = m' (c.tc.loc Cert.GatesReferenceIdeal.main_arg0)
        ∧ r.2.mem (c.tc.loc Cert.GatesReferenceIdeal.main_arg1) = m' (c.tc.loc Cert.GatesReferenceIdeal.main_arg1)
        ∧ r.2.mem (c.tc.loc Cert.GatesReferenceIdeal.main_arg2) = m' (c.tc.loc Cert.GatesReferenceIdeal.main_arg2) :=
  (θ_run _ _ _).mono (fun r h c => ⟨(h c).1.trans ((val_main_v21_eq _ _ _).trans (reference_eq _ _ _)), (h c).2⟩) (Cert.GatesReferenceIdeal.Value.run m' ρ)

/-- From memories agreeing on the arguments, kernel and reference end with equal results over the extended reals. -/
theorem algebraic : Cert.algebraic_GatesKernelIdeal_GatesReferenceIdeal (hGatesKernelIdeal := Cert.GatesKernelIdeal.Gen.facts)
    (hGatesReferenceIdeal := Cert.GatesReferenceIdeal.Gen.facts) := by
  pair_intro
  · run_from Cert.GatesKernelIdeal.Gen.run_main m g
  · run_from reference_run m' g'
    rw [final3]

end Cert.GatesKernelIdeal.Proof

end
-- ==== Proof.Forward.Mixed.lean ====
module

public import proofs.«01_k».proof.Defs
public import proofs.«01_k».proof.Proof.Gen.MixedKernelIdeal.Value
public import proofs.«01_k».proof.Proof.Gen.MixedReferenceIdeal.Run
public import proofs.«01_k».proof.Proof.Gen.MixedReferenceIdeal.Read
public import proofs.«01_k».proof.Proof.Shared.Reading
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! # The attention branch's projection: the call attn_proj -/

namespace Cert.MixedKernelIdeal.Proof

open Cert.MixedKernelIdeal Cert.MixedKernelIdeal.Gen Cert.Shared Cert.MixedReferenceIdeal.Read

variable (m : (ℓ : Loc nD τ sig) → Buf (Elt Ideal) ℓ)

/-- Grid point `t` reads the `t`-th 1024 tokens and the whole weight, and writes the same tokens. -/
theorem block_index : ∀ t : Fin cfg0.N, win0_0.index t = ![t.val, 0] ∧ win0_1.index t = ![0, 0]
    ∧ win0_2.index t = ![t.val, 0] ∧ t.val < 4 :=
  (by decide +kernel : ∀ t : Fin grid0.N, _)

/-- What one grid point computes: the product of its two blocks. -/
theorem block2 (x0 x1 : Vec Ideal S1024x1024 .bf16) (y : S1024x1024.Idx) : out0_2 x0 x1 y
    = ∑ k : Fin 1024, x0 (ix2 (y 0) k) * x1 (ix2 k (y 1)) := by
  unfold out0_2
  canon_tiles x h
  case piece0 =>
    open_payloads; pointwise
    obtain rfl : y = x := by rw [idx2_eta x, idx2_eta y, show y 0 = x 0 from Fin.ext h0, show y 1 = x 1 from Fin.ext h1]
    rfl

/-- The first block's elements in the argument. -/
theorem read_x (c : Dev nD) (t : Fin cfg0.N) (k : Fin 1024) (j : Fin 1024) (a b : ℕ) (ha : a = t.val * 1024 + k.val) (hb : b = j.val) :
    (iblk m c 0 t : Vec Ideal S1024x1024 .bf16) (ix2 k j) = at2 (m ((c : Thread nD τ).loc main_arg0) : Vec Ideal S4096x1024 .bf16) a b := by
  have := k.isLt
  have := j.isLt
  have := block_index t
  rw [at2, dif_pos (by omega)]
  blk_ext [iblk, V, block_index t]

/-- The weight block's elements in the argument. -/
theorem read_w (c : Dev nD) (t : Fin cfg0.N) (k : Fin 1024) (j : Fin 1024) (a b : ℕ) (ha : a = k.val) (hb : b = j.val) :
    (iblk m c 1 t : Vec Ideal S1024x1024 .bf16) (ix2 k j) = at2 (m ((c : Thread nD τ).loc main_arg1) : Vec Ideal S1024x1024 .bf16) a b := by
  have := k.isLt
  have := j.isLt
  have := block_index t
  rw [at2, dif_pos (by omega)]
  blk_ext [iblk, V, block_index t]

/-- Token `r`'s product with column `l` of the weight. -/
def product (a : Vec Ideal S4096x1024 .bf16) (w : Vec Ideal S1024x1024 .bf16) (r l : ℕ) : EReal :=
  ∑ k : Fin 1024, at2 a r k.val * at2 w k.val l

/-- The call's result. -/
def result (a : Vec Ideal S4096x1024 .bf16) (w : Vec Ideal S1024x1024 .bf16) : Vec Ideal S4096x1024 .bf16 := fun i =>
  product a w (i 0).val (i 1).val

/-- After the run the result holds the product of the arguments. -/
theorem final2 (c : Dev nD) : (dats m 0 c).arrAt 2 cfg0.N
    = result (m ((c : Thread nD τ).loc main_arg0)) (m ((c : Thread nD τ).loc main_arg1)) := by
  refine (dats m 0 c).arrAt_eq_of_covers 2 _ (by decide +kernel) fun t _ y => ?_
  blk_simp
  rw [after0_2, block2]
  generalize hi : ((View.whole main_v0).slice (win0_2.rect t)).emb y = i
  have h0 : (i 0).val = t.val * 1024 + (y 0).val := by rw [← hi]; blk_simp [block_index t]
  have h1 : (i 1).val = (y 1).val := by rw [← hi]; blk_simp [block_index t]
  unfold result product
  exact sum_mul_congr (fun k => read_x m c t (y 0) k _ _ h0 rfl) fun k => read_w m c t k (y 1) _ _ rfl h1

variable (z0 : Vec Ideal Cert.MixedReferenceIdeal.S4096x1024 .bf16) (z1 : Vec Ideal Cert.MixedReferenceIdeal.S1024x1024 .bf16)

/-- The reference's product. -/
theorem reference_product (r : Fin 4096) (l : Fin 1024) : val_main_v2 (F := Ideal) z0 z1 (ix2 r l) = product z0 z1 r.val l.val := by
  unfold val_main_v2 val_main_v1 val_main_v0
  pointwise
  exact sum_mul_congr (fun k => eq_at2 z0 r k) fun k => eq_at2 z1 k l

/-- The reference's result is the same product. -/
theorem reference_eq : val_main_v3 (F := Ideal) z0 z1 = result z0 z1 := by
  have all : ∀ (r : Fin 4096) (l : Fin 1024), val_main_v3 (F := Ideal) z0 z1 (ix2 r l)
      = product z0 z1 r.val l.val := by
    intro r l
    have d := reference_product z0 z1 r l
    rw [← d]
    unfold val_main_v3
    generalize val_main_v2 (F := Ideal) z0 z1 = p at *
    pointwise
    try rfl
  funext i
  rw [idx2_eta i]
  exact all (i 0) (i 1)

/-- From memories agreeing on the arguments, kernel and reference end with equal results over the extended reals. -/
theorem algebraic : Cert.algebraic_MixedKernelIdeal_MixedReferenceIdeal (hMixedKernelIdeal := Cert.MixedKernelIdeal.Gen.facts)
    (hMixedReferenceIdeal := Cert.MixedReferenceIdeal.Gen.facts) := by
  pair_intro
  · run_from Cert.MixedKernelIdeal.Gen.run_main m g
  · run_from Cert.MixedReferenceIdeal.Value.run m' g'
    rw [Cert.MixedReferenceIdeal.Read.val_main_v3_eq, reference_eq, final2]

end Cert.MixedKernelIdeal.Proof

end
-- ==== Proof.Forward.Merged.lean ====
module

public import proofs.«01_k».proof.Defs
public import proofs.«01_k».proof.Proof.Gen.MergedKernelIdeal.Value
public import proofs.«01_k».proof.Proof.Gen.MergedReferenceIdeal.Run
public import proofs.«01_k».proof.Proof.Gen.MergedReferenceIdeal.Read
public import proofs.«01_k».proof.Proof.Shared.Reading
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! # The convolution branch's projection and the gated merge: the call conv_proj -/

namespace Cert.MergedKernelIdeal.Proof

open Cert.MergedKernelIdeal Cert.MergedKernelIdeal.Gen Cert.Shared Cert.MergedReferenceIdeal.Read

variable (m : (ℓ : Loc nD τ sig) → Buf (Elt Ideal) ℓ)

/-- Grid point `t` is the `t`-th 1024 tokens; the gates of the two branches are the two halves of one array. -/
theorem block_index : ∀ t : Fin cfg0.N, win0_0.index t = ![t.val, 0] ∧ win0_1.index t = ![0, 0]
    ∧ win0_2.index t = ![t.val, 0] ∧ win0_3.index t = ![t.val, 0] ∧ win0_4.index t = ![t.val, 1] ∧ win0_5.index t = ![t.val, 0]
    ∧ win0_6.index t = ![t.val, 0] ∧ t.val < 4 :=
  (by decide +kernel : ∀ t : Fin grid0.N, _)

/-- One grid point's first result: the product of its first two blocks. -/
theorem block5 (x0 x1 x2 x3 x4 : Vec Ideal S1024x1024 .bf16) (y : S1024x1024.Idx) : out0_5 x0 x1 x2 x3 x4 y
    = (∑ k : Fin 1024, x0 (ix2 (y 0) k) * x1 (ix2 k (y 1))) := by
  unfold out0_5
  canon_tiles x h
  case piece0 =>
    open_payloads; pointwise
    obtain rfl : y = x := by rw [idx2_eta x, idx2_eta y, show y 0 = x 0 from Fin.ext h0, show y 1 = x 1 from Fin.ext h1]
    rfl

/-- One grid point's second result: the two branches, each times its gate. -/
theorem block6 (x0 x1 x2 x3 x4 : Vec Ideal S1024x1024 .bf16) (y : S1024x1024.Idx) : out0_6 x0 x1 x2 x3 x4 y
    = x3 (ix2 (y 0) (y 1)) * x2 (ix2 (y 0) (y 1)) + x4 (ix2 (y 0) (y 1)) * (∑ k : Fin 1024, x0 (ix2 (y 0) k) * x1 (ix2 k (y 1))) := by
  unfold out0_6
  canon_tiles x h
  case piece0 =>
    open_payloads; pointwise
    obtain rfl : y = x := by rw [idx2_eta x, idx2_eta y, show y 0 = x 0 from Fin.ext h0, show y 1 = x 1 from Fin.ext h1]
    rfl

/-- The first block's elements in the argument. -/
theorem read_x (c : Dev nD) (t : Fin cfg0.N) (k : Fin 1024) (j : Fin 1024) (a b : ℕ) (ha : a = t.val * 1024 + k.val) (hb : b = j.val) :
    (iblk m c 0 t : Vec Ideal S1024x1024 .bf16) (ix2 k j) = at2 (m ((c : Thread nD τ).loc main_arg0) : Vec Ideal S4096x1024 .bf16) a b := by
  have := k.isLt
  have := j.isLt
  have := block_index t
  rw [at2, dif_pos (by omega)]
  blk_ext [iblk, V, block_index t]

/-- The weight block's elements in the argument. -/
theorem read_w (c : Dev nD) (t : Fin cfg0.N) (k : Fin 1024) (j : Fin 1024) (a b : ℕ) (ha : a = k.val) (hb : b = j.val) :
    (iblk m c 1 t : Vec Ideal S1024x1024 .bf16) (ix2 k j) = at2 (m ((c : Thread nD τ).loc main_arg1) : Vec Ideal S1024x1024 .bf16) a b := by
  have := k.isLt
  have := j.isLt
  have := block_index t
  rw [at2, dif_pos (by omega)]
  blk_ext [iblk, V, block_index t]

/-- The attention branch's elements in the argument. -/
theorem read_attn (c : Dev nD) (t : Fin cfg0.N) (k : Fin 1024) (j : Fin 1024) (a b : ℕ) (ha : a = t.val * 1024 + k.val) (hb : b = j.val) :
    (iblk m c 2 t : Vec Ideal S1024x1024 .bf16) (ix2 k j) = at2 (m ((c : Thread nD τ).loc main_arg2) : Vec Ideal S4096x1024 .bf16) a b := by
  have := k.isLt
  have := j.isLt
  have := block_index t
  rw [at2, dif_pos (by omega)]
  blk_ext [iblk, V, block_index t]

/-- The attention gate's elements in the argument. -/
theorem read_ga (c : Dev nD) (t : Fin cfg0.N) (k : Fin 1024) (j : Fin 1024) (a b : ℕ) (ha : a = t.val * 1024 + k.val) (hb : b = j.val) :
    (iblk m c 3 t : Vec Ideal S1024x1024 .bf16) (ix2 k j) = at2 (m ((c : Thread nD τ).loc main_arg3) : Vec Ideal S4096x2048 .bf16) a b := by
  have := k.isLt
  have := j.isLt
  have := block_index t
  rw [at2, dif_pos (by omega)]
  blk_ext [iblk, V, block_index t]

/-- The convolution gate's elements in the argument. -/
theorem read_gc (c : Dev nD) (t : Fin cfg0.N) (k : Fin 1024) (j : Fin 1024) (a b : ℕ) (ha : a = t.val * 1024 + k.val) (hb : b = 1024 + j.val) :
    (iblk m c 4 t : Vec Ideal S1024x1024 .bf16) (ix2 k j) = at2 (m ((c : Thread nD τ).loc main_arg3) : Vec Ideal S4096x2048 .bf16) a b := by
  have := k.isLt
  have := j.isLt
  have := block_index t
  rw [at2, dif_pos (by omega)]
  blk_ext [iblk, V, block_index t]

/-- Token `r`'s product with column `l` of the weight. -/
def product (a : Vec Ideal S4096x1024 .bf16) (w : Vec Ideal S1024x1024 .bf16) (r l : ℕ) : EReal :=
  ∑ k : Fin 1024, at2 a r k.val * at2 w k.val l

/-- The convolution branch. -/
def branch (a : Vec Ideal S4096x1024 .bf16) (w : Vec Ideal S1024x1024 .bf16) : Vec Ideal S4096x1024 .bf16 := fun i =>
  product a w (i 0).val (i 1).val

/-- The two branches, each times its gate. -/
def merge (a : Vec Ideal S4096x1024 .bf16) (w : Vec Ideal S1024x1024 .bf16) (u : Vec Ideal S4096x1024 .bf16) (G : Vec Ideal S4096x2048 .bf16) :
    Vec Ideal S4096x1024 .bf16 := fun i =>
  at2 G (i 0).val (i 1).val * at2 u (i 0).val (i 1).val + at2 G (i 0).val (1024 + (i 1).val) * product a w (i 0).val (i 1).val

/-- After the run the first result holds the convolution branch. -/
theorem final5 (c : Dev nD) : (dats m 0 c).arrAt 5 cfg0.N
    = branch (m ((c : Thread nD τ).loc main_arg0)) (m ((c : Thread nD τ).loc main_arg1)) := by
  refine (dats m 0 c).arrAt_eq_of_covers 5 _ (by decide +kernel) fun t _ y => ?_
  blk_simp
  rw [after0_5, block5]
  generalize hi : ((View.whole main_v0_0).slice (win0_5.rect t)).emb y = i
  have h0 : (i 0).val = t.val * 1024 + (y 0).val := by rw [← hi]; blk_simp [block_index t]
  have h1 : (i 1).val = (y 1).val := by rw [← hi]; blk_simp [block_index t]
  unfold branch product
  exact sum_mul_congr (fun k => read_x m c t (y 0) k _ _ h0 rfl) fun k => read_w m c t k (y 1) _ _ rfl h1

/-- After the run the second result holds the gated sum. -/
theorem final6 (c : Dev nD) : (dats m 0 c).arrAt 6 cfg0.N
    = merge (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6, block6]
  generalize hi : ((View.whole main_v0_1).slice (win0_6.rect t)).emb y = i
  have h0 : (i 0).val = t.val * 1024 + (y 0).val := by rw [← hi]; blk_simp [block_index t]
  have h1 : (i 1).val = (y 1).val := by rw [← hi]; blk_simp [block_index t]
  unfold merge product
  exact congrArg₂ (· + ·) (congrArg₂ (· * ·) (read_ga m c t (y 0) (y 1) _ _ h0 h1) (read_attn m c t (y 0) (y 1) _ _ h0 h1))
    (congrArg₂ (· * ·) (read_gc m c t (y 0) (y 1) _ _ h0 (congrArg (1024 + ·) h1))
      (sum_mul_congr (fun k => read_x m c t (y 0) k _ _ h0 rfl) fun k => read_w m c t k (y 1) _ _ rfl h1))

variable (z0 : Vec Ideal Cert.MergedReferenceIdeal.S4096x1024 .bf16) (z1 : Vec Ideal Cert.MergedReferenceIdeal.S1024x1024 .bf16)
  (z2 : Vec Ideal Cert.MergedReferenceIdeal.S4096x1024 .bf16) (z3 : Vec Ideal Cert.MergedReferenceIdeal.S4096x2048 .bf16)

/-- The reference's product. -/
theorem reference_product (r : Fin 4096) (l : Fin 1024) : val_main_v2 (F := Ideal) z0 z1 (ix2 r l) = product z0 z1 r.val l.val := by
  unfold val_main_v2 val_main_v1 val_main_v0
  pointwise
  exact sum_mul_congr (fun k => eq_at2 z0 r k) fun k => eq_at2 z1 k l

/-- The reference's first result is the convolution branch. -/
theorem reference_branch : val_main_v10 (F := Ideal) z0 z1 = branch z0 z1 := by
  have all : ∀ (r : Fin 4096) (l : Fin 1024), val_main_v10 (F := Ideal) z0 z1 (ix2 r l)
      = product z0 z1 r.val l.val := by
    intro r l
    have d := reference_product z0 z1 r l
    rw [← d]
    unfold val_main_v10
    generalize val_main_v2 (F := Ideal) z0 z1 = p at *
    pointwise
    try rfl
  funext i
  rw [idx2_eta i]
  exact all (i 0) (i 1)

/-- The reference's second result is the gated sum. -/
theorem reference_merge : val_main_v11 (F := Ideal) z0 z1 z2 z3 = merge z0 z1 z2 z3 := by
  have all : ∀ (r : Fin 4096) (l : Fin 1024), val_main_v11 (F := Ideal) z0 z1 z2 z3 (ix2 r l)
      = at2 z3 r.val l.val * at2 z2 r.val l.val + at2 z3 r.val (1024 + l.val) * product z0 z1 r.val l.val := by
    intro r l
    have d := reference_product z0 z1 r l
    rw [← d]
    unfold val_main_v11 val_main_v9 val_main_v8 val_main_v7 val_main_v6 val_main_v5 val_main_v4 val_main_v3
    generalize val_main_v2 (F := Ideal) z0 z1 = p at *
    pointwise
    exact congrArg₂ (· + ·) (congrArg₂ (· * ·) (eq_at2 (z3 : Vec Ideal S4096x2048 .bf16) _ _) (eq_at2 z2 r l))
      (congrArg (· * _) (eq_at2 (z3 : Vec Ideal S4096x2048 .bf16) _ _))
  funext i
  rw [idx2_eta i]
  exact all (i 0) (i 1)

/-- From memories agreeing on the arguments, kernel and reference end with equal results over the extended reals. -/
theorem algebraic : Cert.algebraic_MergedKernelIdeal_MergedReferenceIdeal (hMergedKernelIdeal := Cert.MergedKernelIdeal.Gen.facts)
    (hMergedReferenceIdeal := Cert.MergedReferenceIdeal.Gen.facts) := by
  pair_intro
  · run_from Cert.MergedKernelIdeal.Gen.run_main m g
  · run_from Cert.MergedReferenceIdeal.Value.run m' g'
    · rw [Cert.MergedReferenceIdeal.Read.val_main_v10_eq, reference_branch, final5]
    · rw [Cert.MergedReferenceIdeal.Read.val_main_v11_eq, reference_merge, final6]

end Cert.MergedKernelIdeal.Proof

end
-- ==== Proof.Forward.Residual.lean ====
module

public import proofs.«01_k».proof.Defs
public import proofs.«01_k».proof.Proof.Gen.ResidualKernelIdeal.Value
public import proofs.«01_k».proof.Proof.Gen.ResidualReferenceIdeal.Run
public import proofs.«01_k».proof.Proof.Gen.ResidualReferenceIdeal.Read
public import proofs.«01_k».proof.Proof.Shared.Reading
public import proofs.«01_k».proof.Proof.Norms.Row
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! # The output projection, the residual and the second norm: the call out_proj -/

namespace Cert.ResidualKernelIdeal.Proof

open Cert.ResidualKernelIdeal Cert.ResidualKernelIdeal.Gen Cert.Shared Cert.Norms Cert.ResidualReferenceIdeal.Read

variable (m : (ℓ : Loc nD τ sig) → Buf (Elt Ideal) ℓ)

/-- Grid point `t` is the `t`-th 1024 tokens; the weight and the norm's scale are one block each. -/
theorem block_index : ∀ t : Fin cfg0.N, win0_0.index t = ![t.val, 0] ∧ win0_1.index t = ![0, 0]
    ∧ win0_2.index t = ![t.val, 0] ∧ win0_3.index t = ![0, 0] ∧ win0_4.index t = ![t.val, 0] ∧ win0_5.index t = ![t.val, 0] ∧ t.val < 4 :=
  (by decide +kernel : ∀ t : Fin grid0.N, _)

/-- The norm's scale as the launch finds it is the argument. -/
theorem entry_scale (c : Dev nD) (l : Fin 1024) : (V m c main_v0 : Vec Ideal S1x1024 .f32) (ix2 0 l)
    = (m ((c : Thread nD τ).loc main_arg3) : Vec Ideal S1024 .f32) (ix1 l) := by
  entry_read
  pointwise

variable (x0 x1 : Vec Ideal S1024x1024 .bf16) (x2 : Vec Ideal S1024x1024 .f32) (x3 : Vec Ideal S1x1024 .f32)

/-- One grid point's sum of the residual and the product. -/
abbrev tile (r l : Fin 1024) : EReal := x2 (ix2 r l) + ∑ k : Fin 1024, x0 (ix2 r k) * x1 (ix2 k l)

/-- One grid point's first result: the residual plus the product. -/
theorem block4 (y : S1024x1024.Idx) : out0_4 x0 x1 x2 x3 y
    = tile x0 x1 x2 (y 0) (y 1) := by
  unfold out0_4
  canon_tiles x h
  case piece0 =>
    open_payloads; pointwise
    obtain rfl : y = x := by rw [idx2_eta x, idx2_eta y, show y 0 = x 0 from Fin.ext h0, show y 1 = x 1 from Fin.ext h1]
    exact congrArg (x2 · + _) (idx2_eta y)

/-- The payload of the first result, element by element. -/
theorem tile_eq (r l : Fin 1024) : k0_pay1 (F := Ideal) x0 x1 x2 (ix2 r l) = tile x0 x1 x2 r l := by
  pointwise [k0_pay1]

/-- The payload of the second result, element by element: the first result's rows, normalised and scaled. -/
theorem normed_eq (r l : Fin 1024) : k0_pay2 (F := Ideal) x0 x1 x2 x3 (ix2 r l)
    = tile x0 x1 x2 r l * inv_rms (fun k => tile x0 x1 x2 r k) * x3 (ix2 0 l) := by
  have d := tile_eq x0 x1 x2
  unfold k0_pay2
  generalize k0_pay1 (F := Ideal) x0 x1 x2 = p at *
  pointwise
  simp only [d]
  rfl

/-- One grid point's second result. -/
theorem block5 (y : S1024x1024.Idx) : out0_5 x0 x1 x2 x3 y
    = tile x0 x1 x2 (y 0) (y 1) * inv_rms (fun k => tile x0 x1 x2 (y 0) k) * x3 (ix2 0 (y 1)) := by
  unfold out0_5
  frame_out
  exact (congrArg _ (idx2_eta y)).trans (normed_eq x0 x1 x2 x3 (y 0) (y 1))

/-- The first block's elements in the argument. -/
theorem read_x (c : Dev nD) (t : Fin cfg0.N) (k : Fin 1024) (j : Fin 1024) (a b : ℕ) (ha : a = t.val * 1024 + k.val) (hb : b = j.val) :
    (iblk m c 0 t : Vec Ideal S1024x1024 .bf16) (ix2 k j) = at2 (m ((c : Thread nD τ).loc main_arg0) : Vec Ideal S4096x1024 .bf16) a b := by
  have := k.isLt
  have := j.isLt
  have := block_index t
  rw [at2, dif_pos (by omega)]
  blk_ext [iblk, V, block_index t]

/-- The weight block's elements in the argument. -/
theorem read_w (c : Dev nD) (t : Fin cfg0.N) (k : Fin 1024) (j : Fin 1024) (a b : ℕ) (ha : a = k.val) (hb : b = j.val) :
    (iblk m c 1 t : Vec Ideal S1024x1024 .bf16) (ix2 k j) = at2 (m ((c : Thread nD τ).loc main_arg1) : Vec Ideal S1024x1024 .bf16) a b := by
  have := k.isLt
  have := j.isLt
  have := block_index t
  rw [at2, dif_pos (by omega)]
  blk_ext [iblk, V, block_index t]

/-- The residual's elements in the argument. -/
theorem read_res (c : Dev nD) (t : Fin cfg0.N) (k : Fin 1024) (j : Fin 1024) (a b : ℕ) (ha : a = t.val * 1024 + k.val) (hb : b = j.val) :
    (iblk m c 2 t : Vec Ideal S1024x1024 .f32) (ix2 k j) = at2 (m ((c : Thread nD τ).loc main_arg2) : Vec Ideal S4096x1024 .f32) a b := by
  have := k.isLt
  have := j.isLt
  have := block_index t
  rw [at2, dif_pos (by omega)]
  blk_ext [iblk, V, block_index t]

/-- The scale's elements in the argument. -/
theorem read_scale (c : Dev nD) (t : Fin cfg0.N) (l : Fin 1024) :
    (iblk m c 3 t : Vec Ideal S1x1024 .f32) (ix2 0 l) = (m ((c : Thread nD τ).loc main_arg3) : Vec Ideal S1024 .f32) (ix1 l) := by
  have := block_index t
  refine Eq.trans ?_ (entry_scale m c l)
  blk_ext [iblk, block_index t]

/-- The residual stream after the block: token `r`, channel `l`. -/
def stream (a : Vec Ideal S4096x1024 .bf16) (w : Vec Ideal S1024x1024 .bf16) (x : Vec Ideal S4096x1024 .f32) (r l : ℕ) : EReal :=
  at2 x r l + ∑ k : Fin 1024, at2 a r k.val * at2 w k.val l

/-- The first result. -/
def sum (a : Vec Ideal S4096x1024 .bf16) (w : Vec Ideal S1024x1024 .bf16) (x : Vec Ideal S4096x1024 .f32) : Vec Ideal S4096x1024 .f32 := fun i =>
  stream a w x (i 0).val (i 1).val

/-- The second result: every token's row, normalised and scaled. -/
def normed (a : Vec Ideal S4096x1024 .bf16) (w : Vec Ideal S1024x1024 .bf16) (x : Vec Ideal S4096x1024 .f32) (g : Vec Ideal S1024 .f32) :
    Vec Ideal S4096x1024 .bf16 := fun i =>
  stream a w x (i 0).val (i 1).val * inv_rms (fun k => stream a w x (i 0).val k.val) * g (ix1 (i 1))

/-- A grid point's sums are the stream's. -/
theorem tile_stream (c : Dev nD) (t : Fin cfg0.N) (r l : Fin 1024) (a b : ℕ) (ha : a = t.val * 1024 + r.val) (hb : b = l.val) :
    tile (iblk m c 0 t) (iblk m c 1 t) (iblk m c 2 t) r l
      = stream (m ((c : Thread nD τ).loc main_arg0)) (m ((c : Thread nD τ).loc main_arg1)) (m ((c : Thread nD τ).loc main_arg2)) a b := by
  unfold stream
  exact congrArg₂ (· + ·) (read_res m c t r l _ _ ha hb) (sum_mul_congr (fun k => read_x m c t r k _ _ ha rfl) fun k => read_w m c t k l _ _ rfl hb)

/-- After the run the first result holds the residual plus the product. -/
theorem final4 (c : Dev nD) : (dats m 0 c).arrAt 4 cfg0.N
    = sum (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4, block4]
  generalize hi : ((View.whole main_v1_0).slice (win0_4.rect t)).emb y = i
  have h0 : (i 0).val = t.val * 1024 + (y 0).val := by rw [← hi]; blk_simp [block_index t]
  have h1 : (i 1).val = (y 1).val := by rw [← hi]; blk_simp [block_index t]
  unfold sum
  exact tile_stream m c t (y 0) (y 1) _ _ h0 h1

/-- After the run the second result holds the normalised rows. -/
theorem final5 (c : Dev nD) : (dats m 0 c).arrAt 5 cfg0.N
    = normed (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5, block5]
  generalize hi : ((View.whole main_v1_1).slice (win0_5.rect t)).emb y = i
  have h0 : (i 0).val = t.val * 1024 + (y 0).val := by rw [← hi]; blk_simp [block_index t]
  have h1 : (i 1).val = (y 1).val := by rw [← hi]; blk_simp [block_index t]
  unfold normed
  have h1' : y 1 = i 1 := Fin.ext h1.symm
  refine congrArg₂ (· * ·) (congrArg₂ (· * ·) (tile_stream m c t (y 0) (y 1) _ _ h0 h1)
    (congrArg inv_rms (funext fun k => tile_stream m c t (y 0) k _ _ h0 rfl))) ?_
  exact (read_scale m c t (y 1)).trans (by rw [h1'])

variable (z0 : Vec Ideal Cert.ResidualReferenceIdeal.S4096x1024 .bf16) (z1 : Vec Ideal Cert.ResidualReferenceIdeal.S1024x1024 .bf16)
  (z2 : Vec Ideal Cert.ResidualReferenceIdeal.S4096x1024 .f32) (z3 : Vec Ideal Cert.ResidualReferenceIdeal.S1024 .f32)

/-- The reference's sum of the residual and the product. -/
theorem reference_stream (r : Fin 4096) (l : Fin 1024) : val_main_v3 (F := Ideal) z0 z1 z2 (ix2 r l) = stream z0 z1 z2 r.val l.val := by
  unfold val_main_v3 val_main_v2 val_main_v1 val_main_v0
  pointwise
  exact congrArg₂ (· + ·) (eq_at2 z2 r l) (sum_mul_congr (fun k => eq_at2 z0 r k) fun k => eq_at2 z1 k l)

/-- The reference's first result. -/
theorem reference_sum : val_main_v3 (F := Ideal) z0 z1 z2 = sum z0 z1 z2 := by
  funext i
  rw [idx2_eta i]
  exact reference_stream z0 z1 z2 (i 0) (i 1)

/-- The reference's second result. -/
theorem reference_normed : val_main_v17 (F := Ideal) z0 z1 z2 z3 = normed z0 z1 z2 z3 := by
  have all : ∀ (r : Fin 4096) (l : Fin 1024), val_main_v17 (F := Ideal) z0 z1 z2 z3 (ix2 r l)
      = stream z0 z1 z2 r.val l.val * inv_rms (fun k => stream z0 z1 z2 r.val k.val) * z3 (ix1 l) := by
    intro r l
    have d := reference_stream z0 z1 z2
    unfold val_main_v17 val_main_v16 val_main_v15 val_main_v14 val_main_v13 val_main_v12 val_main_v11 val_main_v10 val_main_v9 val_main_v8 val_main_v7 val_main_v6 val_main_v5 val_main_v4 val_main_cst val_main_cst_0 val_main_cst_1
    generalize val_main_v3 (F := Ideal) z0 z1 z2 = p at *
    pointwise
    simp only [d]
    rfl
  funext i
  rw [idx2_eta i]
  exact all (i 0) (i 1)

/-- The reference's run ends with the two results and keeps its arguments. -/
theorem reference_run (m' : (ℓ : Loc Cert.ResidualReferenceIdeal.nD Cert.ResidualReferenceIdeal.τ Cert.ResidualReferenceIdeal.sig) → Buf (Elt Ideal) ℓ) (ρ : Dev Cert.ResidualReferenceIdeal.nD → PrngReg) :
    θ_run Cert.ResidualReferenceIdeal.defs (onTc (τ := Cert.ResidualReferenceIdeal.τ) (Cert.ResidualReferenceIdeal.main (F := Ideal))) ⟨m', fun _ => 0, ρ⟩
      fun r => ∀ c : Dev Cert.ResidualReferenceIdeal.nD,
        r.2.mem (c.tc.loc Cert.ResidualReferenceIdeal.main_v3) = sum (m' (c.tc.loc Cert.ResidualReferenceIdeal.main_arg0)) (m' (c.tc.loc Cert.ResidualReferenceIdeal.main_arg1)) (m' (c.tc.loc Cert.ResidualReferenceIdeal.main_arg2))
        ∧ r.2.mem (c.tc.loc Cert.ResidualReferenceIdeal.main_v17) = normed (m' (c.tc.loc Cert.ResidualReferenceIdeal.main_arg0)) (m' (c.tc.loc Cert.ResidualReferenceIdeal.main_arg1)) (m' (c.tc.loc Cert.ResidualReferenceIdeal.main_arg2)) (m' (c.tc.loc Cert.ResidualReferenceIdeal.main_arg3))
        ∧ r.2.mem (c.tc.loc Cert.ResidualReferenceIdeal.main_arg0) = m' (c.tc.loc Cert.ResidualReferenceIdeal.main_arg0)
        ∧ r.2.mem (c.tc.loc Cert.ResidualReferenceIdeal.main_arg1) = m' (c.tc.loc Cert.ResidualReferenceIdeal.main_arg1)
        ∧ r.2.mem (c.tc.loc Cert.ResidualReferenceIdeal.main_arg2) = m' (c.tc.loc Cert.ResidualReferenceIdeal.main_arg2)
        ∧ r.2.mem (c.tc.loc Cert.ResidualReferenceIdeal.main_arg3) = m' (c.tc.loc Cert.ResidualReferenceIdeal.main_arg3) :=
  (θ_run _ _ _).mono (fun r h c => ⟨(h c).1.trans ((val_main_v3_eq _ _ _).trans (reference_sum _ _ _)), (h c).2.1.trans ((val_main_v17_eq _ _ _ _).trans (reference_normed _ _ _ _)), (h c).2.2⟩) (Cert.ResidualReferenceIdeal.Value.run m' ρ)

/-- From memories agreeing on the arguments, kernel and reference end with equal results over the extended reals. -/
theorem algebraic : Cert.algebraic_ResidualKernelIdeal_ResidualReferenceIdeal (hResidualKernelIdeal := Cert.ResidualKernelIdeal.Gen.facts)
    (hResidualReferenceIdeal := Cert.ResidualReferenceIdeal.Gen.facts) := by
  pair_intro
  · run_from Cert.ResidualKernelIdeal.Gen.run_main m g
  · run_from reference_run m' g'
    · rw [final4]
    · rw [final5]

end Cert.ResidualKernelIdeal.Proof

end
-- ==== Proof.Optimiser.In.lean ====
module

public import proofs.«01_k».proof.Defs
public import proofs.«01_k».proof.Proof.Gen.AdamInKernelIdeal.Value
public import proofs.«01_k».proof.Proof.Gen.AdamInReferenceIdeal.Run
public import proofs.«01_k».proof.Proof.Gen.AdamInReferenceIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! # The optimiser's step on the input projection: the call adamw_w_in -/

namespace Cert.AdamInKernelIdeal.Proof

open Cert.AdamInKernelIdeal Cert.AdamInKernelIdeal.Value Cert.AdamInReferenceIdeal.Read

variable (w g m v : Vec Ideal S1024x1536 .f32)

/-- The change of the weight is the reference's. -/
theorem change : G4 (F := Ideal) w g m v = val_main_v23 (F := Ideal) w g m v := by
  funext i
  rfl

/-- The new first moment is the reference's. -/
theorem first_moment : G5 (F := Ideal) g m = val_main_v4 (F := Ideal) g m := by
  funext i
  rfl

/-- The new second moment is the reference's. -/
theorem second_moment : G6 (F := Ideal) g v = val_main_v10 (F := Ideal) g v := by
  funext i
  rfl

/-- From memories agreeing on the arguments, kernel and reference end with equal results over the extended reals. -/
theorem algebraic : Cert.algebraic_AdamInKernelIdeal_AdamInReferenceIdeal (hAdamInKernelIdeal := Cert.AdamInKernelIdeal.Gen.facts)
    (hAdamInReferenceIdeal := Cert.AdamInReferenceIdeal.Gen.facts) := by
  pair_intro
  · run_from Cert.AdamInKernelIdeal.Value.run m g
  · run_from Cert.AdamInReferenceIdeal.Value.run m' g'
    · rw [val_main_v23_eq]
      exact (change _ _ _ _).symm
    · rw [val_main_v4_eq]
      exact (first_moment _ _).symm
    · rw [val_main_v10_eq]
      exact (second_moment _ _).symm

end Cert.AdamInKernelIdeal.Proof

end
-- ==== Proof.Optimiser.Gate.lean ====
module

public import proofs.«01_k».proof.Defs
public import proofs.«01_k».proof.Proof.Gen.AdamGateKernelIdeal.Value
public import proofs.«01_k».proof.Proof.Gen.AdamGateReferenceIdeal.Run
public import proofs.«01_k».proof.Proof.Gen.AdamGateReferenceIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! # The optimiser's step on the gates' weight: the call adamw_w_gate -/

namespace Cert.AdamGateKernelIdeal.Proof

open Cert.AdamGateKernelIdeal Cert.AdamGateKernelIdeal.Value Cert.AdamGateReferenceIdeal.Read

variable (w g m v : Vec Ideal S1024x512 .f32)

/-- The change of the weight is the reference's. -/
theorem change : G4 (F := Ideal) w g m v = val_main_v23 (F := Ideal) w g m v := by
  funext i
  rfl

/-- The new first moment is the reference's. -/
theorem first_moment : G5 (F := Ideal) g m = val_main_v4 (F := Ideal) g m := by
  funext i
  rfl

/-- The new second moment is the reference's. -/
theorem second_moment : G6 (F := Ideal) g v = val_main_v10 (F := Ideal) g v := by
  funext i
  rfl

/-- From memories agreeing on the arguments, kernel and reference end with equal results over the extended reals. -/
theorem algebraic : Cert.algebraic_AdamGateKernelIdeal_AdamGateReferenceIdeal (hAdamGateKernelIdeal := Cert.AdamGateKernelIdeal.Gen.facts)
    (hAdamGateReferenceIdeal := Cert.AdamGateReferenceIdeal.Gen.facts) := by
  pair_intro
  · run_from Cert.AdamGateKernelIdeal.Value.run m g
  · run_from Cert.AdamGateReferenceIdeal.Value.run m' g'
    · rw [val_main_v23_eq]
      exact (change _ _ _ _).symm
    · rw [val_main_v4_eq]
      exact (first_moment _ _).symm
    · rw [val_main_v10_eq]
      exact (second_moment _ _).symm

end Cert.AdamGateKernelIdeal.Proof

end
-- ==== Proof.Optimiser.Mlp.lean ====
module

public import proofs.«01_k».proof.Defs
public import proofs.«01_k».proof.Proof.Gen.AdamMlpKernelIdeal.Value
public import proofs.«01_k».proof.Proof.Gen.AdamMlpReferenceIdeal.Run
public import proofs.«01_k».proof.Proof.Gen.AdamMlpReferenceIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! # The optimiser's step on an MLP weight: the calls adamw_w_up and adamw_w_down -/

namespace Cert.AdamMlpKernelIdeal.Proof

open Cert.AdamMlpKernelIdeal Cert.AdamMlpKernelIdeal.Value Cert.AdamMlpReferenceIdeal.Read

variable (w g m v : Vec Ideal S1024x1024 .f32)

/-- The change of the weight is the reference's. -/
theorem change : G4 (F := Ideal) w g m v = val_main_v23 (F := Ideal) w g m v := by
  funext i
  rfl

/-- The new first moment is the reference's. -/
theorem first_moment : G5 (F := Ideal) g m = val_main_v4 (F := Ideal) g m := by
  funext i
  rfl

/-- The new second moment is the reference's. -/
theorem second_moment : G6 (F := Ideal) g v = val_main_v10 (F := Ideal) g v := by
  funext i
  rfl

/-- From memories agreeing on the arguments, kernel and reference end with equal results over the extended reals. -/
theorem algebraic : Cert.algebraic_AdamMlpKernelIdeal_AdamMlpReferenceIdeal (hAdamMlpKernelIdeal := Cert.AdamMlpKernelIdeal.Gen.facts)
    (hAdamMlpReferenceIdeal := Cert.AdamMlpReferenceIdeal.Gen.facts) := by
  pair_intro
  · run_from Cert.AdamMlpKernelIdeal.Value.run m g
  · run_from Cert.AdamMlpReferenceIdeal.Value.run m' g'
    · rw [val_main_v23_eq]
      exact (change _ _ _ _).symm
    · rw [val_main_v4_eq]
      exact (first_moment _ _).symm
    · rw [val_main_v10_eq]
      exact (second_moment _ _).symm

end Cert.AdamMlpKernelIdeal.Proof

end
-- ==== Proof.Optimiser.Square.lean ====
module

public import proofs.«01_k».proof.Defs
public import proofs.«01_k».proof.Proof.Gen.AdamSquareKernelIdeal.Value
public import proofs.«01_k».proof.Proof.Gen.AdamSquareReferenceIdeal.Run
public import proofs.«01_k».proof.Proof.Gen.AdamSquareReferenceIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! # The optimiser's step on a square weight: the calls adamw_w_out, adamw_w_attn_proj and adamw_w_conv_proj -/

namespace Cert.AdamSquareKernelIdeal.Proof

open Cert.AdamSquareKernelIdeal Cert.AdamSquareKernelIdeal.Value Cert.AdamSquareReferenceIdeal.Read

variable (w g m v : Vec Ideal S256x1024 .f32)

/-- The change of the weight is the reference's. -/
theorem change : G4 (F := Ideal) w g m v = val_main_v23 (F := Ideal) w g m v := by
  funext i
  rfl

/-- The new first moment is the reference's. -/
theorem first_moment : G5 (F := Ideal) g m = val_main_v4 (F := Ideal) g m := by
  funext i
  rfl

/-- The new second moment is the reference's. -/
theorem second_moment : G6 (F := Ideal) g v = val_main_v10 (F := Ideal) g v := by
  funext i
  rfl

/-- From memories agreeing on the arguments, kernel and reference end with equal results over the extended reals. -/
theorem algebraic : Cert.algebraic_AdamSquareKernelIdeal_AdamSquareReferenceIdeal (hAdamSquareKernelIdeal := Cert.AdamSquareKernelIdeal.Gen.facts)
    (hAdamSquareReferenceIdeal := Cert.AdamSquareReferenceIdeal.Gen.facts) := by
  pair_intro
  · run_from Cert.AdamSquareKernelIdeal.Value.run m g
  · run_from Cert.AdamSquareReferenceIdeal.Value.run m' g'
    · rw [val_main_v23_eq]
      exact (change _ _ _ _).symm
    · rw [val_main_v4_eq]
      exact (first_moment _ _).symm
    · rw [val_main_v10_eq]
      exact (second_moment _ _).symm

end Cert.AdamSquareKernelIdeal.Proof

end
-- ==== Proof.Optimiser.Packing.lean ====
module

public import Idealize.ShloMosaic.Lib.Routing.OpsOne

@[expose] public section

set_option maxRecDepth 16384

noncomputable section

open Idealize.ShloMosaic Idealize.ShloMosaic.Routing

/-! # A block of rows set into a table

The host packs the small weights into one table by setting blocks of rows: `pack.at[r0:r0+A, :B].set(v)`. Each such line is read here at an
entry of the table: inside the block it is the block's entry, in a row outside the block it is what the table held. -/

namespace Cert.Packing

section Start

variable {R C A B : Nat} {α : Type} {si : Shape}

/-- The place of an update's entry inside its block is its own pair of coordinates. -/
theorem window_row (d : ScatterDims (shape2 R C) si (shape2 A B)) (hiw : d.insertedWindowDims = []) (huw : d.updateWindowDims = [0, 1])
    (j : (shape2 A B).Idx) : d.window j 0 = (j 0).val ∧ d.window j 1 = (j 1).val := by
  obtain ⟨uw, iw, sd, iv, wf⟩ := d
  dsimp only at hiw huw
  subst hiw
  subst huw
  exact ⟨rfl, rfl⟩

variable (d : ScatterDims (shape2 R C) si (shape2 A B)) (hiw : d.insertedWindowDims = []) (huw : d.updateWindowDims = [0, 1])
  (idx : IVec si 32) (r0 : Nat) (h0 : ∀ j, d.start j idx 0 = (r0 : Int)) (h1 : ∀ j, d.start j idx 1 = 0)
  (x : (shape2 R C).Idx → α) (v : (shape2 A B).Idx → α)

include hiw huw h0 h1 in
/-- An entry of the block lands at an entry of the table exactly when its row plus the first row is that entry's row and its column is that
entry's column. -/
theorem lands (j : (shape2 A B).Idx) (i : (shape2 R C).Idx) :
    d.resultIdx? j idx = some i ↔ r0 + (j 0).val = (i 0).val ∧ (j 1).val = (i 1).val := by
  obtain ⟨r, c, rfl⟩ : ∃ (r : Fin R) (c : Fin C), i = ValueIdx.ix2 r c := ⟨i 0, i 1, ValueIdx.eq_ix2 i⟩
  show d.resultIdx? j idx = some (ValueIdx.ix2 r c) ↔ r0 + (j 0).val = r.val ∧ (j 1).val = c.val
  rw [resultIdx?_ix2, h0, h1, (window_row d hiw huw j).1, (window_row d hiw huw j).2]
  constructor
  · intro h
    exact ⟨by have := h.1; push_cast at this; exact_mod_cast this, by have := h.2; rw [zero_add] at this; exact_mod_cast this⟩
  · intro h
    exact ⟨by exact_mod_cast h.1, by rw [zero_add]; exact_mod_cast h.2⟩

include hiw huw h0 h1 in
/-- In a row of the block and a column of the block the table holds the block's entry. -/
theorem hit (k : (shape2 A B).Idx) (i : (shape2 R C).Idx) (hr : r0 + (k 0).val = (i 0).val) (hc : (k 1).val = (i 1).val) :
    Host.scatter d (fun _ b => b) x idx v i = v k :=
  scatter_set_hit d x idx v _ _ (fun j hj => by
    obtain ⟨q0, q1⟩ := (lands d hiw huw idx r0 h0 h1 j i).1 hj
    refine congrArg v (funext fun t => Fin.ext ?_)
    match t with
    | ⟨0, _⟩ => exact Nat.add_left_cancel (q0.trans hr.symm)
    | ⟨1, _⟩ => exact q1.trans hc.symm) k ((lands d hiw huw idx r0 h0 h1 k i).2 ⟨hr, hc⟩)

include hiw huw h0 h1 in
/-- In a row outside the block the table holds what it held. -/
theorem miss (i : (shape2 R C).Idx) (hr : (i 0).val < r0 ∨ r0 + A ≤ (i 0).val) :
    Host.scatter d (fun _ b => b) x idx v i = x i :=
  scatter_set_miss d x idx v _ fun j hj => by
    obtain ⟨q0, q1⟩ := (lands d hiw huw idx r0 h0 h1 j i).1 hj
    have : (j 0).val < A := (j 0).isLt
    omega

end Start

/-- With one index word the block's first row is that word and its first column is zero. -/
theorem start_word {R C : Nat} {u : Shape} (d : ScatterDims (shape2 R C) (shape1 1) u) (hsd : d.scatterDimsToOperandDims = [0]) (hivd : d.indexVectorDim = 0)
    (idx : IVec (shape1 1) 32) (j : u.Idx) : d.start j idx 0 = (idx (ValueIdx.ix1 (0 : Fin 1))).toInt ∧ d.start j idx 1 = 0 := by
  have hm : (0 : Fin 2) ∈ d.scatterDimsToOperandDims := by rw [hsd]; exact List.mem_singleton.2 rfl
  constructor
  · unfold ScatterDims.start
    rw [dif_pos hm]
    refine congrArg (fun t => (idx t).toInt) (funext fun b => ?_)
    match b with
    | ⟨0, _⟩ => exact Subsingleton.elim (α := Fin 1) _ _
  · unfold ScatterDims.start
    rw [dif_neg fun h => by rw [hsd] at h; exact absurd (List.mem_singleton.1 h) (by decide : (1 : Fin 2) ≠ 0)]

end Cert.Packing

end
-- ==== Proof.Optimiser.Host.lean ====
module

public import proofs.«01_k».proof.Proof.Gen.AdamSmallKernelIdeal.Launch
public import proofs.«01_k».proof.Proof.Optimiser.Packing
public import Idealize.ShloMosaic.Lib.Pipeline.ValueKit
public import Idealize.ShloMosaic.Lib.Pipeline.Value

@[expose] public section

set_option maxRecDepth 16384

noncomputable section

open Idealize.ShloMosaic Idealize.ShloMosaic.TcCoe Idealize.SL.Sem

/-! # The host lines around the optimiser's call on the small weights

Before the call the host packs eight arrays into a table of 32 rows, four times; after it the host reads the eight pieces back. -/

namespace Cert.AdamSmallKernelIdeal.Host

open Cert.AdamSmallKernelIdeal Cert.AdamSmallKernelIdeal.Gen

/-- The table of 32 rows that holds eight arrays: zero, with each array's block of rows set in turn. -/
def packed (a0 a1 a2 : Vec Ideal S1024 .f32) (a3 : Vec Ideal S2048 .f32) (a4 : Vec Ideal S3x256 .f32) (a5 a6 : Vec Ideal S64 .f32)
    (a7 : Vec Ideal S16x513 .f32) : Vec Ideal S32x1024 .f32 :=
  Host.scatter scatter_S32x1024_S2_S16x513_01_n_01_0 (fun _ b => b)
    (Host.scatter scatter_S32x1024_S2_S1x64_01_n_01_0 (fun _ b => b)
      (Host.scatter scatter_S32x1024_S2_S1x64_01_n_01_0 (fun _ b => b)
        (Host.scatter scatter_S32x1024_S2_S3x256_01_n_01_0 (fun _ b => b)
          (Host.scatter scatter_S32x1024_S1_S2x1024_01_n_0_0 (fun _ b => b)
            (Host.scatter scatter_S32x1024_S1_S1x1024_01_n_0_0 (fun _ b => b)
              (Host.scatter scatter_S32x1024_S1_S1x1024_01_n_0_0 (fun _ b => b)
                (Host.scatter scatter_S32x1024_S1_S1x1024_01_n_0_0 (fun _ b => b)
                  (broadcastInDim S32x1024 ![] bcast_S_S32x1024 (constant (F := Ideal) S_ .f32 0x00000000#32))
                  (broadcastInDim S1 ![] bcast_S_S1 (constantI S_ 32 0#32)) (shapeCast S1x1024 a0 shapeCasts_S1024_S1x1024))
                (broadcastInDim S1 ![] bcast_S_S1 (constantI S_ 32 1#32)) (shapeCast S1x1024 a1 shapeCasts_S1024_S1x1024))
              (broadcastInDim S1 ![] bcast_S_S1 (constantI S_ 32 2#32)) (shapeCast S1x1024 a2 shapeCasts_S1024_S1x1024))
            (broadcastInDim S1 ![] bcast_S_S1 (constantI S_ 32 3#32)) (shapeCast S2x1024 a3 shapeCasts_S2048_S2x1024))
          (concatenate S2 0 [⟨S1, broadcastInDim S1 ![] bcast_S_S1 (constantI S_ 32 5#32)⟩,
            ⟨S1, broadcastInDim S1 ![] bcast_S_S1 (constantI S_ 32 0#32)⟩] concatenates_S1_S1_S2_d0) a4)
        (concatenate S2 0 [⟨S1, broadcastInDim S1 ![] bcast_S_S1 (constantI S_ 32 8#32)⟩,
          ⟨S1, broadcastInDim S1 ![] bcast_S_S1 (constantI S_ 32 0#32)⟩] concatenates_S1_S1_S2_d0) (shapeCast S1x64 a5 shapeCasts_S64_S1x64))
      (concatenate S2 0 [⟨S1, broadcastInDim S1 ![] bcast_S_S1 (constantI S_ 32 9#32)⟩,
        ⟨S1, broadcastInDim S1 ![] bcast_S_S1 (constantI S_ 32 0#32)⟩] concatenates_S1_S1_S2_d0) (shapeCast S1x64 a6 shapeCasts_S64_S1x64))
    (concatenate S2 0 [⟨S1, broadcastInDim S1 ![] bcast_S_S1 (constantI S_ 32 10#32)⟩,
      ⟨S1, broadcastInDim S1 ![] bcast_S_S1 (constantI S_ 32 0#32)⟩] concatenates_S1_S1_S2_d0) a7

section Pieces

variable (T : Vec Ideal S32x1024 .f32)

/-- What the host reads back at row 0, the first 1024 columns. -/
def piece0 : Vec Ideal S1024 .f32 :=
  shapeCast S1024 (extractStridedSlice S1x1024 ![0, 0] T slices_S32x1024_S1x1024_0_0) shapeCasts_S1x1024_S1024

/-- What the host reads back at row 1, the first 1024 columns. -/
def piece1 : Vec Ideal S1024 .f32 :=
  shapeCast S1024 (extractStridedSlice S1x1024 ![1, 0] T slices_S32x1024_S1x1024_1_0) shapeCasts_S1x1024_S1024

/-- What the host reads back at row 2, the first 1024 columns. -/
def piece2 : Vec Ideal S1024 .f32 :=
  shapeCast S1024 (extractStridedSlice S1x1024 ![2, 0] T slices_S32x1024_S1x1024_2_0) shapeCasts_S1x1024_S1024

/-- What the host reads back at rows 3 to 4, the first 1024 columns. -/
def piece3 : Vec Ideal S2048 .f32 :=
  shapeCast S2048 (extractStridedSlice S2x1024 ![3, 0] T slices_S32x1024_S2x1024_3_0) shapeCasts_S2x1024_S2048

/-- What the host reads back at rows 5 to 7, the first 256 columns. -/
def piece4 : Vec Ideal S3x256 .f32 :=
  extractStridedSlice S3x256 ![5, 0] T slices_S32x1024_S3x256_5_0

/-- What the host reads back at row 8, the first 64 columns. -/
def piece5 : Vec Ideal S64 .f32 :=
  shapeCast S64 (extractStridedSlice S1x64 ![8, 0] T slices_S32x1024_S1x64_8_0) shapeCasts_S1x64_S64

/-- What the host reads back at row 9, the first 64 columns. -/
def piece6 : Vec Ideal S64 .f32 :=
  shapeCast S64 (extractStridedSlice S1x64 ![9, 0] T slices_S32x1024_S1x64_9_0) shapeCasts_S1x64_S64

/-- What the host reads back at rows 10 to 25, the first 513 columns. -/
def piece7 : Vec Ideal S16x513 .f32 :=
  extractStridedSlice S16x513 ![10, 0] T slices_S32x1024_S16x513_10_0

end Pieces

section Words

open Idealize.ShloMosaic.Routing

/-- A block placed by one index word starts at that row, in column zero. -/
theorem word {u : Shape} (d : ScatterDims S32x1024 S1 u) (hsd : d.scatterDimsToOperandDims = [0]) (hivd : d.indexVectorDim = 0) (b : BitVec 32) (j : u.Idx) :
    d.start j (broadcastInDim S1 ![] bcast_S_S1 (constantI S_ 32 b)) 0 = b.toInt
    ∧ d.start j (broadcastInDim S1 ![] bcast_S_S1 (constantI S_ 32 b)) 1 = 0 :=
  Cert.Packing.start_word (R := 32) (C := 1024) d hsd hivd _ j

/-- A block placed by two index words, the second zero, starts at the first word's row, in column zero. -/
theorem pair {u : Shape} (d : ScatterDims S32x1024 S2 u) (hsd : d.scatterDimsToOperandDims = [0, 1]) (hivd : d.indexVectorDim = 0) (b : BitVec 32) (j : u.Idx) :
    d.start j (concatenate S2 0 [⟨S1, broadcastInDim S1 ![] bcast_S_S1 (constantI S_ 32 b)⟩,
      ⟨S1, broadcastInDim S1 ![] bcast_S_S1 (constantI S_ 32 0#32)⟩] concatenates_S1_S1_S2_d0) 0 = b.toInt
    ∧ d.start j (concatenate S2 0 [⟨S1, broadcastInDim S1 ![] bcast_S_S1 (constantI S_ 32 b)⟩,
      ⟨S1, broadcastInDim S1 ![] bcast_S_S1 (constantI S_ 32 0#32)⟩] concatenates_S1_S1_S2_d0) 1 = 0 :=
  ⟨start_pair (R := 32) (C := 1024) d hsd hivd _ j 0, start_pair (R := 32) (C := 1024) d hsd hivd _ j 1⟩

end Words

section Reading

variable (a0 a1 a2 : Vec Ideal S1024 .f32) (a3 : Vec Ideal S2048 .f32) (a4 : Vec Ideal S3x256 .f32) (a5 a6 : Vec Ideal S64 .f32)
  (a7 : Vec Ideal S16x513 .f32)

/-- Reading row 0 back gives the array that was packed there. -/
theorem piece0_packed : piece0 (packed a0 a1 a2 a3 a4 a5 a6 a7) = a0 := by
  have key : extractStridedSlice S1x1024 ![0, 0] (packed a0 a1 a2 a3 a4 a5 a6 a7) slices_S32x1024_S1x1024_0_0 = shapeCast S1x1024 a0 shapeCasts_S1024_S1x1024 := funext fun j => by
    have hj : (j 0).val < 1 := (j 0).isLt
    unfold packed extractStridedSlice
    refine (Cert.Packing.miss (R := 32) (C := 1024) (A := 16) (B := 513) _ rfl rfl _ 10 (fun k => (pair _ rfl rfl _ k).1) (fun k => (pair _ rfl rfl _ k).2) _ _ _
      (Or.inl (show 0 + (j 0).val < 10 by omega))).trans ?_
    refine (Cert.Packing.miss (R := 32) (C := 1024) (A := 1) (B := 64) _ rfl rfl _ 9 (fun k => (pair _ rfl rfl _ k).1) (fun k => (pair _ rfl rfl _ k).2) _ _ _
      (Or.inl (show 0 + (j 0).val < 9 by omega))).trans ?_
    refine (Cert.Packing.miss (R := 32) (C := 1024) (A := 1) (B := 64) _ rfl rfl _ 8 (fun k => (pair _ rfl rfl _ k).1) (fun k => (pair _ rfl rfl _ k).2) _ _ _
      (Or.inl (show 0 + (j 0).val < 8 by omega))).trans ?_
    refine (Cert.Packing.miss (R := 32) (C := 1024) (A := 3) (B := 256) _ rfl rfl _ 5 (fun k => (pair _ rfl rfl _ k).1) (fun k => (pair _ rfl rfl _ k).2) _ _ _
      (Or.inl (show 0 + (j 0).val < 5 by omega))).trans ?_
    refine (Cert.Packing.miss (R := 32) (C := 1024) (A := 2) (B := 1024) _ rfl rfl _ 3 (fun k => (word _ rfl rfl _ k).1) (fun k => (word _ rfl rfl _ k).2) _ _ _
      (Or.inl (show 0 + (j 0).val < 3 by omega))).trans ?_
    refine (Cert.Packing.miss (R := 32) (C := 1024) (A := 1) (B := 1024) _ rfl rfl _ 2 (fun k => (word _ rfl rfl _ k).1) (fun k => (word _ rfl rfl _ k).2) _ _ _
      (Or.inl (show 0 + (j 0).val < 2 by omega))).trans ?_
    refine (Cert.Packing.miss (R := 32) (C := 1024) (A := 1) (B := 1024) _ rfl rfl _ 1 (fun k => (word _ rfl rfl _ k).1) (fun k => (word _ rfl rfl _ k).2) _ _ _
      (Or.inl (show 0 + (j 0).val < 1 by omega))).trans ?_
    exact Cert.Packing.hit (R := 32) (C := 1024) (A := 1) (B := 1024) _ rfl rfl _ 0 (fun k => (word _ rfl rfl _ k).1) (fun k => (word _ rfl rfl _ k).2) _ _ j _
      rfl (Nat.zero_add _).symm
  unfold piece0
  rw [key, shapeCast_shapeCast]

/-- Reading row 1 back gives the array that was packed there. -/
theorem piece1_packed : piece1 (packed a0 a1 a2 a3 a4 a5 a6 a7) = a1 := by
  have key : extractStridedSlice S1x1024 ![1, 0] (packed a0 a1 a2 a3 a4 a5 a6 a7) slices_S32x1024_S1x1024_1_0 = shapeCast S1x1024 a1 shapeCasts_S1024_S1x1024 := funext fun j => by
    have hj : (j 0).val < 1 := (j 0).isLt
    unfold packed extractStridedSlice
    refine (Cert.Packing.miss (R := 32) (C := 1024) (A := 16) (B := 513) _ rfl rfl _ 10 (fun k => (pair _ rfl rfl _ k).1) (fun k => (pair _ rfl rfl _ k).2) _ _ _
      (Or.inl (show 1 + (j 0).val < 10 by omega))).trans ?_
    refine (Cert.Packing.miss (R := 32) (C := 1024) (A := 1) (B := 64) _ rfl rfl _ 9 (fun k => (pair _ rfl rfl _ k).1) (fun k => (pair _ rfl rfl _ k).2) _ _ _
      (Or.inl (show 1 + (j 0).val < 9 by omega))).trans ?_
    refine (Cert.Packing.miss (R := 32) (C := 1024) (A := 1) (B := 64) _ rfl rfl _ 8 (fun k => (pair _ rfl rfl _ k).1) (fun k => (pair _ rfl rfl _ k).2) _ _ _
      (Or.inl (show 1 + (j 0).val < 8 by omega))).trans ?_
    refine (Cert.Packing.miss (R := 32) (C := 1024) (A := 3) (B := 256) _ rfl rfl _ 5 (fun k => (pair _ rfl rfl _ k).1) (fun k => (pair _ rfl rfl _ k).2) _ _ _
      (Or.inl (show 1 + (j 0).val < 5 by omega))).trans ?_
    refine (Cert.Packing.miss (R := 32) (C := 1024) (A := 2) (B := 1024) _ rfl rfl _ 3 (fun k => (word _ rfl rfl _ k).1) (fun k => (word _ rfl rfl _ k).2) _ _ _
      (Or.inl (show 1 + (j 0).val < 3 by omega))).trans ?_
    refine (Cert.Packing.miss (R := 32) (C := 1024) (A := 1) (B := 1024) _ rfl rfl _ 2 (fun k => (word _ rfl rfl _ k).1) (fun k => (word _ rfl rfl _ k).2) _ _ _
      (Or.inl (show 1 + (j 0).val < 2 by omega))).trans ?_
    exact Cert.Packing.hit (R := 32) (C := 1024) (A := 1) (B := 1024) _ rfl rfl _ 1 (fun k => (word _ rfl rfl _ k).1) (fun k => (word _ rfl rfl _ k).2) _ _ j _
      rfl (Nat.zero_add _).symm
  unfold piece1
  rw [key, shapeCast_shapeCast]

/-- Reading row 2 back gives the array that was packed there. -/
theorem piece2_packed : piece2 (packed a0 a1 a2 a3 a4 a5 a6 a7) = a2 := by
  have key : extractStridedSlice S1x1024 ![2, 0] (packed a0 a1 a2 a3 a4 a5 a6 a7) slices_S32x1024_S1x1024_2_0 = shapeCast S1x1024 a2 shapeCasts_S1024_S1x1024 := funext fun j => by
    have hj : (j 0).val < 1 := (j 0).isLt
    unfold packed extractStridedSlice
    refine (Cert.Packing.miss (R := 32) (C := 1024) (A := 16) (B := 513) _ rfl rfl _ 10 (fun k => (pair _ rfl rfl _ k).1) (fun k => (pair _ rfl rfl _ k).2) _ _ _
      (Or.inl (show 2 + (j 0).val < 10 by omega))).trans ?_
    refine (Cert.Packing.miss (R := 32) (C := 1024) (A := 1) (B := 64) _ rfl rfl _ 9 (fun k => (pair _ rfl rfl _ k).1) (fun k => (pair _ rfl rfl _ k).2) _ _ _
      (Or.inl (show 2 + (j 0).val < 9 by omega))).trans ?_
    refine (Cert.Packing.miss (R := 32) (C := 1024) (A := 1) (B := 64) _ rfl rfl _ 8 (fun k => (pair _ rfl rfl _ k).1) (fun k => (pair _ rfl rfl _ k).2) _ _ _
      (Or.inl (show 2 + (j 0).val < 8 by omega))).trans ?_
    refine (Cert.Packing.miss (R := 32) (C := 1024) (A := 3) (B := 256) _ rfl rfl _ 5 (fun k => (pair _ rfl rfl _ k).1) (fun k => (pair _ rfl rfl _ k).2) _ _ _
      (Or.inl (show 2 + (j 0).val < 5 by omega))).trans ?_
    refine (Cert.Packing.miss (R := 32) (C := 1024) (A := 2) (B := 1024) _ rfl rfl _ 3 (fun k => (word _ rfl rfl _ k).1) (fun k => (word _ rfl rfl _ k).2) _ _ _
      (Or.inl (show 2 + (j 0).val < 3 by omega))).trans ?_
    exact Cert.Packing.hit (R := 32) (C := 1024) (A := 1) (B := 1024) _ rfl rfl _ 2 (fun k => (word _ rfl rfl _ k).1) (fun k => (word _ rfl rfl _ k).2) _ _ j _
      rfl (Nat.zero_add _).symm
  unfold piece2
  rw [key, shapeCast_shapeCast]

/-- Reading rows 3 to 4 back gives the array that was packed there. -/
theorem piece3_packed : piece3 (packed a0 a1 a2 a3 a4 a5 a6 a7) = a3 := by
  have key : extractStridedSlice S2x1024 ![3, 0] (packed a0 a1 a2 a3 a4 a5 a6 a7) slices_S32x1024_S2x1024_3_0 = shapeCast S2x1024 a3 shapeCasts_S2048_S2x1024 := funext fun j => by
    have hj : (j 0).val < 2 := (j 0).isLt
    unfold packed extractStridedSlice
    refine (Cert.Packing.miss (R := 32) (C := 1024) (A := 16) (B := 513) _ rfl rfl _ 10 (fun k => (pair _ rfl rfl _ k).1) (fun k => (pair _ rfl rfl _ k).2) _ _ _
      (Or.inl (show 3 + (j 0).val < 10 by omega))).trans ?_
    refine (Cert.Packing.miss (R := 32) (C := 1024) (A := 1) (B := 64) _ rfl rfl _ 9 (fun k => (pair _ rfl rfl _ k).1) (fun k => (pair _ rfl rfl _ k).2) _ _ _
      (Or.inl (show 3 + (j 0).val < 9 by omega))).trans ?_
    refine (Cert.Packing.miss (R := 32) (C := 1024) (A := 1) (B := 64) _ rfl rfl _ 8 (fun k => (pair _ rfl rfl _ k).1) (fun k => (pair _ rfl rfl _ k).2) _ _ _
      (Or.inl (show 3 + (j 0).val < 8 by omega))).trans ?_
    refine (Cert.Packing.miss (R := 32) (C := 1024) (A := 3) (B := 256) _ rfl rfl _ 5 (fun k => (pair _ rfl rfl _ k).1) (fun k => (pair _ rfl rfl _ k).2) _ _ _
      (Or.inl (show 3 + (j 0).val < 5 by omega))).trans ?_
    exact Cert.Packing.hit (R := 32) (C := 1024) (A := 2) (B := 1024) _ rfl rfl _ 3 (fun k => (word _ rfl rfl _ k).1) (fun k => (word _ rfl rfl _ k).2) _ _ j _
      rfl (Nat.zero_add _).symm
  unfold piece3
  rw [key, shapeCast_shapeCast]

/-- Reading rows 5 to 7 back gives the array that was packed there. -/
theorem piece4_packed : piece4 (packed a0 a1 a2 a3 a4 a5 a6 a7) = a4 := by
  have key : extractStridedSlice S3x256 ![5, 0] (packed a0 a1 a2 a3 a4 a5 a6 a7) slices_S32x1024_S3x256_5_0 = a4 := funext fun j => by
    have hj : (j 0).val < 3 := (j 0).isLt
    unfold packed extractStridedSlice
    refine (Cert.Packing.miss (R := 32) (C := 1024) (A := 16) (B := 513) _ rfl rfl _ 10 (fun k => (pair _ rfl rfl _ k).1) (fun k => (pair _ rfl rfl _ k).2) _ _ _
      (Or.inl (show 5 + (j 0).val < 10 by omega))).trans ?_
    refine (Cert.Packing.miss (R := 32) (C := 1024) (A := 1) (B := 64) _ rfl rfl _ 9 (fun k => (pair _ rfl rfl _ k).1) (fun k => (pair _ rfl rfl _ k).2) _ _ _
      (Or.inl (show 5 + (j 0).val < 9 by omega))).trans ?_
    refine (Cert.Packing.miss (R := 32) (C := 1024) (A := 1) (B := 64) _ rfl rfl _ 8 (fun k => (pair _ rfl rfl _ k).1) (fun k => (pair _ rfl rfl _ k).2) _ _ _
      (Or.inl (show 5 + (j 0).val < 8 by omega))).trans ?_
    exact Cert.Packing.hit (R := 32) (C := 1024) (A := 3) (B := 256) _ rfl rfl _ 5 (fun k => (pair _ rfl rfl _ k).1) (fun k => (pair _ rfl rfl _ k).2) _ _ j _
      rfl (Nat.zero_add _).symm
  unfold piece4
  exact key

/-- Reading row 8 back gives the array that was packed there. -/
theorem piece5_packed : piece5 (packed a0 a1 a2 a3 a4 a5 a6 a7) = a5 := by
  have key : extractStridedSlice S1x64 ![8, 0] (packed a0 a1 a2 a3 a4 a5 a6 a7) slices_S32x1024_S1x64_8_0 = shapeCast S1x64 a5 shapeCasts_S64_S1x64 := funext fun j => by
    have hj : (j 0).val < 1 := (j 0).isLt
    unfold packed extractStridedSlice
    refine (Cert.Packing.miss (R := 32) (C := 1024) (A := 16) (B := 513) _ rfl rfl _ 10 (fun k => (pair _ rfl rfl _ k).1) (fun k => (pair _ rfl rfl _ k).2) _ _ _
      (Or.inl (show 8 + (j 0).val < 10 by omega))).trans ?_
    refine (Cert.Packing.miss (R := 32) (C := 1024) (A := 1) (B := 64) _ rfl rfl _ 9 (fun k => (pair _ rfl rfl _ k).1) (fun k => (pair _ rfl rfl _ k).2) _ _ _
      (Or.inl (show 8 + (j 0).val < 9 by omega))).trans ?_
    exact Cert.Packing.hit (R := 32) (C := 1024) (A := 1) (B := 64) _ rfl rfl _ 8 (fun k => (pair _ rfl rfl _ k).1) (fun k => (pair _ rfl rfl _ k).2) _ _ j _
      rfl (Nat.zero_add _).symm
  unfold piece5
  rw [key, shapeCast_shapeCast]

/-- Reading row 9 back gives the array that was packed there. -/
theorem piece6_packed : piece6 (packed a0 a1 a2 a3 a4 a5 a6 a7) = a6 := by
  have key : extractStridedSlice S1x64 ![9, 0] (packed a0 a1 a2 a3 a4 a5 a6 a7) slices_S32x1024_S1x64_9_0 = shapeCast S1x64 a6 shapeCasts_S64_S1x64 := funext fun j => by
    have hj : (j 0).val < 1 := (j 0).isLt
    unfold packed extractStridedSlice
    refine (Cert.Packing.miss (R := 32) (C := 1024) (A := 16) (B := 513) _ rfl rfl _ 10 (fun k => (pair _ rfl rfl _ k).1) (fun k => (pair _ rfl rfl _ k).2) _ _ _
      (Or.inl (show 9 + (j 0).val < 10 by omega))).trans ?_
    exact Cert.Packing.hit (R := 32) (C := 1024) (A := 1) (B := 64) _ rfl rfl _ 9 (fun k => (pair _ rfl rfl _ k).1) (fun k => (pair _ rfl rfl _ k).2) _ _ j _
      rfl (Nat.zero_add _).symm
  unfold piece6
  rw [key, shapeCast_shapeCast]

/-- Reading rows 10 to 25 back gives the array that was packed there. -/
theorem piece7_packed : piece7 (packed a0 a1 a2 a3 a4 a5 a6 a7) = a7 := by
  have key : extractStridedSlice S16x513 ![10, 0] (packed a0 a1 a2 a3 a4 a5 a6 a7) slices_S32x1024_S16x513_10_0 = a7 := funext fun j => by
    have hj : (j 0).val < 16 := (j 0).isLt
    unfold packed extractStridedSlice
    exact Cert.Packing.hit (R := 32) (C := 1024) (A := 16) (B := 513) _ rfl rfl _ 10 (fun k => (pair _ rfl rfl _ k).1) (fun k => (pair _ rfl rfl _ k).2) _ _ j _
      rfl (Nat.zero_add _).symm
  unfold piece7
  exact key

end Reading

section Before

variable (V : Valuation τ sig (Elt Ideal))

/-- The call's first operand is the table of the weights. -/
theorem weights : StableHlo.after (hostOps0 (F := Ideal)) V (Proc.devRef .tc main_v30)
    = packed (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  after_results_simp
  rfl

/-- The call's second operand is the table of the gradients. -/
theorem gradients : StableHlo.after (hostOps0 (F := Ideal)) V (Proc.devRef .tc main_v61)
    = packed (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) := by
  after_results_simp
  rfl

/-- The call's third operand is the table of the first moments. -/
theorem firsts : StableHlo.after (hostOps0 (F := Ideal)) V (Proc.devRef .tc main_v92)
    = packed (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) := by
  after_results_simp
  rfl

/-- The call's fourth operand is the table of the second moments. -/
theorem seconds : StableHlo.after (hostOps0 (F := Ideal)) V (Proc.devRef .tc main_v123)
    = packed (V (Proc.devRef .tc main_arg24)) (V (Proc.devRef .tc main_arg25)) (V (Proc.devRef .tc main_arg26)) (V (Proc.devRef .tc main_arg27)) (V (Proc.devRef .tc main_arg28)) (V (Proc.devRef .tc main_arg29)) (V (Proc.devRef .tc main_arg30)) (V (Proc.devRef .tc main_arg31)) := by
  after_results_simp
  rfl

end Before

section After

variable (V : Valuation τ sig (Elt Ideal))

/-- A result of the program is a piece of the table of changes: row 0. -/
theorem change0 : StableHlo.after (hostOps1 (F := Ideal)) V (Proc.devRef .tc main_v126) = piece0 (V (Proc.devRef .tc main_v124_0)) := by
  after_results_simp
  rfl

/-- A result of the program is a piece of the table of changes: row 1. -/
theorem change1 : StableHlo.after (hostOps1 (F := Ideal)) V (Proc.devRef .tc main_v128) = piece1 (V (Proc.devRef .tc main_v124_0)) := by
  after_results_simp
  rfl

/-- A result of the program is a piece of the table of changes: row 2. -/
theorem change2 : StableHlo.after (hostOps1 (F := Ideal)) V (Proc.devRef .tc main_v130) = piece2 (V (Proc.devRef .tc main_v124_0)) := by
  after_results_simp
  rfl

/-- A result of the program is a piece of the table of changes: rows 3 to 4. -/
theorem change3 : StableHlo.after (hostOps1 (F := Ideal)) V (Proc.devRef .tc main_v132) = piece3 (V (Proc.devRef .tc main_v124_0)) := by
  after_results_simp
  rfl

/-- A result of the program is a piece of the table of changes: rows 5 to 7. -/
theorem change4 : StableHlo.after (hostOps1 (F := Ideal)) V (Proc.devRef .tc main_v133) = piece4 (V (Proc.devRef .tc main_v124_0)) := by
  after_results_simp
  rfl

/-- A result of the program is a piece of the table of changes: row 8. -/
theorem change5 : StableHlo.after (hostOps1 (F := Ideal)) V (Proc.devRef .tc main_v135) = piece5 (V (Proc.devRef .tc main_v124_0)) := by
  after_results_simp
  rfl

/-- A result of the program is a piece of the table of changes: row 9. -/
theorem change6 : StableHlo.after (hostOps1 (F := Ideal)) V (Proc.devRef .tc main_v137) = piece6 (V (Proc.devRef .tc main_v124_0)) := by
  after_results_simp
  rfl

/-- A result of the program is a piece of the table of changes: rows 10 to 25. -/
theorem change7 : StableHlo.after (hostOps1 (F := Ideal)) V (Proc.devRef .tc main_v138) = piece7 (V (Proc.devRef .tc main_v124_0)) := by
  after_results_simp
  rfl

/-- A result of the program is a piece of the table of first moments: row 0. -/
theorem first0 : StableHlo.after (hostOps1 (F := Ideal)) V (Proc.devRef .tc main_v140) = piece0 (V (Proc.devRef .tc main_v124_1)) := by
  after_results_simp
  rfl

/-- A result of the program is a piece of the table of first moments: row 1. -/
theorem first1 : StableHlo.after (hostOps1 (F := Ideal)) V (Proc.devRef .tc main_v142) = piece1 (V (Proc.devRef .tc main_v124_1)) := by
  after_results_simp
  rfl

/-- A result of the program is a piece of the table of first moments: row 2. -/
theorem first2 : StableHlo.after (hostOps1 (F := Ideal)) V (Proc.devRef .tc main_v144) = piece2 (V (Proc.devRef .tc main_v124_1)) := by
  after_results_simp
  rfl

/-- A result of the program is a piece of the table of first moments: rows 3 to 4. -/
theorem first3 : StableHlo.after (hostOps1 (F := Ideal)) V (Proc.devRef .tc main_v146) = piece3 (V (Proc.devRef .tc main_v124_1)) := by
  after_results_simp
  rfl

/-- A result of the program is a piece of the table of first moments: rows 5 to 7. -/
theorem first4 : StableHlo.after (hostOps1 (F := Ideal)) V (Proc.devRef .tc main_v147) = piece4 (V (Proc.devRef .tc main_v124_1)) := by
  after_results_simp
  rfl

/-- A result of the program is a piece of the table of first moments: row 8. -/
theorem first5 : StableHlo.after (hostOps1 (F := Ideal)) V (Proc.devRef .tc main_v149) = piece5 (V (Proc.devRef .tc main_v124_1)) := by
  after_results_simp
  rfl

/-- A result of the program is a piece of the table of first moments: row 9. -/
theorem first6 : StableHlo.after (hostOps1 (F := Ideal)) V (Proc.devRef .tc main_v151) = piece6 (V (Proc.devRef .tc main_v124_1)) := by
  after_results_simp
  rfl

/-- A result of the program is a piece of the table of first moments: rows 10 to 25. -/
theorem first7 : StableHlo.after (hostOps1 (F := Ideal)) V (Proc.devRef .tc main_v152) = piece7 (V (Proc.devRef .tc main_v124_1)) := by
  after_results_simp
  rfl

/-- A result of the program is a piece of the table of second moments: row 0. -/
theorem second0 : StableHlo.after (hostOps1 (F := Ideal)) V (Proc.devRef .tc main_v154) = piece0 (V (Proc.devRef .tc main_v124_2)) := by
  after_results_simp
  rfl

/-- A result of the program is a piece of the table of second moments: row 1. -/
theorem second1 : StableHlo.after (hostOps1 (F := Ideal)) V (Proc.devRef .tc main_v156) = piece1 (V (Proc.devRef .tc main_v124_2)) := by
  after_results_simp
  rfl

/-- A result of the program is a piece of the table of second moments: row 2. -/
theorem second2 : StableHlo.after (hostOps1 (F := Ideal)) V (Proc.devRef .tc main_v158) = piece2 (V (Proc.devRef .tc main_v124_2)) := by
  after_results_simp
  rfl

/-- A result of the program is a piece of the table of second moments: rows 3 to 4. -/
theorem second3 : StableHlo.after (hostOps1 (F := Ideal)) V (Proc.devRef .tc main_v160) = piece3 (V (Proc.devRef .tc main_v124_2)) := by
  after_results_simp
  rfl

/-- A result of the program is a piece of the table of second moments: rows 5 to 7. -/
theorem second4 : StableHlo.after (hostOps1 (F := Ideal)) V (Proc.devRef .tc main_v161) = piece4 (V (Proc.devRef .tc main_v124_2)) := by
  after_results_simp
  rfl

/-- A result of the program is a piece of the table of second moments: row 8. -/
theorem second5 : StableHlo.after (hostOps1 (F := Ideal)) V (Proc.devRef .tc main_v163) = piece5 (V (Proc.devRef .tc main_v124_2)) := by
  after_results_simp
  rfl

/-- A result of the program is a piece of the table of second moments: row 9. -/
theorem second6 : StableHlo.after (hostOps1 (F := Ideal)) V (Proc.devRef .tc main_v165) = piece6 (V (Proc.devRef .tc main_v124_2)) := by
  after_results_simp
  rfl

/-- A result of the program is a piece of the table of second moments: rows 10 to 25. -/
theorem second7 : StableHlo.after (hostOps1 (F := Ideal)) V (Proc.devRef .tc main_v166) = piece7 (V (Proc.devRef .tc main_v124_2)) := by
  after_results_simp
  rfl

end After

end Cert.AdamSmallKernelIdeal.Host

end
-- ==== Proof.Optimiser.Table.lean ====
module

public import proofs.«01_k».proof.Proof.Gen.AdamSmallKernelIdeal.Frame
public import proofs.«01_k».proof.Proof.Optimiser.Host

@[expose] public section

set_option maxRecDepth 16384

noncomputable section

open Idealize.ShloMosaic Idealize.ShloMosaic.TcCoe Idealize.SL.Sem
open Idealize.ShloMosaic.Pipeline (Dat)

/-! # The tables the optimiser's call on the small weights leaves -/

namespace Cert.AdamSmallKernelIdeal.Proof

open Cert.AdamSmallKernelIdeal Cert.AdamSmallKernelIdeal.Gen Cert.AdamSmallKernelIdeal.Host

/-- The new first moment of one entry with gradient `g` and first moment `a`. -/
def firstAt (g a : Ideal .f32) : Ideal .f32 :=
  FloatOps.addf (FloatOps.mulf (Scalar.ofBits .f32 0x3F666666#32) a) (FloatOps.mulf (Scalar.ofBits .f32 0x3DCCCCCD#32) g)

/-- The new second moment of one entry with gradient `g` and second moment `b`. -/
def secondAt (g b : Ideal .f32) : Ideal .f32 :=
  FloatOps.addf (FloatOps.mulf (Scalar.ofBits .f32 0x3F7FBE77#32) b) (FloatOps.mulf (Scalar.ofBits .f32 0x3A83126F#32) (FloatOps.mulf g g))

/-- The change of one entry with value `w`, gradient `g` and moments `a` and `b`. -/
def changeAt (w g a b : Ideal .f32) : Ideal .f32 :=
  FloatOps.mulf (Scalar.ofBits .f32 0xBA83126F#32)
    (FloatOps.addf
      (FloatOps.divf (FloatOps.divf (firstAt g a) (Scalar.ofBits .f32 0x3F26BD02#32))
        (FloatOps.addf (FloatOps.sqrt (FloatOps.divf (secondAt g b) (Scalar.ofBits .f32 0x3C231ACC#32))) (Scalar.ofBits .f32 0x322BCC77#32)))
      (FloatOps.mulf (Scalar.ofBits .f32 0x3C23D70A#32) w))

/-- The new first moments of an array, entry by entry. -/
def firsts {s : Shape} (g a : Vec Ideal s .f32) : Vec Ideal s .f32 := fun i => firstAt (g i) (a i)

/-- The new second moments of an array, entry by entry. -/
def seconds {s : Shape} (g b : Vec Ideal s .f32) : Vec Ideal s .f32 := fun i => secondAt (g i) (b i)

/-- The changes of an array, entry by entry. -/
def changes {s : Shape} (w g a b : Vec Ideal s .f32) : Vec Ideal s .f32 := fun i => changeAt (w i) (g i) (a i) (b i)

section Body

variable (w g a b : Vec Ideal S32x1024 .f32)

/-- The body's second result holds the new first moments. -/
theorem body_first : k0_pay2 w a = firsts w a := by
  unfold k0_pay2 k0_pay1
  rw [shapeCast_self, shapeCast_self]
  funext i
  rfl

/-- The body's third result holds the new second moments. -/
theorem body_second : k0_pay3 w b = seconds w b := by
  unfold k0_pay3 k0_pay1
  rw [shapeCast_self, shapeCast_self]
  funext i
  rfl

/-- The body's first result holds the changes. -/
theorem body_change : k0_pay4 w g a b = changes w g a b := by
  unfold k0_pay4
  rw [shapeCast_self, body_first, body_second]
  funext i
  rfl

end Body

variable (m : (ℓ : Loc nD τ sig) → Buf (Elt Ideal) ℓ) (c : Dev nD)

theorem corner : (![0, 0] : Fin 2 → Nat) = fun _ => 0 := funext fun a => by fin_cases a <;> rfl

theorem at_corner0 : ∀ t : Fin cfg0.N, win0_0.index t (0 : Fin 2) = 0 ∧ win0_0.index t (1 : Fin 2) = 0 :=
  (by decide +kernel : ∀ t : Fin grid0.N, _)

/-- Window 0's block is its whole table. -/
theorem emb0 (t : Fin cfg0.N) (j : S32x1024.Idx) : ((cfg0.win 0).blk t).view.emb j = j := by
  obtain ⟨e0, e1⟩ := at_corner0 t
  funext a
  apply Fin.ext
  match a with
  | ⟨0, _⟩ => show win0_0.index t (0 : Fin 2) * 32 + 1 * (j 0).val = (j 0).val; omega
  | ⟨1, _⟩ => show win0_0.index t (1 : Fin 2) * 1024 + 1 * (j 1).val = (j 1).val; omega

theorem at_corner1 : ∀ t : Fin cfg0.N, win0_1.index t (0 : Fin 2) = 0 ∧ win0_1.index t (1 : Fin 2) = 0 :=
  (by decide +kernel : ∀ t : Fin grid0.N, _)

/-- Window 1's block is its whole table. -/
theorem emb1 (t : Fin cfg0.N) (j : S32x1024.Idx) : ((cfg0.win 1).blk t).view.emb j = j := by
  obtain ⟨e0, e1⟩ := at_corner1 t
  funext a
  apply Fin.ext
  match a with
  | ⟨0, _⟩ => show win0_1.index t (0 : Fin 2) * 32 + 1 * (j 0).val = (j 0).val; omega
  | ⟨1, _⟩ => show win0_1.index t (1 : Fin 2) * 1024 + 1 * (j 1).val = (j 1).val; omega

theorem at_corner2 : ∀ t : Fin cfg0.N, win0_2.index t (0 : Fin 2) = 0 ∧ win0_2.index t (1 : Fin 2) = 0 :=
  (by decide +kernel : ∀ t : Fin grid0.N, _)

/-- Window 2's block is its whole table. -/
theorem emb2 (t : Fin cfg0.N) (j : S32x1024.Idx) : ((cfg0.win 2).blk t).view.emb j = j := by
  obtain ⟨e0, e1⟩ := at_corner2 t
  funext a
  apply Fin.ext
  match a with
  | ⟨0, _⟩ => show win0_2.index t (0 : Fin 2) * 32 + 1 * (j 0).val = (j 0).val; omega
  | ⟨1, _⟩ => show win0_2.index t (1 : Fin 2) * 1024 + 1 * (j 1).val = (j 1).val; omega

theorem at_corner3 : ∀ t : Fin cfg0.N, win0_3.index t (0 : Fin 2) = 0 ∧ win0_3.index t (1 : Fin 2) = 0 :=
  (by decide +kernel : ∀ t : Fin grid0.N, _)

/-- Window 3's block is its whole table. -/
theorem emb3 (t : Fin cfg0.N) (j : S32x1024.Idx) : ((cfg0.win 3).blk t).view.emb j = j := by
  obtain ⟨e0, e1⟩ := at_corner3 t
  funext a
  apply Fin.ext
  match a with
  | ⟨0, _⟩ => show win0_3.index t (0 : Fin 2) * 32 + 1 * (j 0).val = (j 0).val; omega
  | ⟨1, _⟩ => show win0_3.index t (1 : Fin 2) * 1024 + 1 * (j 1).val = (j 1).val; omega

theorem at_corner4 : ∀ t : Fin cfg0.N, win0_4.index t (0 : Fin 2) = 0 ∧ win0_4.index t (1 : Fin 2) = 0 :=
  (by decide +kernel : ∀ t : Fin grid0.N, _)

/-- Window 4's block is its whole table. -/
theorem emb4 (t : Fin cfg0.N) (j : S32x1024.Idx) : ((cfg0.win 4).blk t).view.emb j = j := by
  obtain ⟨e0, e1⟩ := at_corner4 t
  funext a
  apply Fin.ext
  match a with
  | ⟨0, _⟩ => show win0_4.index t (0 : Fin 2) * 32 + 1 * (j 0).val = (j 0).val; omega
  | ⟨1, _⟩ => show win0_4.index t (1 : Fin 2) * 1024 + 1 * (j 1).val = (j 1).val; omega

theorem at_corner5 : ∀ t : Fin cfg0.N, win0_5.index t (0 : Fin 2) = 0 ∧ win0_5.index t (1 : Fin 2) = 0 :=
  (by decide +kernel : ∀ t : Fin grid0.N, _)

/-- Window 5's block is its whole table. -/
theorem emb5 (t : Fin cfg0.N) (j : S32x1024.Idx) : ((cfg0.win 5).blk t).view.emb j = j := by
  obtain ⟨e0, e1⟩ := at_corner5 t
  funext a
  apply Fin.ext
  match a with
  | ⟨0, _⟩ => show win0_5.index t (0 : Fin 2) * 32 + 1 * (j 0).val = (j 0).val; omega
  | ⟨1, _⟩ => show win0_5.index t (1 : Fin 2) * 1024 + 1 * (j 1).val = (j 1).val; omega

theorem at_corner6 : ∀ t : Fin cfg0.N, win0_6.index t (0 : Fin 2) = 0 ∧ win0_6.index t (1 : Fin 2) = 0 :=
  (by decide +kernel : ∀ t : Fin grid0.N, _)

/-- Window 6's block is its whole table. -/
theorem emb6 (t : Fin cfg0.N) (j : S32x1024.Idx) : ((cfg0.win 6).blk t).view.emb j = j := by
  obtain ⟨e0, e1⟩ := at_corner6 t
  funext a
  apply Fin.ext
  match a with
  | ⟨0, _⟩ => show win0_6.index t (0 : Fin 2) * 32 + 1 * (j 0).val = (j 0).val; omega
  | ⟨1, _⟩ => show win0_6.index t (1 : Fin 2) * 1024 + 1 * (j 1).val = (j 1).val; omega

/-- What input window 0 holds is its whole table. -/
theorem block0 (t : Fin cfg0.N) : (iblk m c 0 t : Vec Ideal S32x1024 .f32) = V m c main_v30 := funext fun j => by
  show V m c main_v30 (((cfg0.win 0).blk t).view.emb j) = _
  rw [emb0]

/-- What input window 1 holds is its whole table. -/
theorem block1 (t : Fin cfg0.N) : (iblk m c 1 t : Vec Ideal S32x1024 .f32) = V m c main_v61 := funext fun j => by
  show V m c main_v61 (((cfg0.win 1).blk t).view.emb j) = _
  rw [emb1]

/-- What input window 2 holds is its whole table. -/
theorem block2 (t : Fin cfg0.N) : (iblk m c 2 t : Vec Ideal S32x1024 .f32) = V m c main_v92 := funext fun j => by
  show V m c main_v92 (((cfg0.win 2).blk t).view.emb j) = _
  rw [emb2]

/-- What input window 3 holds is its whole table. -/
theorem block3 (t : Fin cfg0.N) : (iblk m c 3 t : Vec Ideal S32x1024 .f32) = V m c main_v123 := funext fun j => by
  show V m c main_v123 (((cfg0.win 3).blk t).view.emb j) = _
  rw [emb3]

/-- The call's result 0 ends as the changes of the packed tables. -/
theorem final4 : (dats m 0 c).arrAt 4 cfg0.N = changes (V m c main_v30) (V m c main_v61) (V m c main_v92) (V m c main_v123) :=
  (dats m 0 c).arrAt_eq_of_cover 4 _ (fun t _ => by
    show (cfg0.win 4).cut (grid0.coords t) ((dats m 0 c).after 4 t) = _
    rw [after0_4]
    unfold out0_4
    rw [View.canon_unit_zero corner]
    simp only [View.ld_unit_zero (S := S32x1024) corner]
    rw [block0, block1, block2, block3, body_change]
    funext j
    show changes (V m c main_v30) (V m c main_v61) (V m c main_v92) (V m c main_v123) j = changes (V m c main_v30) (V m c main_v61) (V m c main_v92) (V m c main_v123) (((cfg0.win 4).blk t).view.emb j)
    rw [emb4]) (fun i => ⟨t0_0, flush0_4 t0_0, by
      show i ∈ ((View.whole main_v124_0).slice (win0_4.rect t0_0)).set
      rw [View.set_slice_whole, Rect.mem_set_unit]
      obtain ⟨e0, e1⟩ := at_corner4 t0_0
      intro a
      match a with
      | ⟨0, _⟩ =>
        have h : (i 0).val < 32 := (i 0).isLt
        show win0_4.index t0_0 (0 : Fin 2) * 32 ≤ (i 0).val ∧ (i 0).val < win0_4.index t0_0 (0 : Fin 2) * 32 + 32
        omega
      | ⟨1, _⟩ =>
        have h : (i 1).val < 1024 := (i 1).isLt
        show win0_4.index t0_0 (1 : Fin 2) * 1024 ≤ (i 1).val ∧ (i 1).val < win0_4.index t0_0 (1 : Fin 2) * 1024 + 1024
        omega⟩)

/-- The call's result 1 ends as the new first moments of the packed tables. -/
theorem final5 : (dats m 0 c).arrAt 5 cfg0.N = firsts (V m c main_v61) (V m c main_v92) :=
  (dats m 0 c).arrAt_eq_of_cover 5 _ (fun t _ => by
    show (cfg0.win 5).cut (grid0.coords t) ((dats m 0 c).after 5 t) = _
    rw [after0_5]
    unfold out0_5
    rw [View.canon_unit_zero corner]
    simp only [View.ld_unit_zero (S := S32x1024) corner]
    rw [block1, block2, body_first]
    funext j
    show firsts (V m c main_v61) (V m c main_v92) j = firsts (V m c main_v61) (V m c main_v92) (((cfg0.win 5).blk t).view.emb j)
    rw [emb5]) (fun i => ⟨t0_0, flush0_5 t0_0, by
      show i ∈ ((View.whole main_v124_1).slice (win0_5.rect t0_0)).set
      rw [View.set_slice_whole, Rect.mem_set_unit]
      obtain ⟨e0, e1⟩ := at_corner5 t0_0
      intro a
      match a with
      | ⟨0, _⟩ =>
        have h : (i 0).val < 32 := (i 0).isLt
        show win0_5.index t0_0 (0 : Fin 2) * 32 ≤ (i 0).val ∧ (i 0).val < win0_5.index t0_0 (0 : Fin 2) * 32 + 32
        omega
      | ⟨1, _⟩ =>
        have h : (i 1).val < 1024 := (i 1).isLt
        show win0_5.index t0_0 (1 : Fin 2) * 1024 ≤ (i 1).val ∧ (i 1).val < win0_5.index t0_0 (1 : Fin 2) * 1024 + 1024
        omega⟩)

/-- The call's result 2 ends as the new second moments of the packed tables. -/
theorem final6 : (dats m 0 c).arrAt 6 cfg0.N = seconds (V m c main_v61) (V m c main_v123) :=
  (dats m 0 c).arrAt_eq_of_cover 6 _ (fun t _ => by
    show (cfg0.win 6).cut (grid0.coords t) ((dats m 0 c).after 6 t) = _
    rw [after0_6]
    unfold out0_6
    rw [View.canon_unit_zero corner]
    simp only [View.ld_unit_zero (S := S32x1024) corner]
    rw [block1, block3, body_second]
    funext j
    show seconds (V m c main_v61) (V m c main_v123) j = seconds (V m c main_v61) (V m c main_v123) (((cfg0.win 6).blk t).view.emb j)
    rw [emb6]) (fun i => ⟨t0_0, flush0_6 t0_0, by
      show i ∈ ((View.whole main_v124_2).slice (win0_6.rect t0_0)).set
      rw [View.set_slice_whole, Rect.mem_set_unit]
      obtain ⟨e0, e1⟩ := at_corner6 t0_0
      intro a
      match a with
      | ⟨0, _⟩ =>
        have h : (i 0).val < 32 := (i 0).isLt
        show win0_6.index t0_0 (0 : Fin 2) * 32 ≤ (i 0).val ∧ (i 0).val < win0_6.index t0_0 (0 : Fin 2) * 32 + 32
        omega
      | ⟨1, _⟩ =>
        have h : (i 1).val < 1024 := (i 1).isLt
        show win0_6.index t0_0 (1 : Fin 2) * 1024 ≤ (i 1).val ∧ (i 1).val < win0_6.index t0_0 (1 : Fin 2) * 1024 + 1024
        omega⟩)

/-- The call finds operand 0 packed from the program's arguments 0 to 7. -/
theorem entry0 : V m c main_v30 = packed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after (List.flatten [hostOps0]) (fun b => m (c, b)) (Proc.devRef .tc main_v30) = _
  rw [List.flatten_cons, List.flatten_nil, List.append_nil]
  exact Host.weights _

/-- The call finds operand 1 packed from the program's arguments 8 to 15. -/
theorem entry1 : V m c main_v61 = packed (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  show StableHlo.after (List.flatten [hostOps0]) (fun b => m (c, b)) (Proc.devRef .tc main_v61) = _
  rw [List.flatten_cons, List.flatten_nil, List.append_nil]
  exact Host.gradients _

/-- The call finds operand 2 packed from the program's arguments 16 to 23. -/
theorem entry2 : V m c main_v92 = packed (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) := by
  show StableHlo.after (List.flatten [hostOps0]) (fun b => m (c, b)) (Proc.devRef .tc main_v92) = _
  rw [List.flatten_cons, List.flatten_nil, List.append_nil]
  exact Host.firsts _

/-- The call finds operand 3 packed from the program's arguments 24 to 31. -/
theorem entry3 : V m c main_v123 = packed (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) := by
  show StableHlo.after (List.flatten [hostOps0]) (fun b => m (c, b)) (Proc.devRef .tc main_v123) = _
  rw [List.flatten_cons, List.flatten_nil, List.append_nil]
  exact Host.seconds _

/-- After the call the host finds the call's result 0 as the call left it. -/
theorem table0 : Pipeline.withArrays (cfgs 0).spec c (V0 m c) (fun w => (dats m 0 c).arrAt w (cfgs 0).N) (Proc.devRef .tc main_v124_0)
    = changes (V m c main_v30) (V m c main_v61) (V m c main_v92) (V m c main_v123) :=
  (Pipeline.withArrays_arr (cfgs 0).spec winFacts0.arr_inj c (V0 m c) (fun w => (dats m 0 c).arrAt w (cfgs 0).N) 4).trans (final4 m c)

/-- After the call the host finds the call's result 1 as the call left it. -/
theorem table1 : Pipeline.withArrays (cfgs 0).spec c (V0 m c) (fun w => (dats m 0 c).arrAt w (cfgs 0).N) (Proc.devRef .tc main_v124_1)
    = firsts (V m c main_v61) (V m c main_v92) :=
  (Pipeline.withArrays_arr (cfgs 0).spec winFacts0.arr_inj c (V0 m c) (fun w => (dats m 0 c).arrAt w (cfgs 0).N) 5).trans (final5 m c)

/-- After the call the host finds the call's result 2 as the call left it. -/
theorem table2 : Pipeline.withArrays (cfgs 0).spec c (V0 m c) (fun w => (dats m 0 c).arrAt w (cfgs 0).N) (Proc.devRef .tc main_v124_2)
    = seconds (V m c main_v61) (V m c main_v123) :=
  (Pipeline.withArrays_arr (cfgs 0).spec winFacts0.arr_inj c (V0 m c) (fun w => (dats m 0 c).arrAt w (cfgs 0).N) 6).trans (final6 m c)

end Cert.AdamSmallKernelIdeal.Proof

end
-- ==== Proof.Optimiser.Small.lean ====
module

public import proofs.«01_k».proof.Defs
public import proofs.«01_k».proof.Proof.Gen.AdamSmallKernelIdeal.Frame
public import proofs.«01_k».proof.Proof.Gen.AdamSmallReferenceIdeal.Run
public import proofs.«01_k».proof.Proof.Optimiser.Table

@[expose] public section

set_option maxRecDepth 16384

noncomputable section

open Idealize.ShloMosaic Idealize.ShloMosaic.TcCoe Idealize.SL.Sem
open Idealize.ShloMosaic.Pipeline (Dat)

/-! # The optimiser's step on the small weights: the call adamw_small between packing and unpacking -/

namespace Cert.AdamSmallKernelIdeal.Proof

open Cert.AdamSmallKernelIdeal Cert.AdamSmallKernelIdeal.Gen Cert.AdamSmallKernelIdeal.Host

variable (m : (ℓ : Loc nD τ sig) → Buf (Elt Ideal) ℓ) (ρ : Dev nD → PrngReg) (c : Dev nD)

/-- The program ends with the changes of small weight 0 in its result 0. -/
theorem change0_end : Pipeline.afterTail₀ cfgs (dats m) 0 (V0 m) [hostOps1] c main_v126
    = changes (m ((c : Thread nD τ).loc main_arg0)) (m ((c : Thread nD τ).loc main_arg8)) (m ((c : Thread nD τ).loc main_arg16)) (m ((c : Thread nD τ).loc main_arg24)) := by
  unfold Pipeline.afterTail₀
  rw [List.flatten_cons, List.flatten_nil, List.append_nil, Host.change0, table0, entry0, entry1, entry2, entry3]
  show changes (piece0 (packed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))) (piece0 (packed (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)))) (piece0 (packed (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)))) (piece0 (packed (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)))) = _
  rw [piece0_packed, piece0_packed, piece0_packed, piece0_packed]

/-- The program ends with the changes of small weight 1 in its result 1. -/
theorem change1_end : Pipeline.afterTail₀ cfgs (dats m) 0 (V0 m) [hostOps1] c main_v128
    = changes (m ((c : Thread nD τ).loc main_arg1)) (m ((c : Thread nD τ).loc main_arg9)) (m ((c : Thread nD τ).loc main_arg17)) (m ((c : Thread nD τ).loc main_arg25)) := by
  unfold Pipeline.afterTail₀
  rw [List.flatten_cons, List.flatten_nil, List.append_nil, Host.change1, table0, entry0, entry1, entry2, entry3]
  show changes (piece1 (packed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))) (piece1 (packed (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)))) (piece1 (packed (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)))) (piece1 (packed (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)))) = _
  rw [piece1_packed, piece1_packed, piece1_packed, piece1_packed]

/-- The program ends with the changes of small weight 2 in its result 2. -/
theorem change2_end : Pipeline.afterTail₀ cfgs (dats m) 0 (V0 m) [hostOps1] c main_v130
    = changes (m ((c : Thread nD τ).loc main_arg2)) (m ((c : Thread nD τ).loc main_arg10)) (m ((c : Thread nD τ).loc main_arg18)) (m ((c : Thread nD τ).loc main_arg26)) := by
  unfold Pipeline.afterTail₀
  rw [List.flatten_cons, List.flatten_nil, List.append_nil, Host.change2, table0, entry0, entry1, entry2, entry3]
  show changes (piece2 (packed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))) (piece2 (packed (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)))) (piece2 (packed (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)))) (piece2 (packed (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)))) = _
  rw [piece2_packed, piece2_packed, piece2_packed, piece2_packed]

/-- The program ends with the changes of small weight 3 in its result 3. -/
theorem change3_end : Pipeline.afterTail₀ cfgs (dats m) 0 (V0 m) [hostOps1] c main_v132
    = changes (m ((c : Thread nD τ).loc main_arg3)) (m ((c : Thread nD τ).loc main_arg11)) (m ((c : Thread nD τ).loc main_arg19)) (m ((c : Thread nD τ).loc main_arg27)) := by
  unfold Pipeline.afterTail₀
  rw [List.flatten_cons, List.flatten_nil, List.append_nil, Host.change3, table0, entry0, entry1, entry2, entry3]
  show changes (piece3 (packed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))) (piece3 (packed (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)))) (piece3 (packed (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)))) (piece3 (packed (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)))) = _
  rw [piece3_packed, piece3_packed, piece3_packed, piece3_packed]

/-- The program ends with the changes of small weight 4 in its result 4. -/
theorem change4_end : Pipeline.afterTail₀ cfgs (dats m) 0 (V0 m) [hostOps1] c main_v133
    = changes (m ((c : Thread nD τ).loc main_arg4)) (m ((c : Thread nD τ).loc main_arg12)) (m ((c : Thread nD τ).loc main_arg20)) (m ((c : Thread nD τ).loc main_arg28)) := by
  unfold Pipeline.afterTail₀
  rw [List.flatten_cons, List.flatten_nil, List.append_nil, Host.change4, table0, entry0, entry1, entry2, entry3]
  show changes (piece4 (packed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))) (piece4 (packed (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)))) (piece4 (packed (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)))) (piece4 (packed (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)))) = _
  rw [piece4_packed, piece4_packed, piece4_packed, piece4_packed]

/-- The program ends with the changes of small weight 5 in its result 5. -/
theorem change5_end : Pipeline.afterTail₀ cfgs (dats m) 0 (V0 m) [hostOps1] c main_v135
    = changes (m ((c : Thread nD τ).loc main_arg5)) (m ((c : Thread nD τ).loc main_arg13)) (m ((c : Thread nD τ).loc main_arg21)) (m ((c : Thread nD τ).loc main_arg29)) := by
  unfold Pipeline.afterTail₀
  rw [List.flatten_cons, List.flatten_nil, List.append_nil, Host.change5, table0, entry0, entry1, entry2, entry3]
  show changes (piece5 (packed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))) (piece5 (packed (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)))) (piece5 (packed (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)))) (piece5 (packed (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)))) = _
  rw [piece5_packed, piece5_packed, piece5_packed, piece5_packed]

/-- The program ends with the changes of small weight 6 in its result 6. -/
theorem change6_end : Pipeline.afterTail₀ cfgs (dats m) 0 (V0 m) [hostOps1] c main_v137
    = changes (m ((c : Thread nD τ).loc main_arg6)) (m ((c : Thread nD τ).loc main_arg14)) (m ((c : Thread nD τ).loc main_arg22)) (m ((c : Thread nD τ).loc main_arg30)) := by
  unfold Pipeline.afterTail₀
  rw [List.flatten_cons, List.flatten_nil, List.append_nil, Host.change6, table0, entry0, entry1, entry2, entry3]
  show changes (piece6 (packed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))) (piece6 (packed (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)))) (piece6 (packed (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)))) (piece6 (packed (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)))) = _
  rw [piece6_packed, piece6_packed, piece6_packed, piece6_packed]

/-- The program ends with the changes of small weight 7 in its result 7. -/
theorem change7_end : Pipeline.afterTail₀ cfgs (dats m) 0 (V0 m) [hostOps1] c main_v138
    = changes (m ((c : Thread nD τ).loc main_arg7)) (m ((c : Thread nD τ).loc main_arg15)) (m ((c : Thread nD τ).loc main_arg23)) (m ((c : Thread nD τ).loc main_arg31)) := by
  unfold Pipeline.afterTail₀
  rw [List.flatten_cons, List.flatten_nil, List.append_nil, Host.change7, table0, entry0, entry1, entry2, entry3]
  show changes (piece7 (packed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))) (piece7 (packed (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)))) (piece7 (packed (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)))) (piece7 (packed (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)))) = _
  rw [piece7_packed, piece7_packed, piece7_packed, piece7_packed]

/-- The program ends with the new first moments of small weight 0 in its result 8. -/
theorem first0_end : Pipeline.afterTail₀ cfgs (dats m) 0 (V0 m) [hostOps1] c main_v140
    = firsts (m ((c : Thread nD τ).loc main_arg8)) (m ((c : Thread nD τ).loc main_arg16)) := by
  unfold Pipeline.afterTail₀
  rw [List.flatten_cons, List.flatten_nil, List.append_nil, Host.first0, table1, entry1, entry2]
  show firsts (piece0 (packed (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)))) (piece0 (packed (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)))) = _
  rw [piece0_packed, piece0_packed]

/-- The program ends with the new first moments of small weight 1 in its result 9. -/
theorem first1_end : Pipeline.afterTail₀ cfgs (dats m) 0 (V0 m) [hostOps1] c main_v142
    = firsts (m ((c : Thread nD τ).loc main_arg9)) (m ((c : Thread nD τ).loc main_arg17)) := by
  unfold Pipeline.afterTail₀
  rw [List.flatten_cons, List.flatten_nil, List.append_nil, Host.first1, table1, entry1, entry2]
  show firsts (piece1 (packed (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)))) (piece1 (packed (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)))) = _
  rw [piece1_packed, piece1_packed]

/-- The program ends with the new first moments of small weight 2 in its result 10. -/
theorem first2_end : Pipeline.afterTail₀ cfgs (dats m) 0 (V0 m) [hostOps1] c main_v144
    = firsts (m ((c : Thread nD τ).loc main_arg10)) (m ((c : Thread nD τ).loc main_arg18)) := by
  unfold Pipeline.afterTail₀
  rw [List.flatten_cons, List.flatten_nil, List.append_nil, Host.first2, table1, entry1, entry2]
  show firsts (piece2 (packed (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)))) (piece2 (packed (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)))) = _
  rw [piece2_packed, piece2_packed]

/-- The program ends with the new first moments of small weight 3 in its result 11. -/
theorem first3_end : Pipeline.afterTail₀ cfgs (dats m) 0 (V0 m) [hostOps1] c main_v146
    = firsts (m ((c : Thread nD τ).loc main_arg11)) (m ((c : Thread nD τ).loc main_arg19)) := by
  unfold Pipeline.afterTail₀
  rw [List.flatten_cons, List.flatten_nil, List.append_nil, Host.first3, table1, entry1, entry2]
  show firsts (piece3 (packed (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)))) (piece3 (packed (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)))) = _
  rw [piece3_packed, piece3_packed]

/-- The program ends with the new first moments of small weight 4 in its result 12. -/
theorem first4_end : Pipeline.afterTail₀ cfgs (dats m) 0 (V0 m) [hostOps1] c main_v147
    = firsts (m ((c : Thread nD τ).loc main_arg12)) (m ((c : Thread nD τ).loc main_arg20)) := by
  unfold Pipeline.afterTail₀
  rw [List.flatten_cons, List.flatten_nil, List.append_nil, Host.first4, table1, entry1, entry2]
  show firsts (piece4 (packed (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)))) (piece4 (packed (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)))) = _
  rw [piece4_packed, piece4_packed]

/-- The program ends with the new first moments of small weight 5 in its result 13. -/
theorem first5_end : Pipeline.afterTail₀ cfgs (dats m) 0 (V0 m) [hostOps1] c main_v149
    = firsts (m ((c : Thread nD τ).loc main_arg13)) (m ((c : Thread nD τ).loc main_arg21)) := by
  unfold Pipeline.afterTail₀
  rw [List.flatten_cons, List.flatten_nil, List.append_nil, Host.first5, table1, entry1, entry2]
  show firsts (piece5 (packed (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)))) (piece5 (packed (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)))) = _
  rw [piece5_packed, piece5_packed]

/-- The program ends with the new first moments of small weight 6 in its result 14. -/
theorem first6_end : Pipeline.afterTail₀ cfgs (dats m) 0 (V0 m) [hostOps1] c main_v151
    = firsts (m ((c : Thread nD τ).loc main_arg14)) (m ((c : Thread nD τ).loc main_arg22)) := by
  unfold Pipeline.afterTail₀
  rw [List.flatten_cons, List.flatten_nil, List.append_nil, Host.first6, table1, entry1, entry2]
  show firsts (piece6 (packed (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)))) (piece6 (packed (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)))) = _
  rw [piece6_packed, piece6_packed]

/-- The program ends with the new first moments of small weight 7 in its result 15. -/
theorem first7_end : Pipeline.afterTail₀ cfgs (dats m) 0 (V0 m) [hostOps1] c main_v152
    = firsts (m ((c : Thread nD τ).loc main_arg15)) (m ((c : Thread nD τ).loc main_arg23)) := by
  unfold Pipeline.afterTail₀
  rw [List.flatten_cons, List.flatten_nil, List.append_nil, Host.first7, table1, entry1, entry2]
  show firsts (piece7 (packed (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)))) (piece7 (packed (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)))) = _
  rw [piece7_packed, piece7_packed]

/-- The program ends with the new second moments of small weight 0 in its result 16. -/
theorem second0_end : Pipeline.afterTail₀ cfgs (dats m) 0 (V0 m) [hostOps1] c main_v154
    = seconds (m ((c : Thread nD τ).loc main_arg8)) (m ((c : Thread nD τ).loc main_arg24)) := by
  unfold Pipeline.afterTail₀
  rw [List.flatten_cons, List.flatten_nil, List.append_nil, Host.second0, table2, entry1, entry3]
  show seconds (piece0 (packed (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)))) (piece0 (packed (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)))) = _
  rw [piece0_packed, piece0_packed]

/-- The program ends with the new second moments of small weight 1 in its result 17. -/
theorem second1_end : Pipeline.afterTail₀ cfgs (dats m) 0 (V0 m) [hostOps1] c main_v156
    = seconds (m ((c : Thread nD τ).loc main_arg9)) (m ((c : Thread nD τ).loc main_arg25)) := by
  unfold Pipeline.afterTail₀
  rw [List.flatten_cons, List.flatten_nil, List.append_nil, Host.second1, table2, entry1, entry3]
  show seconds (piece1 (packed (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)))) (piece1 (packed (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)))) = _
  rw [piece1_packed, piece1_packed]

/-- The program ends with the new second moments of small weight 2 in its result 18. -/
theorem second2_end : Pipeline.afterTail₀ cfgs (dats m) 0 (V0 m) [hostOps1] c main_v158
    = seconds (m ((c : Thread nD τ).loc main_arg10)) (m ((c : Thread nD τ).loc main_arg26)) := by
  unfold Pipeline.afterTail₀
  rw [List.flatten_cons, List.flatten_nil, List.append_nil, Host.second2, table2, entry1, entry3]
  show seconds (piece2 (packed (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)))) (piece2 (packed (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)))) = _
  rw [piece2_packed, piece2_packed]

/-- The program ends with the new second moments of small weight 3 in its result 19. -/
theorem second3_end : Pipeline.afterTail₀ cfgs (dats m) 0 (V0 m) [hostOps1] c main_v160
    = seconds (m ((c : Thread nD τ).loc main_arg11)) (m ((c : Thread nD τ).loc main_arg27)) := by
  unfold Pipeline.afterTail₀
  rw [List.flatten_cons, List.flatten_nil, List.append_nil, Host.second3, table2, entry1, entry3]
  show seconds (piece3 (packed (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)))) (piece3 (packed (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)))) = _
  rw [piece3_packed, piece3_packed]

/-- The program ends with the new second moments of small weight 4 in its result 20. -/
theorem second4_end : Pipeline.afterTail₀ cfgs (dats m) 0 (V0 m) [hostOps1] c main_v161
    = seconds (m ((c : Thread nD τ).loc main_arg12)) (m ((c : Thread nD τ).loc main_arg28)) := by
  unfold Pipeline.afterTail₀
  rw [List.flatten_cons, List.flatten_nil, List.append_nil, Host.second4, table2, entry1, entry3]
  show seconds (piece4 (packed (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)))) (piece4 (packed (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)))) = _
  rw [piece4_packed, piece4_packed]

/-- The program ends with the new second moments of small weight 5 in its result 21. -/
theorem second5_end : Pipeline.afterTail₀ cfgs (dats m) 0 (V0 m) [hostOps1] c main_v163
    = seconds (m ((c : Thread nD τ).loc main_arg13)) (m ((c : Thread nD τ).loc main_arg29)) := by
  unfold Pipeline.afterTail₀
  rw [List.flatten_cons, List.flatten_nil, List.append_nil, Host.second5, table2, entry1, entry3]
  show seconds (piece5 (packed (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)))) (piece5 (packed (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)))) = _
  rw [piece5_packed, piece5_packed]

/-- The program ends with the new second moments of small weight 6 in its result 22. -/
theorem second6_end : Pipeline.afterTail₀ cfgs (dats m) 0 (V0 m) [hostOps1] c main_v165
    = seconds (m ((c : Thread nD τ).loc main_arg14)) (m ((c : Thread nD τ).loc main_arg30)) := by
  unfold Pipeline.afterTail₀
  rw [List.flatten_cons, List.flatten_nil, List.append_nil, Host.second6, table2, entry1, entry3]
  show seconds (piece6 (packed (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)))) (piece6 (packed (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)))) = _
  rw [piece6_packed, piece6_packed]

/-- The program ends with the new second moments of small weight 7 in its result 23. -/
theorem second7_end : Pipeline.afterTail₀ cfgs (dats m) 0 (V0 m) [hostOps1] c main_v166
    = seconds (m ((c : Thread nD τ).loc main_arg15)) (m ((c : Thread nD τ).loc main_arg31)) := by
  unfold Pipeline.afterTail₀
  rw [List.flatten_cons, List.flatten_nil, List.append_nil, Host.second7, table2, entry1, entry3]
  show seconds (piece7 (packed (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)))) (piece7 (packed (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)))) = _
  rw [piece7_packed, piece7_packed]

/-- The program's run ends with the changes and new moments of the eight small weights in its results and keeps its arguments. -/
theorem run : θ_run defs (onTc (τ := τ) (main (F := Ideal))) ⟨m, fun _ => 0, ρ⟩ (fun r => ∀ c : Dev nD,
      r.2.mem ((c : Thread nD τ).loc main_v126) = changes (m ((c : Thread nD τ).loc main_arg0)) (m ((c : Thread nD τ).loc main_arg8)) (m ((c : Thread nD τ).loc main_arg16)) (m ((c : Thread nD τ).loc main_arg24))
      ∧ r.2.mem ((c : Thread nD τ).loc main_v128) = changes (m ((c : Thread nD τ).loc main_arg1)) (m ((c : Thread nD τ).loc main_arg9)) (m ((c : Thread nD τ).loc main_arg17)) (m ((c : Thread nD τ).loc main_arg25))
      ∧ r.2.mem ((c : Thread nD τ).loc main_v130) = changes (m ((c : Thread nD τ).loc main_arg2)) (m ((c : Thread nD τ).loc main_arg10)) (m ((c : Thread nD τ).loc main_arg18)) (m ((c : Thread nD τ).loc main_arg26))
      ∧ r.2.mem ((c : Thread nD τ).loc main_v132) = changes (m ((c : Thread nD τ).loc main_arg3)) (m ((c : Thread nD τ).loc main_arg11)) (m ((c : Thread nD τ).loc main_arg19)) (m ((c : Thread nD τ).loc main_arg27))
      ∧ r.2.mem ((c : Thread nD τ).loc main_v133) = changes (m ((c : Thread nD τ).loc main_arg4)) (m ((c : Thread nD τ).loc main_arg12)) (m ((c : Thread nD τ).loc main_arg20)) (m ((c : Thread nD τ).loc main_arg28))
      ∧ r.2.mem ((c : Thread nD τ).loc main_v135) = changes (m ((c : Thread nD τ).loc main_arg5)) (m ((c : Thread nD τ).loc main_arg13)) (m ((c : Thread nD τ).loc main_arg21)) (m ((c : Thread nD τ).loc main_arg29))
      ∧ r.2.mem ((c : Thread nD τ).loc main_v137) = changes (m ((c : Thread nD τ).loc main_arg6)) (m ((c : Thread nD τ).loc main_arg14)) (m ((c : Thread nD τ).loc main_arg22)) (m ((c : Thread nD τ).loc main_arg30))
      ∧ r.2.mem ((c : Thread nD τ).loc main_v138) = changes (m ((c : Thread nD τ).loc main_arg7)) (m ((c : Thread nD τ).loc main_arg15)) (m ((c : Thread nD τ).loc main_arg23)) (m ((c : Thread nD τ).loc main_arg31))
      ∧ r.2.mem ((c : Thread nD τ).loc main_v140) = firsts (m ((c : Thread nD τ).loc main_arg8)) (m ((c : Thread nD τ).loc main_arg16))
      ∧ r.2.mem ((c : Thread nD τ).loc main_v142) = firsts (m ((c : Thread nD τ).loc main_arg9)) (m ((c : Thread nD τ).loc main_arg17))
      ∧ r.2.mem ((c : Thread nD τ).loc main_v144) = firsts (m ((c : Thread nD τ).loc main_arg10)) (m ((c : Thread nD τ).loc main_arg18))
      ∧ r.2.mem ((c : Thread nD τ).loc main_v146) = firsts (m ((c : Thread nD τ).loc main_arg11)) (m ((c : Thread nD τ).loc main_arg19))
      ∧ r.2.mem ((c : Thread nD τ).loc main_v147) = firsts (m ((c : Thread nD τ).loc main_arg12)) (m ((c : Thread nD τ).loc main_arg20))
      ∧ r.2.mem ((c : Thread nD τ).loc main_v149) = firsts (m ((c : Thread nD τ).loc main_arg13)) (m ((c : Thread nD τ).loc main_arg21))
      ∧ r.2.mem ((c : Thread nD τ).loc main_v151) = firsts (m ((c : Thread nD τ).loc main_arg14)) (m ((c : Thread nD τ).loc main_arg22))
      ∧ r.2.mem ((c : Thread nD τ).loc main_v152) = firsts (m ((c : Thread nD τ).loc main_arg15)) (m ((c : Thread nD τ).loc main_arg23))
      ∧ r.2.mem ((c : Thread nD τ).loc main_v154) = seconds (m ((c : Thread nD τ).loc main_arg8)) (m ((c : Thread nD τ).loc main_arg24))
      ∧ r.2.mem ((c : Thread nD τ).loc main_v156) = seconds (m ((c : Thread nD τ).loc main_arg9)) (m ((c : Thread nD τ).loc main_arg25))
      ∧ r.2.mem ((c : Thread nD τ).loc main_v158) = seconds (m ((c : Thread nD τ).loc main_arg10)) (m ((c : Thread nD τ).loc main_arg26))
      ∧ r.2.mem ((c : Thread nD τ).loc main_v160) = seconds (m ((c : Thread nD τ).loc main_arg11)) (m ((c : Thread nD τ).loc main_arg27))
      ∧ r.2.mem ((c : Thread nD τ).loc main_v161) = seconds (m ((c : Thread nD τ).loc main_arg12)) (m ((c : Thread nD τ).loc main_arg28))
      ∧ r.2.mem ((c : Thread nD τ).loc main_v163) = seconds (m ((c : Thread nD τ).loc main_arg13)) (m ((c : Thread nD τ).loc main_arg29))
      ∧ r.2.mem ((c : Thread nD τ).loc main_v165) = seconds (m ((c : Thread nD τ).loc main_arg14)) (m ((c : Thread nD τ).loc main_arg30))
      ∧ r.2.mem ((c : Thread nD τ).loc main_v166) = seconds (m ((c : Thread nD τ).loc main_arg15)) (m ((c : Thread nD τ).loc main_arg31))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24)
      ∧ r.2.mem ((c : Thread nD τ).loc main_arg25) = m ((c : Thread nD τ).loc main_arg25)
      ∧ r.2.mem ((c : Thread nD τ).loc main_arg26) = m ((c : Thread nD τ).loc main_arg26)
      ∧ r.2.mem ((c : Thread nD τ).loc main_arg27) = m ((c : Thread nD τ).loc main_arg27)
      ∧ r.2.mem ((c : Thread nD τ).loc main_arg28) = m ((c : Thread nD τ).loc main_arg28)
      ∧ r.2.mem ((c : Thread nD τ).loc main_arg29) = m ((c : Thread nD τ).loc main_arg29)
      ∧ r.2.mem ((c : Thread nD τ).loc main_arg30) = m ((c : Thread nD τ).loc main_arg30)
      ∧ r.2.mem ((c : Thread nD τ).loc main_arg31) = m ((c : Thread nD τ).loc main_arg31)) :=
  (θ_run defs _ _).mono (fun r h c => ⟨((h c).2 main_v126 (Pipeline.mem_restRefs_of main_v126 (by decide) (by decide))).trans (change0_end m c),
      ((h c).2 main_v128 (Pipeline.mem_restRefs_of main_v128 (by decide) (by decide))).trans (change1_end m c),
      ((h c).2 main_v130 (Pipeline.mem_restRefs_of main_v130 (by decide) (by decide))).trans (change2_end m c),
      ((h c).2 main_v132 (Pipeline.mem_restRefs_of main_v132 (by decide) (by decide))).trans (change3_end m c),
      ((h c).2 main_v133 (Pipeline.mem_restRefs_of main_v133 (by decide) (by decide))).trans (change4_end m c),
      ((h c).2 main_v135 (Pipeline.mem_restRefs_of main_v135 (by decide) (by decide))).trans (change5_end m c),
      ((h c).2 main_v137 (Pipeline.mem_restRefs_of main_v137 (by decide) (by decide))).trans (change6_end m c),
      ((h c).2 main_v138 (Pipeline.mem_restRefs_of main_v138 (by decide) (by decide))).trans (change7_end m c),
      ((h c).2 main_v140 (Pipeline.mem_restRefs_of main_v140 (by decide) (by decide))).trans (first0_end m c),
      ((h c).2 main_v142 (Pipeline.mem_restRefs_of main_v142 (by decide) (by decide))).trans (first1_end m c),
      ((h c).2 main_v144 (Pipeline.mem_restRefs_of main_v144 (by decide) (by decide))).trans (first2_end m c),
      ((h c).2 main_v146 (Pipeline.mem_restRefs_of main_v146 (by decide) (by decide))).trans (first3_end m c),
      ((h c).2 main_v147 (Pipeline.mem_restRefs_of main_v147 (by decide) (by decide))).trans (first4_end m c),
      ((h c).2 main_v149 (Pipeline.mem_restRefs_of main_v149 (by decide) (by decide))).trans (first5_end m c),
      ((h c).2 main_v151 (Pipeline.mem_restRefs_of main_v151 (by decide) (by decide))).trans (first6_end m c),
      ((h c).2 main_v152 (Pipeline.mem_restRefs_of main_v152 (by decide) (by decide))).trans (first7_end m c),
      ((h c).2 main_v154 (Pipeline.mem_restRefs_of main_v154 (by decide) (by decide))).trans (second0_end m c),
      ((h c).2 main_v156 (Pipeline.mem_restRefs_of main_v156 (by decide) (by decide))).trans (second1_end m c),
      ((h c).2 main_v158 (Pipeline.mem_restRefs_of main_v158 (by decide) (by decide))).trans (second2_end m c),
      ((h c).2 main_v160 (Pipeline.mem_restRefs_of main_v160 (by decide) (by decide))).trans (second3_end m c),
      ((h c).2 main_v161 (Pipeline.mem_restRefs_of main_v161 (by decide) (by decide))).trans (second4_end m c),
      ((h c).2 main_v163 (Pipeline.mem_restRefs_of main_v163 (by decide) (by decide))).trans (second5_end m c),
      ((h c).2 main_v165 (Pipeline.mem_restRefs_of main_v165 (by decide) (by decide))).trans (second6_end m c),
      ((h c).2 main_v166 (Pipeline.mem_restRefs_of main_v166 (by decide) (by decide))).trans (second7_end m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c),
      ((h c).2 main_arg14 (Pipeline.mem_restRefs_of main_arg14 (by decide) (by decide))).trans (W_main_arg14 m (dats m) c),
      ((h c).2 main_arg15 (Pipeline.mem_restRefs_of main_arg15 (by decide) (by decide))).trans (W_main_arg15 m (dats m) c),
      ((h c).2 main_arg16 (Pipeline.mem_restRefs_of main_arg16 (by decide) (by decide))).trans (W_main_arg16 m (dats m) c),
      ((h c).2 main_arg17 (Pipeline.mem_restRefs_of main_arg17 (by decide) (by decide))).trans (W_main_arg17 m (dats m) c),
      ((h c).2 main_arg18 (Pipeline.mem_restRefs_of main_arg18 (by decide) (by decide))).trans (W_main_arg18 m (dats m) c),
      ((h c).2 main_arg19 (Pipeline.mem_restRefs_of main_arg19 (by decide) (by decide))).trans (W_main_arg19 m (dats m) c),
      ((h c).2 main_arg20 (Pipeline.mem_restRefs_of main_arg20 (by decide) (by decide))).trans (W_main_arg20 m (dats m) c),
      ((h c).2 main_arg21 (Pipeline.mem_restRefs_of main_arg21 (by decide) (by decide))).trans (W_main_arg21 m (dats m) c),
      ((h c).2 main_arg22 (Pipeline.mem_restRefs_of main_arg22 (by decide) (by decide))).trans (W_main_arg22 m (dats m) c),
      ((h c).2 main_arg23 (Pipeline.mem_restRefs_of main_arg23 (by decide) (by decide))).trans (W_main_arg23 m (dats m) c),
      ((h c).2 main_arg24 (Pipeline.mem_restRefs_of main_arg24 (by decide) (by decide))).trans (W_main_arg24 m (dats m) c),
      ((h c).2 main_arg25 (Pipeline.mem_restRefs_of main_arg25 (by decide) (by decide))).trans (W_main_arg25 m (dats m) c),
      ((h c).2 main_arg26 (Pipeline.mem_restRefs_of main_arg26 (by decide) (by decide))).trans (W_main_arg26 m (dats m) c),
      ((h c).2 main_arg27 (Pipeline.mem_restRefs_of main_arg27 (by decide) (by decide))).trans (W_main_arg27 m (dats m) c),
      ((h c).2 main_arg28 (Pipeline.mem_restRefs_of main_arg28 (by decide) (by decide))).trans (W_main_arg28 m (dats m) c),
      ((h c).2 main_arg29 (Pipeline.mem_restRefs_of main_arg29 (by decide) (by decide))).trans (W_main_arg29 m (dats m) c),
      ((h c).2 main_arg30 (Pipeline.mem_restRefs_of main_arg30 (by decide) (by decide))).trans (W_main_arg30 m (dats m) c),
      ((h c).2 main_arg31 (Pipeline.mem_restRefs_of main_arg31 (by decide) (by decide))).trans (W_main_arg31 m (dats m) c)⟩) (run_main m ρ)

/-- The reference's run ends with the same changes and new moments of its arguments and keeps them. -/
theorem reference_run (m' : (ℓ : Loc Cert.AdamSmallReferenceIdeal.nD Cert.AdamSmallReferenceIdeal.τ Cert.AdamSmallReferenceIdeal.sig) → Buf (Elt Ideal) ℓ) (ρ' : Dev Cert.AdamSmallReferenceIdeal.nD → PrngReg) :
    θ_run Cert.AdamSmallReferenceIdeal.defs (onTc (τ := Cert.AdamSmallReferenceIdeal.τ) (Cert.AdamSmallReferenceIdeal.main (F := Ideal))) ⟨m', fun _ => 0, ρ'⟩
      fun r => ∀ c : Dev Cert.AdamSmallReferenceIdeal.nD,
        r.2.mem ((c : Thread Cert.AdamSmallReferenceIdeal.nD Cert.AdamSmallReferenceIdeal.τ).loc Cert.AdamSmallReferenceIdeal.main_v23) = changes (m' ((c : Thread Cert.AdamSmallReferenceIdeal.nD Cert.AdamSmallReferenceIdeal.τ).loc Cert.AdamSmallReferenceIdeal.main_arg0)) (m' ((c : Thread Cert.AdamSmallReferenceIdeal.nD Cert.AdamSmallReferenceIdeal.τ).loc Cert.AdamSmallReferenceIdeal.main_arg8)) (m' ((c : Thread Cert.AdamSmallReferenceIdeal.nD Cert.AdamSmallReferenceIdeal.τ).loc Cert.AdamSmallReferenceIdeal.main_arg16)) (m' ((c : Thread Cert.AdamSmallReferenceIdeal.nD Cert.AdamSmallReferenceIdeal.τ).loc Cert.AdamSmallReferenceIdeal.main_arg24))
        ∧ r.2.mem ((c : Thread Cert.AdamSmallReferenceIdeal.nD Cert.AdamSmallReferenceIdeal.τ).loc Cert.AdamSmallReferenceIdeal.main_v47) = changes (m' ((c : Thread Cert.AdamSmallReferenceIdeal.nD Cert.AdamSmallReferenceIdeal.τ).loc Cert.AdamSmallReferenceIdeal.main_arg1)) (m' ((c : Thread Cert.AdamSmallReferenceIdeal.nD Cert.AdamSmallReferenceIdeal.τ).loc Cert.AdamSmallReferenceIdeal.main_arg9)) (m' ((c : Thread Cert.AdamSmallReferenceIdeal.nD Cert.AdamSmallReferenceIdeal.τ).loc Cert.AdamSmallReferenceIdeal.main_arg17)) (m' ((c : Thread Cert.AdamSmallReferenceIdeal.nD Cert.AdamSmallReferenceIdeal.τ).loc Cert.AdamSmallReferenceIdeal.main_arg25))
        ∧ r.2.mem ((c : Thread Cert.AdamSmallReferenceIdeal.nD Cert.AdamSmallReferenceIdeal.τ).loc Cert.AdamSmallReferenceIdeal.main_v71) = changes (m' ((c : Thread Cert.AdamSmallReferenceIdeal.nD Cert.AdamSmallReferenceIdeal.τ).loc Cert.AdamSmallReferenceIdeal.main_arg2)) (m' ((c : Thread Cert.AdamSmallReferenceIdeal.nD Cert.AdamSmallReferenceIdeal.τ).loc Cert.AdamSmallReferenceIdeal.main_arg10)) (m' ((c : Thread Cert.AdamSmallReferenceIdeal.nD Cert.AdamSmallReferenceIdeal.τ).loc Cert.AdamSmallReferenceIdeal.main_arg18)) (m' ((c : Thread Cert.AdamSmallReferenceIdeal.nD Cert.AdamSmallReferenceIdeal.τ).loc Cert.AdamSmallReferenceIdeal.main_arg26))
        ∧ r.2.mem ((c : Thread Cert.AdamSmallReferenceIdeal.nD Cert.AdamSmallReferenceIdeal.τ).loc Cert.AdamSmallReferenceIdeal.main_v95) = changes (m' ((c : Thread Cert.AdamSmallReferenceIdeal.nD Cert.AdamSmallReferenceIdeal.τ).loc Cert.AdamSmallReferenceIdeal.main_arg3)) (m' ((c : Thread Cert.AdamSmallReferenceIdeal.nD Cert.AdamSmallReferenceIdeal.τ).loc Cert.AdamSmallReferenceIdeal.main_arg11)) (m' ((c : Thread Cert.AdamSmallReferenceIdeal.nD Cert.AdamSmallReferenceIdeal.τ).loc Cert.AdamSmallReferenceIdeal.main_arg19)) (m' ((c : Thread Cert.AdamSmallReferenceIdeal.nD Cert.AdamSmallReferenceIdeal.τ).loc Cert.AdamSmallReferenceIdeal.main_arg27))
        ∧ r.2.mem ((c : Thread Cert.AdamSmallReferenceIdeal.nD Cert.AdamSmallReferenceIdeal.τ).loc Cert.AdamSmallReferenceIdeal.main_v119) = changes (m' ((c : Thread Cert.AdamSmallReferenceIdeal.nD Cert.AdamSmallReferenceIdeal.τ).loc Cert.AdamSmallReferenceIdeal.main_arg4)) (m' ((c : Thread Cert.AdamSmallReferenceIdeal.nD Cert.AdamSmallReferenceIdeal.τ).loc Cert.AdamSmallReferenceIdeal.main_arg12)) (m' ((c : Thread Cert.AdamSmallReferenceIdeal.nD Cert.AdamSmallReferenceIdeal.τ).loc Cert.AdamSmallReferenceIdeal.main_arg20)) (m' ((c : Thread Cert.AdamSmallReferenceIdeal.nD Cert.AdamSmallReferenceIdeal.τ).loc Cert.AdamSmallReferenceIdeal.main_arg28))
        ∧ r.2.mem ((c : Thread Cert.AdamSmallReferenceIdeal.nD Cert.AdamSmallReferenceIdeal.τ).loc Cert.AdamSmallReferenceIdeal.main_v143) = changes (m' ((c : Thread Cert.AdamSmallReferenceIdeal.nD Cert.AdamSmallReferenceIdeal.τ).loc Cert.AdamSmallReferenceIdeal.main_arg5)) (m' ((c : Thread Cert.AdamSmallReferenceIdeal.nD Cert.AdamSmallReferenceIdeal.τ).loc Cert.AdamSmallReferenceIdeal.main_arg13)) (m' ((c : Thread Cert.AdamSmallReferenceIdeal.nD Cert.AdamSmallReferenceIdeal.τ).loc Cert.AdamSmallReferenceIdeal.main_arg21)) (m' ((c : Thread Cert.AdamSmallReferenceIdeal.nD Cert.AdamSmallReferenceIdeal.τ).loc Cert.AdamSmallReferenceIdeal.main_arg29))
        ∧ r.2.mem ((c : Thread Cert.AdamSmallReferenceIdeal.nD Cert.AdamSmallReferenceIdeal.τ).loc Cert.AdamSmallReferenceIdeal.main_v167) = changes (m' ((c : Thread Cert.AdamSmallReferenceIdeal.nD Cert.AdamSmallReferenceIdeal.τ).loc Cert.AdamSmallReferenceIdeal.main_arg6)) (m' ((c : Thread Cert.AdamSmallReferenceIdeal.nD Cert.AdamSmallReferenceIdeal.τ).loc Cert.AdamSmallReferenceIdeal.main_arg14)) (m' ((c : Thread Cert.AdamSmallReferenceIdeal.nD Cert.AdamSmallReferenceIdeal.τ).loc Cert.AdamSmallReferenceIdeal.main_arg22)) (m' ((c : Thread Cert.AdamSmallReferenceIdeal.nD Cert.AdamSmallReferenceIdeal.τ).loc Cert.AdamSmallReferenceIdeal.main_arg30))
        ∧ r.2.mem ((c : Thread Cert.AdamSmallReferenceIdeal.nD Cert.AdamSmallReferenceIdeal.τ).loc Cert.AdamSmallReferenceIdeal.main_v191) = changes (m' ((c : Thread Cert.AdamSmallReferenceIdeal.nD Cert.AdamSmallReferenceIdeal.τ).loc Cert.AdamSmallReferenceIdeal.main_arg7)) (m' ((c : Thread Cert.AdamSmallReferenceIdeal.nD Cert.AdamSmallReferenceIdeal.τ).loc Cert.AdamSmallReferenceIdeal.main_arg15)) (m' ((c : Thread Cert.AdamSmallReferenceIdeal.nD Cert.AdamSmallReferenceIdeal.τ).loc Cert.AdamSmallReferenceIdeal.main_arg23)) (m' ((c : Thread Cert.AdamSmallReferenceIdeal.nD Cert.AdamSmallReferenceIdeal.τ).loc Cert.AdamSmallReferenceIdeal.main_arg31))
        ∧ r.2.mem ((c : Thread Cert.AdamSmallReferenceIdeal.nD Cert.AdamSmallReferenceIdeal.τ).loc Cert.AdamSmallReferenceIdeal.main_v4) = firsts (m' ((c : Thread Cert.AdamSmallReferenceIdeal.nD Cert.AdamSmallReferenceIdeal.τ).loc Cert.AdamSmallReferenceIdeal.main_arg8)) (m' ((c : Thread Cert.AdamSmallReferenceIdeal.nD Cert.AdamSmallReferenceIdeal.τ).loc Cert.AdamSmallReferenceIdeal.main_arg16))
        ∧ r.2.mem ((c : Thread Cert.AdamSmallReferenceIdeal.nD Cert.AdamSmallReferenceIdeal.τ).loc Cert.AdamSmallReferenceIdeal.main_v28) = firsts (m' ((c : Thread Cert.AdamSmallReferenceIdeal.nD Cert.AdamSmallReferenceIdeal.τ).loc Cert.AdamSmallReferenceIdeal.main_arg9)) (m' ((c : Thread Cert.AdamSmallReferenceIdeal.nD Cert.AdamSmallReferenceIdeal.τ).loc Cert.AdamSmallReferenceIdeal.main_arg17))
        ∧ r.2.mem ((c : Thread Cert.AdamSmallReferenceIdeal.nD Cert.AdamSmallReferenceIdeal.τ).loc Cert.AdamSmallReferenceIdeal.main_v52) = firsts (m' ((c : Thread Cert.AdamSmallReferenceIdeal.nD Cert.AdamSmallReferenceIdeal.τ).loc Cert.AdamSmallReferenceIdeal.main_arg10)) (m' ((c : Thread Cert.AdamSmallReferenceIdeal.nD Cert.AdamSmallReferenceIdeal.τ).loc Cert.AdamSmallReferenceIdeal.main_arg18))
        ∧ r.2.mem ((c : Thread Cert.AdamSmallReferenceIdeal.nD Cert.AdamSmallReferenceIdeal.τ).loc Cert.AdamSmallReferenceIdeal.main_v76) = firsts (m' ((c : Thread Cert.AdamSmallReferenceIdeal.nD Cert.AdamSmallReferenceIdeal.τ).loc Cert.AdamSmallReferenceIdeal.main_arg11)) (m' ((c : Thread Cert.AdamSmallReferenceIdeal.nD Cert.AdamSmallReferenceIdeal.τ).loc Cert.AdamSmallReferenceIdeal.main_arg19))
        ∧ r.2.mem ((c : Thread Cert.AdamSmallReferenceIdeal.nD Cert.AdamSmallReferenceIdeal.τ).loc Cert.AdamSmallReferenceIdeal.main_v100) = firsts (m' ((c : Thread Cert.AdamSmallReferenceIdeal.nD Cert.AdamSmallReferenceIdeal.τ).loc Cert.AdamSmallReferenceIdeal.main_arg12)) (m' ((c : Thread Cert.AdamSmallReferenceIdeal.nD Cert.AdamSmallReferenceIdeal.τ).loc Cert.AdamSmallReferenceIdeal.main_arg20))
        ∧ r.2.mem ((c : Thread Cert.AdamSmallReferenceIdeal.nD Cert.AdamSmallReferenceIdeal.τ).loc Cert.AdamSmallReferenceIdeal.main_v124) = firsts (m' ((c : Thread Cert.AdamSmallReferenceIdeal.nD Cert.AdamSmallReferenceIdeal.τ).loc Cert.AdamSmallReferenceIdeal.main_arg13)) (m' ((c : Thread Cert.AdamSmallReferenceIdeal.nD Cert.AdamSmallReferenceIdeal.τ).loc Cert.AdamSmallReferenceIdeal.main_arg21))
        ∧ r.2.mem ((c : Thread Cert.AdamSmallReferenceIdeal.nD Cert.AdamSmallReferenceIdeal.τ).loc Cert.AdamSmallReferenceIdeal.main_v148) = firsts (m' ((c : Thread Cert.AdamSmallReferenceIdeal.nD Cert.AdamSmallReferenceIdeal.τ).loc Cert.AdamSmallReferenceIdeal.main_arg14)) (m' ((c : Thread Cert.AdamSmallReferenceIdeal.nD Cert.AdamSmallReferenceIdeal.τ).loc Cert.AdamSmallReferenceIdeal.main_arg22))
        ∧ r.2.mem ((c : Thread Cert.AdamSmallReferenceIdeal.nD Cert.AdamSmallReferenceIdeal.τ).loc Cert.AdamSmallReferenceIdeal.main_v172) = firsts (m' ((c : Thread Cert.AdamSmallReferenceIdeal.nD Cert.AdamSmallReferenceIdeal.τ).loc Cert.AdamSmallReferenceIdeal.main_arg15)) (m' ((c : Thread Cert.AdamSmallReferenceIdeal.nD Cert.AdamSmallReferenceIdeal.τ).loc Cert.AdamSmallReferenceIdeal.main_arg23))
        ∧ r.2.mem ((c : Thread Cert.AdamSmallReferenceIdeal.nD Cert.AdamSmallReferenceIdeal.τ).loc Cert.AdamSmallReferenceIdeal.main_v10) = seconds (m' ((c : Thread Cert.AdamSmallReferenceIdeal.nD Cert.AdamSmallReferenceIdeal.τ).loc Cert.AdamSmallReferenceIdeal.main_arg8)) (m' ((c : Thread Cert.AdamSmallReferenceIdeal.nD Cert.AdamSmallReferenceIdeal.τ).loc Cert.AdamSmallReferenceIdeal.main_arg24))
        ∧ r.2.mem ((c : Thread Cert.AdamSmallReferenceIdeal.nD Cert.AdamSmallReferenceIdeal.τ).loc Cert.AdamSmallReferenceIdeal.main_v34) = seconds (m' ((c : Thread Cert.AdamSmallReferenceIdeal.nD Cert.AdamSmallReferenceIdeal.τ).loc Cert.AdamSmallReferenceIdeal.main_arg9)) (m' ((c : Thread Cert.AdamSmallReferenceIdeal.nD Cert.AdamSmallReferenceIdeal.τ).loc Cert.AdamSmallReferenceIdeal.main_arg25))
        ∧ r.2.mem ((c : Thread Cert.AdamSmallReferenceIdeal.nD Cert.AdamSmallReferenceIdeal.τ).loc Cert.AdamSmallReferenceIdeal.main_v58) = seconds (m' ((c : Thread Cert.AdamSmallReferenceIdeal.nD Cert.AdamSmallReferenceIdeal.τ).loc Cert.AdamSmallReferenceIdeal.main_arg10)) (m' ((c : Thread Cert.AdamSmallReferenceIdeal.nD Cert.AdamSmallReferenceIdeal.τ).loc Cert.AdamSmallReferenceIdeal.main_arg26))
        ∧ r.2.mem ((c : Thread Cert.AdamSmallReferenceIdeal.nD Cert.AdamSmallReferenceIdeal.τ).loc Cert.AdamSmallReferenceIdeal.main_v82) = seconds (m' ((c : Thread Cert.AdamSmallReferenceIdeal.nD Cert.AdamSmallReferenceIdeal.τ).loc Cert.AdamSmallReferenceIdeal.main_arg11)) (m' ((c : Thread Cert.AdamSmallReferenceIdeal.nD Cert.AdamSmallReferenceIdeal.τ).loc Cert.AdamSmallReferenceIdeal.main_arg27))
        ∧ r.2.mem ((c : Thread Cert.AdamSmallReferenceIdeal.nD Cert.AdamSmallReferenceIdeal.τ).loc Cert.AdamSmallReferenceIdeal.main_v106) = seconds (m' ((c : Thread Cert.AdamSmallReferenceIdeal.nD Cert.AdamSmallReferenceIdeal.τ).loc Cert.AdamSmallReferenceIdeal.main_arg12)) (m' ((c : Thread Cert.AdamSmallReferenceIdeal.nD Cert.AdamSmallReferenceIdeal.τ).loc Cert.AdamSmallReferenceIdeal.main_arg28))
        ∧ r.2.mem ((c : Thread Cert.AdamSmallReferenceIdeal.nD Cert.AdamSmallReferenceIdeal.τ).loc Cert.AdamSmallReferenceIdeal.main_v130) = seconds (m' ((c : Thread Cert.AdamSmallReferenceIdeal.nD Cert.AdamSmallReferenceIdeal.τ).loc Cert.AdamSmallReferenceIdeal.main_arg13)) (m' ((c : Thread Cert.AdamSmallReferenceIdeal.nD Cert.AdamSmallReferenceIdeal.τ).loc Cert.AdamSmallReferenceIdeal.main_arg29))
        ∧ r.2.mem ((c : Thread Cert.AdamSmallReferenceIdeal.nD Cert.AdamSmallReferenceIdeal.τ).loc Cert.AdamSmallReferenceIdeal.main_v154) = seconds (m' ((c : Thread Cert.AdamSmallReferenceIdeal.nD Cert.AdamSmallReferenceIdeal.τ).loc Cert.AdamSmallReferenceIdeal.main_arg14)) (m' ((c : Thread Cert.AdamSmallReferenceIdeal.nD Cert.AdamSmallReferenceIdeal.τ).loc Cert.AdamSmallReferenceIdeal.main_arg30))
        ∧ r.2.mem ((c : Thread Cert.AdamSmallReferenceIdeal.nD Cert.AdamSmallReferenceIdeal.τ).loc Cert.AdamSmallReferenceIdeal.main_v178) = seconds (m' ((c : Thread Cert.AdamSmallReferenceIdeal.nD Cert.AdamSmallReferenceIdeal.τ).loc Cert.AdamSmallReferenceIdeal.main_arg15)) (m' ((c : Thread Cert.AdamSmallReferenceIdeal.nD Cert.AdamSmallReferenceIdeal.τ).loc Cert.AdamSmallReferenceIdeal.main_arg31))
        ∧ r.2.mem ((c : Thread Cert.AdamSmallReferenceIdeal.nD Cert.AdamSmallReferenceIdeal.τ).loc Cert.AdamSmallReferenceIdeal.main_arg0) = m' ((c : Thread Cert.AdamSmallReferenceIdeal.nD Cert.AdamSmallReferenceIdeal.τ).loc Cert.AdamSmallReferenceIdeal.main_arg0)
        ∧ r.2.mem ((c : Thread Cert.AdamSmallReferenceIdeal.nD Cert.AdamSmallReferenceIdeal.τ).loc Cert.AdamSmallReferenceIdeal.main_arg1) = m' ((c : Thread Cert.AdamSmallReferenceIdeal.nD Cert.AdamSmallReferenceIdeal.τ).loc Cert.AdamSmallReferenceIdeal.main_arg1)
        ∧ r.2.mem ((c : Thread Cert.AdamSmallReferenceIdeal.nD Cert.AdamSmallReferenceIdeal.τ).loc Cert.AdamSmallReferenceIdeal.main_arg2) = m' ((c : Thread Cert.AdamSmallReferenceIdeal.nD Cert.AdamSmallReferenceIdeal.τ).loc Cert.AdamSmallReferenceIdeal.main_arg2)
        ∧ r.2.mem ((c : Thread Cert.AdamSmallReferenceIdeal.nD Cert.AdamSmallReferenceIdeal.τ).loc Cert.AdamSmallReferenceIdeal.main_arg3) = m' ((c : Thread Cert.AdamSmallReferenceIdeal.nD Cert.AdamSmallReferenceIdeal.τ).loc Cert.AdamSmallReferenceIdeal.main_arg3)
        ∧ r.2.mem ((c : Thread Cert.AdamSmallReferenceIdeal.nD Cert.AdamSmallReferenceIdeal.τ).loc Cert.AdamSmallReferenceIdeal.main_arg4) = m' ((c : Thread Cert.AdamSmallReferenceIdeal.nD Cert.AdamSmallReferenceIdeal.τ).loc Cert.AdamSmallReferenceIdeal.main_arg4)
        ∧ r.2.mem ((c : Thread Cert.AdamSmallReferenceIdeal.nD Cert.AdamSmallReferenceIdeal.τ).loc Cert.AdamSmallReferenceIdeal.main_arg5) = m' ((c : Thread Cert.AdamSmallReferenceIdeal.nD Cert.AdamSmallReferenceIdeal.τ).loc Cert.AdamSmallReferenceIdeal.main_arg5)
        ∧ r.2.mem ((c : Thread Cert.AdamSmallReferenceIdeal.nD Cert.AdamSmallReferenceIdeal.τ).loc Cert.AdamSmallReferenceIdeal.main_arg6) = m' ((c : Thread Cert.AdamSmallReferenceIdeal.nD Cert.AdamSmallReferenceIdeal.τ).loc Cert.AdamSmallReferenceIdeal.main_arg6)
        ∧ r.2.mem ((c : Thread Cert.AdamSmallReferenceIdeal.nD Cert.AdamSmallReferenceIdeal.τ).loc Cert.AdamSmallReferenceIdeal.main_arg7) = m' ((c : Thread Cert.AdamSmallReferenceIdeal.nD Cert.AdamSmallReferenceIdeal.τ).loc Cert.AdamSmallReferenceIdeal.main_arg7)
        ∧ r.2.mem ((c : Thread Cert.AdamSmallReferenceIdeal.nD Cert.AdamSmallReferenceIdeal.τ).loc Cert.AdamSmallReferenceIdeal.main_arg8) = m' ((c : Thread Cert.AdamSmallReferenceIdeal.nD Cert.AdamSmallReferenceIdeal.τ).loc Cert.AdamSmallReferenceIdeal.main_arg8)
        ∧ r.2.mem ((c : Thread Cert.AdamSmallReferenceIdeal.nD Cert.AdamSmallReferenceIdeal.τ).loc Cert.AdamSmallReferenceIdeal.main_arg9) = m' ((c : Thread Cert.AdamSmallReferenceIdeal.nD Cert.AdamSmallReferenceIdeal.τ).loc Cert.AdamSmallReferenceIdeal.main_arg9)
        ∧ r.2.mem ((c : Thread Cert.AdamSmallReferenceIdeal.nD Cert.AdamSmallReferenceIdeal.τ).loc Cert.AdamSmallReferenceIdeal.main_arg10) = m' ((c : Thread Cert.AdamSmallReferenceIdeal.nD Cert.AdamSmallReferenceIdeal.τ).loc Cert.AdamSmallReferenceIdeal.main_arg10)
        ∧ r.2.mem ((c : Thread Cert.AdamSmallReferenceIdeal.nD Cert.AdamSmallReferenceIdeal.τ).loc Cert.AdamSmallReferenceIdeal.main_arg11) = m' ((c : Thread Cert.AdamSmallReferenceIdeal.nD Cert.AdamSmallReferenceIdeal.τ).loc Cert.AdamSmallReferenceIdeal.main_arg11)
        ∧ r.2.mem ((c : Thread Cert.AdamSmallReferenceIdeal.nD Cert.AdamSmallReferenceIdeal.τ).loc Cert.AdamSmallReferenceIdeal.main_arg12) = m' ((c : Thread Cert.AdamSmallReferenceIdeal.nD Cert.AdamSmallReferenceIdeal.τ).loc Cert.AdamSmallReferenceIdeal.main_arg12)
        ∧ r.2.mem ((c : Thread Cert.AdamSmallReferenceIdeal.nD Cert.AdamSmallReferenceIdeal.τ).loc Cert.AdamSmallReferenceIdeal.main_arg13) = m' ((c : Thread Cert.AdamSmallReferenceIdeal.nD Cert.AdamSmallReferenceIdeal.τ).loc Cert.AdamSmallReferenceIdeal.main_arg13)
        ∧ r.2.mem ((c : Thread Cert.AdamSmallReferenceIdeal.nD Cert.AdamSmallReferenceIdeal.τ).loc Cert.AdamSmallReferenceIdeal.main_arg14) = m' ((c : Thread Cert.AdamSmallReferenceIdeal.nD Cert.AdamSmallReferenceIdeal.τ).loc Cert.AdamSmallReferenceIdeal.main_arg14)
        ∧ r.2.mem ((c : Thread Cert.AdamSmallReferenceIdeal.nD Cert.AdamSmallReferenceIdeal.τ).loc Cert.AdamSmallReferenceIdeal.main_arg15) = m' ((c : Thread Cert.AdamSmallReferenceIdeal.nD Cert.AdamSmallReferenceIdeal.τ).loc Cert.AdamSmallReferenceIdeal.main_arg15)
        ∧ r.2.mem ((c : Thread Cert.AdamSmallReferenceIdeal.nD Cert.AdamSmallReferenceIdeal.τ).loc Cert.AdamSmallReferenceIdeal.main_arg16) = m' ((c : Thread Cert.AdamSmallReferenceIdeal.nD Cert.AdamSmallReferenceIdeal.τ).loc Cert.AdamSmallReferenceIdeal.main_arg16)
        ∧ r.2.mem ((c : Thread Cert.AdamSmallReferenceIdeal.nD Cert.AdamSmallReferenceIdeal.τ).loc Cert.AdamSmallReferenceIdeal.main_arg17) = m' ((c : Thread Cert.AdamSmallReferenceIdeal.nD Cert.AdamSmallReferenceIdeal.τ).loc Cert.AdamSmallReferenceIdeal.main_arg17)
        ∧ r.2.mem ((c : Thread Cert.AdamSmallReferenceIdeal.nD Cert.AdamSmallReferenceIdeal.τ).loc Cert.AdamSmallReferenceIdeal.main_arg18) = m' ((c : Thread Cert.AdamSmallReferenceIdeal.nD Cert.AdamSmallReferenceIdeal.τ).loc Cert.AdamSmallReferenceIdeal.main_arg18)
        ∧ r.2.mem ((c : Thread Cert.AdamSmallReferenceIdeal.nD Cert.AdamSmallReferenceIdeal.τ).loc Cert.AdamSmallReferenceIdeal.main_arg19) = m' ((c : Thread Cert.AdamSmallReferenceIdeal.nD Cert.AdamSmallReferenceIdeal.τ).loc Cert.AdamSmallReferenceIdeal.main_arg19)
        ∧ r.2.mem ((c : Thread Cert.AdamSmallReferenceIdeal.nD Cert.AdamSmallReferenceIdeal.τ).loc Cert.AdamSmallReferenceIdeal.main_arg20) = m' ((c : Thread Cert.AdamSmallReferenceIdeal.nD Cert.AdamSmallReferenceIdeal.τ).loc Cert.AdamSmallReferenceIdeal.main_arg20)
        ∧ r.2.mem ((c : Thread Cert.AdamSmallReferenceIdeal.nD Cert.AdamSmallReferenceIdeal.τ).loc Cert.AdamSmallReferenceIdeal.main_arg21) = m' ((c : Thread Cert.AdamSmallReferenceIdeal.nD Cert.AdamSmallReferenceIdeal.τ).loc Cert.AdamSmallReferenceIdeal.main_arg21)
        ∧ r.2.mem ((c : Thread Cert.AdamSmallReferenceIdeal.nD Cert.AdamSmallReferenceIdeal.τ).loc Cert.AdamSmallReferenceIdeal.main_arg22) = m' ((c : Thread Cert.AdamSmallReferenceIdeal.nD Cert.AdamSmallReferenceIdeal.τ).loc Cert.AdamSmallReferenceIdeal.main_arg22)
        ∧ r.2.mem ((c : Thread Cert.AdamSmallReferenceIdeal.nD Cert.AdamSmallReferenceIdeal.τ).loc Cert.AdamSmallReferenceIdeal.main_arg23) = m' ((c : Thread Cert.AdamSmallReferenceIdeal.nD Cert.AdamSmallReferenceIdeal.τ).loc Cert.AdamSmallReferenceIdeal.main_arg23)
        ∧ r.2.mem ((c : Thread Cert.AdamSmallReferenceIdeal.nD Cert.AdamSmallReferenceIdeal.τ).loc Cert.AdamSmallReferenceIdeal.main_arg24) = m' ((c : Thread Cert.AdamSmallReferenceIdeal.nD Cert.AdamSmallReferenceIdeal.τ).loc Cert.AdamSmallReferenceIdeal.main_arg24)
        ∧ r.2.mem ((c : Thread Cert.AdamSmallReferenceIdeal.nD Cert.AdamSmallReferenceIdeal.τ).loc Cert.AdamSmallReferenceIdeal.main_arg25) = m' ((c : Thread Cert.AdamSmallReferenceIdeal.nD Cert.AdamSmallReferenceIdeal.τ).loc Cert.AdamSmallReferenceIdeal.main_arg25)
        ∧ r.2.mem ((c : Thread Cert.AdamSmallReferenceIdeal.nD Cert.AdamSmallReferenceIdeal.τ).loc Cert.AdamSmallReferenceIdeal.main_arg26) = m' ((c : Thread Cert.AdamSmallReferenceIdeal.nD Cert.AdamSmallReferenceIdeal.τ).loc Cert.AdamSmallReferenceIdeal.main_arg26)
        ∧ r.2.mem ((c : Thread Cert.AdamSmallReferenceIdeal.nD Cert.AdamSmallReferenceIdeal.τ).loc Cert.AdamSmallReferenceIdeal.main_arg27) = m' ((c : Thread Cert.AdamSmallReferenceIdeal.nD Cert.AdamSmallReferenceIdeal.τ).loc Cert.AdamSmallReferenceIdeal.main_arg27)
        ∧ r.2.mem ((c : Thread Cert.AdamSmallReferenceIdeal.nD Cert.AdamSmallReferenceIdeal.τ).loc Cert.AdamSmallReferenceIdeal.main_arg28) = m' ((c : Thread Cert.AdamSmallReferenceIdeal.nD Cert.AdamSmallReferenceIdeal.τ).loc Cert.AdamSmallReferenceIdeal.main_arg28)
        ∧ r.2.mem ((c : Thread Cert.AdamSmallReferenceIdeal.nD Cert.AdamSmallReferenceIdeal.τ).loc Cert.AdamSmallReferenceIdeal.main_arg29) = m' ((c : Thread Cert.AdamSmallReferenceIdeal.nD Cert.AdamSmallReferenceIdeal.τ).loc Cert.AdamSmallReferenceIdeal.main_arg29)
        ∧ r.2.mem ((c : Thread Cert.AdamSmallReferenceIdeal.nD Cert.AdamSmallReferenceIdeal.τ).loc Cert.AdamSmallReferenceIdeal.main_arg30) = m' ((c : Thread Cert.AdamSmallReferenceIdeal.nD Cert.AdamSmallReferenceIdeal.τ).loc Cert.AdamSmallReferenceIdeal.main_arg30)
        ∧ r.2.mem ((c : Thread Cert.AdamSmallReferenceIdeal.nD Cert.AdamSmallReferenceIdeal.τ).loc Cert.AdamSmallReferenceIdeal.main_arg31) = m' ((c : Thread Cert.AdamSmallReferenceIdeal.nD Cert.AdamSmallReferenceIdeal.τ).loc Cert.AdamSmallReferenceIdeal.main_arg31) :=
  (θ_run _ _ _).mono (fun r h c => ⟨(h c).1.trans rfl,
      (h c).2.1.trans rfl,
      (h c).2.2.1.trans rfl,
      (h c).2.2.2.1.trans rfl,
      (h c).2.2.2.2.1.trans rfl,
      (h c).2.2.2.2.2.1.trans rfl,
      (h c).2.2.2.2.2.2.1.trans rfl,
      (h c).2.2.2.2.2.2.2.1.trans rfl,
      (h c).2.2.2.2.2.2.2.2.1.trans rfl,
      (h c).2.2.2.2.2.2.2.2.2.1.trans rfl,
      (h c).2.2.2.2.2.2.2.2.2.2.1.trans rfl,
      (h c).2.2.2.2.2.2.2.2.2.2.2.1.trans rfl,
      (h c).2.2.2.2.2.2.2.2.2.2.2.2.1.trans rfl,
      (h c).2.2.2.2.2.2.2.2.2.2.2.2.2.1.trans rfl,
      (h c).2.2.2.2.2.2.2.2.2.2.2.2.2.2.1.trans rfl,
      (h c).2.2.2.2.2.2.2.2.2.2.2.2.2.2.2.1.trans rfl,
      (h c).2.2.2.2.2.2.2.2.2.2.2.2.2.2.2.2.1.trans rfl,
      (h c).2.2.2.2.2.2.2.2.2.2.2.2.2.2.2.2.2.1.trans rfl,
      (h c).2.2.2.2.2.2.2.2.2.2.2.2.2.2.2.2.2.2.1.trans rfl,
      (h c).2.2.2.2.2.2.2.2.2.2.2.2.2.2.2.2.2.2.2.1.trans rfl,
      (h c).2.2.2.2.2.2.2.2.2.2.2.2.2.2.2.2.2.2.2.2.1.trans rfl,
      (h c).2.2.2.2.2.2.2.2.2.2.2.2.2.2.2.2.2.2.2.2.2.1.trans rfl,
      (h c).2.2.2.2.2.2.2.2.2.2.2.2.2.2.2.2.2.2.2.2.2.2.1.trans rfl,
      (h c).2.2.2.2.2.2.2.2.2.2.2.2.2.2.2.2.2.2.2.2.2.2.2.1.trans rfl,
      (h c).2.2.2.2.2.2.2.2.2.2.2.2.2.2.2.2.2.2.2.2.2.2.2.2⟩) (Cert.AdamSmallReferenceIdeal.Value.run m' ρ')

/-- From memories agreeing on the arguments, kernel and reference end with equal results over the extended reals. -/
theorem algebraic : Cert.algebraic_AdamSmallKernelIdeal_AdamSmallReferenceIdeal (hAdamSmallKernelIdeal := Cert.AdamSmallKernelIdeal.Gen.facts)
    (hAdamSmallReferenceIdeal := Cert.AdamSmallReferenceIdeal.Gen.facts) := by
  pair_intro
  · run_from Cert.AdamSmallKernelIdeal.Proof.run m g
  · run_from Cert.AdamSmallKernelIdeal.Proof.reference_run m' g'

end Cert.AdamSmallKernelIdeal.Proof

end
-- ==== Proof.Forward.FirstNorm.lean ====
module

public import proofs.«01_k».proof.Defs
public import proofs.«01_k».proof.Proof.Gen.FirstNormKernelIdeal.Value
public import proofs.«01_k».proof.Proof.Gen.FirstNormReferenceIdeal.Run
public import proofs.«01_k».proof.Proof.Gen.FirstNormReferenceIdeal.Read
public import proofs.«01_k».proof.Proof.Shared.Reading
public import proofs.«01_k».proof.Proof.Norms.Row
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! # The first norm, forward: the call norm1 -/

namespace Cert.FirstNormKernelIdeal.Proof

open Cert.FirstNormKernelIdeal Cert.FirstNormKernelIdeal.Gen Cert.Shared Cert.Norms Cert.FirstNormReferenceIdeal.Read

variable (m : (ℓ : Loc nD τ sig) → Buf (Elt Ideal) ℓ)

/-- Grid point `t` is the `t`-th 512 tokens; the norm's scale is one block. -/
theorem block_index : ∀ t : Fin cfg0.N, win0_0.index t = ![t.val, 0] ∧ win0_1.index t = ![0, 0] ∧ win0_2.index t = ![t.val, 0] ∧ t.val < 8 :=
  (by decide +kernel : ∀ t : Fin grid0.N, _)

/-- The norm's scale as the launch finds it is the argument. -/
theorem entry_scale (c : Dev nD) (l : Fin 1024) : (V m c main_v0 : Vec Ideal S1x1024 .f32) (ix2 0 l)
    = (m ((c : Thread nD τ).loc main_arg1) : Vec Ideal S1024 .f32) (ix1 l) := by
  entry_read
  pointwise

variable (x0 : Vec Ideal S512x1024 .f32) (x1 : Vec Ideal S1x1024 .f32)

/-- One grid point's result. -/
theorem block2 (y : S512x1024.Idx) : out0_2 x0 x1 y
    = x0 (ix2 (y 0) (y 1)) * inv_rms (fun k => x0 (ix2 (y 0) k)) * x1 (ix2 0 (y 1)) := by
  unfold out0_2
  canon_tiles x h
  case piece0 =>
    open_payloads; pointwise
    obtain rfl : y = x := by rw [idx2_eta x, idx2_eta y, show y 0 = x 0 from Fin.ext h0, show y 1 = x 1 from Fin.ext h1]
    rfl

/-- The tokens' block in the argument. -/
theorem read_x (c : Dev nD) (t : Fin cfg0.N) (k : Fin 512) (j : Fin 1024) (a b : ℕ) (ha : a = t.val * 512 + k.val) (hb : b = j.val) :
    (iblk m c 0 t : Vec Ideal S512x1024 .f32) (ix2 k j) = at2 (m ((c : Thread nD τ).loc main_arg0) : Vec Ideal S4096x1024 .f32) a b := by
  have := k.isLt
  have := j.isLt
  have := block_index t
  rw [at2, dif_pos (by omega)]
  blk_ext [iblk, V, block_index t]

/-- The scale's elements in the argument. -/
theorem read_scale (c : Dev nD) (t : Fin cfg0.N) (l : Fin 1024) :
    (iblk m c 1 t : Vec Ideal S1x1024 .f32) (ix2 0 l) = (m ((c : Thread nD τ).loc main_arg1) : Vec Ideal S1024 .f32) (ix1 l) := by
  have := block_index t
  refine Eq.trans ?_ (entry_scale m c l)
  blk_ext [iblk, block_index t]

/-- Every token's row, normalised and scaled. -/
def normed (x : Vec Ideal S4096x1024 .f32) (g : Vec Ideal S1024 .f32) : Vec Ideal S4096x1024 .bf16 := fun i =>
  at2 x (i 0).val (i 1).val * inv_rms (fun k => at2 x (i 0).val k.val) * g (ix1 (i 1))

/-- After the run the result holds the normalised rows. -/
theorem final2 (c : Dev nD) : (dats m 0 c).arrAt 2 cfg0.N
    = normed (m ((c : Thread nD τ).loc main_arg0)) (m ((c : Thread nD τ).loc main_arg1)) := by
  refine (dats m 0 c).arrAt_eq_of_covers 2 _ (by decide +kernel) fun t _ y => ?_
  blk_simp
  rw [after0_2, block2]
  generalize hi : ((View.whole main_v1).slice (win0_2.rect t)).emb y = i
  have h0 : (i 0).val = t.val * 512 + (y 0).val := by rw [← hi]; blk_simp [block_index t]
  have h1 : (i 1).val = (y 1).val := by rw [← hi]; blk_simp [block_index t]
  unfold normed
  have h1' : y 1 = i 1 := Fin.ext h1.symm
  refine congrArg₂ (· * ·) (congrArg₂ (· * ·) (read_x m c t (y 0) (y 1) _ _ h0 h1)
    (congrArg inv_rms (funext fun k => read_x m c t (y 0) k _ _ h0 rfl))) ?_
  exact (read_scale m c t (y 1)).trans (by rw [h1'])

/-- The reference's result. -/
theorem reference_eq (z0 : Vec Ideal Cert.FirstNormReferenceIdeal.S4096x1024 .f32) (z1 : Vec Ideal Cert.FirstNormReferenceIdeal.S1024 .f32) :
    val_main_v13 (F := Ideal) z0 z1 = normed z0 z1 := by
  have all : ∀ (r : Fin 4096) (l : Fin 1024), val_main_v13 (F := Ideal) z0 z1 (ix2 r l)
      = at2 z0 r.val l.val * inv_rms (fun k => at2 z0 r.val k.val) * z1 (ix1 l) := by
    intro r l
    unfold val_main_v13 val_main_v12 val_main_v11 val_main_v10 val_main_v9 val_main_v8 val_main_v7 val_main_v6 val_main_v5 val_main_v4 val_main_v3 val_main_v2 val_main_v1 val_main_v0 val_main_cst val_main_cst_0 val_main_cst_1
    pointwise
    simp only [eq_at2 z0]
    rfl
  funext i
  rw [idx2_eta i]
  exact all (i 0) (i 1)

/-- The reference's run ends with the same result and keeps its arguments. -/
theorem reference_run (m' : (ℓ : Loc Cert.FirstNormReferenceIdeal.nD Cert.FirstNormReferenceIdeal.τ Cert.FirstNormReferenceIdeal.sig) → Buf (Elt Ideal) ℓ) (ρ : Dev Cert.FirstNormReferenceIdeal.nD → PrngReg) :
    θ_run Cert.FirstNormReferenceIdeal.defs (onTc (τ := Cert.FirstNormReferenceIdeal.τ) (Cert.FirstNormReferenceIdeal.main (F := Ideal))) ⟨m', fun _ => 0, ρ⟩
      fun r => ∀ c : Dev Cert.FirstNormReferenceIdeal.nD,
        r.2.mem (c.tc.loc Cert.FirstNormReferenceIdeal.main_v13) = normed (m' (c.tc.loc Cert.FirstNormReferenceIdeal.main_arg0)) (m' (c.tc.loc Cert.FirstNormReferenceIdeal.main_arg1))
        ∧ r.2.mem (c.tc.loc Cert.FirstNormReferenceIdeal.main_arg0) = m' (c.tc.loc Cert.FirstNormReferenceIdeal.main_arg0)
        ∧ r.2.mem (c.tc.loc Cert.FirstNormReferenceIdeal.main_arg1) = m' (c.tc.loc Cert.FirstNormReferenceIdeal.main_arg1) :=
  (θ_run _ _ _).mono (fun r h c => ⟨(h c).1.trans ((val_main_v13_eq _ _).trans (reference_eq _ _)), (h c).2⟩) (Cert.FirstNormReferenceIdeal.Value.run m' ρ)

/-- From memories agreeing on the arguments, kernel and reference end with equal results over the extended reals. -/
theorem algebraic : Cert.algebraic_FirstNormKernelIdeal_FirstNormReferenceIdeal (hFirstNormKernelIdeal := Cert.FirstNormKernelIdeal.Gen.facts)
    (hFirstNormReferenceIdeal := Cert.FirstNormReferenceIdeal.Gen.facts) := by
  pair_intro
  · run_from Cert.FirstNormKernelIdeal.Gen.run_main m g
  · run_from reference_run m' g'
    rw [final2]

end Cert.FirstNormKernelIdeal.Proof

end
-- ==== Proof.Forward.ShortConv.lean ====
module

public import proofs.«01_k».proof.Defs
public import proofs.«01_k».proof.Proof.Gen.ShortConvKernelIdeal.Value
public import proofs.«01_k».proof.Proof.Gen.ShortConvReferenceIdeal.Run
public import proofs.«01_k».proof.Proof.Gen.ShortConvReferenceIdeal.Read
public import proofs.«01_k».proof.Proof.Conv.Channel
public import proofs.«01_k».proof.Proof.Shared.Reading
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! # The gated short convolution, forward: the call conv_fwd -/

namespace Cert.ShortConvKernelIdeal.Proof

open Cert.ShortConvKernelIdeal Cert.ShortConvKernelIdeal.Gen Cert.Conv Cert.Shared Cert.ShortConvReferenceIdeal.Read

/-- One channel at one token: the output gate times the convolution of the gated input. -/
def shortAt (bg cg xc : ℕ → EReal) (w0 w1 w2 b : EReal) (r : ℕ) : EReal := bg r * conv3 (prod cg xc) w0 w1 w2 b r

/-- The result of one channel at one token, from its reads. -/
theorem gated {bg cg xc : ℕ → EReal} {w0 w1 w2 b : EReal} {r : ℕ} {g a2 a1 a0 : EReal} (hg : g = bg r)
    (h2 : a2 = back (prod cg xc) 2 r) (h1 : a1 = back (prod cg xc) 1 r) (h0 : a0 = prod cg xc r) :
    g * (b + w0 * a2 + w1 * a1 + w2 * a0) = shortAt bg cg xc w0 w1 w2 b r := by
  subst hg h2 h1 h0; rfl

set_option maxHeartbeats 1600000 in
/-- What one grid point leaves: token `r`, channel `l` hold the channel's result at that token. -/
theorem block5 (x0 x1 x2 : Vec Ideal S4096x128 .bf16) (x3 : Vec Ideal S3x128 .f32) (x4 : Vec Ideal S1x128 .f32) (y : S4096x128.Idx) :
    out0_5 x0 x1 x2 x3 x4 y
      = shortAt (col x0 (y 1)) (col x1 (y 1)) (col x2 (y 1)) (x3 (ix2 0 (y 1))) (x3 (ix2 1 (y 1))) (x3 (ix2 2 (y 1))) (x4 (ix2 0 (y 1))) (y 0).val := by
  unfold out0_5
  canon_tiles x h
  case piece0 =>
    rw [show y 1 = x 1 from Fin.ext h1, show (y 0).val = 3584 + (x 0).val by omega]
    open_payloads; pointwise
    exact gated (read_eq_col x0 _ _ _) (back_read x1 x2 (x 1) 2 _ _ _ (by omega)) (back_read x1 x2 (x 1) 1 _ _ _ (by omega)) (prod_read x1 x2 (x 1) _ _ _ (by omega))
  case piece1 =>
    rw [show y 1 = x 1 from Fin.ext h1, show (y 0).val = 3072 + (x 0).val by omega]
    open_payloads; pointwise
    exact gated (read_eq_col x0 _ _ _) (back_read x1 x2 (x 1) 2 _ _ _ (by omega)) (back_read x1 x2 (x 1) 1 _ _ _ (by omega)) (prod_read x1 x2 (x 1) _ _ _ (by omega))
  case piece2 =>
    rw [show y 1 = x 1 from Fin.ext h1, show (y 0).val = 2560 + (x 0).val by omega]
    open_payloads; pointwise
    exact gated (read_eq_col x0 _ _ _) (back_read x1 x2 (x 1) 2 _ _ _ (by omega)) (back_read x1 x2 (x 1) 1 _ _ _ (by omega)) (prod_read x1 x2 (x 1) _ _ _ (by omega))
  case piece3 =>
    rw [show y 1 = x 1 from Fin.ext h1, show (y 0).val = 2048 + (x 0).val by omega]
    open_payloads; pointwise
    exact gated (read_eq_col x0 _ _ _) (back_read x1 x2 (x 1) 2 _ _ _ (by omega)) (back_read x1 x2 (x 1) 1 _ _ _ (by omega)) (prod_read x1 x2 (x 1) _ _ _ (by omega))
  case piece4 =>
    rw [show y 1 = x 1 from Fin.ext h1, show (y 0).val = 1536 + (x 0).val by omega]
    open_payloads; pointwise
    exact gated (read_eq_col x0 _ _ _) (back_read x1 x2 (x 1) 2 _ _ _ (by omega)) (back_read x1 x2 (x 1) 1 _ _ _ (by omega)) (prod_read x1 x2 (x 1) _ _ _ (by omega))
  case piece5 =>
    rw [show y 1 = x 1 from Fin.ext h1, show (y 0).val = 1024 + (x 0).val by omega]
    open_payloads; pointwise
    exact gated (read_eq_col x0 _ _ _) (back_read x1 x2 (x 1) 2 _ _ _ (by omega)) (back_read x1 x2 (x 1) 1 _ _ _ (by omega)) (prod_read x1 x2 (x 1) _ _ _ (by omega))
  case piece6 =>
    rw [show y 1 = x 1 from Fin.ext h1, show (y 0).val = 512 + (x 0).val by omega]
    open_payloads; pointwise
    exact gated (read_eq_col x0 _ _ _) (back_read x1 x2 (x 1) 2 _ _ _ (by omega)) (back_read x1 x2 (x 1) 1 _ _ _ (by omega)) (prod_read x1 x2 (x 1) _ _ _ (by omega))
  case piece7 =>
    rw [show y 1 = x 1 from Fin.ext h1, show (y 0).val = 0 + (x 0).val by omega]
    open_payloads; pointwise
    exact gated (read_eq_col x0 _ _ _) (back_first x1 x2 (x 1) 2 _ (x 0).isLt (by omega) (by omega) _) (back_first x1 x2 (x 1) 1 _ (x 0).isLt (by omega) (by omega) _) (prod_read x1 x2 (x 1) _ _ _ (by omega))

variable (m : (ℓ : Loc nD τ sig) → Buf (Elt Ideal) ℓ)

/-- Grid point `t` is the `t`-th 128 channels, of the projection of its first, second and third 1024 columns. -/
theorem block_index : ∀ t : Fin cfg0.N, win0_0.index t = ![0, t.val] ∧ win0_1.index t = ![0, 8 + t.val] ∧ win0_2.index t = ![0, 16 + t.val]
    ∧ win0_3.index t = ![0, t.val] ∧ win0_4.index t = ![0, t.val] ∧ win0_5.index t = ![0, t.val] ∧ t.val < 8 :=
  (by decide +kernel : ∀ t : Fin grid0.N, _)

/-- The bias as the launch finds it: the argument as one row. -/
theorem entry_bias (c : Dev nD) (l : Fin 1024) :
    (V m c main_v0 : Vec Ideal S1x1024 .f32) (ix2 0 l) = (m ((c : Thread nD τ).loc main_arg2) : Vec Ideal S1024 .f32) (ix1 l) := by
  entry_read
  pointwise

section Channels

variable (c : Dev nD) (t : Fin cfg0.N) (l : Fin 128) (L : Fin 1024) (h : L.val = t.val * 128 + l.val)

include h

/-- Channel `l` of the block of the output gate is channel `0 + 128 t + l` of the projection. -/
theorem chan0 : col (iblk m c 0 t : Vec Ideal S4096x128 .bf16) l
    = col (m ((c : Thread nD τ).loc main_arg0) : Vec Ideal S4096x3072 .bf16) (⟨0 + L.val, by omega⟩ : Fin 3072) := by
  funext r
  unfold col
  split
  · blk_ext [iblk, V, block_index t]
  · rfl

/-- Channel `l` of the block of the input gate is channel `1024 + 128 t + l` of the projection. -/
theorem chan1 : col (iblk m c 1 t : Vec Ideal S4096x128 .bf16) l
    = col (m ((c : Thread nD τ).loc main_arg0) : Vec Ideal S4096x3072 .bf16) (⟨1024 + L.val, by omega⟩ : Fin 3072) := by
  funext r
  unfold col
  split
  · blk_ext [iblk, V, block_index t]
  · rfl

/-- Channel `l` of the block of the convolution's input is channel `2048 + 128 t + l` of the projection. -/
theorem chan2 : col (iblk m c 2 t : Vec Ideal S4096x128 .bf16) l
    = col (m ((c : Thread nD τ).loc main_arg0) : Vec Ideal S4096x3072 .bf16) (⟨2048 + L.val, by omega⟩ : Fin 3072) := by
  funext r
  unfold col
  split
  · blk_ext [iblk, V, block_index t]
  · rfl

/-- The taps of channel `l` of the block are those of channel `128 t + l`. -/
theorem chan_tap (k : Fin 3) : (iblk m c 3 t : Vec Ideal S3x128 .f32) (ix2 k l)
    = (m ((c : Thread nD τ).loc main_arg1) : Vec Ideal S3x1024 .f32) (ix2 k L) := by
  blk_ext [iblk, V, block_index t]

/-- The bias of channel `l` of the block is that of channel `128 t + l`. -/
theorem chan_bias : (iblk m c 4 t : Vec Ideal S1x128 .f32) (ix2 0 l)
    = (m ((c : Thread nD τ).loc main_arg2) : Vec Ideal S1024 .f32) (ix1 L) := by
  rw [← entry_bias m c L]
  blk_ext [iblk, block_index t]

end Channels

/-- The short convolution of all channels. -/
def short (p : Vec Ideal S4096x3072 .bf16) (w : Vec Ideal S3x1024 .f32) (b : Vec Ideal S1024 .f32) : Vec Ideal S4096x1024 .bf16 := fun i =>
  shortAt (col p (⟨0 + (i 1).val, Nat.lt_of_lt_of_le (Nat.add_lt_add_left (i 1).isLt 0) (by decide)⟩ : Fin 3072))
    (col p (⟨1024 + (i 1).val, Nat.lt_of_lt_of_le (Nat.add_lt_add_left (i 1).isLt 1024) (by decide)⟩ : Fin 3072))
    (col p (⟨2048 + (i 1).val, Nat.lt_of_lt_of_le (Nat.add_lt_add_left (i 1).isLt 2048) (by decide)⟩ : Fin 3072))
    (w (ix2 0 (i 1))) (w (ix2 1 (i 1))) (w (ix2 2 (i 1))) (b (ix1 (i 1))) (i 0).val

/-- After the run the result holds the short convolution of the arguments. -/
theorem final5 (c : Dev nD) : (dats m 0 c).arrAt 5 cfg0.N
    = short (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5, block5]
  generalize hi : ((View.whole main_v1).slice (win0_5.rect t)).emb y = i
  have h0 : (i 0).val = (y 0).val := by rw [← hi]; blk_simp [block_index t]
  have h1 : (i 1).val = t.val * 128 + (y 1).val := by rw [← hi]; blk_simp [block_index t]
  unfold short
  rw [chan0 m c t (y 1) (i 1) h1, chan1 m c t (y 1) (i 1) h1, chan2 m c t (y 1) (i 1) h1, chan_tap m c t (y 1) (i 1) h1,
    chan_tap m c t (y 1) (i 1) h1, chan_tap m c t (y 1) (i 1) h1, chan_bias m c t (y 1) (i 1) h1, h0]

/-- Channel `l` of the output gate in the projection. -/
def bgOf (z : Vec Ideal S4096x3072 .bf16) (l : Fin 1024) : ℕ → EReal := col z (⟨0 + l.val, by omega⟩ : Fin 3072)
/-- Channel `l` of the input gate in the projection. -/
def cgOf (z : Vec Ideal S4096x3072 .bf16) (l : Fin 1024) : ℕ → EReal := col z (⟨1024 + l.val, by omega⟩ : Fin 3072)
/-- Channel `l` of the convolution's input in the projection. -/
def xcOf (z : Vec Ideal S4096x3072 .bf16) (l : Fin 1024) : ℕ → EReal := col z (⟨2048 + l.val, by omega⟩ : Fin 3072)

section Reference

variable (z0 : Vec Ideal S4096x3072 .bf16) (z1 : Vec Ideal S3x1024 .f32) (z2 : Vec Ideal S1024 .f32)

/-- The output gate in the reference. -/
theorem read_bg (a : Fin 4096) (l : Fin 1024) : val_main_v2 (F := Ideal) z0 (ix3 0 a l) = bgOf z0 l a := by
  unfold val_main_v2 val_main_v1 val_main_v0 bgOf
  pointwise
  exact read_eq_col z0 a.val a.isLt _

/-- The gated input in the reference: the product of its two factors. -/
theorem read_u (a : Fin 4096) (l : Fin 1024) : val_main_v5 (F := Ideal) z0 (ix3 0 a l) = prod (cgOf z0 l) (xcOf z0 l) a := by
  unfold val_main_v5 val_main_v4 val_main_v3 val_main_v1 val_main_v0 prod cgOf xcOf
  pointwise
  exact congrArg₂ (· * ·) (read_eq_col z0 a.val a.isLt _) (read_eq_col z0 a.val a.isLt _)

/-- The reference's gated input after two zeros. -/
theorem read_shifted (a : Fin 4098) (l : Fin 1024) :
    val_main_v7 (F := Ideal) z0 (ix3 0 a l) = back (prod (cgOf z0 l) (xcOf z0 l)) 2 a := by
  have u := read_u z0
  unfold val_main_v7 val_main_v6 val_main_cst
  generalize val_main_v5 (F := Ideal) z0 = p at *
  pointwise
  unfold back
  by_cases h : a.val < 2
  · simp only [h, if_true, dif_pos]
  · simp only [h, if_false, dif_neg, not_false_eq_true]
    rw [u]

/-- The token after `a`, with two tokens subtracted. -/
theorem back_after (f : ℕ → EReal) (a : ℕ) : back f 2 (1 + a) = back f 1 a := by
  unfold back
  by_cases h : a < 1
  · rw [if_pos h, if_pos (by omega)]
  · rw [if_neg h, if_neg (by omega), show 1 + a - 2 = a - 1 by omega]

/-- The reference's result. -/
theorem reference_eq : val_main_v35 (F := Ideal) z0 z1 z2 = short z0 z1 z2 := by
  have all : ∀ (r : Fin 4096) (l : Fin 1024), val_main_v35 (F := Ideal) z0 z1 z2 (ix2 r l)
      = shortAt (bgOf z0 l) (cgOf z0 l) (xcOf z0 l) (z1 (ix2 0 l)) (z1 (ix2 1 l)) (z1 (ix2 2 l)) (z2 (ix1 l)) r.val := by
    intro r l
    have g := read_bg z0
    have p := read_shifted z0
    unfold val_main_v35 val_main_v34 val_main_v33 val_main_v32 val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_cst_0
    generalize val_main_v2 (F := Ideal) z0 = q at *
    generalize val_main_v7 (F := Ideal) z0 = u at *
    pointwise
    rw [g, p, p, p]
    unfold shortAt
    refine congrArg (bgOf z0 l r.val * ·) ?_
    show _ + (_ * _ + _ * back _ 2 (1 + r.val) + _ * back _ 2 (2 + r.val)) = _
    rw [back_after, show back (prod (cgOf z0 l) (xcOf z0 l)) 2 (2 + r.val) = prod (cgOf z0 l) (xcOf z0 l) r.val by
      rw [back, if_neg (by omega), Nat.add_sub_cancel_left]]
    simp only [conv3, add_assoc]
  funext i
  rw [idx2_eta i]
  exact all (i 0) (i 1)

end Reference

/-- The reference's run ends with the same result and keeps its arguments. -/
theorem reference_run (m' : (ℓ : Loc Cert.ShortConvReferenceIdeal.nD Cert.ShortConvReferenceIdeal.τ Cert.ShortConvReferenceIdeal.sig) → Buf (Elt Ideal) ℓ) (ρ : Dev Cert.ShortConvReferenceIdeal.nD → PrngReg) :
    θ_run Cert.ShortConvReferenceIdeal.defs (onTc (τ := Cert.ShortConvReferenceIdeal.τ) (Cert.ShortConvReferenceIdeal.main (F := Ideal))) ⟨m', fun _ => 0, ρ⟩
      fun r => ∀ c : Dev Cert.ShortConvReferenceIdeal.nD,
        r.2.mem (c.tc.loc Cert.ShortConvReferenceIdeal.main_v35) = short (m' (c.tc.loc Cert.ShortConvReferenceIdeal.main_arg0)) (m' (c.tc.loc Cert.ShortConvReferenceIdeal.main_arg1)) (m' (c.tc.loc Cert.ShortConvReferenceIdeal.main_arg2))
        ∧ r.2.mem (c.tc.loc Cert.ShortConvReferenceIdeal.main_arg0) = m' (c.tc.loc Cert.ShortConvReferenceIdeal.main_arg0)
        ∧ r.2.mem (c.tc.loc Cert.ShortConvReferenceIdeal.main_arg1) = m' (c.tc.loc Cert.ShortConvReferenceIdeal.main_arg1)
        ∧ r.2.mem (c.tc.loc Cert.ShortConvReferenceIdeal.main_arg2) = m' (c.tc.loc Cert.ShortConvReferenceIdeal.main_arg2) :=
  (θ_run _ _ _).mono (fun r h c => ⟨(h c).1.trans ((val_main_v35_eq _ _ _).trans (reference_eq _ _ _)), (h c).2⟩) (Cert.ShortConvReferenceIdeal.Value.run m' ρ)

/-- From memories agreeing on the arguments, kernel and reference end with equal results over the extended reals. -/
theorem algebraic : Cert.algebraic_ShortConvKernelIdeal_ShortConvReferenceIdeal (hShortConvKernelIdeal := Cert.ShortConvKernelIdeal.Gen.facts)
    (hShortConvReferenceIdeal := Cert.ShortConvReferenceIdeal.Gen.facts) := by
  pair_intro
  · run_from Cert.ShortConvKernelIdeal.Gen.run_main m g
  · run_from reference_run m' g'
    rw [final5]

end Cert.ShortConvKernelIdeal.Proof

end
-- ==== Proof.Forward.Loss.lean ====
module

public import proofs.«01_k».proof.Defs
public import proofs.«01_k».proof.Proof.Gen.LossKernelIdeal.Value
public import proofs.«01_k».proof.Proof.Gen.LossReferenceIdeal.Run
public import proofs.«01_k».proof.Proof.Gen.LossReferenceIdeal.Read
public import proofs.«01_k».proof.Proof.Shared.Reading
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! # The loss from its parts: the call finish_loss -/

namespace Cert.LossKernelIdeal.Proof

open Cert.LossKernelIdeal Cert.LossKernelIdeal.Gen Cert.Shared Cert.LossReferenceIdeal.Read

/-- One half over the width. -/
abbrev half_inv_width : EReal := Ideal.ofBits FTy.f32 0x3A000000#32

/-- Every element of the result: the sum of all parts, over twice the width. -/
def total (x : Vec Ideal S64x128 .f32) : Vec Ideal S8x128 .f32 := fun _ => (∑ i : S64x128.Idx, x i) * half_inv_width

/-- The kernel's sum, over the rows of every column and then over the columns, is the sum of all parts. -/
theorem payload_eq (x : Vec Ideal S64x128 .f32) : k0_pay1 (F := Ideal) x = total x := by
  have all : ∀ (r : Fin 8) (l : Fin 128), k0_pay1 (F := Ideal) x (ix2 r l) = (∑ j : Fin 128, ∑ k : Fin 64, x (ix2 k j)) * half_inv_width := by
    intro r l
    pointwise [k0_pay1]
  funext i
  rw [idx2_eta i]
  refine (all (i 0) (i 1)).trans (congrArg (· * half_inv_width) ?_)
  rw [Finset.sum_comm]
  exact (sum_idx2 x).symm

/-- The kernel's run ends with the sum of all parts and keeps its argument. -/
theorem kernel_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0) = total (m ((c : Thread nD τ).loc main_arg0))
      ∧ r.2.mem ((c : Thread nD τ).loc main_arg0) = m ((c : Thread nD τ).loc main_arg0) :=
  (θ_run _ _ _).mono (fun r h c => ⟨(h c).1.trans (payload_eq _), (h c).2⟩) (Cert.LossKernelIdeal.Value.run m ρ)

/-- The reference's result. -/
theorem reference_eq (z0 : Vec Ideal Cert.LossReferenceIdeal.S64x128 .f32) : val_main_v2 (F := Ideal) z0 = total z0 := by
  funext i
  rw [val_main_v2_apply, val_main_v1_apply, val_main_v0_apply]
  refine congrArg (· * half_inv_width) ?_
  rw [val_main_cst_apply]
  show Ideal.ofBits .f32 0x00000000#32 + _ = _
  rw [Ideal.ofBits_zero_f32, zero_add]

/-- The reference's run ends with the same result and keeps its arguments. -/
theorem reference_run (m' : (ℓ : Loc Cert.LossReferenceIdeal.nD Cert.LossReferenceIdeal.τ Cert.LossReferenceIdeal.sig) → Buf (Elt Ideal) ℓ) (ρ : Dev Cert.LossReferenceIdeal.nD → PrngReg) :
    θ_run Cert.LossReferenceIdeal.defs (onTc (τ := Cert.LossReferenceIdeal.τ) (Cert.LossReferenceIdeal.main (F := Ideal))) ⟨m', fun _ => 0, ρ⟩
      fun r => ∀ c : Dev Cert.LossReferenceIdeal.nD,
        r.2.mem (c.tc.loc Cert.LossReferenceIdeal.main_v2) = total (m' (c.tc.loc Cert.LossReferenceIdeal.main_arg0))
        ∧ r.2.mem (c.tc.loc Cert.LossReferenceIdeal.main_arg0) = m' (c.tc.loc Cert.LossReferenceIdeal.main_arg0) :=
  (θ_run _ _ _).mono (fun r h c => ⟨(h c).1.trans ((val_main_v2_eq _).trans (reference_eq _)), (h c).2⟩) (Cert.LossReferenceIdeal.Value.run m' ρ)

/-- From memories agreeing on the arguments, kernel and reference end with equal results over the extended reals. -/
theorem algebraic : Cert.algebraic_LossKernelIdeal_LossReferenceIdeal (hLossKernelIdeal := Cert.LossKernelIdeal.Gen.facts)
    (hLossReferenceIdeal := Cert.LossReferenceIdeal.Gen.facts) := by
  pair_intro
  · run_from kernel_run m g
  · run_from reference_run m' g'

end Cert.LossKernelIdeal.Proof

end
-- ==== Proof.lean ====
module

public import proofs.«01_k».proof.Defs
public import proofs.«01_k».proof.Proof.Gen.ConvKernel
public import proofs.«01_k».proof.Proof.Gen.ConvKernel.Skeleton
public import proofs.«01_k».proof.Proof.Gen.ConvKernel.Launch
public import proofs.«01_k».proof.Proof.Gen.ConvKernel.Points
public import proofs.«01_k».proof.Proof.Gen.ConvKernel.Frame
public import proofs.«01_k».proof.Proof.Gen.ConvKernelIdeal
public import proofs.«01_k».proof.Proof.Gen.ConvKernelIdeal.Skeleton
public import proofs.«01_k».proof.Proof.Gen.ConvKernelIdeal.Launch
public import proofs.«01_k».proof.Proof.Gen.ConvKernelIdeal.Points
public import proofs.«01_k».proof.Proof.Gen.ConvKernelIdeal.Frame
public import proofs.«01_k».proof.Proof.Gen.ConvReferenceIdeal
public import proofs.«01_k».proof.Proof.Gen.ConvKernelIdeal.Value
public import proofs.«01_k».proof.Proof.Gen.ConvReferenceIdeal.Run
public import proofs.«01_k».proof.Proof.Gen.ConvReferenceIdeal.Read
public import proofs.«01_k».proof.Proof.Gen.NormOneKernel
public import proofs.«01_k».proof.Proof.Gen.NormOneKernel.Skeleton
public import proofs.«01_k».proof.Proof.Gen.NormOneKernel.Launch
public import proofs.«01_k».proof.Proof.Gen.NormOneKernel.Points
public import proofs.«01_k».proof.Proof.Gen.NormOneKernel.Frame
public import proofs.«01_k».proof.Proof.Gen.NormOneKernelIdeal
public import proofs.«01_k».proof.Proof.Gen.NormOneKernelIdeal.Skeleton
public import proofs.«01_k».proof.Proof.Gen.NormOneKernelIdeal.Launch
public import proofs.«01_k».proof.Proof.Gen.NormOneKernelIdeal.Points
public import proofs.«01_k».proof.Proof.Gen.NormOneKernelIdeal.Frame
public import proofs.«01_k».proof.Proof.Gen.NormOneReferenceIdeal
public import proofs.«01_k».proof.Proof.Gen.NormOneKernelIdeal.Value
public import proofs.«01_k».proof.Proof.Gen.NormOneReferenceIdeal.Run
public import proofs.«01_k».proof.Proof.Gen.NormOneReferenceIdeal.Read
public import proofs.«01_k».proof.Proof.Gen.NormTwoKernel
public import proofs.«01_k».proof.Proof.Gen.NormTwoKernel.Skeleton
public import proofs.«01_k».proof.Proof.Gen.NormTwoKernel.Launch
public import proofs.«01_k».proof.Proof.Gen.NormTwoKernel.Points
public import proofs.«01_k».proof.Proof.Gen.NormTwoKernel.Frame
public import proofs.«01_k».proof.Proof.Gen.NormTwoKernelIdeal
public import proofs.«01_k».proof.Proof.Gen.NormTwoKernelIdeal.Skeleton
public import proofs.«01_k».proof.Proof.Gen.NormTwoKernelIdeal.Launch
public import proofs.«01_k».proof.Proof.Gen.NormTwoKernelIdeal.Points
public import proofs.«01_k».proof.Proof.Gen.NormTwoKernelIdeal.Frame
public import proofs.«01_k».proof.Proof.Gen.NormTwoReferenceIdeal
public import proofs.«01_k».proof.Proof.Gen.NormTwoKernelIdeal.Value
public import proofs.«01_k».proof.Proof.Gen.NormTwoReferenceIdeal.Run
public import proofs.«01_k».proof.Proof.Gen.NormTwoReferenceIdeal.Read
public import proofs.«01_k».proof.Proof.Gen.ActKernel
public import proofs.«01_k».proof.Proof.Gen.ActKernel.Skeleton
public import proofs.«01_k».proof.Proof.Gen.ActKernel.Launch
public import proofs.«01_k».proof.Proof.Gen.ActKernel.Points
public import proofs.«01_k».proof.Proof.Gen.ActKernel.Frame
public import proofs.«01_k».proof.Proof.Gen.ActKernelIdeal
public import proofs.«01_k».proof.Proof.Gen.ActKernelIdeal.Skeleton
public import proofs.«01_k».proof.Proof.Gen.ActKernelIdeal.Launch
public import proofs.«01_k».proof.Proof.Gen.ActKernelIdeal.Points
public import proofs.«01_k».proof.Proof.Gen.ActKernelIdeal.Frame
public import proofs.«01_k».proof.Proof.Gen.ActReferenceIdeal
public import proofs.«01_k».proof.Proof.Gen.ActKernelIdeal.Value
public import proofs.«01_k».proof.Proof.Gen.ActReferenceIdeal.Run
public import proofs.«01_k».proof.Proof.Gen.ActReferenceIdeal.Read
public import proofs.«01_k».proof.Proof.Gen.WInKernel
public import proofs.«01_k».proof.Proof.Gen.WInKernel.Skeleton
public import proofs.«01_k».proof.Proof.Gen.WInKernel.Launch
public import proofs.«01_k».proof.Proof.Gen.WInKernel.Points
public import proofs.«01_k».proof.Proof.Gen.WInKernel.Frame
public import proofs.«01_k».proof.Proof.Gen.WInKernelIdeal
public import proofs.«01_k».proof.Proof.Gen.WInKernelIdeal.Skeleton
public import proofs.«01_k».proof.Proof.Gen.WInKernelIdeal.Launch
public import proofs.«01_k».proof.Proof.Gen.WInKernelIdeal.Points
public import proofs.«01_k».proof.Proof.Gen.WInKernelIdeal.Frame
public import proofs.«01_k».proof.Proof.Gen.WInReferenceIdeal
public import proofs.«01_k».proof.Proof.Gen.WInKernelIdeal.Value
public import proofs.«01_k».proof.Proof.Gen.WInReferenceIdeal.Run
public import proofs.«01_k».proof.Proof.Gen.WInReferenceIdeal.Read
public import proofs.«01_k».proof.Proof.Gen.WUpKernel
public import proofs.«01_k».proof.Proof.Gen.WUpKernel.Skeleton
public import proofs.«01_k».proof.Proof.Gen.WUpKernel.Launch
public import proofs.«01_k».proof.Proof.Gen.WUpKernel.Points
public import proofs.«01_k».proof.Proof.Gen.WUpKernel.Frame
public import proofs.«01_k».proof.Proof.Gen.WUpKernelIdeal
public import proofs.«01_k».proof.Proof.Gen.WUpKernelIdeal.Skeleton
public import proofs.«01_k».proof.Proof.Gen.WUpKernelIdeal.Launch
public import proofs.«01_k».proof.Proof.Gen.WUpKernelIdeal.Points
public import proofs.«01_k».proof.Proof.Gen.WUpKernelIdeal.Frame
public import proofs.«01_k».proof.Proof.Gen.WUpReferenceIdeal
public import proofs.«01_k».proof.Proof.Gen.WUpKernelIdeal.Value
public import proofs.«01_k».proof.Proof.Gen.WUpReferenceIdeal.Run
public import proofs.«01_k».proof.Proof.Gen.WUpReferenceIdeal.Read
public import proofs.«01_k».proof.Proof.Gen.WDownKernel
public import proofs.«01_k».proof.Proof.Gen.WDownKernel.Skeleton
public import proofs.«01_k».proof.Proof.Gen.WDownKernel.Launch
public import proofs.«01_k».proof.Proof.Gen.WDownKernel.Points
public import proofs.«01_k».proof.Proof.Gen.WDownKernel.Frame
public import proofs.«01_k».proof.Proof.Gen.WDownKernelIdeal
public import proofs.«01_k».proof.Proof.Gen.WDownKernelIdeal.Skeleton
public import proofs.«01_k».proof.Proof.Gen.WDownKernelIdeal.Launch
public import proofs.«01_k».proof.Proof.Gen.WDownKernelIdeal.Points
public import proofs.«01_k».proof.Proof.Gen.WDownKernelIdeal.Frame
public import proofs.«01_k».proof.Proof.Gen.WDownReferenceIdeal
public import proofs.«01_k».proof.Proof.Gen.WDownKernelIdeal.Value
public import proofs.«01_k».proof.Proof.Gen.WDownReferenceIdeal.Run
public import proofs.«01_k».proof.Proof.Gen.WDownReferenceIdeal.Read
public import proofs.«01_k».proof.Proof.Gen.WGateKernel
public import proofs.«01_k».proof.Proof.Gen.WGateKernel.Skeleton
public import proofs.«01_k».proof.Proof.Gen.WGateKernel.Launch
public import proofs.«01_k».proof.Proof.Gen.WGateKernel.Points
public import proofs.«01_k».proof.Proof.Gen.WGateKernel.Frame
public import proofs.«01_k».proof.Proof.Gen.WGateKernelIdeal
public import proofs.«01_k».proof.Proof.Gen.WGateKernelIdeal.Skeleton
public import proofs.«01_k».proof.Proof.Gen.WGateKernelIdeal.Launch
public import proofs.«01_k».proof.Proof.Gen.WGateKernelIdeal.Points
public import proofs.«01_k».proof.Proof.Gen.WGateKernelIdeal.Frame
public import proofs.«01_k».proof.Proof.Gen.WGateReferenceIdeal
public import proofs.«01_k».proof.Proof.Gen.WGateKernelIdeal.Value
public import proofs.«01_k».proof.Proof.Gen.WGateReferenceIdeal.Run
public import proofs.«01_k».proof.Proof.Gen.WGateReferenceIdeal.Read
public import proofs.«01_k».proof.Proof.Gen.WOutKernel
public import proofs.«01_k».proof.Proof.Gen.WOutKernel.Skeleton
public import proofs.«01_k».proof.Proof.Gen.WOutKernel.Launch
public import proofs.«01_k».proof.Proof.Gen.WOutKernel.Points
public import proofs.«01_k».proof.Proof.Gen.WOutKernel.Frame
public import proofs.«01_k».proof.Proof.Gen.WOutKernelIdeal
public import proofs.«01_k».proof.Proof.Gen.WOutKernelIdeal.Skeleton
public import proofs.«01_k».proof.Proof.Gen.WOutKernelIdeal.Launch
public import proofs.«01_k».proof.Proof.Gen.WOutKernelIdeal.Points
public import proofs.«01_k».proof.Proof.Gen.WOutKernelIdeal.Frame
public import proofs.«01_k».proof.Proof.Gen.WOutReferenceIdeal
public import proofs.«01_k».proof.Proof.Gen.WOutKernelIdeal.Value
public import proofs.«01_k».proof.Proof.Gen.WOutReferenceIdeal.Run
public import proofs.«01_k».proof.Proof.Gen.WOutReferenceIdeal.Read
public import proofs.«01_k».proof.Proof.Gen.BranchKernel
public import proofs.«01_k».proof.Proof.Gen.BranchKernel.Skeleton
public import proofs.«01_k».proof.Proof.Gen.BranchKernel.Launch
public import proofs.«01_k».proof.Proof.Gen.BranchKernel.Points
public import proofs.«01_k».proof.Proof.Gen.BranchKernel.Frame
public import proofs.«01_k».proof.Proof.Gen.BranchKernelIdeal
public import proofs.«01_k».proof.Proof.Gen.BranchKernelIdeal.Skeleton
public import proofs.«01_k».proof.Proof.Gen.BranchKernelIdeal.Launch
public import proofs.«01_k».proof.Proof.Gen.BranchKernelIdeal.Points
public import proofs.«01_k».proof.Proof.Gen.BranchKernelIdeal.Frame
public import proofs.«01_k».proof.Proof.Gen.BranchReferenceIdeal
public import proofs.«01_k».proof.Proof.Gen.BranchKernelIdeal.Value
public import proofs.«01_k».proof.Proof.Gen.BranchReferenceIdeal.Run
public import proofs.«01_k».proof.Proof.Gen.BranchReferenceIdeal.Read
public import proofs.«01_k».proof.Proof.Gen.MergeKernel
public import proofs.«01_k».proof.Proof.Gen.MergeKernel.Skeleton
public import proofs.«01_k».proof.Proof.Gen.MergeKernel.Launch
public import proofs.«01_k».proof.Proof.Gen.MergeKernel.Points
public import proofs.«01_k».proof.Proof.Gen.MergeKernel.Frame
public import proofs.«01_k».proof.Proof.Gen.MergeKernelIdeal
public import proofs.«01_k».proof.Proof.Gen.MergeKernelIdeal.Skeleton
public import proofs.«01_k».proof.Proof.Gen.MergeKernelIdeal.Launch
public import proofs.«01_k».proof.Proof.Gen.MergeKernelIdeal.Points
public import proofs.«01_k».proof.Proof.Gen.MergeKernelIdeal.Frame
public import proofs.«01_k».proof.Proof.Gen.MergeReferenceIdeal
public import proofs.«01_k».proof.Proof.Gen.MergeKernelIdeal.Value
public import proofs.«01_k».proof.Proof.Gen.MergeReferenceIdeal.Run
public import proofs.«01_k».proof.Proof.Gen.MergeReferenceIdeal.Read
public import proofs.«01_k».proof.Proof.Gen.UpKernel
public import proofs.«01_k».proof.Proof.Gen.UpKernel.Skeleton
public import proofs.«01_k».proof.Proof.Gen.UpKernel.Launch
public import proofs.«01_k».proof.Proof.Gen.UpKernel.Points
public import proofs.«01_k».proof.Proof.Gen.UpKernel.Frame
public import proofs.«01_k».proof.Proof.Gen.UpKernelIdeal
public import proofs.«01_k».proof.Proof.Gen.UpKernelIdeal.Skeleton
public import proofs.«01_k».proof.Proof.Gen.UpKernelIdeal.Launch
public import proofs.«01_k».proof.Proof.Gen.UpKernelIdeal.Points
public import proofs.«01_k».proof.Proof.Gen.UpKernelIdeal.Frame
public import proofs.«01_k».proof.Proof.Gen.UpReferenceIdeal
public import proofs.«01_k».proof.Proof.Gen.UpKernelIdeal.Value
public import proofs.«01_k».proof.Proof.Gen.UpReferenceIdeal.Run
public import proofs.«01_k».proof.Proof.Gen.UpReferenceIdeal.Read
public import proofs.«01_k».proof.Proof.Gen.DownKernel
public import proofs.«01_k».proof.Proof.Gen.DownKernel.Skeleton
public import proofs.«01_k».proof.Proof.Gen.DownKernel.Launch
public import proofs.«01_k».proof.Proof.Gen.DownKernel.Points
public import proofs.«01_k».proof.Proof.Gen.DownKernel.Frame
public import proofs.«01_k».proof.Proof.Gen.DownKernelIdeal
public import proofs.«01_k».proof.Proof.Gen.DownKernelIdeal.Skeleton
public import proofs.«01_k».proof.Proof.Gen.DownKernelIdeal.Launch
public import proofs.«01_k».proof.Proof.Gen.DownKernelIdeal.Points
public import proofs.«01_k».proof.Proof.Gen.DownKernelIdeal.Frame
public import proofs.«01_k».proof.Proof.Gen.DownReferenceIdeal
public import proofs.«01_k».proof.Proof.Gen.DownKernelIdeal.Value
public import proofs.«01_k».proof.Proof.Gen.DownReferenceIdeal.Run
public import proofs.«01_k».proof.Proof.Gen.DownReferenceIdeal.Read
public import proofs.«01_k».proof.Proof.Gen.ConvInKernel
public import proofs.«01_k».proof.Proof.Gen.ConvInKernel.Skeleton
public import proofs.«01_k».proof.Proof.Gen.ConvInKernel.Launch
public import proofs.«01_k».proof.Proof.Gen.ConvInKernel.Points
public import proofs.«01_k».proof.Proof.Gen.ConvInKernel.Frame
public import proofs.«01_k».proof.Proof.Gen.ConvInKernelIdeal
public import proofs.«01_k».proof.Proof.Gen.ConvInKernelIdeal.Skeleton
public import proofs.«01_k».proof.Proof.Gen.ConvInKernelIdeal.Launch
public import proofs.«01_k».proof.Proof.Gen.ConvInKernelIdeal.Points
public import proofs.«01_k».proof.Proof.Gen.ConvInKernelIdeal.Frame
public import proofs.«01_k».proof.Proof.Gen.ConvInReferenceIdeal
public import proofs.«01_k».proof.Proof.Gen.ConvInKernelIdeal.Value
public import proofs.«01_k».proof.Proof.Gen.ConvInReferenceIdeal.Run
public import proofs.«01_k».proof.Proof.Gen.ConvInReferenceIdeal.Read
public import proofs.«01_k».proof.Proof.Gen.VProjKernel
public import proofs.«01_k».proof.Proof.Gen.VProjKernel.Skeleton
public import proofs.«01_k».proof.Proof.Gen.VProjKernel.Launch
public import proofs.«01_k».proof.Proof.Gen.VProjKernel.Points
public import proofs.«01_k».proof.Proof.Gen.VProjKernel.Frame
public import proofs.«01_k».proof.Proof.Gen.VProjKernelIdeal
public import proofs.«01_k».proof.Proof.Gen.VProjKernelIdeal.Skeleton
public import proofs.«01_k».proof.Proof.Gen.VProjKernelIdeal.Launch
public import proofs.«01_k».proof.Proof.Gen.VProjKernelIdeal.Points
public import proofs.«01_k».proof.Proof.Gen.VProjKernelIdeal.Frame
public import proofs.«01_k».proof.Proof.Gen.VProjReferenceIdeal
public import proofs.«01_k».proof.Proof.Gen.VProjKernelIdeal.Value
public import proofs.«01_k».proof.Proof.Gen.VProjReferenceIdeal.Run
public import proofs.«01_k».proof.Proof.Gen.VProjReferenceIdeal.Read
public import proofs.«01_k».proof.Proof.Gen.GatesKernel
public import proofs.«01_k».proof.Proof.Gen.GatesKernel.Skeleton
public import proofs.«01_k».proof.Proof.Gen.GatesKernel.Launch
public import proofs.«01_k».proof.Proof.Gen.GatesKernel.Points
public import proofs.«01_k».proof.Proof.Gen.GatesKernel.Frame
public import proofs.«01_k».proof.Proof.Gen.GatesKernelIdeal
public import proofs.«01_k».proof.Proof.Gen.GatesKernelIdeal.Skeleton
public import proofs.«01_k».proof.Proof.Gen.GatesKernelIdeal.Launch
public import proofs.«01_k».proof.Proof.Gen.GatesKernelIdeal.Points
public import proofs.«01_k».proof.Proof.Gen.GatesKernelIdeal.Frame
public import proofs.«01_k».proof.Proof.Gen.GatesReferenceIdeal
public import proofs.«01_k».proof.Proof.Gen.GatesKernelIdeal.Value
public import proofs.«01_k».proof.Proof.Gen.GatesReferenceIdeal.Run
public import proofs.«01_k».proof.Proof.Gen.GatesReferenceIdeal.Read
public import proofs.«01_k».proof.Proof.Gen.MixedKernel
public import proofs.«01_k».proof.Proof.Gen.MixedKernel.Skeleton
public import proofs.«01_k».proof.Proof.Gen.MixedKernel.Launch
public import proofs.«01_k».proof.Proof.Gen.MixedKernel.Points
public import proofs.«01_k».proof.Proof.Gen.MixedKernel.Frame
public import proofs.«01_k».proof.Proof.Gen.MixedKernelIdeal
public import proofs.«01_k».proof.Proof.Gen.MixedKernelIdeal.Skeleton
public import proofs.«01_k».proof.Proof.Gen.MixedKernelIdeal.Launch
public import proofs.«01_k».proof.Proof.Gen.MixedKernelIdeal.Points
public import proofs.«01_k».proof.Proof.Gen.MixedKernelIdeal.Frame
public import proofs.«01_k».proof.Proof.Gen.MixedReferenceIdeal
public import proofs.«01_k».proof.Proof.Gen.MixedKernelIdeal.Value
public import proofs.«01_k».proof.Proof.Gen.MixedReferenceIdeal.Run
public import proofs.«01_k».proof.Proof.Gen.MixedReferenceIdeal.Read
public import proofs.«01_k».proof.Proof.Gen.MergedKernel
public import proofs.«01_k».proof.Proof.Gen.MergedKernel.Skeleton
public import proofs.«01_k».proof.Proof.Gen.MergedKernel.Launch
public import proofs.«01_k».proof.Proof.Gen.MergedKernel.Points
public import proofs.«01_k».proof.Proof.Gen.MergedKernel.Frame
public import proofs.«01_k».proof.Proof.Gen.MergedKernelIdeal
public import proofs.«01_k».proof.Proof.Gen.MergedKernelIdeal.Skeleton
public import proofs.«01_k».proof.Proof.Gen.MergedKernelIdeal.Launch
public import proofs.«01_k».proof.Proof.Gen.MergedKernelIdeal.Points
public import proofs.«01_k».proof.Proof.Gen.MergedKernelIdeal.Frame
public import proofs.«01_k».proof.Proof.Gen.MergedReferenceIdeal
public import proofs.«01_k».proof.Proof.Gen.MergedKernelIdeal.Value
public import proofs.«01_k».proof.Proof.Gen.MergedReferenceIdeal.Run
public import proofs.«01_k».proof.Proof.Gen.MergedReferenceIdeal.Read
public import proofs.«01_k».proof.Proof.Gen.ResidualKernel
public import proofs.«01_k».proof.Proof.Gen.ResidualKernel.Skeleton
public import proofs.«01_k».proof.Proof.Gen.ResidualKernel.Launch
public import proofs.«01_k».proof.Proof.Gen.ResidualKernel.Points
public import proofs.«01_k».proof.Proof.Gen.ResidualKernel.Frame
public import proofs.«01_k».proof.Proof.Gen.ResidualKernelIdeal
public import proofs.«01_k».proof.Proof.Gen.ResidualKernelIdeal.Skeleton
public import proofs.«01_k».proof.Proof.Gen.ResidualKernelIdeal.Launch
public import proofs.«01_k».proof.Proof.Gen.ResidualKernelIdeal.Points
public import proofs.«01_k».proof.Proof.Gen.ResidualKernelIdeal.Frame
public import proofs.«01_k».proof.Proof.Gen.ResidualReferenceIdeal
public import proofs.«01_k».proof.Proof.Gen.ResidualKernelIdeal.Value
public import proofs.«01_k».proof.Proof.Gen.ResidualReferenceIdeal.Run
public import proofs.«01_k».proof.Proof.Gen.ResidualReferenceIdeal.Read
public import proofs.«01_k».proof.Proof.Gen.AdamInKernel
public import proofs.«01_k».proof.Proof.Gen.AdamInKernel.Skeleton
public import proofs.«01_k».proof.Proof.Gen.AdamInKernel.Launch
public import proofs.«01_k».proof.Proof.Gen.AdamInKernel.Points
public import proofs.«01_k».proof.Proof.Gen.AdamInKernel.Frame
public import proofs.«01_k».proof.Proof.Gen.AdamInKernelIdeal
public import proofs.«01_k».proof.Proof.Gen.AdamInKernelIdeal.Skeleton
public import proofs.«01_k».proof.Proof.Gen.AdamInKernelIdeal.Launch
public import proofs.«01_k».proof.Proof.Gen.AdamInKernelIdeal.Points
public import proofs.«01_k».proof.Proof.Gen.AdamInKernelIdeal.Frame
public import proofs.«01_k».proof.Proof.Gen.AdamInReferenceIdeal
public import proofs.«01_k».proof.Proof.Gen.AdamInKernelIdeal.Value
public import proofs.«01_k».proof.Proof.Gen.AdamInReferenceIdeal.Run
public import proofs.«01_k».proof.Proof.Gen.AdamInReferenceIdeal.Read
public import proofs.«01_k».proof.Proof.Gen.AdamGateKernel
public import proofs.«01_k».proof.Proof.Gen.AdamGateKernel.Skeleton
public import proofs.«01_k».proof.Proof.Gen.AdamGateKernel.Launch
public import proofs.«01_k».proof.Proof.Gen.AdamGateKernel.Points
public import proofs.«01_k».proof.Proof.Gen.AdamGateKernel.Frame
public import proofs.«01_k».proof.Proof.Gen.AdamGateKernelIdeal
public import proofs.«01_k».proof.Proof.Gen.AdamGateKernelIdeal.Skeleton
public import proofs.«01_k».proof.Proof.Gen.AdamGateKernelIdeal.Launch
public import proofs.«01_k».proof.Proof.Gen.AdamGateKernelIdeal.Points
public import proofs.«01_k».proof.Proof.Gen.AdamGateKernelIdeal.Frame
public import proofs.«01_k».proof.Proof.Gen.AdamGateReferenceIdeal
public import proofs.«01_k».proof.Proof.Gen.AdamGateKernelIdeal.Value
public import proofs.«01_k».proof.Proof.Gen.AdamGateReferenceIdeal.Run
public import proofs.«01_k».proof.Proof.Gen.AdamGateReferenceIdeal.Read
public import proofs.«01_k».proof.Proof.Gen.AdamMlpKernel
public import proofs.«01_k».proof.Proof.Gen.AdamMlpKernel.Skeleton
public import proofs.«01_k».proof.Proof.Gen.AdamMlpKernel.Launch
public import proofs.«01_k».proof.Proof.Gen.AdamMlpKernel.Points
public import proofs.«01_k».proof.Proof.Gen.AdamMlpKernel.Frame
public import proofs.«01_k».proof.Proof.Gen.AdamMlpKernelIdeal
public import proofs.«01_k».proof.Proof.Gen.AdamMlpKernelIdeal.Skeleton
public import proofs.«01_k».proof.Proof.Gen.AdamMlpKernelIdeal.Launch
public import proofs.«01_k».proof.Proof.Gen.AdamMlpKernelIdeal.Points
public import proofs.«01_k».proof.Proof.Gen.AdamMlpKernelIdeal.Frame
public import proofs.«01_k».proof.Proof.Gen.AdamMlpReferenceIdeal
public import proofs.«01_k».proof.Proof.Gen.AdamMlpKernelIdeal.Value
public import proofs.«01_k».proof.Proof.Gen.AdamMlpReferenceIdeal.Run
public import proofs.«01_k».proof.Proof.Gen.AdamMlpReferenceIdeal.Read
public import proofs.«01_k».proof.Proof.Gen.AdamSquareKernel
public import proofs.«01_k».proof.Proof.Gen.AdamSquareKernel.Skeleton
public import proofs.«01_k».proof.Proof.Gen.AdamSquareKernel.Launch
public import proofs.«01_k».proof.Proof.Gen.AdamSquareKernel.Points
public import proofs.«01_k».proof.Proof.Gen.AdamSquareKernel.Frame
public import proofs.«01_k».proof.Proof.Gen.AdamSquareKernelIdeal
public import proofs.«01_k».proof.Proof.Gen.AdamSquareKernelIdeal.Skeleton
public import proofs.«01_k».proof.Proof.Gen.AdamSquareKernelIdeal.Launch
public import proofs.«01_k».proof.Proof.Gen.AdamSquareKernelIdeal.Points
public import proofs.«01_k».proof.Proof.Gen.AdamSquareKernelIdeal.Frame
public import proofs.«01_k».proof.Proof.Gen.AdamSquareReferenceIdeal
public import proofs.«01_k».proof.Proof.Gen.AdamSquareKernelIdeal.Value
public import proofs.«01_k».proof.Proof.Gen.AdamSquareReferenceIdeal.Run
public import proofs.«01_k».proof.Proof.Gen.AdamSquareReferenceIdeal.Read
public import proofs.«01_k».proof.Proof.Gen.AdamSmallKernel
public import proofs.«01_k».proof.Proof.Gen.AdamSmallKernel.Skeleton
public import proofs.«01_k».proof.Proof.Gen.AdamSmallKernel.Launch
public import proofs.«01_k».proof.Proof.Gen.AdamSmallKernel.Points
public import proofs.«01_k».proof.Proof.Gen.AdamSmallKernel.Frame
public import proofs.«01_k».proof.Proof.Gen.AdamSmallKernelIdeal
public import proofs.«01_k».proof.Proof.Gen.AdamSmallKernelIdeal.Skeleton
public import proofs.«01_k».proof.Proof.Gen.AdamSmallKernelIdeal.Launch
public import proofs.«01_k».proof.Proof.Gen.AdamSmallKernelIdeal.Points
public import proofs.«01_k».proof.Proof.Gen.AdamSmallKernelIdeal.Frame
public import proofs.«01_k».proof.Proof.Gen.AdamSmallReferenceIdeal
public import proofs.«01_k».proof.Proof.Gen.AdamSmallReferenceIdeal.Run
public import proofs.«01_k».proof.Proof.Gen.AdamSmallReferenceIdeal.Read
public import proofs.«01_k».proof.Proof.Gen.FirstNormKernel
public import proofs.«01_k».proof.Proof.Gen.FirstNormKernel.Skeleton
public import proofs.«01_k».proof.Proof.Gen.FirstNormKernel.Launch
public import proofs.«01_k».proof.Proof.Gen.FirstNormKernel.Points
public import proofs.«01_k».proof.Proof.Gen.FirstNormKernel.Frame
public import proofs.«01_k».proof.Proof.Gen.FirstNormKernelIdeal
public import proofs.«01_k».proof.Proof.Gen.FirstNormKernelIdeal.Skeleton
public import proofs.«01_k».proof.Proof.Gen.FirstNormKernelIdeal.Launch
public import proofs.«01_k».proof.Proof.Gen.FirstNormKernelIdeal.Points
public import proofs.«01_k».proof.Proof.Gen.FirstNormKernelIdeal.Frame
public import proofs.«01_k».proof.Proof.Gen.FirstNormReferenceIdeal
public import proofs.«01_k».proof.Proof.Gen.FirstNormKernelIdeal.Value
public import proofs.«01_k».proof.Proof.Gen.FirstNormReferenceIdeal.Run
public import proofs.«01_k».proof.Proof.Gen.FirstNormReferenceIdeal.Read
public import proofs.«01_k».proof.Proof.Gen.ShortConvKernel
public import proofs.«01_k».proof.Proof.Gen.ShortConvKernel.Skeleton
public import proofs.«01_k».proof.Proof.Gen.ShortConvKernel.Launch
public import proofs.«01_k».proof.Proof.Gen.ShortConvKernel.Points
public import proofs.«01_k».proof.Proof.Gen.ShortConvKernel.Frame
public import proofs.«01_k».proof.Proof.Gen.ShortConvKernelIdeal
public import proofs.«01_k».proof.Proof.Gen.ShortConvKernelIdeal.Skeleton
public import proofs.«01_k».proof.Proof.Gen.ShortConvKernelIdeal.Launch
public import proofs.«01_k».proof.Proof.Gen.ShortConvKernelIdeal.Points
public import proofs.«01_k».proof.Proof.Gen.ShortConvKernelIdeal.Frame
public import proofs.«01_k».proof.Proof.Gen.ShortConvReferenceIdeal
public import proofs.«01_k».proof.Proof.Gen.ShortConvKernelIdeal.Value
public import proofs.«01_k».proof.Proof.Gen.ShortConvReferenceIdeal.Run
public import proofs.«01_k».proof.Proof.Gen.ShortConvReferenceIdeal.Read
public import proofs.«01_k».proof.Proof.Gen.LossKernel
public import proofs.«01_k».proof.Proof.Gen.LossKernel.Skeleton
public import proofs.«01_k».proof.Proof.Gen.LossKernel.Launch
public import proofs.«01_k».proof.Proof.Gen.LossKernel.Points
public import proofs.«01_k».proof.Proof.Gen.LossKernel.Frame
public import proofs.«01_k».proof.Proof.Gen.LossKernelIdeal
public import proofs.«01_k».proof.Proof.Gen.LossKernelIdeal.Skeleton
public import proofs.«01_k».proof.Proof.Gen.LossKernelIdeal.Launch
public import proofs.«01_k».proof.Proof.Gen.LossKernelIdeal.Points
public import proofs.«01_k».proof.Proof.Gen.LossKernelIdeal.Frame
public import proofs.«01_k».proof.Proof.Gen.LossReferenceIdeal
public import proofs.«01_k».proof.Proof.Gen.LossKernelIdeal.Value
public import proofs.«01_k».proof.Proof.Gen.LossReferenceIdeal.Run
public import proofs.«01_k».proof.Proof.Gen.LossReferenceIdeal.Read
public import proofs.«01_k».proof.Proof.Conv.Algebraic
public import proofs.«01_k».proof.Proof.Norms.One
public import proofs.«01_k».proof.Proof.Norms.Two
public import proofs.«01_k».proof.Proof.Activations.Act
public import proofs.«01_k».proof.Proof.Weights.In
public import proofs.«01_k».proof.Proof.Weights.Up
public import proofs.«01_k».proof.Proof.Weights.Down
public import proofs.«01_k».proof.Proof.Weights.Gate
public import proofs.«01_k».proof.Proof.Weights.Out
public import proofs.«01_k».proof.Proof.Activations.Branch
public import proofs.«01_k».proof.Proof.Activations.Merge
public import proofs.«01_k».proof.Proof.Forward.Up
public import proofs.«01_k».proof.Proof.Forward.Down
public import proofs.«01_k».proof.Proof.Forward.ConvIn
public import proofs.«01_k».proof.Proof.Forward.VProj
public import proofs.«01_k».proof.Proof.Forward.Gates
public import proofs.«01_k».proof.Proof.Forward.Mixed
public import proofs.«01_k».proof.Proof.Forward.Merged
public import proofs.«01_k».proof.Proof.Forward.Residual
public import proofs.«01_k».proof.Proof.Optimiser.In
public import proofs.«01_k».proof.Proof.Optimiser.Gate
public import proofs.«01_k».proof.Proof.Optimiser.Mlp
public import proofs.«01_k».proof.Proof.Optimiser.Square
public import proofs.«01_k».proof.Proof.Optimiser.Small
public import proofs.«01_k».proof.Proof.Forward.FirstNorm
public import proofs.«01_k».proof.Proof.Forward.ShortConv
public import proofs.«01_k».proof.Proof.Forward.Loss

@[expose] public section

noncomputable section

/-! # The claims

For each program: both frames of the kernel from its generated run, the reference's frame from its run, nothing to preserve since no
operation is replaced, and the equality of the results over the extended reals from the program's own module. -/

namespace Cert.Proof

open Idealize.ShloMosaic Idealize.SL.Sem

/-- The reference of the gated short convolution runs, keeps its arguments and declares no semaphore. -/
theorem conv_reference_frame : Cert.quiescent_ConvReferenceIdeal (hConvReferenceIdeal := Cert.ConvReferenceIdeal.Gen.facts) :=
  fun m g _ => (θ_run Cert.ConvReferenceIdeal.defs _ _).mono
    (fun r h => ⟨fun c => (h c).2.2, sem_eq_zero_of_no_sems (by decide) r.2⟩) (Cert.ConvReferenceIdeal.Value.run m g)

/-- The reference of the gradient through the first norm runs, keeps its arguments and declares no semaphore. -/
theorem norm_one_reference_frame : Cert.quiescent_NormOneReferenceIdeal (hNormOneReferenceIdeal := Cert.NormOneReferenceIdeal.Gen.facts) :=
  fun m g _ => (θ_run Cert.NormOneReferenceIdeal.defs _ _).mono
    (fun r h => ⟨fun c => (h c).2.2, sem_eq_zero_of_no_sems (by decide) r.2⟩) (Cert.NormOneReferenceIdeal.Value.run m g)

/-- The reference of the gradient through the second norm runs, keeps its arguments and declares no semaphore. -/
theorem norm_two_reference_frame : Cert.quiescent_NormTwoReferenceIdeal (hNormTwoReferenceIdeal := Cert.NormTwoReferenceIdeal.Gen.facts) :=
  fun m g _ => (θ_run Cert.NormTwoReferenceIdeal.defs _ _).mono
    (fun r h => ⟨fun c => (h c).2.2, sem_eq_zero_of_no_sems (by decide) r.2⟩) (Cert.NormTwoReferenceIdeal.Value.run m g)

/-- The reference of the gradient of the squared ReLU runs, keeps its arguments and declares no semaphore. -/
theorem act_reference_frame : Cert.quiescent_ActReferenceIdeal (hActReferenceIdeal := Cert.ActReferenceIdeal.Gen.facts) :=
  fun m g _ => (θ_run Cert.ActReferenceIdeal.defs _ _).mono
    (fun r h => ⟨fun c => (h c).2, sem_eq_zero_of_no_sems (by decide) r.2⟩) (Cert.ActReferenceIdeal.Value.run m g)

/-- The reference of the gradient of the input projection runs, keeps its arguments and declares no semaphore. -/
theorem w_in_reference_frame : Cert.quiescent_WInReferenceIdeal (hWInReferenceIdeal := Cert.WInReferenceIdeal.Gen.facts) :=
  fun m g _ => (θ_run Cert.WInReferenceIdeal.defs _ _).mono
    (fun r h => ⟨fun c => (h c).2, sem_eq_zero_of_no_sems (by decide) r.2⟩) (Cert.WInReferenceIdeal.Value.run m g)

/-- The reference of the gradient of the up weight runs, keeps its arguments and declares no semaphore. -/
theorem w_up_reference_frame : Cert.quiescent_WUpReferenceIdeal (hWUpReferenceIdeal := Cert.WUpReferenceIdeal.Gen.facts) :=
  fun m g _ => (θ_run Cert.WUpReferenceIdeal.defs _ _).mono
    (fun r h => ⟨fun c => (h c).2, sem_eq_zero_of_no_sems (by decide) r.2⟩) (Cert.WUpReferenceIdeal.Value.run m g)

/-- The reference of the gradient of the down weight runs, keeps its arguments and declares no semaphore. -/
theorem w_down_reference_frame : Cert.quiescent_WDownReferenceIdeal (hWDownReferenceIdeal := Cert.WDownReferenceIdeal.Gen.facts) :=
  fun m g _ => (θ_run Cert.WDownReferenceIdeal.defs _ _).mono
    (fun r h => ⟨fun c => (h c).2, sem_eq_zero_of_no_sems (by decide) r.2⟩) (Cert.WDownReferenceIdeal.Value.run m g)

/-- The reference of the gradient of the gate weight runs, keeps its arguments and declares no semaphore. -/
theorem w_gate_reference_frame : Cert.quiescent_WGateReferenceIdeal (hWGateReferenceIdeal := Cert.WGateReferenceIdeal.Gen.facts) :=
  fun m g _ => (θ_run Cert.WGateReferenceIdeal.defs _ _).mono
    (fun r h => ⟨fun c => (h c).2, sem_eq_zero_of_no_sems (by decide) r.2⟩) (Cert.WGateReferenceIdeal.Value.run m g)

/-- The reference of the gradient of a square weight runs, keeps its arguments and declares no semaphore. -/
theorem w_out_reference_frame : Cert.quiescent_WOutReferenceIdeal (hWOutReferenceIdeal := Cert.WOutReferenceIdeal.Gen.facts) :=
  fun m g _ => (θ_run Cert.WOutReferenceIdeal.defs _ _).mono
    (fun r h => ⟨fun c => (h c).2, sem_eq_zero_of_no_sems (by decide) r.2⟩) (Cert.WOutReferenceIdeal.Value.run m g)

/-- The reference of the gradient of a square projection's input runs, keeps its arguments and declares no semaphore. -/
theorem branch_reference_frame : Cert.quiescent_BranchReferenceIdeal (hBranchReferenceIdeal := Cert.BranchReferenceIdeal.Gen.facts) :=
  fun m g _ => (θ_run Cert.BranchReferenceIdeal.defs _ _).mono
    (fun r h => ⟨fun c => (h c).2, sem_eq_zero_of_no_sems (by decide) r.2⟩) (Cert.BranchReferenceIdeal.Value.run m g)

/-- The reference of the gradient through the gated merge runs, keeps its arguments and declares no semaphore. -/
theorem merge_reference_frame : Cert.quiescent_MergeReferenceIdeal (hMergeReferenceIdeal := Cert.MergeReferenceIdeal.Gen.facts) :=
  fun m g _ => (θ_run Cert.MergeReferenceIdeal.defs _ _).mono
    (fun r h => ⟨fun c => (h c).2.2.2, sem_eq_zero_of_no_sems (by decide) r.2⟩) (Cert.MergeReferenceIdeal.Value.run m g)

/-- The reference of the forward product with the up weight and the squared ReLU runs, keeps its arguments and declares no semaphore. -/
theorem up_reference_frame : Cert.quiescent_UpReferenceIdeal (hUpReferenceIdeal := Cert.UpReferenceIdeal.Gen.facts) :=
  fun m g _ => (θ_run Cert.UpReferenceIdeal.defs _ _).mono
    (fun r h => ⟨fun c => (h c).2, sem_eq_zero_of_no_sems (by decide) r.2⟩) (Cert.UpReferenceIdeal.Value.run m g)

/-- The reference of the forward product with the down weight and the loss runs, keeps its arguments and declares no semaphore. -/
theorem down_reference_frame : Cert.quiescent_DownReferenceIdeal (hDownReferenceIdeal := Cert.DownReferenceIdeal.Gen.facts) :=
  fun m g _ => (θ_run Cert.DownReferenceIdeal.defs _ _).mono
    (fun r h => ⟨fun c => (h c).2.2, sem_eq_zero_of_no_sems (by decide) r.2⟩) (Cert.DownReferenceIdeal.Value.run m g)

/-- The reference of the projection to the convolution branch runs, keeps its arguments and declares no semaphore. -/
theorem conv_in_reference_frame : Cert.quiescent_ConvInReferenceIdeal (hConvInReferenceIdeal := Cert.ConvInReferenceIdeal.Gen.facts) :=
  fun m g _ => (θ_run Cert.ConvInReferenceIdeal.defs _ _).mono
    (fun r h => ⟨fun c => (h c).2, sem_eq_zero_of_no_sems (by decide) r.2⟩) (Cert.ConvInReferenceIdeal.Value.run m g)

/-- The reference of the projection to the values runs, keeps its arguments and declares no semaphore. -/
theorem v_proj_reference_frame : Cert.quiescent_VProjReferenceIdeal (hVProjReferenceIdeal := Cert.VProjReferenceIdeal.Gen.facts) :=
  fun m g _ => (θ_run Cert.VProjReferenceIdeal.defs _ _).mono
    (fun r h => ⟨fun c => (h c).2, sem_eq_zero_of_no_sems (by decide) r.2⟩) (Cert.VProjReferenceIdeal.Value.run m g)

/-- The reference of the gates runs, keeps its arguments and declares no semaphore. -/
theorem gates_reference_frame : Cert.quiescent_GatesReferenceIdeal (hGatesReferenceIdeal := Cert.GatesReferenceIdeal.Gen.facts) :=
  fun m g _ => (θ_run Cert.GatesReferenceIdeal.defs _ _).mono
    (fun r h => ⟨fun c => (h c).2, sem_eq_zero_of_no_sems (by decide) r.2⟩) (Cert.GatesReferenceIdeal.Value.run m g)

/-- The reference of the attention branch's projection runs, keeps its arguments and declares no semaphore. -/
theorem mixed_reference_frame : Cert.quiescent_MixedReferenceIdeal (hMixedReferenceIdeal := Cert.MixedReferenceIdeal.Gen.facts) :=
  fun m g _ => (θ_run Cert.MixedReferenceIdeal.defs _ _).mono
    (fun r h => ⟨fun c => (h c).2, sem_eq_zero_of_no_sems (by decide) r.2⟩) (Cert.MixedReferenceIdeal.Value.run m g)

/-- The reference of the convolution branch's projection and the merge runs, keeps its arguments and declares no semaphore. -/
theorem merged_reference_frame : Cert.quiescent_MergedReferenceIdeal (hMergedReferenceIdeal := Cert.MergedReferenceIdeal.Gen.facts) :=
  fun m g _ => (θ_run Cert.MergedReferenceIdeal.defs _ _).mono
    (fun r h => ⟨fun c => (h c).2.2, sem_eq_zero_of_no_sems (by decide) r.2⟩) (Cert.MergedReferenceIdeal.Value.run m g)

/-- The reference of the output projection, the residual and the second norm runs, keeps its arguments and declares no semaphore. -/
theorem residual_reference_frame : Cert.quiescent_ResidualReferenceIdeal (hResidualReferenceIdeal := Cert.ResidualReferenceIdeal.Gen.facts) :=
  fun m g _ => (θ_run Cert.ResidualReferenceIdeal.defs _ _).mono
    (fun r h => ⟨fun c => (h c).2.2, sem_eq_zero_of_no_sems (by decide) r.2⟩) (Cert.ResidualReferenceIdeal.Value.run m g)

/-- The reference of the optimiser's step on the input projection runs, keeps its arguments and declares no semaphore. -/
theorem adam_in_reference_frame : Cert.quiescent_AdamInReferenceIdeal (hAdamInReferenceIdeal := Cert.AdamInReferenceIdeal.Gen.facts) :=
  fun m g _ => (θ_run Cert.AdamInReferenceIdeal.defs _ _).mono
    (fun r h => ⟨fun c => (h c).2.2.2, sem_eq_zero_of_no_sems (by decide) r.2⟩) (Cert.AdamInReferenceIdeal.Value.run m g)

/-- The reference of the optimiser's step on the gates' weight runs, keeps its arguments and declares no semaphore. -/
theorem adam_gate_reference_frame : Cert.quiescent_AdamGateReferenceIdeal (hAdamGateReferenceIdeal := Cert.AdamGateReferenceIdeal.Gen.facts) :=
  fun m g _ => (θ_run Cert.AdamGateReferenceIdeal.defs _ _).mono
    (fun r h => ⟨fun c => (h c).2.2.2, sem_eq_zero_of_no_sems (by decide) r.2⟩) (Cert.AdamGateReferenceIdeal.Value.run m g)

/-- The reference of the optimiser's step on an MLP weight runs, keeps its arguments and declares no semaphore. -/
theorem adam_mlp_reference_frame : Cert.quiescent_AdamMlpReferenceIdeal (hAdamMlpReferenceIdeal := Cert.AdamMlpReferenceIdeal.Gen.facts) :=
  fun m g _ => (θ_run Cert.AdamMlpReferenceIdeal.defs _ _).mono
    (fun r h => ⟨fun c => (h c).2.2.2, sem_eq_zero_of_no_sems (by decide) r.2⟩) (Cert.AdamMlpReferenceIdeal.Value.run m g)

/-- The reference of the optimiser's step on a square weight runs, keeps its arguments and declares no semaphore. -/
theorem adam_square_reference_frame : Cert.quiescent_AdamSquareReferenceIdeal (hAdamSquareReferenceIdeal := Cert.AdamSquareReferenceIdeal.Gen.facts) :=
  fun m g _ => (θ_run Cert.AdamSquareReferenceIdeal.defs _ _).mono
    (fun r h => ⟨fun c => (h c).2.2.2, sem_eq_zero_of_no_sems (by decide) r.2⟩) (Cert.AdamSquareReferenceIdeal.Value.run m g)

/-- The reference of the optimiser's step on the small weights runs, keeps its arguments and declares no semaphore. -/
theorem adam_small_reference_frame : Cert.quiescent_AdamSmallReferenceIdeal (hAdamSmallReferenceIdeal := Cert.AdamSmallReferenceIdeal.Gen.facts) :=
  fun m g _ => (θ_run Cert.AdamSmallReferenceIdeal.defs _ _).mono
    (fun r h => ⟨fun c => (h c).2.2.2.2.2.2.2.2.2.2.2.2.2.2.2.2.2.2.2.2.2.2.2.2, sem_eq_zero_of_no_sems (by decide) r.2⟩) (Cert.AdamSmallReferenceIdeal.Value.run m g)

/-- The reference of the first norm runs, keeps its arguments and declares no semaphore. -/
theorem first_norm_reference_frame : Cert.quiescent_FirstNormReferenceIdeal (hFirstNormReferenceIdeal := Cert.FirstNormReferenceIdeal.Gen.facts) :=
  fun m g _ => (θ_run Cert.FirstNormReferenceIdeal.defs _ _).mono
    (fun r h => ⟨fun c => (h c).2, sem_eq_zero_of_no_sems (by decide) r.2⟩) (Cert.FirstNormReferenceIdeal.Value.run m g)

/-- The reference of the short convolution runs, keeps its arguments and declares no semaphore. -/
theorem short_conv_reference_frame : Cert.quiescent_ShortConvReferenceIdeal (hShortConvReferenceIdeal := Cert.ShortConvReferenceIdeal.Gen.facts) :=
  fun m g _ => (θ_run Cert.ShortConvReferenceIdeal.defs _ _).mono
    (fun r h => ⟨fun c => (h c).2, sem_eq_zero_of_no_sems (by decide) r.2⟩) (Cert.ShortConvReferenceIdeal.Value.run m g)

/-- The reference of the loss from its parts runs, keeps its arguments and declares no semaphore. -/
theorem loss_reference_frame : Cert.quiescent_LossReferenceIdeal (hLossReferenceIdeal := Cert.LossReferenceIdeal.Gen.facts) :=
  fun m g _ => (θ_run Cert.LossReferenceIdeal.defs _ _).mono
    (fun r h => ⟨fun c => (h c).2, sem_eq_zero_of_no_sems (by decide) r.2⟩) (Cert.LossReferenceIdeal.Value.run m g)

/-- Everything the certificate claims. -/
theorem claim : Cert.Claim := ⟨
  Cert.ConvKernel.Gen.facts, Cert.ConvKernelIdeal.Gen.facts, Cert.ConvReferenceIdeal.Gen.facts,
  Cert.NormOneKernel.Gen.facts, Cert.NormOneKernelIdeal.Gen.facts, Cert.NormOneReferenceIdeal.Gen.facts,
  Cert.NormTwoKernel.Gen.facts, Cert.NormTwoKernelIdeal.Gen.facts, Cert.NormTwoReferenceIdeal.Gen.facts,
  Cert.ActKernel.Gen.facts, Cert.ActKernelIdeal.Gen.facts, Cert.ActReferenceIdeal.Gen.facts,
  Cert.WInKernel.Gen.facts, Cert.WInKernelIdeal.Gen.facts, Cert.WInReferenceIdeal.Gen.facts,
  Cert.WUpKernel.Gen.facts, Cert.WUpKernelIdeal.Gen.facts, Cert.WUpReferenceIdeal.Gen.facts,
  Cert.WDownKernel.Gen.facts, Cert.WDownKernelIdeal.Gen.facts, Cert.WDownReferenceIdeal.Gen.facts,
  Cert.WGateKernel.Gen.facts, Cert.WGateKernelIdeal.Gen.facts, Cert.WGateReferenceIdeal.Gen.facts,
  Cert.WOutKernel.Gen.facts, Cert.WOutKernelIdeal.Gen.facts, Cert.WOutReferenceIdeal.Gen.facts,
  Cert.BranchKernel.Gen.facts, Cert.BranchKernelIdeal.Gen.facts, Cert.BranchReferenceIdeal.Gen.facts,
  Cert.MergeKernel.Gen.facts, Cert.MergeKernelIdeal.Gen.facts, Cert.MergeReferenceIdeal.Gen.facts,
  Cert.UpKernel.Gen.facts, Cert.UpKernelIdeal.Gen.facts, Cert.UpReferenceIdeal.Gen.facts,
  Cert.DownKernel.Gen.facts, Cert.DownKernelIdeal.Gen.facts, Cert.DownReferenceIdeal.Gen.facts,
  Cert.ConvInKernel.Gen.facts, Cert.ConvInKernelIdeal.Gen.facts, Cert.ConvInReferenceIdeal.Gen.facts,
  Cert.VProjKernel.Gen.facts, Cert.VProjKernelIdeal.Gen.facts, Cert.VProjReferenceIdeal.Gen.facts,
  Cert.GatesKernel.Gen.facts, Cert.GatesKernelIdeal.Gen.facts, Cert.GatesReferenceIdeal.Gen.facts,
  Cert.MixedKernel.Gen.facts, Cert.MixedKernelIdeal.Gen.facts, Cert.MixedReferenceIdeal.Gen.facts,
  Cert.MergedKernel.Gen.facts, Cert.MergedKernelIdeal.Gen.facts, Cert.MergedReferenceIdeal.Gen.facts,
  Cert.ResidualKernel.Gen.facts, Cert.ResidualKernelIdeal.Gen.facts, Cert.ResidualReferenceIdeal.Gen.facts,
  Cert.AdamInKernel.Gen.facts, Cert.AdamInKernelIdeal.Gen.facts, Cert.AdamInReferenceIdeal.Gen.facts,
  Cert.AdamGateKernel.Gen.facts, Cert.AdamGateKernelIdeal.Gen.facts, Cert.AdamGateReferenceIdeal.Gen.facts,
  Cert.AdamMlpKernel.Gen.facts, Cert.AdamMlpKernelIdeal.Gen.facts, Cert.AdamMlpReferenceIdeal.Gen.facts,
  Cert.AdamSquareKernel.Gen.facts, Cert.AdamSquareKernelIdeal.Gen.facts, Cert.AdamSquareReferenceIdeal.Gen.facts,
  Cert.AdamSmallKernel.Gen.facts, Cert.AdamSmallKernelIdeal.Gen.facts, Cert.AdamSmallReferenceIdeal.Gen.facts,
  Cert.FirstNormKernel.Gen.facts, Cert.FirstNormKernelIdeal.Gen.facts, Cert.FirstNormReferenceIdeal.Gen.facts,
  Cert.ShortConvKernel.Gen.facts, Cert.ShortConvKernelIdeal.Gen.facts, Cert.ShortConvReferenceIdeal.Gen.facts,
  Cert.LossKernel.Gen.facts, Cert.LossKernelIdeal.Gen.facts, Cert.LossReferenceIdeal.Gen.facts,
  fun m g _ => Cert.ConvKernel.Gen.frame m g, fun m g _ => Cert.ConvKernelIdeal.Gen.frame m g, conv_reference_frame,
  fun m g _ => Cert.NormOneKernel.Gen.frame m g, fun m g _ => Cert.NormOneKernelIdeal.Gen.frame m g, norm_one_reference_frame,
  fun m g _ => Cert.NormTwoKernel.Gen.frame m g, fun m g _ => Cert.NormTwoKernelIdeal.Gen.frame m g, norm_two_reference_frame,
  fun m g _ => Cert.ActKernel.Gen.frame m g, fun m g _ => Cert.ActKernelIdeal.Gen.frame m g, act_reference_frame,
  fun m g _ => Cert.WInKernel.Gen.frame m g, fun m g _ => Cert.WInKernelIdeal.Gen.frame m g, w_in_reference_frame,
  fun m g _ => Cert.WUpKernel.Gen.frame m g, fun m g _ => Cert.WUpKernelIdeal.Gen.frame m g, w_up_reference_frame,
  fun m g _ => Cert.WDownKernel.Gen.frame m g, fun m g _ => Cert.WDownKernelIdeal.Gen.frame m g, w_down_reference_frame,
  fun m g _ => Cert.WGateKernel.Gen.frame m g, fun m g _ => Cert.WGateKernelIdeal.Gen.frame m g, w_gate_reference_frame,
  fun m g _ => Cert.WOutKernel.Gen.frame m g, fun m g _ => Cert.WOutKernelIdeal.Gen.frame m g, w_out_reference_frame,
  fun m g _ => Cert.BranchKernel.Gen.frame m g, fun m g _ => Cert.BranchKernelIdeal.Gen.frame m g, branch_reference_frame,
  fun m g _ => Cert.MergeKernel.Gen.frame m g, fun m g _ => Cert.MergeKernelIdeal.Gen.frame m g, merge_reference_frame,
  fun m g _ => Cert.UpKernel.Gen.frame m g, fun m g _ => Cert.UpKernelIdeal.Gen.frame m g, up_reference_frame,
  fun m g _ => Cert.DownKernel.Gen.frame m g, fun m g _ => Cert.DownKernelIdeal.Gen.frame m g, down_reference_frame,
  fun m g _ => Cert.ConvInKernel.Gen.frame m g, fun m g _ => Cert.ConvInKernelIdeal.Gen.frame m g, conv_in_reference_frame,
  fun m g _ => Cert.VProjKernel.Gen.frame m g, fun m g _ => Cert.VProjKernelIdeal.Gen.frame m g, v_proj_reference_frame,
  fun m g _ => Cert.GatesKernel.Gen.frame m g, fun m g _ => Cert.GatesKernelIdeal.Gen.frame m g, gates_reference_frame,
  fun m g _ => Cert.MixedKernel.Gen.frame m g, fun m g _ => Cert.MixedKernelIdeal.Gen.frame m g, mixed_reference_frame,
  fun m g _ => Cert.MergedKernel.Gen.frame m g, fun m g _ => Cert.MergedKernelIdeal.Gen.frame m g, merged_reference_frame,
  fun m g _ => Cert.ResidualKernel.Gen.frame m g, fun m g _ => Cert.ResidualKernelIdeal.Gen.frame m g, residual_reference_frame,
  fun m g _ => Cert.AdamInKernel.Gen.frame m g, fun m g _ => Cert.AdamInKernelIdeal.Gen.frame m g, adam_in_reference_frame,
  fun m g _ => Cert.AdamGateKernel.Gen.frame m g, fun m g _ => Cert.AdamGateKernelIdeal.Gen.frame m g, adam_gate_reference_frame,
  fun m g _ => Cert.AdamMlpKernel.Gen.frame m g, fun m g _ => Cert.AdamMlpKernelIdeal.Gen.frame m g, adam_mlp_reference_frame,
  fun m g _ => Cert.AdamSquareKernel.Gen.frame m g, fun m g _ => Cert.AdamSquareKernelIdeal.Gen.frame m g, adam_square_reference_frame,
  fun m g _ => Cert.AdamSmallKernel.Gen.frame m g, fun m g _ => Cert.AdamSmallKernelIdeal.Gen.frame m g, adam_small_reference_frame,
  fun m g _ => Cert.FirstNormKernel.Gen.frame m g, fun m g _ => Cert.FirstNormKernelIdeal.Gen.frame m g, first_norm_reference_frame,
  fun m g _ => Cert.ShortConvKernel.Gen.frame m g, fun m g _ => Cert.ShortConvKernelIdeal.Gen.frame m g, short_conv_reference_frame,
  fun m g _ => Cert.LossKernel.Gen.frame m g, fun m g _ => Cert.LossKernelIdeal.Gen.frame m g, loss_reference_frame,
  trivial, Cert.Conv.algebraic,
  trivial, Cert.NormOneKernelIdeal.Proof.algebraic,
  trivial, Cert.NormTwoKernelIdeal.Proof.algebraic,
  trivial, Cert.ActKernelIdeal.Proof.algebraic,
  trivial, Cert.WInKernelIdeal.Proof.algebraic,
  trivial, Cert.WUpKernelIdeal.Proof.algebraic,
  trivial, Cert.WDownKernelIdeal.Proof.algebraic,
  trivial, Cert.WGateKernelIdeal.Proof.algebraic,
  trivial, Cert.WOutKernelIdeal.Proof.algebraic,
  trivial, Cert.BranchKernelIdeal.Proof.algebraic,
  trivial, Cert.MergeKernelIdeal.Proof.algebraic,
  trivial, Cert.UpKernelIdeal.Proof.algebraic,
  trivial, Cert.DownKernelIdeal.Proof.algebraic,
  trivial, Cert.ConvInKernelIdeal.Proof.algebraic,
  trivial, Cert.VProjKernelIdeal.Proof.algebraic,
  trivial, Cert.GatesKernelIdeal.Proof.algebraic,
  trivial, Cert.MixedKernelIdeal.Proof.algebraic,
  trivial, Cert.MergedKernelIdeal.Proof.algebraic,
  trivial, Cert.ResidualKernelIdeal.Proof.algebraic,
  trivial, Cert.AdamInKernelIdeal.Proof.algebraic,
  trivial, Cert.AdamGateKernelIdeal.Proof.algebraic,
  trivial, Cert.AdamMlpKernelIdeal.Proof.algebraic,
  trivial, Cert.AdamSquareKernelIdeal.Proof.algebraic,
  trivial, Cert.AdamSmallKernelIdeal.Proof.algebraic,
  trivial, Cert.FirstNormKernelIdeal.Proof.algebraic,
  trivial, Cert.ShortConvKernelIdeal.Proof.algebraic,
  trivial, Cert.LossKernelIdeal.Proof.algebraic⟩

end Cert.Proof

end
